-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysRefIdeal (m : (ℓ : Loc Cert.KeysRefIdeal.nD Cert.KeysRefIdeal.τ Cert.KeysRefIdeal.sig) → Buf (Elt Ideal) ℓ) : Prop :=
  True

def Pre_Vals (m : (ℓ : Loc Cert.Vals.nD Cert.Vals.τ Cert.Vals.sig) → Buf (Elt Bits) ℓ) : Prop :=
  True

def Pre_ValsIdeal (m : (ℓ : Loc Cert.ValsIdeal.nD Cert.ValsIdeal.τ Cert.ValsIdeal.sig) → Buf (Elt Ideal) ℓ) : Prop :=
  True

def Pre_ValsRefIdeal (m : (ℓ : Loc Cert.ValsRefIdeal.nD Cert.ValsRefIdeal.τ Cert.ValsRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_FinalS (m : (ℓ : Loc Cert.FinalS.nD Cert.FinalS.τ Cert.FinalS.sig) → Buf (Elt Bits) ℓ) : Prop :=
  True

def Pre_FinalSIdeal (m : (ℓ : Loc Cert.FinalSIdeal.nD Cert.FinalSIdeal.τ Cert.FinalSIdeal.sig) → Buf (Elt Ideal) ℓ) : Prop :=
  True

def Pre_FinalSRefIdeal (m : (ℓ : Loc Cert.FinalSRefIdeal.nD Cert.FinalSRefIdeal.τ Cert.FinalSRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_gates_open [hPre_gates_open : Cert.Pre_gates_open.Facts] (m : (ℓ : Loc Cert.GlaIdeal.nD Cert.GlaIdeal.τ Cert.GlaIdeal.sig) → Buf (Elt Ideal) ℓ) : Prop :=
  ∀ c : Dev Cert.GlaIdeal.nD,
    (Cert.Pre_gates_open.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6)) (m ((c.tc : Thread Cert.GlaIdeal.nD Cert.GlaIdeal.τ).loc Cert.GlaIdeal.main_arg7)) (m ((c.tc : Thread Cert.GlaIdeal.nD Cert.GlaIdeal.τ).loc Cert.GlaIdeal.main_arg8))) = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_gates_open [hPre_gates_open : Cert.Pre_gates_open.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_gates_open.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4)) (m ((c.tc : Thread Cert.GlaRefIdeal.nD Cert.GlaRefIdeal.τ).loc Cert.GlaRefIdeal.main_arg5)) (m ((c.tc : Thread Cert.GlaRefIdeal.nD Cert.GlaRefIdeal.τ).loc Cert.GlaRefIdeal.main_arg6)) (m ((c.tc : Thread Cert.GlaRefIdeal.nD Cert.GlaRefIdeal.τ).loc Cert.GlaRefIdeal.main_arg7)) (m ((c.tc : Thread Cert.GlaRefIdeal.nD Cert.GlaRefIdeal.τ).loc Cert.GlaRefIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1)
      ∧ r.2.mem ((c.tc : Thread Cert.Keys.nD Cert.Keys.τ).loc Cert.Keys.main_arg2) = m ((c.tc : Thread Cert.Keys.nD Cert.Keys.τ).loc Cert.Keys.main_arg2))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ r.2.sem = fun _ => 0)

def quiescent_KeysRefIdeal [hKeysRefIdeal : Cert.KeysRefIdeal.Facts] : Prop :=
  ∀ (m : (ℓ : Loc Cert.KeysRefIdeal.nD Cert.KeysRefIdeal.τ Cert.KeysRefIdeal.sig) → Buf (Elt Ideal) ℓ) (g : Dev Cert.KeysRefIdeal.nD → PrngReg), Pre_KeysRefIdeal m →
    θ_run (Cert.KeysRefIdeal.defs (F := Ideal)) (onTc (τ := Cert.KeysRefIdeal.τ) (Cert.KeysRefIdeal.main (F := Ideal))) ⟨m, fun _ => 0, g⟩ (fun r => (∀ c : Dev Cert.KeysRefIdeal.nD,
      r.2.mem ((c.tc : Thread Cert.KeysRefIdeal.nD Cert.KeysRefIdeal.τ).loc Cert.KeysRefIdeal.main_arg0) = m ((c.tc : Thread Cert.KeysRefIdeal.nD Cert.KeysRefIdeal.τ).loc Cert.KeysRefIdeal.main_arg0)
      ∧ r.2.mem ((c.tc : Thread Cert.KeysRefIdeal.nD Cert.KeysRefIdeal.τ).loc Cert.KeysRefIdeal.main_arg1) = m ((c.tc : Thread Cert.KeysRefIdeal.nD Cert.KeysRefIdeal.τ).loc Cert.KeysRefIdeal.main_arg1)
      ∧ r.2.mem ((c.tc : Thread Cert.KeysRefIdeal.nD Cert.KeysRefIdeal.τ).loc Cert.KeysRefIdeal.main_arg2) = m ((c.tc : Thread Cert.KeysRefIdeal.nD Cert.KeysRefIdeal.τ).loc Cert.KeysRefIdeal.main_arg2))
      ∧ r.2.sem = fun _ => 0)

def quiescent_Vals [hVals : Cert.Vals.Facts] : Prop :=
  ∀ (m : (ℓ : Loc Cert.Vals.nD Cert.Vals.τ Cert.Vals.sig) → Buf (Elt Bits) ℓ) (g : Dev Cert.Vals.nD → PrngReg), Pre_Vals m →
    θ_run (Cert.Vals.defs (F := Bits)) (onTc (τ := Cert.Vals.τ) (Cert.Vals.main (F := Bits))) ⟨m, fun _ => 0, g⟩ (fun r => (∀ c : Dev Cert.Vals.nD,
      r.2.mem ((c.tc : Thread Cert.Vals.nD Cert.Vals.τ).loc Cert.Vals.main_arg0) = m ((c.tc : Thread Cert.Vals.nD Cert.Vals.τ).loc Cert.Vals.main_arg0)
      ∧ r.2.mem ((c.tc : Thread Cert.Vals.nD Cert.Vals.τ).loc Cert.Vals.main_arg1) = m ((c.tc : Thread Cert.Vals.nD Cert.Vals.τ).loc Cert.Vals.main_arg1)
      ∧ r.2.mem ((c.tc : Thread Cert.Vals.nD Cert.Vals.τ).loc Cert.Vals.main_arg2) = m ((c.tc : Thread Cert.Vals.nD Cert.Vals.τ).loc Cert.Vals.main_arg2))
      ∧ r.2.sem = fun _ => 0)

def quiescent_ValsIdeal [hValsIdeal : Cert.ValsIdeal.Facts] : Prop :=
  ∀ (m : (ℓ : Loc Cert.ValsIdeal.nD Cert.ValsIdeal.τ Cert.ValsIdeal.sig) → Buf (Elt Ideal) ℓ) (g : Dev Cert.ValsIdeal.nD → PrngReg), Pre_ValsIdeal m →
    θ_run (Cert.ValsIdeal.defs (F := Ideal)) (onTc (τ := Cert.ValsIdeal.τ) (Cert.ValsIdeal.main (F := Ideal))) ⟨m, fun _ => 0, g⟩ (fun r => (∀ c : Dev Cert.ValsIdeal.nD,
      r.2.mem ((c.tc : Thread Cert.ValsIdeal.nD Cert.ValsIdeal.τ).loc Cert.ValsIdeal.main_arg0) = m ((c.tc : Thread Cert.ValsIdeal.nD Cert.ValsIdeal.τ).loc Cert.ValsIdeal.main_arg0)
      ∧ r.2.mem ((c.tc : Thread Cert.ValsIdeal.nD Cert.ValsIdeal.τ).loc Cert.ValsIdeal.main_arg1) = m ((c.tc : Thread Cert.ValsIdeal.nD Cert.ValsIdeal.τ).loc Cert.ValsIdeal.main_arg1)
      ∧ r.2.mem ((c.tc : Thread Cert.ValsIdeal.nD Cert.ValsIdeal.τ).loc Cert.ValsIdeal.main_arg2) = m ((c.tc : Thread Cert.ValsIdeal.nD Cert.ValsIdeal.τ).loc Cert.ValsIdeal.main_arg2))
      ∧ r.2.sem = fun _ => 0)

def quiescent_ValsRefIdeal [hValsRefIdeal : Cert.ValsRefIdeal.Facts] : Prop :=
  ∀ (m : (ℓ : Loc Cert.ValsRefIdeal.nD Cert.ValsRefIdeal.τ Cert.ValsRefIdeal.sig) → Buf (Elt Ideal) ℓ) (g : Dev Cert.ValsRefIdeal.nD → PrngReg), Pre_ValsRefIdeal m →
    θ_run (Cert.ValsRefIdeal.defs (F := Ideal)) (onTc (τ := Cert.ValsRefIdeal.τ) (Cert.ValsRefIdeal.main (F := Ideal))) ⟨m, fun _ => 0, g⟩ (fun r => (∀ c : Dev Cert.ValsRefIdeal.nD,
      r.2.mem ((c.tc : Thread Cert.ValsRefIdeal.nD Cert.ValsRefIdeal.τ).loc Cert.ValsRefIdeal.main_arg0) = m ((c.tc : Thread Cert.ValsRefIdeal.nD Cert.ValsRefIdeal.τ).loc Cert.ValsRefIdeal.main_arg0)
      ∧ r.2.mem ((c.tc : Thread Cert.ValsRefIdeal.nD Cert.ValsRefIdeal.τ).loc Cert.ValsRefIdeal.main_arg1) = m ((c.tc : Thread Cert.ValsRefIdeal.nD Cert.ValsRefIdeal.τ).loc Cert.ValsRefIdeal.main_arg1)
      ∧ r.2.mem ((c.tc : Thread Cert.ValsRefIdeal.nD Cert.ValsRefIdeal.τ).loc Cert.ValsRefIdeal.main_arg2) = m ((c.tc : Thread Cert.ValsRefIdeal.nD Cert.ValsRefIdeal.τ).loc Cert.ValsRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_FinalS [hFinalS : Cert.FinalS.Facts] : Prop :=
  ∀ (m : (ℓ : Loc Cert.FinalS.nD Cert.FinalS.τ Cert.FinalS.sig) → Buf (Elt Bits) ℓ) (g : Dev Cert.FinalS.nD → PrngReg), Pre_FinalS m →
    θ_run (Cert.FinalS.defs (F := Bits)) (onTc (τ := Cert.FinalS.τ) (Cert.FinalS.main (F := Bits))) ⟨m, fun _ => 0, g⟩ (fun r => (∀ c : Dev Cert.FinalS.nD,
      r.2.mem ((c.tc : Thread Cert.FinalS.nD Cert.FinalS.τ).loc Cert.FinalS.main_arg0) = m ((c.tc : Thread Cert.FinalS.nD Cert.FinalS.τ).loc Cert.FinalS.main_arg0)
      ∧ r.2.mem ((c.tc : Thread Cert.FinalS.nD Cert.FinalS.τ).loc Cert.FinalS.main_arg1) = m ((c.tc : Thread Cert.FinalS.nD Cert.FinalS.τ).loc Cert.FinalS.main_arg1)
      ∧ r.2.mem ((c.tc : Thread Cert.FinalS.nD Cert.FinalS.τ).loc Cert.FinalS.main_arg2) = m ((c.tc : Thread Cert.FinalS.nD Cert.FinalS.τ).loc Cert.FinalS.main_arg2))
      ∧ r.2.sem = fun _ => 0)

def quiescent_FinalSIdeal [hFinalSIdeal : Cert.FinalSIdeal.Facts] : Prop :=
  ∀ (m : (ℓ : Loc Cert.FinalSIdeal.nD Cert.FinalSIdeal.τ Cert.FinalSIdeal.sig) → Buf (Elt Ideal) ℓ) (g : Dev Cert.FinalSIdeal.nD → PrngReg), Pre_FinalSIdeal m →
    θ_run (Cert.FinalSIdeal.defs (F := Ideal)) (onTc (τ := Cert.FinalSIdeal.τ) (Cert.FinalSIdeal.main (F := Ideal))) ⟨m, fun _ => 0, g⟩ (fun r => (∀ c : Dev Cert.FinalSIdeal.nD,
      r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
      ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1)
      ∧ r.2.mem ((c.tc : Thread Cert.FinalSIdeal.nD Cert.FinalSIdeal.τ).loc Cert.FinalSIdeal.main_arg2) = m ((c.tc : Thread Cert.FinalSIdeal.nD Cert.FinalSIdeal.τ).loc Cert.FinalSIdeal.main_arg2))
      ∧ r.2.sem = fun _ => 0)

def quiescent_FinalSRefIdeal [hFinalSRefIdeal : Cert.FinalSRefIdeal.Facts] : Prop :=
  ∀ (m : (ℓ : Loc Cert.FinalSRefIdeal.nD Cert.FinalSRefIdeal.τ Cert.FinalSRefIdeal.sig) → Buf (Elt Ideal) ℓ) (g : Dev Cert.FinalSRefIdeal.nD → PrngReg), Pre_FinalSRefIdeal m →
    θ_run (Cert.FinalSRefIdeal.defs (F := Ideal)) (onTc (τ := Cert.FinalSRefIdeal.τ) (Cert.FinalSRefIdeal.main (F := Ideal))) ⟨m, fun _ => 0, g⟩ (fun r => (∀ c : Dev Cert.FinalSRefIdeal.nD,
      r.2.mem ((c.tc : Thread Cert.FinalSRefIdeal.nD Cert.FinalSRefIdeal.τ).loc Cert.FinalSRefIdeal.main_arg0) = m ((c.tc : Thread Cert.FinalSRefIdeal.nD Cert.FinalSRefIdeal.τ).loc Cert.FinalSRefIdeal.main_arg0)
      ∧ r.2.mem ((c.tc : Thread Cert.FinalSRefIdeal.nD Cert.FinalSRefIdeal.τ).loc Cert.FinalSRefIdeal.main_arg1) = m ((c.tc : Thread Cert.FinalSRefIdeal.nD Cert.FinalSRefIdeal.τ).loc Cert.FinalSRefIdeal.main_arg1)
      ∧ r.2.mem ((c.tc : Thread Cert.FinalSRefIdeal.nD Cert.FinalSRefIdeal.τ).loc Cert.FinalSRefIdeal.main_arg2) = m ((c.tc : Thread Cert.FinalSRefIdeal.nD Cert.FinalSRefIdeal.τ).loc Cert.FinalSRefIdeal.main_arg2))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6)
      ∧ r.2.mem ((c.tc : Thread Cert.Gla.nD Cert.Gla.τ).loc Cert.Gla.main_arg7) = m ((c.tc : Thread Cert.Gla.nD Cert.Gla.τ).loc Cert.Gla.main_arg7)
      ∧ r.2.mem ((c.tc : Thread Cert.Gla.nD Cert.Gla.τ).loc Cert.Gla.main_arg8) = m ((c.tc : Thread Cert.Gla.nD Cert.Gla.τ).loc Cert.Gla.main_arg8))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
      ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8))
      ∧ r.2.sem = fun _ => 0)

def quiescent_GlaIdeal_pre_gates_open [hGlaIdeal : Cert.GlaIdeal.Facts] [hPre_gates_open : Cert.Pre_gates_open.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_gates_open m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
      ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6)
      ∧ r.2.mem ((c.tc : Thread Cert.GlaRefIdeal.nD Cert.GlaRefIdeal.τ).loc Cert.GlaRefIdeal.main_arg7) = m ((c.tc : Thread Cert.GlaRefIdeal.nD Cert.GlaRefIdeal.τ).loc Cert.GlaRefIdeal.main_arg7)
      ∧ r.2.mem ((c.tc : Thread Cert.GlaRefIdeal.nD Cert.GlaRefIdeal.τ).loc Cert.GlaRefIdeal.main_arg8) = m ((c.tc : Thread Cert.GlaRefIdeal.nD Cert.GlaRefIdeal.τ).loc Cert.GlaRefIdeal.main_arg8))
      ∧ r.2.sem = fun _ => 0)

def quiescent_GlaRefIdeal_pre_gates_open [hGlaRefIdeal : Cert.GlaRefIdeal.Facts] [hPre_gates_open : Cert.Pre_gates_open.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_gates_open m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6)
      ∧ r.2.mem ((c.tc : Thread Cert.GlaRefIdeal.nD Cert.GlaRefIdeal.τ).loc Cert.GlaRefIdeal.main_arg7) = m ((c.tc : Thread Cert.GlaRefIdeal.nD Cert.GlaRefIdeal.τ).loc Cert.GlaRefIdeal.main_arg7)
      ∧ r.2.mem ((c.tc : Thread Cert.GlaRefIdeal.nD Cert.GlaRefIdeal.τ).loc Cert.GlaRefIdeal.main_arg8) = m ((c.tc : Thread Cert.GlaRefIdeal.nD Cert.GlaRefIdeal.τ).loc Cert.GlaRefIdeal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E0293EE#32 (((11863283 / 134217728) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v29) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v8) = v0 c
          ∧ r.2.mem ((c.tc : Thread Cert.GateRefIdeal.nD Cert.GateRefIdeal.τ).loc Cert.GateRefIdeal.main_v17) = v1 c
          ∧ r.2.mem ((c.tc : Thread Cert.GateRefIdeal.nD Cert.GateRefIdeal.τ).loc Cert.GateRefIdeal.main_v20) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Keys_KeysIdeal : Prop :=
  True

def algebraic_KeysIdeal_KeysRefIdeal [hKeysIdeal : Cert.KeysIdeal.Facts] [hKeysRefIdeal : Cert.KeysRefIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysRefIdeal.nD Cert.KeysRefIdeal.τ Cert.KeysRefIdeal.sig) → Buf (Elt Ideal) ℓ) (g' : Dev Cert.KeysRefIdeal.nD → PrngReg), Pre_KeysIdeal m →
    (∀ c : Dev Cert.KeysIdeal.nD,
      m' ((c.tc : Thread Cert.KeysRefIdeal.nD Cert.KeysRefIdeal.τ).loc Cert.KeysRefIdeal.main_arg0) = m ((c.tc : Thread Cert.KeysIdeal.nD Cert.KeysIdeal.τ).loc Cert.KeysIdeal.main_arg0)
      ∧ m' ((c.tc : Thread Cert.KeysRefIdeal.nD Cert.KeysRefIdeal.τ).loc Cert.KeysRefIdeal.main_arg1) = m ((c.tc : Thread Cert.KeysIdeal.nD Cert.KeysIdeal.τ).loc Cert.KeysIdeal.main_arg1)
      ∧ m' ((c.tc : Thread Cert.KeysRefIdeal.nD Cert.KeysRefIdeal.τ).loc Cert.KeysRefIdeal.main_arg2) = m ((c.tc : Thread Cert.KeysIdeal.nD Cert.KeysIdeal.τ).loc Cert.KeysIdeal.main_arg2)) →
    ∃ (v0 : (c : Dev Cert.KeysIdeal.nD) → Buf (Elt Ideal) ((c.tc : Thread Cert.KeysIdeal.nD Cert.KeysIdeal.τ).loc Cert.KeysIdeal.main_v5_0)) (v1 : (c : Dev Cert.KeysIdeal.nD) → Buf (Elt Ideal) ((c.tc : Thread Cert.KeysIdeal.nD Cert.KeysIdeal.τ).loc Cert.KeysIdeal.main_v5_1)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v5_0) = v0 c
          ∧ r.2.mem ((c.tc : Thread Cert.KeysIdeal.nD Cert.KeysIdeal.τ).loc Cert.KeysIdeal.main_v5_1) = v1 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ θ_run (Cert.KeysRefIdeal.defs (F := Ideal)) (onTc (τ := Cert.KeysRefIdeal.τ) (Cert.KeysRefIdeal.main (F := Ideal))) ⟨m', fun _ => 0, g'⟩ (fun r => ∀ c : Dev Cert.KeysRefIdeal.nD,
          r.2.mem ((c.tc : Thread Cert.KeysRefIdeal.nD Cert.KeysRefIdeal.τ).loc Cert.KeysRefIdeal.main_v4) = v0 c
          ∧ r.2.mem ((c.tc : Thread Cert.KeysRefIdeal.nD Cert.KeysRefIdeal.τ).loc Cert.KeysRefIdeal.main_v5) = v1 c
          ∧ r.2.mem ((c.tc : Thread Cert.KeysRefIdeal.nD Cert.KeysRefIdeal.τ).loc Cert.KeysRefIdeal.main_arg0) = m' ((c.tc : Thread Cert.KeysRefIdeal.nD Cert.KeysRefIdeal.τ).loc Cert.KeysRefIdeal.main_arg0)
          ∧ r.2.mem ((c.tc : Thread Cert.KeysRefIdeal.nD Cert.KeysRefIdeal.τ).loc Cert.KeysRefIdeal.main_arg1) = m' ((c.tc : Thread Cert.KeysRefIdeal.nD Cert.KeysRefIdeal.τ).loc Cert.KeysRefIdeal.main_arg1)
          ∧ r.2.mem ((c.tc : Thread Cert.KeysRefIdeal.nD Cert.KeysRefIdeal.τ).loc Cert.KeysRefIdeal.main_arg2) = m' ((c.tc : Thread Cert.KeysRefIdeal.nD Cert.KeysRefIdeal.τ).loc Cert.KeysRefIdeal.main_arg2))

def preserves_Vals_ValsIdeal : Prop :=
  True

def algebraic_ValsIdeal_ValsRefIdeal [hValsIdeal : Cert.ValsIdeal.Facts] [hValsRefIdeal : Cert.ValsRefIdeal.Facts] : Prop :=
  ∀ (m : (ℓ : Loc Cert.ValsIdeal.nD Cert.ValsIdeal.τ Cert.ValsIdeal.sig) → Buf (Elt Ideal) ℓ) (g : Dev Cert.ValsIdeal.nD → PrngReg)
    (m' : (ℓ : Loc Cert.ValsRefIdeal.nD Cert.ValsRefIdeal.τ Cert.ValsRefIdeal.sig) → Buf (Elt Ideal) ℓ) (g' : Dev Cert.ValsRefIdeal.nD → PrngReg), Pre_ValsIdeal m →
    (∀ c : Dev Cert.ValsIdeal.nD,
      m' ((c.tc : Thread Cert.ValsRefIdeal.nD Cert.ValsRefIdeal.τ).loc Cert.ValsRefIdeal.main_arg0) = m ((c.tc : Thread Cert.ValsIdeal.nD Cert.ValsIdeal.τ).loc Cert.ValsIdeal.main_arg0)
      ∧ m' ((c.tc : Thread Cert.ValsRefIdeal.nD Cert.ValsRefIdeal.τ).loc Cert.ValsRefIdeal.main_arg1) = m ((c.tc : Thread Cert.ValsIdeal.nD Cert.ValsIdeal.τ).loc Cert.ValsIdeal.main_arg1)
      ∧ m' ((c.tc : Thread Cert.ValsRefIdeal.nD Cert.ValsRefIdeal.τ).loc Cert.ValsRefIdeal.main_arg2) = m ((c.tc : Thread Cert.ValsIdeal.nD Cert.ValsIdeal.τ).loc Cert.ValsIdeal.main_arg2)) →
    ∃ (v0 : (c : Dev Cert.ValsIdeal.nD) → Buf (Elt Ideal) ((c.tc : Thread Cert.ValsIdeal.nD Cert.ValsIdeal.τ).loc Cert.ValsIdeal.main_v5_0)) (v1 : (c : Dev Cert.ValsIdeal.nD) → Buf (Elt Ideal) ((c.tc : Thread Cert.ValsIdeal.nD Cert.ValsIdeal.τ).loc Cert.ValsIdeal.main_v5_1)),
      θ_run (Cert.ValsIdeal.defs (F := Ideal)) (onTc (τ := Cert.ValsIdeal.τ) (Cert.ValsIdeal.main (F := Ideal))) ⟨m, fun _ => 0, g⟩ (fun r => ∀ c : Dev Cert.ValsIdeal.nD,
          r.2.mem ((c.tc : Thread Cert.ValsIdeal.nD Cert.ValsIdeal.τ).loc Cert.ValsIdeal.main_v5_0) = v0 c
          ∧ r.2.mem ((c.tc : Thread Cert.ValsIdeal.nD Cert.ValsIdeal.τ).loc Cert.ValsIdeal.main_v5_1) = v1 c
          ∧ r.2.mem ((c.tc : Thread Cert.ValsIdeal.nD Cert.ValsIdeal.τ).loc Cert.ValsIdeal.main_arg0) = m ((c.tc : Thread Cert.ValsIdeal.nD Cert.ValsIdeal.τ).loc Cert.ValsIdeal.main_arg0)
          ∧ r.2.mem ((c.tc : Thread Cert.ValsIdeal.nD Cert.ValsIdeal.τ).loc Cert.ValsIdeal.main_arg1) = m ((c.tc : Thread Cert.ValsIdeal.nD Cert.ValsIdeal.τ).loc Cert.ValsIdeal.main_arg1)
          ∧ r.2.mem ((c.tc : Thread Cert.ValsIdeal.nD Cert.ValsIdeal.τ).loc Cert.ValsIdeal.main_arg2) = m ((c.tc : Thread Cert.ValsIdeal.nD Cert.ValsIdeal.τ).loc Cert.ValsIdeal.main_arg2))
      ∧ θ_run (Cert.ValsRefIdeal.defs (F := Ideal)) (onTc (τ := Cert.ValsRefIdeal.τ) (Cert.ValsRefIdeal.main (F := Ideal))) ⟨m', fun _ => 0, g'⟩ (fun r => ∀ c : Dev Cert.ValsRefIdeal.nD,
          r.2.mem ((c.tc : Thread Cert.ValsRefIdeal.nD Cert.ValsRefIdeal.τ).loc Cert.ValsRefIdeal.main_v4) = v0 c
          ∧ r.2.mem ((c.tc : Thread Cert.ValsRefIdeal.nD Cert.ValsRefIdeal.τ).loc Cert.ValsRefIdeal.main_v5) = v1 c
          ∧ r.2.mem ((c.tc : Thread Cert.ValsRefIdeal.nD Cert.ValsRefIdeal.τ).loc Cert.ValsRefIdeal.main_arg0) = m' ((c.tc : Thread Cert.ValsRefIdeal.nD Cert.ValsRefIdeal.τ).loc Cert.ValsRefIdeal.main_arg0)
          ∧ r.2.mem ((c.tc : Thread Cert.ValsRefIdeal.nD Cert.ValsRefIdeal.τ).loc Cert.ValsRefIdeal.main_arg1) = m' ((c.tc : Thread Cert.ValsRefIdeal.nD Cert.ValsRefIdeal.τ).loc Cert.ValsRefIdeal.main_arg1)
          ∧ r.2.mem ((c.tc : Thread Cert.ValsRefIdeal.nD Cert.ValsRefIdeal.τ).loc Cert.ValsRefIdeal.main_arg2) = m' ((c.tc : Thread Cert.ValsRefIdeal.nD Cert.ValsRefIdeal.τ).loc Cert.ValsRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v7)) (v1 : (c : Dev Cert.ConvIdeal.nD) → Buf (Elt Ideal) ((c.tc : Thread Cert.ConvIdeal.nD Cert.ConvIdeal.τ).loc Cert.ConvIdeal.main_v10)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v7) = v0 c
          ∧ r.2.mem ((c.tc : Thread Cert.ConvIdeal.nD Cert.ConvIdeal.τ).loc Cert.ConvIdeal.main_v10) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v4) = v0 c
          ∧ r.2.mem ((c.tc : Thread Cert.ConvRefIdeal.nD Cert.ConvRefIdeal.τ).loc Cert.ConvRefIdeal.main_v8) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v23) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def preserves_FinalS_FinalSIdeal : Prop :=
  True

def algebraic_FinalSIdeal_FinalSRefIdeal [hFinalSIdeal : Cert.FinalSIdeal.Facts] [hFinalSRefIdeal : Cert.FinalSRefIdeal.Facts] : Prop :=
  ∀ (m : (ℓ : Loc Cert.FinalSIdeal.nD Cert.FinalSIdeal.τ Cert.FinalSIdeal.sig) → Buf (Elt Ideal) ℓ) (g : Dev Cert.FinalSIdeal.nD → PrngReg)
    (m' : (ℓ : Loc Cert.FinalSRefIdeal.nD Cert.FinalSRefIdeal.τ Cert.FinalSRefIdeal.sig) → Buf (Elt Ideal) ℓ) (g' : Dev Cert.FinalSRefIdeal.nD → PrngReg), Pre_FinalSIdeal m →
    (∀ c : Dev Cert.FinalSIdeal.nD,
      m' ((c.tc : Thread Cert.FinalSRefIdeal.nD Cert.FinalSRefIdeal.τ).loc Cert.FinalSRefIdeal.main_arg0) = m ((c.tc : Thread Cert.FinalSIdeal.nD Cert.FinalSIdeal.τ).loc Cert.FinalSIdeal.main_arg0)
      ∧ m' ((c.tc : Thread Cert.FinalSRefIdeal.nD Cert.FinalSRefIdeal.τ).loc Cert.FinalSRefIdeal.main_arg1) = m ((c.tc : Thread Cert.FinalSIdeal.nD Cert.FinalSIdeal.τ).loc Cert.FinalSIdeal.main_arg1)
      ∧ m' ((c.tc : Thread Cert.FinalSRefIdeal.nD Cert.FinalSRefIdeal.τ).loc Cert.FinalSRefIdeal.main_arg2) = m ((c.tc : Thread Cert.FinalSIdeal.nD Cert.FinalSIdeal.τ).loc Cert.FinalSIdeal.main_arg2)) →
    ∃ (v0 : (c : Dev Cert.FinalSIdeal.nD) → Buf (Elt Ideal) ((c.tc : Thread Cert.FinalSIdeal.nD Cert.FinalSIdeal.τ).loc Cert.FinalSIdeal.main_v2)),
      θ_run (Cert.FinalSIdeal.defs (F := Ideal)) (onTc (τ := Cert.FinalSIdeal.τ) (Cert.FinalSIdeal.main (F := Ideal))) ⟨m, fun _ => 0, g⟩ (fun r => ∀ c : Dev Cert.FinalSIdeal.nD,
          r.2.mem ((c.tc : Thread Cert.FinalSIdeal.nD Cert.FinalSIdeal.τ).loc Cert.FinalSIdeal.main_v2) = v0 c
          ∧ r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
          ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1)
          ∧ r.2.mem ((c.tc : Thread Cert.FinalSIdeal.nD Cert.FinalSIdeal.τ).loc Cert.FinalSIdeal.main_arg2) = m ((c.tc : Thread Cert.FinalSIdeal.nD Cert.FinalSIdeal.τ).loc Cert.FinalSIdeal.main_arg2))
      ∧ θ_run (Cert.FinalSRefIdeal.defs (F := Ideal)) (onTc (τ := Cert.FinalSRefIdeal.τ) (Cert.FinalSRefIdeal.main (F := Ideal))) ⟨m', fun _ => 0, g'⟩ (fun r => ∀ c : Dev Cert.FinalSRefIdeal.nD,
          r.2.mem ((c.tc : Thread Cert.FinalSRefIdeal.nD Cert.FinalSRefIdeal.τ).loc Cert.FinalSRefIdeal.main_v23) = v0 c
          ∧ r.2.mem ((c.tc : Thread Cert.FinalSRefIdeal.nD Cert.FinalSRefIdeal.τ).loc Cert.FinalSRefIdeal.main_arg0) = m' ((c.tc : Thread Cert.FinalSRefIdeal.nD Cert.FinalSRefIdeal.τ).loc Cert.FinalSRefIdeal.main_arg0)
          ∧ r.2.mem ((c.tc : Thread Cert.FinalSRefIdeal.nD Cert.FinalSRefIdeal.τ).loc Cert.FinalSRefIdeal.main_arg1) = m' ((c.tc : Thread Cert.FinalSRefIdeal.nD Cert.FinalSRefIdeal.τ).loc Cert.FinalSRefIdeal.main_arg1)
          ∧ r.2.mem ((c.tc : Thread Cert.FinalSRefIdeal.nD Cert.FinalSRefIdeal.τ).loc Cert.FinalSRefIdeal.main_arg2) = m' ((c.tc : Thread Cert.FinalSRefIdeal.nD Cert.FinalSRefIdeal.τ).loc Cert.FinalSRefIdeal.main_arg2))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v3)) (v1 : (c : Dev Cert.PoolIdeal.nD) → Buf (Elt Ideal) ((c.tc : Thread Cert.PoolIdeal.nD Cert.PoolIdeal.τ).loc Cert.PoolIdeal.main_v6)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v3) = v0 c
          ∧ r.2.mem ((c.tc : Thread Cert.PoolIdeal.nD Cert.PoolIdeal.τ).loc Cert.PoolIdeal.main_v6) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v6) = v0 c
          ∧ r.2.mem ((c.tc : Thread Cert.PoolRefIdeal.nD Cert.PoolRefIdeal.τ).loc Cert.PoolRefIdeal.main_v12) = v1 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_Gla_GlaIdeal : Prop :=
  True

def algebraic_GlaIdeal_GlaRefIdeal_pre_gates_open [hGlaIdeal : Cert.GlaIdeal.Facts] [hGlaRefIdeal : Cert.GlaRefIdeal.Facts] [hPre_gates_open : Cert.Pre_gates_open.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_gates_open m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)
      ∧ m' ((c.tc : Thread Cert.GlaRefIdeal.nD Cert.GlaRefIdeal.τ).loc Cert.GlaRefIdeal.main_arg6) = m ((c.tc : Thread Cert.GlaIdeal.nD Cert.GlaIdeal.τ).loc Cert.GlaIdeal.main_arg6)
      ∧ m' ((c.tc : Thread Cert.GlaRefIdeal.nD Cert.GlaRefIdeal.τ).loc Cert.GlaRefIdeal.main_arg7) = m ((c.tc : Thread Cert.GlaIdeal.nD Cert.GlaIdeal.τ).loc Cert.GlaIdeal.main_arg7)
      ∧ m' ((c.tc : Thread Cert.GlaRefIdeal.nD Cert.GlaRefIdeal.τ).loc Cert.GlaRefIdeal.main_arg8) = m ((c.tc : Thread Cert.GlaIdeal.nD Cert.GlaIdeal.τ).loc Cert.GlaIdeal.main_arg8)) →
    ∃ (v0 : (c : Dev Cert.GlaIdeal.nD) → Buf (Elt Ideal) ((c.tc : Thread Cert.GlaIdeal.nD Cert.GlaIdeal.τ).loc Cert.GlaIdeal.main_v20_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v20_1) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
          ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
          ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v25) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)
          ∧ r.2.mem ((c.tc : Thread Cert.GlaRefIdeal.nD Cert.GlaRefIdeal.τ).loc Cert.GlaRefIdeal.main_arg5) = m' ((c.tc : Thread Cert.GlaRefIdeal.nD Cert.GlaRefIdeal.τ).loc Cert.GlaRefIdeal.main_arg5)
          ∧ r.2.mem ((c.tc : Thread Cert.GlaRefIdeal.nD Cert.GlaRefIdeal.τ).loc Cert.GlaRefIdeal.main_arg6) = m' ((c.tc : Thread Cert.GlaRefIdeal.nD Cert.GlaRefIdeal.τ).loc Cert.GlaRefIdeal.main_arg6)
          ∧ r.2.mem ((c.tc : Thread Cert.GlaRefIdeal.nD Cert.GlaRefIdeal.τ).loc Cert.GlaRefIdeal.main_arg7) = m' ((c.tc : Thread Cert.GlaRefIdeal.nD Cert.GlaRefIdeal.τ).loc Cert.GlaRefIdeal.main_arg7)
          ∧ r.2.mem ((c.tc : Thread Cert.GlaRefIdeal.nD Cert.GlaRefIdeal.τ).loc Cert.GlaRefIdeal.main_arg8) = m' ((c.tc : Thread Cert.GlaRefIdeal.nD Cert.GlaRefIdeal.τ).loc Cert.GlaRefIdeal.main_arg8))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownRefIdeal : Cert.DownRefIdeal.Facts) (hGate : Cert.Gate.Facts) (hGateIdeal : Cert.GateIdeal.Facts) (hGateRefIdeal : Cert.GateRefIdeal.Facts) (hKeys : Cert.Keys.Facts) (hKeysIdeal : Cert.KeysIdeal.Facts) (hKeysRefIdeal : Cert.KeysRefIdeal.Facts) (hVals : Cert.Vals.Facts) (hValsIdeal : Cert.ValsIdeal.Facts) (hValsRefIdeal : Cert.ValsRefIdeal.Facts) (hConv : Cert.Conv.Facts) (hConvIdeal : Cert.ConvIdeal.Facts) (hConvRefIdeal : Cert.ConvRefIdeal.Facts) (hFinal : Cert.Final.Facts) (hFinalIdeal : Cert.FinalIdeal.Facts) (hFinalRefIdeal : Cert.FinalRefIdeal.Facts) (hFinalS : Cert.FinalS.Facts) (hFinalSIdeal : Cert.FinalSIdeal.Facts) (hFinalSRefIdeal : Cert.FinalSRefIdeal.Facts) (hPool : Cert.Pool.Facts) (hPoolIdeal : Cert.PoolIdeal.Facts) (hPoolRefIdeal : Cert.PoolRefIdeal.Facts) (hGla : Cert.Gla.Facts) (hGlaIdeal : Cert.GlaIdeal.Facts) (hGlaRefIdeal : Cert.GlaRefIdeal.Facts) (hPre_gates_open : Cert.Pre_gates_open.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown)
    ∧ quiescent_DownIdeal (hDownIdeal := hDownIdeal)
    ∧ quiescent_DownRefIdeal (hDownRefIdeal := hDownRefIdeal)
    ∧ quiescent_Gate (hGate := hGate)
    ∧ quiescent_GateIdeal (hGateIdeal := hGateIdeal)
    ∧ quiescent_GateRefIdeal (hGateRefIdeal := hGateRefIdeal)
    ∧ quiescent_Keys (hKeys := hKeys)
    ∧ quiescent_KeysIdeal (hKeysIdeal := hKeysIdeal)
    ∧ quiescent_KeysRefIdeal (hKeysRefIdeal := hKeysRefIdeal)
    ∧ quiescent_Vals (hVals := hVals)
    ∧ quiescent_ValsIdeal (hValsIdeal := hValsIdeal)
    ∧ quiescent_ValsRefIdeal (hValsRefIdeal := hValsRefIdeal)
    ∧ quiescent_Conv (hConv := hConv)
    ∧ quiescent_ConvIdeal (hConvIdeal := hConvIdeal)
    ∧ quiescent_ConvRefIdeal (hConvRefIdeal := hConvRefIdeal)
    ∧ quiescent_Final (hFinal := hFinal)
    ∧ quiescent_FinalIdeal (hFinalIdeal := hFinalIdeal)
    ∧ quiescent_FinalRefIdeal (hFinalRefIdeal := hFinalRefIdeal)
    ∧ quiescent_FinalS (hFinalS := hFinalS)
    ∧ quiescent_FinalSIdeal (hFinalSIdeal := hFinalSIdeal)
    ∧ quiescent_FinalSRefIdeal (hFinalSRefIdeal := hFinalSRefIdeal)
    ∧ quiescent_Pool (hPool := hPool)
    ∧ quiescent_PoolIdeal (hPoolIdeal := hPoolIdeal)
    ∧ quiescent_PoolRefIdeal (hPoolRefIdeal := hPoolRefIdeal)
    ∧ quiescent_Gla (hGla := hGla)
    ∧ quiescent_GlaIdeal (hGlaIdeal := hGlaIdeal)
    ∧ quiescent_GlaIdeal_pre_gates_open (hGlaIdeal := hGlaIdeal) (hPre_gates_open := hPre_gates_open)
    ∧ quiescent_GlaRefIdeal (hGlaRefIdeal := hGlaRefIdeal)
    ∧ quiescent_GlaRefIdeal_pre_gates_open (hGlaRefIdeal := hGlaRefIdeal) (hPre_gates_open := hPre_gates_open)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownRefIdeal (hDownIdeal := hDownIdeal) (hDownRefIdeal := hDownRefIdeal)
    ∧ preserves_Gate_GateIdeal
    ∧ algebraic_GateIdeal_GateRefIdeal (hGateIdeal := hGateIdeal) (hGateRefIdeal := hGateRefIdeal)
    ∧ preserves_Keys_KeysIdeal
    ∧ algebraic_KeysIdeal_KeysRefIdeal (hKeysIdeal := hKeysIdeal) (hKeysRefIdeal := hKeysRefIdeal)
    ∧ preserves_Vals_ValsIdeal
    ∧ algebraic_ValsIdeal_ValsRefIdeal (hValsIdeal := hValsIdeal) (hValsRefIdeal := hValsRefIdeal)
    ∧ preserves_Conv_ConvIdeal
    ∧ algebraic_ConvIdeal_ConvRefIdeal (hConvIdeal := hConvIdeal) (hConvRefIdeal := hConvRefIdeal)
    ∧ preserves_Final_FinalIdeal
    ∧ algebraic_FinalIdeal_FinalRefIdeal (hFinalIdeal := hFinalIdeal) (hFinalRefIdeal := hFinalRefIdeal)
    ∧ preserves_FinalS_FinalSIdeal
    ∧ algebraic_FinalSIdeal_FinalSRefIdeal (hFinalSIdeal := hFinalSIdeal) (hFinalSRefIdeal := hFinalSRefIdeal)
    ∧ preserves_Pool_PoolIdeal
    ∧ algebraic_PoolIdeal_PoolRefIdeal (hPoolIdeal := hPoolIdeal) (hPoolRefIdeal := hPoolRefIdeal)
    ∧ preserves_Gla_GlaIdeal
    ∧ algebraic_GlaIdeal_GlaRefIdeal_pre_gates_open (hGlaIdeal := hGlaIdeal) (hGlaRefIdeal := hGlaRefIdeal) (hPre_gates_open := hPre_gates_open)
-- ==== Pre_gates_open.lean ====
abbrev S32x1024 : Shape := ⟨2, ![32, 1024]⟩
abbrev S32x2048 : Shape := ⟨2, ![32, 2048]⟩
abbrev S32x128 : Shape := ⟨2, ![32, 128]⟩
abbrev S16x1024 : Shape := ⟨2, ![16, 1024]⟩
abbrev S1024 : Shape := ⟨1, ![1024]⟩
abbrev S2048 : Shape := ⟨1, ![2048]⟩
abbrev S8x8x128x256 : Shape := ⟨4, ![8, 8, 128, 256]⟩
abbrev S32x16 : Shape := ⟨2, ![32, 16]⟩
abbrev S8x4x16 : Shape := ⟨3, ![8, 4, 16]⟩
abbrev S8x4x1024 : Shape := ⟨3, ![8, 4, 1024]⟩
abbrev S1x1x1024 : Shape := ⟨3, ![1, 1, 1024]⟩
abbrev S_ : Shape := ⟨0, ![]⟩

class Facts : Prop where
  slices_S32x128_S32x16_0_0 : S32x128.Slices ![0, 0] S32x16
  shapeCasts_S32x16_S8x4x16 : S32x16.ShapeCasts S8x4x16
  bcast_S1024_S1x1x1024_2 : S1024.BroadcastsInDim S1x1x1024 (![2] : Fin 1 → Fin S1x1x1024.rank)
  bcast_S1x1x1024_S8x4x1024_0_1_2 : S1x1x1024.BroadcastsInDim S8x4x1024 (![0, 1, 2] : Fin 3 → Fin S8x4x1024.rank)
  bcast_S_S8x4x1024 : S_.BroadcastsInDim S8x4x1024 (![] : Fin 0 → Fin S8x4x1024.rank)
  dot_S8x4x16_S16x1024_S8x4x1024_2_0_01_1_n_n_wf : DotDims.WF S8x4x16 S16x1024 S8x4x1024 [2] [0] [0, 1] [1] [] []

variable [Facts]

def dot_S8x4x16_S16x1024_S8x4x1024_2_0_01_1_n_n : DotDims S8x4x16 S16x1024 S8x4x1024 where
  lhsContracting := [2]
  rhsContracting := [0]
  lhsNonContracting := [0, 1]
  rhsNonContracting := [1]
  lhsBatch := []
  rhsBatch := []
  wf := dot_S8x4x16_S16x1024_S8x4x1024_2_0_01_1_n_n_wf
def fn {F : FTy → Type} [FloatOps F] (main_arg0 : FVec F S32x1024 .f32) (main_arg1 : FVec F S32x1024 .f32) (main_arg2 : FVec F S32x2048 .f32) (main_arg3 : FVec F S32x2048 .f32) (main_arg4 : FVec F S32x128 .f32) (main_arg5 : FVec F S16x1024 .f32) (main_arg6 : FVec F S1024 .f32) (main_arg7 : FVec F S2048 .f32) (main_arg8 : FVec F S8x8x128x256 .f32) : IVec S8x4x1024 1 :=
  let main_v0 : FVec F S32x16 .f32 := (extractStridedSlice S32x16 ![0, 0] · slices_S32x128_S32x16_0_0) main_arg4
  let main_v1 : FVec F S8x4x16 .f32 := shapeCast S8x4x16 main_v0 shapeCasts_S32x16_S8x4x16
  let main_v2 : FVec F S8x4x1024 .f32 := (fun l r => Host.dotGeneral dot_S8x4x16_S16x1024_S8x4x1024_2_0_01_1_n_n none l r) main_v1 main_arg5
  let main_v3 : FVec F S1x1x1024 .f32 := broadcastInDim S1x1x1024 ![2] bcast_S1024_S1x1x1024_2 main_arg6
  let main_v4 : FVec F S8x4x1024 .f32 := broadcastInDim S8x4x1024 ![0, 1, 2] bcast_S1x1x1024_S8x4x1024_0_1_2 main_v3
  let main_v5 : FVec F S8x4x1024 .f32 := addf main_v2 main_v4
  let main_cst : FVec F S_ .f32 := constant S_ .f32 0xFF800000#32
  let main_v6 : FVec F S8x4x1024 .f32 := broadcastInDim S8x4x1024 ![] bcast_S_S8x4x1024 main_cst
  let main_v7 : IVec S8x4x1024 1 := cmpf .ogt main_v5 main_v6
  main_v7
-- ==== Kernel.lean ====
abbrev S8192x2048 : Shape := ⟨2, ![8192, 2048]⟩
abbrev S16 : Shape := ⟨1, ![16]⟩
abbrev S256x1024 : Shape := ⟨2, ![256, 1024]⟩
abbrev S2048x1024 : Shape := ⟨2, ![2048, 1024]⟩
abbrev S256x256 : Shape := ⟨2, ![256, 256]⟩
abbrev S256x128 : Shape := ⟨2, ![256, 128]⟩
abbrev S1 : Shape := ⟨1, ![1]⟩
abbrev S256x1 : Shape := ⟨2, ![256, 1]⟩
abbrev S256 : Shape := ⟨1, ![256]⟩

abbrev nBuf : Space → Nat
  | .hbm => 5
  | .vmem => 8
  | .smem => 1
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x2048, .f32⟩
  | .hbm, ⟨3, _⟩ => ⟨S16, .f32⟩
  | .hbm, ⟨4, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S2048x1024, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | .local _ .vmem, ⟨6, _⟩ => ⟨S256x1024, .bf16⟩
  | .local _ .vmem, ⟨7, _⟩ => ⟨S256x1024, .bf16⟩
  | .local _ .smem, ⟨0, _⟩ => ⟨S16, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 8], ![false, false, false]⟩

def k0_off1 (i : grid0.Coords) (c0_i32 : BitVec 32) : Fin 1 → Nat :=
  let arg1 : BitVec 32 := BitVec.ofNat 32 (i 1).val
  let c8_i32 : BitVec 32 := 8#32
  let v14 : BitVec 32 := Scalar.muli arg1 c8_i32
  let v15 : BitVec 32 := Scalar.addi v14 c0_i32
  let v16 : Index := Scalar.indexCast v15
  ![v16.toNat]
def k0_mult1 (i : grid0.Coords) : BitVec 32 :=
  let arg2 : BitVec 32 := BitVec.ofNat 32 (i 2).val
  let c256_i32 : BitVec 32 := 256#32
  let v71 : BitVec 32 := Scalar.muli arg2 c256_i32
  v71
def k0_off2 (i : grid0.Coords) : Fin 2 → Nat :=
  let arg2 : BitVec 32 := BitVec.ofNat 32 (i 2).val
  let c256_i32 : BitVec 32 := 256#32
  let v71 : BitVec 32 := Scalar.muli arg2 c256_i32
  let v72 : BitVec 32 := v71
  let v73 : Index := Scalar.indexCast v72
  let c0_38 : Index := 0#32
  ![v73.toNat, 0]
def k0_off3 (i : grid0.Coords) : Fin 2 → Nat :=
  let arg2 : BitVec 32 := BitVec.ofNat 32 (i 2).val
  let c256_i32 : BitVec 32 := 256#32
  let v71 : BitVec 32 := Scalar.muli arg2 c256_i32
  let v72 : BitVec 32 := v71
  let v81 : Index := Scalar.indexCast v72
  let c128_41 : Index := 128#32
  ![v81.toNat, 128]
def k0_off4 (i : grid0.Coords) : Fin 2 → Nat :=
  let arg2 : BitVec 32 := BitVec.ofNat 32 (i 2).val
  let c256_i32 : BitVec 32 := 256#32
  let v71 : BitVec 32 := Scalar.muli arg2 c256_i32
  let v72 : BitVec 32 := v71
  let v89 : Index := Scalar.indexCast v72
  let c256_44 : Index := 256#32
  ![v89.toNat, 256]
def k0_off5 (i : grid0.Coords) : Fin 2 → Nat :=
  let arg2 : BitVec 32 := BitVec.ofNat 32 (i 2).val
  let c256_i32 : BitVec 32 := 256#32
  let v71 : BitVec 32 := Scalar.muli arg2 c256_i32
  let v72 : BitVec 32 := v71
  let v97 : Index := Scalar.indexCast v72
  let c384_47 : Index := 384#32
  ![v97.toNat, 384]
def k0_off6 (i : grid0.Coords) : Fin 2 → Nat :=
  let arg2 : BitVec 32 := BitVec.ofNat 32 (i 2).val
  let c256_i32 : BitVec 32 := 256#32
  let v71 : BitVec 32 := Scalar.muli arg2 c256_i32
  let v72 : BitVec 32 := v71
  let v105 : Index := Scalar.indexCast v72
  let c512_50 : Index := 512#32
  ![v105.toNat, 512]
def k0_off7 (i : grid0.Coords) : Fin 2 → Nat :=
  let arg2 : BitVec 32 := BitVec.ofNat 32 (i 2).val
  let c256_i32 : BitVec 32 := 256#32
  let v71 : BitVec 32 := Scalar.muli arg2 c256_i32
  let v72 : BitVec 32 := v71
  let v113 : Index := Scalar.indexCast v72
  let c640_53 : Index := 640#32
  ![v113.toNat, 640]
def k0_off8 (i : grid0.Coords) : Fin 2 → Nat :=
  let arg2 : BitVec 32 := BitVec.ofNat 32 (i 2).val
  let c256_i32 : BitVec 32 := 256#32
  let v71 : BitVec 32 := Scalar.muli arg2 c256_i32
  let v72 : BitVec 32 := v71
  let v121 : Index := Scalar.indexCast v72
  let c768_56 : Index := 768#32
  ![v121.toNat, 768]
def k0_off9 (i : grid0.Coords) : Fin 2 → Nat :=
  let arg2 : BitVec 32 := BitVec.ofNat 32 (i 2).val
  let c256_i32 : BitVec 32 := 256#32
  let v71 : BitVec 32 := Scalar.muli arg2 c256_i32
  let v72 : BitVec 32 := v71
  let v129 : Index := Scalar.indexCast v72
  let c896_59 : Index := 896#32
  ![v129.toNat, 896]
@[reducible] def k0_t1_loop (i : grid0.Coords) : Scf.Loop 32 :=
  let c0_i32_142 : BitVec 32 := 0#32
  let arg2 : BitVec 32 := BitVec.ofNat 32 (i 2).val
  let v393 : BitVec 32 := Scalar.subi arg2 c0_i32_142
  let c1_i32_143 : BitVec 32 := 1#32
  let v395 : BitVec 32 := Scalar.divsi v393 c1_i32_143
  let v396 : BitVec 32 := Scalar.muli v395 c1_i32_143
  let v397 : BitVec 32 := Scalar.addi c0_i32_142 v396
  let c1_i32_144 : BitVec 32 := 1#32
  ⟨c0_i32_142, v397, c1_i32_144⟩
def k0_mult2 (i : grid0.Coords) (k0_t1 : Fin (k0_t1_loop i).trips) : BitVec 32 :=
  let arg2 : BitVec 32 := BitVec.ofNat 32 (i 2).val
  let c1_i32_162 : BitVec 32 := 1#32
  let v416 : BitVec 32 := Scalar.subi arg2 c1_i32_162
  let c0_i32_142 : BitVec 32 := 0#32
  let c1_i32_144 : BitVec 32 := 1#32
  let arg8 : BitVec 32 := Scf.iv c0_i32_142 c1_i32_144 k0_t1
  let v417 : BitVec 32 := Scalar.subi v416 arg8
  let c256_i32_163 : BitVec 32 := 256#32
  let v418 : BitVec 32 := Scalar.muli v417 c256_i32_163
  v418
def k0_off10 (i : grid0.Coords) (k0_t1 : Fin (k0_t1_loop i).trips) : Fin 2 → Nat :=
  let arg2 : BitVec 32 := BitVec.ofNat 32 (i 2).val
  let c1_i32_162 : BitVec 32 := 1#32
  let v416 : BitVec 32 := Scalar.subi arg2 c1_i32_162
  let c0_i32_142 : BitVec 32 := 0#32
  let c1_i32_144 : BitVec 32 := 1#32
  let arg8 : BitVec 32 := Scf.iv c0_i32_142 c1_i32_144 k0_t1
  let v417 : BitVec 32 := Scalar.subi v416 arg8
  let c256_i32_163 : BitVec 32 := 256#32
  let v418 : BitVec 32 := Scalar.muli v417 c256_i32_163
  let v419 : BitVec 32 := v418
  let v420 : Index := Scalar.indexCast v419
  let c0_164 : Index := 0#32
  ![v420.toNat, 0]
def k0_off11 (i : grid0.Coords) (k0_t1 : Fin (k0_t1_loop i).trips) : Fin 2 → Nat :=
  let arg2 : BitVec 32 := BitVec.ofNat 32 (i 2).val
  let c1_i32_162 : BitVec 32 := 1#32
  let v416 : BitVec 32 := Scalar.subi arg2 c1_i32_162
  let c0_i32_142 : BitVec 32 := 0#32
  let c1_i32_144 : BitVec 32 := 1#32
  let arg8 : BitVec 32 := Scf.iv c0_i32_142 c1_i32_144 k0_t1
  let v417 : BitVec 32 := Scalar.subi v416 arg8
  let c256_i32_163 : BitVec 32 := 256#32
  let v418 : BitVec 32 := Scalar.muli v417 c256_i32_163
  let v419 : BitVec 32 := v418
  let v428 : Index := Scalar.indexCast v419
  let c128_167 : Index := 128#32
  ![v428.toNat, 128]
def k0_off12 (i : grid0.Coords) (k0_t1 : Fin (k0_t1_loop i).trips) : Fin 2 → Nat :=
  let arg2 : BitVec 32 := BitVec.ofNat 32 (i 2).val
  let c1_i32_162 : BitVec 32 := 1#32
  let v416 : BitVec 32 := Scalar.subi arg2 c1_i32_162
  let c0_i32_142 : BitVec 32 := 0#32
  let c1_i32_144 : BitVec 32 := 1#32
  let arg8 : BitVec 32 := Scf.iv c0_i32_142 c1_i32_144 k0_t1
  let v417 : BitVec 32 := Scalar.subi v416 arg8
  let c256_i32_163 : BitVec 32 := 256#32
  let v418 : BitVec 32 := Scalar.muli v417 c256_i32_163
  let v419 : BitVec 32 := v418
  let v436 : Index := Scalar.indexCast v419
  let c256_170 : Index := 256#32
  ![v436.toNat, 256]
def k0_off13 (i : grid0.Coords) (k0_t1 : Fin (k0_t1_loop i).trips) : Fin 2 → Nat :=
  let arg2 : BitVec 32 := BitVec.ofNat 32 (i 2).val
  let c1_i32_162 : BitVec 32 := 1#32
  let v416 : BitVec 32 := Scalar.subi arg2 c1_i32_162
  let c0_i32_142 : BitVec 32 := 0#32
  let c1_i32_144 : BitVec 32 := 1#32
  let arg8 : BitVec 32 := Scf.iv c0_i32_142 c1_i32_144 k0_t1
  let v417 : BitVec 32 := Scalar.subi v416 arg8
  let c256_i32_163 : BitVec 32 := 256#32
  let v418 : BitVec 32 := Scalar.muli v417 c256_i32_163
  let v419 : BitVec 32 := v418
  let v444 : Index := Scalar.indexCast v419
  let c384_173 : Index := 384#32
  ![v444.toNat, 384]
def k0_off14 (i : grid0.Coords) (k0_t1 : Fin (k0_t1_loop i).trips) : Fin 2 → Nat :=
  let arg2 : BitVec 32 := BitVec.ofNat 32 (i 2).val
  let c1_i32_162 : BitVec 32 := 1#32
  let v416 : BitVec 32 := Scalar.subi arg2 c1_i32_162
  let c0_i32_142 : BitVec 32 := 0#32
  let c1_i32_144 : BitVec 32 := 1#32
  let arg8 : BitVec 32 := Scf.iv c0_i32_142 c1_i32_144 k0_t1
  let v417 : BitVec 32 := Scalar.subi v416 arg8
  let c256_i32_163 : BitVec 32 := 256#32
  let v418 : BitVec 32 := Scalar.muli v417 c256_i32_163
  let v419 : BitVec 32 := v418
  let v452 : Index := Scalar.indexCast v419
  let c512_176 : Index := 512#32
  ![v452.toNat, 512]
def k0_off15 (i : grid0.Coords) (k0_t1 : Fin (k0_t1_loop i).trips) : Fin 2 → Nat :=
  let arg2 : BitVec 32 := BitVec.ofNat 32 (i 2).val
  let c1_i32_162 : BitVec 32 := 1#32
  let v416 : BitVec 32 := Scalar.subi arg2 c1_i32_162
  let c0_i32_142 : BitVec 32 := 0#32
  let c1_i32_144 : BitVec 32 := 1#32
  let arg8 : BitVec 32 := Scf.iv c0_i32_142 c1_i32_144 k0_t1
  let v417 : BitVec 32 := Scalar.subi v416 arg8
  let c256_i32_163 : BitVec 32 := 256#32
  let v418 : BitVec 32 := Scalar.muli v417 c256_i32_163
  let v419 : BitVec 32 := v418
  let v460 : Index := Scalar.indexCast v419
  let c640_179 : Index := 640#32
  ![v460.toNat, 640]
def k0_off16 (i : grid0.Coords) (k0_t1 : Fin (k0_t1_loop i).trips) : Fin 2 → Nat :=
  let arg2 : BitVec 32 := BitVec.ofNat 32 (i 2).val
  let c1_i32_162 : BitVec 32 := 1#32
  let v416 : BitVec 32 := Scalar.subi arg2 c1_i32_162
  let c0_i32_142 : BitVec 32 := 0#32
  let c1_i32_144 : BitVec 32 := 1#32
  let arg8 : BitVec 32 := Scf.iv c0_i32_142 c1_i32_144 k0_t1
  let v417 : BitVec 32 := Scalar.subi v416 arg8
  let c256_i32_163 : BitVec 32 := 256#32
  let v418 : BitVec 32 := Scalar.muli v417 c256_i32_163
  let v419 : BitVec 32 := v418
  let v468 : Index := Scalar.indexCast v419
  let c768_182 : Index := 768#32
  ![v468.toNat, 768]
def k0_off17 (i : grid0.Coords) (k0_t1 : Fin (k0_t1_loop i).trips) : Fin 2 → Nat :=
  let arg2 : BitVec 32 := BitVec.ofNat 32 (i 2).val
  let c1_i32_162 : BitVec 32 := 1#32
  let v416 : BitVec 32 := Scalar.subi arg2 c1_i32_162
  let c0_i32_142 : BitVec 32 := 0#32
  let c1_i32_144 : BitVec 32 := 1#32
  let arg8 : BitVec 32 := Scf.iv c0_i32_142 c1_i32_144 k0_t1
  let v417 : BitVec 32 := Scalar.subi v416 arg8
  let c256_i32_163 : BitVec 32 := 256#32
  let v418 : BitVec 32 := Scalar.muli v417 c256_i32_163
  let v419 : BitVec 32 := v418
  let v476 : Index := Scalar.indexCast v419
  let c896_185 : Index := 896#32
  ![v476.toNat, 896]
@[reducible] def k0_t2_loop (i : grid0.Coords) : Scf.Loop 32 :=
  let c0_i32_142 : BitVec 32 := 0#32
  let arg2 : BitVec 32 := BitVec.ofNat 32 (i 2).val
  let v393 : BitVec 32 := Scalar.subi arg2 c0_i32_142
  let c1_i32_143 : BitVec 32 := 1#32
  let v395 : BitVec 32 := Scalar.divsi v393 c1_i32_143
  let v396 : BitVec 32 := Scalar.muli v395 c1_i32_143
  let v397 : BitVec 32 := Scalar.addi c0_i32_142 v396
  let v394 : BitVec 32 := Scalar.addi c0_i32_142 v393
  let c1_i32_145 : BitVec 32 := 1#32
  ⟨v397, v394, c1_i32_145⟩
def k0_mult3 (i : grid0.Coords) (k0_t2 : Fin (k0_t2_loop i).trips) : BitVec 32 :=
  let arg2 : BitVec 32 := BitVec.ofNat 32 (i 2).val
  let c1_i32_162 : BitVec 32 := 1#32
  let v416 : BitVec 32 := Scalar.subi arg2 c1_i32_162
  let c0_i32_142 : BitVec 32 := 0#32
  let v393 : BitVec 32 := Scalar.subi arg2 c0_i32_142
  let c1_i32_143 : BitVec 32 := 1#32
  let v395 : BitVec 32 := Scalar.divsi v393 c1_i32_143
  let v396 : BitVec 32 := Scalar.muli v395 c1_i32_143
  let v397 : BitVec 32 := Scalar.addi c0_i32_142 v396
  let c1_i32_145 : BitVec 32 := 1#32
  let arg8 : BitVec 32 := Scf.iv v397 c1_i32_145 k0_t2
  let v417 : BitVec 32 := Scalar.subi v416 arg8
  let c256_i32_163 : BitVec 32 := 256#32
  let v418 : BitVec 32 := Scalar.muli v417 c256_i32_163
  v418
def k0_off18 (i : grid0.Coords) (k0_t2 : Fin (k0_t2_loop i).trips) : Fin 2 → Nat :=
  let arg2 : BitVec 32 := BitVec.ofNat 32 (i 2).val
  let c1_i32_162 : BitVec 32 := 1#32
  let v416 : BitVec 32 := Scalar.subi arg2 c1_i32_162
  let c0_i32_142 : BitVec 32 := 0#32
  let v393 : BitVec 32 := Scalar.subi arg2 c0_i32_142
  let c1_i32_143 : BitVec 32 := 1#32
  let v395 : BitVec 32 := Scalar.divsi v393 c1_i32_143
  let v396 : BitVec 32 := Scalar.muli v395 c1_i32_143
  let v397 : BitVec 32 := Scalar.addi c0_i32_142 v396
  let c1_i32_145 : BitVec 32 := 1#32
  let arg8 : BitVec 32 := Scf.iv v397 c1_i32_145 k0_t2
  let v417 : BitVec 32 := Scalar.subi v416 arg8
  let c256_i32_163 : BitVec 32 := 256#32
  let v418 : BitVec 32 := Scalar.muli v417 c256_i32_163
  let v419 : BitVec 32 := v418
  let v420 : Index := Scalar.indexCast v419
  let c0_164 : Index := 0#32
  ![v420.toNat, 0]
def k0_off19 (i : grid0.Coords) (k0_t2 : Fin (k0_t2_loop i).trips) : Fin 2 → Nat :=
  let arg2 : BitVec 32 := BitVec.ofNat 32 (i 2).val
  let c1_i32_162 : BitVec 32 := 1#32
  let v416 : BitVec 32 := Scalar.subi arg2 c1_i32_162
  let c0_i32_142 : BitVec 32 := 0#32
  let v393 : BitVec 32 := Scalar.subi arg2 c0_i32_142
  let c1_i32_143 : BitVec 32 := 1#32
  let v395 : BitVec 32 := Scalar.divsi v393 c1_i32_143
  let v396 : BitVec 32 := Scalar.muli v395 c1_i32_143
  let v397 : BitVec 32 := Scalar.addi c0_i32_142 v396
  let c1_i32_145 : BitVec 32 := 1#32
  let arg8 : BitVec 32 := Scf.iv v397 c1_i32_145 k0_t2
  let v417 : BitVec 32 := Scalar.subi v416 arg8
  let c256_i32_163 : BitVec 32 := 256#32
  let v418 : BitVec 32 := Scalar.muli v417 c256_i32_163
  let v419 : BitVec 32 := v418
  let v428 : Index := Scalar.indexCast v419
  let c128_167 : Index := 128#32
  ![v428.toNat, 128]
def k0_off20 (i : grid0.Coords) (k0_t2 : Fin (k0_t2_loop i).trips) : Fin 2 → Nat :=
  let arg2 : BitVec 32 := BitVec.ofNat 32 (i 2).val
  let c1_i32_162 : BitVec 32 := 1#32
  let v416 : BitVec 32 := Scalar.subi arg2 c1_i32_162
  let c0_i32_142 : BitVec 32 := 0#32
  let v393 : BitVec 32 := Scalar.subi arg2 c0_i32_142
  let c1_i32_143 : BitVec 32 := 1#32
  let v395 : BitVec 32 := Scalar.divsi v393 c1_i32_143
  let v396 : BitVec 32 := Scalar.muli v395 c1_i32_143
  let v397 : BitVec 32 := Scalar.addi c0_i32_142 v396
  let c1_i32_145 : BitVec 32 := 1#32
  let arg8 : BitVec 32 := Scf.iv v397 c1_i32_145 k0_t2
  let v417 : BitVec 32 := Scalar.subi v416 arg8
  let c256_i32_163 : BitVec 32 := 256#32
  let v418 : BitVec 32 := Scalar.muli v417 c256_i32_163
  let v419 : BitVec 32 := v418
  let v436 : Index := Scalar.indexCast v419
  let c256_170 : Index := 256#32
  ![v436.toNat, 256]
def k0_off21 (i : grid0.Coords) (k0_t2 : Fin (k0_t2_loop i).trips) : Fin 2 → Nat :=
  let arg2 : BitVec 32 := BitVec.ofNat 32 (i 2).val
  let c1_i32_162 : BitVec 32 := 1#32
  let v416 : BitVec 32 := Scalar.subi arg2 c1_i32_162
  let c0_i32_142 : BitVec 32 := 0#32
  let v393 : BitVec 32 := Scalar.subi arg2 c0_i32_142
  let c1_i32_143 : BitVec 32 := 1#32
  let v395 : BitVec 32 := Scalar.divsi v393 c1_i32_143
  let v396 : BitVec 32 := Scalar.muli v395 c1_i32_143
  let v397 : BitVec 32 := Scalar.addi c0_i32_142 v396
  let c1_i32_145 : BitVec 32 := 1#32
  let arg8 : BitVec 32 := Scf.iv v397 c1_i32_145 k0_t2
  let v417 : BitVec 32 := Scalar.subi v416 arg8
  let c256_i32_163 : BitVec 32 := 256#32
  let v418 : BitVec 32 := Scalar.muli v417 c256_i32_163
  let v419 : BitVec 32 := v418
  let v444 : Index := Scalar.indexCast v419
  let c384_173 : Index := 384#32
  ![v444.toNat, 384]
def k0_off22 (i : grid0.Coords) (k0_t2 : Fin (k0_t2_loop i).trips) : Fin 2 → Nat :=
  let arg2 : BitVec 32 := BitVec.ofNat 32 (i 2).val
  let c1_i32_162 : BitVec 32 := 1#32
  let v416 : BitVec 32 := Scalar.subi arg2 c1_i32_162
  let c0_i32_142 : BitVec 32 := 0#32
  let v393 : BitVec 32 := Scalar.subi arg2 c0_i32_142
  let c1_i32_143 : BitVec 32 := 1#32
  let v395 : BitVec 32 := Scalar.divsi v393 c1_i32_143
  let v396 : BitVec 32 := Scalar.muli v395 c1_i32_143
  let v397 : BitVec 32 := Scalar.addi c0_i32_142 v396
  let c1_i32_145 : BitVec 32 := 1#32
  let arg8 : BitVec 32 := Scf.iv v397 c1_i32_145 k0_t2
  let v417 : BitVec 32 := Scalar.subi v416 arg8
  let c256_i32_163 : BitVec 32 := 256#32
  let v418 : BitVec 32 := Scalar.muli v417 c256_i32_163
  let v419 : BitVec 32 := v418
  let v452 : Index := Scalar.indexCast v419
  let c512_176 : Index := 512#32
  ![v452.toNat, 512]
def k0_off23 (i : grid0.Coords) (k0_t2 : Fin (k0_t2_loop i).trips) : Fin 2 → Nat :=
  let arg2 : BitVec 32 := BitVec.ofNat 32 (i 2).val
  let c1_i32_162 : BitVec 32 := 1#32
  let v416 : BitVec 32 := Scalar.subi arg2 c1_i32_162
  let c0_i32_142 : BitVec 32 := 0#32
  let v393 : BitVec 32 := Scalar.subi arg2 c0_i32_142
  let c1_i32_143 : BitVec 32 := 1#32
  let v395 : BitVec 32 := Scalar.divsi v393 c1_i32_143
  let v396 : BitVec 32 := Scalar.muli v395 c1_i32_143
  let v397 : BitVec 32 := Scalar.addi c0_i32_142 v396
  let c1_i32_145 : BitVec 32 := 1#32
  let arg8 : BitVec 32 := Scf.iv v397 c1_i32_145 k0_t2
  let v417 : BitVec 32 := Scalar.subi v416 arg8
  let c256_i32_163 : BitVec 32 := 256#32
  let v418 : BitVec 32 := Scalar.muli v417 c256_i32_163
  let v419 : BitVec 32 := v418
  let v460 : Index := Scalar.indexCast v419
  let c640_179 : Index := 640#32
  ![v460.toNat, 640]
def k0_off24 (i : grid0.Coords) (k0_t2 : Fin (k0_t2_loop i).trips) : Fin 2 → Nat :=
  let arg2 : BitVec 32 := BitVec.ofNat 32 (i 2).val
  let c1_i32_162 : BitVec 32 := 1#32
  let v416 : BitVec 32 := Scalar.subi arg2 c1_i32_162
  let c0_i32_142 : BitVec 32 := 0#32
  let v393 : BitVec 32 := Scalar.subi arg2 c0_i32_142
  let c1_i32_143 : BitVec 32 := 1#32
  let v395 : BitVec 32 := Scalar.divsi v393 c1_i32_143
  let v396 : BitVec 32 := Scalar.muli v395 c1_i32_143
  let v397 : BitVec 32 := Scalar.addi c0_i32_142 v396
  let c1_i32_145 : BitVec 32 := 1#32
  let arg8 : BitVec 32 := Scf.iv v397 c1_i32_145 k0_t2
  let v417 : BitVec 32 := Scalar.subi v416 arg8
  let c256_i32_163 : BitVec 32 := 256#32
  let v418 : BitVec 32 := Scalar.muli v417 c256_i32_163
  let v419 : BitVec 32 := v418
  let v468 : Index := Scalar.indexCast v419
  let c768_182 : Index := 768#32
  ![v468.toNat, 768]
def k0_off25 (i : grid0.Coords) (k0_t2 : Fin (k0_t2_loop i).trips) : Fin 2 → Nat :=
  let arg2 : BitVec 32 := BitVec.ofNat 32 (i 2).val
  let c1_i32_162 : BitVec 32 := 1#32
  let v416 : BitVec 32 := Scalar.subi arg2 c1_i32_162
  let c0_i32_142 : BitVec 32 := 0#32
  let v393 : BitVec 32 := Scalar.subi arg2 c0_i32_142
  let c1_i32_143 : BitVec 32 := 1#32
  let v395 : BitVec 32 := Scalar.divsi v393 c1_i32_143
  let v396 : BitVec 32 := Scalar.muli v395 c1_i32_143
  let v397 : BitVec 32 := Scalar.addi c0_i32_142 v396
  let c1_i32_145 : BitVec 32 := 1#32
  let arg8 : BitVec 32 := Scf.iv v397 c1_i32_145 k0_t2
  let v417 : BitVec 32 := Scalar.subi v416 arg8
  let c256_i32_163 : BitVec 32 := 256#32
  let v418 : BitVec 32 := Scalar.muli v417 c256_i32_163
  let v419 : BitVec 32 := v418
  let v476 : Index := Scalar.indexCast v419
  let c896_185 : Index := 896#32
  ![v476.toNat, 896]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== ReferenceIdeal.lean ====
abbrev S8192x2048 : Shape := ⟨2, ![8192, 2048]⟩
abbrev S16 : Shape := ⟨1, ![16]⟩
abbrev S2048 : Shape := ⟨1, ![2048]⟩
abbrev S4x2048x16x128 : Shape := ⟨4, ![4, 2048, 16, 128]⟩
abbrev S4x16x2048x2048 : Shape := ⟨4, ![4, 16, 2048, 2048]⟩
abbrev S_ : Shape := ⟨0, ![]⟩
abbrev S1x16x1x1 : Shape := ⟨4, ![1, 16, 1, 1]⟩
abbrev S1x2048 : Shape := ⟨2, ![1, 2048]⟩
abbrev S2048x1 : Shape := ⟨2, ![2048, 1]⟩
abbrev S2048x2048 : Shape := ⟨2, ![2048, 2048]⟩
abbrev S4x16x128x2048 : Shape := ⟨4, ![4, 16, 128, 2048]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x2048, .f32⟩
  | .hbm, ⟨3, _⟩ => ⟨S16, .f32⟩
  | .hbm, ⟨4, _⟩ => ⟨S2048, .i32⟩
  | .hbm, ⟨5, _⟩ => ⟨S8192x2048, .f32⟩
  | .hbm, ⟨6, _⟩ => ⟨S4x2048x16x128, .f32⟩
  | .hbm, ⟨7, _⟩ => ⟨S4x2048x16x128, .f32⟩
  | .hbm, ⟨8, _⟩ => ⟨S4x2048x16x128, .f32⟩
  | .hbm, ⟨9, _⟩ => ⟨S4x16x2048x2048, .f32⟩
  | .hbm, ⟨10, _⟩ => ⟨S_, .f32⟩
  | .hbm, ⟨11, _⟩ => ⟨S4x16x2048x2048, .f32⟩
  | .hbm, ⟨12, _⟩ => ⟨S4x16x2048x2048, .f32⟩
  | .hbm, ⟨13, _⟩ => ⟨S1x16x1x1, .f32⟩
  | .hbm, ⟨14, _⟩ => ⟨S4x16x2048x2048, .f32⟩
  | .hbm, ⟨15, _⟩ => ⟨S4x16x2048x2048, .f32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S4x16x2048x2048, .f32⟩
  | .hbm, ⟨22, _⟩ => ⟨S4x16x2048x2048, .f32⟩
  | .hbm, ⟨23, _⟩ => ⟨S_, .f32⟩
  | .hbm, ⟨24, _⟩ => ⟨S4x16x2048x2048, .f32⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S4x16x2048x2048, .i1⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S4x16x2048x2048, .f32⟩
  | .hbm, ⟨35, _⟩ => ⟨S4x16x2048x2048, .f32⟩
  | .hbm, ⟨36, _⟩ => ⟨S4x16x2048x2048, .f32⟩
  | .hbm, ⟨37, _⟩ => ⟨S4x16x2048x2048, .f32⟩
  | .hbm, ⟨38, _⟩ => ⟨S_, .f32⟩
  | .hbm, ⟨39, _⟩ => ⟨S_, .f32⟩
  | .hbm, ⟨40, _⟩ => ⟨S4x16x2048x2048, .i1⟩
  | .hbm, ⟨41, _⟩ => ⟨S4x16x2048x2048, .f32⟩
  | .hbm, ⟨42, _⟩ => ⟨S4x16x2048x2048, .f32⟩
  | .hbm, ⟨43, _⟩ => ⟨S_, .f32⟩
  | .hbm, ⟨44, _⟩ => ⟨S_, .f32⟩
  | .hbm, ⟨45, _⟩ => ⟨S4x16x2048x2048, .f32⟩
  | .hbm, ⟨46, _⟩ => ⟨S4x16x2048x2048, .f32⟩
  | .hbm, ⟨47, _⟩ => ⟨S4x16x2048x2048, .f32⟩
  | .hbm, ⟨48, _⟩ => ⟨S_, .f32⟩
  | .hbm, ⟨49, _⟩ => ⟨S4x16x2048x2048, .f32⟩
  | .hbm, ⟨50, _⟩ => ⟨S4x16x2048x2048, .f32⟩
  | .hbm, ⟨51, _⟩ => ⟨S4x16x2048x2048, .f32⟩
  | .hbm, ⟨52, _⟩ => ⟨S4x16x2048x2048, .f32⟩
  | .hbm, ⟨53, _⟩ => ⟨S4x16x2048x2048, .i1⟩
  | .hbm, ⟨54, _⟩ => ⟨S4x16x2048x2048, .f32⟩
  | .hbm, ⟨55, _⟩ => ⟨S4x16x2048x2048, .f32⟩
  | .hbm, ⟨56, _⟩ => ⟨S4x16x2048x2048, .f32⟩
  | .hbm, ⟨57, _⟩ => ⟨S4x16x2048x2048, .f32⟩
  | .hbm, ⟨58, _⟩ => ⟨S4x16x2048x2048, .f32⟩
  | .hbm, ⟨59, _⟩ => ⟨S4x16x2048x2048, .f32⟩
  | .hbm, ⟨60, _⟩ => ⟨S4x16x2048x2048, .f32⟩
  | .hbm, ⟨61, _⟩ => ⟨S4x16x2048x2048, .f32⟩
  | .hbm, ⟨62, _⟩ => ⟨S4x16x2048x2048, .f32⟩
  | .hbm, ⟨63, _⟩ => ⟨S4x16x2048x2048, .f32⟩
  | .hbm, ⟨64, _⟩ => ⟨S4x16x2048x2048, .f32⟩
  | .hbm, ⟨65, _⟩ => ⟨S_, .f32⟩
  | .hbm, ⟨66, _⟩ => ⟨S_, .f32⟩
  | .hbm, ⟨67, _⟩ => ⟨S4x16x2048x2048, .i1⟩
  | .hbm, ⟨68, _⟩ => ⟨S4x16x2048x2048, .f32⟩
  | .hbm, ⟨69, _⟩ => ⟨S4x16x2048x2048, .f32⟩
  | .hbm, ⟨70, _⟩ => ⟨S4x16x128x2048, .f32⟩
  | .hbm, ⟨71, _⟩ => ⟨S4x2048x16x128, .f32⟩
  | .hbm, ⟨72, _⟩ => ⟨S8192x2048, .f32⟩
  | .hbm, ⟨73, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_call2_cst : Ref sig .tc := ⟨.hbm, 43, rfl⟩
abbrev main_call2_v0 : Ref sig .tc := ⟨.hbm, 44, rfl⟩
abbrev main_v19 : Ref sig .tc := ⟨.hbm, 45, rfl⟩
abbrev main_v20 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩

abbrev nD : Nat := 1
abbrev τ : Topo := Topo.v7x

variable {F : FTy → Type} [FloatOps F]
-- ==== Down.lean ====
abbrev S8192x11008 : Shape := ⟨2, ![8192, 11008]⟩
abbrev S11008x4096 : Shape := ⟨2, ![11008, 4096]⟩
abbrev S8192x4096 : Shape := ⟨2, ![8192, 4096]⟩
abbrev S4096 : Shape := ⟨1, ![4096]⟩
abbrev S1x4096 : Shape := ⟨2, ![1, 4096]⟩
abbrev S8192x1 : Shape := ⟨2, ![8192, 1]⟩
abbrev S512x4096 : Shape := ⟨2, ![512, 4096]⟩
abbrev S512x1 : Shape := ⟨2, ![512, 1]⟩
abbrev S512 : Shape := ⟨1, ![512]⟩
abbrev S512x11008 : Shape := ⟨2, ![512, 11008]⟩
abbrev S11008x512 : Shape := ⟨2, ![11008, 512]⟩
abbrev S512x512 : Shape := ⟨2, ![512, 512]⟩
abbrev S1x512 : Shape := ⟨2, ![1, 512]⟩

abbrev nBuf : Space → Nat
  | .hbm => 13
  | .vmem => 26
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S8192x4096, .bf16⟩
  | .hbm, ⟨8, _⟩ => ⟨S8192x1, .f32⟩
  | .hbm, ⟨9, _⟩ => ⟨S8192x1, .f32⟩
  | .hbm, ⟨10, _⟩ => ⟨S1x4096, .f32⟩
  | .hbm, ⟨11, _⟩ => ⟨S1x4096, .f32⟩
  | .hbm, ⟨12, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S512x4096, .bf16⟩
  | .local _ .vmem, ⟨5, _⟩ => ⟨S512x4096, .bf16⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x11008, .bf16⟩
  | .local _ .vmem, ⟨11, _⟩ => ⟨S512x11008, .bf16⟩
  | .local _ .vmem, ⟨12, _⟩ => ⟨S11008x512, .bf16⟩
  | .local _ .vmem, ⟨13, _⟩ => ⟨S11008x512, .bf16⟩
  | .local _ .vmem, ⟨14, _⟩ => ⟨S512x512, .f32⟩
  | .local _ .vmem, ⟨15, _⟩ => ⟨S512x512, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S512x512, .f32⟩
  | .local _ .vmem, ⟨25, _⟩ => ⟨S512x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x11008 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S11008x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== DownRefIdeal.lean ====
abbrev S8192x11008 : Shape := ⟨2, ![8192, 11008]⟩
abbrev S11008x4096 : Shape := ⟨2, ![11008, 4096]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x4096, .f32⟩
  | .hbm, ⟨27, _⟩ => ⟨S8192x4096, .f32⟩
  | .hbm, ⟨28, _⟩ => ⟨S1x4096, .f32⟩
  | .hbm, ⟨29, _⟩ => ⟨S8192x4096, .f32⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S8192x11008, .f32⟩
  | .hbm, ⟨38, _⟩ => ⟨S11008x4096, .f32⟩
  | .hbm, ⟨39, _⟩ => ⟨S8192x4096, .f32⟩
  | .hbm, ⟨40, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Gate.lean ====
abbrev S8192x4096 : Shape := ⟨2, ![8192, 4096]⟩
abbrev S32x4096 : Shape := ⟨2, ![32, 4096]⟩
abbrev S2x4096x22016 : Shape := ⟨3, ![2, 4096, 22016]⟩
abbrev S2x11008x4096 : Shape := ⟨3, ![2, 11008, 4096]⟩
abbrev S8192x11008 : Shape := ⟨2, ![8192, 11008]⟩
abbrev S32x11008 : Shape := ⟨2, ![32, 11008]⟩
abbrev S11008x4096 : Shape := ⟨2, ![11008, 4096]⟩
abbrev S1024x4096 : Shape := ⟨2, ![1024, 4096]⟩
abbrev S1x32x4096 : Shape := ⟨3, ![1, 32, 4096]⟩
abbrev S1024x256 : Shape := ⟨2, ![1024, 256]⟩
abbrev S32x256 : Shape := ⟨2, ![32, 256]⟩
abbrev S2x2x4096x256 : Shape := ⟨4, ![2, 2, 4096, 256]⟩
abbrev S2x2 : Shape := ⟨2, ![2, 2]⟩
abbrev S4096x256 : Shape := ⟨2, ![4096, 256]⟩
abbrev S1x1 : Shape := ⟨2, ![1, 1]⟩
abbrev S_ : Shape := ⟨0, ![]⟩
abbrev S1x1x4096x256 : Shape := ⟨4, ![1, 1, 4096, 256]⟩
abbrev S1x4096x256 : Shape := ⟨3, ![1, 4096, 256]⟩

abbrev nBuf : Space → Nat
  | .hbm => 7
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S2x4096x22016, .f32⟩
  | .hbm, ⟨3, _⟩ => ⟨S2x11008x4096, .f32⟩
  | .hbm, ⟨4, _⟩ => ⟨S8192x11008, .bf16⟩
  | .hbm, ⟨5, _⟩ => ⟨S32x11008, .bf16⟩
  | .hbm, ⟨6, _⟩ => ⟨S11008x4096, .bf16⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S1x32x4096, .f32⟩
  | .local _ .vmem, ⟨4, _⟩ => ⟨S1x32x4096, .f32⟩
  | .local _ .vmem, ⟨5, _⟩ => ⟨S1024x256, .bf16⟩
  | .local _ .vmem, ⟨6, _⟩ => ⟨S1024x256, .bf16⟩
  | .local _ .vmem, ⟨7, _⟩ => ⟨S32x256, .bf16⟩
  | .local _ .vmem, ⟨8, _⟩ => ⟨S32x256, .bf16⟩
  | .local _ .vmem, ⟨9, _⟩ => ⟨S32x4096, .bf16⟩
  | .local _ .vmem, ⟨10, _⟩ => ⟨S32x4096, .bf16⟩
  | .local _ .vmem, ⟨11, _⟩ => ⟨S2x2x4096x256, .f32⟩
  | .local _ .vmem, ⟨12, _⟩ => ⟨S4096x256, .bf16⟩
  | .local _ .vmem, ⟨13, _⟩ => ⟨S4096x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![43, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_21 : BitVec 32 := 0#32
  let v33 : BitVec 1 := Scalar.cmpi .eq arg0 c0_i32_21
  let v34 : BitVec 32 := Scalar.extui v33
  let c0_i32_22 : BitVec 32 := 0#32
  let v35 : BitVec 1 := Scalar.cmpi .ne v34 c0_i32_22
  v35

def k0_mult1 : BitVec 32 :=
  let c0_i32_62 : BitVec 32 := 0#32
  c0_i32_62
def k0_mult2 : BitVec 32 :=
  let c11008_i32 : BitVec 32 := 11008#32
  c11008_i32
def k0_mult3 (i : grid0.Coords) : BitVec 32 :=
  let arg0 : BitVec 32 := BitVec.ofNat 32 (i 0).val
  let c0_i32_23 : BitVec 32 := 0#32
  let v36 : BitVec 32 := Scalar.addi arg0 c0_i32_23
  let c256_i32 : BitVec 32 := 256#32
  let v37 : BitVec 32 := Scalar.muli v36 c256_i32
  v37
def k0_mult4 (i : grid0.Coords) : BitVec 32 :=
  let arg0 : BitVec 32 := BitVec.ofNat 32 (i 0).val
  let c43_i32 : BitVec 32 := 43#32
  let v39 : BitVec 32 := Scalar.addi arg0 c43_i32
  let c256_i32_24 : BitVec 32 := 256#32
  let v40 : BitVec 32 := Scalar.muli v39 c256_i32_24
  v40
def k0_off1 (i : grid0.Coords) : Fin 2 → Nat :=
  let arg0 : BitVec 32 := BitVec.ofNat 32 (i 0).val
  let c2_i32 : BitVec 32 := 2#32
  let c0_i32_17 : BitVec 32 := 0#32
  let v23 : BitVec 1 := Scalar.cmpi .eq c2_i32 c0_i32_17
  let c1_i32 : BitVec 32 := 1#32
  let v24 : BitVec 32 := Scalar.select v23 c1_i32 c2_i32
  let v25 : BitVec 32 := Scalar.remsi arg0 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let c0_i32_27 : BitVec 32 := 0#32
  ![v32.toNat, 0]
def k0_off2 (i : grid0.Coords) : Fin 4 → Nat :=
  let arg0 : BitVec 32 := BitVec.ofNat 32 (i 0).val
  let c2_i32 : BitVec 32 := 2#32
  let c0_i32_17 : BitVec 32 := 0#32
  let v23 : BitVec 1 := Scalar.cmpi .eq c2_i32 c0_i32_17
  let c1_i32 : BitVec 32 := 1#32
  let v24 : BitVec 32 := Scalar.select v23 c1_i32 c2_i32
  let v25 : BitVec 32 := Scalar.remsi arg0 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let c0_i32_26 : BitVec 32 := 0#32
  let c0_i32_28 : BitVec 32 := 0#32
  let c0_i32_29 : BitVec 32 := 0#32
  ![v32.toNat, 0, 0, 0]
def k0_off3 (i : grid0.Coords) (c0_i32_23 : BitVec 32) : Fin 3 → Nat :=
  let c0_i32_25 : BitVec 32 := 0#32
  let c0_i32_30 : BitVec 32 := 0#32
  let arg0 : BitVec 32 := BitVec.ofNat 32 (i 0).val
  let v36 : BitVec 32 := Scalar.addi arg0 c0_i32_23
  let c256_i32 : BitVec 32 := 256#32
  let v37 : BitVec 32 := Scalar.muli v36 c256_i32
  let v38 : BitVec 32 := v37
  ![0, 0, v38.toNat]
def k0_off4 (i : grid0.Coords) : Fin 2 → Nat :=
  let arg0 : BitVec 32 := BitVec.ofNat 32 (i 0).val
  let c2_i32 : BitVec 32 := 2#32
  let c0_i32_17 : BitVec 32 := 0#32
  let v23 : BitVec 1 := Scalar.cmpi .eq c2_i32 c0_i32_17
  let c1_i32 : BitVec 32 := 1#32
  let v24 : BitVec 32 := Scalar.select v23 c1_i32 c2_i32
  let v25 : BitVec 32 := Scalar.remsi arg0 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let c1_i32_33 : BitVec 32 := 1#32
  ![v32.toNat, 1]
def k0_off5 (i : grid0.Coords) : Fin 4 → Nat :=
  let arg0 : BitVec 32 := BitVec.ofNat 32 (i 0).val
  let c2_i32 : BitVec 32 := 2#32
  let c0_i32_17 : BitVec 32 := 0#32
  let v23 : BitVec 1 := Scalar.cmpi .eq c2_i32 c0_i32_17
  let c1_i32 : BitVec 32 := 1#32
  let v24 : BitVec 32 := Scalar.select v23 c1_i32 c2_i32
  let v25 : BitVec 32 := Scalar.remsi arg0 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let c1_i32_32 : BitVec 32 := 1#32
  let c0_i32_34 : BitVec 32 := 0#32
  let c0_i32_35 : BitVec 32 := 0#32
  ![v32.toNat, 1, 0, 0]
def k0_off6 (i : grid0.Coords) : Fin 4 → Nat :=
  let arg0 : BitVec 32 := BitVec.ofNat 32 (i 0).val
  let c2_i32 : BitVec 32 := 2#32
  let c0_i32_17 : BitVec 32 := 0#32
  let v23 : BitVec 1 := Scalar.cmpi .eq c2_i32 c0_i32_17
  let c1_i32 : BitVec 32 := 1#32
  let v24 : BitVec 32 := Scalar.select v23 c1_i32 c2_i32
  let v25 : BitVec 32 := Scalar.remsi arg0 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let v54 : Index := Scalar.indexCast v32
  let c0_37 : Index := 0#32
  let c0_38 : Index := 0#32
  let c0_39 : Index := 0#32
  ![v54.toNat, 0, 0, 0]
def k0_off7 (i : grid0.Coords) : Fin 4 → Nat :=
  let arg0 : BitVec 32 := BitVec.ofNat 32 (i 0).val
  let c2_i32 : BitVec 32 := 2#32
  let c0_i32_17 : BitVec 32 := 0#32
  let v23 : BitVec 1 := Scalar.cmpi .eq c2_i32 c0_i32_17
  let c1_i32 : BitVec 32 := 1#32
  let v24 : BitVec 32 := Scalar.select v23 c1_i32 c2_i32
  let v25 : BitVec 32 := Scalar.remsi arg0 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let v61 : Index := Scalar.indexCast v32
  let c1 : Index := 1#32
  let c0_42 : Index := 0#32
  let c0_43 : Index := 0#32
  ![v61.toNat, 1, 0, 0]
def k0_cond3 (i : grid0.Coords) : BitVec 1 :=
  let arg0 : BitVec 32 := BitVec.ofNat 32 (i 0).val
  let c1_i32_46 : BitVec 32 := 1#32
  let v68 : BitVec 32 := Scalar.addi arg0 c1_i32_46
  let c43_i32_47 : BitVec 32 := 43#32
  let v69 : BitVec 1 := Scalar.cmpi .slt v68 c43_i32_47
  let v70 : BitVec 32 := Scalar.extui v69
  let c0_i32_48 : BitVec 32 := 0#32
  let v71 : BitVec 1 := Scalar.cmpi .ne v70 c0_i32_48
  v71

def k0_mult5 (i : grid0.Coords) : BitVec 32 :=
  let arg0 : BitVec 32 := BitVec.ofNat 32 (i 0).val
  let c1_i32_62 : BitVec 32 := 1#32
  let v88 : BitVec 32 := Scalar.addi arg0 c1_i32_62
  let c0_i32_64 : BitVec 32 := 0#32
  let v90 : BitVec 32 := Scalar.addi v88 c0_i32_64
  let c256_i32_65 : BitVec 32 := 256#32
  let v91 : BitVec 32 := Scalar.muli v90 c256_i32_65
  v91
def k0_mult6 (i : grid0.Coords) : BitVec 32 :=
  let arg0 : BitVec 32 := BitVec.ofNat 32 (i 0).val
  let c1_i32_62 : BitVec 32 := 1#32
  let v88 : BitVec 32 := Scalar.addi arg0 c1_i32_62
  let c43_i32_66 : BitVec 32 := 43#32
  let v93 : BitVec 32 := Scalar.addi v88 c43_i32_66
  let c256_i32_67 : BitVec 32 := 256#32
  let v94 : BitVec 32 := Scalar.muli v93 c256_i32_67
  v94
def k0_off8 (i : grid0.Coords) : Fin 2 → Nat :=
  let c1_i32_63 : BitVec 32 := 1#32
  let arg0 : BitVec 32 := BitVec.ofNat 32 (i 0).val
  let c2_i32 : BitVec 32 := 2#32
  let c0_i32_17 : BitVec 32 := 0#32
  let v23 : BitVec 1 := Scalar.cmpi .eq c2_i32 c0_i32_17
  let c1_i32 : BitVec 32 := 1#32
  let v24 : BitVec 32 := Scalar.select v23 c1_i32 c2_i32
  let v25 : BitVec 32 := Scalar.remsi arg0 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let v89 : BitVec 32 := Scalar.subi c1_i32_63 v32
  let c0_i32_70 : BitVec 32 := 0#32
  ![v89.toNat, 0]
def k0_off9 (i : grid0.Coords) : Fin 4 → Nat :=
  let c1_i32_63 : BitVec 32 := 1#32
  let arg0 : BitVec 32 := BitVec.ofNat 32 (i 0).val
  let c2_i32 : BitVec 32 := 2#32
  let c0_i32_17 : BitVec 32 := 0#32
  let v23 : BitVec 1 := Scalar.cmpi .eq c2_i32 c0_i32_17
  let c1_i32 : BitVec 32 := 1#32
  let v24 : BitVec 32 := Scalar.select v23 c1_i32 c2_i32
  let v25 : BitVec 32 := Scalar.remsi arg0 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let v89 : BitVec 32 := Scalar.subi c1_i32_63 v32
  let c0_i32_69 : BitVec 32 := 0#32
  let c0_i32_71 : BitVec 32 := 0#32
  let c0_i32_72 : BitVec 32 := 0#32
  ![v89.toNat, 0, 0, 0]
def k0_off10 (i : grid0.Coords) (c0_i32_64 : BitVec 32) : Fin 3 → Nat :=
  let c0_i32_68 : BitVec 32 := 0#32
  let c0_i32_73 : BitVec 32 := 0#32
  let arg0 : BitVec 32 := BitVec.ofNat 32 (i 0).val
  let c1_i32_62 : BitVec 32 := 1#32
  let v88 : BitVec 32 := Scalar.addi arg0 c1_i32_62
  let v90 : BitVec 32 := Scalar.addi v88 c0_i32_64
  let c256_i32_65 : BitVec 32 := 256#32
  let v91 : BitVec 32 := Scalar.muli v90 c256_i32_65
  let v92 : BitVec 32 := v91
  ![0, 0, v92.toNat]
def k0_off11 (i : grid0.Coords) : Fin 2 → Nat :=
  let c1_i32_63 : BitVec 32 := 1#32
  let arg0 : BitVec 32 := BitVec.ofNat 32 (i 0).val
  let c2_i32 : BitVec 32 := 2#32
  let c0_i32_17 : BitVec 32 := 0#32
  let v23 : BitVec 1 := Scalar.cmpi .eq c2_i32 c0_i32_17
  let c1_i32 : BitVec 32 := 1#32
  let v24 : BitVec 32 := Scalar.select v23 c1_i32 c2_i32
  let v25 : BitVec 32 := Scalar.remsi arg0 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let v89 : BitVec 32 := Scalar.subi c1_i32_63 v32
  let c1_i32_76 : BitVec 32 := 1#32
  ![v89.toNat, 1]
def k0_off12 (i : grid0.Coords) : Fin 4 → Nat :=
  let c1_i32_63 : BitVec 32 := 1#32
  let arg0 : BitVec 32 := BitVec.ofNat 32 (i 0).val
  let c2_i32 : BitVec 32 := 2#32
  let c0_i32_17 : BitVec 32 := 0#32
  let v23 : BitVec 1 := Scalar.cmpi .eq c2_i32 c0_i32_17
  let c1_i32 : BitVec 32 := 1#32
  let v24 : BitVec 32 := Scalar.select v23 c1_i32 c2_i32
  let v25 : BitVec 32 := Scalar.remsi arg0 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let v89 : BitVec 32 := Scalar.subi c1_i32_63 v32
  let c1_i32_75 : BitVec 32 := 1#32
  let c0_i32_77 : BitVec 32 := 0#32
  let c0_i32_78 : BitVec 32 := 0#32
  ![v89.toNat, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRefIdeal.lean ====
abbrev S8192x4096 : Shape := ⟨2, ![8192, 4096]⟩
abbrev S32x4096 : Shape := ⟨2, ![32, 4096]⟩
abbrev S2x4096x22016 : Shape := ⟨3, ![2, 4096, 22016]⟩
abbrev S2x11008x4096 : Shape := ⟨3, ![2, 11008, 4096]⟩
abbrev S1x4096x22016 : Shape := ⟨3, ![1, 4096, 22016]⟩
abbrev S4096x22016 : Shape := ⟨2, ![4096, 22016]⟩
abbrev S8192x22016 : Shape := ⟨2, ![8192, 22016]⟩
abbrev S8192x11008 : Shape := ⟨2, ![8192, 11008]⟩
abbrev S_ : Shape := ⟨0, ![]⟩
abbrev S32x22016 : Shape := ⟨2, ![32, 22016]⟩
abbrev S32x11008 : Shape := ⟨2, ![32, 11008]⟩
abbrev S1x11008x4096 : Shape := ⟨3, ![1, 11008, 4096]⟩
abbrev S11008x4096 : Shape := ⟨2, ![11008, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S2x4096x22016, .f32⟩
  | .hbm, ⟨3, _⟩ => ⟨S2x11008x4096, .f32⟩
  | .hbm, ⟨4, _⟩ => ⟨S8192x4096, .f32⟩
  | .hbm, ⟨5, _⟩ => ⟨S1x4096x22016, .f32⟩
  | .hbm, ⟨6, _⟩ => ⟨S4096x22016, .f32⟩
  | .hbm, ⟨7, _⟩ => ⟨S8192x22016, .f32⟩
  | .hbm, ⟨8, _⟩ => ⟨S8192x11008, .f32⟩
  | .hbm, ⟨9, _⟩ => ⟨S8192x11008, .f32⟩
  | .hbm, ⟨10, _⟩ => ⟨S8192x11008, .f32⟩
  | .hbm, ⟨11, _⟩ => ⟨S8192x11008, .f32⟩
  | .hbm, ⟨12, _⟩ => ⟨S_, .f32⟩
  | .hbm, ⟨13, _⟩ => ⟨S8192x11008, .f32⟩
  | .hbm, ⟨14, _⟩ => ⟨S8192x11008, .f32⟩
  | .hbm, ⟨15, _⟩ => ⟨S_, .f32⟩
  | .hbm, ⟨16, _⟩ => ⟨S8192x11008, .f32⟩
  | .hbm, ⟨17, _⟩ => ⟨S8192x11008, .f32⟩
  | .hbm, ⟨18, _⟩ => ⟨S8192x11008, .f32⟩
  | .hbm, ⟨19, _⟩ => ⟨S8192x11008, .f32⟩
  | .hbm, ⟨20, _⟩ => ⟨S8192x11008, .bf16⟩
  | .hbm, ⟨21, _⟩ => ⟨S32x4096, .f32⟩
  | .hbm, ⟨22, _⟩ => ⟨S1x4096x22016, .f32⟩
  | .hbm, ⟨23, _⟩ => ⟨S4096x22016, .f32⟩
  | .hbm, ⟨24, _⟩ => ⟨S32x22016, .f32⟩
  | .hbm, ⟨25, _⟩ => ⟨S32x11008, .f32⟩
  | .hbm, ⟨26, _⟩ => ⟨S32x11008, .f32⟩
  | .hbm, ⟨27, _⟩ => ⟨S32x11008, .f32⟩
  | .hbm, ⟨28, _⟩ => ⟨S32x11008, .f32⟩
  | .hbm, ⟨29, _⟩ => ⟨S_, .f32⟩
  | .hbm, ⟨30, _⟩ => ⟨S32x11008, .f32⟩
  | .hbm, ⟨31, _⟩ => ⟨S32x11008, .f32⟩
  | .hbm, ⟨32, _⟩ => ⟨S_, .f32⟩
  | .hbm, ⟨33, _⟩ => ⟨S32x11008, .f32⟩
  | .hbm, ⟨34, _⟩ => ⟨S32x11008, .f32⟩
  | .hbm, ⟨35, _⟩ => ⟨S32x11008, .f32⟩
  | .hbm, ⟨36, _⟩ => ⟨S32x11008, .f32⟩
  | .hbm, ⟨37, _⟩ => ⟨S32x11008, .bf16⟩
  | .hbm, ⟨38, _⟩ => ⟨S1x11008x4096, .f32⟩
  | .hbm, ⟨39, _⟩ => ⟨S11008x4096, .f32⟩
  | .hbm, ⟨40, _⟩ => ⟨S11008x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]
-- ==== Keys.lean ====
abbrev S4x2048x4096 : Shape := ⟨3, ![4, 2048, 4096]⟩
abbrev S8x4x4096 : Shape := ⟨3, ![8, 4, 4096]⟩
abbrev S4096x12320 : Shape := ⟨2, ![4096, 12320]⟩
abbrev S8192x4096 : Shape := ⟨2, ![8192, 4096]⟩
abbrev S32x4096 : Shape := ⟨2, ![32, 4096]⟩
abbrev S12320x4096 : Shape := ⟨2, ![12320, 4096]⟩
abbrev S8192x2048 : Shape := ⟨2, ![8192, 2048]⟩
abbrev S32x2048 : Shape := ⟨2, ![32, 2048]⟩
abbrev S1024x4096 : Shape := ⟨2, ![1024, 4096]⟩
abbrev S1024x512 : Shape := ⟨2, ![1024, 512]⟩
abbrev S32x512 : Shape := ⟨2, ![32, 512]⟩
abbrev S2x512x4096 : Shape := ⟨3, ![2, 512, 4096]⟩
abbrev S2 : Shape := ⟨1, ![2]⟩
abbrev S512x4096 : Shape := ⟨2, ![512, 4096]⟩
abbrev S1 : Shape := ⟨1, ![1]⟩
abbrev S_ : Shape := ⟨0, ![]⟩
abbrev S1x512x4096 : Shape := ⟨3, ![1, 512, 4096]⟩

abbrev nBuf : Space → Nat
  | .hbm => 10
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S8x4x4096, .f32⟩
  | .hbm, ⟨2, _⟩ => ⟨S4096x12320, .f32⟩
  | .hbm, ⟨3, _⟩ => ⟨S8192x4096, .f32⟩
  | .hbm, ⟨4, _⟩ => ⟨S8192x4096, .bf16⟩
  | .hbm, ⟨5, _⟩ => ⟨S32x4096, .f32⟩
  | .hbm, ⟨6, _⟩ => ⟨S32x4096, .bf16⟩
  | .hbm, ⟨7, _⟩ => ⟨S12320x4096, .f32⟩
  | .hbm, ⟨8, _⟩ => ⟨S8192x2048, .f32⟩
  | .hbm, ⟨9, _⟩ => ⟨S32x2048, .f32⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S1024x512, .f32⟩
  | .local _ .vmem, ⟨4, _⟩ => ⟨S1024x512, .f32⟩
  | .local _ .vmem, ⟨5, _⟩ => ⟨S32x512, .f32⟩
  | .local _ .vmem, ⟨6, _⟩ => ⟨S32x512, .f32⟩
  | .local _ .vmem, ⟨7, _⟩ => ⟨S2x512x4096, .f32⟩
  | .local _ .vmem, ⟨8, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_10 : BitVec 32 := 0#32
  let v18 : BitVec 1 := Scalar.cmpi .eq arg0 c0_i32_10
  let v19 : BitVec 32 := Scalar.extui v18
  let c0_i32_11 : BitVec 32 := 0#32
  let v20 : BitVec 1 := Scalar.cmpi .ne v19 c0_i32_11
  v20

def k0_mult1 : BitVec 32 :=
  let c2048_i32_28 : BitVec 32 := 2048#32
  c2048_i32_28
def k0_mult2 (i : grid0.Coords) : BitVec 32 :=
  let c2048_i32 : BitVec 32 := 2048#32
  let arg0 : BitVec 32 := BitVec.ofNat 32 (i 0).val
  let c512_i32 : BitVec 32 := 512#32
  let v21 : BitVec 32 := Scalar.muli arg0 c512_i32
  let v22 : BitVec 32 := Scalar.addi c2048_i32 v21
  v22
def k0_off1 (i : grid0.Coords) : Fin 1 → Nat :=
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  ![v17.toNat]
def k0_off2 (i : grid0.Coords) : Fin 3 → Nat :=
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  let c0_i32_12 : BitVec 32 := 0#32
  let c0_i32_13 : BitVec 32 := 0#32
  ![v17.toNat, 0, 0]
def k0_off3 (i : grid0.Coords) : Fin 2 → Nat :=
  let c2048_i32 : BitVec 32 := 2048#32
  let arg0 : BitVec 32 := BitVec.ofNat 32 (i 0).val
  let c512_i32 : BitVec 32 := 512#32
  let v21 : BitVec 32 := Scalar.muli arg0 c512_i32
  let v22 : BitVec 32 := Scalar.addi c2048_i32 v21
  let v23 : BitVec 32 := v22
  let c0_i32_14 : BitVec 32 := 0#32
  ![v23.toNat, 0]
def k0_off4 (i : grid0.Coords) : Fin 3 → Nat :=
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  let v29 : Index := Scalar.indexCast v17
  let c0_15 : Index := 0#32
  let c0_16 : Index := 0#32
  ![v29.toNat, 0, 0]
def k0_cond3 (i : grid0.Coords) : BitVec 1 :=
  let arg0 : BitVec 32 := BitVec.ofNat 32 (i 0).val
  let c1_i32_19 : BitVec 32 := 1#32
  let v36 : BitVec 32 := Scalar.addi arg0 c1_i32_19
  let c4_i32 : BitVec 32 := 4#32
  let v37 : BitVec 1 := Scalar.cmpi .slt v36 c4_i32
  let v38 : BitVec 32 := Scalar.extui v37
  let c0_i32_20 : BitVec 32 := 0#32
  let v39 : BitVec 1 := Scalar.cmpi .ne v38 c0_i32_20
  v39

def k0_mult3 (i : grid0.Coords) : BitVec 32 :=
  let c2048_i32_31 : BitVec 32 := 2048#32
  let arg0 : BitVec 32 := BitVec.ofNat 32 (i 0).val
  let c1_i32_28 : BitVec 32 := 1#32
  let v45 : BitVec 32 := Scalar.addi arg0 c1_i32_28
  let c512_i32_30 : BitVec 32 := 512#32
  let v47 : BitVec 32 := Scalar.muli v45 c512_i32_30
  let v48 : BitVec 32 := Scalar.addi c2048_i32_31 v47
  v48
def k0_off5 (i : grid0.Coords) : Fin 1 → Nat :=
  let c1_i32_29 : BitVec 32 := 1#32
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  let v46 : BitVec 32 := Scalar.subi c1_i32_29 v17
  ![v46.toNat]
def k0_off6 (i : grid0.Coords) : Fin 3 → Nat :=
  let c1_i32_29 : BitVec 32 := 1#32
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  let v46 : BitVec 32 := Scalar.subi c1_i32_29 v17
  let c0_i32_32 : BitVec 32 := 0#32
  let c0_i32_33 : BitVec 32 := 0#32
  ![v46.toNat, 0, 0]
def k0_off7 (i : grid0.Coords) : Fin 2 → Nat :=
  let c2048_i32_31 : BitVec 32 := 2048#32
  let arg0 : BitVec 32 := BitVec.ofNat 32 (i 0).val
  let c1_i32_28 : BitVec 32 := 1#32
  let v45 : BitVec 32 := Scalar.addi arg0 c1_i32_28
  let c512_i32_30 : BitVec 32 := 512#32
  let v47 : BitVec 32 := Scalar.muli v45 c512_i32_30
  let v48 : BitVec 32 := Scalar.addi c2048_i32_31 v47
  let v49 : BitVec 32 := v48
  let c0_i32_34 : BitVec 32 := 0#32
  ![v49.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== KeysRefIdeal.lean ====
abbrev S4x2048x4096 : Shape := ⟨3, ![4, 2048, 4096]⟩
abbrev S8x4x4096 : Shape := ⟨3, ![8, 4, 4096]⟩
abbrev S4096x12320 : Shape := ⟨2, ![4096, 12320]⟩
abbrev S4x2048x12320 : Shape := ⟨3, ![4, 2048, 12320]⟩
abbrev S4x2048x2048 : Shape := ⟨3, ![4, 2048, 2048]⟩
abbrev S8x4x12320 : Shape := ⟨3, ![8, 4, 12320]⟩
abbrev S8x4x2048 : Shape := ⟨3, ![8, 4, 2048]⟩
abbrev S8192x2048 : Shape := ⟨2, ![8192, 2048]⟩
abbrev S32x2048 : Shape := ⟨2, ![32, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x4x4096, .f32⟩
  | .hbm, ⟨2, _⟩ => ⟨S4096x12320, .f32⟩
  | .hbm, ⟨3, _⟩ => ⟨S4x2048x12320, .f32⟩
  | .hbm, ⟨4, _⟩ => ⟨S4x2048x2048, .f32⟩
  | .hbm, ⟨5, _⟩ => ⟨S8x4x12320, .f32⟩
  | .hbm, ⟨6, _⟩ => ⟨S8x4x2048, .f32⟩
  | .hbm, ⟨7, _⟩ => ⟨S8192x2048, .f32⟩
  | .hbm, ⟨8, _⟩ => ⟨S32x2048, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Vals.lean ====
abbrev S4x2048x4096 : Shape := ⟨3, ![4, 2048, 4096]⟩
abbrev S8x4x4096 : Shape := ⟨3, ![8, 4, 4096]⟩
abbrev S4096x12320 : Shape := ⟨2, ![4096, 12320]⟩
abbrev S8192x4096 : Shape := ⟨2, ![8192, 4096]⟩
abbrev S32x4096 : Shape := ⟨2, ![32, 4096]⟩
abbrev S12320x4096 : Shape := ⟨2, ![12320, 4096]⟩
abbrev S8192x2048 : Shape := ⟨2, ![8192, 2048]⟩
abbrev S32x2048 : Shape := ⟨2, ![32, 2048]⟩
abbrev S1024x4096 : Shape := ⟨2, ![1024, 4096]⟩
abbrev S1024x512 : Shape := ⟨2, ![1024, 512]⟩
abbrev S32x512 : Shape := ⟨2, ![32, 512]⟩
abbrev S2x512x4096 : Shape := ⟨3, ![2, 512, 4096]⟩
abbrev S2 : Shape := ⟨1, ![2]⟩
abbrev S512x4096 : Shape := ⟨2, ![512, 4096]⟩
abbrev S1 : Shape := ⟨1, ![1]⟩
abbrev S_ : Shape := ⟨0, ![]⟩
abbrev S1x512x4096 : Shape := ⟨3, ![1, 512, 4096]⟩

abbrev nBuf : Space → Nat
  | .hbm => 10
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S8x4x4096, .f32⟩
  | .hbm, ⟨2, _⟩ => ⟨S4096x12320, .f32⟩
  | .hbm, ⟨3, _⟩ => ⟨S8192x4096, .f32⟩
  | .hbm, ⟨4, _⟩ => ⟨S8192x4096, .bf16⟩
  | .hbm, ⟨5, _⟩ => ⟨S32x4096, .f32⟩
  | .hbm, ⟨6, _⟩ => ⟨S32x4096, .bf16⟩
  | .hbm, ⟨7, _⟩ => ⟨S12320x4096, .f32⟩
  | .hbm, ⟨8, _⟩ => ⟨S8192x2048, .f32⟩
  | .hbm, ⟨9, _⟩ => ⟨S32x2048, .f32⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S1024x512, .f32⟩
  | .local _ .vmem, ⟨4, _⟩ => ⟨S1024x512, .f32⟩
  | .local _ .vmem, ⟨5, _⟩ => ⟨S32x512, .f32⟩
  | .local _ .vmem, ⟨6, _⟩ => ⟨S32x512, .f32⟩
  | .local _ .vmem, ⟨7, _⟩ => ⟨S2x512x4096, .f32⟩
  | .local _ .vmem, ⟨8, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_10 : BitVec 32 := 0#32
  let v18 : BitVec 1 := Scalar.cmpi .eq arg0 c0_i32_10
  let v19 : BitVec 32 := Scalar.extui v18
  let c0_i32_11 : BitVec 32 := 0#32
  let v20 : BitVec 1 := Scalar.cmpi .ne v19 c0_i32_11
  v20

def k0_mult1 : BitVec 32 :=
  let c4096_i32_28 : BitVec 32 := 4096#32
  c4096_i32_28
def k0_mult2 (i : grid0.Coords) : BitVec 32 :=
  let c4096_i32 : BitVec 32 := 4096#32
  let arg0 : BitVec 32 := BitVec.ofNat 32 (i 0).val
  let c512_i32 : BitVec 32 := 512#32
  let v21 : BitVec 32 := Scalar.muli arg0 c512_i32
  let v22 : BitVec 32 := Scalar.addi c4096_i32 v21
  v22
def k0_off1 (i : grid0.Coords) : Fin 1 → Nat :=
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  ![v17.toNat]
def k0_off2 (i : grid0.Coords) : Fin 3 → Nat :=
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  let c0_i32_12 : BitVec 32 := 0#32
  let c0_i32_13 : BitVec 32 := 0#32
  ![v17.toNat, 0, 0]
def k0_off3 (i : grid0.Coords) : Fin 2 → Nat :=
  let c4096_i32 : BitVec 32 := 4096#32
  let arg0 : BitVec 32 := BitVec.ofNat 32 (i 0).val
  let c512_i32 : BitVec 32 := 512#32
  let v21 : BitVec 32 := Scalar.muli arg0 c512_i32
  let v22 : BitVec 32 := Scalar.addi c4096_i32 v21
  let v23 : BitVec 32 := v22
  let c0_i32_14 : BitVec 32 := 0#32
  ![v23.toNat, 0]
def k0_off4 (i : grid0.Coords) : Fin 3 → Nat :=
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  let v29 : Index := Scalar.indexCast v17
  let c0_15 : Index := 0#32
  let c0_16 : Index := 0#32
  ![v29.toNat, 0, 0]
def k0_cond3 (i : grid0.Coords) : BitVec 1 :=
  let arg0 : BitVec 32 := BitVec.ofNat 32 (i 0).val
  let c1_i32_19 : BitVec 32 := 1#32
  let v36 : BitVec 32 := Scalar.addi arg0 c1_i32_19
  let c4_i32 : BitVec 32 := 4#32
  let v37 : BitVec 1 := Scalar.cmpi .slt v36 c4_i32
  let v38 : BitVec 32 := Scalar.extui v37
  let c0_i32_20 : BitVec 32 := 0#32
  let v39 : BitVec 1 := Scalar.cmpi .ne v38 c0_i32_20
  v39

def k0_mult3 (i : grid0.Coords) : BitVec 32 :=
  let c4096_i32_31 : BitVec 32 := 4096#32
  let arg0 : BitVec 32 := BitVec.ofNat 32 (i 0).val
  let c1_i32_28 : BitVec 32 := 1#32
  let v45 : BitVec 32 := Scalar.addi arg0 c1_i32_28
  let c512_i32_30 : BitVec 32 := 512#32
  let v47 : BitVec 32 := Scalar.muli v45 c512_i32_30
  let v48 : BitVec 32 := Scalar.addi c4096_i32_31 v47
  v48
def k0_off5 (i : grid0.Coords) : Fin 1 → Nat :=
  let c1_i32_29 : BitVec 32 := 1#32
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  let v46 : BitVec 32 := Scalar.subi c1_i32_29 v17
  ![v46.toNat]
def k0_off6 (i : grid0.Coords) : Fin 3 → Nat :=
  let c1_i32_29 : BitVec 32 := 1#32
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  let v46 : BitVec 32 := Scalar.subi c1_i32_29 v17
  let c0_i32_32 : BitVec 32 := 0#32
  let c0_i32_33 : BitVec 32 := 0#32
  ![v46.toNat, 0, 0]
def k0_off7 (i : grid0.Coords) : Fin 2 → Nat :=
  let c4096_i32_31 : BitVec 32 := 4096#32
  let arg0 : BitVec 32 := BitVec.ofNat 32 (i 0).val
  let c1_i32_28 : BitVec 32 := 1#32
  let v45 : BitVec 32 := Scalar.addi arg0 c1_i32_28
  let c512_i32_30 : BitVec 32 := 512#32
  let v47 : BitVec 32 := Scalar.muli v45 c512_i32_30
  let v48 : BitVec 32 := Scalar.addi c4096_i32_31 v47
  let v49 : BitVec 32 := v48
  let c0_i32_34 : BitVec 32 := 0#32
  ![v49.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ValsRefIdeal.lean ====
abbrev S4x2048x4096 : Shape := ⟨3, ![4, 2048, 4096]⟩
abbrev S8x4x4096 : Shape := ⟨3, ![8, 4, 4096]⟩
abbrev S4096x12320 : Shape := ⟨2, ![4096, 12320]⟩
abbrev S4x2048x12320 : Shape := ⟨3, ![4, 2048, 12320]⟩
abbrev S4x2048x2048 : Shape := ⟨3, ![4, 2048, 2048]⟩
abbrev S8x4x12320 : Shape := ⟨3, ![8, 4, 12320]⟩
abbrev S8x4x2048 : Shape := ⟨3, ![8, 4, 2048]⟩
abbrev S8192x2048 : Shape := ⟨2, ![8192, 2048]⟩
abbrev S32x2048 : Shape := ⟨2, ![32, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x4x4096, .f32⟩
  | .hbm, ⟨2, _⟩ => ⟨S4096x12320, .f32⟩
  | .hbm, ⟨3, _⟩ => ⟨S4x2048x12320, .f32⟩
  | .hbm, ⟨4, _⟩ => ⟨S4x2048x2048, .f32⟩
  | .hbm, ⟨5, _⟩ => ⟨S8x4x12320, .f32⟩
  | .hbm, ⟨6, _⟩ => ⟨S8x4x2048, .f32⟩
  | .hbm, ⟨7, _⟩ => ⟨S8192x2048, .f32⟩
  | .hbm, ⟨8, _⟩ => ⟨S32x2048, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Conv.lean ====
abbrev S4x2048x4096 : Shape := ⟨3, ![4, 2048, 4096]⟩
abbrev S8x4x4096 : Shape := ⟨3, ![8, 4, 4096]⟩
abbrev S4096x12320 : Shape := ⟨2, ![4096, 12320]⟩
abbrev S8x3x4096 : Shape := ⟨3, ![8, 3, 4096]⟩
abbrev S8192x4096 : Shape := ⟨2, ![8192, 4096]⟩
abbrev S32x4096 : Shape := ⟨2, ![32, 4096]⟩
abbrev S12320x4096 : Shape := ⟨2, ![12320, 4096]⟩
abbrev S1024x4096 : Shape := ⟨2, ![1024, 4096]⟩
abbrev S1024x512 : Shape := ⟨2, ![1024, 512]⟩
abbrev S32x512 : Shape := ⟨2, ![32, 512]⟩
abbrev S2x512x4096 : Shape := ⟨3, ![2, 512, 4096]⟩
abbrev S2 : Shape := ⟨1, ![2]⟩
abbrev S512x4096 : Shape := ⟨2, ![512, 4096]⟩
abbrev S1 : Shape := ⟨1, ![1]⟩
abbrev S_ : Shape := ⟨0, ![]⟩
abbrev S1x512x4096 : Shape := ⟨3, ![1, 512, 4096]⟩
abbrev S4x3x4096 : Shape := ⟨3, ![4, 3, 4096]⟩
abbrev S8x7x4096 : Shape := ⟨3, ![8, 7, 4096]⟩

abbrev nBuf : Space → Nat
  | .hbm => 16
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S8x4x4096, .f32⟩
  | .hbm, ⟨2, _⟩ => ⟨S4096x12320, .f32⟩
  | .hbm, ⟨3, _⟩ => ⟨S8x3x4096, .f32⟩
  | .hbm, ⟨4, _⟩ => ⟨S8192x4096, .f32⟩
  | .hbm, ⟨5, _⟩ => ⟨S8192x4096, .bf16⟩
  | .hbm, ⟨6, _⟩ => ⟨S32x4096, .f32⟩
  | .hbm, ⟨7, _⟩ => ⟨S32x4096, .bf16⟩
  | .hbm, ⟨8, _⟩ => ⟨S12320x4096, .f32⟩
  | .hbm, ⟨9, _⟩ => ⟨S8192x4096, .f32⟩
  | .hbm, ⟨10, _⟩ => ⟨S32x4096, .f32⟩
  | .hbm, ⟨11, _⟩ => ⟨S4x2048x4096, .f32⟩
  | .hbm, ⟨12, _⟩ => ⟨S4x3x4096, .f32⟩
  | .hbm, ⟨13, _⟩ => ⟨S8x4x4096, .f32⟩
  | .hbm, ⟨14, _⟩ => ⟨S8x7x4096, .f32⟩
  | .hbm, ⟨15, _⟩ => ⟨S8x3x4096, .f32⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S1024x512, .f32⟩
  | .local _ .vmem, ⟨4, _⟩ => ⟨S1024x512, .f32⟩
  | .local _ .vmem, ⟨5, _⟩ => ⟨S32x512, .f32⟩
  | .local _ .vmem, ⟨6, _⟩ => ⟨S32x512, .f32⟩
  | .local _ .vmem, ⟨7, _⟩ => ⟨S2x512x4096, .f32⟩
  | .local _ .vmem, ⟨8, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_10 : BitVec 32 := 0#32
  let v18 : BitVec 1 := Scalar.cmpi .eq arg0 c0_i32_10
  let v19 : BitVec 32 := Scalar.extui v18
  let c0_i32_11 : BitVec 32 := 0#32
  let v20 : BitVec 1 := Scalar.cmpi .ne v19 c0_i32_11
  v20

def k0_mult1 : BitVec 32 :=
  let c8192_i32_28 : BitVec 32 := 8192#32
  c8192_i32_28
def k0_mult2 (i : grid0.Coords) : BitVec 32 :=
  let c8192_i32 : BitVec 32 := 8192#32
  let arg0 : BitVec 32 := BitVec.ofNat 32 (i 0).val
  let c512_i32 : BitVec 32 := 512#32
  let v21 : BitVec 32 := Scalar.muli arg0 c512_i32
  let v22 : BitVec 32 := Scalar.addi c8192_i32 v21
  v22
def k0_off1 (i : grid0.Coords) : Fin 1 → Nat :=
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  ![v17.toNat]
def k0_off2 (i : grid0.Coords) : Fin 3 → Nat :=
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  let c0_i32_12 : BitVec 32 := 0#32
  let c0_i32_13 : BitVec 32 := 0#32
  ![v17.toNat, 0, 0]
def k0_off3 (i : grid0.Coords) : Fin 2 → Nat :=
  let c8192_i32 : BitVec 32 := 8192#32
  let arg0 : BitVec 32 := BitVec.ofNat 32 (i 0).val
  let c512_i32 : BitVec 32 := 512#32
  let v21 : BitVec 32 := Scalar.muli arg0 c512_i32
  let v22 : BitVec 32 := Scalar.addi c8192_i32 v21
  let v23 : BitVec 32 := v22
  let c0_i32_14 : BitVec 32 := 0#32
  ![v23.toNat, 0]
def k0_off4 (i : grid0.Coords) : Fin 3 → Nat :=
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  let v29 : Index := Scalar.indexCast v17
  let c0_15 : Index := 0#32
  let c0_16 : Index := 0#32
  ![v29.toNat, 0, 0]
def k0_cond3 (i : grid0.Coords) : BitVec 1 :=
  let arg0 : BitVec 32 := BitVec.ofNat 32 (i 0).val
  let c1_i32_19 : BitVec 32 := 1#32
  let v36 : BitVec 32 := Scalar.addi arg0 c1_i32_19
  let c8_i32 : BitVec 32 := 8#32
  let v37 : BitVec 1 := Scalar.cmpi .slt v36 c8_i32
  let v38 : BitVec 32 := Scalar.extui v37
  let c0_i32_20 : BitVec 32 := 0#32
  let v39 : BitVec 1 := Scalar.cmpi .ne v38 c0_i32_20
  v39

def k0_mult3 (i : grid0.Coords) : BitVec 32 :=
  let c8192_i32_31 : BitVec 32 := 8192#32
  let arg0 : BitVec 32 := BitVec.ofNat 32 (i 0).val
  let c1_i32_28 : BitVec 32 := 1#32
  let v45 : BitVec 32 := Scalar.addi arg0 c1_i32_28
  let c512_i32_30 : BitVec 32 := 512#32
  let v47 : BitVec 32 := Scalar.muli v45 c512_i32_30
  let v48 : BitVec 32 := Scalar.addi c8192_i32_31 v47
  v48
def k0_off5 (i : grid0.Coords) : Fin 1 → Nat :=
  let c1_i32_29 : BitVec 32 := 1#32
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  let v46 : BitVec 32 := Scalar.subi c1_i32_29 v17
  ![v46.toNat]
def k0_off6 (i : grid0.Coords) : Fin 3 → Nat :=
  let c1_i32_29 : BitVec 32 := 1#32
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  let v46 : BitVec 32 := Scalar.subi c1_i32_29 v17
  let c0_i32_32 : BitVec 32 := 0#32
  let c0_i32_33 : BitVec 32 := 0#32
  ![v46.toNat, 0, 0]
def k0_off7 (i : grid0.Coords) : Fin 2 → Nat :=
  let c8192_i32_31 : BitVec 32 := 8192#32
  let arg0 : BitVec 32 := BitVec.ofNat 32 (i 0).val
  let c1_i32_28 : BitVec 32 := 1#32
  let v45 : BitVec 32 := Scalar.addi arg0 c1_i32_28
  let c512_i32_30 : BitVec 32 := 512#32
  let v47 : BitVec 32 := Scalar.muli v45 c512_i32_30
  let v48 : BitVec 32 := Scalar.addi c8192_i32_31 v47
  let v49 : BitVec 32 := v48
  let c0_i32_34 : BitVec 32 := 0#32
  ![v49.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ConvRefIdeal.lean ====
abbrev S4x2048x4096 : Shape := ⟨3, ![4, 2048, 4096]⟩
abbrev S8x4x4096 : Shape := ⟨3, ![8, 4, 4096]⟩
abbrev S4096x12320 : Shape := ⟨2, ![4096, 12320]⟩
abbrev S8x3x4096 : Shape := ⟨3, ![8, 3, 4096]⟩
abbrev S_ : Shape := ⟨0, ![]⟩
abbrev S4x3x4096 : Shape := ⟨3, ![4, 3, 4096]⟩
abbrev S4x2048x12320 : Shape := ⟨3, ![4, 2048, 12320]⟩
abbrev S4x2051x4096 : Shape := ⟨3, ![4, 2051, 4096]⟩
abbrev S8x4x12320 : Shape := ⟨3, ![8, 4, 12320]⟩
abbrev S8x7x4096 : Shape := ⟨3, ![8, 7, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x4x4096, .f32⟩
  | .hbm, ⟨2, _⟩ => ⟨S4096x12320, .f32⟩
  | .hbm, ⟨3, _⟩ => ⟨S8x3x4096, .f32⟩
  | .hbm, ⟨4, _⟩ => ⟨S_, .f32⟩
  | .hbm, ⟨5, _⟩ => ⟨S4x3x4096, .f32⟩
  | .hbm, ⟨6, _⟩ => ⟨S4x2048x12320, .f32⟩
  | .hbm, ⟨7, _⟩ => ⟨S4x2048x4096, .f32⟩
  | .hbm, ⟨8, _⟩ => ⟨S4x2051x4096, .f32⟩
  | .hbm, ⟨9, _⟩ => ⟨S4x3x4096, .f32⟩
  | .hbm, ⟨10, _⟩ => ⟨S8x4x12320, .f32⟩
  | .hbm, ⟨11, _⟩ => ⟨S8x4x4096, .f32⟩
  | .hbm, ⟨12, _⟩ => ⟨S8x7x4096, .f32⟩
  | .hbm, ⟨13, _⟩ => ⟨S8x3x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Final.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x4096, .f32⟩
  | .hbm, ⟨25, _⟩ => ⟨S8192x4096, .f32⟩
  | .hbm, ⟨26, _⟩ => ⟨S1x4096, .f32⟩
  | .hbm, ⟨27, _⟩ => ⟨S8192x4096, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== FinalS.lean ====
abbrev S32x4096 : Shape := ⟨2, ![32, 4096]⟩
abbrev S4096 : Shape := ⟨1, ![4096]⟩
abbrev S1x4096 : Shape := ⟨2, ![1, 4096]⟩
abbrev S32 : Shape := ⟨1, ![32]⟩
abbrev S32x1 : Shape := ⟨2, ![32, 1]⟩

abbrev nBuf : Space → Nat
  | .hbm => 6
  | .vmem => 4
  | .smem => 0
  | _ => 0

abbrev bufTy : (tb : Table) → Fin (tcTables nBuf tb) → BufTy
  | .hbm, ⟨0, _⟩ => ⟨S32x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S32x4096, .f32⟩
  | .local _ .vmem, ⟨0, _⟩ => ⟨S32x4096, .f32⟩
  | .local _ .vmem, ⟨1, _⟩ => ⟨S1x4096, .f32⟩
  | .local _ .vmem, ⟨2, _⟩ => ⟨S1x4096, .f32⟩
  | .local _ .vmem, ⟨3, _⟩ => ⟨S32x4096, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== FinalSRefIdeal.lean ====
abbrev S32x4096 : Shape := ⟨2, ![32, 4096]⟩
abbrev S4096 : Shape := ⟨1, ![4096]⟩
abbrev S_ : Shape := ⟨0, ![]⟩
abbrev S32 : Shape := ⟨1, ![32]⟩
abbrev S32x1 : Shape := ⟨2, ![32, 1]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S32, .f32⟩
  | .hbm, ⟨5, _⟩ => ⟨S32x1, .f32⟩
  | .hbm, ⟨6, _⟩ => ⟨S_, .f32⟩
  | .hbm, ⟨7, _⟩ => ⟨S32x1, .f32⟩
  | .hbm, ⟨8, _⟩ => ⟨S32x1, .f32⟩
  | .hbm, ⟨9, _⟩ => ⟨S32x4096, .f32⟩
  | .hbm, ⟨10, _⟩ => ⟨S32x4096, .f32⟩
  | .hbm, ⟨11, _⟩ => ⟨S32x4096, .f32⟩
  | .hbm, ⟨12, _⟩ => ⟨S_, .f32⟩
  | .hbm, ⟨13, _⟩ => ⟨S32, .f32⟩
  | .hbm, ⟨14, _⟩ => ⟨S32x1, .f32⟩
  | .hbm, ⟨15, _⟩ => ⟨S_, .f32⟩
  | .hbm, ⟨16, _⟩ => ⟨S32x1, .f32⟩
  | .hbm, ⟨17, _⟩ => ⟨S32x1, .f32⟩
  | .hbm, ⟨18, _⟩ => ⟨S32x4096, .f32⟩
  | .hbm, ⟨19, _⟩ => ⟨S32x4096, .f32⟩
  | .hbm, ⟨20, _⟩ => ⟨S_, .f32⟩
  | .hbm, ⟨21, _⟩ => ⟨S32x1, .f32⟩
  | .hbm, ⟨22, _⟩ => ⟨S32x1, .f32⟩
  | .hbm, ⟨23, _⟩ => ⟨S32x1, .f32⟩
  | .hbm, ⟨24, _⟩ => ⟨S32x4096, .f32⟩
  | .hbm, ⟨25, _⟩ => ⟨S32x4096, .f32⟩
  | .hbm, ⟨26, _⟩ => ⟨S1x4096, .f32⟩
  | .hbm, ⟨27, _⟩ => ⟨S32x4096, .f32⟩
  | .hbm, ⟨28, _⟩ => ⟨S32x4096, .f32⟩
  | .hbm, ⟨29, _⟩ => ⟨S1x4096, .f32⟩
  | .hbm, ⟨30, _⟩ => ⟨S32x4096, .f32⟩
  | .hbm, ⟨31, _⟩ => ⟨S32x4096, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Pool.lean ====
abbrev S8192x4096 : Shape := ⟨2, ![8192, 4096]⟩
abbrev S32x4096 : Shape := ⟨2, ![32, 4096]⟩
abbrev S4096x8208 : Shape := ⟨2, ![4096, 8208]⟩
abbrev S8x15x2048 : Shape := ⟨3, ![8, 15, 2048]⟩
abbrev S8208x4096 : Shape := ⟨2, ![8208, 4096]⟩
abbrev S8192x2048 : Shape := ⟨2, ![8192, 2048]⟩
abbrev S32x2048 : Shape := ⟨2, ![32, 2048]⟩
abbrev S1024x4096 : Shape := ⟨2, ![1024, 4096]⟩
abbrev S1024x512 : Shape := ⟨2, ![1024, 512]⟩
abbrev S32x512 : Shape := ⟨2, ![32, 512]⟩
abbrev S2x512x4096 : Shape := ⟨3, ![2, 512, 4096]⟩
abbrev S2 : Shape := ⟨1, ![2]⟩
abbrev S512x4096 : Shape := ⟨2, ![512, 4096]⟩
abbrev S1 : Shape := ⟨1, ![1]⟩
abbrev S_ : Shape := ⟨0, ![]⟩
abbrev S1x512x4096 : Shape := ⟨3, ![1, 512, 4096]⟩
abbrev S4x2048x2048 : Shape := ⟨3, ![4, 2048, 2048]⟩
abbrev S4x15x2048 : Shape := ⟨3, ![4, 15, 2048]⟩
abbrev S8x4x2048 : Shape := ⟨3, ![8, 4, 2048]⟩
abbrev S8x19x2048 : Shape := ⟨3, ![8, 19, 2048]⟩

abbrev nBuf : Space → Nat
  | .hbm => 12
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S4096x8208, .f32⟩
  | .hbm, ⟨3, _⟩ => ⟨S8x15x2048, .f32⟩
  | .hbm, ⟨4, _⟩ => ⟨S8208x4096, .f32⟩
  | .hbm, ⟨5, _⟩ => ⟨S8192x2048, .f32⟩
  | .hbm, ⟨6, _⟩ => ⟨S32x2048, .f32⟩
  | .hbm, ⟨7, _⟩ => ⟨S4x2048x2048, .f32⟩
  | .hbm, ⟨8, _⟩ => ⟨S4x15x2048, .f32⟩
  | .hbm, ⟨9, _⟩ => ⟨S8x4x2048, .f32⟩
  | .hbm, ⟨10, _⟩ => ⟨S8x19x2048, .f32⟩
  | .hbm, ⟨11, _⟩ => ⟨S8x15x2048, .f32⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S1024x512, .f32⟩
  | .local _ .vmem, ⟨4, _⟩ => ⟨S1024x512, .f32⟩
  | .local _ .vmem, ⟨5, _⟩ => ⟨S32x512, .f32⟩
  | .local _ .vmem, ⟨6, _⟩ => ⟨S32x512, .f32⟩
  | .local _ .vmem, ⟨7, _⟩ => ⟨S2x512x4096, .f32⟩
  | .local _ .vmem, ⟨8, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_10 : BitVec 32 := 0#32
  let v17 : BitVec 1 := Scalar.cmpi .eq arg0 c0_i32_10
  let v18 : BitVec 32 := Scalar.extui v17
  let c0_i32_11 : BitVec 32 := 0#32
  let v19 : BitVec 1 := Scalar.cmpi .ne v18 c0_i32_11
  v19

def k0_mult1 : BitVec 32 :=
  let c0_i32_29 : BitVec 32 := 0#32
  c0_i32_29
def k0_mult2 (i : grid0.Coords) : BitVec 32 :=
  let c0_i32_12 : BitVec 32 := 0#32
  let arg0 : BitVec 32 := BitVec.ofNat 32 (i 0).val
  let c512_i32 : BitVec 32 := 512#32
  let v20 : BitVec 32 := Scalar.muli arg0 c512_i32
  let v21 : BitVec 32 := Scalar.addi c0_i32_12 v20
  v21
def k0_off1 (i : grid0.Coords) : Fin 1 → Nat :=
  let arg0 : BitVec 32 := BitVec.ofNat 32 (i 0).val
  let c2_i32 : BitVec 32 := 2#32
  let c0_i32_6 : BitVec 32 := 0#32
  let v7 : BitVec 1 := Scalar.cmpi .eq c2_i32 c0_i32_6
  let c1_i32 : BitVec 32 := 1#32
  let v8 : BitVec 32 := Scalar.select v7 c1_i32 c2_i32
  let v9 : BitVec 32 := Scalar.remsi arg0 v8
  let c0_i32_8 : BitVec 32 := 0#32
  let v11 : BitVec 1 := Scalar.cmpi .slt v9 c0_i32_8
  let c0_i32_9 : BitVec 32 := 0#32
  let v12 : BitVec 1 := Scalar.cmpi .slt v8 c0_i32_9
  let v13 : BitVec 1 := Scalar.xori v11 v12
  let c0_i32_7 : BitVec 32 := 0#32
  let v10 : BitVec 1 := Scalar.cmpi .ne v9 c0_i32_7
  let v14 : BitVec 1 := Scalar.andi v13 v10
  let v15 : BitVec 32 := Scalar.addi v9 v8
  let v16 : BitVec 32 := Scalar.select v14 v15 v9
  ![v16.toNat]
def k0_off2 (i : grid0.Coords) : Fin 3 → Nat :=
  let arg0 : BitVec 32 := BitVec.ofNat 32 (i 0).val
  let c2_i32 : BitVec 32 := 2#32
  let c0_i32_6 : BitVec 32 := 0#32
  let v7 : BitVec 1 := Scalar.cmpi .eq c2_i32 c0_i32_6
  let c1_i32 : BitVec 32 := 1#32
  let v8 : BitVec 32 := Scalar.select v7 c1_i32 c2_i32
  let v9 : BitVec 32 := Scalar.remsi arg0 v8
  let c0_i32_8 : BitVec 32 := 0#32
  let v11 : BitVec 1 := Scalar.cmpi .slt v9 c0_i32_8
  let c0_i32_9 : BitVec 32 := 0#32
  let v12 : BitVec 1 := Scalar.cmpi .slt v8 c0_i32_9
  let v13 : BitVec 1 := Scalar.xori v11 v12
  let c0_i32_7 : BitVec 32 := 0#32
  let v10 : BitVec 1 := Scalar.cmpi .ne v9 c0_i32_7
  let v14 : BitVec 1 := Scalar.andi v13 v10
  let v15 : BitVec 32 := Scalar.addi v9 v8
  let v16 : BitVec 32 := Scalar.select v14 v15 v9
  let c0_i32_13 : BitVec 32 := 0#32
  let c0_i32_14 : BitVec 32 := 0#32
  ![v16.toNat, 0, 0]
def k0_off3 (i : grid0.Coords) : Fin 2 → Nat :=
  let c0_i32_12 : BitVec 32 := 0#32
  let arg0 : BitVec 32 := BitVec.ofNat 32 (i 0).val
  let c512_i32 : BitVec 32 := 512#32
  let v20 : BitVec 32 := Scalar.muli arg0 c512_i32
  let v21 : BitVec 32 := Scalar.addi c0_i32_12 v20
  let v22 : BitVec 32 := v21
  let c0_i32_15 : BitVec 32 := 0#32
  ![v22.toNat, 0]
def k0_off4 (i : grid0.Coords) : Fin 3 → Nat :=
  let arg0 : BitVec 32 := BitVec.ofNat 32 (i 0).val
  let c2_i32 : BitVec 32 := 2#32
  let c0_i32_6 : BitVec 32 := 0#32
  let v7 : BitVec 1 := Scalar.cmpi .eq c2_i32 c0_i32_6
  let c1_i32 : BitVec 32 := 1#32
  let v8 : BitVec 32 := Scalar.select v7 c1_i32 c2_i32
  let v9 : BitVec 32 := Scalar.remsi arg0 v8
  let c0_i32_8 : BitVec 32 := 0#32
  let v11 : BitVec 1 := Scalar.cmpi .slt v9 c0_i32_8
  let c0_i32_9 : BitVec 32 := 0#32
  let v12 : BitVec 1 := Scalar.cmpi .slt v8 c0_i32_9
  let v13 : BitVec 1 := Scalar.xori v11 v12
  let c0_i32_7 : BitVec 32 := 0#32
  let v10 : BitVec 1 := Scalar.cmpi .ne v9 c0_i32_7
  let v14 : BitVec 1 := Scalar.andi v13 v10
  let v15 : BitVec 32 := Scalar.addi v9 v8
  let v16 : BitVec 32 := Scalar.select v14 v15 v9
  let v28 : Index := Scalar.indexCast v16
  let c0_16 : Index := 0#32
  let c0_17 : Index := 0#32
  ![v28.toNat, 0, 0]
def k0_cond3 (i : grid0.Coords) : BitVec 1 :=
  let arg0 : BitVec 32 := BitVec.ofNat 32 (i 0).val
  let c1_i32_20 : BitVec 32 := 1#32
  let v35 : BitVec 32 := Scalar.addi arg0 c1_i32_20
  let c4_i32 : BitVec 32 := 4#32
  let v36 : BitVec 1 := Scalar.cmpi .slt v35 c4_i32
  let v37 : BitVec 32 := Scalar.extui v36
  let c0_i32_21 : BitVec 32 := 0#32
  let v38 : BitVec 1 := Scalar.cmpi .ne v37 c0_i32_21
  v38

def k0_mult3 (i : grid0.Coords) : BitVec 32 :=
  let c0_i32_32 : BitVec 32 := 0#32
  let arg0 : BitVec 32 := BitVec.ofNat 32 (i 0).val
  let c1_i32_29 : BitVec 32 := 1#32
  let v43 : BitVec 32 := Scalar.addi arg0 c1_i32_29
  let c512_i32_31 : BitVec 32 := 512#32
  let v45 : BitVec 32 := Scalar.muli v43 c512_i32_31
  let v46 : BitVec 32 := Scalar.addi c0_i32_32 v45
  v46
def k0_off5 (i : grid0.Coords) : Fin 1 → Nat :=
  let c1_i32_30 : BitVec 32 := 1#32
  let arg0 : BitVec 32 := BitVec.ofNat 32 (i 0).val
  let c2_i32 : BitVec 32 := 2#32
  let c0_i32_6 : BitVec 32 := 0#32
  let v7 : BitVec 1 := Scalar.cmpi .eq c2_i32 c0_i32_6
  let c1_i32 : BitVec 32 := 1#32
  let v8 : BitVec 32 := Scalar.select v7 c1_i32 c2_i32
  let v9 : BitVec 32 := Scalar.remsi arg0 v8
  let c0_i32_8 : BitVec 32 := 0#32
  let v11 : BitVec 1 := Scalar.cmpi .slt v9 c0_i32_8
  let c0_i32_9 : BitVec 32 := 0#32
  let v12 : BitVec 1 := Scalar.cmpi .slt v8 c0_i32_9
  let v13 : BitVec 1 := Scalar.xori v11 v12
  let c0_i32_7 : BitVec 32 := 0#32
  let v10 : BitVec 1 := Scalar.cmpi .ne v9 c0_i32_7
  let v14 : BitVec 1 := Scalar.andi v13 v10
  let v15 : BitVec 32 := Scalar.addi v9 v8
  let v16 : BitVec 32 := Scalar.select v14 v15 v9
  let v44 : BitVec 32 := Scalar.subi c1_i32_30 v16
  ![v44.toNat]
def k0_off6 (i : grid0.Coords) : Fin 3 → Nat :=
  let c1_i32_30 : BitVec 32 := 1#32
  let arg0 : BitVec 32 := BitVec.ofNat 32 (i 0).val
  let c2_i32 : BitVec 32 := 2#32
  let c0_i32_6 : BitVec 32 := 0#32
  let v7 : BitVec 1 := Scalar.cmpi .eq c2_i32 c0_i32_6
  let c1_i32 : BitVec 32 := 1#32
  let v8 : BitVec 32 := Scalar.select v7 c1_i32 c2_i32
  let v9 : BitVec 32 := Scalar.remsi arg0 v8
  let c0_i32_8 : BitVec 32 := 0#32
  let v11 : BitVec 1 := Scalar.cmpi .slt v9 c0_i32_8
  let c0_i32_9 : BitVec 32 := 0#32
  let v12 : BitVec 1 := Scalar.cmpi .slt v8 c0_i32_9
  let v13 : BitVec 1 := Scalar.xori v11 v12
  let c0_i32_7 : BitVec 32 := 0#32
  let v10 : BitVec 1 := Scalar.cmpi .ne v9 c0_i32_7
  let v14 : BitVec 1 := Scalar.andi v13 v10
  let v15 : BitVec 32 := Scalar.addi v9 v8
  let v16 : BitVec 32 := Scalar.select v14 v15 v9
  let v44 : BitVec 32 := Scalar.subi c1_i32_30 v16
  let c0_i32_33 : BitVec 32 := 0#32
  let c0_i32_34 : BitVec 32 := 0#32
  ![v44.toNat, 0, 0]
def k0_off7 (i : grid0.Coords) : Fin 2 → Nat :=
  let c0_i32_32 : BitVec 32 := 0#32
  let arg0 : BitVec 32 := BitVec.ofNat 32 (i 0).val
  let c1_i32_29 : BitVec 32 := 1#32
  let v43 : BitVec 32 := Scalar.addi arg0 c1_i32_29
  let c512_i32_31 : BitVec 32 := 512#32
  let v45 : BitVec 32 := Scalar.muli v43 c512_i32_31
  let v46 : BitVec 32 := Scalar.addi c0_i32_32 v45
  let v47 : BitVec 32 := v46
  let c0_i32_35 : BitVec 32 := 0#32
  ![v47.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== PoolRefIdeal.lean ====
abbrev S8192x4096 : Shape := ⟨2, ![8192, 4096]⟩
abbrev S32x4096 : Shape := ⟨2, ![32, 4096]⟩
abbrev S4096x8208 : Shape := ⟨2, ![4096, 8208]⟩
abbrev S8x15x2048 : Shape := ⟨3, ![8, 15, 2048]⟩
abbrev S_ : Shape := ⟨0, ![]⟩
abbrev S4x15x2048 : Shape := ⟨3, ![4, 15, 2048]⟩
abbrev S4x2048x4096 : Shape := ⟨3, ![4, 2048, 4096]⟩
abbrev S4x2048x8208 : Shape := ⟨3, ![4, 2048, 8208]⟩
abbrev S4x2048x2048 : Shape := ⟨3, ![4, 2048, 2048]⟩
abbrev S4x2063x2048 : Shape := ⟨3, ![4, 2063, 2048]⟩
abbrev S8x4x4096 : Shape := ⟨3, ![8, 4, 4096]⟩
abbrev S8x4x8208 : Shape := ⟨3, ![8, 4, 8208]⟩
abbrev S8x4x2048 : Shape := ⟨3, ![8, 4, 2048]⟩
abbrev S8x19x2048 : Shape := ⟨3, ![8, 19, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S4096x8208, .f32⟩
  | .hbm, ⟨3, _⟩ => ⟨S8x15x2048, .f32⟩
  | .hbm, ⟨4, _⟩ => ⟨S_, .f32⟩
  | .hbm, ⟨5, _⟩ => ⟨S4x15x2048, .f32⟩
  | .hbm, ⟨6, _⟩ => ⟨S8192x4096, .f32⟩
  | .hbm, ⟨7, _⟩ => ⟨S4x2048x4096, .f32⟩
  | .hbm, ⟨8, _⟩ => ⟨S4x2048x8208, .f32⟩
  | .hbm, ⟨9, _⟩ => ⟨S4x2048x2048, .f32⟩
  | .hbm, ⟨10, _⟩ => ⟨S4x2063x2048, .f32⟩
  | .hbm, ⟨11, _⟩ => ⟨S4x15x2048, .f32⟩
  | .hbm, ⟨12, _⟩ => ⟨S32x4096, .f32⟩
  | .hbm, ⟨13, _⟩ => ⟨S8x4x4096, .f32⟩
  | .hbm, ⟨14, _⟩ => ⟨S8x4x8208, .f32⟩
  | .hbm, ⟨15, _⟩ => ⟨S8x4x2048, .f32⟩
  | .hbm, ⟨16, _⟩ => ⟨S8x19x2048, .f32⟩
  | .hbm, ⟨17, _⟩ => ⟨S8x15x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Gla.lean ====
abbrev S32x1024 : Shape := ⟨2, ![32, 1024]⟩
abbrev S32x2048 : Shape := ⟨2, ![32, 2048]⟩
abbrev S32x128 : Shape := ⟨2, ![32, 128]⟩
abbrev S16x1024 : Shape := ⟨2, ![16, 1024]⟩
abbrev S1024 : Shape := ⟨1, ![1024]⟩
abbrev S2048 : Shape := ⟨1, ![2048]⟩
abbrev S8x8x128x256 : Shape := ⟨4, ![8, 8, 128, 256]⟩
abbrev S_ : Shape := ⟨0, ![]⟩
abbrev S128x1024 : Shape := ⟨2, ![128, 1024]⟩
abbrev S8x4x1024 : Shape := ⟨3, ![8, 4, 1024]⟩
abbrev S8x128x1024 : Shape := ⟨3, ![8, 128, 1024]⟩
abbrev S1024x1024 : Shape := ⟨2, ![1024, 1024]⟩
abbrev S8x4x2048 : Shape := ⟨3, ![8, 4, 2048]⟩
abbrev S8x128x2048 : Shape := ⟨3, ![8, 128, 2048]⟩
abbrev S1024x2048 : Shape := ⟨2, ![1024, 2048]⟩
abbrev S8x4x128 : Shape := ⟨3, ![8, 4, 128]⟩
abbrev S8x128x128 : Shape := ⟨3, ![8, 128, 128]⟩
abbrev S1024x128 : Shape := ⟨2, ![1024, 128]⟩
abbrev S1x1024 : Shape := ⟨2, ![1, 1024]⟩
abbrev S1x2048 : Shape := ⟨2, ![1, 2048]⟩
abbrev S128x2048 : Shape := ⟨2, ![128, 2048]⟩
abbrev S128x128 : Shape := ⟨2, ![128, 128]⟩
abbrev S1x8x128x256 : Shape := ⟨4, ![1, 8, 128, 256]⟩
abbrev S8x128x256 : Shape := ⟨3, ![8, 128, 256]⟩
abbrev S128x1 : Shape := ⟨2, ![128, 1]⟩
abbrev S128x256 : Shape := ⟨2, ![128, 256]⟩
abbrev S1x128x256 : Shape := ⟨3, ![1, 128, 256]⟩
abbrev S128 : Shape := ⟨1, ![128]⟩
abbrev S1x256 : Shape := ⟨2, ![1, 256]⟩

abbrev nBuf : Space → Nat
  | .hbm => 43
  | .vmem => 20
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x2048, .f32⟩
  | .hbm, ⟨3, _⟩ => ⟨S32x2048, .f32⟩
  | .hbm, ⟨4, _⟩ => ⟨S32x128, .f32⟩
  | .hbm, ⟨5, _⟩ => ⟨S16x1024, .f32⟩
  | .hbm, ⟨6, _⟩ => ⟨S1024, .f32⟩
  | .hbm, ⟨7, _⟩ => ⟨S2048, .f32⟩
  | .hbm, ⟨8, _⟩ => ⟨S8x8x128x256, .f32⟩
  | .hbm, ⟨9, _⟩ => ⟨S_, .i32⟩
  | .hbm, ⟨10, _⟩ => ⟨S_, .f32⟩
  | .hbm, ⟨11, _⟩ => ⟨S128x1024, .f32⟩
  | .hbm, ⟨12, _⟩ => ⟨S128x1024, .bf16⟩
  | .hbm, ⟨13, _⟩ => ⟨S8x4x1024, .f32⟩
  | .hbm, ⟨14, _⟩ => ⟨S_, .i32⟩
  | .hbm, ⟨15, _⟩ => ⟨S_, .f32⟩
  | .hbm, ⟨16, _⟩ => ⟨S8x128x1024, .f32⟩
  | .hbm, ⟨17, _⟩ => ⟨S1024x1024, .f32⟩
  | .hbm, ⟨18, _⟩ => ⟨S8x4x1024, .f32⟩
  | .hbm, ⟨19, _⟩ => ⟨S_, .i32⟩
  | .hbm, ⟨20, _⟩ => ⟨S_, .f32⟩
  | .hbm, ⟨21, _⟩ => ⟨S8x128x1024, .f32⟩
  | .hbm, ⟨22, _⟩ => ⟨S1024x1024, .f32⟩
  | .hbm, ⟨23, _⟩ => ⟨S8x4x2048, .f32⟩
  | .hbm, ⟨24, _⟩ => ⟨S_, .i32⟩
  | .hbm, ⟨25, _⟩ => ⟨S_, .f32⟩
  | .hbm, ⟨26, _⟩ => ⟨S8x128x2048, .f32⟩
  | .hbm, ⟨27, _⟩ => ⟨S1024x2048, .f32⟩
  | .hbm, ⟨28, _⟩ => ⟨S8x4x2048, .f32⟩
  | .hbm, ⟨29, _⟩ => ⟨S_, .i32⟩
  | .hbm, ⟨30, _⟩ => ⟨S_, .f32⟩
  | .hbm, ⟨31, _⟩ => ⟨S8x128x2048, .f32⟩
  | .hbm, ⟨32, _⟩ => ⟨S1024x2048, .f32⟩
  | .hbm, ⟨33, _⟩ => ⟨S8x4x128, .f32⟩
  | .hbm, ⟨34, _⟩ => ⟨S_, .i32⟩
  | .hbm, ⟨35, _⟩ => ⟨S_, .f32⟩
  | .hbm, ⟨36, _⟩ => ⟨S8x128x128, .f32⟩
  | .hbm, ⟨37, _⟩ => ⟨S1024x128, .f32⟩
  | .hbm, ⟨38, _⟩ => ⟨S1024x128, .bf16⟩
  | .hbm, ⟨39, _⟩ => ⟨S1x1024, .f32⟩
  | .hbm, ⟨40, _⟩ => ⟨S1x2048, .f32⟩
  | .hbm, ⟨41, _⟩ => ⟨S1024x2048, .bf16⟩
  | .hbm, ⟨42, _⟩ => ⟨S8x8x128x256, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x128, .bf16⟩
  | .local _ .vmem, ⟨9, _⟩ => ⟨S128x128, .bf16⟩
  | .local _ .vmem, ⟨10, _⟩ => ⟨S128x1024, .bf16⟩
  | .local _ .vmem, ⟨11, _⟩ => ⟨S1x1024, .f32⟩
  | .local _ .vmem, ⟨12, _⟩ => ⟨S1x2048, .f32⟩
  | .local _ .vmem, ⟨13, _⟩ => ⟨S1x8x128x256, .f32⟩
  | .local _ .vmem, ⟨14, _⟩ => ⟨S1x8x128x256, .f32⟩
  | .local _ .vmem, ⟨15, _⟩ => ⟨S128x2048, .bf16⟩
  | .local _ .vmem, ⟨16, _⟩ => ⟨S128x2048, .bf16⟩
  | .local _ .vmem, ⟨17, _⟩ => ⟨S1x8x128x256, .f32⟩
  | .local _ .vmem, ⟨18, _⟩ => ⟨S1x8x128x256, .f32⟩
  | .local _ .vmem, ⟨19, _⟩ => ⟨S8x128x256, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_call2_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_call3_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_call4_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_call5_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20_0 : Ref sig .tc := ⟨.hbm, 41, rfl⟩
abbrev main_v20_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_607 : BitVec 32 := 0#32
  let v2180 : BitVec 1 := Scalar.cmpi .eq arg2 c0_i32_607
  let v2181 : BitVec 32 := Scalar.extui v2180
  let c0_i32_608 : BitVec 32 := 0#32
  let v2182 : BitVec 1 := Scalar.cmpi .ne v2181 c0_i32_608
  v2182

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 2 → Memref sig .tc .vmem S1x8x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x8x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== GlaRefIdeal.lean ====
abbrev S32x1024 : Shape := ⟨2, ![32, 1024]⟩
abbrev S32x2048 : Shape := ⟨2, ![32, 2048]⟩
abbrev S32x128 : Shape := ⟨2, ![32, 128]⟩
abbrev S16x1024 : Shape := ⟨2, ![16, 1024]⟩
abbrev S1024 : Shape := ⟨1, ![1024]⟩
abbrev S2048 : Shape := ⟨1, ![2048]⟩
abbrev S8x8x128x256 : Shape := ⟨4, ![8, 8, 128, 256]⟩
abbrev S32x16 : Shape := ⟨2, ![32, 16]⟩
abbrev S8x4x16 : Shape := ⟨3, ![8, 4, 16]⟩
abbrev S8x4x1024 : Shape := ⟨3, ![8, 4, 1024]⟩
abbrev S1x1x1024 : Shape := ⟨3, ![1, 1, 1024]⟩
abbrev S_ : Shape := ⟨0, ![]⟩
abbrev S8x4x8x128 : Shape := ⟨4, ![8, 4, 8, 128]⟩
abbrev S8x1x8x128 : Shape := ⟨4, ![8, 1, 8, 128]⟩
abbrev S8x8x128 : Shape := ⟨3, ![8, 8, 128]⟩
abbrev S8x8x128x1 : Shape := ⟨4, ![8, 8, 128, 1]⟩
abbrev S8x4x8x256 : Shape := ⟨4, ![8, 4, 8, 256]⟩

abbrev nBuf : Space → Nat
  | .hbm => 53
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x2048, .f32⟩
  | .hbm, ⟨3, _⟩ => ⟨S32x2048, .f32⟩
  | .hbm, ⟨4, _⟩ => ⟨S32x128, .f32⟩
  | .hbm, ⟨5, _⟩ => ⟨S16x1024, .f32⟩
  | .hbm, ⟨6, _⟩ => ⟨S1024, .f32⟩
  | .hbm, ⟨7, _⟩ => ⟨S2048, .f32⟩
  | .hbm, ⟨8, _⟩ => ⟨S8x8x128x256, .f32⟩
  | .hbm, ⟨9, _⟩ => ⟨S32x16, .f32⟩
  | .hbm, ⟨10, _⟩ => ⟨S8x4x16, .f32⟩
  | .hbm, ⟨11, _⟩ => ⟨S8x4x1024, .f32⟩
  | .hbm, ⟨12, _⟩ => ⟨S1x1x1024, .f32⟩
  | .hbm, ⟨13, _⟩ => ⟨S8x4x1024, .f32⟩
  | .hbm, ⟨14, _⟩ => ⟨S8x4x1024, .f32⟩
  | .hbm, ⟨15, _⟩ => ⟨S8x4x1024, .f32⟩
  | .hbm, ⟨16, _⟩ => ⟨S_, .f32⟩
  | .hbm, ⟨17, _⟩ => ⟨S8x4x1024, .f32⟩
  | .hbm, ⟨18, _⟩ => ⟨S8x4x1024, .f32⟩
  | .hbm, ⟨19, _⟩ => ⟨S8x4x1024, .f32⟩
  | .hbm, ⟨20, _⟩ => ⟨S8x4x1024, .f32⟩
  | .hbm, ⟨21, _⟩ => ⟨S8x4x1024, .i1⟩
  | .hbm, ⟨22, _⟩ => ⟨S8x4x1024, .f32⟩
  | .hbm, ⟨23, _⟩ => ⟨S8x4x1024, .f32⟩
  | .hbm, ⟨24, _⟩ => ⟨S8x4x1024, .f32⟩
  | .hbm, ⟨25, _⟩ => ⟨S8x4x1024, .f32⟩
  | .hbm, ⟨26, _⟩ => ⟨S8x4x1024, .f32⟩
  | .hbm, ⟨27, _⟩ => ⟨S8x4x1024, .f32⟩
  | .hbm, ⟨28, _⟩ => ⟨S8x4x1024, .f32⟩
  | .hbm, ⟨29, _⟩ => ⟨S8x4x1024, .f32⟩
  | .hbm, ⟨30, _⟩ => ⟨S8x4x1024, .f32⟩
  | .hbm, ⟨31, _⟩ => ⟨S_, .f32⟩
  | .hbm, ⟨32, _⟩ => ⟨S8x4x1024, .f32⟩
  | .hbm, ⟨33, _⟩ => ⟨S8x4x1024, .f32⟩
  | .hbm, ⟨34, _⟩ => ⟨S8x4x8x128, .f32⟩
  | .hbm, ⟨35, _⟩ => ⟨S_, .f32⟩
  | .hbm, ⟨36, _⟩ => ⟨S_, .f32⟩
  | .hbm, ⟨37, _⟩ => ⟨S8x4x8x128, .f32⟩
  | .hbm, ⟨38, _⟩ => ⟨S8x1x8x128, .f32⟩
  | .hbm, ⟨39, _⟩ => ⟨S8x8x128, .f32⟩
  | .hbm, ⟨40, _⟩ => ⟨S8x8x128, .f32⟩
  | .hbm, ⟨41, _⟩ => ⟨S8x8x128x1, .f32⟩
  | .hbm, ⟨42, _⟩ => ⟨S8x8x128x256, .f32⟩
  | .hbm, ⟨43, _⟩ => ⟨S8x8x128x256, .f32⟩
  | .hbm, ⟨44, _⟩ => ⟨S8x4x8x128, .f32⟩
  | .hbm, ⟨45, _⟩ => ⟨S8x1x8x128, .f32⟩
  | .hbm, ⟨46, _⟩ => ⟨S8x4x8x128, .f32⟩
  | .hbm, ⟨47, _⟩ => ⟨S8x4x8x128, .f32⟩
  | .hbm, ⟨48, _⟩ => ⟨S8x4x8x128, .f32⟩
  | .hbm, ⟨49, _⟩ => ⟨S8x4x8x128, .f32⟩
  | .hbm, ⟨50, _⟩ => ⟨S8x4x8x256, .f32⟩
  | .hbm, ⟨51, _⟩ => ⟨S8x8x128x256, .f32⟩
  | .hbm, ⟨52, _⟩ => ⟨S8x8x128x256, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_call1_call0_cst : Ref sig .tc := ⟨.hbm, 35, rfl⟩
abbrev main_call1_call0_v0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩

abbrev nD : Nat := 1
abbrev τ : Topo := Topo.v7x

variable {F : FTy → Type} [FloatOps F]
-- ==== Proof.GateRing.lean ====
module

public import proofs.«01_k».proof.Proof.Gen.GateIdeal.Frame
public import proofs.«01_k».proof.Proof.Gen.GateIdeal.Skeleton
public import Idealize.ShloMosaic.Lib.Ring
public import Idealize.ShloMosaic.Lib.Tactic

@[expose] public section

set_option maxRecDepth 16384

noncomputable section

namespace Cert.GateIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GateIdeal Cert.GateIdeal.Gen

variable {F : FTy → Type} [FloatOps F]

local notation "𝕄" => MT nD τ sig Unit (Elt F) ℕ (Pipeline.UD sig nD τ) ℕ

/-! ## The three branch conditions, in closed form -/

/-- The first row block of a column tile. -/
abbrev first (t : Fin grid0.N) : Prop := k0_cond1 (grid0.coords t) = 1#1
/-- The very first point. -/
abbrev start (t : Fin grid0.N) : Prop := k0_cond2 (grid0.coords t) = 1#1
/-- A column tile follows. -/
abbrev more (t : Fin grid0.N) : Prop := k0_cond3 (grid0.coords t) = 1#1

theorem first_iff : ∀ t : Fin grid0.N, first t ↔ t.val % 8 = 0 := by decide +kernel
theorem start_iff : ∀ t : Fin grid0.N, start t ↔ t.val < 8 := by decide +kernel
theorem more_iff : ∀ t : Fin grid0.N, more t ↔ t.val < 336 := by decide +kernel

/-! ## Slots, cells and source blocks by number -/

/-- The column tile of point `t`, and the one after it; the slots they are staged in. -/
abbrev tl (t : Fin grid0.N) : Fin 43 := Ring.bk 43 (t.val / 8)
abbrev tl' (t : Fin grid0.N) : Fin 43 := Ring.bk 43 (t.val / 8 + 1)
abbrev cur (t : Fin grid0.N) : Fin 2 := Ring.sl 2 (t.val / 8)
abbrev nxt (t : Fin grid0.N) : Fin 2 := Ring.sl 2 (t.val / 8 + 1)

abbrev stM : Memref sig .tc .vmem S2x2x4096x256 .f32 := Memref.whole cc0_scratch0
abbrev wgM : Memref sig .tc .vmem S4096x256 .bf16 := Memref.whole cc0_scratch2
abbrev wuM : Memref sig .tc .vmem S4096x256 .bf16 := Memref.whole cc0_scratch3
abbrev guM : Memref sig .tc .hbm S2x4096x22016 .f32 := Memref.whole main_arg2

theorem inb_slot (s h : Fin 2) : ∀ a, (![s.val, h.val, 0, 0] : Fin 4 → Nat) a + S1x1x4096x256.size a ≤ S2x2x4096x256.size a := by
  revert s h; decide
theorem inb_cell (s h : Fin 2) : ∀ a, (![s.val, h.val] : Fin 2 → Nat) a + S1x1.size a ≤ S2x2.size a := by
  revert s h; decide
theorem inb_src (b : Fin 43) (h : Fin 2) : ∀ a, (![0, 0, 256 * b.val + 11008 * h.val] : Fin 3 → Nat) a + S1x4096x256.size a ≤ S2x4096x22016.size a := by
  have := b.isLt; have := h.isLt; intro a; fin_cases a <;> simp <;> omega

/-- Half `h` of staging slot `s`: the gate's columns (0) or the up projection's (1). -/
def slotM (s h : Fin 2) : Memref sig .tc .vmem S4096x256 .f32 :=
  (stM.slice (Rect.unit (s := S2x2x4096x256) ![s.val, h.val, 0, 0] S1x1x4096x256.size (inb_slot s h)) (fun _ => rfl)).squeeze S4096x256 squeezes_S1x1x4096x256_S4096x256
/-- Its semaphore cell. -/
def cellA (s h : Fin 2) : DmaSems sig S_ :=
  (cc0_scratch1.slice (Rect.unit (s := S2x2) ![s.val, h.val] S1x1.size (inb_cell s h))).squeeze S_ squeezes_S1x1_S_
/-- Half `h` of column tile `b` of the first layer's weights. -/
def srcM (b : Fin 43) (h : Fin 2) : Memref sig .tc .hbm S4096x256 .f32 :=
  (guM.slice (Rect.unit (s := S2x4096x22016) ![0, 0, 256 * b.val + 11008 * h.val] S1x4096x256.size (inb_src b h)) (fun _ => rfl)).squeeze S4096x256 squeezes_S1x4096x256_S4096x256

abbrev cellL (s h : Fin 2) : SemLoc sig := SemLoc.dma (cellA s h).sem
theorem cellL_eq : cellL 0 0 = SemLoc.dma 11 ∧ cellL 0 1 = SemLoc.dma 12 ∧ cellL 1 0 = SemLoc.dma 13 ∧ cellL 1 1 = SemLoc.dma 14 := by decide

/-- The kernel's own semaphores. -/
abbrev osem : Fin 4 → SemLoc sig := fun j => (![SemLoc.dma 11, SemLoc.dma 12, SemLoc.dma 13, SemLoc.dma 14] : Fin 4 → SemLoc sig) j
theorem ownSemFacts : Pipeline.OwnSemFacts spec0 osem := by decide
def Hs : Finset (Ref sig .tc) := {main_arg2}
theorem Hs_sub : Hs ⊆ Pipeline.restRefs sig spec0 := by decide

/-! ## What the streaming holds -/

section Families
variable (c : Dev nD)

abbrev BufOf {sp : Space} {S : Shape} {e : EltTy} (M : Memref sig .tc sp S e) : Type := Buf (Elt F) (M.view.loc (c : Thread nD τ))

variable (W : BufOf (F := F) c guM)

/-- The read share of the weights that goes with half `h` of slot `s`. -/
abbrev qs (s h : Fin 2) : PosShare TreeShare :=
  if s.val = 0 then (if h.val = 0 then fullShare.left.left else fullShare.left.right)
  else (if h.val = 0 then fullShare.right.left else fullShare.right.right)

abbrev slotP (s h : Fin 2) (f : BufOf (F := F) c (slotM s h)) : sProp 𝕄 := (slotM s h).view.loc (c : Thread nD τ) ↦[(slotM s h).view.set]{fullShare} f
abbrev cellP (s h : Fin 2) : sProp 𝕄 := semVal ((c : Thread nD τ), cellL s h) 0
abbrev srcP (s h : Fin 2) (b : Fin 43) : sProp 𝕄 := (srcM b h).view.loc (c : Thread nD τ) ↦[(srcM b h).view.set]{qs s h} W
def restP (s h : Fin 2) (b : Fin 43) : sProp 𝕄 := ((c : Thread nD τ).loc main_arg2) ↦[Finset.univ \ (srcM b h).view.set]{qs s h} W
abbrev wholeP (s h : Fin 2) : sProp 𝕄 := ((c : Thread nD τ).loc main_arg2) ↦[Finset.univ]{qs s h} W
abbrev landed (s h : Fin 2) (b : Fin 43) (f : BufOf (F := F) c (slotM s h)) : BufOf (F := F) c (slotM s h) :=
  (slotM s h).view.writes (Elt F) f [⟨Rect.whole S4096x256, ReadAs.same.apply ((srcM b h).view.read (Elt F) W)⟩]
abbrev flightP (s h : Fin 2) (b : Fin 43) (f : BufOf (F := F) c (slotM s h)) : sProp 𝕄 :=
  Transfers.Flight countersEmb (c : Thread nD τ) (cellL s h) default ((slotM s h).view.amount (cellL s h))
    iprop(slotP c s h (landed c W s h b f) ∗ srcP c W s h b)

/-- Half `h` of slot `s` idle: its cell at zero, the slot at some contents, its share of the weights whole. -/
def idle (s h : Fin 2) : sProp 𝕄 := iprop(cellP c s h ∗ ∃ f, (slotP c s h f ∗ wholeP c W s h))
/-- Half `h` of tile `b` on its way into slot `s`. -/
def flying (s h : Fin 2) (b : Fin 43) : sProp 𝕄 := iprop(∃ f, (flightP c W s h b f ∗ restP c W s h b))

theorem src_split (s h : Fin 2) (b : Fin 43) : wholeP (F := F) c W s h ⊣⊢ iprop(srcP c W s h b ∗ restP c W s h b) := by
  unfold restP; exact pointsTo_split_subset (Finset.subset_univ _)

/-- The staging before its tile `k`: nothing started before the first; then tile `k` on its way, the other slot idle;
    after the last everything idle. -/
def stage (k : ℕ) : sProp 𝕄 :=
  if k = 0 then iprop(idle c W 0 0 ∗ idle c W 0 1 ∗ idle c W 1 0 ∗ idle c W 1 1)
  else if k < 43 then iprop(flying c W (Ring.sl 2 k) 0 (Ring.bk 43 k) ∗ flying c W (Ring.sl 2 k) 1 (Ring.bk 43 k)
    ∗ idle c W (Ring.sl 2 (k + 1)) 0 ∗ idle c W (Ring.sl 2 (k + 1)) 1)
  else iprop(idle c W (Ring.sl 2 k) 0 ∗ idle c W (Ring.sl 2 k) 1 ∗ idle c W (Ring.sl 2 (k + 1)) 0 ∗ idle c W (Ring.sl 2 (k + 1)) 1)

end Families

/-! ## The staging buffer as its four halves -/

theorem inb_quarter (e : Fin 4) : ∀ a, (![e.val / 2, e.val % 2, 0, 0] : Fin 4 → Nat) a + S1x1x4096x256.size a ≤ S2x2x4096x256.size a := by
  revert e; decide
abbrev quarter (e : Fin 4) : Finset S2x2x4096x256.Idx := (Rect.unit (s := S2x2x4096x256) ![e.val / 2, e.val % 2, 0, 0] S1x1x4096x256.size (inb_quarter e)).set
theorem slot_set (s h : Fin 2) (e : Fin 4) (hs : s.val = e.val / 2) (hh : h.val = e.val % 2) : (slotM s h).view.set = quarter e := by
  obtain ⟨s, hs'⟩ := s; obtain ⟨h, hh'⟩ := h; simp only at hs hh; subst hs hh
  simp only [slotM, Memref.view_squeeze, View.set_reshape]; exact View.set_slice_whole _ _
theorem quarter_disjoint (e e' : Fin 4) (h : e ≠ e') : Disjoint (quarter e) (quarter e') := by
  rw [Finset.disjoint_left]
  intro i hi hi'
  have a0 := (Rect.mem_set_unit.mp hi) 0; have a1 := (Rect.mem_set_unit.mp hi) 1
  have b0 := (Rect.mem_set_unit.mp hi') 0; have b1 := (Rect.mem_set_unit.mp hi') 1
  have he : e.val ≠ e'.val := fun h' => h (Fin.ext h')
  simp at a0 a1 b0 b1
  omega
theorem quarter_cover : Finset.univ.biUnion quarter = Finset.univ := by
  ext i
  simp only [Finset.mem_biUnion, Finset.mem_univ, true_and, iff_true]
  have h0 : (i 0).val < 2 := (i 0).isLt
  have h1 : (i 1).val < 2 := (i 1).isLt
  have h2 : (i 2).val < 4096 := (i 2).isLt
  have h3 : (i 3).val < 256 := (i 3).isLt
  refine ⟨⟨2 * (i 0).val + (i 1).val, by omega⟩, Rect.mem_set_unit.mpr fun a => ?_⟩
  fin_cases a <;> simp <;> omega

/-! ## What the launch hands the staging, and takes back -/

section InOut
variable (c : Dev nD) (W : BufOf (F := F) c guM)

private theorem of_eq {P Q : sProp 𝕄} (e : P = Q) : P ⊢ Q := e ▸ .rfl

theorem slotP_eq (s h : Fin 2) (e : Fin 4) (hs : s.val = e.val / 2) (hh : h.val = e.val % 2) (f) :
    slotP (F := F) c s h f = (((c : Thread nD τ).loc cc0_scratch0) ↦[quarter e]{fullShare} f : sProp 𝕄) := by
  unfold slotP; rw [slot_set s h e hs hh]; rfl

theorem fin4 {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

theorem weights_split : (((c : Thread nD τ).loc main_arg2) ↦{fullShare} W : sProp 𝕄) ⊣⊢ iprop((wholeP c W 0 0 ∗ wholeP c W 0 1) ∗ (wholeP c W 1 0 ∗ wholeP c W 1 1)) :=
  (pointsTo_share (PosShare.mem_left_op_right fullShare)).trans
    (sep_congr (pointsTo_share (PosShare.mem_left_op_right _)) (pointsTo_share (PosShare.mem_left_op_right _)))

/-- The buffers whole and the cells at zero are the staging before its first tile. -/
theorem stage_in :
    iprop((∃ d, owns (c : Thread nD τ) stM fullShare d)
      ∗ (semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0)
      ∗ (((c : Thread nD τ).loc main_arg2) ↦{fullShare} W))
      ⊢ (stage c W 0 : sProp 𝕄) := by
  unfold stage idle; rw [if_pos rfl]
  obtain ⟨e0, e1, e2, e3⟩ := cellL_eq
  simp only [cellP, e0, e1, e2, e3, owns_whole]
  iintro ⟨⟨%d, HS⟩, ⟨C0, C1, C2, C3⟩, HW⟩
  ihave HQ := (of_eq ((Ring.pointsTo_blocks (Ix := Unit) (Name := ℕ) (U := Pipeline.UD sig nD τ) (Lvl := ℕ) (ℓ := (c : Thread nD τ).loc cc0_scratch0) (q := fullShare) quarter quarter_disjoint quarter_cover d).trans (fin4 _))) $$ HS
  icases HQ with ⟨Q0, Q1, Q2, Q3⟩
  ihave HW' := (weights_split c W).1 $$ HW
  icases HW' with ⟨⟨W0, W1⟩, W2, W3⟩
  isplitl [C0 Q0 W0]
  · isplitl [C0]; · iexact C0
    iexists d; isplitl [Q0]; · iapply (of_eq (slotP_eq c 0 0 0 rfl rfl d).symm); iexact Q0
    iexact W0
  isplitl [C1 Q1 W1]
  · isplitl [C1]; · iexact C1
    iexists d; isplitl [Q1]; · iapply (of_eq (slotP_eq c 0 1 1 rfl rfl d).symm); iexact Q1
    iexact W1
  isplitl [C2 Q2 W2]
  · isplitl [C2]; · iexact C2
    iexists d; isplitl [Q2]; · iapply (of_eq (slotP_eq c 1 0 2 rfl rfl d).symm); iexact Q2
    iexact W2
  · isplitl [C3]; · iexact C3
    iexists d; isplitl [Q3]; · iapply (of_eq (slotP_eq c 1 1 3 rfl rfl d).symm); iexact Q3
    iexact W3

/-- After the last tile the staging is those buffers and cells again. -/
theorem stage_out :
    (stage c W 43 : sProp 𝕄) ⊢ iprop((∃ d, owns (c : Thread nD τ) stM fullShare d)
      ∗ (semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0)
      ∗ (((c : Thread nD τ).loc main_arg2) ↦{fullShare} W)) := by
  unfold stage idle; rw [if_neg (by decide), if_neg (by decide), show Ring.sl 2 43 = 1 from rfl, show Ring.sl 2 (43 + 1) = 0 from rfl]
  obtain ⟨e0, e1, e2, e3⟩ := cellL_eq
  simp only [cellP, e0, e1, e2, e3, owns_whole]
  iintro ⟨⟨C2, %d2, Q2, W2⟩, ⟨C3, %d3, Q3, W3⟩, ⟨C0, %d0, Q0, W0⟩, ⟨C1, %d1, Q1, W1⟩⟩
  isplitl [Q0 Q1 Q2 Q3]
  · iapply (Ring.pointsTo_blocks_join_exists (Ix := Unit) (Name := ℕ) (U := Pipeline.UD sig nD τ) (Lvl := ℕ) (ℓ := (c : Thread nD τ).loc cc0_scratch0) (q := fullShare) quarter quarter_disjoint quarter_cover d0)
    irw [fin4]
    isplitl [Q0]; · iexists d0; iapply (of_eq (slotP_eq c 0 0 0 rfl rfl d0)); iexact Q0
    isplitl [Q1]; · iexists d1; iapply (of_eq (slotP_eq c 0 1 1 rfl rfl d1)); iexact Q1
    isplitl [Q2]; · iexists d2; iapply (of_eq (slotP_eq c 1 0 2 rfl rfl d2)); iexact Q2
    iexists d3; iapply (of_eq (slotP_eq c 1 1 3 rfl rfl d3)); iexact Q3
  isplitl [C0 C1 C2 C3]
  · isplitl [C0]; · iexact C0
    isplitl [C1]; · iexact C1
    isplitl [C2]; · iexact C2
    iexact C3
  · iapply (weights_split c W).2
    isplitl [W0 W1]
    · isplitl [W0]; · iexact W0
      iexact W1
    · isplitl [W2]; · iexact W2
      iexact W3

end InOut

/-! ## The body's own spellings of slots, cells and blocks -/

section Names
set_option synthInstance.maxSize 4096

theorem off1_at : ∀ t : Fin grid0.N, first t → k0_off1 (grid0.coords t) = ![(cur t).val, (0 : Fin 2).val] := by decide +kernel
theorem off4_at : ∀ t : Fin grid0.N, first t → k0_off4 (grid0.coords t) = ![(cur t).val, (1 : Fin 2).val] := by decide +kernel
theorem off2_at : ∀ t : Fin grid0.N, first t → k0_off2 (grid0.coords t) = ![(cur t).val, (0 : Fin 2).val, 0, 0] := by decide +kernel
theorem off5_at : ∀ t : Fin grid0.N, first t → k0_off5 (grid0.coords t) = ![(cur t).val, (1 : Fin 2).val, 0, 0] := by decide +kernel
theorem off6_at : ∀ t : Fin grid0.N, first t → k0_off6 (grid0.coords t) = ![(cur t).val, (0 : Fin 2).val, 0, 0] := by decide +kernel
theorem off7_at : ∀ t : Fin grid0.N, first t → k0_off7 (grid0.coords t) = ![(cur t).val, (1 : Fin 2).val, 0, 0] := by decide +kernel
theorem off8_at : ∀ t : Fin grid0.N, first t → more t → k0_off8 (grid0.coords t) = ![(nxt t).val, (0 : Fin 2).val] := by decide +kernel
theorem off11_at : ∀ t : Fin grid0.N, first t → more t → k0_off11 (grid0.coords t) = ![(nxt t).val, (1 : Fin 2).val] := by decide +kernel
theorem off9_at : ∀ t : Fin grid0.N, first t → more t → k0_off9 (grid0.coords t) = ![(nxt t).val, (0 : Fin 2).val, 0, 0] := by decide +kernel
theorem off12_at : ∀ t : Fin grid0.N, first t → more t → k0_off12 (grid0.coords t) = ![(nxt t).val, (1 : Fin 2).val, 0, 0] := by decide +kernel
theorem off10_at : ∀ t : Fin grid0.N, first t → more t → k0_off10 (grid0.coords t) 0#32 = ![0, 0, 256 * (tl' t).val + 11008 * (0 : Fin 2).val] := by decide +kernel
theorem off10_at' : ∀ t : Fin grid0.N, first t → more t → k0_off10 (grid0.coords t) 43#32 = ![0, 0, 256 * (tl' t).val + 11008 * (1 : Fin 2).val] := by decide +kernel
theorem zero_at : ∀ t : Fin grid0.N, first t → start t → cur t = 0 ∧ tl t = 0 := by decide +kernel

/-! The operands of the body's transfers and waits, by number. -/

theorem slot_named (o : Fin 4 → Nat) (s h : Fin 2) (e : o = ![s.val, h.val, 0, 0]) (ib : ∀ a, o a + S1x1x4096x256.size a ≤ S2x2x4096x256.size a) :
    (stM.slice (Rect.unit (s := S2x2x4096x256) o S1x1x4096x256.size ib) (fun _ => rfl)).squeeze S4096x256 squeezes_S1x1x4096x256_S4096x256 = slotM s h := by
  subst e; rfl
theorem cell_named (o : Fin 2 → Nat) (s h : Fin 2) (e : o = ![s.val, h.val]) (ib : ∀ a, o a + S1x1.size a ≤ S2x2.size a) :
    (cc0_scratch1.slice (Rect.unit (s := S2x2) o S1x1.size ib)).squeeze S_ squeezes_S1x1_S_ = cellA s h := by
  subst e; rfl
theorem src_named (o : Fin 3 → Nat) (b : Fin 43) (h : Fin 2) (e : o = ![0, 0, 256 * b.val + 11008 * h.val]) (ib : ∀ a, o a + S1x4096x256.size a ≤ S2x4096x22016.size a) :
    (guM.slice (Rect.unit (s := S2x4096x22016) o S1x4096x256.size ib) (fun _ => rfl)).squeeze S4096x256 squeezes_S1x4096x256_S4096x256 = srcM b h := by
  subst e; rfl

@[sl_canon] theorem start_slot0 (t : Fin grid0.N) (h1 : first t) (h2 : start t) :
    (stM.slice (Rect.unit (s := S2x2x4096x256) ![0, 0, 0, 0] S1x1x4096x256.size inb_S2x2x4096x256_S1x1x4096x256_0_0_0_0) (fun _ => rfl)).squeeze S4096x256 squeezes_S1x1x4096x256_S4096x256 = slotM (cur t) 0 :=
  slot_named _ _ _ (by rw [(zero_at t h1 h2).1]; rfl) _
@[sl_canon] theorem start_cell0 (t : Fin grid0.N) (h1 : first t) (h2 : start t) :
    (cc0_scratch1.slice (Rect.unit (s := S2x2) ![0, 0] S1x1.size inb_S2x2_S1x1_0_0)).squeeze S_ squeezes_S1x1_S_ = cellA (cur t) 0 :=
  cell_named _ _ _ (by rw [(zero_at t h1 h2).1]; rfl) _
@[sl_canon] theorem start_src0 (t : Fin grid0.N) (h1 : first t) (h2 : start t) :
    (guM.slice (Rect.unit (s := S2x4096x22016) ![0, 0, 0] S1x4096x256.size inb_S2x4096x22016_S1x4096x256_0_0_0) (fun _ => rfl)).squeeze S4096x256 squeezes_S1x4096x256_S4096x256 = srcM (tl t) 0 :=
  src_named _ _ _ (by rw [(zero_at t h1 h2).2]; rfl) _
@[sl_canon] theorem wait_slot0 (t : Fin grid0.N) (h1 : first t) :
    (stM.slice (Rect.unit (s := S2x2x4096x256) (k0_off2 (grid0.coords t)) S1x1x4096x256.size (k0_off2_inb (grid0.coords t) h1)) (fun _ => rfl)).squeeze S4096x256 squeezes_S1x1x4096x256_S4096x256 = slotM (cur t) 0 :=
  slot_named _ _ _ (off2_at t h1) _
@[sl_canon] theorem wait_cell0 (t : Fin grid0.N) (h1 : first t) :
    (cc0_scratch1.slice (Rect.unit (s := S2x2) (k0_off1 (grid0.coords t)) S1x1.size (k0_off1_inb (grid0.coords t) h1))).squeeze S_ squeezes_S1x1_S_ = cellA (cur t) 0 :=
  cell_named _ _ _ (off1_at t h1) _
@[sl_canon] theorem next_slot0 (t : Fin grid0.N) (h1 : first t) (h3 : more t) :
    (stM.slice (Rect.unit (s := S2x2x4096x256) (k0_off9 (grid0.coords t)) S1x1x4096x256.size (k0_off9_inb (grid0.coords t) h1 h3)) (fun _ => rfl)).squeeze S4096x256 squeezes_S1x1x4096x256_S4096x256 = slotM (nxt t) 0 :=
  slot_named _ _ _ (off9_at t h1 h3) _
@[sl_canon] theorem next_cell0 (t : Fin grid0.N) (h1 : first t) (h3 : more t) :
    (cc0_scratch1.slice (Rect.unit (s := S2x2) (k0_off8 (grid0.coords t)) S1x1.size (k0_off8_inb (grid0.coords t) h1 h3))).squeeze S_ squeezes_S1x1_S_ = cellA (nxt t) 0 :=
  cell_named _ _ _ (off8_at t h1 h3) _
@[sl_canon] theorem next_src0 (t : Fin grid0.N) (h1 : first t) (h3 : more t) :
    (guM.slice (Rect.unit (s := S2x4096x22016) (k0_off10 (grid0.coords t) 0#32) S1x4096x256.size (k0_off10_inb (grid0.coords t) h1 h3 0)) (fun _ => rfl)).squeeze S4096x256 squeezes_S1x4096x256_S4096x256 = srcM (tl' t) 0 :=
  src_named _ _ _ (off10_at t h1 h3) _
instance (priority := high) closed6 (t : Fin grid0.N) [h1 : Fact (first t)] : ClosedOff (k0_off6 (grid0.coords t)) := ⟨![(cur t).val, (0 : Fin 2).val, 0, 0], off6_at t h1.out⟩
@[sl_canon] theorem start_slot1 (t : Fin grid0.N) (h1 : first t) (h2 : start t) :
    (stM.slice (Rect.unit (s := S2x2x4096x256) ![0, 1, 0, 0] S1x1x4096x256.size inb_S2x2x4096x256_S1x1x4096x256_0_1_0_0) (fun _ => rfl)).squeeze S4096x256 squeezes_S1x1x4096x256_S4096x256 = slotM (cur t) 1 :=
  slot_named _ _ _ (by rw [(zero_at t h1 h2).1]; rfl) _
@[sl_canon] theorem start_cell1 (t : Fin grid0.N) (h1 : first t) (h2 : start t) :
    (cc0_scratch1.slice (Rect.unit (s := S2x2) ![0, 1] S1x1.size inb_S2x2_S1x1_0_1)).squeeze S_ squeezes_S1x1_S_ = cellA (cur t) 1 :=
  cell_named _ _ _ (by rw [(zero_at t h1 h2).1]; rfl) _
@[sl_canon] theorem start_src1 (t : Fin grid0.N) (h1 : first t) (h2 : start t) :
    (guM.slice (Rect.unit (s := S2x4096x22016) ![0, 0, 11008] S1x4096x256.size inb_S2x4096x22016_S1x4096x256_0_0_11008) (fun _ => rfl)).squeeze S4096x256 squeezes_S1x4096x256_S4096x256 = srcM (tl t) 1 :=
  src_named _ _ _ (by rw [(zero_at t h1 h2).2]; rfl) _
@[sl_canon] theorem wait_slot1 (t : Fin grid0.N) (h1 : first t) :
    (stM.slice (Rect.unit (s := S2x2x4096x256) (k0_off5 (grid0.coords t)) S1x1x4096x256.size (k0_off5_inb (grid0.coords t) h1)) (fun _ => rfl)).squeeze S4096x256 squeezes_S1x1x4096x256_S4096x256 = slotM (cur t) 1 :=
  slot_named _ _ _ (off5_at t h1) _
@[sl_canon] theorem wait_cell1 (t : Fin grid0.N) (h1 : first t) :
    (cc0_scratch1.slice (Rect.unit (s := S2x2) (k0_off4 (grid0.coords t)) S1x1.size (k0_off4_inb (grid0.coords t) h1))).squeeze S_ squeezes_S1x1_S_ = cellA (cur t) 1 :=
  cell_named _ _ _ (off4_at t h1) _
@[sl_canon] theorem next_slot1 (t : Fin grid0.N) (h1 : first t) (h3 : more t) :
    (stM.slice (Rect.unit (s := S2x2x4096x256) (k0_off12 (grid0.coords t)) S1x1x4096x256.size (k0_off12_inb (grid0.coords t) h1 h3)) (fun _ => rfl)).squeeze S4096x256 squeezes_S1x1x4096x256_S4096x256 = slotM (nxt t) 1 :=
  slot_named _ _ _ (off12_at t h1 h3) _
@[sl_canon] theorem next_cell1 (t : Fin grid0.N) (h1 : first t) (h3 : more t) :
    (cc0_scratch1.slice (Rect.unit (s := S2x2) (k0_off11 (grid0.coords t)) S1x1.size (k0_off11_inb (grid0.coords t) h1 h3))).squeeze S_ squeezes_S1x1_S_ = cellA (nxt t) 1 :=
  cell_named _ _ _ (off11_at t h1 h3) _
@[sl_canon] theorem next_src1 (t : Fin grid0.N) (h1 : first t) (h3 : more t) :
    (guM.slice (Rect.unit (s := S2x4096x22016) (k0_off10 (grid0.coords t) 43#32) S1x4096x256.size (k0_off10_inb (grid0.coords t) h1 h3 1)) (fun _ => rfl)).squeeze S4096x256 squeezes_S1x4096x256_S4096x256 = srcM (tl' t) 1 :=
  src_named _ _ _ (off10_at' t h1 h3) _
instance (priority := high) closed7 (t : Fin grid0.N) [h1 : Fact (first t)] : ClosedOff (k0_off7 (grid0.coords t)) := ⟨![(cur t).val, (1 : Fin 2).val, 0, 0], off7_at t h1.out⟩

/-- Half `h` of column tile `b` of the first layer's weights, rounded to the matrix unit's width. -/
def tile (c : Dev nD) (W : BufOf (F := F) c guM) (b : Fin 43) (h : Fin 2) : Vec F S4096x256 .bf16 :=
  truncf .bf16 ((srcM b h).view.read (Elt F) W) bitsLt_bf16_f32

end Names

end Cert.GateIdeal.Stream

end
-- ==== Proof.GateLoad.lean ====
module

public import proofs.«01_k».proof.Proof.GateRing
public import Idealize.ShloMosaic.Lib.VecWindow
public import Idealize.ShloMosaic.Lib.Pointwise.Reshape

@[expose] public section

set_option maxRecDepth 16384

noncomputable section

namespace Cert.GateIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GateIdeal Cert.GateIdeal.Gen

variable {F : FTy → Type} [FloatOps F]

local notation "𝕄" => MT nD τ sig Unit (Elt F) ℕ (Pipeline.UD sig nD τ) ℕ

/-- A half of the staging buffer loaded in place reads what the half reads. -/
theorem half_read (c : Dev nD) (s h : Fin 2) (ib : ∀ a, (![s.val, h.val, 0, 0] : Fin 4 → Nat) a + S1x1x4096x256.size a ≤ S2x2x4096x256.size a)
    (w : BufOf (F := F) c stM) :
    shapeCast S4096x256 (View.readAt (Elt F) stM.view (Rect.unit (s := S2x2x4096x256) ![s.val, h.val, 0, 0] S1x1x4096x256.size ib).toLoadRect w) shapeCasts_S1x1x4096x256_S4096x256
      = (slotM s h).view.read (Elt F) w := by
  unfold slotM
  rw [View.readAt_rect]
  rfl
/-- A half landed at `v`, loaded, rounded: `v` rounded (the gate's half); -/
theorem loaded0 (c : Dev nD) (s h : Fin 2) (o : Fin 4 → Nat) (e : o = ![s.val, h.val, 0, 0]) (ib : ∀ a, o a + S1x1x4096x256.size a ≤ S2x2x4096x256.size a)
    (g : BufOf (F := F) c (slotM s h)) (v : Vec F S4096x256 .f32) :
    k0_pay3 (View.readAt (Elt F) stM.view (Rect.unit (s := S2x2x4096x256) o S1x1x4096x256.size ib).toLoadRect ((slotM s h).view.writes (Elt F) g [⟨Rect.whole S4096x256, v⟩]))
      = truncf .bf16 v bitsLt_bf16_f32 := by
  subst e
  have key := (half_read c s h ib _).trans (View.read_writes_whole (slotM s h).view g v)
  unfold k0_pay3
  dsimp only
  rw [shapeCast_id]
  exact congrArg (fun x : FVec F S4096x256 .f32 => truncf .bf16 x bitsLt_bf16_f32) key
/-- and the up projection's. -/
theorem loaded1 (c : Dev nD) (s h : Fin 2) (o : Fin 4 → Nat) (e : o = ![s.val, h.val, 0, 0]) (ib : ∀ a, o a + S1x1x4096x256.size a ≤ S2x2x4096x256.size a)
    (g : BufOf (F := F) c (slotM s h)) (v : Vec F S4096x256 .f32) :
    k0_pay4 (View.readAt (Elt F) stM.view (Rect.unit (s := S2x2x4096x256) o S1x1x4096x256.size ib).toLoadRect ((slotM s h).view.writes (Elt F) g [⟨Rect.whole S4096x256, v⟩]))
      = truncf .bf16 v bitsLt_bf16_f32 := loaded0 c s h o e ib g v

end Cert.GateIdeal.Stream

end
-- ==== Proof.GateRunA.lean ====
module

public import proofs.«01_k».proof.Proof.GateLoad

@[expose] public section

set_option maxRecDepth 16384

noncomputable section

namespace Cert.GateIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GateIdeal Cert.GateIdeal.Gen

variable {F : FTy → Type} [FloatOps F]

local notation "𝕄" => MT nD τ sig Unit (Elt F) ℕ (Pipeline.UD sig nD τ) ℕ

set_option maxHeartbeats 400000 in
/-- The very first point: both halves of tile 0 are started and awaited, tile 1 is started, and the three results of the
    point are those of the tiles just landed. -/
theorem run_A (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1x32x4096 .f32) (harg5 : arg5.IsWhole) (arg6 : Memref sig .tc .vmem S1024x256 .bf16) (harg6 : arg6.IsWhole) (arg7 : Memref sig .tc .vmem S32x256 .bf16) (harg7 : arg7.IsWhole) (arg8 : Memref sig .tc .vmem S32x4096 .bf16) (harg8 : arg8.IsWhole)
    (h1 : first t) (h2 : start t) (h3 : more t)
    (x0 : Vec F S1024x4096 .bf16) (x1 : Vec F S32x4096 .bf16) (x2 : Vec F S1x32x4096 .f32) (W : BufOf (F := F) c guM) :
      ∀ (O : Waits sig Unit) (K : PUnit → sProp 𝕄),
        iprop(owns (c : Thread nD τ) arg2 fullShare x0 ∗ owns (c : Thread nD τ) arg3 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
            ∗ (∃ d, owns (c : Thread nD τ) wgM fullShare d) ∗ (∃ d, owns (c : Thread nD τ) wuM fullShare d)
            ∗ idle c W (cur t) 0 ∗ idle c W (cur t) 1 ∗ idle c W (nxt t) 0 ∗ idle c W (nxt t) 1 ∗ owes (c : Thread nD τ) 0 O
            ∗ (iprop(owns (c : Thread nD τ) arg2 fullShare x0 ∗ owns (c : Thread nD τ) arg3 fullShare x1 ∗ owns (c : Thread nD τ) arg5 fullShare x2 ∗ owns (c : Thread nD τ) arg6 fullShare (k0_pay2 x0 (tile c W (tl t) 0) (tile c W (tl t) 1))
              ∗ owns (c : Thread nD τ) arg7 fullShare (k0_pay5 x1 (tile c W (tl t) 0) (tile c W (tl t) 1)) ∗ owns (c : Thread nD τ) arg8 fullShare (k0_pay1 x2)
              ∗ owns (c : Thread nD τ) wgM fullShare (tile c W (tl t) 0) ∗ owns (c : Thread nD τ) wuM fullShare (tile c W (tl t) 1)
              ∗ flying c W (nxt t) 0 (tl' t) ∗ flying c W (nxt t) 1 (tl' t) ∗ idle c W (cur t) 0 ∗ idle c W (cur t) 1 ∗ (∃ O', owes (c : Thread nD τ) 0 O')) -∗ K ⟨⟩))
          ⊢ wp frame (wpE (defs₀ (F := F)) Variants.none c none) Set.univ (cc0_gate_up (grid0.coords t) arg2 harg2 arg3 harg3 guM (Memref.isWhole_whole _) arg5 harg5 arg6 harg6 arg7 harg7 arg8 harg8 stM (Memref.isWhole_whole _) cc0_scratch1 wgM (Memref.isWhole_whole _) wuM (Memref.isWhole_whole _)) K := by
    intro O K
    haveI : Fact (first t) := ⟨h1⟩
    haveI : Fact (start t) := ⟨h2⟩
    haveI : Fact (more t) := ⟨h3⟩
    simp only [cc0_gate_up_eq_skeleton]; unfold cc0_gate_up_skel
    simp only [k0_part1_eq_skeleton, k0_part2_eq_skeleton]
    have c0 := start_slot0 t h1 h2
    have c1 := start_slot1 t h1 h2
    have c2 := start_cell0 t h1 h2
    have c3 := start_cell1 t h1 h2
    have c4 := start_src0 t h1 h2
    have c5 := start_src1 t h1 h2
    unfold owns idle flying
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%dg, %fg, -, HG⟩, ⟨%du, %fu, -, HU⟩, ⟨Ca, %fa, Sa, Wa⟩, ⟨Cb, %fb, Sb, Wb⟩, ⟨Cc, %fc, Sc, Wc⟩, ⟨Cd, %fd, Sd, Wd⟩, HO, Hk⟩
    ihave Pa := (src_split c W (cur t) 0 (tl t)).1 $$ Wa
    icases Pa with ⟨Xa, Ra⟩
    ihave Pb := (src_split c W (cur t) 1 (tl t)).1 $$ Wb
    icases Pb with ⟨Xb, Rb⟩
    ihave Pc := (src_split c W (nxt t) 0 (tl' t)).1 $$ Wc
    icases Pc with ⟨Xc, Rc⟩
    ihave Pd := (src_split c W (nxt t) 1 (tl' t)).1 $$ Wd
    icases Pd with ⟨Xd, Rd⟩
    obtain rfl := harg2.eq_unread hf0; obtain rfl := harg3.eq_unread hf1; obtain rfl := harg5.eq_unread hf2
    sl_exec (disch := first | sl_exact h1 | sl_exact h2 | sl_exact h3)
    sl_step
    have hG : ∀ f, wgM.view.read (Elt F) (wgM.view.writes (Elt F) f (run_A.sl.HG_1 c t h1 W)) = tile c W (tl t) 0 := by
      intro f
      unfold run_A.sl.HG_1 run_A.sl.v55 run_A.sl.dma0
      rw [View.read_writes_full]
      exact loaded0 c (cur t) 0 _ (off6_at t h1) _ _ _
    have hU : ∀ f, wuM.view.read (Elt F) (wuM.view.writes (Elt F) f (run_A.sl.HU_1 c t h1 W)) = tile c W (tl t) 1 := by
      intro f
      unfold run_A.sl.HU_1 run_A.sl.v62 run_A.sl.dma0_1
      rw [View.read_writes_full]
      exact loaded1 c (cur t) 1 _ (off7_at t h1) _ _ _
    have hG' : run_A.sl.v8 c t h1 W = tile c W (tl t) 0 := by
      unfold run_A.sl.v8 View.readCov
      rw [View.readAt_full]
      exact hG _
    have hU' : run_A.sl.v10 c t h1 W = tile c W (tl t) 1 := by
      unfold run_A.sl.v10 View.readCov
      rw [View.readAt_full]
      exact hU _
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; swap; · iexact H3
      ipureintro
      rw [View.read_writes_full, View.readAt_full, harg2.read_unread]
      exact congrArg₂ (k0_pay2 x0) hG' hU'
    isplitl [H4]
    · iexists _; isplitr; swap; · iexact H4
      ipureintro
      rw [View.read_writes_full]; unfold run_A.sl.r; rw [View.readAt_full, harg3.read_unread]
      exact congrArg₂ (k0_pay5 x1) hG' hU'
    isplitl [H5]
    · iexists _; isplitr; swap; · iexact H5
      ipureintro
      rw [View.read_writes_full, View.readAt_full, harg5.read_unread]
    isplitl [HG]
    · iexists _; isplitr; swap; · iexact HG
      ipureintro
      exact hG fg
    isplitl [HU]
    · iexists _; isplitr; swap; · iexact HU
      ipureintro
      exact hU fu
    isplitl [Cc Rc]
    · iexists _; isplitl [Cc]; · iexact Cc
      iexact Rc
    isplitl [Cd Rd]
    · iexists _; isplitl [Cd]; · iexact Cd
      iexact Rd
    isplitl [Ca Sa Xa Ra]
    · isplitl [Ca]; · iexact Ca
      iexists _; isplitl [Sa]; · iexact Sa
      iapply (src_split c W (cur t) 0 (tl t)).2; isplitl [Xa]; · iexact Xa
      iexact Ra
    isplitl [Cb Sb Xb Rb]
    · isplitl [Cb]; · iexact Cb
      iexists _; isplitl [Sb]; · iexact Sb
      iapply (src_split c W (cur t) 1 (tl t)).2; isplitl [Xb]; · iexact Xb
      iexact Rb
    iexists _; iexact HO

end Cert.GateIdeal.Stream

end
-- ==== Proof.GateRunC.lean ====
module

public import proofs.«01_k».proof.Proof.GateRunA

@[expose] public section

set_option maxRecDepth 16384

noncomputable section

namespace Cert.GateIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GateIdeal Cert.GateIdeal.Gen

variable {F : FTy → Type} [FloatOps F]

local notation "𝕄" => MT nD τ sig Unit (Elt F) ℕ (Pipeline.UD sig nD τ) ℕ

set_option maxHeartbeats 400000 in
/-- The first row block of a middle tile: both halves of the tile are awaited, the next tile is started, and the three results of the
    point are those of the tiles just landed. -/
theorem run_C (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1x32x4096 .f32) (harg5 : arg5.IsWhole) (arg6 : Memref sig .tc .vmem S1024x256 .bf16) (harg6 : arg6.IsWhole) (arg7 : Memref sig .tc .vmem S32x256 .bf16) (harg7 : arg7.IsWhole) (arg8 : Memref sig .tc .vmem S32x4096 .bf16) (harg8 : arg8.IsWhole)
    (h1 : first t) (h2 : ¬ start t) (h3 : more t)
    (x0 : Vec F S1024x4096 .bf16) (x1 : Vec F S32x4096 .bf16) (x2 : Vec F S1x32x4096 .f32) (W : BufOf (F := F) c guM) :
      ∀ (O : Waits sig Unit) (K : PUnit → sProp 𝕄),
        iprop(owns (c : Thread nD τ) arg2 fullShare x0 ∗ owns (c : Thread nD τ) arg3 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
            ∗ (∃ d, owns (c : Thread nD τ) wgM fullShare d) ∗ (∃ d, owns (c : Thread nD τ) wuM fullShare d)
            ∗ flying c W (cur t) 0 (tl t) ∗ flying c W (cur t) 1 (tl t) ∗ idle c W (nxt t) 0 ∗ idle c W (nxt t) 1 ∗ owes (c : Thread nD τ) 0 O
            ∗ (iprop(owns (c : Thread nD τ) arg2 fullShare x0 ∗ owns (c : Thread nD τ) arg3 fullShare x1 ∗ owns (c : Thread nD τ) arg5 fullShare x2 ∗ owns (c : Thread nD τ) arg6 fullShare (k0_pay2 x0 (tile c W (tl t) 0) (tile c W (tl t) 1))
              ∗ owns (c : Thread nD τ) arg7 fullShare (k0_pay5 x1 (tile c W (tl t) 0) (tile c W (tl t) 1)) ∗ owns (c : Thread nD τ) arg8 fullShare (k0_pay1 x2)
              ∗ owns (c : Thread nD τ) wgM fullShare (tile c W (tl t) 0) ∗ owns (c : Thread nD τ) wuM fullShare (tile c W (tl t) 1)
              ∗ flying c W (nxt t) 0 (tl' t) ∗ flying c W (nxt t) 1 (tl' t) ∗ idle c W (cur t) 0 ∗ idle c W (cur t) 1 ∗ (∃ O', owes (c : Thread nD τ) 0 O')) -∗ K ⟨⟩))
          ⊢ wp frame (wpE (defs₀ (F := F)) Variants.none c none) Set.univ (cc0_gate_up (grid0.coords t) arg2 harg2 arg3 harg3 guM (Memref.isWhole_whole _) arg5 harg5 arg6 harg6 arg7 harg7 arg8 harg8 stM (Memref.isWhole_whole _) cc0_scratch1 wgM (Memref.isWhole_whole _) wuM (Memref.isWhole_whole _)) K := by
    intro O K
    haveI : Fact (first t) := ⟨h1⟩
    haveI : Fact (¬ start t) := ⟨h2⟩
    haveI : Fact (more t) := ⟨h3⟩
    simp only [cc0_gate_up_eq_skeleton]; unfold cc0_gate_up_skel
    simp only [k0_part1_eq_skeleton, k0_part2_eq_skeleton]
    unfold owns idle flying
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%dg, %fg, -, HG⟩, ⟨%du, %fu, -, HU⟩, ⟨%fa, Ca, Ra⟩, ⟨%fb, Cb, Rb⟩, ⟨Cc, %fc, Sc, Wc⟩, ⟨Cd, %fd, Sd, Wd⟩, HO, Hk⟩
    ihave Pc := (src_split c W (nxt t) 0 (tl' t)).1 $$ Wc
    icases Pc with ⟨Xc, Rc⟩
    ihave Pd := (src_split c W (nxt t) 1 (tl' t)).1 $$ Wd
    icases Pd with ⟨Xd, Rd⟩
    obtain rfl := harg2.eq_unread hf0; obtain rfl := harg3.eq_unread hf1; obtain rfl := harg5.eq_unread hf2
    sl_exec (disch := first | sl_exact h1 | sl_exact h2 | sl_exact h3)
    sl_step
    have hG : ∀ f, wgM.view.read (Elt F) (wgM.view.writes (Elt F) f (run_C.sl.HG_1 c t h1 W)) = tile c W (tl t) 0 := by
      intro f
      unfold run_C.sl.HG_1 run_C.sl.v55
      rw [View.read_writes_full]
      exact loaded0 c (cur t) 0 _ (off6_at t h1) _ _ _
    have hU : ∀ f, wuM.view.read (Elt F) (wuM.view.writes (Elt F) f (run_C.sl.HU_1 c t h1 W)) = tile c W (tl t) 1 := by
      intro f
      unfold run_C.sl.HU_1 run_C.sl.v62
      rw [View.read_writes_full]
      exact loaded1 c (cur t) 1 _ (off7_at t h1) _ _ _
    have hG' : run_C.sl.v8 c t h1 W = tile c W (tl t) 0 := by
      unfold run_C.sl.v8 View.readCov
      rw [View.readAt_full]
      exact hG _
    have hU' : run_C.sl.v10 c t h1 W = tile c W (tl t) 1 := by
      unfold run_C.sl.v10 View.readCov
      rw [View.readAt_full]
      exact hU _
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; swap; · iexact H3
      ipureintro
      rw [View.read_writes_full, View.readAt_full, harg2.read_unread]
      exact congrArg₂ (k0_pay2 x0) hG' hU'
    isplitl [H4]
    · iexists _; isplitr; swap; · iexact H4
      ipureintro
      rw [View.read_writes_full]; unfold run_C.sl.r; rw [View.readAt_full, harg3.read_unread]
      exact congrArg₂ (k0_pay5 x1) hG' hU'
    isplitl [H5]
    · iexists _; isplitr; swap; · iexact H5
      ipureintro
      rw [View.read_writes_full, View.readAt_full, harg5.read_unread]
    isplitl [HG]
    · iexists _; isplitr; swap; · iexact HG
      ipureintro
      exact hG fg
    isplitl [HU]
    · iexists _; isplitr; swap; · iexact HU
      ipureintro
      exact hU fu
    isplitl [Cc Rc]
    · iexists _; isplitl [Cc]; · iexact Cc
      iexact Rc
    isplitl [Cd Rd]
    · iexists _; isplitl [Cd]; · iexact Cd
      iexact Rd
    isplitl [Ca Ca_dst Ca_src Ra]
    · isplitl [Ca]; · iexact Ca
      iexists _; isplitl [Ca_dst]; · iexact Ca_dst
      iapply (src_split c W (cur t) 0 (tl t)).2; isplitl [Ca_src]; · iexact Ca_src
      iexact Ra
    isplitl [Cb Cb_dst Cb_src Rb]
    · isplitl [Cb]; · iexact Cb
      iexists _; isplitl [Cb_dst]; · iexact Cb_dst
      iapply (src_split c W (cur t) 1 (tl t)).2; isplitl [Cb_src]; · iexact Cb_src
      iexact Rb
    iexists _; iexact HO

end Cert.GateIdeal.Stream

end
-- ==== Proof.GateRunD.lean ====
module

public import proofs.«01_k».proof.Proof.GateRunC

@[expose] public section

set_option maxRecDepth 16384

noncomputable section

namespace Cert.GateIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GateIdeal Cert.GateIdeal.Gen

variable {F : FTy → Type} [FloatOps F]

local notation "𝕄" => MT nD τ sig Unit (Elt F) ℕ (Pipeline.UD sig nD τ) ℕ

set_option maxHeartbeats 400000 in
/-- The first row block of the last tile: both halves of the tile are awaited, nothing is started, and the three results of the
    point are those of the tiles just landed. -/
theorem run_D (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1x32x4096 .f32) (harg5 : arg5.IsWhole) (arg6 : Memref sig .tc .vmem S1024x256 .bf16) (harg6 : arg6.IsWhole) (arg7 : Memref sig .tc .vmem S32x256 .bf16) (harg7 : arg7.IsWhole) (arg8 : Memref sig .tc .vmem S32x4096 .bf16) (harg8 : arg8.IsWhole)
    (h1 : first t) (h2 : ¬ start t) (h3 : ¬ more t)
    (x0 : Vec F S1024x4096 .bf16) (x1 : Vec F S32x4096 .bf16) (x2 : Vec F S1x32x4096 .f32) (W : BufOf (F := F) c guM) :
      ∀ (O : Waits sig Unit) (K : PUnit → sProp 𝕄),
        iprop(owns (c : Thread nD τ) arg2 fullShare x0 ∗ owns (c : Thread nD τ) arg3 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
            ∗ (∃ d, owns (c : Thread nD τ) wgM fullShare d) ∗ (∃ d, owns (c : Thread nD τ) wuM fullShare d)
            ∗ flying c W (cur t) 0 (tl t) ∗ flying c W (cur t) 1 (tl t) ∗ owes (c : Thread nD τ) 0 O
            ∗ (iprop(owns (c : Thread nD τ) arg2 fullShare x0 ∗ owns (c : Thread nD τ) arg3 fullShare x1 ∗ owns (c : Thread nD τ) arg5 fullShare x2 ∗ owns (c : Thread nD τ) arg6 fullShare (k0_pay2 x0 (tile c W (tl t) 0) (tile c W (tl t) 1))
              ∗ owns (c : Thread nD τ) arg7 fullShare (k0_pay5 x1 (tile c W (tl t) 0) (tile c W (tl t) 1)) ∗ owns (c : Thread nD τ) arg8 fullShare (k0_pay1 x2)
              ∗ owns (c : Thread nD τ) wgM fullShare (tile c W (tl t) 0) ∗ owns (c : Thread nD τ) wuM fullShare (tile c W (tl t) 1)
              ∗ idle c W (cur t) 0 ∗ idle c W (cur t) 1 ∗ (∃ O', owes (c : Thread nD τ) 0 O')) -∗ K ⟨⟩))
          ⊢ wp frame (wpE (defs₀ (F := F)) Variants.none c none) Set.univ (cc0_gate_up (grid0.coords t) arg2 harg2 arg3 harg3 guM (Memref.isWhole_whole _) arg5 harg5 arg6 harg6 arg7 harg7 arg8 harg8 stM (Memref.isWhole_whole _) cc0_scratch1 wgM (Memref.isWhole_whole _) wuM (Memref.isWhole_whole _)) K := by
    intro O K
    haveI : Fact (first t) := ⟨h1⟩
    haveI : Fact (¬ start t) := ⟨h2⟩
    haveI : Fact (¬ more t) := ⟨h3⟩
    simp only [cc0_gate_up_eq_skeleton]; unfold cc0_gate_up_skel
    simp only [k0_part1_eq_skeleton, k0_part2_eq_skeleton]
    unfold owns idle flying
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%dg, %fg, -, HG⟩, ⟨%du, %fu, -, HU⟩, ⟨%fa, Ca, Ra⟩, ⟨%fb, Cb, Rb⟩, HO, Hk⟩
    obtain rfl := harg2.eq_unread hf0; obtain rfl := harg3.eq_unread hf1; obtain rfl := harg5.eq_unread hf2
    sl_exec (disch := first | sl_exact h1 | sl_exact h2 | sl_exact h3)
    sl_step
    have hG : ∀ f, wgM.view.read (Elt F) (wgM.view.writes (Elt F) f (run_D.sl.HG_1 c t h1 W)) = tile c W (tl t) 0 := by
      intro f
      unfold run_D.sl.HG_1 run_D.sl.v55
      rw [View.read_writes_full]
      exact loaded0 c (cur t) 0 _ (off6_at t h1) _ _ _
    have hU : ∀ f, wuM.view.read (Elt F) (wuM.view.writes (Elt F) f (run_D.sl.HU_1 c t h1 W)) = tile c W (tl t) 1 := by
      intro f
      unfold run_D.sl.HU_1 run_D.sl.v62
      rw [View.read_writes_full]
      exact loaded1 c (cur t) 1 _ (off7_at t h1) _ _ _
    have hG' : run_D.sl.v8 c t h1 W = tile c W (tl t) 0 := by
      unfold run_D.sl.v8 View.readCov
      rw [View.readAt_full]
      exact hG _
    have hU' : run_D.sl.v10 c t h1 W = tile c W (tl t) 1 := by
      unfold run_D.sl.v10 View.readCov
      rw [View.readAt_full]
      exact hU _
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; swap; · iexact H3
      ipureintro
      rw [View.read_writes_full, View.readAt_full, harg2.read_unread]
      exact congrArg₂ (k0_pay2 x0) hG' hU'
    isplitl [H4]
    · iexists _; isplitr; swap; · iexact H4
      ipureintro
      rw [View.read_writes_full]; unfold run_D.sl.r; rw [View.readAt_full, harg3.read_unread]
      exact congrArg₂ (k0_pay5 x1) hG' hU'
    isplitl [H5]
    · iexists _; isplitr; swap; · iexact H5
      ipureintro
      rw [View.read_writes_full, View.readAt_full, harg5.read_unread]
    isplitl [HG]
    · iexists _; isplitr; swap; · iexact HG
      ipureintro
      exact hG fg
    isplitl [HU]
    · iexists _; isplitr; swap; · iexact HU
      ipureintro
      exact hU fu
    isplitl [Ca Ca_dst Ca_src Ra]
    · isplitl [Ca]; · iexact Ca
      iexists _; isplitl [Ca_dst]; · iexact Ca_dst
      iapply (src_split c W (cur t) 0 (tl t)).2; isplitl [Ca_src]; · iexact Ca_src
      iexact Ra
    isplitl [Cb Cb_dst Cb_src Rb]
    · isplitl [Cb]; · iexact Cb
      iexists _; isplitl [Cb_dst]; · iexact Cb_dst
      iapply (src_split c W (cur t) 1 (tl t)).2; isplitl [Cb_src]; · iexact Cb_src
      iexact Rb
    iexists _; iexact HO

end Cert.GateIdeal.Stream

end
-- ==== Proof.GateRunB.lean ====
module

public import proofs.«01_k».proof.Proof.GateRunD

@[expose] public section

set_option maxRecDepth 16384

noncomputable section

namespace Cert.GateIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GateIdeal Cert.GateIdeal.Gen

variable {F : FTy → Type} [FloatOps F]

local notation "𝕄" => MT nD τ sig Unit (Elt F) ℕ (Pipeline.UD sig nD τ) ℕ

set_option maxHeartbeats 400000 in
/-- A later row block of a tile: the two results of the point are those of the tiles held. -/
theorem run_B (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1x32x4096 .f32) (harg5 : arg5.IsWhole) (arg6 : Memref sig .tc .vmem S1024x256 .bf16) (harg6 : arg6.IsWhole) (arg7 : Memref sig .tc .vmem S32x256 .bf16) (harg7 : arg7.IsWhole) (arg8 : Memref sig .tc .vmem S32x4096 .bf16) (harg8 : arg8.IsWhole)
    (h1 : ¬ first t)
    (x0 : Vec F S1024x4096 .bf16) (x2 : Vec F S1x32x4096 .f32) (w0 w1 : Vec F S4096x256 .bf16) :
      ∀ (O : Waits sig Unit) (K : PUnit → sProp 𝕄),
        iprop(owns (c : Thread nD τ) arg2 fullShare x0 ∗ owns (c : Thread nD τ) arg5 fullShare x2 ∗ (∃ d, owns (c : Thread nD τ) arg6 fullShare d) ∗ (∃ d, owns (c : Thread nD τ) arg8 fullShare d)
            ∗ owns (c : Thread nD τ) wgM fullShare w0 ∗ owns (c : Thread nD τ) wuM fullShare w1 ∗ owes (c : Thread nD τ) 0 O
            ∗ (iprop(owns (c : Thread nD τ) arg2 fullShare x0 ∗ owns (c : Thread nD τ) arg5 fullShare x2 ∗ owns (c : Thread nD τ) arg6 fullShare (k0_pay2 x0 w0 w1)
              ∗ owns (c : Thread nD τ) arg8 fullShare (k0_pay1 x2)
              ∗ owns (c : Thread nD τ) wgM fullShare w0 ∗ owns (c : Thread nD τ) wuM fullShare w1
              ∗ (∃ O', owes (c : Thread nD τ) 0 O')) -∗ K ⟨⟩))
          ⊢ wp frame (wpE (defs₀ (F := F)) Variants.none c none) Set.univ (cc0_gate_up (grid0.coords t) arg2 harg2 arg3 harg3 guM (Memref.isWhole_whole _) arg5 harg5 arg6 harg6 arg7 harg7 arg8 harg8 stM (Memref.isWhole_whole _) cc0_scratch1 wgM (Memref.isWhole_whole _) wuM (Memref.isWhole_whole _)) K := by
    intro O K
    haveI : Fact (¬ first t) := ⟨h1⟩
    simp only [cc0_gate_up_eq_skeleton]; unfold cc0_gate_up_skel
    unfold owns
    iintro ⟨⟨%f0, %hf0, H0⟩, ⟨%f2, %hf2, H2⟩, ⟨%d3, %f3, -, H3⟩, ⟨%d5, %f5, -, H5⟩, ⟨%fg, %hg, HG⟩, ⟨%fu, %hu, HU⟩, HO, Hk⟩
    obtain rfl := harg2.eq_unread hf0; obtain rfl := harg5.eq_unread hf2
    sl_exec (disch := sl_exact h1)
    sl_step
    iapply Hk
    isplitl [H0]
    · iexists _; isplitr; · ipureintro; exact harg2.read_unread _
      iexact H0
    isplitl [H2]
    · iexists _; isplitr; · ipureintro; exact harg5.read_unread _
      iexact H2
    isplitl [H3]
    · iexists _; isplitr; swap; · iexact H3
      ipureintro
      rw [View.read_writes_full, View.readAt_full, harg2.read_unread]
      rw [View.readAt_full, View.readAt_full, hg, hu]
    isplitl [H5]
    · iexists _; isplitr; swap; · iexact H5
      ipureintro
      rw [View.read_writes_full, View.readAt_full, harg5.read_unread]
    isplitl [HG]
    · iexists _; isplitr; swap; · iexact HG
      ipureintro
      exact hg
    isplitl [HU]
    · iexists _; isplitr; swap; · iexact HU
      ipureintro
      exact hu
    iexists _; iexact HO

end Cert.GateIdeal.Stream

end
-- ==== Proof.GateRun.lean ====
module

public import proofs.«01_k».proof.Proof.GateRunB
public import Idealize.ShloMosaic.Lib.Pipeline.FrameBody
public import Idealize.ShloMosaic.Lib.Pipeline.TableIdle

@[expose] public section

set_option maxRecDepth 16384

noncomputable section

namespace Cert.GateIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateIdeal Cert.GateIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The staging before and after a step, slots by number -/

section Steps
variable (c : Dev nD) (W : BufOf (F := F) c guM)

theorem back (k : ℕ) : Ring.sl 2 (k + 1 + 1) = Ring.sl 2 k := Fin.ext (by simp [Ring.sl]; omega)
theorem stage_first : stage c W 0 = iprop(idle c W (Ring.sl 2 0) 0 ∗ idle c W (Ring.sl 2 0) 1 ∗ idle c W (Ring.sl 2 (0 + 1)) 0 ∗ idle c W (Ring.sl 2 (0 + 1)) 1) := rfl
theorem stage_here (k : ℕ) (h1 : k ≠ 0) (h2 : k < 43) : stage c W k = iprop(flying c W (Ring.sl 2 k) 0 (Ring.bk 43 k) ∗ flying c W (Ring.sl 2 k) 1 (Ring.bk 43 k)
    ∗ idle c W (Ring.sl 2 (k + 1)) 0 ∗ idle c W (Ring.sl 2 (k + 1)) 1) := by
  unfold stage; rw [if_neg h1, if_pos h2]
theorem stage_next (k : ℕ) (h2 : k + 1 < 43) : stage c W (k + 1) = iprop(flying c W (Ring.sl 2 (k + 1)) 0 (Ring.bk 43 (k + 1)) ∗ flying c W (Ring.sl 2 (k + 1)) 1 (Ring.bk 43 (k + 1))
    ∗ idle c W (Ring.sl 2 k) 0 ∗ idle c W (Ring.sl 2 k) 1) := by
  unfold stage; rw [if_neg (Nat.succ_ne_zero k), if_pos h2, back]
theorem stage_last (k : ℕ) (h2 : k + 1 = 43) : stage c W (k + 1) = iprop(idle c W (Ring.sl 2 (k + 1)) 0 ∗ idle c W (Ring.sl 2 (k + 1)) 1
    ∗ idle c W (Ring.sl 2 k) 0 ∗ idle c W (Ring.sl 2 k) 1) := by
  unfold stage; rw [if_neg (Nat.succ_ne_zero k), if_neg (by omega), back]

end Steps

/-! ## The pipeline's data -/

/-- Half `h` of the tile held at point `t`, rounded. -/
def held (c : Dev nD) (t : Fin cfg0.N) (h : Fin 2) : Vec F S4096x256 .bf16 := tile c (V m c main_arg2) (tl t) h

/-- Before point `k`: the two rounded halves at the current tile's (inside a tile), and the staging. -/
def Inv (c : Dev nD) (k : ℕ) : sProp 𝕄 :=
  iprop((∃ d0 d1, ⌜k % 8 ≠ 0 → d0 = tile c (V m c main_arg2) (Ring.bk 43 (k / 8)) 0 ∧ d1 = tile c (V m c main_arg2) (Ring.bk 43 (k / 8)) 1⌝
      ∗ owns (c : Thread nD τ) wgM fullShare d0 ∗ owns (c : Thread nD τ) wuM fullShare d1)
    ∗ (∃ r, prngReg c r) ∗ stage c (V m c main_arg2) ((k + 7) / 8))

/-- What every point leaves in each window. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (iblk m c 0 t) (held m c t 0) (held m c t 1)
    | ⟨4, _⟩ => k0_pay5 (iblk m c 1 t) (held m c t 0) (held m c t 1)
    | ⟨5, _⟩ => k0_pay1 (iblk m c 2 t)
  Φ t := Inv m c t.val
  q _ := fullShare
  owed _ := 0

theorem A_eq (c : Dev nD) (w : Fin cfg0.W) : (dats m 0 c).A w = V m c (Pipeline.arrRef spec0 w) := by
  dsimp only [dats]
theorem inv_before (c : Dev nD) (t : Fin cfg0.N) : (dats m 0 c).Φ t.castSucc = Inv m c t.val := by
  dsimp only [dats]; simp only [Fin.coe_castSucc]
theorem inv_after (c : Dev nD) (t : Fin cfg0.N) : (dats m 0 c).Φ t.succ = Inv m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (iblk m c 0 t) (held m c t 0) (held m c t 1) := by dsimp only [dats]
theorem after_4 (c : Dev nD) (t : Fin cfg0.N) : (dats m 0 c).after 4 t = k0_pay5 (iblk m c 1 t) (held m c t 0) (held m c t 1) := by dsimp only [dats]
theorem after_5 (c : Dev nD) (t : Fin cfg0.N) : (dats m 0 c).after 5 t = k0_pay1 (iblk m c 2 t) := by dsimp only [dats]

/-- Every input window holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

theorem idle_4 (t : Fin cfg0.N) : cfg0.idle 4 (grid0.coords t) = !(k0_cond1 (grid0.coords t) == 1#1) := rfl
theorem idle_4_first (t : Fin cfg0.N) (h : first t) : cfg0.idle 4 (cfg0.grid.coords t) = false := by
  show (!(k0_cond1 (grid0.coords t) == 1#1)) = false
  rw [show k0_cond1 (grid0.coords t) = 1#1 from h]; rfl
theorem idle_4_later (t : Fin cfg0.N) (h : ¬ first t) : cfg0.idle 4 (cfg0.grid.coords t) = true := by
  show (!(k0_cond1 (grid0.coords t) == 1#1)) = true
  rw [beq_eq_false_iff_ne.mpr h]; rfl

/-- The small output is the same all through a tile. -/
theorem after_4_tile (c : Dev nD) (t t' : Fin cfg0.N) (h : t'.val / 8 = t.val / 8) : (dats m 0 c).after 4 t' = (dats m 0 c).after 4 t := by
  rw [after_4, after_4]
  unfold held
  show k0_pay5 (iblk m c 1 _) (tile c _ (Ring.bk 43 (t'.val / 8)) 0) (tile c _ (Ring.bk 43 (t'.val / 8)) 1) = _
  rw [h]
  rfl
/-- Inside a tile its buffer still holds what the tile's first point left. -/
theorem before_4 (c : Dev nD) (d) : ∀ (n : ℕ) (t : Fin cfg0.N), t.val = n → n % 8 ≠ 0 → (dats m 0 c).before 4 t d = (dats m 0 c).after 4 t := by
  intro n
  induction n with
  | zero => intro t _ h; exact absurd rfl h
  | succ n ih =>
    intro t e h
    have ht : t.val ≠ 0 := by omega
    rw [(dats m 0 c).before_of_pos 4 t ht rfl d, if_neg (fun e' => by have := (flush0_4 _).mp e'; simp only at this; omega)]
    rw [← after_4_tile m c t ⟨t.val - 1, Nat.lt_of_le_of_lt (Nat.sub_le _ _) t.isLt⟩ (by simp only; omega)]
    unfold Dat.left
    by_cases hf : first ⟨t.val - 1, Nat.lt_of_le_of_lt (Nat.sub_le _ _) t.isLt⟩
    · rw [idle_4_first _ hf]; rfl
    · rw [idle_4_later _ hf]
      exact ih _ (by simp only; omega) (fun e' => hf ((first_iff _).mpr (by simp only; omega)))

/-! ## The body, at every point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ (dats m 0 c).leavesExact 4 t
    ∗ owns (c : Thread nD τ) (win0_5.stage (cfg0.slots t 5)) fullShare ((dats m 0 c).after 5 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, after_0, after_1, after_2, after_3, after_5]
  rw [inv_before m c t, inv_after m c t]
  unfold Dat.owesAt Pipeline.owesWithin
  rw [show (dats m 0 c).owed t.castSucc = 0 from rfl, show (dats m 0 c).owed t.succ = 0 from rfl]
  unfold Inv
  have hN : t.val < 344 := lt_of_lt_of_eq t.isLt (show cfg0.N = 344 from N_0)
  have i1 := first_iff t
  have i2 := start_iff t
  have i3 := more_iff t
  by_cases h1 : first t
  · have e1 := i1.mp h1
    have s1 : (t.val + 7) / 8 = t.val / 8 := by omega
    have s2 : (t.val + 1 + 7) / 8 = t.val / 8 + 1 := by omega
    have s3 : (t.val + 1) / 8 = t.val / 8 := by omega
    rw [s1, s2, s3]
    rw [show (dats m 0 c).leavesExact 4 t = owns (c : Thread nD τ) (win0_4.stage (cfg0.slots t 4)) fullShare ((dats m 0 c).after 4 t) from by
      unfold Dat.leavesExact; rw [idle_4_first t h1], after_4]
    by_cases h2 : start t
    · have h3 : more t := i3.mpr (by have := i2.mp h2; omega)
      have e2 : t.val / 8 = 0 := by have := i2.mp h2; omega
      rw [show stage c (V m c main_arg2) (t.val / 8) = iprop(idle c (V m c main_arg2) (cur t) 0 ∗ idle c (V m c main_arg2) (cur t) 1 ∗ idle c (V m c main_arg2) (nxt t) 0 ∗ idle c (V m c main_arg2) (nxt t) 1) by unfold cur nxt; rw [e2]; rfl]
      rw [stage_next c _ (t.val / 8) (by omega)]
      iintro ⟨⟨⟨%dg, %du, -, HG, HU⟩, Hg, Ra, Rb, Rc, Rd⟩, ⟨%O, -, HO⟩, ⟨%d0, H0⟩, ⟨%d1, H1⟩, ⟨%d2, H2⟩, ⟨%d3, H3⟩, ⟨%d4, H4⟩, ⟨%d5, H5⟩⟩
      iapply ((run_A c t _ _ _ _ _ _ _ _ _ _ _ _ h1 h2 h3 (iblk m c 0 t) (iblk m c 1 t) (iblk m c 2 t) (V m c main_arg2)) O _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HG]; · iexists _; iexact HG
      isplitl [HU]; · iexists _; iexact HU
      isplitl [Ra]; · iexact Ra
      isplitl [Rb]; · iexact Rb
      isplitl [Rc]; · iexact Rc
      isplitl [Rd]; · iexact Rd
      isplitl [HO]; · iexact HO
      iintro ⟨H0, H1, H2, H3, H4, H5, HG, HU, Ra, Rb, Rc, Rd, ⟨%O', HO⟩⟩
      isplitl [HG HU Hg Ra Rb Rc Rd]
      · isplitl [HG HU]
        · iexists _, _; isplitr; · ipureintro; exact fun _ => ⟨rfl, rfl⟩
          isplitl [HG]; · iexact HG
          iexact HU
        isplitl [Hg]; · iexact Hg
        isplitl [Ra]; · iexact Ra
        isplitl [Rb]; · iexact Rb
        isplitl [Rc]; · iexact Rc
        iexact Rd
      isplitl [HO]
      · iexists O'; isplitr; · ipureintro; exact fun _ _ => Or.inl trivial
        iexact HO
      isplitl [H0]; · iexact H0
      isplitl [H1]; · iexact H1
      isplitl [H2]; · iexact H2
      isplitl [H3]; · iexact H3
      isplitl [H4]; · iexact H4
      iexact H5
    · by_cases h3 : more t
      · have e3 := i3.mp h3
        have e2 : t.val / 8 ≠ 0 := by intro e; exact h2 (i2.mpr (by omega))
        rw [stage_here c _ (t.val / 8) e2 (by omega), stage_next c _ (t.val / 8) (by omega)]
        iintro ⟨⟨⟨%dg, %du, -, HG, HU⟩, Hg, Ra, Rb, Rc, Rd⟩, ⟨%O, -, HO⟩, ⟨%d0, H0⟩, ⟨%d1, H1⟩, ⟨%d2, H2⟩, ⟨%d3, H3⟩, ⟨%d4, H4⟩, ⟨%d5, H5⟩⟩
        iapply ((run_C c t _ _ _ _ _ _ _ _ _ _ _ _ h1 h2 h3 (iblk m c 0 t) (iblk m c 1 t) (iblk m c 2 t) (V m c main_arg2)) O _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HG]; · iexists _; iexact HG
        isplitl [HU]; · iexists _; iexact HU
        isplitl [Ra]; · iexact Ra
        isplitl [Rb]; · iexact Rb
        isplitl [Rc]; · iexact Rc
        isplitl [Rd]; · iexact Rd
        isplitl [HO]; · iexact HO
        iintro ⟨H0, H1, H2, H3, H4, H5, HG, HU, Ra, Rb, Rc, Rd, ⟨%O', HO⟩⟩
        isplitl [HG HU Hg Ra Rb Rc Rd]
        · isplitl [HG HU]
          · iexists _, _; isplitr; · ipureintro; exact fun _ => ⟨rfl, rfl⟩
            isplitl [HG]; · iexact HG
            iexact HU
          isplitl [Hg]; · iexact Hg
          isplitl [Ra]; · iexact Ra
          isplitl [Rb]; · iexact Rb
          isplitl [Rc]; · iexact Rc
          iexact Rd
        isplitl [HO]
        · iexists O'; isplitr; · ipureintro; exact fun _ _ => Or.inl trivial
          iexact HO
        isplitl [H0]; · iexact H0
        isplitl [H1]; · iexact H1
        isplitl [H2]; · iexact H2
        isplitl [H3]; · iexact H3
        isplitl [H4]; · iexact H4
        iexact H5
      · have e2 : t.val / 8 ≠ 0 := by intro e; exact h2 (i2.mpr (by omega))
        have e3 : t.val / 8 + 1 = 43 := by have h4 : ¬ t.val < 336 := fun h => h3 (i3.mpr h); omega
        rw [stage_here c _ (t.val / 8) e2 (Nat.lt_of_succ_le e3.le), stage_last c _ (t.val / 8) e3]
        iintro ⟨⟨⟨%dg, %du, -, HG, HU⟩, Hg, Ra, Rb, Rc, Rd⟩, ⟨%O, -, HO⟩, ⟨%d0, H0⟩, ⟨%d1, H1⟩, ⟨%d2, H2⟩, ⟨%d3, H3⟩, ⟨%d4, H4⟩, ⟨%d5, H5⟩⟩
        iapply ((run_D c t _ _ _ _ _ _ _ _ _ _ _ _ h1 h2 h3 (iblk m c 0 t) (iblk m c 1 t) (iblk m c 2 t) (V m c main_arg2)) O _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HG]; · iexists _; iexact HG
        isplitl [HU]; · iexists _; iexact HU
        isplitl [Ra]; · iexact Ra
        isplitl [Rb]; · iexact Rb
        isplitl [HO]; · iexact HO
        iintro ⟨H0, H1, H2, H3, H4, H5, HG, HU, Ra, Rb, ⟨%O', HO⟩⟩
        isplitl [HG HU Hg Rc Rd Ra Rb]
        · isplitl [HG HU]
          · iexists _, _; isplitr; · ipureintro; exact fun _ => ⟨rfl, rfl⟩
            isplitl [HG]; · iexact HG
            iexact HU
          isplitl [Hg]; · iexact Hg
          isplitl [Rc]; · iexact Rc
          isplitl [Rd]; · iexact Rd
          isplitl [Ra]; · iexact Ra
          iexact Rb
        isplitl [HO]
        · iexists O'; isplitr; · ipureintro; exact fun _ _ => Or.inl trivial
          iexact HO
        isplitl [H0]; · iexact H0
        isplitl [H1]; · iexact H1
        isplitl [H2]; · iexact H2
        isplitl [H3]; · iexact H3
        isplitl [H4]; · iexact H4
        iexact H5
  · have e1 : t.val % 8 ≠ 0 := fun h => h1 (i1.mpr h)
    have s1 : (t.val + 1 + 7) / 8 = (t.val + 7) / 8 := by omega
    rw [s1]
    rw [show (dats m 0 c).leavesExact 4 t = _ from by unfold Dat.leavesExact; rw [idle_4_later t h1]]
    iintro ⟨⟨⟨%dg, %du, %hd, HG, HU⟩, Hg, HR⟩, ⟨%O, -, HO⟩, ⟨%d0, H0⟩, ⟨%d1, H1⟩, ⟨%d2, H2⟩, ⟨%d3, H3⟩, ⟨%d4, H4⟩, ⟨%d5, H5⟩⟩
    obtain ⟨rfl, rfl⟩ := hd e1
    rw [before_4 m c d4 t.val t rfl e1]
    iapply ((run_B c t _ _ (win0_1.stage (cfg0.slots t 1)) (hstage0_1 ((cfg0.slots t 1).cast nbuf0_1)) _ _ _ _ (win0_4.stage (cfg0.slots t 4)) (hstage0_4 ((cfg0.slots t 4).cast nbuf0_4)) _ _ h1 (iblk m c 0 t) (iblk m c 2 t) (held m c t 0) (held m c t 1)) O _)
    isplitl [H0]; · iexact H0
    isplitl [H2]; · iexact H2
    isplitl [H3]; · iexists _; iexact H3
    isplitl [H5]; · iexists _; iexact H5
    isplitl [HG]; · iexact HG
    isplitl [HU]; · iexact HU
    isplitl [HO]; · iexact HO
    iintro ⟨H0, H2, H3, H5, HG, HU, ⟨%O', HO⟩⟩
    isplitl [HG HU Hg HR]
    · isplitl [HG HU]
      · iexists _, _; isplitr
        · ipureintro; intro h8; rw [show (t.val + 1) / 8 = t.val / 8 by omega]; exact ⟨rfl, rfl⟩
        isplitl [HG]; · iexact HG
        iexact HU
      isplitl [Hg]; · iexact Hg
      iexact HR
    isplitl [HO]
    · iexists O'; isplitr; · ipureintro; exact fun _ _ => Or.inl trivial
      iexact HO
    isplitl [H0]; · iexact H0
    isplitl [H1]; · iexact H1
    isplitl [H2]; · iexact H2
    isplitl [H3]; · iexact H3
    isplitl [H4]
    · cases hfl : (cfg0.win 4).flush t
      · iexists d4; rw [before_4 m c d4 t.val t rfl e1]; iexact H4
      · iexact H4
    iexact H5

/-- The body table's row at a point is the body there. -/
theorem row (t : Fin cfg0.N) : defs₀ (F := F) .tc cfg0.body (cfg0.bodyArgs t (cfg0.slots t)) = bodyAt0 t := by
  unfold defs₀; rw [Defs.onTc_tc]
theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

theorem ownSems_list (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) := by
  rw [Pipeline.ownSems0_eq_of_list c osem [0, 1, 2, 3] (by decide) (by decide)]; rfl
theorem weights_list (c : Dev nD) :
    (bigSep Hs (fun b => ((c : Thread nD τ).loc b) ↦{fullShare} V m c b) : sProp 𝕄) = iprop(((c : Thread nD τ).loc main_arg2) ↦{fullShare} V m c main_arg2) := by
  rw [BI.bigSep_eq_bigSepL_of_eq [main_arg2] (by decide) (by decide)]; rfl
theorem handed (c : Dev nD) :
    (Pipeline.ΦD osem spec0 Hs (V m) c : sProp 𝕄)
      = iprop(iprop((∃ d, owns (c : Thread nD τ) stM fullShare d) ∗ (∃ d, owns (c : Thread nD τ) wgM fullShare d) ∗ (∃ d, owns (c : Thread nD τ) wuM fullShare d)) ∗ (∃ r, prngReg c r)
        ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0)
        ∗ iprop(((c : Thread nD τ).loc main_arg2) ↦{fullShare} V m c main_arg2)) := by
  rw [Pipeline.ΦD_eq, scopedRest0_eq, ownSems_list, weights_list]; simp only [stM, wgM, wuM, owns_whole]; try rfl

theorem hin (c : Dev nD) : Pipeline.ΦD osem spec0 Hs (V m) c ⊢ (dats m 0 c).Φ 0 := by
  rw [handed, show (dats m 0 c).Φ 0 = Inv m c 0 from rfl]
  unfold Inv
  rw [show (0 + 7) / 8 = 0 from rfl]
  iintro ⟨⟨HS, ⟨%d0, HG⟩, ⟨%d1, HU⟩⟩, Hg, HC, HW⟩
  isplitl [HG HU]
  · iexists d0, d1; isplitr; · ipureintro; exact fun h => absurd rfl h
    isplitl [HG]; · iexact HG
    iexact HU
  isplitl [Hg]; · iexact Hg
  iapply (stage_in (F := F) c _)
  isplitl [HS]; · iexact HS
  isplitl [HC]; · iexact HC
  iexact HW
theorem hout (c : Dev nD) : (dats m 0 c).Φ (Fin.last cfg0.N) ⊢ Pipeline.ΦD osem spec0 Hs (V m) c := by
  rw [handed, show (dats m 0 c).Φ (Fin.last cfg0.N) = Inv m c grid0.N from rfl]
  unfold Inv
  rw [show (grid0.N + 7) / 8 = 43 by rw [N_0]]
  iintro ⟨⟨%d0, %d1, -, HG, HU⟩, Hg, HR⟩
  ihave HX := (stage_out (F := F) c _) $$ HR
  icases HX with ⟨HS, HC, HW⟩
  isplitl [HS HG HU]
  · isplitl [HS]; · iexact HS
    isplitl [HG]; · iexists d0; iexact HG
    iexists d1; iexact HU
  isplitl [Hg]; · iexact Hg
  isplitl [HC]; · iexact HC
  iexact HW

set_option maxHeartbeats 800000 in
theorem hmain' (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- Every run ends, each array at the contents the points leave, every counter at zero. -/
theorem run : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none ownSemFacts Hs Hs_sub m ρ main
    (hbody := fun c => (obligation m c).loose) (hshare := fun c => (dats m 0 c).share_full fun _ => rfl)
    (howed := fun _ _ => rfl) (V := V m) (hmain := hmain' m Variants.none) (hA := A_eq m) (hin := hin m) (hout := hout m)

/-- Every run ends with the arguments unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1)),
      (h.1 c).2 main_arg2 (Pipeline.mem_restRefs_of main_arg2 (by decide) (by decide)),
      ((h.1 c).1 2).trans (((dats m 0 c).arrAt_in 2 rfl _).trans (A_eq m c 2))⟩, h.2⟩) (run m ρ)

end Cert.GateIdeal.Stream

end
-- ==== Proof.KeysRing.lean ====
module

public import proofs.«01_k».proof.Proof.Gen.KeysIdeal.Frame
public import proofs.«01_k».proof.Proof.Gen.KeysIdeal.Skeleton
public import Idealize.ShloMosaic.Lib.Ring
public import Idealize.ShloMosaic.Lib.Tactic
public import Idealize.ShloMosaic.Lib.VecWindow
public import Idealize.ShloMosaic.Lib.Pointwise.Reshape

@[expose] public section

set_option maxRecDepth 16384

noncomputable section

namespace Cert.KeysIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KeysIdeal Cert.KeysIdeal.Gen

variable {F : FTy → Type} [FloatOps F]

local notation "𝕄" => MT nD τ sig Unit (Elt F) ℕ (Pipeline.UD sig nD τ) ℕ

/-! ## The three branch conditions, in closed form -/

/-- The first row block of a column tile. -/
abbrev first (t : Fin grid0.N) : Prop := k0_cond1 (grid0.coords t) = 1#1
/-- The very first point. -/
abbrev start (t : Fin grid0.N) : Prop := k0_cond2 (grid0.coords t) = 1#1
/-- A column tile follows. -/
abbrev more (t : Fin grid0.N) : Prop := k0_cond3 (grid0.coords t) = 1#1

theorem first_iff : ∀ t : Fin grid0.N, first t ↔ t.val % 8 = 0 := by decide +kernel
theorem start_iff : ∀ t : Fin grid0.N, start t ↔ t.val < 8 := by decide +kernel
theorem more_iff : ∀ t : Fin grid0.N, more t ↔ t.val < 24 := by decide +kernel

/-! ## Slots, cells and source blocks by number -/

/-- The column tile of point `t`, and the one after it; the slots they are staged in. -/
abbrev tl (t : Fin grid0.N) : Fin 4 := Ring.bk 4 (t.val / 8)
abbrev tl' (t : Fin grid0.N) : Fin 4 := Ring.bk 4 (t.val / 8 + 1)
abbrev cur (t : Fin grid0.N) : Fin 2 := Ring.sl 2 (t.val / 8)
abbrev nxt (t : Fin grid0.N) : Fin 2 := Ring.sl 2 (t.val / 8 + 1)

abbrev stM : Memref sig .tc .vmem S2x512x4096 .f32 := Memref.whole cc0_scratch0
abbrev wM : Memref sig .tc .vmem S512x4096 .bf16 := Memref.whole cc0_scratch2
abbrev wtM : Memref sig .tc .hbm S12320x4096 .f32 := Memref.whole main_v4

theorem inb_slot (s : Fin 2) : ∀ a, (![s.val, 0, 0] : Fin 3 → Nat) a + S1x512x4096.size a ≤ S2x512x4096.size a := by
  revert s; decide
theorem inb_cell (s : Fin 2) : ∀ a, (![s.val] : Fin 1 → Nat) a + S1.size a ≤ S2.size a := by
  revert s; decide
theorem inb_src (b : Fin 4) : ∀ a, (![2048 + 512 * b.val, 0] : Fin 2 → Nat) a + S512x4096.size a ≤ S12320x4096.size a := by
  revert b; decide

/-- A staging slot. -/
def slotM (s : Fin 2) : Memref sig .tc .vmem S512x4096 .f32 :=
  (stM.slice (Rect.unit (s := S2x512x4096) ![s.val, 0, 0] S1x512x4096.size (inb_slot s)) (fun _ => rfl)).squeeze S512x4096 squeezes_S1x512x4096_S512x4096
/-- Its semaphore cell. -/
def cellA (s : Fin 2) : DmaSems sig S_ := (cc0_scratch1.slice (Rect.unit (s := S2) ![s.val] S1.size (inb_cell s))).squeeze S_ squeezes_S1_S_
/-- Column tile `b` of the segment, a row block of the transposed weights. -/
def srcM (b : Fin 4) : Memref sig .tc .hbm S512x4096 .f32 :=
  wtM.slice (Rect.unit (s := S12320x4096) ![2048 + 512 * b.val, 0] S512x4096.size (inb_src b)) (fun _ => rfl)

abbrev cellL (s : Fin 2) : SemLoc sig := SemLoc.dma (cellA s).sem
theorem cellL_eq : cellL 0 = SemLoc.dma 7 ∧ cellL 1 = SemLoc.dma 8 := by decide

/-- The kernel's own semaphores. -/
abbrev osem : Fin 2 → SemLoc sig := fun j => (![SemLoc.dma 7, SemLoc.dma 8] : Fin 2 → SemLoc sig) j
theorem ownSemFacts : Pipeline.OwnSemFacts spec0 osem := by decide
def Hs : Finset (Ref sig .tc) := {main_v4}
theorem Hs_sub : Hs ⊆ Pipeline.restRefs sig spec0 := by decide

/-! ## What the streaming holds -/

section Families
variable (c : Dev nD)

abbrev BufOf {sp : Space} {S : Shape} {e : EltTy} (M : Memref sig .tc sp S e) : Type := Buf (Elt F) (M.view.loc (c : Thread nD τ))

variable (W : BufOf (F := F) c wtM)

/-- The read share of the weights that goes with slot `s`. -/
abbrev qs (s : Fin 2) : PosShare TreeShare := if s.val = 0 then fullShare.left else fullShare.right

abbrev slotP (s : Fin 2) (f : BufOf (F := F) c (slotM s)) : sProp 𝕄 := (slotM s).view.loc (c : Thread nD τ) ↦[(slotM s).view.set]{fullShare} f
abbrev cellP (s : Fin 2) : sProp 𝕄 := semVal ((c : Thread nD τ), cellL s) 0
abbrev srcP (s : Fin 2) (b : Fin 4) : sProp 𝕄 := (srcM b).view.loc (c : Thread nD τ) ↦[(srcM b).view.set]{qs s} W
def restP (s : Fin 2) (b : Fin 4) : sProp 𝕄 := ((c : Thread nD τ).loc main_v4) ↦[Finset.univ \ (srcM b).view.set]{qs s} W
abbrev wholeP (s : Fin 2) : sProp 𝕄 := ((c : Thread nD τ).loc main_v4) ↦[Finset.univ]{qs s} W
abbrev landed (s : Fin 2) (b : Fin 4) (f : BufOf (F := F) c (slotM s)) : BufOf (F := F) c (slotM s) :=
  (slotM s).view.writes (Elt F) f [⟨Rect.whole S512x4096, ReadAs.same.apply ((srcM b).view.read (Elt F) W)⟩]
abbrev flightP (s : Fin 2) (b : Fin 4) (f : BufOf (F := F) c (slotM s)) : sProp 𝕄 :=
  Transfers.Flight countersEmb (c : Thread nD τ) (cellL s) default ((slotM s).view.amount (cellL s))
    iprop(slotP c s (landed c W s b f) ∗ srcP c W s b)

/-- Slot `s` idle: its cell at zero, the slot at some contents, its share of the weights whole. -/
def idle (s : Fin 2) : sProp 𝕄 := iprop(cellP c s ∗ ∃ f, (slotP c s f ∗ wholeP c W s))
/-- Tile `b` on its way into slot `s`. -/
def flying (s : Fin 2) (b : Fin 4) : sProp 𝕄 := iprop(∃ f, (flightP c W s b f ∗ restP c W s b))

theorem src_split (s : Fin 2) (b : Fin 4) : wholeP (F := F) c W s ⊣⊢ iprop(srcP c W s b ∗ restP c W s b) := by
  unfold restP; exact pointsTo_split_subset (Finset.subset_univ _)

/-- The staging before its tile `k`: nothing started before the first; then tile `k` on its way, the other slot idle;
    after the last everything idle. -/
def stage (k : ℕ) : sProp 𝕄 :=
  if k = 0 then iprop(idle c W 0 ∗ idle c W 1)
  else if k < 4 then iprop(flying c W (Ring.sl 2 k) (Ring.bk 4 k) ∗ idle c W (Ring.sl 2 (k + 1)))
  else iprop(idle c W (Ring.sl 2 k) ∗ idle c W (Ring.sl 2 (k + 1)))

end Families

/-! ## The staging buffer as its two slots -/

abbrev half (e : Fin 2) : Finset S2x512x4096.Idx := (Rect.unit (s := S2x512x4096) ![e.val, 0, 0] S1x512x4096.size (inb_slot e)).set
theorem slot_set (s : Fin 2) : (slotM s).view.set = half s := by
  simp only [slotM, Memref.view_squeeze, View.set_reshape]; exact View.set_slice_whole _ _
theorem half_disjoint (e e' : Fin 2) (h : e ≠ e') : Disjoint (half e) (half e') := by
  rw [Finset.disjoint_left]
  intro i hi hi'
  have a0 := (Rect.mem_set_unit.mp hi) 0
  have b0 := (Rect.mem_set_unit.mp hi') 0
  have he : e.val ≠ e'.val := fun h' => h (Fin.ext h')
  simp at a0 b0
  omega
theorem half_cover : Finset.univ.biUnion half = Finset.univ := by
  ext i
  simp only [Finset.mem_biUnion, Finset.mem_univ, true_and, iff_true]
  have h0 : (i 0).val < 2 := (i 0).isLt
  have h1 : (i 1).val < 512 := (i 1).isLt
  have h2 : (i 2).val < 4096 := (i 2).isLt
  refine ⟨⟨(i 0).val, h0⟩, Rect.mem_set_unit.mpr fun a => ?_⟩
  fin_cases a <;> simp <;> omega

/-! ## What the launch hands the staging, and takes back -/

section InOut
variable (c : Dev nD) (W : BufOf (F := F) c wtM)

private theorem of_eq {P Q : sProp 𝕄} (e : P = Q) : P ⊢ Q := e ▸ .rfl

theorem slotP_eq (s : Fin 2) (f) :
    slotP (F := F) c s f = (((c : Thread nD τ).loc cc0_scratch0) ↦[half s]{fullShare} f : sProp 𝕄) := by
  unfold slotP; rw [slot_set s]; rfl

theorem fin2 {M : Type} [URA M] (Φ : Fin 2 → sProp M) : bigSep Finset.univ Φ = iprop(Φ 0 ∗ Φ 1) :=
  bigSep_univ_eq_bigSepL [(0 : Fin 2), 1] (by decide) (by decide) Φ

theorem weights_split : (((c : Thread nD τ).loc main_v4) ↦{fullShare} W : sProp 𝕄) ⊣⊢ iprop(wholeP c W 0 ∗ wholeP c W 1) :=
  pointsTo_share (PosShare.mem_left_op_right fullShare)

/-- The buffers whole and the cells at zero are the staging before its first tile. -/
theorem stage_in :
    iprop((∃ d, owns (c : Thread nD τ) stM fullShare d)
      ∗ (semVal ((c : Thread nD τ), SemLoc.dma 7) 0 ∗ semVal ((c : Thread nD τ), SemLoc.dma 8) 0)
      ∗ (((c : Thread nD τ).loc main_v4) ↦{fullShare} W))
      ⊢ (stage c W 0 : sProp 𝕄) := by
  unfold stage idle; rw [if_pos rfl]
  obtain ⟨e0, e1⟩ := cellL_eq
  simp only [cellP, e0, e1, owns_whole]
  iintro ⟨⟨%d, HS⟩, ⟨C0, C1⟩, HW⟩
  ihave HQ := (of_eq ((Ring.pointsTo_blocks (Ix := Unit) (Name := ℕ) (U := Pipeline.UD sig nD τ) (Lvl := ℕ) (ℓ := (c : Thread nD τ).loc cc0_scratch0) (q := fullShare) half half_disjoint half_cover d).trans (fin2 _))) $$ HS
  icases HQ with ⟨Q0, Q1⟩
  ihave HW' := (weights_split c W).1 $$ HW
  icases HW' with ⟨W0, W1⟩
  isplitl [C0 Q0 W0]
  · isplitl [C0]; · iexact C0
    iexists d; isplitl [Q0]; · iapply (of_eq (slotP_eq c 0 d).symm); iexact Q0
    iexact W0
  · isplitl [C1]; · iexact C1
    iexists d; isplitl [Q1]; · iapply (of_eq (slotP_eq c 1 d).symm); iexact Q1
    iexact W1

/-- After the last tile the staging is those buffers and cells again. -/
theorem stage_out :
    (stage c W 4 : sProp 𝕄) ⊢ iprop((∃ d, owns (c : Thread nD τ) stM fullShare d)
      ∗ (semVal ((c : Thread nD τ), SemLoc.dma 7) 0 ∗ semVal ((c : Thread nD τ), SemLoc.dma 8) 0)
      ∗ (((c : Thread nD τ).loc main_v4) ↦{fullShare} W)) := by
  unfold stage idle; rw [if_neg (by decide), if_neg (by decide), show Ring.sl 2 4 = 0 from rfl, show Ring.sl 2 (4 + 1) = 1 from rfl]
  obtain ⟨e0, e1⟩ := cellL_eq
  simp only [cellP, e0, e1, owns_whole]
  iintro ⟨⟨C0, %d0, Q0, W0⟩, ⟨C1, %d1, Q1, W1⟩⟩
  isplitl [Q0 Q1]
  · iapply (Ring.pointsTo_blocks_join_exists (Ix := Unit) (Name := ℕ) (U := Pipeline.UD sig nD τ) (Lvl := ℕ) (ℓ := (c : Thread nD τ).loc cc0_scratch0) (q := fullShare) half half_disjoint half_cover d0)
    irw [fin2]
    isplitl [Q0]; · iexists d0; iapply (of_eq (slotP_eq c 0 d0)); iexact Q0
    iexists d1; iapply (of_eq (slotP_eq c 1 d1)); iexact Q1
  isplitl [C0 C1]
  · isplitl [C0]; · iexact C0
    iexact C1
  · iapply (weights_split c W).2
    isplitl [W0]; · iexact W0
    iexact W1

end InOut

/-! ## The body's own spellings of slots, cells and blocks -/

section Names
set_option synthInstance.maxSize 4096

theorem off1_at : ∀ t : Fin grid0.N, first t → k0_off1 (grid0.coords t) = ![(cur t).val] := by decide +kernel
theorem off2_at : ∀ t : Fin grid0.N, first t → k0_off2 (grid0.coords t) = ![(cur t).val, 0, 0] := by decide +kernel
theorem off4_at : ∀ t : Fin grid0.N, first t → k0_off4 (grid0.coords t) = ![(cur t).val, 0, 0] := by decide +kernel
theorem off5_at : ∀ t : Fin grid0.N, first t → more t → k0_off5 (grid0.coords t) = ![(nxt t).val] := by decide +kernel
theorem off6_at : ∀ t : Fin grid0.N, first t → more t → k0_off6 (grid0.coords t) = ![(nxt t).val, 0, 0] := by decide +kernel
theorem off7_at : ∀ t : Fin grid0.N, first t → more t → k0_off7 (grid0.coords t) = ![2048 + 512 * (tl' t).val, 0] := by decide +kernel
theorem zero_at : ∀ t : Fin grid0.N, first t → start t → cur t = 0 ∧ tl t = 0 := by decide +kernel

/-! The operands of the body's transfers and waits, by number. -/

theorem slot_named (o : Fin 3 → Nat) (s : Fin 2) (e : o = ![s.val, 0, 0]) (ib : ∀ a, o a + S1x512x4096.size a ≤ S2x512x4096.size a) :
    (stM.slice (Rect.unit (s := S2x512x4096) o S1x512x4096.size ib) (fun _ => rfl)).squeeze S512x4096 squeezes_S1x512x4096_S512x4096 = slotM s := by
  subst e; rfl
theorem cell_named (o : Fin 1 → Nat) (s : Fin 2) (e : o = ![s.val]) (ib : ∀ a, o a + S1.size a ≤ S2.size a) :
    (cc0_scratch1.slice (Rect.unit (s := S2) o S1.size ib)).squeeze S_ squeezes_S1_S_ = cellA s := by
  subst e; rfl
theorem src_named (o : Fin 2 → Nat) (b : Fin 4) (e : o = ![2048 + 512 * b.val, 0]) (ib : ∀ a, o a + S512x4096.size a ≤ S12320x4096.size a) :
    wtM.slice (Rect.unit (s := S12320x4096) o S512x4096.size ib) (fun _ => rfl) = srcM b := by
  subst e; rfl

@[sl_canon] theorem start_slot (t : Fin grid0.N) (h1 : first t) (h2 : start t) :
    (stM.slice (Rect.unit (s := S2x512x4096) ![0, 0, 0] S1x512x4096.size inb_S2x512x4096_S1x512x4096_0_0_0) (fun _ => rfl)).squeeze S512x4096 squeezes_S1x512x4096_S512x4096 = slotM (cur t) :=
  slot_named _ _ (by rw [(zero_at t h1 h2).1]; rfl) _
@[sl_canon] theorem start_cell (t : Fin grid0.N) (h1 : first t) (h2 : start t) :
    (cc0_scratch1.slice (Rect.unit (s := S2) ![0] S1.size inb_S2_S1_0)).squeeze S_ squeezes_S1_S_ = cellA (cur t) :=
  cell_named _ _ (by rw [(zero_at t h1 h2).1]; rfl) _
@[sl_canon] theorem start_src (t : Fin grid0.N) (h1 : first t) (h2 : start t) :
    wtM.slice (Rect.unit (s := S12320x4096) ![2048, 0] S512x4096.size inb_S12320x4096_S512x4096_2048_0) (fun _ => rfl) = srcM (tl t) :=
  src_named _ _ (by rw [(zero_at t h1 h2).2]; rfl) _
@[sl_canon] theorem wait_slot (t : Fin grid0.N) (h1 : first t) :
    (stM.slice (Rect.unit (s := S2x512x4096) (k0_off2 (grid0.coords t)) S1x512x4096.size (k0_off2_inb (grid0.coords t) h1)) (fun _ => rfl)).squeeze S512x4096 squeezes_S1x512x4096_S512x4096 = slotM (cur t) :=
  slot_named _ _ (off2_at t h1) _
@[sl_canon] theorem wait_cell (t : Fin grid0.N) (h1 : first t) :
    (cc0_scratch1.slice (Rect.unit (s := S2) (k0_off1 (grid0.coords t)) S1.size (k0_off1_inb (grid0.coords t) h1))).squeeze S_ squeezes_S1_S_ = cellA (cur t) :=
  cell_named _ _ (off1_at t h1) _
@[sl_canon] theorem next_slot (t : Fin grid0.N) (h1 : first t) (h3 : more t) :
    (stM.slice (Rect.unit (s := S2x512x4096) (k0_off6 (grid0.coords t)) S1x512x4096.size (k0_off6_inb (grid0.coords t) h1 h3)) (fun _ => rfl)).squeeze S512x4096 squeezes_S1x512x4096_S512x4096 = slotM (nxt t) :=
  slot_named _ _ (off6_at t h1 h3) _
@[sl_canon] theorem next_cell (t : Fin grid0.N) (h1 : first t) (h3 : more t) :
    (cc0_scratch1.slice (Rect.unit (s := S2) (k0_off5 (grid0.coords t)) S1.size (k0_off5_inb (grid0.coords t) h1 h3))).squeeze S_ squeezes_S1_S_ = cellA (nxt t) :=
  cell_named _ _ (off5_at t h1 h3) _
@[sl_canon] theorem next_src (t : Fin grid0.N) (h1 : first t) (h3 : more t) :
    wtM.slice (Rect.unit (s := S12320x4096) (k0_off7 (grid0.coords t)) S512x4096.size (k0_off7_inb (grid0.coords t) h1 h3)) (fun _ => rfl) = srcM (tl' t) :=
  src_named _ _ (off7_at t h1 h3) _
instance (priority := high) closed4 (t : Fin grid0.N) [h1 : Fact (first t)] : ClosedOff (k0_off4 (grid0.coords t)) := ⟨![(cur t).val, 0, 0], off4_at t h1.out⟩

/-- Column tile `b` of the segment, rounded to the matrix unit's width. -/
def tile (c : Dev nD) (W : BufOf (F := F) c wtM) (b : Fin 4) : Vec F S512x4096 .bf16 :=
  truncf .bf16 ((srcM b).view.read (Elt F) W) bitsLt_bf16_f32

end Names

/-- A slot loaded in place reads what the slot reads. -/
theorem slot_read (c : Dev nD) (s : Fin 2) (ib : ∀ a, (![s.val, 0, 0] : Fin 3 → Nat) a + S1x512x4096.size a ≤ S2x512x4096.size a)
    (w : BufOf (F := F) c stM) :
    shapeCast S512x4096 (View.readAt (Elt F) stM.view (Rect.unit (s := S2x512x4096) ![s.val, 0, 0] S1x512x4096.size ib).toLoadRect w) shapeCasts_S1x512x4096_S512x4096
      = (slotM s).view.read (Elt F) w := by
  unfold slotM
  rw [View.readAt_rect]
  rfl
/-- A slot landed at `v`, loaded, rounded: `v` rounded. -/
theorem loaded (c : Dev nD) (s : Fin 2) (o : Fin 3 → Nat) (e : o = ![s.val, 0, 0]) (ib : ∀ a, o a + S1x512x4096.size a ≤ S2x512x4096.size a)
    (g : BufOf (F := F) c (slotM s)) (v : Vec F S512x4096 .f32) :
    k0_pay3 (View.readAt (Elt F) stM.view (Rect.unit (s := S2x512x4096) o S1x512x4096.size ib).toLoadRect ((slotM s).view.writes (Elt F) g [⟨Rect.whole S512x4096, v⟩]))
      = truncf .bf16 v bitsLt_bf16_f32 := by
  subst e
  have key := (slot_read c s ib _).trans (View.read_writes_whole (slotM s).view g v)
  unfold k0_pay3
  dsimp only
  rw [shapeCast_id]
  exact congrArg (fun x : FVec F S512x4096 .f32 => truncf .bf16 x bitsLt_bf16_f32) key

end Cert.KeysIdeal.Stream

end
-- ==== Proof.KeysRunA.lean ====
module

public import proofs.«01_k».proof.Proof.KeysRing

@[expose] public section

set_option maxRecDepth 16384

noncomputable section

namespace Cert.KeysIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KeysIdeal Cert.KeysIdeal.Gen

variable {F : FTy → Type} [FloatOps F]

local notation "𝕄" => MT nD τ sig Unit (Elt F) ℕ (Pipeline.UD sig nD τ) ℕ

set_option maxHeartbeats 400000 in
/-- The very first point: tile 0 is started and awaited, tile 1 is started, and both results of the point are those of
    the tile just landed. -/
theorem run_A (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1024x512 .f32) (harg5 : arg5.IsWhole) (arg6 : Memref sig .tc .vmem S32x512 .f32) (harg6 : arg6.IsWhole)
    (h1 : first t) (h2 : start t) (h3 : more t)
    (x0 : Vec F S1024x4096 .bf16) (x1 : Vec F S32x4096 .bf16) (W : BufOf (F := F) c wtM) :
      ∀ (O : Waits sig Unit) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d)
            ∗ (∃ d, owns (c : Thread nD τ) wM fullShare d)
            ∗ idle c W (cur t) ∗ idle c W (nxt t) ∗ owes (c : Thread nD τ) 0 O
            ∗ (iprop(owns (c : Thread nD τ) arg2 fullShare x0 ∗ owns (c : Thread nD τ) arg3 fullShare x1 ∗ owns (c : Thread nD τ) arg5 fullShare (k0_pay2 x0 (tile c W (tl t)))
              ∗ owns (c : Thread nD τ) arg6 fullShare (k0_pay1 (k0_pay4 x1) (tile c W (tl t)))
              ∗ owns (c : Thread nD τ) wM fullShare (tile c W (tl t))
              ∗ flying c W (nxt t) (tl' t) ∗ idle c W (cur t) ∗ (∃ O', owes (c : Thread nD τ) 0 O')) -∗ K ⟨⟩))
          ⊢ wp frame (wpE (defs₀ (F := F)) Variants.none c none) Set.univ (cc0_in0_1 (grid0.coords t) arg2 harg2 arg3 harg3 wtM (Memref.isWhole_whole _) arg5 harg5 arg6 harg6 stM (Memref.isWhole_whole _) cc0_scratch1 wM (Memref.isWhole_whole _)) K := by
    intro O K
    haveI : Fact (first t) := ⟨h1⟩
    haveI : Fact (start t) := ⟨h2⟩
    haveI : Fact (more t) := ⟨h3⟩
    simp only [cc0_in0_1_eq_skeleton]; unfold cc0_in0_1_skel
    simp only [k0_part1_eq_skeleton]
    have c0 := start_slot t h1 h2
    have c2 := start_cell t h1 h2
    have c4 := start_src t h1 h2
    unfold owns idle flying
    iintro ⟨⟨%f0, %hf0, H0⟩, ⟨%f1, %hf1, H1⟩, ⟨%d3, %f3, -, H3⟩, ⟨%d4, %f4, -, H4⟩, ⟨%dg, %fg, -, HG⟩, ⟨Ca, %fa, Sa, Wa⟩, ⟨Cc, %fc, Sc, Wc⟩, HO, Hk⟩
    ihave Pa := (src_split c W (cur t) (tl t)).1 $$ Wa
    icases Pa with ⟨Xa, Ra⟩
    ihave Pc := (src_split c W (nxt t) (tl' t)).1 $$ Wc
    icases Pc with ⟨Xc, Rc⟩
    obtain rfl := harg2.eq_unread hf0; obtain rfl := harg3.eq_unread hf1
    sl_exec (disch := first | sl_exact h1 | sl_exact h2 | sl_exact h3)
    sl_step
    have hG : ∀ f, wM.view.read (Elt F) (wM.view.writes (Elt F) f (run_A.sl.HG_1 c t h1 W)) = tile c W (tl t) := by
      intro f
      unfold run_A.sl.HG_1 run_A.sl.dma0
      rw [View.read_writes_full]
      exact loaded c (cur t) _ (off4_at t h1) _ _ _
    have hG' : run_A.sl.v42 c t h1 W = tile c W (tl t) := by
      unfold run_A.sl.v42 View.readCov
      rw [View.readAt_full]
      exact hG _
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; swap; · iexact H3
      ipureintro
      rw [View.read_writes_full, View.readAt_full, harg2.read_unread]
      exact congrArg (k0_pay2 x0) hG'
    isplitl [H4]
    · iexists _; isplitr; swap; · iexact H4
      ipureintro
      rw [View.read_writes_full]; unfold run_A.sl.r; rw [View.readAt_full, harg3.read_unread]
      exact congrArg (k0_pay1 (k0_pay4 x1)) hG'
    isplitl [HG]
    · iexists _; isplitr; swap; · iexact HG
      ipureintro
      exact hG fg
    isplitl [Cc Rc]
    · iexists _; isplitl [Cc]; · iexact Cc
      iexact Rc
    isplitl [Ca Sa Xa Ra]
    · isplitl [Ca]; · iexact Ca
      iexists _; isplitl [Sa]; · iexact Sa
      iapply (src_split c W (cur t) (tl t)).2; isplitl [Xa]; · iexact Xa
      iexact Ra
    iexists _; iexact HO

end Cert.KeysIdeal.Stream

end
-- ==== Proof.KeysRunB.lean ====
module

public import proofs.«01_k».proof.Proof.KeysRing

@[expose] public section

set_option maxRecDepth 16384

noncomputable section

namespace Cert.KeysIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KeysIdeal Cert.KeysIdeal.Gen

variable {F : FTy → Type} [FloatOps F]

local notation "𝕄" => MT nD τ sig Unit (Elt F) ℕ (Pipeline.UD sig nD τ) ℕ

set_option maxHeartbeats 400000 in
/-- A later row block of a tile: the result of the point is that of the tile held. -/
theorem run_B (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1024x512 .f32) (harg5 : arg5.IsWhole) (arg6 : Memref sig .tc .vmem S32x512 .f32) (harg6 : arg6.IsWhole)
    (h1 : ¬ first t)
    (x0 : Vec F S1024x4096 .bf16) (w0 : Vec F S512x4096 .bf16) :
      ∀ (O : Waits sig Unit) (K : PUnit → sProp 𝕄),
        iprop(owns (c : Thread nD τ) arg2 fullShare x0 ∗ (∃ d, owns (c : Thread nD τ) arg5 fullShare d) ∗ owns (c : Thread nD τ) wM fullShare w0 ∗ owes (c : Thread nD τ) 0 O
            ∗ (iprop(owns (c : Thread nD τ) arg2 fullShare x0 ∗ owns (c : Thread nD τ) arg5 fullShare (k0_pay2 x0 w0)
              ∗ owns (c : Thread nD τ) wM fullShare w0 ∗ (∃ O', owes (c : Thread nD τ) 0 O')) -∗ K ⟨⟩))
          ⊢ wp frame (wpE (defs₀ (F := F)) Variants.none c none) Set.univ (cc0_in0_1 (grid0.coords t) arg2 harg2 arg3 harg3 wtM (Memref.isWhole_whole _) arg5 harg5 arg6 harg6 stM (Memref.isWhole_whole _) cc0_scratch1 wM (Memref.isWhole_whole _)) K := by
    intro O K
    haveI : Fact (¬ first t) := ⟨h1⟩
    simp only [cc0_in0_1_eq_skeleton]; unfold cc0_in0_1_skel
    unfold owns
    iintro ⟨⟨%f0, %hf0, H0⟩, ⟨%d3, %f3, -, H3⟩, ⟨%fg, %hg, HG⟩, HO, Hk⟩
    obtain rfl := harg2.eq_unread hf0
    sl_exec (disch := sl_exact h1)
    sl_step
    iapply Hk
    isplitl [H0]
    · iexists _; isplitr; · ipureintro; exact harg2.read_unread _
      iexact H0
    isplitl [H3]
    · iexists _; isplitr; swap; · iexact H3
      ipureintro
      rw [View.read_writes_full, View.readAt_full, harg2.read_unread]
      rw [View.readAt_full, hg]
    isplitl [HG]
    · iexists _; isplitr; swap; · iexact HG
      ipureintro
      exact hg
    iexists _; iexact HO

end Cert.KeysIdeal.Stream

end
-- ==== Proof.KeysRunC.lean ====
module

public import proofs.«01_k».proof.Proof.KeysRing

@[expose] public section

set_option maxRecDepth 16384

noncomputable section

namespace Cert.KeysIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KeysIdeal Cert.KeysIdeal.Gen

variable {F : FTy → Type} [FloatOps F]

local notation "𝕄" => MT nD τ sig Unit (Elt F) ℕ (Pipeline.UD sig nD τ) ℕ

set_option maxHeartbeats 400000 in
/-- The first row block of a middle tile: the tile is awaited, the next one is started, and both results of the point are
    those of the tile just landed. -/
theorem run_C (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1024x512 .f32) (harg5 : arg5.IsWhole) (arg6 : Memref sig .tc .vmem S32x512 .f32) (harg6 : arg6.IsWhole)
    (h1 : first t) (h2 : ¬ start t) (h3 : more t)
    (x0 : Vec F S1024x4096 .bf16) (x1 : Vec F S32x4096 .bf16) (W : BufOf (F := F) c wtM) :
      ∀ (O : Waits sig Unit) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d)
            ∗ (∃ d, owns (c : Thread nD τ) wM fullShare d)
            ∗ flying c W (cur t) (tl t) ∗ idle c W (nxt t) ∗ owes (c : Thread nD τ) 0 O
            ∗ (iprop(owns (c : Thread nD τ) arg2 fullShare x0 ∗ owns (c : Thread nD τ) arg3 fullShare x1 ∗ owns (c : Thread nD τ) arg5 fullShare (k0_pay2 x0 (tile c W (tl t)))
              ∗ owns (c : Thread nD τ) arg6 fullShare (k0_pay1 (k0_pay4 x1) (tile c W (tl t)))
              ∗ owns (c : Thread nD τ) wM fullShare (tile c W (tl t))
              ∗ flying c W (nxt t) (tl' t) ∗ idle c W (cur t) ∗ (∃ O', owes (c : Thread nD τ) 0 O')) -∗ K ⟨⟩))
          ⊢ wp frame (wpE (defs₀ (F := F)) Variants.none c none) Set.univ (cc0_in0_1 (grid0.coords t) arg2 harg2 arg3 harg3 wtM (Memref.isWhole_whole _) arg5 harg5 arg6 harg6 stM (Memref.isWhole_whole _) cc0_scratch1 wM (Memref.isWhole_whole _)) K := by
    intro O K
    haveI : Fact (first t) := ⟨h1⟩
    haveI : Fact (¬ start t) := ⟨h2⟩
    haveI : Fact (more t) := ⟨h3⟩
    simp only [cc0_in0_1_eq_skeleton]; unfold cc0_in0_1_skel
    simp only [k0_part1_eq_skeleton]
    unfold owns idle flying
    iintro ⟨⟨%f0, %hf0, H0⟩, ⟨%f1, %hf1, H1⟩, ⟨%d3, %f3, -, H3⟩, ⟨%d4, %f4, -, H4⟩, ⟨%dg, %fg, -, HG⟩, ⟨%fa, Ca, Ra⟩, ⟨Cc, %fc, Sc, Wc⟩, HO, Hk⟩
    ihave Pc := (src_split c W (nxt t) (tl' t)).1 $$ Wc
    icases Pc with ⟨Xc, Rc⟩
    obtain rfl := harg2.eq_unread hf0; obtain rfl := harg3.eq_unread hf1
    sl_exec (disch := first | sl_exact h1 | sl_exact h2 | sl_exact h3)
    sl_step
    have hG : ∀ f, wM.view.read (Elt F) (wM.view.writes (Elt F) f (run_C.sl.HG_1 c t h1 W)) = tile c W (tl t) := by
      intro f
      unfold run_C.sl.HG_1 run_C.sl.v30
      rw [View.read_writes_full]
      exact loaded c (cur t) _ (off4_at t h1) _ _ _
    have hG' : run_C.sl.v42 c t h1 W = tile c W (tl t) := by
      unfold run_C.sl.v42 View.readCov
      rw [View.readAt_full]
      exact hG _
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; swap; · iexact H3
      ipureintro
      rw [View.read_writes_full, View.readAt_full, harg2.read_unread]
      exact congrArg (k0_pay2 x0) hG'
    isplitl [H4]
    · iexists _; isplitr; swap; · iexact H4
      ipureintro
      rw [View.read_writes_full]; unfold run_C.sl.r; rw [View.readAt_full, harg3.read_unread]
      exact congrArg (k0_pay1 (k0_pay4 x1)) hG'
    isplitl [HG]
    · iexists _; isplitr; swap; · iexact HG
      ipureintro
      exact hG fg
    isplitl [Cc Rc]
    · iexists _; isplitl [Cc]; · iexact Cc
      iexact Rc
    isplitl [Ca Ca_dst Ca_src Ra]
    · isplitl [Ca]; · iexact Ca
      iexists _; isplitl [Ca_dst]; · iexact Ca_dst
      iapply (src_split c W (cur t) (tl t)).2; isplitl [Ca_src]; · iexact Ca_src
      iexact Ra
    iexists _; iexact HO

end Cert.KeysIdeal.Stream

end
-- ==== Proof.KeysRunD.lean ====
module

public import proofs.«01_k».proof.Proof.KeysRing

@[expose] public section

set_option maxRecDepth 16384

noncomputable section

namespace Cert.KeysIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KeysIdeal Cert.KeysIdeal.Gen

variable {F : FTy → Type} [FloatOps F]

local notation "𝕄" => MT nD τ sig Unit (Elt F) ℕ (Pipeline.UD sig nD τ) ℕ

set_option maxHeartbeats 400000 in
/-- The first row block of the last tile: the tile is awaited, nothing is started, and both results of the point are those
    of the tile just landed. -/
theorem run_D (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1024x512 .f32) (harg5 : arg5.IsWhole) (arg6 : Memref sig .tc .vmem S32x512 .f32) (harg6 : arg6.IsWhole)
    (h1 : first t) (h2 : ¬ start t) (h3 : ¬ more t)
    (x0 : Vec F S1024x4096 .bf16) (x1 : Vec F S32x4096 .bf16) (W : BufOf (F := F) c wtM) :
      ∀ (O : Waits sig Unit) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d)
            ∗ (∃ d, owns (c : Thread nD τ) wM fullShare d)
            ∗ flying c W (cur t) (tl t) ∗ owes (c : Thread nD τ) 0 O
            ∗ (iprop(owns (c : Thread nD τ) arg2 fullShare x0 ∗ owns (c : Thread nD τ) arg3 fullShare x1 ∗ owns (c : Thread nD τ) arg5 fullShare (k0_pay2 x0 (tile c W (tl t)))
              ∗ owns (c : Thread nD τ) arg6 fullShare (k0_pay1 (k0_pay4 x1) (tile c W (tl t)))
              ∗ owns (c : Thread nD τ) wM fullShare (tile c W (tl t))
              ∗ idle c W (cur t) ∗ (∃ O', owes (c : Thread nD τ) 0 O')) -∗ K ⟨⟩))
          ⊢ wp frame (wpE (defs₀ (F := F)) Variants.none c none) Set.univ (cc0_in0_1 (grid0.coords t) arg2 harg2 arg3 harg3 wtM (Memref.isWhole_whole _) arg5 harg5 arg6 harg6 stM (Memref.isWhole_whole _) cc0_scratch1 wM (Memref.isWhole_whole _)) K := by
    intro O K
    haveI : Fact (first t) := ⟨h1⟩
    haveI : Fact (¬ start t) := ⟨h2⟩
    haveI : Fact (¬ more t) := ⟨h3⟩
    simp only [cc0_in0_1_eq_skeleton]; unfold cc0_in0_1_skel
    simp only [k0_part1_eq_skeleton]
    unfold owns idle flying
    iintro ⟨⟨%f0, %hf0, H0⟩, ⟨%f1, %hf1, H1⟩, ⟨%d3, %f3, -, H3⟩, ⟨%d4, %f4, -, H4⟩, ⟨%dg, %fg, -, HG⟩, ⟨%fa, Ca, Ra⟩, HO, Hk⟩
    obtain rfl := harg2.eq_unread hf0; obtain rfl := harg3.eq_unread hf1
    sl_exec (disch := first | sl_exact h1 | sl_exact h2 | sl_exact h3)
    sl_step
    have hG : ∀ f, wM.view.read (Elt F) (wM.view.writes (Elt F) f (run_D.sl.HG_1 c t h1 W)) = tile c W (tl t) := by
      intro f
      unfold run_D.sl.HG_1 run_D.sl.v30
      rw [View.read_writes_full]
      exact loaded c (cur t) _ (off4_at t h1) _ _ _
    have hG' : run_D.sl.v42 c t h1 W = tile c W (tl t) := by
      unfold run_D.sl.v42 View.readCov
      rw [View.readAt_full]
      exact hG _
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; swap; · iexact H3
      ipureintro
      rw [View.read_writes_full, View.readAt_full, harg2.read_unread]
      exact congrArg (k0_pay2 x0) hG'
    isplitl [H4]
    · iexists _; isplitr; swap; · iexact H4
      ipureintro
      rw [View.read_writes_full]; unfold run_D.sl.r; rw [View.readAt_full, harg3.read_unread]
      exact congrArg (k0_pay1 (k0_pay4 x1)) hG'
    isplitl [HG]
    · iexists _; isplitr; swap; · iexact HG
      ipureintro
      exact hG fg
    isplitl [Ca Ca_dst Ca_src Ra]
    · isplitl [Ca]; · iexact Ca
      iexists _; isplitl [Ca_dst]; · iexact Ca_dst
      iapply (src_split c W (cur t) (tl t)).2; isplitl [Ca_src]; · iexact Ca_src
      iexact Ra
    iexists _; iexact HO

end Cert.KeysIdeal.Stream

end
-- ==== Proof.KeysRun.lean ====
module

public import proofs.«01_k».proof.Proof.KeysRunA
public import proofs.«01_k».proof.Proof.KeysRunB
public import proofs.«01_k».proof.Proof.KeysRunC
public import proofs.«01_k».proof.Proof.KeysRunD
public import Idealize.ShloMosaic.Lib.Pipeline.FrameBody
public import Idealize.ShloMosaic.Lib.Pipeline.TableIdle

@[expose] public section

set_option maxRecDepth 16384

noncomputable section

namespace Cert.KeysIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KeysIdeal Cert.KeysIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The staging before and after a step, slots by number -/

section Steps
variable (c : Dev nD) (W : BufOf (F := F) c wtM)

theorem back (k : ℕ) : Ring.sl 2 (k + 1 + 1) = Ring.sl 2 k := Fin.ext (by simp [Ring.sl]; omega)
theorem stage_here (k : ℕ) (h1 : k ≠ 0) (h2 : k < 4) : stage c W k = iprop(flying c W (Ring.sl 2 k) (Ring.bk 4 k)
    ∗ idle c W (Ring.sl 2 (k + 1))) := by
  unfold stage; rw [if_neg h1, if_pos h2]
theorem stage_next (k : ℕ) (h2 : k + 1 < 4) : stage c W (k + 1) = iprop(flying c W (Ring.sl 2 (k + 1)) (Ring.bk 4 (k + 1))
    ∗ idle c W (Ring.sl 2 k)) := by
  unfold stage; rw [if_neg (Nat.succ_ne_zero k), if_pos h2, back]
theorem stage_last (k : ℕ) (h2 : k + 1 = 4) : stage c W (k + 1) = iprop(idle c W (Ring.sl 2 (k + 1))
    ∗ idle c W (Ring.sl 2 k)) := by
  unfold stage; rw [if_neg (Nat.succ_ne_zero k), if_neg (by omega), back]

end Steps

/-! ## The pipeline's data -/

/-- The tile held at point `t`, rounded. -/
def held (c : Dev nD) (t : Fin cfg0.N) : Vec F S512x4096 .bf16 := tile c (V m c main_v4) (tl t)

/-- Before point `k`: the rounded tile is the current one (inside a tile), and the staging. -/
def Inv (c : Dev nD) (k : ℕ) : sProp 𝕄 :=
  iprop((∃ d0, ⌜k % 8 ≠ 0 → d0 = tile c (V m c main_v4) (Ring.bk 4 (k / 8))⌝
      ∗ owns (c : Thread nD τ) wM fullShare d0)
    ∗ (∃ r, prngReg c r) ∗ stage c (V m c main_v4) ((k + 7) / 8))

/-- What every point leaves in each window. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (held m c t)
    | ⟨3, _⟩ => k0_pay1 (k0_pay4 (iblk m c 1 t)) (held m c t)
  Φ t := Inv m c t.val
  q _ := fullShare
  owed _ := 0

theorem A_eq (c : Dev nD) (w : Fin cfg0.W) : (dats m 0 c).A w = V m c (Pipeline.arrRef spec0 w) := by
  dsimp only [dats]
theorem inv_before (c : Dev nD) (t : Fin cfg0.N) : (dats m 0 c).Φ t.castSucc = Inv m c t.val := by
  dsimp only [dats]; simp only [Fin.coe_castSucc]
theorem inv_after (c : Dev nD) (t : Fin cfg0.N) : (dats m 0 c).Φ t.succ = Inv m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay2 (iblk m c 0 t) (held m c t) := by dsimp only [dats]
theorem after_3 (c : Dev nD) (t : Fin cfg0.N) : (dats m 0 c).after 3 t = k0_pay1 (k0_pay4 (iblk m c 1 t)) (held m c t) := by dsimp only [dats]

/-- Every input window holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem idle_3 (t : Fin cfg0.N) : cfg0.idle 3 (grid0.coords t) = !(k0_cond1 (grid0.coords t) == 1#1) := rfl
theorem idle_3_first (t : Fin cfg0.N) (h : first t) : cfg0.idle 3 (cfg0.grid.coords t) = false := by
  show (!(k0_cond1 (grid0.coords t) == 1#1)) = false
  rw [show k0_cond1 (grid0.coords t) = 1#1 from h]; rfl
theorem idle_3_later (t : Fin cfg0.N) (h : ¬ first t) : cfg0.idle 3 (cfg0.grid.coords t) = true := by
  show (!(k0_cond1 (grid0.coords t) == 1#1)) = true
  rw [beq_eq_false_iff_ne.mpr h]; rfl

/-- The small output is the same all through a tile. -/
theorem after_3_tile (c : Dev nD) (t t' : Fin cfg0.N) (h : t'.val / 8 = t.val / 8) : (dats m 0 c).after 3 t' = (dats m 0 c).after 3 t := by
  rw [after_3, after_3]
  unfold held
  show k0_pay1 (k0_pay4 (iblk m c 1 _)) (tile c _ (Ring.bk 4 (t'.val / 8))) = _
  rw [h]
  rfl
/-- Inside a tile its buffer still holds what the tile's first point left. -/
theorem before_3 (c : Dev nD) (d) : ∀ (n : ℕ) (t : Fin cfg0.N), t.val = n → n % 8 ≠ 0 → (dats m 0 c).before 3 t d = (dats m 0 c).after 3 t := by
  intro n
  induction n with
  | zero => intro t _ h; exact absurd rfl h
  | succ n ih =>
    intro t e h
    have ht : t.val ≠ 0 := by omega
    rw [(dats m 0 c).before_of_pos 3 t ht rfl d, if_neg (fun e' => by have := (flush0_3 _).mp e'; simp only at this; omega)]
    rw [← after_3_tile m c t ⟨t.val - 1, Nat.lt_of_le_of_lt (Nat.sub_le _ _) t.isLt⟩ (by simp only; omega)]
    unfold Dat.left
    by_cases hf : first ⟨t.val - 1, Nat.lt_of_le_of_lt (Nat.sub_le _ _) t.isLt⟩
    · rw [idle_3_first _ hf]; rfl
    · rw [idle_3_later _ hf]
      exact ih _ (by simp only; omega) (fun e' => hf ((first_iff _).mpr (by simp only; omega)))

/-! ## The body, at every point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (dats m 0 c).leavesExact 3 t)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, after_0, after_1, after_2]
  rw [inv_before m c t, inv_after m c t]
  unfold Dat.owesAt Pipeline.owesWithin
  rw [show (dats m 0 c).owed t.castSucc = 0 from rfl, show (dats m 0 c).owed t.succ = 0 from rfl]
  unfold Inv
  have hN : t.val < 32 := lt_of_lt_of_eq t.isLt (show cfg0.N = 32 from N_0)
  have i1 := first_iff t
  have i2 := start_iff t
  have i3 := more_iff t
  by_cases h1 : first t
  · have e1 := i1.mp h1
    have s1 : (t.val + 7) / 8 = t.val / 8 := by omega
    have s2 : (t.val + 1 + 7) / 8 = t.val / 8 + 1 := by omega
    have s3 : (t.val + 1) / 8 = t.val / 8 := by omega
    rw [s1, s2, s3]
    rw [show (dats m 0 c).leavesExact 3 t = owns (c : Thread nD τ) (win0_3.stage (cfg0.slots t 3)) fullShare ((dats m 0 c).after 3 t) from by
      unfold Dat.leavesExact; rw [idle_3_first t h1], after_3]
    by_cases h2 : start t
    · have h3 : more t := i3.mpr (by have := i2.mp h2; omega)
      have e2 : t.val / 8 = 0 := by have := i2.mp h2; omega
      rw [show stage c (V m c main_v4) (t.val / 8) = iprop(idle c (V m c main_v4) (cur t) ∗ idle c (V m c main_v4) (nxt t)) by unfold cur nxt; rw [e2]; try rfl]
      rw [stage_next c _ (t.val / 8) (by omega)]
      iintro ⟨⟨⟨%dg, -, HG⟩, Hg, Ra, Rb⟩, ⟨%O, -, HO⟩, ⟨%d0, H0⟩, ⟨%d1, H1⟩, ⟨%d2, H2⟩, ⟨%d3, H3⟩⟩
      iapply ((run_A c t _ _ _ _ _ _ _ _ h1 h2 h3 (iblk m c 0 t) (iblk m c 1 t) (V m c main_v4)) O _)
      isplitl [H0]; · iexact H0
      isplitl [H1]; · iexact H1
      isplitl [H2]; · iexists _; iexact H2
      isplitl [H3]; · iexists _; iexact H3
      isplitl [HG]; · iexists _; iexact HG
      isplitl [Ra]; · iexact Ra
      isplitl [Rb]; · iexact Rb
      isplitl [HO]; · iexact HO
      iintro ⟨H0, H1, H2, H3, HG, Ra, Rb, ⟨%O', HO⟩⟩
      isplitl [HG Hg Ra Rb]
      · isplitl [HG]
        · iexists _; isplitr; · ipureintro; exact fun _ => rfl
          iexact HG
        isplitl [Hg]; · iexact Hg
        isplitl [Ra]; · iexact Ra
        iexact Rb
      isplitl [HO]
      · iexists O'; isplitr; · ipureintro; exact fun _ _ => Or.inl trivial
        iexact HO
      isplitl [H0]; · iexact H0
      isplitl [H1]; · iexact H1
      isplitl [H2]; · iexact H2
      iexact H3
    · by_cases h3 : more t
      · have e3 := i3.mp h3
        have e2 : t.val / 8 ≠ 0 := by intro e; exact h2 (i2.mpr (by omega))
        rw [stage_here c _ (t.val / 8) e2 (by omega), stage_next c _ (t.val / 8) (by omega)]
        iintro ⟨⟨⟨%dg, -, HG⟩, Hg, Ra, Rb⟩, ⟨%O, -, HO⟩, ⟨%d0, H0⟩, ⟨%d1, H1⟩, ⟨%d2, H2⟩, ⟨%d3, H3⟩⟩
        iapply ((run_C c t _ _ _ _ _ _ _ _ h1 h2 h3 (iblk m c 0 t) (iblk m c 1 t) (V m c main_v4)) O _)
        isplitl [H0]; · iexact H0
        isplitl [H1]; · iexact H1
        isplitl [H2]; · iexists _; iexact H2
        isplitl [H3]; · iexists _; iexact H3
        isplitl [HG]; · iexists _; iexact HG
        isplitl [Ra]; · iexact Ra
        isplitl [Rb]; · iexact Rb
        isplitl [HO]; · iexact HO
        iintro ⟨H0, H1, H2, H3, HG, Ra, Rb, ⟨%O', HO⟩⟩
        isplitl [HG Hg Ra Rb]
        · isplitl [HG]
          · iexists _; isplitr; · ipureintro; exact fun _ => rfl
            iexact HG
          isplitl [Hg]; · iexact Hg
          isplitl [Ra]; · iexact Ra
          iexact Rb
        isplitl [HO]
        · iexists O'; isplitr; · ipureintro; exact fun _ _ => Or.inl trivial
          iexact HO
        isplitl [H0]; · iexact H0
        isplitl [H1]; · iexact H1
        isplitl [H2]; · iexact H2
        iexact H3
      · have e2 : t.val / 8 ≠ 0 := by intro e; exact h2 (i2.mpr (by omega))
        have e3 : t.val / 8 + 1 = 4 := by have h4 : ¬ t.val < 24 := fun h => h3 (i3.mpr h); omega
        rw [stage_here c _ (t.val / 8) e2 (Nat.lt_of_succ_le e3.le), stage_last c _ (t.val / 8) e3]
        iintro ⟨⟨⟨%dg, -, HG⟩, Hg, Ra, Rb⟩, ⟨%O, -, HO⟩, ⟨%d0, H0⟩, ⟨%d1, H1⟩, ⟨%d2, H2⟩, ⟨%d3, H3⟩⟩
        iapply ((run_D c t _ _ _ _ _ _ _ _ h1 h2 h3 (iblk m c 0 t) (iblk m c 1 t) (V m c main_v4)) O _)
        isplitl [H0]; · iexact H0
        isplitl [H1]; · iexact H1
        isplitl [H2]; · iexists _; iexact H2
        isplitl [H3]; · iexists _; iexact H3
        isplitl [HG]; · iexists _; iexact HG
        isplitl [Ra]; · iexact Ra
        isplitl [HO]; · iexact HO
        iintro ⟨H0, H1, H2, H3, HG, Ra, ⟨%O', HO⟩⟩
        isplitl [HG Hg Ra Rb]
        · isplitl [HG]
          · iexists _; isplitr; · ipureintro; exact fun _ => rfl
            iexact HG
          isplitl [Hg]; · iexact Hg
          isplitl [Rb]; · iexact Rb
          iexact Ra
        isplitl [HO]
        · iexists O'; isplitr; · ipureintro; exact fun _ _ => Or.inl trivial
          iexact HO
        isplitl [H0]; · iexact H0
        isplitl [H1]; · iexact H1
        isplitl [H2]; · iexact H2
        iexact H3
  · have e1 : t.val % 8 ≠ 0 := fun h => h1 (i1.mpr h)
    have s1 : (t.val + 1 + 7) / 8 = (t.val + 7) / 8 := by omega
    rw [s1]
    rw [show (dats m 0 c).leavesExact 3 t = _ from by unfold Dat.leavesExact; rw [idle_3_later t h1]]
    iintro ⟨⟨⟨%dg, %hd, HG⟩, Hg, HR⟩, ⟨%O, -, HO⟩, ⟨%d0, H0⟩, ⟨%d1, H1⟩, ⟨%d2, H2⟩, ⟨%d3, H3⟩⟩
    obtain rfl := hd e1
    rw [before_3 m c d3 t.val t rfl e1]
    iapply ((run_B c t _ _ (win0_1.stage (cfg0.slots t 1)) (hstage0_1 ((cfg0.slots t 1).cast nbuf0_1)) _ _ (win0_3.stage (cfg0.slots t 3)) (hstage0_3 ((cfg0.slots t 3).cast nbuf0_3)) h1 (iblk m c 0 t) (held m c t)) O _)
    isplitl [H0]; · iexact H0
    isplitl [H2]; · iexists _; iexact H2
    isplitl [HG]; · iexact HG
    isplitl [HO]; · iexact HO
    iintro ⟨H0, H2, HG, ⟨%O', HO⟩⟩
    isplitl [HG Hg HR]
    · isplitl [HG]
      · iexists _; isplitr
        · ipureintro; intro h8; rw [show (t.val + 1) / 8 = t.val / 8 by omega]; try rfl
        iexact HG
      isplitl [Hg]; · iexact Hg
      iexact HR
    isplitl [HO]
    · iexists O'; isplitr; · ipureintro; exact fun _ _ => Or.inl trivial
      iexact HO
    isplitl [H0]; · iexact H0
    isplitl [H1]; · iexact H1
    isplitl [H2]; · iexact H2
    cases hfl : (cfg0.win 3).flush t
    · iexists d3; rw [before_3 m c d3 t.val t rfl e1]; iexact H3
    · iexact H3

/-- The body table's row at a point is the body there. -/
theorem row (t : Fin cfg0.N) : defs₀ (F := F) .tc cfg0.body (cfg0.bodyArgs t (cfg0.slots t)) = bodyAt0 t := by
  unfold defs₀; rw [Defs.onTc_tc]
theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

theorem ownSems_list (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 7) 0 ∗ semVal ((c : Thread nD τ), SemLoc.dma 8) 0) := by
  rw [Pipeline.ownSems0_eq_of_list c osem [0, 1] (by decide) (by decide)]; try rfl
theorem weights_list (c : Dev nD) :
    (bigSep Hs (fun b => ((c : Thread nD τ).loc b) ↦{fullShare} V m c b) : sProp 𝕄) = iprop(((c : Thread nD τ).loc main_v4) ↦{fullShare} V m c main_v4) := by
  rw [BI.bigSep_eq_bigSepL_of_eq [main_v4] (by decide) (by decide)]; try rfl
theorem handed (c : Dev nD) :
    (Pipeline.ΦD osem spec0 Hs (V m) c : sProp 𝕄)
      = iprop(iprop((∃ d, owns (c : Thread nD τ) stM fullShare d) ∗ (∃ d, owns (c : Thread nD τ) wM fullShare d)) ∗ (∃ r, prngReg c r)
        ∗ iprop(semVal ((c : Thread nD τ), SemLoc.dma 7) 0 ∗ semVal ((c : Thread nD τ), SemLoc.dma 8) 0)
        ∗ iprop(((c : Thread nD τ).loc main_v4) ↦{fullShare} V m c main_v4)) := by
  rw [Pipeline.ΦD_eq, scopedRest0_eq, ownSems_list, weights_list]; simp only [stM, wM, owns_whole]; try rfl

theorem hin (c : Dev nD) : Pipeline.ΦD osem spec0 Hs (V m) c ⊢ (dats m 0 c).Φ 0 := by
  rw [handed, show (dats m 0 c).Φ 0 = Inv m c 0 from rfl]
  unfold Inv
  rw [show (0 + 7) / 8 = 0 from rfl]
  iintro ⟨⟨HS, ⟨%d0, HG⟩⟩, Hg, HC, HW⟩
  isplitl [HG]
  · iexists d0; isplitr; · ipureintro; exact fun h => absurd rfl h
    iexact HG
  isplitl [Hg]; · iexact Hg
  iapply (stage_in (F := F) c _)
  isplitl [HS]; · iexact HS
  isplitl [HC]; · iexact HC
  iexact HW
theorem hout (c : Dev nD) : (dats m 0 c).Φ (Fin.last cfg0.N) ⊢ Pipeline.ΦD osem spec0 Hs (V m) c := by
  rw [handed, show (dats m 0 c).Φ (Fin.last cfg0.N) = Inv m c grid0.N from rfl]
  unfold Inv
  rw [show (grid0.N + 7) / 8 = 4 from by rw [N_0]]
  iintro ⟨⟨%d0, -, HG⟩, Hg, HR⟩
  ihave HX := (stage_out (F := F) c _) $$ HR
  icases HX with ⟨HS, HC, HW⟩
  isplitl [HS HG]
  · isplitl [HS]; · iexact HS
    iexists d0; iexact HG
  isplitl [Hg]; · iexact Hg
  isplitl [HC]; · iexact HC
  iexact HW

set_option maxHeartbeats 800000 in
theorem hmain' (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends, each array at the contents the points leave, every counter at zero. -/
theorem run : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none ownSemFacts Hs Hs_sub m ρ main
    (hbody := fun c => (obligation m c).loose) (hshare := fun c => (dats m 0 c).share_full fun _ => rfl)
    (howed := fun _ _ => rfl) (V := V m) (hmain := hmain' m Variants.none) (hA := A_eq m) (hin := hin m) (hout := hout m)

/-- Every run ends with the arguments unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run m ρ)

end Cert.KeysIdeal.Stream

end
-- ==== Proof.ValsRing.lean ====
module

public import proofs.«01_k».proof.Proof.Gen.ValsIdeal.Frame
public import proofs.«01_k».proof.Proof.Gen.ValsIdeal.Skeleton
public import Idealize.ShloMosaic.Lib.Ring
public import Idealize.ShloMosaic.Lib.Tactic
public import Idealize.ShloMosaic.Lib.VecWindow
public import Idealize.ShloMosaic.Lib.Pointwise.Reshape

@[expose] public section

set_option maxRecDepth 16384

noncomputable section

namespace Cert.ValsIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ValsIdeal Cert.ValsIdeal.Gen

variable {F : FTy → Type} [FloatOps F]

local notation "𝕄" => MT nD τ sig Unit (Elt F) ℕ (Pipeline.UD sig nD τ) ℕ

/-! ## The three branch conditions, in closed form -/

/-- The first row block of a column tile. -/
abbrev first (t : Fin grid0.N) : Prop := k0_cond1 (grid0.coords t) = 1#1
/-- The very first point. -/
abbrev start (t : Fin grid0.N) : Prop := k0_cond2 (grid0.coords t) = 1#1
/-- A column tile follows. -/
abbrev more (t : Fin grid0.N) : Prop := k0_cond3 (grid0.coords t) = 1#1

theorem first_iff : ∀ t : Fin grid0.N, first t ↔ t.val % 8 = 0 := by decide +kernel
theorem start_iff : ∀ t : Fin grid0.N, start t ↔ t.val < 8 := by decide +kernel
theorem more_iff : ∀ t : Fin grid0.N, more t ↔ t.val < 24 := by decide +kernel

/-! ## Slots, cells and source blocks by number -/

/-- The column tile of point `t`, and the one after it; the slots they are staged in. -/
abbrev tl (t : Fin grid0.N) : Fin 4 := Ring.bk 4 (t.val / 8)
abbrev tl' (t : Fin grid0.N) : Fin 4 := Ring.bk 4 (t.val / 8 + 1)
abbrev cur (t : Fin grid0.N) : Fin 2 := Ring.sl 2 (t.val / 8)
abbrev nxt (t : Fin grid0.N) : Fin 2 := Ring.sl 2 (t.val / 8 + 1)

abbrev stM : Memref sig .tc .vmem S2x512x4096 .f32 := Memref.whole cc0_scratch0
abbrev wM : Memref sig .tc .vmem S512x4096 .bf16 := Memref.whole cc0_scratch2
abbrev wtM : Memref sig .tc .hbm S12320x4096 .f32 := Memref.whole main_v4

theorem inb_slot (s : Fin 2) : ∀ a, (![s.val, 0, 0] : Fin 3 → Nat) a + S1x512x4096.size a ≤ S2x512x4096.size a := by
  revert s; decide
theorem inb_cell (s : Fin 2) : ∀ a, (![s.val] : Fin 1 → Nat) a + S1.size a ≤ S2.size a := by
  revert s; decide
theorem inb_src (b : Fin 4) : ∀ a, (![4096 + 512 * b.val, 0] : Fin 2 → Nat) a + S512x4096.size a ≤ S12320x4096.size a := by
  revert b; decide

/-- A staging slot. -/
def slotM (s : Fin 2) : Memref sig .tc .vmem S512x4096 .f32 :=
  (stM.slice (Rect.unit (s := S2x512x4096) ![s.val, 0, 0] S1x512x4096.size (inb_slot s)) (fun _ => rfl)).squeeze S512x4096 squeezes_S1x512x4096_S512x4096
/-- Its semaphore cell. -/
def cellA (s : Fin 2) : DmaSems sig S_ := (cc0_scratch1.slice (Rect.unit (s := S2) ![s.val] S1.size (inb_cell s))).squeeze S_ squeezes_S1_S_
/-- Column tile `b` of the segment, a row block of the transposed weights. -/
def srcM (b : Fin 4) : Memref sig .tc .hbm S512x4096 .f32 :=
  wtM.slice (Rect.unit (s := S12320x4096) ![4096 + 512 * b.val, 0] S512x4096.size (inb_src b)) (fun _ => rfl)

abbrev cellL (s : Fin 2) : SemLoc sig := SemLoc.dma (cellA s).sem
theorem cellL_eq : cellL 0 = SemLoc.dma 7 ∧ cellL 1 = SemLoc.dma 8 := by decide

/-- The kernel's own semaphores. -/
abbrev osem : Fin 2 → SemLoc sig := fun j => (![SemLoc.dma 7, SemLoc.dma 8] : Fin 2 → SemLoc sig) j
theorem ownSemFacts : Pipeline.OwnSemFacts spec0 osem := by decide
def Hs : Finset (Ref sig .tc) := {main_v4}
theorem Hs_sub : Hs ⊆ Pipeline.restRefs sig spec0 := by decide

/-! ## What the streaming holds -/

section Families
variable (c : Dev nD)

abbrev BufOf {sp : Space} {S : Shape} {e : EltTy} (M : Memref sig .tc sp S e) : Type := Buf (Elt F) (M.view.loc (c : Thread nD τ))

variable (W : BufOf (F := F) c wtM)

/-- The read share of the weights that goes with slot `s`. -/
abbrev qs (s : Fin 2) : PosShare TreeShare := if s.val = 0 then fullShare.left else fullShare.right

abbrev slotP (s : Fin 2) (f : BufOf (F := F) c (slotM s)) : sProp 𝕄 := (slotM s).view.loc (c : Thread nD τ) ↦[(slotM s).view.set]{fullShare} f
abbrev cellP (s : Fin 2) : sProp 𝕄 := semVal ((c : Thread nD τ), cellL s) 0
abbrev srcP (s : Fin 2) (b : Fin 4) : sProp 𝕄 := (srcM b).view.loc (c : Thread nD τ) ↦[(srcM b).view.set]{qs s} W
def restP (s : Fin 2) (b : Fin 4) : sProp 𝕄 := ((c : Thread nD τ).loc main_v4) ↦[Finset.univ \ (srcM b).view.set]{qs s} W
abbrev wholeP (s : Fin 2) : sProp 𝕄 := ((c : Thread nD τ).loc main_v4) ↦[Finset.univ]{qs s} W
abbrev landed (s : Fin 2) (b : Fin 4) (f : BufOf (F := F) c (slotM s)) : BufOf (F := F) c (slotM s) :=
  (slotM s).view.writes (Elt F) f [⟨Rect.whole S512x4096, ReadAs.same.apply ((srcM b).view.read (Elt F) W)⟩]
abbrev flightP (s : Fin 2) (b : Fin 4) (f : BufOf (F := F) c (slotM s)) : sProp 𝕄 :=
  Transfers.Flight countersEmb (c : Thread nD τ) (cellL s) default ((slotM s).view.amount (cellL s))
    iprop(slotP c s (landed c W s b f) ∗ srcP c W s b)

/-- Slot `s` idle: its cell at zero, the slot at some contents, its share of the weights whole. -/
def idle (s : Fin 2) : sProp 𝕄 := iprop(cellP c s ∗ ∃ f, (slotP c s f ∗ wholeP c W s))
/-- Tile `b` on its way into slot `s`. -/
def flying (s : Fin 2) (b : Fin 4) : sProp 𝕄 := iprop(∃ f, (flightP c W s b f ∗ restP c W s b))

theorem src_split (s : Fin 2) (b : Fin 4) : wholeP (F := F) c W s ⊣⊢ iprop(srcP c W s b ∗ restP c W s b) := by
  unfold restP; exact pointsTo_split_subset (Finset.subset_univ _)

/-- The staging before its tile `k`: nothing started before the first; then tile `k` on its way, the other slot idle;
    after the last everything idle. -/
def stage (k : ℕ) : sProp 𝕄 :=
  if k = 0 then iprop(idle c W 0 ∗ idle c W 1)
  else if k < 4 then iprop(flying c W (Ring.sl 2 k) (Ring.bk 4 k) ∗ idle c W (Ring.sl 2 (k + 1)))
  else iprop(idle c W (Ring.sl 2 k) ∗ idle c W (Ring.sl 2 (k + 1)))

end Families

/-! ## The staging buffer as its two slots -/

abbrev half (e : Fin 2) : Finset S2x512x4096.Idx := (Rect.unit (s := S2x512x4096) ![e.val, 0, 0] S1x512x4096.size (inb_slot e)).set
theorem slot_set (s : Fin 2) : (slotM s).view.set = half s := by
  simp only [slotM, Memref.view_squeeze, View.set_reshape]; exact View.set_slice_whole _ _
theorem half_disjoint (e e' : Fin 2) (h : e ≠ e') : Disjoint (half e) (half e') := by
  rw [Finset.disjoint_left]
  intro i hi hi'
  have a0 := (Rect.mem_set_unit.mp hi) 0
  have b0 := (Rect.mem_set_unit.mp hi') 0
  have he : e.val ≠ e'.val := fun h' => h (Fin.ext h')
  simp at a0 b0
  omega
theorem half_cover : Finset.univ.biUnion half = Finset.univ := by
  ext i
  simp only [Finset.mem_biUnion, Finset.mem_univ, true_and, iff_true]
  have h0 : (i 0).val < 2 := (i 0).isLt
  have h1 : (i 1).val < 512 := (i 1).isLt
  have h2 : (i 2).val < 4096 := (i 2).isLt
  refine ⟨⟨(i 0).val, h0⟩, Rect.mem_set_unit.mpr fun a => ?_⟩
  fin_cases a <;> simp <;> omega

/-! ## What the launch hands the staging, and takes back -/

section InOut
variable (c : Dev nD) (W : BufOf (F := F) c wtM)

private theorem of_eq {P Q : sProp 𝕄} (e : P = Q) : P ⊢ Q := e ▸ .rfl

theorem slotP_eq (s : Fin 2) (f) :
    slotP (F := F) c s f = (((c : Thread nD τ).loc cc0_scratch0) ↦[half s]{fullShare} f : sProp 𝕄) := by
  unfold slotP; rw [slot_set s]; rfl

theorem fin2 {M : Type} [URA M] (Φ : Fin 2 → sProp M) : bigSep Finset.univ Φ = iprop(Φ 0 ∗ Φ 1) :=
  bigSep_univ_eq_bigSepL [(0 : Fin 2), 1] (by decide) (by decide) Φ

theorem weights_split : (((c : Thread nD τ).loc main_v4) ↦{fullShare} W : sProp 𝕄) ⊣⊢ iprop(wholeP c W 0 ∗ wholeP c W 1) :=
  pointsTo_share (PosShare.mem_left_op_right fullShare)

/-- The buffers whole and the cells at zero are the staging before its first tile. -/
theorem stage_in :
    iprop((∃ d, owns (c : Thread nD τ) stM fullShare d)
      ∗ (semVal ((c : Thread nD τ), SemLoc.dma 7) 0 ∗ semVal ((c : Thread nD τ), SemLoc.dma 8) 0)
      ∗ (((c : Thread nD τ).loc main_v4) ↦{fullShare} W))
      ⊢ (stage c W 0 : sProp 𝕄) := by
  unfold stage idle; rw [if_pos rfl]
  obtain ⟨e0, e1⟩ := cellL_eq
  simp only [cellP, e0, e1, owns_whole]
  iintro ⟨⟨%d, HS⟩, ⟨C0, C1⟩, HW⟩
  ihave HQ := (of_eq ((Ring.pointsTo_blocks (Ix := Unit) (Name := ℕ) (U := Pipeline.UD sig nD τ) (Lvl := ℕ) (ℓ := (c : Thread nD τ).loc cc0_scratch0) (q := fullShare) half half_disjoint half_cover d).trans (fin2 _))) $$ HS
  icases HQ with ⟨Q0, Q1⟩
  ihave HW' := (weights_split c W).1 $$ HW
  icases HW' with ⟨W0, W1⟩
  isplitl [C0 Q0 W0]
  · isplitl [C0]; · iexact C0
    iexists d; isplitl [Q0]; · iapply (of_eq (slotP_eq c 0 d).symm); iexact Q0
    iexact W0
  · isplitl [C1]; · iexact C1
    iexists d; isplitl [Q1]; · iapply (of_eq (slotP_eq c 1 d).symm); iexact Q1
    iexact W1

/-- After the last tile the staging is those buffers and cells again. -/
theorem stage_out :
    (stage c W 4 : sProp 𝕄) ⊢ iprop((∃ d, owns (c : Thread nD τ) stM fullShare d)
      ∗ (semVal ((c : Thread nD τ), SemLoc.dma 7) 0 ∗ semVal ((c : Thread nD τ), SemLoc.dma 8) 0)
      ∗ (((c : Thread nD τ).loc main_v4) ↦{fullShare} W)) := by
  unfold stage idle; rw [if_neg (by decide), if_neg (by decide), show Ring.sl 2 4 = 0 from rfl, show Ring.sl 2 (4 + 1) = 1 from rfl]
  obtain ⟨e0, e1⟩ := cellL_eq
  simp only [cellP, e0, e1, owns_whole]
  iintro ⟨⟨C0, %d0, Q0, W0⟩, ⟨C1, %d1, Q1, W1⟩⟩
  isplitl [Q0 Q1]
  · iapply (Ring.pointsTo_blocks_join_exists (Ix := Unit) (Name := ℕ) (U := Pipeline.UD sig nD τ) (Lvl := ℕ) (ℓ := (c : Thread nD τ).loc cc0_scratch0) (q := fullShare) half half_disjoint half_cover d0)
    irw [fin2]
    isplitl [Q0]; · iexists d0; iapply (of_eq (slotP_eq c 0 d0)); iexact Q0
    iexists d1; iapply (of_eq (slotP_eq c 1 d1)); iexact Q1
  isplitl [C0 C1]
  · isplitl [C0]; · iexact C0
    iexact C1
  · iapply (weights_split c W).2
    isplitl [W0]; · iexact W0
    iexact W1

end InOut

/-! ## The body's own spellings of slots, cells and blocks -/

section Names
set_option synthInstance.maxSize 4096

theorem off1_at : ∀ t : Fin grid0.N, first t → k0_off1 (grid0.coords t) = ![(cur t).val] := by decide +kernel
theorem off2_at : ∀ t : Fin grid0.N, first t → k0_off2 (grid0.coords t) = ![(cur t).val, 0, 0] := by decide +kernel
theorem off4_at : ∀ t : Fin grid0.N, first t → k0_off4 (grid0.coords t) = ![(cur t).val, 0, 0] := by decide +kernel
theorem off5_at : ∀ t : Fin grid0.N, first t → more t → k0_off5 (grid0.coords t) = ![(nxt t).val] := by decide +kernel
theorem off6_at : ∀ t : Fin grid0.N, first t → more t → k0_off6 (grid0.coords t) = ![(nxt t).val, 0, 0] := by decide +kernel
theorem off7_at : ∀ t : Fin grid0.N, first t → more t → k0_off7 (grid0.coords t) = ![4096 + 512 * (tl' t).val, 0] := by decide +kernel
theorem zero_at : ∀ t : Fin grid0.N, first t → start t → cur t = 0 ∧ tl t = 0 := by decide +kernel

/-! The operands of the body's transfers and waits, by number. -/

theorem slot_named (o : Fin 3 → Nat) (s : Fin 2) (e : o = ![s.val, 0, 0]) (ib : ∀ a, o a + S1x512x4096.size a ≤ S2x512x4096.size a) :
    (stM.slice (Rect.unit (s := S2x512x4096) o S1x512x4096.size ib) (fun _ => rfl)).squeeze S512x4096 squeezes_S1x512x4096_S512x4096 = slotM s := by
  subst e; rfl
theorem cell_named (o : Fin 1 → Nat) (s : Fin 2) (e : o = ![s.val]) (ib : ∀ a, o a + S1.size a ≤ S2.size a) :
    (cc0_scratch1.slice (Rect.unit (s := S2) o S1.size ib)).squeeze S_ squeezes_S1_S_ = cellA s := by
  subst e; rfl
theorem src_named (o : Fin 2 → Nat) (b : Fin 4) (e : o = ![4096 + 512 * b.val, 0]) (ib : ∀ a, o a + S512x4096.size a ≤ S12320x4096.size a) :
    wtM.slice (Rect.unit (s := S12320x4096) o S512x4096.size ib) (fun _ => rfl) = srcM b := by
  subst e; rfl

@[sl_canon] theorem start_slot (t : Fin grid0.N) (h1 : first t) (h2 : start t) :
    (stM.slice (Rect.unit (s := S2x512x4096) ![0, 0, 0] S1x512x4096.size inb_S2x512x4096_S1x512x4096_0_0_0) (fun _ => rfl)).squeeze S512x4096 squeezes_S1x512x4096_S512x4096 = slotM (cur t) :=
  slot_named _ _ (by rw [(zero_at t h1 h2).1]; rfl) _
@[sl_canon] theorem start_cell (t : Fin grid0.N) (h1 : first t) (h2 : start t) :
    (cc0_scratch1.slice (Rect.unit (s := S2) ![0] S1.size inb_S2_S1_0)).squeeze S_ squeezes_S1_S_ = cellA (cur t) :=
  cell_named _ _ (by rw [(zero_at t h1 h2).1]; rfl) _
@[sl_canon] theorem start_src (t : Fin grid0.N) (h1 : first t) (h2 : start t) :
    wtM.slice (Rect.unit (s := S12320x4096) ![4096, 0] S512x4096.size inb_S12320x4096_S512x4096_4096_0) (fun _ => rfl) = srcM (tl t) :=
  src_named _ _ (by rw [(zero_at t h1 h2).2]; rfl) _
@[sl_canon] theorem wait_slot (t : Fin grid0.N) (h1 : first t) :
    (stM.slice (Rect.unit (s := S2x512x4096) (k0_off2 (grid0.coords t)) S1x512x4096.size (k0_off2_inb (grid0.coords t) h1)) (fun _ => rfl)).squeeze S512x4096 squeezes_S1x512x4096_S512x4096 = slotM (cur t) :=
  slot_named _ _ (off2_at t h1) _
@[sl_canon] theorem wait_cell (t : Fin grid0.N) (h1 : first t) :
    (cc0_scratch1.slice (Rect.unit (s := S2) (k0_off1 (grid0.coords t)) S1.size (k0_off1_inb (grid0.coords t) h1))).squeeze S_ squeezes_S1_S_ = cellA (cur t) :=
  cell_named _ _ (off1_at t h1) _
@[sl_canon] theorem next_slot (t : Fin grid0.N) (h1 : first t) (h3 : more t) :
    (stM.slice (Rect.unit (s := S2x512x4096) (k0_off6 (grid0.coords t)) S1x512x4096.size (k0_off6_inb (grid0.coords t) h1 h3)) (fun _ => rfl)).squeeze S512x4096 squeezes_S1x512x4096_S512x4096 = slotM (nxt t) :=
  slot_named _ _ (off6_at t h1 h3) _
@[sl_canon] theorem next_cell (t : Fin grid0.N) (h1 : first t) (h3 : more t) :
    (cc0_scratch1.slice (Rect.unit (s := S2) (k0_off5 (grid0.coords t)) S1.size (k0_off5_inb (grid0.coords t) h1 h3))).squeeze S_ squeezes_S1_S_ = cellA (nxt t) :=
  cell_named _ _ (off5_at t h1 h3) _
@[sl_canon] theorem next_src (t : Fin grid0.N) (h1 : first t) (h3 : more t) :
    wtM.slice (Rect.unit (s := S12320x4096) (k0_off7 (grid0.coords t)) S512x4096.size (k0_off7_inb (grid0.coords t) h1 h3)) (fun _ => rfl) = srcM (tl' t) :=
  src_named _ _ (off7_at t h1 h3) _
instance (priority := high) closed4 (t : Fin grid0.N) [h1 : Fact (first t)] : ClosedOff (k0_off4 (grid0.coords t)) := ⟨![(cur t).val, 0, 0], off4_at t h1.out⟩

/-- Column tile `b` of the segment, rounded to the matrix unit's width. -/
def tile (c : Dev nD) (W : BufOf (F := F) c wtM) (b : Fin 4) : Vec F S512x4096 .bf16 :=
  truncf .bf16 ((srcM b).view.read (Elt F) W) bitsLt_bf16_f32

end Names

/-- A slot loaded in place reads what the slot reads. -/
theorem slot_read (c : Dev nD) (s : Fin 2) (ib : ∀ a, (![s.val, 0, 0] : Fin 3 → Nat) a + S1x512x4096.size a ≤ S2x512x4096.size a)
    (w : BufOf (F := F) c stM) :
    shapeCast S512x4096 (View.readAt (Elt F) stM.view (Rect.unit (s := S2x512x4096) ![s.val, 0, 0] S1x512x4096.size ib).toLoadRect w) shapeCasts_S1x512x4096_S512x4096
      = (slotM s).view.read (Elt F) w := by
  unfold slotM
  rw [View.readAt_rect]
  rfl
/-- A slot landed at `v`, loaded, rounded: `v` rounded. -/
theorem loaded (c : Dev nD) (s : Fin 2) (o : Fin 3 → Nat) (e : o = ![s.val, 0, 0]) (ib : ∀ a, o a + S1x512x4096.size a ≤ S2x512x4096.size a)
    (g : BufOf (F := F) c (slotM s)) (v : Vec F S512x4096 .f32) :
    k0_pay3 (View.readAt (Elt F) stM.view (Rect.unit (s := S2x512x4096) o S1x512x4096.size ib).toLoadRect ((slotM s).view.writes (Elt F) g [⟨Rect.whole S512x4096, v⟩]))
      = truncf .bf16 v bitsLt_bf16_f32 := by
  subst e
  have key := (slot_read c s ib _).trans (View.read_writes_whole (slotM s).view g v)
  unfold k0_pay3
  dsimp only
  rw [shapeCast_id]
  exact congrArg (fun x : FVec F S512x4096 .f32 => truncf .bf16 x bitsLt_bf16_f32) key

end Cert.ValsIdeal.Stream

end
-- ==== Proof.ValsRunA.lean ====
module

public import proofs.«01_k».proof.Proof.ValsRing

@[expose] public section

set_option maxRecDepth 16384

noncomputable section

namespace Cert.ValsIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ValsIdeal Cert.ValsIdeal.Gen

variable {F : FTy → Type} [FloatOps F]

local notation "𝕄" => MT nD τ sig Unit (Elt F) ℕ (Pipeline.UD sig nD τ) ℕ

set_option maxHeartbeats 400000 in
/-- The very first point: tile 0 is started and awaited, tile 1 is started, and both results of the point are those of
    the tile just landed. -/
theorem run_A (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1024x512 .f32) (harg5 : arg5.IsWhole) (arg6 : Memref sig .tc .vmem S32x512 .f32) (harg6 : arg6.IsWhole)
    (h1 : first t) (h2 : start t) (h3 : more t)
    (x0 : Vec F S1024x4096 .bf16) (x1 : Vec F S32x4096 .bf16) (W : BufOf (F := F) c wtM) :
      ∀ (O : Waits sig Unit) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d)
            ∗ (∃ d, owns (c : Thread nD τ) wM fullShare d)
            ∗ idle c W (cur t) ∗ idle c W (nxt t) ∗ owes (c : Thread nD τ) 0 O
            ∗ (iprop(owns (c : Thread nD τ) arg2 fullShare x0 ∗ owns (c : Thread nD τ) arg3 fullShare x1 ∗ owns (c : Thread nD τ) arg5 fullShare (k0_pay2 x0 (tile c W (tl t)))
              ∗ owns (c : Thread nD τ) arg6 fullShare (k0_pay1 (k0_pay4 x1) (tile c W (tl t)))
              ∗ owns (c : Thread nD τ) wM fullShare (tile c W (tl t))
              ∗ flying c W (nxt t) (tl' t) ∗ idle c W (cur t) ∗ (∃ O', owes (c : Thread nD τ) 0 O')) -∗ K ⟨⟩))
          ⊢ wp frame (wpE (defs₀ (F := F)) Variants.none c none) Set.univ (cc0_in0_2 (grid0.coords t) arg2 harg2 arg3 harg3 wtM (Memref.isWhole_whole _) arg5 harg5 arg6 harg6 stM (Memref.isWhole_whole _) cc0_scratch1 wM (Memref.isWhole_whole _)) K := by
    intro O K
    haveI : Fact (first t) := ⟨h1⟩
    haveI : Fact (start t) := ⟨h2⟩
    haveI : Fact (more t) := ⟨h3⟩
    simp only [cc0_in0_2_eq_skeleton]; unfold cc0_in0_2_skel
    simp only [k0_part1_eq_skeleton]
    have c0 := start_slot t h1 h2
    have c2 := start_cell t h1 h2
    have c4 := start_src t h1 h2
    unfold owns idle flying
    iintro ⟨⟨%f0, %hf0, H0⟩, ⟨%f1, %hf1, H1⟩, ⟨%d3, %f3, -, H3⟩, ⟨%d4, %f4, -, H4⟩, ⟨%dg, %fg, -, HG⟩, ⟨Ca, %fa, Sa, Wa⟩, ⟨Cc, %fc, Sc, Wc⟩, HO, Hk⟩
    ihave Pa := (src_split c W (cur t) (tl t)).1 $$ Wa
    icases Pa with ⟨Xa, Ra⟩
    ihave Pc := (src_split c W (nxt t) (tl' t)).1 $$ Wc
    icases Pc with ⟨Xc, Rc⟩
    obtain rfl := harg2.eq_unread hf0; obtain rfl := harg3.eq_unread hf1
    sl_exec (disch := first | sl_exact h1 | sl_exact h2 | sl_exact h3)
    sl_step
    have hG : ∀ f, wM.view.read (Elt F) (wM.view.writes (Elt F) f (run_A.sl.HG_1 c t h1 W)) = tile c W (tl t) := by
      intro f
      unfold run_A.sl.HG_1 run_A.sl.dma0
      rw [View.read_writes_full]
      exact loaded c (cur t) _ (off4_at t h1) _ _ _
    have hG' : run_A.sl.v42 c t h1 W = tile c W (tl t) := by
      unfold run_A.sl.v42 View.readCov
      rw [View.readAt_full]
      exact hG _
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; swap; · iexact H3
      ipureintro
      rw [View.read_writes_full, View.readAt_full, harg2.read_unread]
      exact congrArg (k0_pay2 x0) hG'
    isplitl [H4]
    · iexists _; isplitr; swap; · iexact H4
      ipureintro
      rw [View.read_writes_full]; unfold run_A.sl.r; rw [View.readAt_full, harg3.read_unread]
      exact congrArg (k0_pay1 (k0_pay4 x1)) hG'
    isplitl [HG]
    · iexists _; isplitr; swap; · iexact HG
      ipureintro
      exact hG fg
    isplitl [Cc Rc]
    · iexists _; isplitl [Cc]; · iexact Cc
      iexact Rc
    isplitl [Ca Sa Xa Ra]
    · isplitl [Ca]; · iexact Ca
      iexists _; isplitl [Sa]; · iexact Sa
      iapply (src_split c W (cur t) (tl t)).2; isplitl [Xa]; · iexact Xa
      iexact Ra
    iexists _; iexact HO

end Cert.ValsIdeal.Stream

end
-- ==== Proof.ValsRunB.lean ====
module

public import proofs.«01_k».proof.Proof.ValsRing

@[expose] public section

set_option maxRecDepth 16384

noncomputable section

namespace Cert.ValsIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ValsIdeal Cert.ValsIdeal.Gen

variable {F : FTy → Type} [FloatOps F]

local notation "𝕄" => MT nD τ sig Unit (Elt F) ℕ (Pipeline.UD sig nD τ) ℕ

set_option maxHeartbeats 400000 in
/-- A later row block of a tile: the result of the point is that of the tile held. -/
theorem run_B (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1024x512 .f32) (harg5 : arg5.IsWhole) (arg6 : Memref sig .tc .vmem S32x512 .f32) (harg6 : arg6.IsWhole)
    (h1 : ¬ first t)
    (x0 : Vec F S1024x4096 .bf16) (w0 : Vec F S512x4096 .bf16) :
      ∀ (O : Waits sig Unit) (K : PUnit → sProp 𝕄),
        iprop(owns (c : Thread nD τ) arg2 fullShare x0 ∗ (∃ d, owns (c : Thread nD τ) arg5 fullShare d) ∗ owns (c : Thread nD τ) wM fullShare w0 ∗ owes (c : Thread nD τ) 0 O
            ∗ (iprop(owns (c : Thread nD τ) arg2 fullShare x0 ∗ owns (c : Thread nD τ) arg5 fullShare (k0_pay2 x0 w0)
              ∗ owns (c : Thread nD τ) wM fullShare w0 ∗ (∃ O', owes (c : Thread nD τ) 0 O')) -∗ K ⟨⟩))
          ⊢ wp frame (wpE (defs₀ (F := F)) Variants.none c none) Set.univ (cc0_in0_2 (grid0.coords t) arg2 harg2 arg3 harg3 wtM (Memref.isWhole_whole _) arg5 harg5 arg6 harg6 stM (Memref.isWhole_whole _) cc0_scratch1 wM (Memref.isWhole_whole _)) K := by
    intro O K
    haveI : Fact (¬ first t) := ⟨h1⟩
    simp only [cc0_in0_2_eq_skeleton]; unfold cc0_in0_2_skel
    unfold owns
    iintro ⟨⟨%f0, %hf0, H0⟩, ⟨%d3, %f3, -, H3⟩, ⟨%fg, %hg, HG⟩, HO, Hk⟩
    obtain rfl := harg2.eq_unread hf0
    sl_exec (disch := sl_exact h1)
    sl_step
    iapply Hk
    isplitl [H0]
    · iexists _; isplitr; · ipureintro; exact harg2.read_unread _
      iexact H0
    isplitl [H3]
    · iexists _; isplitr; swap; · iexact H3
      ipureintro
      rw [View.read_writes_full, View.readAt_full, harg2.read_unread]
      rw [View.readAt_full, hg]
    isplitl [HG]
    · iexists _; isplitr; swap; · iexact HG
      ipureintro
      exact hg
    iexists _; iexact HO

end Cert.ValsIdeal.Stream

end
-- ==== Proof.ValsRunC.lean ====
module

public import proofs.«01_k».proof.Proof.ValsRing

@[expose] public section

set_option maxRecDepth 16384

noncomputable section

namespace Cert.ValsIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ValsIdeal Cert.ValsIdeal.Gen

variable {F : FTy → Type} [FloatOps F]

local notation "𝕄" => MT nD τ sig Unit (Elt F) ℕ (Pipeline.UD sig nD τ) ℕ

set_option maxHeartbeats 400000 in
/-- The first row block of a middle tile: the tile is awaited, the next one is started, and both results of the point are
    those of the tile just landed. -/
theorem run_C (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1024x512 .f32) (harg5 : arg5.IsWhole) (arg6 : Memref sig .tc .vmem S32x512 .f32) (harg6 : arg6.IsWhole)
    (h1 : first t) (h2 : ¬ start t) (h3 : more t)
    (x0 : Vec F S1024x4096 .bf16) (x1 : Vec F S32x4096 .bf16) (W : BufOf (F := F) c wtM) :
      ∀ (O : Waits sig Unit) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d)
            ∗ (∃ d, owns (c : Thread nD τ) wM fullShare d)
            ∗ flying c W (cur t) (tl t) ∗ idle c W (nxt t) ∗ owes (c : Thread nD τ) 0 O
            ∗ (iprop(owns (c : Thread nD τ) arg2 fullShare x0 ∗ owns (c : Thread nD τ) arg3 fullShare x1 ∗ owns (c : Thread nD τ) arg5 fullShare (k0_pay2 x0 (tile c W (tl t)))
              ∗ owns (c : Thread nD τ) arg6 fullShare (k0_pay1 (k0_pay4 x1) (tile c W (tl t)))
              ∗ owns (c : Thread nD τ) wM fullShare (tile c W (tl t))
              ∗ flying c W (nxt t) (tl' t) ∗ idle c W (cur t) ∗ (∃ O', owes (c : Thread nD τ) 0 O')) -∗ K ⟨⟩))
          ⊢ wp frame (wpE (defs₀ (F := F)) Variants.none c none) Set.univ (cc0_in0_2 (grid0.coords t) arg2 harg2 arg3 harg3 wtM (Memref.isWhole_whole _) arg5 harg5 arg6 harg6 stM (Memref.isWhole_whole _) cc0_scratch1 wM (Memref.isWhole_whole _)) K := by
    intro O K
    haveI : Fact (first t) := ⟨h1⟩
    haveI : Fact (¬ start t) := ⟨h2⟩
    haveI : Fact (more t) := ⟨h3⟩
    simp only [cc0_in0_2_eq_skeleton]; unfold cc0_in0_2_skel
    simp only [k0_part1_eq_skeleton]
    unfold owns idle flying
    iintro ⟨⟨%f0, %hf0, H0⟩, ⟨%f1, %hf1, H1⟩, ⟨%d3, %f3, -, H3⟩, ⟨%d4, %f4, -, H4⟩, ⟨%dg, %fg, -, HG⟩, ⟨%fa, Ca, Ra⟩, ⟨Cc, %fc, Sc, Wc⟩, HO, Hk⟩
    ihave Pc := (src_split c W (nxt t) (tl' t)).1 $$ Wc
    icases Pc with ⟨Xc, Rc⟩
    obtain rfl := harg2.eq_unread hf0; obtain rfl := harg3.eq_unread hf1
    sl_exec (disch := first | sl_exact h1 | sl_exact h2 | sl_exact h3)
    sl_step
    have hG : ∀ f, wM.view.read (Elt F) (wM.view.writes (Elt F) f (run_C.sl.HG_1 c t h1 W)) = tile c W (tl t) := by
      intro f
      unfold run_C.sl.HG_1 run_C.sl.v30
      rw [View.read_writes_full]
      exact loaded c (cur t) _ (off4_at t h1) _ _ _
    have hG' : run_C.sl.v42 c t h1 W = tile c W (tl t) := by
      unfold run_C.sl.v42 View.readCov
      rw [View.readAt_full]
      exact hG _
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; swap; · iexact H3
      ipureintro
      rw [View.read_writes_full, View.readAt_full, harg2.read_unread]
      exact congrArg (k0_pay2 x0) hG'
    isplitl [H4]
    · iexists _; isplitr; swap; · iexact H4
      ipureintro
      rw [View.read_writes_full]; unfold run_C.sl.r; rw [View.readAt_full, harg3.read_unread]
      exact congrArg (k0_pay1 (k0_pay4 x1)) hG'
    isplitl [HG]
    · iexists _; isplitr; swap; · iexact HG
      ipureintro
      exact hG fg
    isplitl [Cc Rc]
    · iexists _; isplitl [Cc]; · iexact Cc
      iexact Rc
    isplitl [Ca Ca_dst Ca_src Ra]
    · isplitl [Ca]; · iexact Ca
      iexists _; isplitl [Ca_dst]; · iexact Ca_dst
      iapply (src_split c W (cur t) (tl t)).2; isplitl [Ca_src]; · iexact Ca_src
      iexact Ra
    iexists _; iexact HO

end Cert.ValsIdeal.Stream

end
-- ==== Proof.ValsRunD.lean ====
module

public import proofs.«01_k».proof.Proof.ValsRing

@[expose] public section

set_option maxRecDepth 16384

noncomputable section

namespace Cert.ValsIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ValsIdeal Cert.ValsIdeal.Gen

variable {F : FTy → Type} [FloatOps F]

local notation "𝕄" => MT nD τ sig Unit (Elt F) ℕ (Pipeline.UD sig nD τ) ℕ

set_option maxHeartbeats 400000 in
/-- The first row block of the last tile: the tile is awaited, nothing is started, and both results of the point are those
    of the tile just landed. -/
theorem run_D (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1024x512 .f32) (harg5 : arg5.IsWhole) (arg6 : Memref sig .tc .vmem S32x512 .f32) (harg6 : arg6.IsWhole)
    (h1 : first t) (h2 : ¬ start t) (h3 : ¬ more t)
    (x0 : Vec F S1024x4096 .bf16) (x1 : Vec F S32x4096 .bf16) (W : BufOf (F := F) c wtM) :
      ∀ (O : Waits sig Unit) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d)
            ∗ (∃ d, owns (c : Thread nD τ) wM fullShare d)
            ∗ flying c W (cur t) (tl t) ∗ owes (c : Thread nD τ) 0 O
            ∗ (iprop(owns (c : Thread nD τ) arg2 fullShare x0 ∗ owns (c : Thread nD τ) arg3 fullShare x1 ∗ owns (c : Thread nD τ) arg5 fullShare (k0_pay2 x0 (tile c W (tl t)))
              ∗ owns (c : Thread nD τ) arg6 fullShare (k0_pay1 (k0_pay4 x1) (tile c W (tl t)))
              ∗ owns (c : Thread nD τ) wM fullShare (tile c W (tl t))
              ∗ idle c W (cur t) ∗ (∃ O', owes (c : Thread nD τ) 0 O')) -∗ K ⟨⟩))
          ⊢ wp frame (wpE (defs₀ (F := F)) Variants.none c none) Set.univ (cc0_in0_2 (grid0.coords t) arg2 harg2 arg3 harg3 wtM (Memref.isWhole_whole _) arg5 harg5 arg6 harg6 stM (Memref.isWhole_whole _) cc0_scratch1 wM (Memref.isWhole_whole _)) K := by
    intro O K
    haveI : Fact (first t) := ⟨h1⟩
    haveI : Fact (¬ start t) := ⟨h2⟩
    haveI : Fact (¬ more t) := ⟨h3⟩
    simp only [cc0_in0_2_eq_skeleton]; unfold cc0_in0_2_skel
    simp only [k0_part1_eq_skeleton]
    unfold owns idle flying
    iintro ⟨⟨%f0, %hf0, H0⟩, ⟨%f1, %hf1, H1⟩, ⟨%d3, %f3, -, H3⟩, ⟨%d4, %f4, -, H4⟩, ⟨%dg, %fg, -, HG⟩, ⟨%fa, Ca, Ra⟩, HO, Hk⟩
    obtain rfl := harg2.eq_unread hf0; obtain rfl := harg3.eq_unread hf1
    sl_exec (disch := first | sl_exact h1 | sl_exact h2 | sl_exact h3)
    sl_step
    have hG : ∀ f, wM.view.read (Elt F) (wM.view.writes (Elt F) f (run_D.sl.HG_1 c t h1 W)) = tile c W (tl t) := by
      intro f
      unfold run_D.sl.HG_1 run_D.sl.v30
      rw [View.read_writes_full]
      exact loaded c (cur t) _ (off4_at t h1) _ _ _
    have hG' : run_D.sl.v42 c t h1 W = tile c W (tl t) := by
      unfold run_D.sl.v42 View.readCov
      rw [View.readAt_full]
      exact hG _
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; swap; · iexact H3
      ipureintro
      rw [View.read_writes_full, View.readAt_full, harg2.read_unread]
      exact congrArg (k0_pay2 x0) hG'
    isplitl [H4]
    · iexists _; isplitr; swap; · iexact H4
      ipureintro
      rw [View.read_writes_full]; unfold run_D.sl.r; rw [View.readAt_full, harg3.read_unread]
      exact congrArg (k0_pay1 (k0_pay4 x1)) hG'
    isplitl [HG]
    · iexists _; isplitr; swap; · iexact HG
      ipureintro
      exact hG fg
    isplitl [Ca Ca_dst Ca_src Ra]
    · isplitl [Ca]; · iexact Ca
      iexists _; isplitl [Ca_dst]; · iexact Ca_dst
      iapply (src_split c W (cur t) (tl t)).2; isplitl [Ca_src]; · iexact Ca_src
      iexact Ra
    iexists _; iexact HO

end Cert.ValsIdeal.Stream

end
-- ==== Proof.ValsRun.lean ====
module

public import proofs.«01_k».proof.Proof.ValsRunA
public import proofs.«01_k».proof.Proof.ValsRunB
public import proofs.«01_k».proof.Proof.ValsRunC
public import proofs.«01_k».proof.Proof.ValsRunD
public import Idealize.ShloMosaic.Lib.Pipeline.FrameBody
public import Idealize.ShloMosaic.Lib.Pipeline.TableIdle

@[expose] public section

set_option maxRecDepth 16384

noncomputable section

namespace Cert.ValsIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ValsIdeal Cert.ValsIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The staging before and after a step, slots by number -/

section Steps
variable (c : Dev nD) (W : BufOf (F := F) c wtM)

theorem back (k : ℕ) : Ring.sl 2 (k + 1 + 1) = Ring.sl 2 k := Fin.ext (by simp [Ring.sl]; omega)
theorem stage_here (k : ℕ) (h1 : k ≠ 0) (h2 : k < 4) : stage c W k = iprop(flying c W (Ring.sl 2 k) (Ring.bk 4 k)
    ∗ idle c W (Ring.sl 2 (k + 1))) := by
  unfold stage; rw [if_neg h1, if_pos h2]
theorem stage_next (k : ℕ) (h2 : k + 1 < 4) : stage c W (k + 1) = iprop(flying c W (Ring.sl 2 (k + 1)) (Ring.bk 4 (k + 1))
    ∗ idle c W (Ring.sl 2 k)) := by
  unfold stage; rw [if_neg (Nat.succ_ne_zero k), if_pos h2, back]
theorem stage_last (k : ℕ) (h2 : k + 1 = 4) : stage c W (k + 1) = iprop(idle c W (Ring.sl 2 (k + 1))
    ∗ idle c W (Ring.sl 2 k)) := by
  unfold stage; rw [if_neg (Nat.succ_ne_zero k), if_neg (by omega), back]

end Steps

/-! ## The pipeline's data -/

/-- The tile held at point `t`, rounded. -/
def held (c : Dev nD) (t : Fin cfg0.N) : Vec F S512x4096 .bf16 := tile c (V m c main_v4) (tl t)

/-- Before point `k`: the rounded tile is the current one (inside a tile), and the staging. -/
def Inv (c : Dev nD) (k : ℕ) : sProp 𝕄 :=
  iprop((∃ d0, ⌜k % 8 ≠ 0 → d0 = tile c (V m c main_v4) (Ring.bk 4 (k / 8))⌝
      ∗ owns (c : Thread nD τ) wM fullShare d0)
    ∗ (∃ r, prngReg c r) ∗ stage c (V m c main_v4) ((k + 7) / 8))

/-- What every point leaves in each window. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (held m c t)
    | ⟨3, _⟩ => k0_pay1 (k0_pay4 (iblk m c 1 t)) (held m c t)
  Φ t := Inv m c t.val
  q _ := fullShare
  owed _ := 0

theorem A_eq (c : Dev nD) (w : Fin cfg0.W) : (dats m 0 c).A w = V m c (Pipeline.arrRef spec0 w) := by
  dsimp only [dats]
theorem inv_before (c : Dev nD) (t : Fin cfg0.N) : (dats m 0 c).Φ t.castSucc = Inv m c t.val := by
  dsimp only [dats]; simp only [Fin.coe_castSucc]
theorem inv_after (c : Dev nD) (t : Fin cfg0.N) : (dats m 0 c).Φ t.succ = Inv m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay2 (iblk m c 0 t) (held m c t) := by dsimp only [dats]
theorem after_3 (c : Dev nD) (t : Fin cfg0.N) : (dats m 0 c).after 3 t = k0_pay1 (k0_pay4 (iblk m c 1 t)) (held m c t) := by dsimp only [dats]

/-- Every input window holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem idle_3 (t : Fin cfg0.N) : cfg0.idle 3 (grid0.coords t) = !(k0_cond1 (grid0.coords t) == 1#1) := rfl
theorem idle_3_first (t : Fin cfg0.N) (h : first t) : cfg0.idle 3 (cfg0.grid.coords t) = false := by
  show (!(k0_cond1 (grid0.coords t) == 1#1)) = false
  rw [show k0_cond1 (grid0.coords t) = 1#1 from h]; rfl
theorem idle_3_later (t : Fin cfg0.N) (h : ¬ first t) : cfg0.idle 3 (cfg0.grid.coords t) = true := by
  show (!(k0_cond1 (grid0.coords t) == 1#1)) = true
  rw [beq_eq_false_iff_ne.mpr h]; rfl

/-- The small output is the same all through a tile. -/
theorem after_3_tile (c : Dev nD) (t t' : Fin cfg0.N) (h : t'.val / 8 = t.val / 8) : (dats m 0 c).after 3 t' = (dats m 0 c).after 3 t := by
  rw [after_3, after_3]
  unfold held
  show k0_pay1 (k0_pay4 (iblk m c 1 _)) (tile c _ (Ring.bk 4 (t'.val / 8))) = _
  rw [h]
  rfl
/-- Inside a tile its buffer still holds what the tile's first point left. -/
theorem before_3 (c : Dev nD) (d) : ∀ (n : ℕ) (t : Fin cfg0.N), t.val = n → n % 8 ≠ 0 → (dats m 0 c).before 3 t d = (dats m 0 c).after 3 t := by
  intro n
  induction n with
  | zero => intro t _ h; exact absurd rfl h
  | succ n ih =>
    intro t e h
    have ht : t.val ≠ 0 := by omega
    rw [(dats m 0 c).before_of_pos 3 t ht rfl d, if_neg (fun e' => by have := (flush0_3 _).mp e'; simp only at this; omega)]
    rw [← after_3_tile m c t ⟨t.val - 1, Nat.lt_of_le_of_lt (Nat.sub_le _ _) t.isLt⟩ (by simp only; omega)]
    unfold Dat.left
    by_cases hf : first ⟨t.val - 1, Nat.lt_of_le_of_lt (Nat.sub_le _ _) t.isLt⟩
    · rw [idle_3_first _ hf]; rfl
    · rw [idle_3_later _ hf]
      exact ih _ (by simp only; omega) (fun e' => hf ((first_iff _).mpr (by simp only; omega)))

/-! ## The body, at every point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (dats m 0 c).leavesExact 3 t)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, after_0, after_1, after_2]
  rw [inv_before m c t, inv_after m c t]
  unfold Dat.owesAt Pipeline.owesWithin
  rw [show (dats m 0 c).owed t.castSucc = 0 from rfl, show (dats m 0 c).owed t.succ = 0 from rfl]
  unfold Inv
  have hN : t.val < 32 := lt_of_lt_of_eq t.isLt (show cfg0.N = 32 from N_0)
  have i1 := first_iff t
  have i2 := start_iff t
  have i3 := more_iff t
  by_cases h1 : first t
  · have e1 := i1.mp h1
    have s1 : (t.val + 7) / 8 = t.val / 8 := by omega
    have s2 : (t.val + 1 + 7) / 8 = t.val / 8 + 1 := by omega
    have s3 : (t.val + 1) / 8 = t.val / 8 := by omega
    rw [s1, s2, s3]
    rw [show (dats m 0 c).leavesExact 3 t = owns (c : Thread nD τ) (win0_3.stage (cfg0.slots t 3)) fullShare ((dats m 0 c).after 3 t) from by
      unfold Dat.leavesExact; rw [idle_3_first t h1], after_3]
    by_cases h2 : start t
    · have h3 : more t := i3.mpr (by have := i2.mp h2; omega)
      have e2 : t.val / 8 = 0 := by have := i2.mp h2; omega
      rw [show stage c (V m c main_v4) (t.val / 8) = iprop(idle c (V m c main_v4) (cur t) ∗ idle c (V m c main_v4) (nxt t)) by unfold cur nxt; rw [e2]; try rfl]
      rw [stage_next c _ (t.val / 8) (by omega)]
      iintro ⟨⟨⟨%dg, -, HG⟩, Hg, Ra, Rb⟩, ⟨%O, -, HO⟩, ⟨%d0, H0⟩, ⟨%d1, H1⟩, ⟨%d2, H2⟩, ⟨%d3, H3⟩⟩
      iapply ((run_A c t _ _ _ _ _ _ _ _ h1 h2 h3 (iblk m c 0 t) (iblk m c 1 t) (V m c main_v4)) O _)
      isplitl [H0]; · iexact H0
      isplitl [H1]; · iexact H1
      isplitl [H2]; · iexists _; iexact H2
      isplitl [H3]; · iexists _; iexact H3
      isplitl [HG]; · iexists _; iexact HG
      isplitl [Ra]; · iexact Ra
      isplitl [Rb]; · iexact Rb
      isplitl [HO]; · iexact HO
      iintro ⟨H0, H1, H2, H3, HG, Ra, Rb, ⟨%O', HO⟩⟩
      isplitl [HG Hg Ra Rb]
      · isplitl [HG]
        · iexists _; isplitr; · ipureintro; exact fun _ => rfl
          iexact HG
        isplitl [Hg]; · iexact Hg
        isplitl [Ra]; · iexact Ra
        iexact Rb
      isplitl [HO]
      · iexists O'; isplitr; · ipureintro; exact fun _ _ => Or.inl trivial
        iexact HO
      isplitl [H0]; · iexact H0
      isplitl [H1]; · iexact H1
      isplitl [H2]; · iexact H2
      iexact H3
    · by_cases h3 : more t
      · have e3 := i3.mp h3
        have e2 : t.val / 8 ≠ 0 := by intro e; exact h2 (i2.mpr (by omega))
        rw [stage_here c _ (t.val / 8) e2 (by omega), stage_next c _ (t.val / 8) (by omega)]
        iintro ⟨⟨⟨%dg, -, HG⟩, Hg, Ra, Rb⟩, ⟨%O, -, HO⟩, ⟨%d0, H0⟩, ⟨%d1, H1⟩, ⟨%d2, H2⟩, ⟨%d3, H3⟩⟩
        iapply ((run_C c t _ _ _ _ _ _ _ _ h1 h2 h3 (iblk m c 0 t) (iblk m c 1 t) (V m c main_v4)) O _)
        isplitl [H0]; · iexact H0
        isplitl [H1]; · iexact H1
        isplitl [H2]; · iexists _; iexact H2
        isplitl [H3]; · iexists _; iexact H3
        isplitl [HG]; · iexists _; iexact HG
        isplitl [Ra]; · iexact Ra
        isplitl [Rb]; · iexact Rb
        isplitl [HO]; · iexact HO
        iintro ⟨H0, H1, H2, H3, HG, Ra, Rb, ⟨%O', HO⟩⟩
        isplitl [HG Hg Ra Rb]
        · isplitl [HG]
          · iexists _; isplitr; · ipureintro; exact fun _ => rfl
            iexact HG
          isplitl [Hg]; · iexact Hg
          isplitl [Ra]; · iexact Ra
          iexact Rb
        isplitl [HO]
        · iexists O'; isplitr; · ipureintro; exact fun _ _ => Or.inl trivial
          iexact HO
        isplitl [H0]; · iexact H0
        isplitl [H1]; · iexact H1
        isplitl [H2]; · iexact H2
        iexact H3
      · have e2 : t.val / 8 ≠ 0 := by intro e; exact h2 (i2.mpr (by omega))
        have e3 : t.val / 8 + 1 = 4 := by have h4 : ¬ t.val < 24 := fun h => h3 (i3.mpr h); omega
        rw [stage_here c _ (t.val / 8) e2 (Nat.lt_of_succ_le e3.le), stage_last c _ (t.val / 8) e3]
        iintro ⟨⟨⟨%dg, -, HG⟩, Hg, Ra, Rb⟩, ⟨%O, -, HO⟩, ⟨%d0, H0⟩, ⟨%d1, H1⟩, ⟨%d2, H2⟩, ⟨%d3, H3⟩⟩
        iapply ((run_D c t _ _ _ _ _ _ _ _ h1 h2 h3 (iblk m c 0 t) (iblk m c 1 t) (V m c main_v4)) O _)
        isplitl [H0]; · iexact H0
        isplitl [H1]; · iexact H1
        isplitl [H2]; · iexists _; iexact H2
        isplitl [H3]; · iexists _; iexact H3
        isplitl [HG]; · iexists _; iexact HG
        isplitl [Ra]; · iexact Ra
        isplitl [HO]; · iexact HO
        iintro ⟨H0, H1, H2, H3, HG, Ra, ⟨%O', HO⟩⟩
        isplitl [HG Hg Ra Rb]
        · isplitl [HG]
          · iexists _; isplitr; · ipureintro; exact fun _ => rfl
            iexact HG
          isplitl [Hg]; · iexact Hg
          isplitl [Rb]; · iexact Rb
          iexact Ra
        isplitl [HO]
        · iexists O'; isplitr; · ipureintro; exact fun _ _ => Or.inl trivial
          iexact HO
        isplitl [H0]; · iexact H0
        isplitl [H1]; · iexact H1
        isplitl [H2]; · iexact H2
        iexact H3
  · have e1 : t.val % 8 ≠ 0 := fun h => h1 (i1.mpr h)
    have s1 : (t.val + 1 + 7) / 8 = (t.val + 7) / 8 := by omega
    rw [s1]
    rw [show (dats m 0 c).leavesExact 3 t = _ from by unfold Dat.leavesExact; rw [idle_3_later t h1]]
    iintro ⟨⟨⟨%dg, %hd, HG⟩, Hg, HR⟩, ⟨%O, -, HO⟩, ⟨%d0, H0⟩, ⟨%d1, H1⟩, ⟨%d2, H2⟩, ⟨%d3, H3⟩⟩
    obtain rfl := hd e1
    rw [before_3 m c d3 t.val t rfl e1]
    iapply ((run_B c t _ _ (win0_1.stage (cfg0.slots t 1)) (hstage0_1 ((cfg0.slots t 1).cast nbuf0_1)) _ _ (win0_3.stage (cfg0.slots t 3)) (hstage0_3 ((cfg0.slots t 3).cast nbuf0_3)) h1 (iblk m c 0 t) (held m c t)) O _)
    isplitl [H0]; · iexact H0
    isplitl [H2]; · iexists _; iexact H2
    isplitl [HG]; · iexact HG
    isplitl [HO]; · iexact HO
    iintro ⟨H0, H2, HG, ⟨%O', HO⟩⟩
    isplitl [HG Hg HR]
    · isplitl [HG]
      · iexists _; isplitr
        · ipureintro; intro h8; rw [show (t.val + 1) / 8 = t.val / 8 by omega]; try rfl
        iexact HG
      isplitl [Hg]; · iexact Hg
      iexact HR
    isplitl [HO]
    · iexists O'; isplitr; · ipureintro; exact fun _ _ => Or.inl trivial
      iexact HO
    isplitl [H0]; · iexact H0
    isplitl [H1]; · iexact H1
    isplitl [H2]; · iexact H2
    cases hfl : (cfg0.win 3).flush t
    · iexists d3; rw [before_3 m c d3 t.val t rfl e1]; iexact H3
    · iexact H3

/-- The body table's row at a point is the body there. -/
theorem row (t : Fin cfg0.N) : defs₀ (F := F) .tc cfg0.body (cfg0.bodyArgs t (cfg0.slots t)) = bodyAt0 t := by
  unfold defs₀; rw [Defs.onTc_tc]
theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

theorem ownSems_list (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 7) 0 ∗ semVal ((c : Thread nD τ), SemLoc.dma 8) 0) := by
  rw [Pipeline.ownSems0_eq_of_list c osem [0, 1] (by decide) (by decide)]; try rfl
theorem weights_list (c : Dev nD) :
    (bigSep Hs (fun b => ((c : Thread nD τ).loc b) ↦{fullShare} V m c b) : sProp 𝕄) = iprop(((c : Thread nD τ).loc main_v4) ↦{fullShare} V m c main_v4) := by
  rw [BI.bigSep_eq_bigSepL_of_eq [main_v4] (by decide) (by decide)]; try rfl
theorem handed (c : Dev nD) :
    (Pipeline.ΦD osem spec0 Hs (V m) c : sProp 𝕄)
      = iprop(iprop((∃ d, owns (c : Thread nD τ) stM fullShare d) ∗ (∃ d, owns (c : Thread nD τ) wM fullShare d)) ∗ (∃ r, prngReg c r)
        ∗ iprop(semVal ((c : Thread nD τ), SemLoc.dma 7) 0 ∗ semVal ((c : Thread nD τ), SemLoc.dma 8) 0)
        ∗ iprop(((c : Thread nD τ).loc main_v4) ↦{fullShare} V m c main_v4)) := by
  rw [Pipeline.ΦD_eq, scopedRest0_eq, ownSems_list, weights_list]; simp only [stM, wM, owns_whole]; try rfl

theorem hin (c : Dev nD) : Pipeline.ΦD osem spec0 Hs (V m) c ⊢ (dats m 0 c).Φ 0 := by
  rw [handed, show (dats m 0 c).Φ 0 = Inv m c 0 from rfl]
  unfold Inv
  rw [show (0 + 7) / 8 = 0 from rfl]
  iintro ⟨⟨HS, ⟨%d0, HG⟩⟩, Hg, HC, HW⟩
  isplitl [HG]
  · iexists d0; isplitr; · ipureintro; exact fun h => absurd rfl h
    iexact HG
  isplitl [Hg]; · iexact Hg
  iapply (stage_in (F := F) c _)
  isplitl [HS]; · iexact HS
  isplitl [HC]; · iexact HC
  iexact HW
theorem hout (c : Dev nD) : (dats m 0 c).Φ (Fin.last cfg0.N) ⊢ Pipeline.ΦD osem spec0 Hs (V m) c := by
  rw [handed, show (dats m 0 c).Φ (Fin.last cfg0.N) = Inv m c grid0.N from rfl]
  unfold Inv
  rw [show (grid0.N + 7) / 8 = 4 from by rw [N_0]]
  iintro ⟨⟨%d0, -, HG⟩, Hg, HR⟩
  ihave HX := (stage_out (F := F) c _) $$ HR
  icases HX with ⟨HS, HC, HW⟩
  isplitl [HS HG]
  · isplitl [HS]; · iexact HS
    iexists d0; iexact HG
  isplitl [Hg]; · iexact Hg
  isplitl [HC]; · iexact HC
  iexact HW

set_option maxHeartbeats 800000 in
theorem hmain' (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends, each array at the contents the points leave, every counter at zero. -/
theorem run : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none ownSemFacts Hs Hs_sub m ρ main
    (hbody := fun c => (obligation m c).loose) (hshare := fun c => (dats m 0 c).share_full fun _ => rfl)
    (howed := fun _ _ => rfl) (V := V m) (hmain := hmain' m Variants.none) (hA := A_eq m) (hin := hin m) (hout := hout m)

/-- Every run ends with the arguments unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run m ρ)

end Cert.ValsIdeal.Stream

end
-- ==== Proof.ConvRing.lean ====
module

public import proofs.«01_k».proof.Proof.Gen.ConvIdeal.Frame
public import proofs.«01_k».proof.Proof.Gen.ConvIdeal.Skeleton
public import Idealize.ShloMosaic.Lib.Ring
public import Idealize.ShloMosaic.Lib.Tactic
public import Idealize.ShloMosaic.Lib.VecWindow
public import Idealize.ShloMosaic.Lib.Pointwise.Reshape

@[expose] public section

set_option maxRecDepth 16384

noncomputable section

namespace Cert.ConvIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ConvIdeal Cert.ConvIdeal.Gen

variable {F : FTy → Type} [FloatOps F]

local notation "𝕄" => MT nD τ sig Unit (Elt F) ℕ (Pipeline.UD sig nD τ) ℕ

/-! ## The three branch conditions, in closed form -/

/-- The first row block of a column tile. -/
abbrev first (t : Fin grid0.N) : Prop := k0_cond1 (grid0.coords t) = 1#1
/-- The very first point. -/
abbrev start (t : Fin grid0.N) : Prop := k0_cond2 (grid0.coords t) = 1#1
/-- A column tile follows. -/
abbrev more (t : Fin grid0.N) : Prop := k0_cond3 (grid0.coords t) = 1#1

theorem first_iff : ∀ t : Fin grid0.N, first t ↔ t.val % 8 = 0 := by decide +kernel
theorem start_iff : ∀ t : Fin grid0.N, start t ↔ t.val < 8 := by decide +kernel
theorem more_iff : ∀ t : Fin grid0.N, more t ↔ t.val < 56 := by decide +kernel

/-! ## Slots, cells and source blocks by number -/

/-- The column tile of point `t`, and the one after it; the slots they are staged in. -/
abbrev tl (t : Fin grid0.N) : Fin 8 := Ring.bk 8 (t.val / 8)
abbrev tl' (t : Fin grid0.N) : Fin 8 := Ring.bk 8 (t.val / 8 + 1)
abbrev cur (t : Fin grid0.N) : Fin 2 := Ring.sl 2 (t.val / 8)
abbrev nxt (t : Fin grid0.N) : Fin 2 := Ring.sl 2 (t.val / 8 + 1)

abbrev stM : Memref sig .tc .vmem S2x512x4096 .f32 := Memref.whole cc0_scratch0
abbrev wM : Memref sig .tc .vmem S512x4096 .bf16 := Memref.whole cc0_scratch2
abbrev wtM : Memref sig .tc .hbm S12320x4096 .f32 := Memref.whole main_v4

theorem inb_slot (s : Fin 2) : ∀ a, (![s.val, 0, 0] : Fin 3 → Nat) a + S1x512x4096.size a ≤ S2x512x4096.size a := by
  revert s; decide
theorem inb_cell (s : Fin 2) : ∀ a, (![s.val] : Fin 1 → Nat) a + S1.size a ≤ S2.size a := by
  revert s; decide
theorem inb_src (b : Fin 8) : ∀ a, (![8192 + 512 * b.val, 0] : Fin 2 → Nat) a + S512x4096.size a ≤ S12320x4096.size a := by
  revert b; decide

/-- A staging slot. -/
def slotM (s : Fin 2) : Memref sig .tc .vmem S512x4096 .f32 :=
  (stM.slice (Rect.unit (s := S2x512x4096) ![s.val, 0, 0] S1x512x4096.size (inb_slot s)) (fun _ => rfl)).squeeze S512x4096 squeezes_S1x512x4096_S512x4096
/-- Its semaphore cell. -/
def cellA (s : Fin 2) : DmaSems sig S_ := (cc0_scratch1.slice (Rect.unit (s := S2) ![s.val] S1.size (inb_cell s))).squeeze S_ squeezes_S1_S_
/-- Column tile `b` of the segment, a row block of the transposed weights. -/
def srcM (b : Fin 8) : Memref sig .tc .hbm S512x4096 .f32 :=
  wtM.slice (Rect.unit (s := S12320x4096) ![8192 + 512 * b.val, 0] S512x4096.size (inb_src b)) (fun _ => rfl)

abbrev cellL (s : Fin 2) : SemLoc sig := SemLoc.dma (cellA s).sem
theorem cellL_eq : cellL 0 = SemLoc.dma 7 ∧ cellL 1 = SemLoc.dma 8 := by decide

/-- The kernel's own semaphores. -/
abbrev osem : Fin 2 → SemLoc sig := fun j => (![SemLoc.dma 7, SemLoc.dma 8] : Fin 2 → SemLoc sig) j
theorem ownSemFacts : Pipeline.OwnSemFacts spec0 osem := by decide
def Hs : Finset (Ref sig .tc) := {main_v4}
theorem Hs_sub : Hs ⊆ Pipeline.restRefs sig spec0 := by decide

/-! ## What the streaming holds -/

section Families
variable (c : Dev nD)

abbrev BufOf {sp : Space} {S : Shape} {e : EltTy} (M : Memref sig .tc sp S e) : Type := Buf (Elt F) (M.view.loc (c : Thread nD τ))

variable (W : BufOf (F := F) c wtM)

/-- The read share of the weights that goes with slot `s`. -/
abbrev qs (s : Fin 2) : PosShare TreeShare := if s.val = 0 then fullShare.left else fullShare.right

abbrev slotP (s : Fin 2) (f : BufOf (F := F) c (slotM s)) : sProp 𝕄 := (slotM s).view.loc (c : Thread nD τ) ↦[(slotM s).view.set]{fullShare} f
abbrev cellP (s : Fin 2) : sProp 𝕄 := semVal ((c : Thread nD τ), cellL s) 0
abbrev srcP (s : Fin 2) (b : Fin 8) : sProp 𝕄 := (srcM b).view.loc (c : Thread nD τ) ↦[(srcM b).view.set]{qs s} W
def restP (s : Fin 2) (b : Fin 8) : sProp 𝕄 := ((c : Thread nD τ).loc main_v4) ↦[Finset.univ \ (srcM b).view.set]{qs s} W
abbrev wholeP (s : Fin 2) : sProp 𝕄 := ((c : Thread nD τ).loc main_v4) ↦[Finset.univ]{qs s} W
abbrev landed (s : Fin 2) (b : Fin 8) (f : BufOf (F := F) c (slotM s)) : BufOf (F := F) c (slotM s) :=
  (slotM s).view.writes (Elt F) f [⟨Rect.whole S512x4096, ReadAs.same.apply ((srcM b).view.read (Elt F) W)⟩]
abbrev flightP (s : Fin 2) (b : Fin 8) (f : BufOf (F := F) c (slotM s)) : sProp 𝕄 :=
  Transfers.Flight countersEmb (c : Thread nD τ) (cellL s) default ((slotM s).view.amount (cellL s))
    iprop(slotP c s (landed c W s b f) ∗ srcP c W s b)

/-- Slot `s` idle: its cell at zero, the slot at some contents, its share of the weights whole. -/
def idle (s : Fin 2) : sProp 𝕄 := iprop(cellP c s ∗ ∃ f, (slotP c s f ∗ wholeP c W s))
/-- Tile `b` on its way into slot `s`. -/
def flying (s : Fin 2) (b : Fin 8) : sProp 𝕄 := iprop(∃ f, (flightP c W s b f ∗ restP c W s b))

theorem src_split (s : Fin 2) (b : Fin 8) : wholeP (F := F) c W s ⊣⊢ iprop(srcP c W s b ∗ restP c W s b) := by
  unfold restP; exact pointsTo_split_subset (Finset.subset_univ _)

/-- The staging before its tile `k`: nothing started before the first; then tile `k` on its way, the other slot idle;
    after the last everything idle. -/
def stage (k : ℕ) : sProp 𝕄 :=
  if k = 0 then iprop(idle c W 0 ∗ idle c W 1)
  else if k < 8 then iprop(flying c W (Ring.sl 2 k) (Ring.bk 8 k) ∗ idle c W (Ring.sl 2 (k + 1)))
  else iprop(idle c W (Ring.sl 2 k) ∗ idle c W (Ring.sl 2 (k + 1)))

end Families

/-! ## The staging buffer as its two slots -/

abbrev half (e : Fin 2) : Finset S2x512x4096.Idx := (Rect.unit (s := S2x512x4096) ![e.val, 0, 0] S1x512x4096.size (inb_slot e)).set
theorem slot_set (s : Fin 2) : (slotM s).view.set = half s := by
  simp only [slotM, Memref.view_squeeze, View.set_reshape]; exact View.set_slice_whole _ _
theorem half_disjoint (e e' : Fin 2) (h : e ≠ e') : Disjoint (half e) (half e') := by
  rw [Finset.disjoint_left]
  intro i hi hi'
  have a0 := (Rect.mem_set_unit.mp hi) 0
  have b0 := (Rect.mem_set_unit.mp hi') 0
  have he : e.val ≠ e'.val := fun h' => h (Fin.ext h')
  simp at a0 b0
  omega
theorem half_cover : Finset.univ.biUnion half = Finset.univ := by
  ext i
  simp only [Finset.mem_biUnion, Finset.mem_univ, true_and, iff_true]
  have h0 : (i 0).val < 2 := (i 0).isLt
  have h1 : (i 1).val < 512 := (i 1).isLt
  have h2 : (i 2).val < 4096 := (i 2).isLt
  refine ⟨⟨(i 0).val, h0⟩, Rect.mem_set_unit.mpr fun a => ?_⟩
  fin_cases a <;> simp <;> omega

/-! ## What the launch hands the staging, and takes back -/

section InOut
variable (c : Dev nD) (W : BufOf (F := F) c wtM)

private theorem of_eq {P Q : sProp 𝕄} (e : P = Q) : P ⊢ Q := e ▸ .rfl

theorem slotP_eq (s : Fin 2) (f) :
    slotP (F := F) c s f = (((c : Thread nD τ).loc cc0_scratch0) ↦[half s]{fullShare} f : sProp 𝕄) := by
  unfold slotP; rw [slot_set s]; rfl

theorem fin2 {M : Type} [URA M] (Φ : Fin 2 → sProp M) : bigSep Finset.univ Φ = iprop(Φ 0 ∗ Φ 1) :=
  bigSep_univ_eq_bigSepL [(0 : Fin 2), 1] (by decide) (by decide) Φ

theorem weights_split : (((c : Thread nD τ).loc main_v4) ↦{fullShare} W : sProp 𝕄) ⊣⊢ iprop(wholeP c W 0 ∗ wholeP c W 1) :=
  pointsTo_share (PosShare.mem_left_op_right fullShare)

/-- The buffers whole and the cells at zero are the staging before its first tile. -/
theorem stage_in :
    iprop((∃ d, owns (c : Thread nD τ) stM fullShare d)
      ∗ (semVal ((c : Thread nD τ), SemLoc.dma 7) 0 ∗ semVal ((c : Thread nD τ), SemLoc.dma 8) 0)
      ∗ (((c : Thread nD τ).loc main_v4) ↦{fullShare} W))
      ⊢ (stage c W 0 : sProp 𝕄) := by
  unfold stage idle; rw [if_pos rfl]
  obtain ⟨e0, e1⟩ := cellL_eq
  simp only [cellP, e0, e1, owns_whole]
  iintro ⟨⟨%d, HS⟩, ⟨C0, C1⟩, HW⟩
  ihave HQ := (of_eq ((Ring.pointsTo_blocks (Ix := Unit) (Name := ℕ) (U := Pipeline.UD sig nD τ) (Lvl := ℕ) (ℓ := (c : Thread nD τ).loc cc0_scratch0) (q := fullShare) half half_disjoint half_cover d).trans (fin2 _))) $$ HS
  icases HQ with ⟨Q0, Q1⟩
  ihave HW' := (weights_split c W).1 $$ HW
  icases HW' with ⟨W0, W1⟩
  isplitl [C0 Q0 W0]
  · isplitl [C0]; · iexact C0
    iexists d; isplitl [Q0]; · iapply (of_eq (slotP_eq c 0 d).symm); iexact Q0
    iexact W0
  · isplitl [C1]; · iexact C1
    iexists d; isplitl [Q1]; · iapply (of_eq (slotP_eq c 1 d).symm); iexact Q1
    iexact W1

/-- After the last tile the staging is those buffers and cells again. -/
theorem stage_out :
    (stage c W 8 : sProp 𝕄) ⊢ iprop((∃ d, owns (c : Thread nD τ) stM fullShare d)
      ∗ (semVal ((c : Thread nD τ), SemLoc.dma 7) 0 ∗ semVal ((c : Thread nD τ), SemLoc.dma 8) 0)
      ∗ (((c : Thread nD τ).loc main_v4) ↦{fullShare} W)) := by
  unfold stage idle; rw [if_neg (by decide), if_neg (by decide), show Ring.sl 2 8 = 0 from rfl, show Ring.sl 2 (8 + 1) = 1 from rfl]
  obtain ⟨e0, e1⟩ := cellL_eq
  simp only [cellP, e0, e1, owns_whole]
  iintro ⟨⟨C0, %d0, Q0, W0⟩, ⟨C1, %d1, Q1, W1⟩⟩
  isplitl [Q0 Q1]
  · iapply (Ring.pointsTo_blocks_join_exists (Ix := Unit) (Name := ℕ) (U := Pipeline.UD sig nD τ) (Lvl := ℕ) (ℓ := (c : Thread nD τ).loc cc0_scratch0) (q := fullShare) half half_disjoint half_cover d0)
    irw [fin2]
    isplitl [Q0]; · iexists d0; iapply (of_eq (slotP_eq c 0 d0)); iexact Q0
    iexists d1; iapply (of_eq (slotP_eq c 1 d1)); iexact Q1
  isplitl [C0 C1]
  · isplitl [C0]; · iexact C0
    iexact C1
  · iapply (weights_split c W).2
    isplitl [W0]; · iexact W0
    iexact W1

end InOut

/-! ## The body's own spellings of slots, cells and blocks -/

section Names
set_option synthInstance.maxSize 4096

theorem off1_at : ∀ t : Fin grid0.N, first t → k0_off1 (grid0.coords t) = ![(cur t).val] := by decide +kernel
theorem off2_at : ∀ t : Fin grid0.N, first t → k0_off2 (grid0.coords t) = ![(cur t).val, 0, 0] := by decide +kernel
theorem off4_at : ∀ t : Fin grid0.N, first t → k0_off4 (grid0.coords t) = ![(cur t).val, 0, 0] := by decide +kernel
theorem off5_at : ∀ t : Fin grid0.N, first t → more t → k0_off5 (grid0.coords t) = ![(nxt t).val] := by decide +kernel
theorem off6_at : ∀ t : Fin grid0.N, first t → more t → k0_off6 (grid0.coords t) = ![(nxt t).val, 0, 0] := by decide +kernel
theorem off7_at : ∀ t : Fin grid0.N, first t → more t → k0_off7 (grid0.coords t) = ![8192 + 512 * (tl' t).val, 0] := by decide +kernel
theorem zero_at : ∀ t : Fin grid0.N, first t → start t → cur t = 0 ∧ tl t = 0 := by decide +kernel

/-! The operands of the body's transfers and waits, by number. -/

theorem slot_named (o : Fin 3 → Nat) (s : Fin 2) (e : o = ![s.val, 0, 0]) (ib : ∀ a, o a + S1x512x4096.size a ≤ S2x512x4096.size a) :
    (stM.slice (Rect.unit (s := S2x512x4096) o S1x512x4096.size ib) (fun _ => rfl)).squeeze S512x4096 squeezes_S1x512x4096_S512x4096 = slotM s := by
  subst e; rfl
theorem cell_named (o : Fin 1 → Nat) (s : Fin 2) (e : o = ![s.val]) (ib : ∀ a, o a + S1.size a ≤ S2.size a) :
    (cc0_scratch1.slice (Rect.unit (s := S2) o S1.size ib)).squeeze S_ squeezes_S1_S_ = cellA s := by
  subst e; rfl
theorem src_named (o : Fin 2 → Nat) (b : Fin 8) (e : o = ![8192 + 512 * b.val, 0]) (ib : ∀ a, o a + S512x4096.size a ≤ S12320x4096.size a) :
    wtM.slice (Rect.unit (s := S12320x4096) o S512x4096.size ib) (fun _ => rfl) = srcM b := by
  subst e; rfl

@[sl_canon] theorem start_slot (t : Fin grid0.N) (h1 : first t) (h2 : start t) :
    (stM.slice (Rect.unit (s := S2x512x4096) ![0, 0, 0] S1x512x4096.size inb_S2x512x4096_S1x512x4096_0_0_0) (fun _ => rfl)).squeeze S512x4096 squeezes_S1x512x4096_S512x4096 = slotM (cur t) :=
  slot_named _ _ (by rw [(zero_at t h1 h2).1]; rfl) _
@[sl_canon] theorem start_cell (t : Fin grid0.N) (h1 : first t) (h2 : start t) :
    (cc0_scratch1.slice (Rect.unit (s := S2) ![0] S1.size inb_S2_S1_0)).squeeze S_ squeezes_S1_S_ = cellA (cur t) :=
  cell_named _ _ (by rw [(zero_at t h1 h2).1]; rfl) _
@[sl_canon] theorem start_src (t : Fin grid0.N) (h1 : first t) (h2 : start t) :
    wtM.slice (Rect.unit (s := S12320x4096) ![8192, 0] S512x4096.size inb_S12320x4096_S512x4096_8192_0) (fun _ => rfl) = srcM (tl t) :=
  src_named _ _ (by rw [(zero_at t h1 h2).2]; rfl) _
@[sl_canon] theorem wait_slot (t : Fin grid0.N) (h1 : first t) :
    (stM.slice (Rect.unit (s := S2x512x4096) (k0_off2 (grid0.coords t)) S1x512x4096.size (k0_off2_inb (grid0.coords t) h1)) (fun _ => rfl)).squeeze S512x4096 squeezes_S1x512x4096_S512x4096 = slotM (cur t) :=
  slot_named _ _ (off2_at t h1) _
@[sl_canon] theorem wait_cell (t : Fin grid0.N) (h1 : first t) :
    (cc0_scratch1.slice (Rect.unit (s := S2) (k0_off1 (grid0.coords t)) S1.size (k0_off1_inb (grid0.coords t) h1))).squeeze S_ squeezes_S1_S_ = cellA (cur t) :=
  cell_named _ _ (off1_at t h1) _
@[sl_canon] theorem next_slot (t : Fin grid0.N) (h1 : first t) (h3 : more t) :
    (stM.slice (Rect.unit (s := S2x512x4096) (k0_off6 (grid0.coords t)) S1x512x4096.size (k0_off6_inb (grid0.coords t) h1 h3)) (fun _ => rfl)).squeeze S512x4096 squeezes_S1x512x4096_S512x4096 = slotM (nxt t) :=
  slot_named _ _ (off6_at t h1 h3) _
@[sl_canon] theorem next_cell (t : Fin grid0.N) (h1 : first t) (h3 : more t) :
    (cc0_scratch1.slice (Rect.unit (s := S2) (k0_off5 (grid0.coords t)) S1.size (k0_off5_inb (grid0.coords t) h1 h3))).squeeze S_ squeezes_S1_S_ = cellA (nxt t) :=
  cell_named _ _ (off5_at t h1 h3) _
@[sl_canon] theorem next_src (t : Fin grid0.N) (h1 : first t) (h3 : more t) :
    wtM.slice (Rect.unit (s := S12320x4096) (k0_off7 (grid0.coords t)) S512x4096.size (k0_off7_inb (grid0.coords t) h1 h3)) (fun _ => rfl) = srcM (tl' t) :=
  src_named _ _ (off7_at t h1 h3) _
instance (priority := high) closed4 (t : Fin grid0.N) [h1 : Fact (first t)] : ClosedOff (k0_off4 (grid0.coords t)) := ⟨![(cur t).val, 0, 0], off4_at t h1.out⟩

/-- Column tile `b` of the segment, rounded to the matrix unit's width. -/
def tile (c : Dev nD) (W : BufOf (F := F) c wtM) (b : Fin 8) : Vec F S512x4096 .bf16 :=
  truncf .bf16 ((srcM b).view.read (Elt F) W) bitsLt_bf16_f32

end Names

/-- A slot loaded in place reads what the slot reads. -/
theorem slot_read (c : Dev nD) (s : Fin 2) (ib : ∀ a, (![s.val, 0, 0] : Fin 3 → Nat) a + S1x512x4096.size a ≤ S2x512x4096.size a)
    (w : BufOf (F := F) c stM) :
    shapeCast S512x4096 (View.readAt (Elt F) stM.view (Rect.unit (s := S2x512x4096) ![s.val, 0, 0] S1x512x4096.size ib).toLoadRect w) shapeCasts_S1x512x4096_S512x4096
      = (slotM s).view.read (Elt F) w := by
  unfold slotM
  rw [View.readAt_rect]
  rfl
/-- A slot landed at `v`, loaded, rounded: `v` rounded. -/
theorem loaded (c : Dev nD) (s : Fin 2) (o : Fin 3 → Nat) (e : o = ![s.val, 0, 0]) (ib : ∀ a, o a + S1x512x4096.size a ≤ S2x512x4096.size a)
    (g : BufOf (F := F) c (slotM s)) (v : Vec F S512x4096 .f32) :
    k0_pay3 (View.readAt (Elt F) stM.view (Rect.unit (s := S2x512x4096) o S1x512x4096.size ib).toLoadRect ((slotM s).view.writes (Elt F) g [⟨Rect.whole S512x4096, v⟩]))
      = truncf .bf16 v bitsLt_bf16_f32 := by
  subst e
  have key := (slot_read c s ib _).trans (View.read_writes_whole (slotM s).view g v)
  unfold k0_pay3
  dsimp only
  rw [shapeCast_id]
  exact congrArg (fun x : FVec F S512x4096 .f32 => truncf .bf16 x bitsLt_bf16_f32) key

end Cert.ConvIdeal.Stream

end
-- ==== Proof.ConvRunA.lean ====
module

public import proofs.«01_k».proof.Proof.ConvRing

@[expose] public section

set_option maxRecDepth 16384

noncomputable section

namespace Cert.ConvIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ConvIdeal Cert.ConvIdeal.Gen

variable {F : FTy → Type} [FloatOps F]

local notation "𝕄" => MT nD τ sig Unit (Elt F) ℕ (Pipeline.UD sig nD τ) ℕ

set_option maxHeartbeats 400000 in
/-- The very first point: tile 0 is started and awaited, tile 1 is started, and both results of the point are those of
    the tile just landed. -/
theorem run_A (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1024x512 .f32) (harg5 : arg5.IsWhole) (arg6 : Memref sig .tc .vmem S32x512 .f32) (harg6 : arg6.IsWhole)
    (h1 : first t) (h2 : start t) (h3 : more t)
    (x0 : Vec F S1024x4096 .bf16) (x1 : Vec F S32x4096 .bf16) (W : BufOf (F := F) c wtM) :
      ∀ (O : Waits sig Unit) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d)
            ∗ (∃ d, owns (c : Thread nD τ) wM fullShare d)
            ∗ idle c W (cur t) ∗ idle c W (nxt t) ∗ owes (c : Thread nD τ) 0 O
            ∗ (iprop(owns (c : Thread nD τ) arg2 fullShare x0 ∗ owns (c : Thread nD τ) arg3 fullShare x1 ∗ owns (c : Thread nD τ) arg5 fullShare (k0_pay2 x0 (tile c W (tl t)))
              ∗ owns (c : Thread nD τ) arg6 fullShare (k0_pay1 (k0_pay4 x1) (tile c W (tl t)))
              ∗ owns (c : Thread nD τ) wM fullShare (tile c W (tl t))
              ∗ flying c W (nxt t) (tl' t) ∗ idle c W (cur t) ∗ (∃ O', owes (c : Thread nD τ) 0 O')) -∗ K ⟨⟩))
          ⊢ wp frame (wpE (defs₀ (F := F)) Variants.none c none) Set.univ (cc0_in0_4 (grid0.coords t) arg2 harg2 arg3 harg3 wtM (Memref.isWhole_whole _) arg5 harg5 arg6 harg6 stM (Memref.isWhole_whole _) cc0_scratch1 wM (Memref.isWhole_whole _)) K := by
    intro O K
    haveI : Fact (first t) := ⟨h1⟩
    haveI : Fact (start t) := ⟨h2⟩
    haveI : Fact (more t) := ⟨h3⟩
    simp only [cc0_in0_4_eq_skeleton]; unfold cc0_in0_4_skel
    simp only [k0_part1_eq_skeleton]
    have c0 := start_slot t h1 h2
    have c2 := start_cell t h1 h2
    have c4 := start_src t h1 h2
    unfold owns idle flying
    iintro ⟨⟨%f0, %hf0, H0⟩, ⟨%f1, %hf1, H1⟩, ⟨%d3, %f3, -, H3⟩, ⟨%d4, %f4, -, H4⟩, ⟨%dg, %fg, -, HG⟩, ⟨Ca, %fa, Sa, Wa⟩, ⟨Cc, %fc, Sc, Wc⟩, HO, Hk⟩
    ihave Pa := (src_split c W (cur t) (tl t)).1 $$ Wa
    icases Pa with ⟨Xa, Ra⟩
    ihave Pc := (src_split c W (nxt t) (tl' t)).1 $$ Wc
    icases Pc with ⟨Xc, Rc⟩
    obtain rfl := harg2.eq_unread hf0; obtain rfl := harg3.eq_unread hf1
    sl_exec (disch := first | sl_exact h1 | sl_exact h2 | sl_exact h3)
    sl_step
    have hG : ∀ f, wM.view.read (Elt F) (wM.view.writes (Elt F) f (run_A.sl.HG_1 c t h1 W)) = tile c W (tl t) := by
      intro f
      unfold run_A.sl.HG_1 run_A.sl.dma0
      rw [View.read_writes_full]
      exact loaded c (cur t) _ (off4_at t h1) _ _ _
    have hG' : run_A.sl.v42 c t h1 W = tile c W (tl t) := by
      unfold run_A.sl.v42 View.readCov
      rw [View.readAt_full]
      exact hG _
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; swap; · iexact H3
      ipureintro
      rw [View.read_writes_full, View.readAt_full, harg2.read_unread]
      exact congrArg (k0_pay2 x0) hG'
    isplitl [H4]
    · iexists _; isplitr; swap; · iexact H4
      ipureintro
      rw [View.read_writes_full]; unfold run_A.sl.r; rw [View.readAt_full, harg3.read_unread]
      exact congrArg (k0_pay1 (k0_pay4 x1)) hG'
    isplitl [HG]
    · iexists _; isplitr; swap; · iexact HG
      ipureintro
      exact hG fg
    isplitl [Cc Rc]
    · iexists _; isplitl [Cc]; · iexact Cc
      iexact Rc
    isplitl [Ca Sa Xa Ra]
    · isplitl [Ca]; · iexact Ca
      iexists _; isplitl [Sa]; · iexact Sa
      iapply (src_split c W (cur t) (tl t)).2; isplitl [Xa]; · iexact Xa
      iexact Ra
    iexists _; iexact HO

end Cert.ConvIdeal.Stream

end
-- ==== Proof.ConvRunB.lean ====
module

public import proofs.«01_k».proof.Proof.ConvRing

@[expose] public section

set_option maxRecDepth 16384

noncomputable section

namespace Cert.ConvIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ConvIdeal Cert.ConvIdeal.Gen

variable {F : FTy → Type} [FloatOps F]

local notation "𝕄" => MT nD τ sig Unit (Elt F) ℕ (Pipeline.UD sig nD τ) ℕ

set_option maxHeartbeats 400000 in
/-- A later row block of a tile: the result of the point is that of the tile held. -/
theorem run_B (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1024x512 .f32) (harg5 : arg5.IsWhole) (arg6 : Memref sig .tc .vmem S32x512 .f32) (harg6 : arg6.IsWhole)
    (h1 : ¬ first t)
    (x0 : Vec F S1024x4096 .bf16) (w0 : Vec F S512x4096 .bf16) :
      ∀ (O : Waits sig Unit) (K : PUnit → sProp 𝕄),
        iprop(owns (c : Thread nD τ) arg2 fullShare x0 ∗ (∃ d, owns (c : Thread nD τ) arg5 fullShare d) ∗ owns (c : Thread nD τ) wM fullShare w0 ∗ owes (c : Thread nD τ) 0 O
            ∗ (iprop(owns (c : Thread nD τ) arg2 fullShare x0 ∗ owns (c : Thread nD τ) arg5 fullShare (k0_pay2 x0 w0)
              ∗ owns (c : Thread nD τ) wM fullShare w0 ∗ (∃ O', owes (c : Thread nD τ) 0 O')) -∗ K ⟨⟩))
          ⊢ wp frame (wpE (defs₀ (F := F)) Variants.none c none) Set.univ (cc0_in0_4 (grid0.coords t) arg2 harg2 arg3 harg3 wtM (Memref.isWhole_whole _) arg5 harg5 arg6 harg6 stM (Memref.isWhole_whole _) cc0_scratch1 wM (Memref.isWhole_whole _)) K := by
    intro O K
    haveI : Fact (¬ first t) := ⟨h1⟩
    simp only [cc0_in0_4_eq_skeleton]; unfold cc0_in0_4_skel
    unfold owns
    iintro ⟨⟨%f0, %hf0, H0⟩, ⟨%d3, %f3, -, H3⟩, ⟨%fg, %hg, HG⟩, HO, Hk⟩
    obtain rfl := harg2.eq_unread hf0
    sl_exec (disch := sl_exact h1)
    sl_step
    iapply Hk
    isplitl [H0]
    · iexists _; isplitr; · ipureintro; exact harg2.read_unread _
      iexact H0
    isplitl [H3]
    · iexists _; isplitr; swap; · iexact H3
      ipureintro
      rw [View.read_writes_full, View.readAt_full, harg2.read_unread]
      rw [View.readAt_full, hg]
    isplitl [HG]
    · iexists _; isplitr; swap; · iexact HG
      ipureintro
      exact hg
    iexists _; iexact HO

end Cert.ConvIdeal.Stream

end
-- ==== Proof.ConvRunC.lean ====
module

public import proofs.«01_k».proof.Proof.ConvRing

@[expose] public section

set_option maxRecDepth 16384

noncomputable section

namespace Cert.ConvIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ConvIdeal Cert.ConvIdeal.Gen

variable {F : FTy → Type} [FloatOps F]

local notation "𝕄" => MT nD τ sig Unit (Elt F) ℕ (Pipeline.UD sig nD τ) ℕ

set_option maxHeartbeats 400000 in
/-- The first row block of a middle tile: the tile is awaited, the next one is started, and both results of the point are
    those of the tile just landed. -/
theorem run_C (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1024x512 .f32) (harg5 : arg5.IsWhole) (arg6 : Memref sig .tc .vmem S32x512 .f32) (harg6 : arg6.IsWhole)
    (h1 : first t) (h2 : ¬ start t) (h3 : more t)
    (x0 : Vec F S1024x4096 .bf16) (x1 : Vec F S32x4096 .bf16) (W : BufOf (F := F) c wtM) :
      ∀ (O : Waits sig Unit) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d)
            ∗ (∃ d, owns (c : Thread nD τ) wM fullShare d)
            ∗ flying c W (cur t) (tl t) ∗ idle c W (nxt t) ∗ owes (c : Thread nD τ) 0 O
            ∗ (iprop(owns (c : Thread nD τ) arg2 fullShare x0 ∗ owns (c : Thread nD τ) arg3 fullShare x1 ∗ owns (c : Thread nD τ) arg5 fullShare (k0_pay2 x0 (tile c W (tl t)))
              ∗ owns (c : Thread nD τ) arg6 fullShare (k0_pay1 (k0_pay4 x1) (tile c W (tl t)))
              ∗ owns (c : Thread nD τ) wM fullShare (tile c W (tl t))
              ∗ flying c W (nxt t) (tl' t) ∗ idle c W (cur t) ∗ (∃ O', owes (c : Thread nD τ) 0 O')) -∗ K ⟨⟩))
          ⊢ wp frame (wpE (defs₀ (F := F)) Variants.none c none) Set.univ (cc0_in0_4 (grid0.coords t) arg2 harg2 arg3 harg3 wtM (Memref.isWhole_whole _) arg5 harg5 arg6 harg6 stM (Memref.isWhole_whole _) cc0_scratch1 wM (Memref.isWhole_whole _)) K := by
    intro O K
    haveI : Fact (first t) := ⟨h1⟩
    haveI : Fact (¬ start t) := ⟨h2⟩
    haveI : Fact (more t) := ⟨h3⟩
    simp only [cc0_in0_4_eq_skeleton]; unfold cc0_in0_4_skel
    simp only [k0_part1_eq_skeleton]
    unfold owns idle flying
    iintro ⟨⟨%f0, %hf0, H0⟩, ⟨%f1, %hf1, H1⟩, ⟨%d3, %f3, -, H3⟩, ⟨%d4, %f4, -, H4⟩, ⟨%dg, %fg, -, HG⟩, ⟨%fa, Ca, Ra⟩, ⟨Cc, %fc, Sc, Wc⟩, HO, Hk⟩
    ihave Pc := (src_split c W (nxt t) (tl' t)).1 $$ Wc
    icases Pc with ⟨Xc, Rc⟩
    obtain rfl := harg2.eq_unread hf0; obtain rfl := harg3.eq_unread hf1
    sl_exec (disch := first | sl_exact h1 | sl_exact h2 | sl_exact h3)
    sl_step
    have hG : ∀ f, wM.view.read (Elt F) (wM.view.writes (Elt F) f (run_C.sl.HG_1 c t h1 W)) = tile c W (tl t) := by
      intro f
      unfold run_C.sl.HG_1 run_C.sl.v30
      rw [View.read_writes_full]
      exact loaded c (cur t) _ (off4_at t h1) _ _ _
    have hG' : run_C.sl.v42 c t h1 W = tile c W (tl t) := by
      unfold run_C.sl.v42 View.readCov
      rw [View.readAt_full]
      exact hG _
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; swap; · iexact H3
      ipureintro
      rw [View.read_writes_full, View.readAt_full, harg2.read_unread]
      exact congrArg (k0_pay2 x0) hG'
    isplitl [H4]
    · iexists _; isplitr; swap; · iexact H4
      ipureintro
      rw [View.read_writes_full]; unfold run_C.sl.r; rw [View.readAt_full, harg3.read_unread]
      exact congrArg (k0_pay1 (k0_pay4 x1)) hG'
    isplitl [HG]
    · iexists _; isplitr; swap; · iexact HG
      ipureintro
      exact hG fg
    isplitl [Cc Rc]
    · iexists _; isplitl [Cc]; · iexact Cc
      iexact Rc
    isplitl [Ca Ca_dst Ca_src Ra]
    · isplitl [Ca]; · iexact Ca
      iexists _; isplitl [Ca_dst]; · iexact Ca_dst
      iapply (src_split c W (cur t) (tl t)).2; isplitl [Ca_src]; · iexact Ca_src
      iexact Ra
    iexists _; iexact HO

end Cert.ConvIdeal.Stream

end
-- ==== Proof.ConvRunD.lean ====
module

public import proofs.«01_k».proof.Proof.ConvRing

@[expose] public section

set_option maxRecDepth 16384

noncomputable section

namespace Cert.ConvIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ConvIdeal Cert.ConvIdeal.Gen

variable {F : FTy → Type} [FloatOps F]

local notation "𝕄" => MT nD τ sig Unit (Elt F) ℕ (Pipeline.UD sig nD τ) ℕ

set_option maxHeartbeats 400000 in
/-- The first row block of the last tile: the tile is awaited, nothing is started, and both results of the point are those
    of the tile just landed. -/
theorem run_D (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1024x512 .f32) (harg5 : arg5.IsWhole) (arg6 : Memref sig .tc .vmem S32x512 .f32) (harg6 : arg6.IsWhole)
    (h1 : first t) (h2 : ¬ start t) (h3 : ¬ more t)
    (x0 : Vec F S1024x4096 .bf16) (x1 : Vec F S32x4096 .bf16) (W : BufOf (F := F) c wtM) :
      ∀ (O : Waits sig Unit) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d)
            ∗ (∃ d, owns (c : Thread nD τ) wM fullShare d)
            ∗ flying c W (cur t) (tl t) ∗ owes (c : Thread nD τ) 0 O
            ∗ (iprop(owns (c : Thread nD τ) arg2 fullShare x0 ∗ owns (c : Thread nD τ) arg3 fullShare x1 ∗ owns (c : Thread nD τ) arg5 fullShare (k0_pay2 x0 (tile c W (tl t)))
              ∗ owns (c : Thread nD τ) arg6 fullShare (k0_pay1 (k0_pay4 x1) (tile c W (tl t)))
              ∗ owns (c : Thread nD τ) wM fullShare (tile c W (tl t))
              ∗ idle c W (cur t) ∗ (∃ O', owes (c : Thread nD τ) 0 O')) -∗ K ⟨⟩))
          ⊢ wp frame (wpE (defs₀ (F := F)) Variants.none c none) Set.univ (cc0_in0_4 (grid0.coords t) arg2 harg2 arg3 harg3 wtM (Memref.isWhole_whole _) arg5 harg5 arg6 harg6 stM (Memref.isWhole_whole _) cc0_scratch1 wM (Memref.isWhole_whole _)) K := by
    intro O K
    haveI : Fact (first t) := ⟨h1⟩
    haveI : Fact (¬ start t) := ⟨h2⟩
    haveI : Fact (¬ more t) := ⟨h3⟩
    simp only [cc0_in0_4_eq_skeleton]; unfold cc0_in0_4_skel
    simp only [k0_part1_eq_skeleton]
    unfold owns idle flying
    iintro ⟨⟨%f0, %hf0, H0⟩, ⟨%f1, %hf1, H1⟩, ⟨%d3, %f3, -, H3⟩, ⟨%d4, %f4, -, H4⟩, ⟨%dg, %fg, -, HG⟩, ⟨%fa, Ca, Ra⟩, HO, Hk⟩
    obtain rfl := harg2.eq_unread hf0; obtain rfl := harg3.eq_unread hf1
    sl_exec (disch := first | sl_exact h1 | sl_exact h2 | sl_exact h3)
    sl_step
    have hG : ∀ f, wM.view.read (Elt F) (wM.view.writes (Elt F) f (run_D.sl.HG_1 c t h1 W)) = tile c W (tl t) := by
      intro f
      unfold run_D.sl.HG_1 run_D.sl.v30
      rw [View.read_writes_full]
      exact loaded c (cur t) _ (off4_at t h1) _ _ _
    have hG' : run_D.sl.v42 c t h1 W = tile c W (tl t) := by
      unfold run_D.sl.v42 View.readCov
      rw [View.readAt_full]
      exact hG _
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; swap; · iexact H3
      ipureintro
      rw [View.read_writes_full, View.readAt_full, harg2.read_unread]
      exact congrArg (k0_pay2 x0) hG'
    isplitl [H4]
    · iexists _; isplitr; swap; · iexact H4
      ipureintro
      rw [View.read_writes_full]; unfold run_D.sl.r; rw [View.readAt_full, harg3.read_unread]
      exact congrArg (k0_pay1 (k0_pay4 x1)) hG'
    isplitl [HG]
    · iexists _; isplitr; swap; · iexact HG
      ipureintro
      exact hG fg
    isplitl [Ca Ca_dst Ca_src Ra]
    · isplitl [Ca]; · iexact Ca
      iexists _; isplitl [Ca_dst]; · iexact Ca_dst
      iapply (src_split c W (cur t) (tl t)).2; isplitl [Ca_src]; · iexact Ca_src
      iexact Ra
    iexists _; iexact HO

end Cert.ConvIdeal.Stream

end
-- ==== Proof.ConvRun.lean ====
module

public import proofs.«01_k».proof.Proof.ConvRunA
public import proofs.«01_k».proof.Proof.ConvRunB
public import proofs.«01_k».proof.Proof.ConvRunC
public import proofs.«01_k».proof.Proof.ConvRunD
public import Idealize.ShloMosaic.Lib.Pipeline.FrameBody
public import Idealize.ShloMosaic.Lib.Pipeline.TableIdle

@[expose] public section

set_option maxRecDepth 16384

noncomputable section

namespace Cert.ConvIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ConvIdeal Cert.ConvIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The staging before and after a step, slots by number -/

section Steps
variable (c : Dev nD) (W : BufOf (F := F) c wtM)

theorem back (k : ℕ) : Ring.sl 2 (k + 1 + 1) = Ring.sl 2 k := Fin.ext (by simp [Ring.sl]; omega)
theorem stage_here (k : ℕ) (h1 : k ≠ 0) (h2 : k < 8) : stage c W k = iprop(flying c W (Ring.sl 2 k) (Ring.bk 8 k)
    ∗ idle c W (Ring.sl 2 (k + 1))) := by
  unfold stage; rw [if_neg h1, if_pos h2]
theorem stage_next (k : ℕ) (h2 : k + 1 < 8) : stage c W (k + 1) = iprop(flying c W (Ring.sl 2 (k + 1)) (Ring.bk 8 (k + 1))
    ∗ idle c W (Ring.sl 2 k)) := by
  unfold stage; rw [if_neg (Nat.succ_ne_zero k), if_pos h2, back]
theorem stage_last (k : ℕ) (h2 : k + 1 = 8) : stage c W (k + 1) = iprop(idle c W (Ring.sl 2 (k + 1))
    ∗ idle c W (Ring.sl 2 k)) := by
  unfold stage; rw [if_neg (Nat.succ_ne_zero k), if_neg (by omega), back]

end Steps

/-! ## The pipeline's data -/

/-- The tile held at point `t`, rounded. -/
def held (c : Dev nD) (t : Fin cfg0.N) : Vec F S512x4096 .bf16 := tile c (V m c main_v4) (tl t)

/-- Before point `k`: the rounded tile is the current one (inside a tile), and the staging. -/
def Inv (c : Dev nD) (k : ℕ) : sProp 𝕄 :=
  iprop((∃ d0, ⌜k % 8 ≠ 0 → d0 = tile c (V m c main_v4) (Ring.bk 8 (k / 8))⌝
      ∗ owns (c : Thread nD τ) wM fullShare d0)
    ∗ (∃ r, prngReg c r) ∗ stage c (V m c main_v4) ((k + 7) / 8))

/-- What every point leaves in each window. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (held m c t)
    | ⟨3, _⟩ => k0_pay1 (k0_pay4 (iblk m c 1 t)) (held m c t)
  Φ t := Inv m c t.val
  q _ := fullShare
  owed _ := 0

theorem A_eq (c : Dev nD) (w : Fin cfg0.W) : (dats m 0 c).A w = V m c (Pipeline.arrRef spec0 w) := by
  dsimp only [dats]
theorem inv_before (c : Dev nD) (t : Fin cfg0.N) : (dats m 0 c).Φ t.castSucc = Inv m c t.val := by
  dsimp only [dats]; simp only [Fin.coe_castSucc]
theorem inv_after (c : Dev nD) (t : Fin cfg0.N) : (dats m 0 c).Φ t.succ = Inv m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay2 (iblk m c 0 t) (held m c t) := by dsimp only [dats]
theorem after_3 (c : Dev nD) (t : Fin cfg0.N) : (dats m 0 c).after 3 t = k0_pay1 (k0_pay4 (iblk m c 1 t)) (held m c t) := by dsimp only [dats]

/-- Every input window holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem idle_3 (t : Fin cfg0.N) : cfg0.idle 3 (grid0.coords t) = !(k0_cond1 (grid0.coords t) == 1#1) := rfl
theorem idle_3_first (t : Fin cfg0.N) (h : first t) : cfg0.idle 3 (cfg0.grid.coords t) = false := by
  show (!(k0_cond1 (grid0.coords t) == 1#1)) = false
  rw [show k0_cond1 (grid0.coords t) = 1#1 from h]; rfl
theorem idle_3_later (t : Fin cfg0.N) (h : ¬ first t) : cfg0.idle 3 (cfg0.grid.coords t) = true := by
  show (!(k0_cond1 (grid0.coords t) == 1#1)) = true
  rw [beq_eq_false_iff_ne.mpr h]; rfl

/-- The small output is the same all through a tile. -/
theorem after_3_tile (c : Dev nD) (t t' : Fin cfg0.N) (h : t'.val / 8 = t.val / 8) : (dats m 0 c).after 3 t' = (dats m 0 c).after 3 t := by
  rw [after_3, after_3]
  unfold held
  show k0_pay1 (k0_pay4 (iblk m c 1 _)) (tile c _ (Ring.bk 8 (t'.val / 8))) = _
  rw [h]
  rfl
/-- Inside a tile its buffer still holds what the tile's first point left. -/
theorem before_3 (c : Dev nD) (d) : ∀ (n : ℕ) (t : Fin cfg0.N), t.val = n → n % 8 ≠ 0 → (dats m 0 c).before 3 t d = (dats m 0 c).after 3 t := by
  intro n
  induction n with
  | zero => intro t _ h; exact absurd rfl h
  | succ n ih =>
    intro t e h
    have ht : t.val ≠ 0 := by omega
    rw [(dats m 0 c).before_of_pos 3 t ht rfl d, if_neg (fun e' => by have := (flush0_3 _).mp e'; simp only at this; omega)]
    rw [← after_3_tile m c t ⟨t.val - 1, Nat.lt_of_le_of_lt (Nat.sub_le _ _) t.isLt⟩ (by simp only; omega)]
    unfold Dat.left
    by_cases hf : first ⟨t.val - 1, Nat.lt_of_le_of_lt (Nat.sub_le _ _) t.isLt⟩
    · rw [idle_3_first _ hf]; rfl
    · rw [idle_3_later _ hf]
      exact ih _ (by simp only; omega) (fun e' => hf ((first_iff _).mpr (by simp only; omega)))

/-! ## The body, at every point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (dats m 0 c).leavesExact 3 t)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, after_0, after_1, after_2]
  rw [inv_before m c t, inv_after m c t]
  unfold Dat.owesAt Pipeline.owesWithin
  rw [show (dats m 0 c).owed t.castSucc = 0 from rfl, show (dats m 0 c).owed t.succ = 0 from rfl]
  unfold Inv
  have hN : t.val < 64 := lt_of_lt_of_eq t.isLt (show cfg0.N = 64 from N_0)
  have i1 := first_iff t
  have i2 := start_iff t
  have i3 := more_iff t
  by_cases h1 : first t
  · have e1 := i1.mp h1
    have s1 : (t.val + 7) / 8 = t.val / 8 := by omega
    have s2 : (t.val + 1 + 7) / 8 = t.val / 8 + 1 := by omega
    have s3 : (t.val + 1) / 8 = t.val / 8 := by omega
    rw [s1, s2, s3]
    rw [show (dats m 0 c).leavesExact 3 t = owns (c : Thread nD τ) (win0_3.stage (cfg0.slots t 3)) fullShare ((dats m 0 c).after 3 t) from by
      unfold Dat.leavesExact; rw [idle_3_first t h1], after_3]
    by_cases h2 : start t
    · have h3 : more t := i3.mpr (by have := i2.mp h2; omega)
      have e2 : t.val / 8 = 0 := by have := i2.mp h2; omega
      rw [show stage c (V m c main_v4) (t.val / 8) = iprop(idle c (V m c main_v4) (cur t) ∗ idle c (V m c main_v4) (nxt t)) by unfold cur nxt; rw [e2]; try rfl]
      rw [stage_next c _ (t.val / 8) (by omega)]
      iintro ⟨⟨⟨%dg, -, HG⟩, Hg, Ra, Rb⟩, ⟨%O, -, HO⟩, ⟨%d0, H0⟩, ⟨%d1, H1⟩, ⟨%d2, H2⟩, ⟨%d3, H3⟩⟩
      iapply ((run_A c t _ _ _ _ _ _ _ _ h1 h2 h3 (iblk m c 0 t) (iblk m c 1 t) (V m c main_v4)) O _)
      isplitl [H0]; · iexact H0
      isplitl [H1]; · iexact H1
      isplitl [H2]; · iexists _; iexact H2
      isplitl [H3]; · iexists _; iexact H3
      isplitl [HG]; · iexists _; iexact HG
      isplitl [Ra]; · iexact Ra
      isplitl [Rb]; · iexact Rb
      isplitl [HO]; · iexact HO
      iintro ⟨H0, H1, H2, H3, HG, Ra, Rb, ⟨%O', HO⟩⟩
      isplitl [HG Hg Ra Rb]
      · isplitl [HG]
        · iexists _; isplitr; · ipureintro; exact fun _ => rfl
          iexact HG
        isplitl [Hg]; · iexact Hg
        isplitl [Ra]; · iexact Ra
        iexact Rb
      isplitl [HO]
      · iexists O'; isplitr; · ipureintro; exact fun _ _ => Or.inl trivial
        iexact HO
      isplitl [H0]; · iexact H0
      isplitl [H1]; · iexact H1
      isplitl [H2]; · iexact H2
      iexact H3
    · by_cases h3 : more t
      · have e3 := i3.mp h3
        have e2 : t.val / 8 ≠ 0 := by intro e; exact h2 (i2.mpr (by omega))
        rw [stage_here c _ (t.val / 8) e2 (by omega), stage_next c _ (t.val / 8) (by omega)]
        iintro ⟨⟨⟨%dg, -, HG⟩, Hg, Ra, Rb⟩, ⟨%O, -, HO⟩, ⟨%d0, H0⟩, ⟨%d1, H1⟩, ⟨%d2, H2⟩, ⟨%d3, H3⟩⟩
        iapply ((run_C c t _ _ _ _ _ _ _ _ h1 h2 h3 (iblk m c 0 t) (iblk m c 1 t) (V m c main_v4)) O _)
        isplitl [H0]; · iexact H0
        isplitl [H1]; · iexact H1
        isplitl [H2]; · iexists _; iexact H2
        isplitl [H3]; · iexists _; iexact H3
        isplitl [HG]; · iexists _; iexact HG
        isplitl [Ra]; · iexact Ra
        isplitl [Rb]; · iexact Rb
        isplitl [HO]; · iexact HO
        iintro ⟨H0, H1, H2, H3, HG, Ra, Rb, ⟨%O', HO⟩⟩
        isplitl [HG Hg Ra Rb]
        · isplitl [HG]
          · iexists _; isplitr; · ipureintro; exact fun _ => rfl
            iexact HG
          isplitl [Hg]; · iexact Hg
          isplitl [Ra]; · iexact Ra
          iexact Rb
        isplitl [HO]
        · iexists O'; isplitr; · ipureintro; exact fun _ _ => Or.inl trivial
          iexact HO
        isplitl [H0]; · iexact H0
        isplitl [H1]; · iexact H1
        isplitl [H2]; · iexact H2
        iexact H3
      · have e2 : t.val / 8 ≠ 0 := by intro e; exact h2 (i2.mpr (by omega))
        have e3 : t.val / 8 + 1 = 8 := by have h4 : ¬ t.val < 56 := fun h => h3 (i3.mpr h); omega
        rw [stage_here c _ (t.val / 8) e2 (Nat.lt_of_succ_le e3.le), stage_last c _ (t.val / 8) e3]
        iintro ⟨⟨⟨%dg, -, HG⟩, Hg, Ra, Rb⟩, ⟨%O, -, HO⟩, ⟨%d0, H0⟩, ⟨%d1, H1⟩, ⟨%d2, H2⟩, ⟨%d3, H3⟩⟩
        iapply ((run_D c t _ _ _ _ _ _ _ _ h1 h2 h3 (iblk m c 0 t) (iblk m c 1 t) (V m c main_v4)) O _)
        isplitl [H0]; · iexact H0
        isplitl [H1]; · iexact H1
        isplitl [H2]; · iexists _; iexact H2
        isplitl [H3]; · iexists _; iexact H3
        isplitl [HG]; · iexists _; iexact HG
        isplitl [Ra]; · iexact Ra
        isplitl [HO]; · iexact HO
        iintro ⟨H0, H1, H2, H3, HG, Ra, ⟨%O', HO⟩⟩
        isplitl [HG Hg Ra Rb]
        · isplitl [HG]
          · iexists _; isplitr; · ipureintro; exact fun _ => rfl
            iexact HG
          isplitl [Hg]; · iexact Hg
          isplitl [Rb]; · iexact Rb
          iexact Ra
        isplitl [HO]
        · iexists O'; isplitr; · ipureintro; exact fun _ _ => Or.inl trivial
          iexact HO
        isplitl [H0]; · iexact H0
        isplitl [H1]; · iexact H1
        isplitl [H2]; · iexact H2
        iexact H3
  · have e1 : t.val % 8 ≠ 0 := fun h => h1 (i1.mpr h)
    have s1 : (t.val + 1 + 7) / 8 = (t.val + 7) / 8 := by omega
    rw [s1]
    rw [show (dats m 0 c).leavesExact 3 t = _ from by unfold Dat.leavesExact; rw [idle_3_later t h1]]
    iintro ⟨⟨⟨%dg, %hd, HG⟩, Hg, HR⟩, ⟨%O, -, HO⟩, ⟨%d0, H0⟩, ⟨%d1, H1⟩, ⟨%d2, H2⟩, ⟨%d3, H3⟩⟩
    obtain rfl := hd e1
    rw [before_3 m c d3 t.val t rfl e1]
    iapply ((run_B c t _ _ (win0_1.stage (cfg0.slots t 1)) (hstage0_1 ((cfg0.slots t 1).cast nbuf0_1)) _ _ (win0_3.stage (cfg0.slots t 3)) (hstage0_3 ((cfg0.slots t 3).cast nbuf0_3)) h1 (iblk m c 0 t) (held m c t)) O _)
    isplitl [H0]; · iexact H0
    isplitl [H2]; · iexists _; iexact H2
    isplitl [HG]; · iexact HG
    isplitl [HO]; · iexact HO
    iintro ⟨H0, H2, HG, ⟨%O', HO⟩⟩
    isplitl [HG Hg HR]
    · isplitl [HG]
      · iexists _; isplitr
        · ipureintro; intro h8; rw [show (t.val + 1) / 8 = t.val / 8 by omega]; try rfl
        iexact HG
      isplitl [Hg]; · iexact Hg
      iexact HR
    isplitl [HO]
    · iexists O'; isplitr; · ipureintro; exact fun _ _ => Or.inl trivial
      iexact HO
    isplitl [H0]; · iexact H0
    isplitl [H1]; · iexact H1
    isplitl [H2]; · iexact H2
    cases hfl : (cfg0.win 3).flush t
    · iexists d3; rw [before_3 m c d3 t.val t rfl e1]; iexact H3
    · iexact H3

/-- The body table's row at a point is the body there. -/
theorem row (t : Fin cfg0.N) : defs₀ (F := F) .tc cfg0.body (cfg0.bodyArgs t (cfg0.slots t)) = bodyAt0 t := by
  unfold defs₀; rw [Defs.onTc_tc]
theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

theorem ownSems_list (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 7) 0 ∗ semVal ((c : Thread nD τ), SemLoc.dma 8) 0) := by
  rw [Pipeline.ownSems0_eq_of_list c osem [0, 1] (by decide) (by decide)]; try rfl
theorem weights_list (c : Dev nD) :
    (bigSep Hs (fun b => ((c : Thread nD τ).loc b) ↦{fullShare} V m c b) : sProp 𝕄) = iprop(((c : Thread nD τ).loc main_v4) ↦{fullShare} V m c main_v4) := by
  rw [BI.bigSep_eq_bigSepL_of_eq [main_v4] (by decide) (by decide)]; try rfl
theorem handed (c : Dev nD) :
    (Pipeline.ΦD osem spec0 Hs (V m) c : sProp 𝕄)
      = iprop(iprop((∃ d, owns (c : Thread nD τ) stM fullShare d) ∗ (∃ d, owns (c : Thread nD τ) wM fullShare d)) ∗ (∃ r, prngReg c r)
        ∗ iprop(semVal ((c : Thread nD τ), SemLoc.dma 7) 0 ∗ semVal ((c : Thread nD τ), SemLoc.dma 8) 0)
        ∗ iprop(((c : Thread nD τ).loc main_v4) ↦{fullShare} V m c main_v4)) := by
  rw [Pipeline.ΦD_eq, scopedRest0_eq, ownSems_list, weights_list]; simp only [stM, wM, owns_whole]; try rfl

theorem hin (c : Dev nD) : Pipeline.ΦD osem spec0 Hs (V m) c ⊢ (dats m 0 c).Φ 0 := by
  rw [handed, show (dats m 0 c).Φ 0 = Inv m c 0 from rfl]
  unfold Inv
  rw [show (0 + 7) / 8 = 0 from rfl]
  iintro ⟨⟨HS, ⟨%d0, HG⟩⟩, Hg, HC, HW⟩
  isplitl [HG]
  · iexists d0; isplitr; · ipureintro; exact fun h => absurd rfl h
    iexact HG
  isplitl [Hg]; · iexact Hg
  iapply (stage_in (F := F) c _)
  isplitl [HS]; · iexact HS
  isplitl [HC]; · iexact HC
  iexact HW
theorem hout (c : Dev nD) : (dats m 0 c).Φ (Fin.last cfg0.N) ⊢ Pipeline.ΦD osem spec0 Hs (V m) c := by
  rw [handed, show (dats m 0 c).Φ (Fin.last cfg0.N) = Inv m c grid0.N from rfl]
  unfold Inv
  rw [show (grid0.N + 7) / 8 = 8 from by rw [N_0]]
  iintro ⟨⟨%d0, -, HG⟩, Hg, HR⟩
  ihave HX := (stage_out (F := F) c _) $$ HR
  icases HX with ⟨HS, HC, HW⟩
  isplitl [HS HG]
  · isplitl [HS]; · iexact HS
    iexists d0; iexact HG
  isplitl [Hg]; · iexact Hg
  isplitl [HC]; · iexact HC
  iexact HW

set_option maxHeartbeats 800000 in
theorem hmain' (𝒱₀ : Variants) : Pipeline.HMainK (Ix := Unit) (Name := ℕ) (U := Pipeline.UD sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the launch do not touch the weights that the kernel transfers itself. -/
theorem tail_sub : ∀ ops ∈ ([hostOps1] : List (List (HloOp τ sig (Elt F)))), ∀ op ∈ ops,
    op.bufs ⊆ Pipeline.tailRefsBut sig Pipeline.Prefetch.none spec0 Hs := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  intro b hb
  obtain rfl : b = main_v4 := Finset.mem_singleton.mp hb
  simp only [hostOps1, List.mem_cons, List.mem_nil_iff, or_false] at hop
  rcases hop with rfl | rfl | rfl | rfl | rfl
  all_goals
    simp only [StableHlo.unary_bufs, StableHlo.binary_bufs, StableHlo.reshape_bufs, Finset.mem_insert, Finset.mem_singleton, not_or]
    repeat' apply And.intro
    all_goals exact StableHlo.devRef_ne_of_ne (by decide)

/-- What a buffer holds after the lines that follow the launch. -/
abbrev fin (c : Dev nD) (b : Ref sig .tc) : Buf (Elt F) ((c.tc : Thread nD τ).loc b) :=
  Pipeline.afterTail₀ cfgs (dats m) 0 (V0 m) [hostOps1] c b

set_option backward.isDefEq.respectTransparency.types false in
/-- Every run ends, each array at the contents the points leave, the rest as the last lines leave it, every counter at zero. -/
theorem run : θ_run defs (onTc (τ := τ) (main (F := F))) (s₀ m ρ) (fun r => Pipeline.FramePost cfgs (dats m) 0 (fin m) r ∧ r.2.sem = fun _ => 0) :=
  Pipeline.θ_run_frame_dma_around (Q' := _) cfgs (dats m) (0 : Fin 1) launch0 osem defs₀ Variants.none ownSemFacts Hs Hs_sub m ρ main
    (hbody := fun c => (obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmain' m Variants.none) (hA := A_eq m) (hin := hin m) (hout := hout m)

/-- A buffer that no line after the launch writes and that is no array of it ends as the launch found it. -/
theorem fin_kept (c : Dev nD) (b : Ref sig .tc) (hw : ∀ w, Pipeline.arrRef spec0 w ≠ b)
    (h : (hostOps1 : List (HloOp τ sig (Elt F))).Forall fun op => Proc.devRef .tc b ∉ op.writes) : fin m c b = V m c b := by
  unfold fin Pipeline.afterTail₀
  rw [StableHlo.after_of_forall_not_mem (b := Proc.devRef .tc b) _ _ (List.forall_iff_forall_mem.mp (by
      simpa only [List.flatten_cons, List.flatten_nil, List.append_nil] using h)),
    Pipeline.withArrays_of_ne _ c (V0 m c) _ b hw]

/-- The last lines write none of the arguments. -/
theorem tail_args (b : Ref sig .tc) (h : b = main_arg0 ∨ b = main_arg1 ∨ b = main_arg2 ∨ b = main_arg3) :
    (hostOps1 : List (HloOp τ sig (Elt F))).Forall fun op => Proc.devRef .tc b ∉ op.writes := by
  simp only [hostOps1, List.Forall, StableHlo.unary_writes, StableHlo.binary_writes, StableHlo.reshape_writes, Finset.mem_singleton]
  rcases h with rfl | rfl | rfl | rfl
  all_goals
    repeat' apply And.intro
    all_goals exact StableHlo.devRef_ne_of_ne (by decide)

theorem fin_arg0 (c : Dev nD) : fin m c main_arg0 = m ((c : Thread nD τ).loc main_arg0) :=
  (fin_kept m c main_arg0 (by decide) (tail_args _ (.inl rfl))).trans (V_main_arg0 m c)
theorem fin_arg1 (c : Dev nD) : fin m c main_arg1 = m ((c : Thread nD τ).loc main_arg1) :=
  (fin_kept m c main_arg1 (by decide) (tail_args _ (.inr (.inl rfl)))).trans (V_main_arg1 m c)
theorem fin_arg2 (c : Dev nD) : fin m c main_arg2 = m ((c : Thread nD τ).loc main_arg2) :=
  (fin_kept m c main_arg2 (by decide) (tail_args _ (.inr (.inr (.inl rfl))))).trans (V_main_arg2 m c)
theorem fin_arg3 (c : Dev nD) : fin m c main_arg3 = m ((c : Thread nD τ).loc main_arg3) :=
  (fin_kept m c main_arg3 (by decide) (tail_args _ (.inr (.inr (.inr rfl))))).trans (V_main_arg3 m c)

/-- Every run ends with the two results as the last lines leave them, the arguments unchanged and every counter at zero. -/
theorem run_all : θ_run defs (onTc (τ := τ) (main (F := F))) ⟨m, fun _ => 0, ρ⟩ (fun r => (∀ c : Dev nD,
      (r.2.mem ((c.tc : Thread nD τ).loc main_v7) = fin m c main_v7
      ∧ r.2.mem ((c.tc : Thread nD τ).loc main_v10) = fin m c main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨⟨(h.1 c).2 main_v7 (Pipeline.mem_restRefs_of main_v7 (by decide) (by decide)),
        (h.1 c).2 main_v10 (Pipeline.mem_restRefs_of main_v10 (by decide) (by decide))⟩,
      ((h.1 c).2 main_arg0 (Pipeline.mem_restRefs_of main_arg0 (by decide) (by decide))).trans (fin_arg0 m c),
      ((h.1 c).2 main_arg1 (Pipeline.mem_restRefs_of main_arg1 (by decide) (by decide))).trans (fin_arg1 m c),
      ((h.1 c).2 main_arg2 (Pipeline.mem_restRefs_of main_arg2 (by decide) (by decide))).trans (fin_arg2 m c),
      ((h.1 c).2 main_arg3 (Pipeline.mem_restRefs_of main_arg3 (by decide) (by decide))).trans (fin_arg3 m c)⟩, h.2⟩) (run m ρ)

/-- Every run ends with the arguments unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_all m ρ)

end Cert.ConvIdeal.Stream

end
-- ==== Proof.PoolRing.lean ====
module

public import proofs.«01_k».proof.Proof.Gen.PoolIdeal.Frame
public import proofs.«01_k».proof.Proof.Gen.PoolIdeal.Skeleton
public import Idealize.ShloMosaic.Lib.Ring
public import Idealize.ShloMosaic.Lib.Tactic
public import Idealize.ShloMosaic.Lib.VecWindow
public import Idealize.ShloMosaic.Lib.Pointwise.Reshape

@[expose] public section

set_option maxRecDepth 16384

noncomputable section

namespace Cert.PoolIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PoolIdeal Cert.PoolIdeal.Gen

variable {F : FTy → Type} [FloatOps F]

local notation "𝕄" => MT nD τ sig Unit (Elt F) ℕ (Pipeline.UD sig nD τ) ℕ

/-! ## The three branch conditions, in closed form -/

/-- The first row block of a column tile. -/
abbrev first (t : Fin grid0.N) : Prop := k0_cond1 (grid0.coords t) = 1#1
/-- The very first point. -/
abbrev start (t : Fin grid0.N) : Prop := k0_cond2 (grid0.coords t) = 1#1
/-- A column tile follows. -/
abbrev more (t : Fin grid0.N) : Prop := k0_cond3 (grid0.coords t) = 1#1

theorem first_iff : ∀ t : Fin grid0.N, first t ↔ t.val % 8 = 0 := by decide +kernel
theorem start_iff : ∀ t : Fin grid0.N, start t ↔ t.val < 8 := by decide +kernel
theorem more_iff : ∀ t : Fin grid0.N, more t ↔ t.val < 24 := by decide +kernel

/-! ## Slots, cells and source blocks by number -/

/-- The column tile of point `t`, and the one after it; the slots they are staged in. -/
abbrev tl (t : Fin grid0.N) : Fin 4 := Ring.bk 4 (t.val / 8)
abbrev tl' (t : Fin grid0.N) : Fin 4 := Ring.bk 4 (t.val / 8 + 1)
abbrev cur (t : Fin grid0.N) : Fin 2 := Ring.sl 2 (t.val / 8)
abbrev nxt (t : Fin grid0.N) : Fin 2 := Ring.sl 2 (t.val / 8 + 1)

abbrev stM : Memref sig .tc .vmem S2x512x4096 .f32 := Memref.whole cc0_scratch0
abbrev wM : Memref sig .tc .vmem S512x4096 .bf16 := Memref.whole cc0_scratch2
abbrev wtM : Memref sig .tc .hbm S8208x4096 .f32 := Memref.whole main_v0

theorem inb_slot (s : Fin 2) : ∀ a, (![s.val, 0, 0] : Fin 3 → Nat) a + S1x512x4096.size a ≤ S2x512x4096.size a := by
  revert s; decide
theorem inb_cell (s : Fin 2) : ∀ a, (![s.val] : Fin 1 → Nat) a + S1.size a ≤ S2.size a := by
  revert s; decide
theorem inb_src (b : Fin 4) : ∀ a, (![0 + 512 * b.val, 0] : Fin 2 → Nat) a + S512x4096.size a ≤ S8208x4096.size a := by
  revert b; decide

/-- A staging slot. -/
def slotM (s : Fin 2) : Memref sig .tc .vmem S512x4096 .f32 :=
  (stM.slice (Rect.unit (s := S2x512x4096) ![s.val, 0, 0] S1x512x4096.size (inb_slot s)) (fun _ => rfl)).squeeze S512x4096 squeezes_S1x512x4096_S512x4096
/-- Its semaphore cell. -/
def cellA (s : Fin 2) : DmaSems sig S_ := (cc0_scratch1.slice (Rect.unit (s := S2) ![s.val] S1.size (inb_cell s))).squeeze S_ squeezes_S1_S_
/-- Column tile `b` of the segment, a row block of the transposed weights. -/
def srcM (b : Fin 4) : Memref sig .tc .hbm S512x4096 .f32 :=
  wtM.slice (Rect.unit (s := S8208x4096) ![0 + 512 * b.val, 0] S512x4096.size (inb_src b)) (fun _ => rfl)

abbrev cellL (s : Fin 2) : SemLoc sig := SemLoc.dma (cellA s).sem
theorem cellL_eq : cellL 0 = SemLoc.dma 7 ∧ cellL 1 = SemLoc.dma 8 := by decide

/-- The kernel's own semaphores. -/
abbrev osem : Fin 2 → SemLoc sig := fun j => (![SemLoc.dma 7, SemLoc.dma 8] : Fin 2 → SemLoc sig) j
theorem ownSemFacts : Pipeline.OwnSemFacts spec0 osem := by decide
def Hs : Finset (Ref sig .tc) := {main_v0}
theorem Hs_sub : Hs ⊆ Pipeline.restRefs sig spec0 := by decide

/-! ## What the streaming holds -/

section Families
variable (c : Dev nD)

abbrev BufOf {sp : Space} {S : Shape} {e : EltTy} (M : Memref sig .tc sp S e) : Type := Buf (Elt F) (M.view.loc (c : Thread nD τ))

variable (W : BufOf (F := F) c wtM)

/-- The read share of the weights that goes with slot `s`. -/
abbrev qs (s : Fin 2) : PosShare TreeShare := if s.val = 0 then fullShare.left else fullShare.right

abbrev slotP (s : Fin 2) (f : BufOf (F := F) c (slotM s)) : sProp 𝕄 := (slotM s).view.loc (c : Thread nD τ) ↦[(slotM s).view.set]{fullShare} f
abbrev cellP (s : Fin 2) : sProp 𝕄 := semVal ((c : Thread nD τ), cellL s) 0
abbrev srcP (s : Fin 2) (b : Fin 4) : sProp 𝕄 := (srcM b).view.loc (c : Thread nD τ) ↦[(srcM b).view.set]{qs s} W
def restP (s : Fin 2) (b : Fin 4) : sProp 𝕄 := ((c : Thread nD τ).loc main_v0) ↦[Finset.univ \ (srcM b).view.set]{qs s} W
abbrev wholeP (s : Fin 2) : sProp 𝕄 := ((c : Thread nD τ).loc main_v0) ↦[Finset.univ]{qs s} W
abbrev landed (s : Fin 2) (b : Fin 4) (f : BufOf (F := F) c (slotM s)) : BufOf (F := F) c (slotM s) :=
  (slotM s).view.writes (Elt F) f [⟨Rect.whole S512x4096, ReadAs.same.apply ((srcM b).view.read (Elt F) W)⟩]
abbrev flightP (s : Fin 2) (b : Fin 4) (f : BufOf (F := F) c (slotM s)) : sProp 𝕄 :=
  Transfers.Flight countersEmb (c : Thread nD τ) (cellL s) default ((slotM s).view.amount (cellL s))
    iprop(slotP c s (landed c W s b f) ∗ srcP c W s b)

/-- Slot `s` idle: its cell at zero, the slot at some contents, its share of the weights whole. -/
def idle (s : Fin 2) : sProp 𝕄 := iprop(cellP c s ∗ ∃ f, (slotP c s f ∗ wholeP c W s))
/-- Tile `b` on its way into slot `s`. -/
def flying (s : Fin 2) (b : Fin 4) : sProp 𝕄 := iprop(∃ f, (flightP c W s b f ∗ restP c W s b))

theorem src_split (s : Fin 2) (b : Fin 4) : wholeP (F := F) c W s ⊣⊢ iprop(srcP c W s b ∗ restP c W s b) := by
  unfold restP; exact pointsTo_split_subset (Finset.subset_univ _)

/-- The staging before its tile `k`: nothing started before the first; then tile `k` on its way, the other slot idle;
    after the last everything idle. -/
def stage (k : ℕ) : sProp 𝕄 :=
  if k = 0 then iprop(idle c W 0 ∗ idle c W 1)
  else if k < 4 then iprop(flying c W (Ring.sl 2 k) (Ring.bk 4 k) ∗ idle c W (Ring.sl 2 (k + 1)))
  else iprop(idle c W (Ring.sl 2 k) ∗ idle c W (Ring.sl 2 (k + 1)))

end Families

/-! ## The staging buffer as its two slots -/

abbrev half (e : Fin 2) : Finset S2x512x4096.Idx := (Rect.unit (s := S2x512x4096) ![e.val, 0, 0] S1x512x4096.size (inb_slot e)).set
theorem slot_set (s : Fin 2) : (slotM s).view.set = half s := by
  simp only [slotM, Memref.view_squeeze, View.set_reshape]; exact View.set_slice_whole _ _
theorem half_disjoint (e e' : Fin 2) (h : e ≠ e') : Disjoint (half e) (half e') := by
  rw [Finset.disjoint_left]
  intro i hi hi'
  have a0 := (Rect.mem_set_unit.mp hi) 0
  have b0 := (Rect.mem_set_unit.mp hi') 0
  have he : e.val ≠ e'.val := fun h' => h (Fin.ext h')
  simp at a0 b0
  omega
theorem half_cover : Finset.univ.biUnion half = Finset.univ := by
  ext i
  simp only [Finset.mem_biUnion, Finset.mem_univ, true_and, iff_true]
  have h0 : (i 0).val < 2 := (i 0).isLt
  have h1 : (i 1).val < 512 := (i 1).isLt
  have h2 : (i 2).val < 4096 := (i 2).isLt
  refine ⟨⟨(i 0).val, h0⟩, Rect.mem_set_unit.mpr fun a => ?_⟩
  fin_cases a <;> simp <;> omega

/-! ## What the launch hands the staging, and takes back -/

section InOut
variable (c : Dev nD) (W : BufOf (F := F) c wtM)

private theorem of_eq {P Q : sProp 𝕄} (e : P = Q) : P ⊢ Q := e ▸ .rfl

theorem slotP_eq (s : Fin 2) (f) :
    slotP (F := F) c s f = (((c : Thread nD τ).loc cc0_scratch0) ↦[half s]{fullShare} f : sProp 𝕄) := by
  unfold slotP; rw [slot_set s]; rfl

theorem fin2 {M : Type} [URA M] (Φ : Fin 2 → sProp M) : bigSep Finset.univ Φ = iprop(Φ 0 ∗ Φ 1) :=
  bigSep_univ_eq_bigSepL [(0 : Fin 2), 1] (by decide) (by decide) Φ

theorem weights_split : (((c : Thread nD τ).loc main_v0) ↦{fullShare} W : sProp 𝕄) ⊣⊢ iprop(wholeP c W 0 ∗ wholeP c W 1) :=
  pointsTo_share (PosShare.mem_left_op_right fullShare)

/-- The buffers whole and the cells at zero are the staging before its first tile. -/
theorem stage_in :
    iprop((∃ d, owns (c : Thread nD τ) stM fullShare d)
      ∗ (semVal ((c : Thread nD τ), SemLoc.dma 7) 0 ∗ semVal ((c : Thread nD τ), SemLoc.dma 8) 0)
      ∗ (((c : Thread nD τ).loc main_v0) ↦{fullShare} W))
      ⊢ (stage c W 0 : sProp 𝕄) := by
  unfold stage idle; rw [if_pos rfl]
  obtain ⟨e0, e1⟩ := cellL_eq
  simp only [cellP, e0, e1, owns_whole]
  iintro ⟨⟨%d, HS⟩, ⟨C0, C1⟩, HW⟩
  ihave HQ := (of_eq ((Ring.pointsTo_blocks (Ix := Unit) (Name := ℕ) (U := Pipeline.UD sig nD τ) (Lvl := ℕ) (ℓ := (c : Thread nD τ).loc cc0_scratch0) (q := fullShare) half half_disjoint half_cover d).trans (fin2 _))) $$ HS
  icases HQ with ⟨Q0, Q1⟩
  ihave HW' := (weights_split c W).1 $$ HW
  icases HW' with ⟨W0, W1⟩
  isplitl [C0 Q0 W0]
  · isplitl [C0]; · iexact C0
    iexists d; isplitl [Q0]; · iapply (of_eq (slotP_eq c 0 d).symm); iexact Q0
    iexact W0
  · isplitl [C1]; · iexact C1
    iexists d; isplitl [Q1]; · iapply (of_eq (slotP_eq c 1 d).symm); iexact Q1
    iexact W1

/-- After the last tile the staging is those buffers and cells again. -/
theorem stage_out :
    (stage c W 4 : sProp 𝕄) ⊢ iprop((∃ d, owns (c : Thread nD τ) stM fullShare d)
      ∗ (semVal ((c : Thread nD τ), SemLoc.dma 7) 0 ∗ semVal ((c : Thread nD τ), SemLoc.dma 8) 0)
      ∗ (((c : Thread nD τ).loc main_v0) ↦{fullShare} W)) := by
  unfold stage idle; rw [if_neg (by decide), if_neg (by decide), show Ring.sl 2 4 = 0 from rfl, show Ring.sl 2 (4 + 1) = 1 from rfl]
  obtain ⟨e0, e1⟩ := cellL_eq
  simp only [cellP, e0, e1, owns_whole]
  iintro ⟨⟨C0, %d0, Q0, W0⟩, ⟨C1, %d1, Q1, W1⟩⟩
  isplitl [Q0 Q1]
  · iapply (Ring.pointsTo_blocks_join_exists (Ix := Unit) (Name := ℕ) (U := Pipeline.UD sig nD τ) (Lvl := ℕ) (ℓ := (c : Thread nD τ).loc cc0_scratch0) (q := fullShare) half half_disjoint half_cover d0)
    irw [fin2]
    isplitl [Q0]; · iexists d0; iapply (of_eq (slotP_eq c 0 d0)); iexact Q0
    iexists d1; iapply (of_eq (slotP_eq c 1 d1)); iexact Q1
  isplitl [C0 C1]
  · isplitl [C0]; · iexact C0
    iexact C1
  · iapply (weights_split c W).2
    isplitl [W0]; · iexact W0
    iexact W1

end InOut

/-! ## The body's own spellings of slots, cells and blocks -/

section Names
set_option synthInstance.maxSize 4096

theorem off1_at : ∀ t : Fin grid0.N, first t → k0_off1 (grid0.coords t) = ![(cur t).val] := by decide +kernel
theorem off2_at : ∀ t : Fin grid0.N, first t → k0_off2 (grid0.coords t) = ![(cur t).val, 0, 0] := by decide +kernel
theorem off4_at : ∀ t : Fin grid0.N, first t → k0_off4 (grid0.coords t) = ![(cur t).val, 0, 0] := by decide +kernel
theorem off5_at : ∀ t : Fin grid0.N, first t → more t → k0_off5 (grid0.coords t) = ![(nxt t).val] := by decide +kernel
theorem off6_at : ∀ t : Fin grid0.N, first t → more t → k0_off6 (grid0.coords t) = ![(nxt t).val, 0, 0] := by decide +kernel
theorem off7_at : ∀ t : Fin grid0.N, first t → more t → k0_off7 (grid0.coords t) = ![0 + 512 * (tl' t).val, 0] := by decide +kernel
theorem zero_at : ∀ t : Fin grid0.N, first t → start t → cur t = 0 ∧ tl t = 0 := by decide +kernel

/-! The operands of the body's transfers and waits, by number. -/

theorem slot_named (o : Fin 3 → Nat) (s : Fin 2) (e : o = ![s.val, 0, 0]) (ib : ∀ a, o a + S1x512x4096.size a ≤ S2x512x4096.size a) :
    (stM.slice (Rect.unit (s := S2x512x4096) o S1x512x4096.size ib) (fun _ => rfl)).squeeze S512x4096 squeezes_S1x512x4096_S512x4096 = slotM s := by
  subst e; rfl
theorem cell_named (o : Fin 1 → Nat) (s : Fin 2) (e : o = ![s.val]) (ib : ∀ a, o a + S1.size a ≤ S2.size a) :
    (cc0_scratch1.slice (Rect.unit (s := S2) o S1.size ib)).squeeze S_ squeezes_S1_S_ = cellA s := by
  subst e; rfl
theorem src_named (o : Fin 2 → Nat) (b : Fin 4) (e : o = ![0 + 512 * b.val, 0]) (ib : ∀ a, o a + S512x4096.size a ≤ S8208x4096.size a) :
    wtM.slice (Rect.unit (s := S8208x4096) o S512x4096.size ib) (fun _ => rfl) = srcM b := by
  subst e; rfl

@[sl_canon] theorem start_slot (t : Fin grid0.N) (h1 : first t) (h2 : start t) :
    (stM.slice (Rect.unit (s := S2x512x4096) ![0, 0, 0] S1x512x4096.size inb_S2x512x4096_S1x512x4096_0_0_0) (fun _ => rfl)).squeeze S512x4096 squeezes_S1x512x4096_S512x4096 = slotM (cur t) :=
  slot_named _ _ (by rw [(zero_at t h1 h2).1]; rfl) _
@[sl_canon] theorem start_cell (t : Fin grid0.N) (h1 : first t) (h2 : start t) :
    (cc0_scratch1.slice (Rect.unit (s := S2) ![0] S1.size inb_S2_S1_0)).squeeze S_ squeezes_S1_S_ = cellA (cur t) :=
  cell_named _ _ (by rw [(zero_at t h1 h2).1]; rfl) _
@[sl_canon] theorem start_src (t : Fin grid0.N) (h1 : first t) (h2 : start t) :
    wtM.slice (Rect.unit (s := S8208x4096) ![0, 0] S512x4096.size inb_S8208x4096_S512x4096_0_0) (fun _ => rfl) = srcM (tl t) :=
  src_named _ _ (by rw [(zero_at t h1 h2).2]; rfl) _
@[sl_canon] theorem wait_slot (t : Fin grid0.N) (h1 : first t) :
    (stM.slice (Rect.unit (s := S2x512x4096) (k0_off2 (grid0.coords t)) S1x512x4096.size (k0_off2_inb (grid0.coords t) h1)) (fun _ => rfl)).squeeze S512x4096 squeezes_S1x512x4096_S512x4096 = slotM (cur t) :=
  slot_named _ _ (off2_at t h1) _
@[sl_canon] theorem wait_cell (t : Fin grid0.N) (h1 : first t) :
    (cc0_scratch1.slice (Rect.unit (s := S2) (k0_off1 (grid0.coords t)) S1.size (k0_off1_inb (grid0.coords t) h1))).squeeze S_ squeezes_S1_S_ = cellA (cur t) :=
  cell_named _ _ (off1_at t h1) _
@[sl_canon] theorem next_slot (t : Fin grid0.N) (h1 : first t) (h3 : more t) :
    (stM.slice (Rect.unit (s := S2x512x4096) (k0_off6 (grid0.coords t)) S1x512x4096.size (k0_off6_inb (grid0.coords t) h1 h3)) (fun _ => rfl)).squeeze S512x4096 squeezes_S1x512x4096_S512x4096 = slotM (nxt t) :=
  slot_named _ _ (off6_at t h1 h3) _
@[sl_canon] theorem next_cell (t : Fin grid0.N) (h1 : first t) (h3 : more t) :
    (cc0_scratch1.slice (Rect.unit (s := S2) (k0_off5 (grid0.coords t)) S1.size (k0_off5_inb (grid0.coords t) h1 h3))).squeeze S_ squeezes_S1_S_ = cellA (nxt t) :=
  cell_named _ _ (off5_at t h1 h3) _
@[sl_canon] theorem next_src (t : Fin grid0.N) (h1 : first t) (h3 : more t) :
    wtM.slice (Rect.unit (s := S8208x4096) (k0_off7 (grid0.coords t)) S512x4096.size (k0_off7_inb (grid0.coords t) h1 h3)) (fun _ => rfl) = srcM (tl' t) :=
  src_named _ _ (off7_at t h1 h3) _
instance (priority := high) closed4 (t : Fin grid0.N) [h1 : Fact (first t)] : ClosedOff (k0_off4 (grid0.coords t)) := ⟨![(cur t).val, 0, 0], off4_at t h1.out⟩

/-- Column tile `b` of the segment, rounded to the matrix unit's width. -/
def tile (c : Dev nD) (W : BufOf (F := F) c wtM) (b : Fin 4) : Vec F S512x4096 .bf16 :=
  truncf .bf16 ((srcM b).view.read (Elt F) W) bitsLt_bf16_f32

end Names

/-- A slot loaded in place reads what the slot reads. -/
theorem slot_read (c : Dev nD) (s : Fin 2) (ib : ∀ a, (![s.val, 0, 0] : Fin 3 → Nat) a + S1x512x4096.size a ≤ S2x512x4096.size a)
    (w : BufOf (F := F) c stM) :
    shapeCast S512x4096 (View.readAt (Elt F) stM.view (Rect.unit (s := S2x512x4096) ![s.val, 0, 0] S1x512x4096.size ib).toLoadRect w) shapeCasts_S1x512x4096_S512x4096
      = (slotM s).view.read (Elt F) w := by
  unfold slotM
  rw [View.readAt_rect]
  rfl
/-- A slot landed at `v`, loaded, rounded: `v` rounded. -/
theorem loaded (c : Dev nD) (s : Fin 2) (o : Fin 3 → Nat) (e : o = ![s.val, 0, 0]) (ib : ∀ a, o a + S1x512x4096.size a ≤ S2x512x4096.size a)
    (g : BufOf (F := F) c (slotM s)) (v : Vec F S512x4096 .f32) :
    k0_pay3 (View.readAt (Elt F) stM.view (Rect.unit (s := S2x512x4096) o S1x512x4096.size ib).toLoadRect ((slotM s).view.writes (Elt F) g [⟨Rect.whole S512x4096, v⟩]))
      = truncf .bf16 v bitsLt_bf16_f32 := by
  subst e
  have key := (slot_read c s ib _).trans (View.read_writes_whole (slotM s).view g v)
  unfold k0_pay3
  dsimp only
  rw [shapeCast_id]
  exact congrArg (fun x : FVec F S512x4096 .f32 => truncf .bf16 x bitsLt_bf16_f32) key

end Cert.PoolIdeal.Stream

end
-- ==== Proof.PoolRunA.lean ====
module

public import proofs.«01_k».proof.Proof.PoolRing

@[expose] public section

set_option maxRecDepth 16384

noncomputable section

namespace Cert.PoolIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PoolIdeal Cert.PoolIdeal.Gen

variable {F : FTy → Type} [FloatOps F]

local notation "𝕄" => MT nD τ sig Unit (Elt F) ℕ (Pipeline.UD sig nD τ) ℕ

set_option maxHeartbeats 400000 in
/-- The very first point: tile 0 is started and awaited, tile 1 is started, and both results of the point are those of
    the tile just landed. -/
theorem run_A (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1024x512 .f32) (harg5 : arg5.IsWhole) (arg6 : Memref sig .tc .vmem S32x512 .f32) (harg6 : arg6.IsWhole)
    (h1 : first t) (h2 : start t) (h3 : more t)
    (x0 : Vec F S1024x4096 .bf16) (x1 : Vec F S32x4096 .bf16) (W : BufOf (F := F) c wtM) :
      ∀ (O : Waits sig Unit) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d)
            ∗ (∃ d, owns (c : Thread nD τ) wM fullShare d)
            ∗ idle c W (cur t) ∗ idle c W (nxt t) ∗ owes (c : Thread nD τ) 0 O
            ∗ (iprop(owns (c : Thread nD τ) arg2 fullShare x0 ∗ owns (c : Thread nD τ) arg3 fullShare x1 ∗ owns (c : Thread nD τ) arg5 fullShare (k0_pay2 x0 (tile c W (tl t)))
              ∗ owns (c : Thread nD τ) arg6 fullShare (k0_pay1 x1 (tile c W (tl t)))
              ∗ owns (c : Thread nD τ) wM fullShare (tile c W (tl t))
              ∗ flying c W (nxt t) (tl' t) ∗ idle c W (cur t) ∗ (∃ O', owes (c : Thread nD τ) 0 O')) -∗ K ⟨⟩))
          ⊢ wp frame (wpE (defs₀ (F := F)) Variants.none c none) Set.univ (cc0_in1_0 (grid0.coords t) arg2 harg2 arg3 harg3 wtM (Memref.isWhole_whole _) arg5 harg5 arg6 harg6 stM (Memref.isWhole_whole _) cc0_scratch1 wM (Memref.isWhole_whole _)) K := by
    intro O K
    haveI : Fact (first t) := ⟨h1⟩
    haveI : Fact (start t) := ⟨h2⟩
    haveI : Fact (more t) := ⟨h3⟩
    simp only [cc0_in1_0_eq_skeleton]; unfold cc0_in1_0_skel
    simp only [k0_part1_eq_skeleton]
    have c0 := start_slot t h1 h2
    have c2 := start_cell t h1 h2
    have c4 := start_src t h1 h2
    unfold owns idle flying
    iintro ⟨⟨%f0, %hf0, H0⟩, ⟨%f1, %hf1, H1⟩, ⟨%d3, %f3, -, H3⟩, ⟨%d4, %f4, -, H4⟩, ⟨%dg, %fg, -, HG⟩, ⟨Ca, %fa, Sa, Wa⟩, ⟨Cc, %fc, Sc, Wc⟩, HO, Hk⟩
    ihave Pa := (src_split c W (cur t) (tl t)).1 $$ Wa
    icases Pa with ⟨Xa, Ra⟩
    ihave Pc := (src_split c W (nxt t) (tl' t)).1 $$ Wc
    icases Pc with ⟨Xc, Rc⟩
    obtain rfl := harg2.eq_unread hf0; obtain rfl := harg3.eq_unread hf1
    sl_exec (disch := first | sl_exact h1 | sl_exact h2 | sl_exact h3)
    sl_step
    have hG : ∀ f, wM.view.read (Elt F) (wM.view.writes (Elt F) f (run_A.sl.HG_1 c t h1 W)) = tile c W (tl t) := by
      intro f
      unfold run_A.sl.HG_1 run_A.sl.dma0
      rw [View.read_writes_full]
      exact loaded c (cur t) _ (off4_at t h1) _ _ _
    have hG' : run_A.sl.v40 c t h1 W = tile c W (tl t) := by
      unfold run_A.sl.v40 View.readCov
      rw [View.readAt_full]
      exact hG _
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; swap; · iexact H3
      ipureintro
      rw [View.read_writes_full, View.readAt_full, harg2.read_unread]
      exact congrArg (k0_pay2 x0) hG'
    isplitl [H4]
    · iexists _; isplitr; swap; · iexact H4
      ipureintro
      rw [View.read_writes_full]; unfold run_A.sl.r; rw [View.readAt_full, harg3.read_unread]
      exact congrArg (k0_pay1 x1) hG'
    isplitl [HG]
    · iexists _; isplitr; swap; · iexact HG
      ipureintro
      exact hG fg
    isplitl [Cc Rc]
    · iexists _; isplitl [Cc]; · iexact Cc
      iexact Rc
    isplitl [Ca Sa Xa Ra]
    · isplitl [Ca]; · iexact Ca
      iexists _; isplitl [Sa]; · iexact Sa
      iapply (src_split c W (cur t) (tl t)).2; isplitl [Xa]; · iexact Xa
      iexact Ra
    iexists _; iexact HO

end Cert.PoolIdeal.Stream

end
-- ==== Proof.PoolRunB.lean ====
module

public import proofs.«01_k».proof.Proof.PoolRing

@[expose] public section

set_option maxRecDepth 16384

noncomputable section

namespace Cert.PoolIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PoolIdeal Cert.PoolIdeal.Gen

variable {F : FTy → Type} [FloatOps F]

local notation "𝕄" => MT nD τ sig Unit (Elt F) ℕ (Pipeline.UD sig nD τ) ℕ

set_option maxHeartbeats 400000 in
/-- A later row block of a tile: the result of the point is that of the tile held. -/
theorem run_B (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1024x512 .f32) (harg5 : arg5.IsWhole) (arg6 : Memref sig .tc .vmem S32x512 .f32) (harg6 : arg6.IsWhole)
    (h1 : ¬ first t)
    (x0 : Vec F S1024x4096 .bf16) (w0 : Vec F S512x4096 .bf16) :
      ∀ (O : Waits sig Unit) (K : PUnit → sProp 𝕄),
        iprop(owns (c : Thread nD τ) arg2 fullShare x0 ∗ (∃ d, owns (c : Thread nD τ) arg5 fullShare d) ∗ owns (c : Thread nD τ) wM fullShare w0 ∗ owes (c : Thread nD τ) 0 O
            ∗ (iprop(owns (c : Thread nD τ) arg2 fullShare x0 ∗ owns (c : Thread nD τ) arg5 fullShare (k0_pay2 x0 w0)
              ∗ owns (c : Thread nD τ) wM fullShare w0 ∗ (∃ O', owes (c : Thread nD τ) 0 O')) -∗ K ⟨⟩))
          ⊢ wp frame (wpE (defs₀ (F := F)) Variants.none c none) Set.univ (cc0_in1_0 (grid0.coords t) arg2 harg2 arg3 harg3 wtM (Memref.isWhole_whole _) arg5 harg5 arg6 harg6 stM (Memref.isWhole_whole _) cc0_scratch1 wM (Memref.isWhole_whole _)) K := by
    intro O K
    haveI : Fact (¬ first t) := ⟨h1⟩
    simp only [cc0_in1_0_eq_skeleton]; unfold cc0_in1_0_skel
    unfold owns
    iintro ⟨⟨%f0, %hf0, H0⟩, ⟨%d3, %f3, -, H3⟩, ⟨%fg, %hg, HG⟩, HO, Hk⟩
    obtain rfl := harg2.eq_unread hf0
    sl_exec (disch := sl_exact h1)
    sl_step
    iapply Hk
    isplitl [H0]
    · iexists _; isplitr; · ipureintro; exact harg2.read_unread _
      iexact H0
    isplitl [H3]
    · iexists _; isplitr; swap; · iexact H3
      ipureintro
      rw [View.read_writes_full, View.readAt_full, harg2.read_unread]
      rw [View.readAt_full, hg]
    isplitl [HG]
    · iexists _; isplitr; swap; · iexact HG
      ipureintro
      exact hg
    iexists _; iexact HO

end Cert.PoolIdeal.Stream

end
-- ==== Proof.PoolRunC.lean ====
module

public import proofs.«01_k».proof.Proof.PoolRing

@[expose] public section

set_option maxRecDepth 16384

noncomputable section

namespace Cert.PoolIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PoolIdeal Cert.PoolIdeal.Gen

variable {F : FTy → Type} [FloatOps F]

local notation "𝕄" => MT nD τ sig Unit (Elt F) ℕ (Pipeline.UD sig nD τ) ℕ

set_option maxHeartbeats 400000 in
/-- The first row block of a middle tile: the tile is awaited, the next one is started, and both results of the point are
    those of the tile just landed. -/
theorem run_C (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1024x512 .f32) (harg5 : arg5.IsWhole) (arg6 : Memref sig .tc .vmem S32x512 .f32) (harg6 : arg6.IsWhole)
    (h1 : first t) (h2 : ¬ start t) (h3 : more t)
    (x0 : Vec F S1024x4096 .bf16) (x1 : Vec F S32x4096 .bf16) (W : BufOf (F := F) c wtM) :
      ∀ (O : Waits sig Unit) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d)
            ∗ (∃ d, owns (c : Thread nD τ) wM fullShare d)
            ∗ flying c W (cur t) (tl t) ∗ idle c W (nxt t) ∗ owes (c : Thread nD τ) 0 O
            ∗ (iprop(owns (c : Thread nD τ) arg2 fullShare x0 ∗ owns (c : Thread nD τ) arg3 fullShare x1 ∗ owns (c : Thread nD τ) arg5 fullShare (k0_pay2 x0 (tile c W (tl t)))
              ∗ owns (c : Thread nD τ) arg6 fullShare (k0_pay1 x1 (tile c W (tl t)))
              ∗ owns (c : Thread nD τ) wM fullShare (tile c W (tl t))
              ∗ flying c W (nxt t) (tl' t) ∗ idle c W (cur t) ∗ (∃ O', owes (c : Thread nD τ) 0 O')) -∗ K ⟨⟩))
          ⊢ wp frame (wpE (defs₀ (F := F)) Variants.none c none) Set.univ (cc0_in1_0 (grid0.coords t) arg2 harg2 arg3 harg3 wtM (Memref.isWhole_whole _) arg5 harg5 arg6 harg6 stM (Memref.isWhole_whole _) cc0_scratch1 wM (Memref.isWhole_whole _)) K := by
    intro O K
    haveI : Fact (first t) := ⟨h1⟩
    haveI : Fact (¬ start t) := ⟨h2⟩
    haveI : Fact (more t) := ⟨h3⟩
    simp only [cc0_in1_0_eq_skeleton]; unfold cc0_in1_0_skel
    simp only [k0_part1_eq_skeleton]
    unfold owns idle flying
    iintro ⟨⟨%f0, %hf0, H0⟩, ⟨%f1, %hf1, H1⟩, ⟨%d3, %f3, -, H3⟩, ⟨%d4, %f4, -, H4⟩, ⟨%dg, %fg, -, HG⟩, ⟨%fa, Ca, Ra⟩, ⟨Cc, %fc, Sc, Wc⟩, HO, Hk⟩
    ihave Pc := (src_split c W (nxt t) (tl' t)).1 $$ Wc
    icases Pc with ⟨Xc, Rc⟩
    obtain rfl := harg2.eq_unread hf0; obtain rfl := harg3.eq_unread hf1
    sl_exec (disch := first | sl_exact h1 | sl_exact h2 | sl_exact h3)
    sl_step
    have hG : ∀ f, wM.view.read (Elt F) (wM.view.writes (Elt F) f (run_C.sl.HG_1 c t h1 W)) = tile c W (tl t) := by
      intro f
      unfold run_C.sl.HG_1 run_C.sl.v29
      rw [View.read_writes_full]
      exact loaded c (cur t) _ (off4_at t h1) _ _ _
    have hG' : run_C.sl.v40 c t h1 W = tile c W (tl t) := by
      unfold run_C.sl.v40 View.readCov
      rw [View.readAt_full]
      exact hG _
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; swap; · iexact H3
      ipureintro
      rw [View.read_writes_full, View.readAt_full, harg2.read_unread]
      exact congrArg (k0_pay2 x0) hG'
    isplitl [H4]
    · iexists _; isplitr; swap; · iexact H4
      ipureintro
      rw [View.read_writes_full]; unfold run_C.sl.r; rw [View.readAt_full, harg3.read_unread]
      exact congrArg (k0_pay1 x1) hG'
    isplitl [HG]
    · iexists _; isplitr; swap; · iexact HG
      ipureintro
      exact hG fg
    isplitl [Cc Rc]
    · iexists _; isplitl [Cc]; · iexact Cc
      iexact Rc
    isplitl [Ca Ca_dst Ca_src Ra]
    · isplitl [Ca]; · iexact Ca
      iexists _; isplitl [Ca_dst]; · iexact Ca_dst
      iapply (src_split c W (cur t) (tl t)).2; isplitl [Ca_src]; · iexact Ca_src
      iexact Ra
    iexists _; iexact HO

end Cert.PoolIdeal.Stream

end
-- ==== Proof.PoolRunD.lean ====
module

public import proofs.«01_k».proof.Proof.PoolRing

@[expose] public section

set_option maxRecDepth 16384

noncomputable section

namespace Cert.PoolIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PoolIdeal Cert.PoolIdeal.Gen

variable {F : FTy → Type} [FloatOps F]

local notation "𝕄" => MT nD τ sig Unit (Elt F) ℕ (Pipeline.UD sig nD τ) ℕ

set_option maxHeartbeats 400000 in
/-- The first row block of the last tile: the tile is awaited, nothing is started, and both results of the point are those
    of the tile just landed. -/
theorem run_D (c : Dev nD) (t : Fin grid0.N) (arg2 : Memref sig .tc .vmem S1024x4096 .bf16) (harg2 : arg2.IsWhole) (arg3 : Memref sig .tc .vmem S32x4096 .bf16) (harg3 : arg3.IsWhole) (arg5 : Memref sig .tc .vmem S1024x512 .f32) (harg5 : arg5.IsWhole) (arg6 : Memref sig .tc .vmem S32x512 .f32) (harg6 : arg6.IsWhole)
    (h1 : first t) (h2 : ¬ start t) (h3 : ¬ more t)
    (x0 : Vec F S1024x4096 .bf16) (x1 : Vec F S32x4096 .bf16) (W : BufOf (F := F) c wtM) :
      ∀ (O : Waits sig Unit) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d)
            ∗ (∃ d, owns (c : Thread nD τ) wM fullShare d)
            ∗ flying c W (cur t) (tl t) ∗ owes (c : Thread nD τ) 0 O
            ∗ (iprop(owns (c : Thread nD τ) arg2 fullShare x0 ∗ owns (c : Thread nD τ) arg3 fullShare x1 ∗ owns (c : Thread nD τ) arg5 fullShare (k0_pay2 x0 (tile c W (tl t)))
              ∗ owns (c : Thread nD τ) arg6 fullShare (k0_pay1 x1 (tile c W (tl t)))
              ∗ owns (c : Thread nD τ) wM fullShare (tile c W (tl t))
              ∗ idle c W (cur t) ∗ (∃ O', owes (c : Thread nD τ) 0 O')) -∗ K ⟨⟩))
          ⊢ wp frame (wpE (defs₀ (F := F)) Variants.none c none) Set.univ (cc0_in1_0 (grid0.coords t) arg2 harg2 arg3 harg3 wtM (Memref.isWhole_whole _) arg5 harg5 arg6 harg6 stM (Memref.isWhole_whole _) cc0_scratch1 wM (Memref.isWhole_whole _)) K := by
    intro O K
    haveI : Fact (first t) := ⟨h1⟩
    haveI : Fact (¬ start t) := ⟨h2⟩
    haveI : Fact (¬ more t) := ⟨h3⟩
    simp only [cc0_in1_0_eq_skeleton]; unfold cc0_in1_0_skel
    simp only [k0_part1_eq_skeleton]
    unfold owns idle flying
    iintro ⟨⟨%f0, %hf0, H0⟩, ⟨%f1, %hf1, H1⟩, ⟨%d3, %f3, -, H3⟩, ⟨%d4, %f4, -, H4⟩, ⟨%dg, %fg, -, HG⟩, ⟨%fa, Ca, Ra⟩, HO, Hk⟩
    obtain rfl := harg2.eq_unread hf0; obtain rfl := harg3.eq_unread hf1
    sl_exec (disch := first | sl_exact h1 | sl_exact h2 | sl_exact h3)
    sl_step
    have hG : ∀ f, wM.view.read (Elt F) (wM.view.writes (Elt F) f (run_D.sl.HG_1 c t h1 W)) = tile c W (tl t) := by
      intro f
      unfold run_D.sl.HG_1 run_D.sl.v29
      rw [View.read_writes_full]
      exact loaded c (cur t) _ (off4_at t h1) _ _ _
    have hG' : run_D.sl.v40 c t h1 W = tile c W (tl t) := by
      unfold run_D.sl.v40 View.readCov
      rw [View.readAt_full]
      exact hG _
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; swap; · iexact H3
      ipureintro
      rw [View.read_writes_full, View.readAt_full, harg2.read_unread]
      exact congrArg (k0_pay2 x0) hG'
    isplitl [H4]
    · iexists _; isplitr; swap; · iexact H4
      ipureintro
      rw [View.read_writes_full]; unfold run_D.sl.r; rw [View.readAt_full, harg3.read_unread]
      exact congrArg (k0_pay1 x1) hG'
    isplitl [HG]
    · iexists _; isplitr; swap; · iexact HG
      ipureintro
      exact hG fg
    isplitl [Ca Ca_dst Ca_src Ra]
    · isplitl [Ca]; · iexact Ca
      iexists _; isplitl [Ca_dst]; · iexact Ca_dst
      iapply (src_split c W (cur t) (tl t)).2; isplitl [Ca_src]; · iexact Ca_src
      iexact Ra
    iexists _; iexact HO

end Cert.PoolIdeal.Stream

end
-- ==== Proof.PoolRun.lean ====
module

public import proofs.«01_k».proof.Proof.PoolRunA
public import proofs.«01_k».proof.Proof.PoolRunB
public import proofs.«01_k».proof.Proof.PoolRunC
public import proofs.«01_k».proof.Proof.PoolRunD
public import Idealize.ShloMosaic.Lib.Pipeline.FrameBody
public import Idealize.ShloMosaic.Lib.Pipeline.TableIdle

@[expose] public section

set_option maxRecDepth 16384

noncomputable section

namespace Cert.PoolIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PoolIdeal Cert.PoolIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The staging before and after a step, slots by number -/

section Steps
variable (c : Dev nD) (W : BufOf (F := F) c wtM)

theorem back (k : ℕ) : Ring.sl 2 (k + 1 + 1) = Ring.sl 2 k := Fin.ext (by simp [Ring.sl]; omega)
theorem stage_here (k : ℕ) (h1 : k ≠ 0) (h2 : k < 4) : stage c W k = iprop(flying c W (Ring.sl 2 k) (Ring.bk 4 k)
    ∗ idle c W (Ring.sl 2 (k + 1))) := by
  unfold stage; rw [if_neg h1, if_pos h2]
theorem stage_next (k : ℕ) (h2 : k + 1 < 4) : stage c W (k + 1) = iprop(flying c W (Ring.sl 2 (k + 1)) (Ring.bk 4 (k + 1))
    ∗ idle c W (Ring.sl 2 k)) := by
  unfold stage; rw [if_neg (Nat.succ_ne_zero k), if_pos h2, back]
theorem stage_last (k : ℕ) (h2 : k + 1 = 4) : stage c W (k + 1) = iprop(idle c W (Ring.sl 2 (k + 1))
    ∗ idle c W (Ring.sl 2 k)) := by
  unfold stage; rw [if_neg (Nat.succ_ne_zero k), if_neg (by omega), back]

end Steps

/-! ## The pipeline's data -/

/-- The tile held at point `t`, rounded. -/
def held (c : Dev nD) (t : Fin cfg0.N) : Vec F S512x4096 .bf16 := tile c (V m c main_v0) (tl t)

/-- Before point `k`: the rounded tile is the current one (inside a tile), and the staging. -/
def Inv (c : Dev nD) (k : ℕ) : sProp 𝕄 :=
  iprop((∃ d0, ⌜k % 8 ≠ 0 → d0 = tile c (V m c main_v0) (Ring.bk 4 (k / 8))⌝
      ∗ owns (c : Thread nD τ) wM fullShare d0)
    ∗ (∃ r, prngReg c r) ∗ stage c (V m c main_v0) ((k + 7) / 8))

/-- What every point leaves in each window. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (held m c t)
    | ⟨3, _⟩ => k0_pay1 (iblk m c 1 t) (held m c t)
  Φ t := Inv m c t.val
  q _ := fullShare
  owed _ := 0

theorem A_eq (c : Dev nD) (w : Fin cfg0.W) : (dats m 0 c).A w = V m c (Pipeline.arrRef spec0 w) := by
  dsimp only [dats]
theorem inv_before (c : Dev nD) (t : Fin cfg0.N) : (dats m 0 c).Φ t.castSucc = Inv m c t.val := by
  dsimp only [dats]; simp only [Fin.coe_castSucc]
theorem inv_after (c : Dev nD) (t : Fin cfg0.N) : (dats m 0 c).Φ t.succ = Inv m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay2 (iblk m c 0 t) (held m c t) := by dsimp only [dats]
theorem after_3 (c : Dev nD) (t : Fin cfg0.N) : (dats m 0 c).after 3 t = k0_pay1 (iblk m c 1 t) (held m c t) := by dsimp only [dats]

/-- Every input window holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem idle_3 (t : Fin cfg0.N) : cfg0.idle 3 (grid0.coords t) = !(k0_cond1 (grid0.coords t) == 1#1) := rfl
theorem idle_3_first (t : Fin cfg0.N) (h : first t) : cfg0.idle 3 (cfg0.grid.coords t) = false := by
  show (!(k0_cond1 (grid0.coords t) == 1#1)) = false
  rw [show k0_cond1 (grid0.coords t) = 1#1 from h]; rfl
theorem idle_3_later (t : Fin cfg0.N) (h : ¬ first t) : cfg0.idle 3 (cfg0.grid.coords t) = true := by
  show (!(k0_cond1 (grid0.coords t) == 1#1)) = true
  rw [beq_eq_false_iff_ne.mpr h]; rfl

/-- The small output is the same all through a tile. -/
theorem after_3_tile (c : Dev nD) (t t' : Fin cfg0.N) (h : t'.val / 8 = t.val / 8) : (dats m 0 c).after 3 t' = (dats m 0 c).after 3 t := by
  rw [after_3, after_3]
  unfold held
  show k0_pay1 (iblk m c 1 _) (tile c _ (Ring.bk 4 (t'.val / 8))) = _
  rw [h]
  rfl
/-- Inside a tile its buffer still holds what the tile's first point left. -/
theorem before_3 (c : Dev nD) (d) : ∀ (n : ℕ) (t : Fin cfg0.N), t.val = n → n % 8 ≠ 0 → (dats m 0 c).before 3 t d = (dats m 0 c).after 3 t := by
  intro n
  induction n with
  | zero => intro t _ h; exact absurd rfl h
  | succ n ih =>
    intro t e h
    have ht : t.val ≠ 0 := by omega
    rw [(dats m 0 c).before_of_pos 3 t ht rfl d, if_neg (fun e' => by have := (flush0_3 _).mp e'; simp only at this; omega)]
    rw [← after_3_tile m c t ⟨t.val - 1, Nat.lt_of_le_of_lt (Nat.sub_le _ _) t.isLt⟩ (by simp only; omega)]
    unfold Dat.left
    by_cases hf : first ⟨t.val - 1, Nat.lt_of_le_of_lt (Nat.sub_le _ _) t.isLt⟩
    · rw [idle_3_first _ hf]; rfl
    · rw [idle_3_later _ hf]
      exact ih _ (by simp only; omega) (fun e' => hf ((first_iff _).mpr (by simp only; omega)))

/-! ## The body, at every point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (dats m 0 c).leavesExact 3 t)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, after_0, after_1, after_2]
  rw [inv_before m c t, inv_after m c t]
  unfold Dat.owesAt Pipeline.owesWithin
  rw [show (dats m 0 c).owed t.castSucc = 0 from rfl, show (dats m 0 c).owed t.succ = 0 from rfl]
  unfold Inv
  have hN : t.val < 32 := lt_of_lt_of_eq t.isLt (show cfg0.N = 32 from N_0)
  have i1 := first_iff t
  have i2 := start_iff t
  have i3 := more_iff t
  by_cases h1 : first t
  · have e1 := i1.mp h1
    have s1 : (t.val + 7) / 8 = t.val / 8 := by omega
    have s2 : (t.val + 1 + 7) / 8 = t.val / 8 + 1 := by omega
    have s3 : (t.val + 1) / 8 = t.val / 8 := by omega
    rw [s1, s2, s3]
    rw [show (dats m 0 c).leavesExact 3 t = owns (c : Thread nD τ) (win0_3.stage (cfg0.slots t 3)) fullShare ((dats m 0 c).after 3 t) from by
      unfold Dat.leavesExact; rw [idle_3_first t h1], after_3]
    by_cases h2 : start t
    · have h3 : more t := i3.mpr (by have := i2.mp h2; omega)
      have e2 : t.val / 8 = 0 := by have := i2.mp h2; omega
      rw [show stage c (V m c main_v0) (t.val / 8) = iprop(idle c (V m c main_v0) (cur t) ∗ idle c (V m c main_v0) (nxt t)) by unfold cur nxt; rw [e2]; try rfl]
      rw [stage_next c _ (t.val / 8) (by omega)]
      iintro ⟨⟨⟨%dg, -, HG⟩, Hg, Ra, Rb⟩, ⟨%O, -, HO⟩, ⟨%d0, H0⟩, ⟨%d1, H1⟩, ⟨%d2, H2⟩, ⟨%d3, H3⟩⟩
      iapply ((run_A c t _ _ _ _ _ _ _ _ h1 h2 h3 (iblk m c 0 t) (iblk m c 1 t) (V m c main_v0)) O _)
      isplitl [H0]; · iexact H0
      isplitl [H1]; · iexact H1
      isplitl [H2]; · iexists _; iexact H2
      isplitl [H3]; · iexists _; iexact H3
      isplitl [HG]; · iexists _; iexact HG
      isplitl [Ra]; · iexact Ra
      isplitl [Rb]; · iexact Rb
      isplitl [HO]; · iexact HO
      iintro ⟨H0, H1, H2, H3, HG, Ra, Rb, ⟨%O', HO⟩⟩
      isplitl [HG Hg Ra Rb]
      · isplitl [HG]
        · iexists _; isplitr; · ipureintro; exact fun _ => rfl
          iexact HG
        isplitl [Hg]; · iexact Hg
        isplitl [Ra]; · iexact Ra
        iexact Rb
      isplitl [HO]
      · iexists O'; isplitr; · ipureintro; exact fun _ _ => Or.inl trivial
        iexact HO
      isplitl [H0]; · iexact H0
      isplitl [H1]; · iexact H1
      isplitl [H2]; · iexact H2
      iexact H3
    · by_cases h3 : more t
      · have e3 := i3.mp h3
        have e2 : t.val / 8 ≠ 0 := by intro e; exact h2 (i2.mpr (by omega))
        rw [stage_here c _ (t.val / 8) e2 (by omega), stage_next c _ (t.val / 8) (by omega)]
        iintro ⟨⟨⟨%dg, -, HG⟩, Hg, Ra, Rb⟩, ⟨%O, -, HO⟩, ⟨%d0, H0⟩, ⟨%d1, H1⟩, ⟨%d2, H2⟩, ⟨%d3, H3⟩⟩
        iapply ((run_C c t _ _ _ _ _ _ _ _ h1 h2 h3 (iblk m c 0 t) (iblk m c 1 t) (V m c main_v0)) O _)
        isplitl [H0]; · iexact H0
        isplitl [H1]; · iexact H1
        isplitl [H2]; · iexists _; iexact H2
        isplitl [H3]; · iexists _; iexact H3
        isplitl [HG]; · iexists _; iexact HG
        isplitl [Ra]; · iexact Ra
        isplitl [Rb]; · iexact Rb
        isplitl [HO]; · iexact HO
        iintro ⟨H0, H1, H2, H3, HG, Ra, Rb, ⟨%O', HO⟩⟩
        isplitl [HG Hg Ra Rb]
        · isplitl [HG]
          · iexists _; isplitr; · ipureintro; exact fun _ => rfl
            iexact HG
          isplitl [Hg]; · iexact Hg
          isplitl [Ra]; · iexact Ra
          iexact Rb
        isplitl [HO]
        · iexists O'; isplitr; · ipureintro; exact fun _ _ => Or.inl trivial
          iexact HO
        isplitl [H0]; · iexact H0
        isplitl [H1]; · iexact H1
        isplitl [H2]; · iexact H2
        iexact H3
      · have e2 : t.val / 8 ≠ 0 := by intro e; exact h2 (i2.mpr (by omega))
        have e3 : t.val / 8 + 1 = 4 := by have h4 : ¬ t.val < 24 := fun h => h3 (i3.mpr h); omega
        rw [stage_here c _ (t.val / 8) e2 (Nat.lt_of_succ_le e3.le), stage_last c _ (t.val / 8) e3]
        iintro ⟨⟨⟨%dg, -, HG⟩, Hg, Ra, Rb⟩, ⟨%O, -, HO⟩, ⟨%d0, H0⟩, ⟨%d1, H1⟩, ⟨%d2, H2⟩, ⟨%d3, H3⟩⟩
        iapply ((run_D c t _ _ _ _ _ _ _ _ h1 h2 h3 (iblk m c 0 t) (iblk m c 1 t) (V m c main_v0)) O _)
        isplitl [H0]; · iexact H0
        isplitl [H1]; · iexact H1
        isplitl [H2]; · iexists _; iexact H2
        isplitl [H3]; · iexists _; iexact H3
        isplitl [HG]; · iexists _; iexact HG
        isplitl [Ra]; · iexact Ra
        isplitl [HO]; · iexact HO
        iintro ⟨H0, H1, H2, H3, HG, Ra, ⟨%O', HO⟩⟩
        isplitl [HG Hg Ra Rb]
        · isplitl [HG]
          · iexists _; isplitr; · ipureintro; exact fun _ => rfl
            iexact HG
          isplitl [Hg]; · iexact Hg
          isplitl [Rb]; · iexact Rb
          iexact Ra
        isplitl [HO]
        · iexists O'; isplitr; · ipureintro; exact fun _ _ => Or.inl trivial
          iexact HO
        isplitl [H0]; · iexact H0
        isplitl [H1]; · iexact H1
        isplitl [H2]; · iexact H2
        iexact H3
  · have e1 : t.val % 8 ≠ 0 := fun h => h1 (i1.mpr h)
    have s1 : (t.val + 1 + 7) / 8 = (t.val + 7) / 8 := by omega
    rw [s1]
    rw [show (dats m 0 c).leavesExact 3 t = _ from by unfold Dat.leavesExact; rw [idle_3_later t h1]]
    iintro ⟨⟨⟨%dg, %hd, HG⟩, Hg, HR⟩, ⟨%O, -, HO⟩, ⟨%d0, H0⟩, ⟨%d1, H1⟩, ⟨%d2, H2⟩, ⟨%d3, H3⟩⟩
    obtain rfl := hd e1
    rw [before_3 m c d3 t.val t rfl e1]
    iapply ((run_B c t _ _ (win0_1.stage (cfg0.slots t 1)) (hstage0_1 ((cfg0.slots t 1).cast nbuf0_1)) _ _ (win0_3.stage (cfg0.slots t 3)) (hstage0_3 ((cfg0.slots t 3).cast nbuf0_3)) h1 (iblk m c 0 t) (held m c t)) O _)
    isplitl [H0]; · iexact H0
    isplitl [H2]; · iexists _; iexact H2
    isplitl [HG]; · iexact HG
    isplitl [HO]; · iexact HO
    iintro ⟨H0, H2, HG, ⟨%O', HO⟩⟩
    isplitl [HG Hg HR]
    · isplitl [HG]
      · iexists _; isplitr
        · ipureintro; intro h8; rw [show (t.val + 1) / 8 = t.val / 8 by omega]; try rfl
        iexact HG
      isplitl [Hg]; · iexact Hg
      iexact HR
    isplitl [HO]
    · iexists O'; isplitr; · ipureintro; exact fun _ _ => Or.inl trivial
      iexact HO
    isplitl [H0]; · iexact H0
    isplitl [H1]; · iexact H1
    isplitl [H2]; · iexact H2
    cases hfl : (cfg0.win 3).flush t
    · iexists d3; rw [before_3 m c d3 t.val t rfl e1]; iexact H3
    · iexact H3

/-- The body table's row at a point is the body there. -/
theorem row (t : Fin cfg0.N) : defs₀ (F := F) .tc cfg0.body (cfg0.bodyArgs t (cfg0.slots t)) = bodyAt0 t := by
  unfold defs₀; rw [Defs.onTc_tc]
theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

theorem ownSems_list (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 7) 0 ∗ semVal ((c : Thread nD τ), SemLoc.dma 8) 0) := by
  rw [Pipeline.ownSems0_eq_of_list c osem [0, 1] (by decide) (by decide)]; try rfl
theorem weights_list (c : Dev nD) :
    (bigSep Hs (fun b => ((c : Thread nD τ).loc b) ↦{fullShare} V m c b) : sProp 𝕄) = iprop(((c : Thread nD τ).loc main_v0) ↦{fullShare} V m c main_v0) := by
  rw [BI.bigSep_eq_bigSepL_of_eq [main_v0] (by decide) (by decide)]; try rfl
theorem handed (c : Dev nD) :
    (Pipeline.ΦD osem spec0 Hs (V m) c : sProp 𝕄)
      = iprop(iprop((∃ d, owns (c : Thread nD τ) stM fullShare d) ∗ (∃ d, owns (c : Thread nD τ) wM fullShare d)) ∗ (∃ r, prngReg c r)
        ∗ iprop(semVal ((c : Thread nD τ), SemLoc.dma 7) 0 ∗ semVal ((c : Thread nD τ), SemLoc.dma 8) 0)
        ∗ iprop(((c : Thread nD τ).loc main_v0) ↦{fullShare} V m c main_v0)) := by
  rw [Pipeline.ΦD_eq, scopedRest0_eq, ownSems_list, weights_list]; simp only [stM, wM, owns_whole]; try rfl

theorem hin (c : Dev nD) : Pipeline.ΦD osem spec0 Hs (V m) c ⊢ (dats m 0 c).Φ 0 := by
  rw [handed, show (dats m 0 c).Φ 0 = Inv m c 0 from rfl]
  unfold Inv
  rw [show (0 + 7) / 8 = 0 from rfl]
  iintro ⟨⟨HS, ⟨%d0, HG⟩⟩, Hg, HC, HW⟩
  isplitl [HG]
  · iexists d0; isplitr; · ipureintro; exact fun h => absurd rfl h
    iexact HG
  isplitl [Hg]; · iexact Hg
  iapply (stage_in (F := F) c _)
  isplitl [HS]; · iexact HS
  isplitl [HC]; · iexact HC
  iexact HW
theorem hout (c : Dev nD) : (dats m 0 c).Φ (Fin.last cfg0.N) ⊢ Pipeline.ΦD osem spec0 Hs (V m) c := by
  rw [handed, show (dats m 0 c).Φ (Fin.last cfg0.N) = Inv m c grid0.N from rfl]
  unfold Inv
  rw [show (grid0.N + 7) / 8 = 4 from by rw [N_0]]
  iintro ⟨⟨%d0, -, HG⟩, Hg, HR⟩
  ihave HX := (stage_out (F := F) c _) $$ HR
  icases HX with ⟨HS, HC, HW⟩
  isplitl [HS HG]
  · isplitl [HS]; · iexact HS
    iexists d0; iexact HG
  isplitl [Hg]; · iexact Hg
  isplitl [HC]; · iexact HC
  iexact HW

set_option maxHeartbeats 800000 in
theorem hmain' (𝒱₀ : Variants) : Pipeline.HMainK (Ix := Unit) (Name := ℕ) (U := Pipeline.UD sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the launch do not touch the weights that the kernel transfers itself. -/
theorem tail_sub : ∀ ops ∈ ([hostOps1] : List (List (HloOp τ sig (Elt F)))), ∀ op ∈ ops,
    op.bufs ⊆ Pipeline.tailRefsBut sig Pipeline.Prefetch.none spec0 Hs := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  intro b hb
  obtain rfl : b = main_v0 := Finset.mem_singleton.mp hb
  simp only [hostOps1, List.mem_cons, List.mem_nil_iff, or_false] at hop
  rcases hop with rfl | rfl | rfl | rfl | rfl
  all_goals
    simp only [StableHlo.unary_bufs, StableHlo.binary_bufs, StableHlo.reshape_bufs, Finset.mem_insert, Finset.mem_singleton, not_or]
    repeat' apply And.intro
    all_goals exact StableHlo.devRef_ne_of_ne (by decide)

/-- What a buffer holds after the lines that follow the launch. -/
abbrev fin (c : Dev nD) (b : Ref sig .tc) : Buf (Elt F) ((c.tc : Thread nD τ).loc b) :=
  Pipeline.afterTail₀ cfgs (dats m) 0 (V0 m) [hostOps1] c b

set_option backward.isDefEq.respectTransparency.types false in
/-- Every run ends, each array at the contents the points leave, the rest as the last lines leave it, every counter at zero. -/
theorem run : θ_run defs (onTc (τ := τ) (main (F := F))) (s₀ m ρ) (fun r => Pipeline.FramePost cfgs (dats m) 0 (fin m) r ∧ r.2.sem = fun _ => 0) :=
  Pipeline.θ_run_frame_dma_around (Q' := _) cfgs (dats m) (0 : Fin 1) launch0 osem defs₀ Variants.none ownSemFacts Hs Hs_sub m ρ main
    (hbody := fun c => (obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmain' m Variants.none) (hA := A_eq m) (hin := hin m) (hout := hout m)

/-- A buffer that no line after the launch writes and that is no array of it ends as the launch found it. -/
theorem fin_kept (c : Dev nD) (b : Ref sig .tc) (hw : ∀ w, Pipeline.arrRef spec0 w ≠ b)
    (h : (hostOps1 : List (HloOp τ sig (Elt F))).Forall fun op => Proc.devRef .tc b ∉ op.writes) : fin m c b = V m c b := by
  unfold fin Pipeline.afterTail₀
  rw [StableHlo.after_of_forall_not_mem (b := Proc.devRef .tc b) _ _ (List.forall_iff_forall_mem.mp (by
      simpa only [List.flatten_cons, List.flatten_nil, List.append_nil] using h)),
    Pipeline.withArrays_of_ne _ c (V0 m c) _ b hw]

/-- The last lines write none of the arguments. -/
theorem tail_args (b : Ref sig .tc) (h : b = main_arg0 ∨ b = main_arg1 ∨ b = main_arg2 ∨ b = main_arg3) :
    (hostOps1 : List (HloOp τ sig (Elt F))).Forall fun op => Proc.devRef .tc b ∉ op.writes := by
  simp only [hostOps1, List.Forall, StableHlo.unary_writes, StableHlo.binary_writes, StableHlo.reshape_writes, Finset.mem_singleton]
  rcases h with rfl | rfl | rfl | rfl
  all_goals
    repeat' apply And.intro
    all_goals exact StableHlo.devRef_ne_of_ne (by decide)

theorem fin_arg2 (c : Dev nD) : fin m c main_arg2 = m ((c : Thread nD τ).loc main_arg2) :=
  (fin_kept m c main_arg2 (by decide) (tail_args _ (.inr (.inr (.inl rfl))))).trans (V_main_arg2 m c)
theorem fin_arg3 (c : Dev nD) : fin m c main_arg3 = m ((c : Thread nD τ).loc main_arg3) :=
  (fin_kept m c main_arg3 (by decide) (tail_args _ (.inr (.inr (.inr rfl))))).trans (V_main_arg3 m c)

/-- Every run ends with the two results as the last lines leave them, the arguments unchanged and every counter at zero. -/
theorem run_all : θ_run defs (onTc (τ := τ) (main (F := F))) ⟨m, fun _ => 0, ρ⟩ (fun r => (∀ c : Dev nD,
      (r.2.mem ((c.tc : Thread nD τ).loc main_v3) = fin m c main_v3
      ∧ r.2.mem ((c.tc : Thread nD τ).loc main_v6) = fin m c main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨⟨(h.1 c).2 main_v3 (Pipeline.mem_restRefs_of main_v3 (by decide) (by decide)),
        (h.1 c).2 main_v6 (Pipeline.mem_restRefs_of main_v6 (by decide) (by decide))⟩,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (fin_arg2 m c),
      ((h.1 c).2 main_arg3 (Pipeline.mem_restRefs_of main_arg3 (by decide) (by decide))).trans (fin_arg3 m c)⟩, h.2⟩) (run m ρ)

/-- Every run ends with the arguments unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_all m ρ)

end Cert.PoolIdeal.Stream

end
-- ==== Proof.Twin.lean ====
module

public import proofs.«01_k».proof.Defs
public import proofs.«01_k».proof.Proof.GateRun
public import proofs.«01_k».proof.Proof.KeysRun
public import proofs.«01_k».proof.Proof.ValsRun
public import proofs.«01_k».proof.Proof.ConvRun
public import proofs.«01_k».proof.Proof.PoolRun
public import proofs.«01_k».proof.Proof.Gen.Gate
public import proofs.«01_k».proof.Proof.Gen.Keys
public import proofs.«01_k».proof.Proof.Gen.Vals
public import proofs.«01_k».proof.Proof.Gen.Conv
public import proofs.«01_k».proof.Proof.Gen.Pool

@[expose] public section

set_option maxRecDepth 16384

noncomputable section

/-! A program and its idealization have the same text here, so their definitions are equal at every float values, and a run
    of the one is a run of the other. -/

namespace Cert.Twin

open Idealize.ShloMosaic Idealize.ShloMosaic.TcCoe Idealize.SL.Sem

/-- The gated projection's body is its idealization's, on bits. -/
theorem body_Gate : Cert.Gate.defs₀ (F := Bits) = Cert.GateIdeal.defs₀ (F := Bits) := by
  unfold Cert.Gate.defs₀ Cert.GateIdeal.defs₀
  refine congrArg Defs.onTc (funext fun l => funext fun x => ?_)
  obtain ⟨l, hl⟩ := l
  cases l with
  | zero => obtain ⟨t, s⟩ := x; rfl
  | succ n => exact absurd hl (Nat.not_lt.2 (Nat.le_add_left _ _))

/-- The gated projection terminates with its arguments unchanged, on bits. -/
theorem frame_Gate : Cert.quiescent_Gate := fun m ρ _ => by
  rw [show Cert.Gate.defs (F := Bits) = Cert.GateIdeal.defs (F := Bits) from congrArg (Pipeline.defs Cert.GateIdeal.pcfgs) body_Gate]
  exact Cert.GateIdeal.Stream.frame_all (F := Bits) m ρ

/-- The key segment's body is its idealization's, on bits. -/
theorem body_Keys : Cert.Keys.defs₀ (F := Bits) = Cert.KeysIdeal.defs₀ (F := Bits) := by
  unfold Cert.Keys.defs₀ Cert.KeysIdeal.defs₀
  refine congrArg Defs.onTc (funext fun l => funext fun x => ?_)
  obtain ⟨l, hl⟩ := l
  cases l with
  | zero => obtain ⟨t, s⟩ := x; rfl
  | succ n => exact absurd hl (Nat.not_lt.2 (Nat.le_add_left _ _))

/-- The key segment terminates with its arguments unchanged, on bits. -/
theorem frame_Keys : Cert.quiescent_Keys := fun m ρ _ => by
  rw [show Cert.Keys.defs (F := Bits) = Cert.KeysIdeal.defs (F := Bits) from congrArg (Pipeline.defs Cert.KeysIdeal.pcfgs) body_Keys]
  exact Cert.KeysIdeal.Stream.frame_all (F := Bits) m ρ

/-- The value segment's body is its idealization's, on bits. -/
theorem body_Vals : Cert.Vals.defs₀ (F := Bits) = Cert.ValsIdeal.defs₀ (F := Bits) := by
  unfold Cert.Vals.defs₀ Cert.ValsIdeal.defs₀
  refine congrArg Defs.onTc (funext fun l => funext fun x => ?_)
  obtain ⟨l, hl⟩ := l
  cases l with
  | zero => obtain ⟨t, s⟩ := x; rfl
  | succ n => exact absurd hl (Nat.not_lt.2 (Nat.le_add_left _ _))

/-- The value segment terminates with its arguments unchanged, on bits. -/
theorem frame_Vals : Cert.quiescent_Vals := fun m ρ _ => by
  rw [show Cert.Vals.defs (F := Bits) = Cert.ValsIdeal.defs (F := Bits) from congrArg (Pipeline.defs Cert.ValsIdeal.pcfgs) body_Vals]
  exact Cert.ValsIdeal.Stream.frame_all (F := Bits) m ρ

/-- The convolution segment's body is its idealization's, on bits. -/
theorem body_Conv : Cert.Conv.defs₀ (F := Bits) = Cert.ConvIdeal.defs₀ (F := Bits) := by
  unfold Cert.Conv.defs₀ Cert.ConvIdeal.defs₀
  refine congrArg Defs.onTc (funext fun l => funext fun x => ?_)
  obtain ⟨l, hl⟩ := l
  cases l with
  | zero => obtain ⟨t, s⟩ := x; rfl
  | succ n => exact absurd hl (Nat.not_lt.2 (Nat.le_add_left _ _))

/-- The convolution segment terminates with its arguments unchanged, on bits. -/
theorem frame_Conv : Cert.quiescent_Conv := fun m ρ _ => by
  rw [show Cert.Conv.defs (F := Bits) = Cert.ConvIdeal.defs (F := Bits) from congrArg (Pipeline.defs Cert.ConvIdeal.pcfgs) body_Conv]
  exact Cert.ConvIdeal.Stream.frame_all (F := Bits) m ρ

/-- The pooling segment's body is its idealization's, on bits. -/
theorem body_Pool : Cert.Pool.defs₀ (F := Bits) = Cert.PoolIdeal.defs₀ (F := Bits) := by
  unfold Cert.Pool.defs₀ Cert.PoolIdeal.defs₀
  refine congrArg Defs.onTc (funext fun l => funext fun x => ?_)
  obtain ⟨l, hl⟩ := l
  cases l with
  | zero => obtain ⟨t, s⟩ := x; rfl
  | succ n => exact absurd hl (Nat.not_lt.2 (Nat.le_add_left _ _))

/-- The pooling segment terminates with its arguments unchanged, on bits. -/
theorem frame_Pool : Cert.quiescent_Pool := fun m ρ _ => by
  rw [show Cert.Pool.defs (F := Bits) = Cert.PoolIdeal.defs (F := Bits) from congrArg (Pipeline.defs Cert.PoolIdeal.pcfgs) body_Pool]
  exact Cert.PoolIdeal.Stream.frame_all (F := Bits) m ρ

end Cert.Twin

end
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.Down.Frame
public import proofs.«01_k».proof.Proof.Gen.DownIdeal.Frame
public import proofs.«01_k».proof.Proof.Gen.ReferenceIdeal.Run
public import proofs.«01_k».proof.Proof.Gen.DownRefIdeal.Run
public import proofs.«01_k».proof.Proof.GateRun
public import proofs.«01_k».proof.Proof.Twin
public import proofs.«01_k».proof.Proof.Gen.GateRefIdeal.Run
public import proofs.«01_k».proof.Proof.KeysRun
public import proofs.«01_k».proof.Proof.Gen.KeysRefIdeal.Run
public import proofs.«01_k».proof.Proof.ValsRun
public import proofs.«01_k».proof.Proof.Gen.ValsRefIdeal.Run
public import proofs.«01_k».proof.Proof.ConvRun
public import proofs.«01_k».proof.Proof.PoolRun
public import proofs.«01_k».proof.Proof.Gen.PoolRefIdeal.Run
public import proofs.«01_k».proof.Proof.Gen.ConvRefIdeal.Run
public import proofs.«01_k».proof.Proof.Gen.Final.Frame
public import proofs.«01_k».proof.Proof.Gen.FinalIdeal.Frame
public import proofs.«01_k».proof.Proof.Gen.FinalRefIdeal.Run
public import proofs.«01_k».proof.Proof.Gen.FinalS.Frame
public import proofs.«01_k».proof.Proof.Gen.FinalSIdeal.Frame
public import proofs.«01_k».proof.Proof.Gen.FinalSRefIdeal.Run
public import proofs.«01_k».proof.Proof.Gen.Gla.Frame
public import proofs.«01_k».proof.Proof.Gen.GlaIdeal.Frame
public import proofs.«01_k».proof.Proof.Gen.GlaRefIdeal.Run

@[expose] public section

noncomputable section

namespace Cert.Frames

open Idealize.ShloMosaic Idealize.ShloMosaic.TcCoe Idealize.SL.Sem

/-- The attention kernel terminates with its arguments unchanged, on bits. -/
theorem kernel : Cert.quiescent_Kernel := fun m ρ _ => Cert.Kernel.Gen.frame m ρ
/-- The attention kernel's idealization terminates with its arguments unchanged. -/
theorem kernelIdeal : Cert.quiescent_KernelIdeal := fun m ρ _ => Cert.KernelIdeal.Gen.frame m ρ
/-- The down projection terminates with its arguments unchanged, on bits. -/
theorem down : Cert.quiescent_Down := fun m ρ _ => Cert.Down.Gen.frame m ρ
/-- The down projection's idealization terminates with its arguments unchanged. -/
theorem downIdeal : Cert.quiescent_DownIdeal := fun m ρ _ => Cert.DownIdeal.Gen.frame m ρ

/-- The attention's reference has no semaphore. -/
theorem noSem_reference : ∀ sm : SemLoc Cert.ReferenceIdeal.sig, False := by decide
/-- The down projection's reference has no semaphore. -/
theorem noSem_downRef : ∀ sm : SemLoc Cert.DownRefIdeal.sig, False := by decide

/-- The attention's reference terminates with its arguments unchanged. -/
theorem reference : Cert.quiescent_ReferenceIdeal := fun m ρ _ =>
  (θ_run _ _ _).mono (fun _ h => ⟨fun c => (h c).2, funext fun g => (noSem_reference g.2).elim⟩) (Cert.ReferenceIdeal.Value.run m ρ)
/-- The down projection's reference terminates with its arguments unchanged. -/
theorem downRef : Cert.quiescent_DownRefIdeal := fun m ρ _ =>
  (θ_run _ _ _).mono (fun _ h => ⟨fun c => (h c).2, funext fun g => (noSem_downRef g.2).elim⟩) (Cert.DownRefIdeal.Value.run m ρ)

/-- The gated projection terminates with its arguments unchanged, on bits. -/
theorem gate : Cert.quiescent_Gate := Cert.Twin.frame_Gate
/-- The gated projection's idealization terminates with its arguments unchanged. -/
theorem gateIdeal : Cert.quiescent_GateIdeal := fun m ρ _ => Cert.GateIdeal.Stream.frame_all m ρ
/-- The gated projection's reference has no semaphore. -/
theorem noSem_gateRef : ∀ sm : SemLoc Cert.GateRefIdeal.sig, False := by decide
/-- The gated projection's reference terminates with its arguments unchanged. -/
theorem gateRef : Cert.quiescent_GateRefIdeal := fun m ρ _ =>
  (θ_run _ _ _).mono (fun _ h => ⟨fun c => (h c).2.2.2, funext fun g => (noSem_gateRef g.2).elim⟩) (Cert.GateRefIdeal.Value.run m ρ)

/-- The key segment of the input projection terminates with its arguments unchanged, on bits. -/
theorem keys : Cert.quiescent_Keys := Cert.Twin.frame_Keys
/-- The key segment's idealization terminates with its arguments unchanged. -/
theorem keysIdeal : Cert.quiescent_KeysIdeal := fun m ρ _ => Cert.KeysIdeal.Stream.frame_all m ρ
/-- The key segment's reference has no semaphore. -/
theorem noSem_keysRef : ∀ sm : SemLoc Cert.KeysRefIdeal.sig, False := by decide
/-- The key segment's reference terminates with its arguments unchanged. -/
theorem keysRef : Cert.quiescent_KeysRefIdeal := fun m ρ _ =>
  (θ_run _ _ _).mono (fun _ h => ⟨fun c => (h c).2.2, funext fun g => (noSem_keysRef g.2).elim⟩) (Cert.KeysRefIdeal.Value.run m ρ)

/-- The value segment of the input projection terminates with its arguments unchanged, on bits. -/
theorem vals : Cert.quiescent_Vals := Cert.Twin.frame_Vals
/-- The value segment's idealization terminates with its arguments unchanged. -/
theorem valsIdeal : Cert.quiescent_ValsIdeal := fun m ρ _ => Cert.ValsIdeal.Stream.frame_all m ρ
/-- The value segment's reference has no semaphore. -/
theorem noSem_valsRef : ∀ sm : SemLoc Cert.ValsRefIdeal.sig, False := by decide
/-- The value segment's reference terminates with its arguments unchanged. -/
theorem valsRef : Cert.quiescent_ValsRefIdeal := fun m ρ _ =>
  (θ_run _ _ _).mono (fun _ h => ⟨fun c => (h c).2.2, funext fun g => (noSem_valsRef g.2).elim⟩) (Cert.ValsRefIdeal.Value.run m ρ)

/-- The convolution segment of the input projection terminates with its arguments unchanged, on bits. -/
theorem conv : Cert.quiescent_Conv := Cert.Twin.frame_Conv
/-- The convolution segment's idealization terminates with its arguments unchanged. -/
theorem convIdeal : Cert.quiescent_ConvIdeal := fun m ρ _ => Cert.ConvIdeal.Stream.frame_all m ρ
/-- The convolution segment's reference has no semaphore. -/
theorem noSem_convRef : ∀ sm : SemLoc Cert.ConvRefIdeal.sig, False := by decide
/-- The convolution segment's reference terminates with its arguments unchanged. -/
theorem convRef : Cert.quiescent_ConvRefIdeal := fun m ρ _ =>
  (θ_run _ _ _).mono (fun _ h => ⟨fun c => (h c).2.2, funext fun g => (noSem_convRef g.2).elim⟩) (Cert.ConvRefIdeal.Value.run m ρ)

/-- The final layer norm of the prompt terminates with its arguments unchanged, on bits. -/
theorem final : Cert.quiescent_Final := fun m ρ _ => Cert.Final.Gen.frame m ρ
/-- The idealization of the final layer norm of the prompt terminates with its arguments unchanged. -/
theorem finalIdeal : Cert.quiescent_FinalIdeal := fun m ρ _ => Cert.FinalIdeal.Gen.frame m ρ
/-- The reference of the final layer norm of the prompt has no semaphore. -/
theorem noSem_finalRef : ∀ sm : SemLoc Cert.FinalRefIdeal.sig, False := by decide
/-- The reference of the final layer norm of the prompt terminates with its arguments unchanged. -/
theorem finalRef : Cert.quiescent_FinalRefIdeal := fun m ρ _ =>
  (θ_run _ _ _).mono (fun _ h => ⟨fun c => (h c).2, funext fun g => (noSem_finalRef g.2).elim⟩) (Cert.FinalRefIdeal.Value.run m ρ)

/-- The final layer norm of the samples terminates with its arguments unchanged, on bits. -/
theorem finalS : Cert.quiescent_FinalS := fun m ρ _ => Cert.FinalS.Gen.frame m ρ
/-- The idealization of the final layer norm of the samples terminates with its arguments unchanged. -/
theorem finalSIdeal : Cert.quiescent_FinalSIdeal := fun m ρ _ => Cert.FinalSIdeal.Gen.frame m ρ
/-- The reference of the final layer norm of the samples has no semaphore. -/
theorem noSem_finalSRef : ∀ sm : SemLoc Cert.FinalSRefIdeal.sig, False := by decide
/-- The reference of the final layer norm of the samples terminates with its arguments unchanged. -/
theorem finalSRef : Cert.quiescent_FinalSRefIdeal := fun m ρ _ =>
  (θ_run _ _ _).mono (fun _ h => ⟨fun c => (h c).2, funext fun g => (noSem_finalSRef g.2).elim⟩) (Cert.FinalSRefIdeal.Value.run m ρ)

/-- The pooling segment of the second input projection terminates with its arguments unchanged, on bits. -/
theorem pool : Cert.quiescent_Pool := Cert.Twin.frame_Pool
/-- The pooling segment's idealization terminates with its arguments unchanged. -/
theorem poolIdeal : Cert.quiescent_PoolIdeal := fun m ρ _ => Cert.PoolIdeal.Stream.frame_all m ρ
/-- The pooling segment's reference has no semaphore. -/
theorem noSem_poolRef : ∀ sm : SemLoc Cert.PoolRefIdeal.sig, False := by decide
/-- The pooling segment's reference terminates with its arguments unchanged. -/
theorem poolRef : Cert.quiescent_PoolRefIdeal := fun m ρ _ =>
  (θ_run _ _ _).mono (fun _ h => ⟨fun c => (h c).2.2, funext fun g => (noSem_poolRef g.2).elim⟩) (Cert.PoolRefIdeal.Value.run m ρ)

/-- The linear attention of the samples terminates with its arguments unchanged, on bits. -/
theorem gla : Cert.quiescent_Gla := fun m ρ _ => Cert.Gla.Gen.frame m ρ
/-- The idealization of the linear attention of the samples terminates with its arguments unchanged. -/
theorem glaIdeal : Cert.quiescent_GlaIdeal := fun m ρ _ => Cert.GlaIdeal.Gen.frame m ρ
/-- The reference of the linear attention of the samples has no semaphore. -/
theorem noSem_glaRef : ∀ sm : SemLoc Cert.GlaRefIdeal.sig, False := by decide
/-- The reference of the linear attention of the samples terminates with its arguments unchanged. -/
theorem glaRef : Cert.quiescent_GlaRefIdeal := fun m ρ _ =>
  (θ_run _ _ _).mono (fun _ h => ⟨fun c => (h c).2, funext fun g => (noSem_glaRef g.2).elim⟩) (Cert.GlaRefIdeal.Value.run m ρ)
/-- The idealization's frame where the gates are open. -/
theorem glaIdeal_open [Cert.Pre_gates_open.Facts] : Cert.quiescent_GlaIdeal_pre_gates_open := fun m ρ _ => Cert.GlaIdeal.Gen.frame m ρ
/-- The reference's frame where the gates are open. -/
theorem glaRef_open [Cert.Pre_gates_open.Facts] : Cert.quiescent_GlaRefIdeal_pre_gates_open := fun m ρ _ =>
  (θ_run _ _ _).mono (fun _ h => ⟨fun c => (h c).2, funext fun g => (noSem_glaRef g.2).elim⟩) (Cert.GlaRefIdeal.Value.run m ρ)

/-- The two named constants of the attention kernel have the values the table gives them. -/
theorem preserves_kernel : Cert.preserves_Kernel_KernelIdeal :=
  ⟨IdealRules.named_const.statement _ _ _ _ _ rfl, IdealRules.named_const.statement _ _ _ _ _ rfl⟩

end Cert.Frames

end
-- ==== Proof.SbTile.lean ====
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.SbTile

open Cert.KernelIdeal Cert.KernelIdeal.Gen
open Idealize.ShloMosaic Idealize.ShloMosaic.TcCoe Idealize.SL.Sem

variable {F : FTy → Type} [FloatOps F] [Named F]

/-- A tile of 256 rows and one head's 128 columns, read from a staged array of keys or of values. -/
abbrev rd (M : Memref sig .tc .vmem S2048x1024 .f32) (off : Fin 2 → Nat)
    (h : ∀ a, off a + S256x128.size a ≤ S2048x1024.size a) (X : BufTy.Contents (Elt F) M.view.ty) : Vec F S256x128 .f32 :=
  View.readAt (Elt F) M.view (Rect.unit (s := S2048x1024) off S256x128.size h).toLoadRect X

/-- One head's running sum after a tile of keys before the diagonal. -/
def stepC (q : Vec F S256x128 .bf16) (b : F .f32) (k : Vec F S256x128 .f32) (carry : FVec F S256x1 .f32) : FVec F S256x1 .f32 :=
  k0_pay13 carry (k0_pay11 (k0_pay2 q b k))

/-- One head's weighted values after a tile of keys before the diagonal. -/
def stepA (q : Vec F S256x128 .bf16) (b : F .f32) (k v : Vec F S256x128 .f32) (carry : FVec F S256x1 .f32)
    (acc : FVec F S256x128 .f32) : FVec F S256x128 .f32 :=
  k0_pay39 acc (k0_pay12 k0_pay88 carry (k0_pay2 q b k)) v

set_option maxHeartbeats 4000000 in
/-- One trip of the loop over the tiles before the diagonal: every head takes its own step. -/
theorem trip_eq (𝒱 : Variants) (c : Dev nD) (bd : Option 𝒱.V) (i : grid0.Coords) (arg3 : Memref sig .tc .smem S16 .f32) (harg3 : arg3.IsWhole) (arg4 : Memref sig .tc .vmem S256x1024 .bf16) (harg4 : arg4.IsWhole) (arg5 : Memref sig .tc .vmem S2048x1024 .f32) (harg5 : arg5.IsWhole) (arg6 : Memref sig .tc .vmem S2048x1024 .f32) (harg6 : arg6.IsWhole) (arg7 : Memref sig .tc .vmem S256x1024 .bf16) (harg7 : arg7.IsWhole) (arg2 : BitVec 32) (v5 : FVec F S256x256 .bf16) (hv5 : v5 = k0_pay88) (v6 : Vec F S256x128 .bf16) (v7 : Vec F S256x128 .bf16) (v8 : Vec F S256x128 .bf16) (v9 : Vec F S256x128 .bf16) (v10 : Vec F S256x128 .bf16) (v11 : Vec F S256x128 .bf16) (v12 : Vec F S256x128 .bf16) (v13 : Vec F S256x128 .bf16) (v18 : F .f32) (v23 : F .f32) (v28 : F .f32) (v33 : F .f32) (v38 : F .f32) (v43 : F .f32) (v48 : F .f32) (v53 : F .f32) (v65 : FVec F S256x128 .f32) (v67 : FVec F S256x128 .f32) (v69 : FVec F S256x128 .f32) (v72 : BitVec 32) (v162 : FVec F S256x1 .f32) (v188 : FVec F S256x1 .f32) (v214 : FVec F S256x1 .f32) (v240 : FVec F S256x1 .f32) (v266 : FVec F S256x1 .f32) (v292 : FVec F S256x1 .f32) (v315 : FVec F S256x256 .f32) (v318 : FVec F S256x1 .f32) (v341 : FVec F S256x256 .f32) (v344 : FVec F S256x1 .f32) (v350 : FVec F S256x128 .f32) (v356 : FVec F S256x128 .f32) (v362 : FVec F S256x128 .f32) (v368 : FVec F S256x128 .f32) (v374 : FVec F S256x128 .f32) (v379 : FVec F S256x128 .f32) (X_arg5 : BufTy.Contents (Elt F) arg5.view.ty) (X_arg6 : BufTy.Contents (Elt F) arg6.view.ty) (k : Fin (k0_t1_loop i).trips) (acc : FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32) :
    tripR_k0_t1 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 X_arg5 X_arg6 k acc
      = (stepC v6 v18 (rd arg5 (k0_off10 i k) (k0_off10_inb i k) X_arg5) (acc.1),
        stepA v6 v18 (rd arg5 (k0_off10 i k) (k0_off10_inb i k) X_arg5) (rd arg6 (k0_off10 i k) (k0_off10_inb i k) X_arg6) (acc.1) (acc.2.1),
        stepC v7 v23 (rd arg5 (k0_off11 i k) (k0_off11_inb i k) X_arg5) (acc.2.2.1),
        stepA v7 v23 (rd arg5 (k0_off11 i k) (k0_off11_inb i k) X_arg5) (rd arg6 (k0_off11 i k) (k0_off11_inb i k) X_arg6) (acc.2.2.1) (acc.2.2.2.1),
        stepC v8 v28 (rd arg5 (k0_off12 i k) (k0_off12_inb i k) X_arg5) (acc.2.2.2.2.1),
        stepA v8 v28 (rd arg5 (k0_off12 i k) (k0_off12_inb i k) X_arg5) (rd arg6 (k0_off12 i k) (k0_off12_inb i k) X_arg6) (acc.2.2.2.2.1) (acc.2.2.2.2.2.1),
        stepC v9 v33 (rd arg5 (k0_off13 i k) (k0_off13_inb i k) X_arg5) (acc.2.2.2.2.2.2.1),
        stepA v9 v33 (rd arg5 (k0_off13 i k) (k0_off13_inb i k) X_arg5) (rd arg6 (k0_off13 i k) (k0_off13_inb i k) X_arg6) (acc.2.2.2.2.2.2.1) (acc.2.2.2.2.2.2.2.1),
        stepC v10 v38 (rd arg5 (k0_off14 i k) (k0_off14_inb i k) X_arg5) (acc.2.2.2.2.2.2.2.2.1),
        stepA v10 v38 (rd arg5 (k0_off14 i k) (k0_off14_inb i k) X_arg5) (rd arg6 (k0_off14 i k) (k0_off14_inb i k) X_arg6) (acc.2.2.2.2.2.2.2.2.1) (acc.2.2.2.2.2.2.2.2.2.1),
        stepC v11 v43 (rd arg5 (k0_off15 i k) (k0_off15_inb i k) X_arg5) (acc.2.2.2.2.2.2.2.2.2.2.1),
        stepA v11 v43 (rd arg5 (k0_off15 i k) (k0_off15_inb i k) X_arg5) (rd arg6 (k0_off15 i k) (k0_off15_inb i k) X_arg6) (acc.2.2.2.2.2.2.2.2.2.2.1) (acc.2.2.2.2.2.2.2.2.2.2.2.1),
        stepC v12 v48 (rd arg5 (k0_off16 i k) (k0_off16_inb i k) X_arg5) (acc.2.2.2.2.2.2.2.2.2.2.2.2.1),
        stepA v12 v48 (rd arg5 (k0_off16 i k) (k0_off16_inb i k) X_arg5) (rd arg6 (k0_off16 i k) (k0_off16_inb i k) X_arg6) (acc.2.2.2.2.2.2.2.2.2.2.2.2.1) (acc.2.2.2.2.2.2.2.2.2.2.2.2.2.1),
        stepC v13 v53 (rd arg5 (k0_off17 i k) (k0_off17_inb i k) X_arg5) (acc.2.2.2.2.2.2.2.2.2.2.2.2.2.2.1),
        stepA v13 v53 (rd arg5 (k0_off17 i k) (k0_off17_inb i k) X_arg5) (rd arg6 (k0_off17 i k) (k0_off17_inb i k) X_arg6) (acc.2.2.2.2.2.2.2.2.2.2.2.2.2.2.1) (acc.2.2.2.2.2.2.2.2.2.2.2.2.2.2.2)) := by
  unfold tripR_k0_t1 trip_k0_t1
  subst hv5
  rfl

end Cert.SbTile

end
-- ==== Proof.SbLoop.lean ====
module

public import proofs.«01_k».proof.Proof.SbTile

@[expose] public section

set_option maxRecDepth 16384

noncomputable section

namespace Cert.SbTile

open Cert.KernelIdeal Cert.KernelIdeal.Gen
open Idealize.ShloMosaic Idealize.ShloMosaic.TcCoe Idealize.SL.Sem

variable {F : FTy → Type} [FloatOps F] [Named F]

/-- A head's running sum and its weighted values. -/
abbrev Pair (F : FTy → Type) [FloatOps F] : Type := FVec F S256x1 .f32 × FVec F S256x128 .f32

/-- Block `kb` of the rows and head `s`'s columns of a staged array of keys or of values. -/
def tile (x : Vec F S2048x1024 .f32) (kb s : Fin 8) : Vec F S256x128 .f32 := fun y =>
  x (ix2 ⟨256 * kb.val + (y 0).val, by have h : (y 0).val < 256 := (y 0).isLt; omega⟩
    ⟨128 * s.val + (y 1).val, by have h : (y 1).val < 128 := (y 1).isLt; omega⟩)

/-- Head `s`'s columns of the staged queries. -/
def cols (x : Vec F S256x1024 .bf16) (s : Fin 8) : Vec F S256x128 .bf16 := fun y =>
  x (ix2 (y 0) ⟨128 * s.val + (y 1).val, by have h : (y 1).val < 128 := (y 1).isLt; omega⟩)

/-- The block of keys that trip `n` reads: the blocks before the diagonal, from the last to the first. -/
def back (I : Fin 8) (n : ℕ) : Fin 8 := ⟨I.val - 1 - n, by omega⟩

/-- A head's pair after the first `n` tiles before the diagonal. -/
def loopP (q : Vec F S256x128 .bf16) (b : F .f32) (K W : ℕ → Vec F S256x128 .f32) (p : Pair F) : ℕ → Pair F
  | 0 => p
  | n + 1 => (stepC q b (K n) (loopP q b K W p n).1, stepA q b (K n) (W n) (loopP q b K W p n).1 (loopP q b K W p n).2)

/-- A read at offsets that are a block's is the block. -/
theorem rd_eq (M : Memref sig .tc .vmem S2048x1024 .f32) (hM : M.IsWhole) (off : Fin 2 → Nat)
    (h : ∀ a, off a + S256x128.size a ≤ S2048x1024.size a) (x : Vec F S2048x1024 .f32) (kb s : Fin 8)
    (ho : off = ![256 * kb.val, 128 * s.val]) : rd M off h (hM.unread x) = tile x kb s := by
  subst ho
  funext y
  unfold rd
  rw [View.readAt_eq_ld, Memref.IsWhole.read_unread]
  refine View.ld_unit_apply_of _ _ _ _ _ _ fun a => ?_
  fin_cases a <;> rfl

theorem cols_eq (M : Memref sig .tc .vmem S256x1024 .bf16) (hM : M.IsWhole) (off : Fin 2 → Nat)
    (h : ∀ a, off a + S256x128.size a ≤ S256x1024.size a) (x : Vec F S256x1024 .bf16) (s : Fin 8)
    (ho : off = ![0, 128 * s.val]) :
    View.readAt (Elt F) M.view (Rect.unit (s := S256x1024) off S256x128.size h).toLoadRect (hM.unread x) = cols x s := by
  subst ho
  funext y
  rw [View.readAt_eq_ld, Memref.IsWhole.read_unread]
  refine View.ld_unit_apply_of _ _ _ _ _ _ fun a => ?_
  fin_cases a
  · exact (Nat.zero_add _).symm
  · rfl

theorem trips1 (i : grid0.Coords) : (k0_t1_loop i).trips = (i 2).val := by
  generalize hI : i 2 = I
  unfold k0_t1_loop
  rw [hI]
  clear hI
  revert I
  decide

theorem trips2 (i : grid0.Coords) : (k0_t2_loop i).trips = 0 := by
  generalize hI : i 2 = I
  unfold k0_t2_loop
  rw [hI]
  clear hI
  revert I
  decide

/-- The rows that trip `k` of block `I` starts at, as the kernel computes them. -/
theorem back_off : ∀ I k : Fin 8, k.val < I.val →
    (Scalar.indexCast (Scalar.muli (Scalar.subi (Scalar.subi (BitVec.ofNat 32 I.val) 1#32) (Scf.iv 0#32 1#32 k.val)) 256#32) : Index).toNat
      = 256 * (back I k.val).val := by decide

theorem diag_off : ∀ I : Fin 8, (Scalar.indexCast (Scalar.muli (BitVec.ofNat 32 I.val) 256#32) : Index).toNat = 256 * I.val := by decide

theorem back_off' (i : grid0.Coords) (k : Fin (k0_t1_loop i).trips) :
    (Scalar.indexCast (Scalar.muli (Scalar.subi (Scalar.subi (BitVec.ofNat 32 (i 2).val) 1#32) (Scf.iv 0#32 1#32 k.val)) 256#32) : Index).toNat
      = 256 * (back (i 2) k.val).val := by
  have hk : k.val < (i 2).val := (trips1 i) ▸ k.isLt
  have hI : (i 2).val < 8 := (i 2).isLt
  exact back_off (i 2) ⟨k.val, by omega⟩ hk

theorem off_back0 (i : grid0.Coords) (k : Fin (k0_t1_loop i).trips) :
    k0_off10 i k = ![256 * (back (i 2) k.val).val, 128 * ((0 : Fin 8)).val] := by
  rw [← back_off' i k]; rfl
theorem off_diag0 (i : grid0.Coords) : k0_off2 i = ![256 * (i 2).val, 128 * ((0 : Fin 8)).val] := by
  rw [← diag_off (i 2)]; rfl
theorem off_back1 (i : grid0.Coords) (k : Fin (k0_t1_loop i).trips) :
    k0_off11 i k = ![256 * (back (i 2) k.val).val, 128 * ((1 : Fin 8)).val] := by
  rw [← back_off' i k]; rfl
theorem off_diag1 (i : grid0.Coords) : k0_off3 i = ![256 * (i 2).val, 128 * ((1 : Fin 8)).val] := by
  rw [← diag_off (i 2)]; rfl
theorem off_back2 (i : grid0.Coords) (k : Fin (k0_t1_loop i).trips) :
    k0_off12 i k = ![256 * (back (i 2) k.val).val, 128 * ((2 : Fin 8)).val] := by
  rw [← back_off' i k]; rfl
theorem off_diag2 (i : grid0.Coords) : k0_off4 i = ![256 * (i 2).val, 128 * ((2 : Fin 8)).val] := by
  rw [← diag_off (i 2)]; rfl
theorem off_back3 (i : grid0.Coords) (k : Fin (k0_t1_loop i).trips) :
    k0_off13 i k = ![256 * (back (i 2) k.val).val, 128 * ((3 : Fin 8)).val] := by
  rw [← back_off' i k]; rfl
theorem off_diag3 (i : grid0.Coords) : k0_off5 i = ![256 * (i 2).val, 128 * ((3 : Fin 8)).val] := by
  rw [← diag_off (i 2)]; rfl
theorem off_back4 (i : grid0.Coords) (k : Fin (k0_t1_loop i).trips) :
    k0_off14 i k = ![256 * (back (i 2) k.val).val, 128 * ((4 : Fin 8)).val] := by
  rw [← back_off' i k]; rfl
theorem off_diag4 (i : grid0.Coords) : k0_off6 i = ![256 * (i 2).val, 128 * ((4 : Fin 8)).val] := by
  rw [← diag_off (i 2)]; rfl
theorem off_back5 (i : grid0.Coords) (k : Fin (k0_t1_loop i).trips) :
    k0_off15 i k = ![256 * (back (i 2) k.val).val, 128 * ((5 : Fin 8)).val] := by
  rw [← back_off' i k]; rfl
theorem off_diag5 (i : grid0.Coords) : k0_off7 i = ![256 * (i 2).val, 128 * ((5 : Fin 8)).val] := by
  rw [← diag_off (i 2)]; rfl
theorem off_back6 (i : grid0.Coords) (k : Fin (k0_t1_loop i).trips) :
    k0_off16 i k = ![256 * (back (i 2) k.val).val, 128 * ((6 : Fin 8)).val] := by
  rw [← back_off' i k]; rfl
theorem off_diag6 (i : grid0.Coords) : k0_off8 i = ![256 * (i 2).val, 128 * ((6 : Fin 8)).val] := by
  rw [← diag_off (i 2)]; rfl
theorem off_back7 (i : grid0.Coords) (k : Fin (k0_t1_loop i).trips) :
    k0_off17 i k = ![256 * (back (i 2) k.val).val, 128 * ((7 : Fin 8)).val] := by
  rw [← back_off' i k]; rfl
theorem off_diag7 (i : grid0.Coords) : k0_off9 i = ![256 * (i 2).val, 128 * ((7 : Fin 8)).val] := by
  rw [← diag_off (i 2)]; rfl

set_option maxHeartbeats 4000000 in
/-- The loop's state after `n` trips: each head's pair after `n` tiles. -/
theorem st_eq (𝒱 : Variants) (c : Dev nD) (bd : Option 𝒱.V) (i : grid0.Coords) (arg3 : Memref sig .tc .smem S16 .f32) (harg3 : arg3.IsWhole) (arg4 : Memref sig .tc .vmem S256x1024 .bf16) (harg4 : arg4.IsWhole) (arg5 : Memref sig .tc .vmem S2048x1024 .f32) (harg5 : arg5.IsWhole) (arg6 : Memref sig .tc .vmem S2048x1024 .f32) (harg6 : arg6.IsWhole) (arg7 : Memref sig .tc .vmem S256x1024 .bf16) (harg7 : arg7.IsWhole) (arg2 : BitVec 32) (v5 : FVec F S256x256 .bf16) (v6 : Vec F S256x128 .bf16) (v7 : Vec F S256x128 .bf16) (v8 : Vec F S256x128 .bf16) (v9 : Vec F S256x128 .bf16) (v10 : Vec F S256x128 .bf16) (v11 : Vec F S256x128 .bf16) (v12 : Vec F S256x128 .bf16) (v13 : Vec F S256x128 .bf16) (v18 : F .f32) (v23 : F .f32) (v28 : F .f32) (v33 : F .f32) (v38 : F .f32) (v43 : F .f32) (v48 : F .f32) (v53 : F .f32) (v65 : FVec F S256x128 .f32) (v67 : FVec F S256x128 .f32) (v69 : FVec F S256x128 .f32) (v72 : BitVec 32) (v162 : FVec F S256x1 .f32) (v188 : FVec F S256x1 .f32) (v214 : FVec F S256x1 .f32) (v240 : FVec F S256x1 .f32) (v266 : FVec F S256x1 .f32) (v292 : FVec F S256x1 .f32) (v315 : FVec F S256x256 .f32) (v318 : FVec F S256x1 .f32) (v341 : FVec F S256x256 .f32) (v344 : FVec F S256x1 .f32) (v350 : FVec F S256x128 .f32) (v356 : FVec F S256x128 .f32) (v362 : FVec F S256x128 .f32) (v368 : FVec F S256x128 .f32) (v374 : FVec F S256x128 .f32) (v379 : FVec F S256x128 .f32) (hv5 : v5 = k0_pay88)
    (Q : Fin 8 → Vec F S256x128 .bf16) (B : Fin 8 → F .f32) (hq0 : v6 = Q 0) (hq1 : v7 = Q 1) (hq2 : v8 = Q 2) (hq3 : v9 = Q 3) (hq4 : v10 = Q 4) (hq5 : v11 = Q 5) (hq6 : v12 = Q 6) (hq7 : v13 = Q 7) (hb0 : v18 = B 0) (hb1 : v23 = B 1) (hb2 : v28 = B 2) (hb3 : v33 = B 3) (hb4 : v38 = B 4) (hb5 : v43 = B 5) (hb6 : v48 = B 6) (hb7 : v53 = B 7)
    (x2 x3 : Vec F S2048x1024 .f32) (P : Fin 8 → Pair F) (n : ℕ) (hn : n ≤ (k0_t1_loop i).trips) :
    st_k0_t1 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 (harg5.unread x2) (harg6.unread x3) ((P 0).1, (P 0).2, (P 1).1, (P 1).2, (P 2).1, (P 2).2, (P 3).1, (P 3).2, (P 4).1, (P 4).2, (P 5).1, (P 5).2, (P 6).1, (P 6).2, (P 7).1, (P 7).2) n
      = ((loopP (Q 0) (B 0) (fun n => tile x2 (back (i 2) n) 0) (fun n => tile x3 (back (i 2) n) 0) (P 0) n).1, (loopP (Q 0) (B 0) (fun n => tile x2 (back (i 2) n) 0) (fun n => tile x3 (back (i 2) n) 0) (P 0) n).2,
        (loopP (Q 1) (B 1) (fun n => tile x2 (back (i 2) n) 1) (fun n => tile x3 (back (i 2) n) 1) (P 1) n).1, (loopP (Q 1) (B 1) (fun n => tile x2 (back (i 2) n) 1) (fun n => tile x3 (back (i 2) n) 1) (P 1) n).2,
        (loopP (Q 2) (B 2) (fun n => tile x2 (back (i 2) n) 2) (fun n => tile x3 (back (i 2) n) 2) (P 2) n).1, (loopP (Q 2) (B 2) (fun n => tile x2 (back (i 2) n) 2) (fun n => tile x3 (back (i 2) n) 2) (P 2) n).2,
        (loopP (Q 3) (B 3) (fun n => tile x2 (back (i 2) n) 3) (fun n => tile x3 (back (i 2) n) 3) (P 3) n).1, (loopP (Q 3) (B 3) (fun n => tile x2 (back (i 2) n) 3) (fun n => tile x3 (back (i 2) n) 3) (P 3) n).2,
        (loopP (Q 4) (B 4) (fun n => tile x2 (back (i 2) n) 4) (fun n => tile x3 (back (i 2) n) 4) (P 4) n).1, (loopP (Q 4) (B 4) (fun n => tile x2 (back (i 2) n) 4) (fun n => tile x3 (back (i 2) n) 4) (P 4) n).2,
        (loopP (Q 5) (B 5) (fun n => tile x2 (back (i 2) n) 5) (fun n => tile x3 (back (i 2) n) 5) (P 5) n).1, (loopP (Q 5) (B 5) (fun n => tile x2 (back (i 2) n) 5) (fun n => tile x3 (back (i 2) n) 5) (P 5) n).2,
        (loopP (Q 6) (B 6) (fun n => tile x2 (back (i 2) n) 6) (fun n => tile x3 (back (i 2) n) 6) (P 6) n).1, (loopP (Q 6) (B 6) (fun n => tile x2 (back (i 2) n) 6) (fun n => tile x3 (back (i 2) n) 6) (P 6) n).2,
        (loopP (Q 7) (B 7) (fun n => tile x2 (back (i 2) n) 7) (fun n => tile x3 (back (i 2) n) 7) (P 7) n).1, (loopP (Q 7) (B 7) (fun n => tile x2 (back (i 2) n) 7) (fun n => tile x3 (back (i 2) n) 7) (P 7) n).2) := by
  induction n with
  | zero => rfl
  | succ n ih =>
    have h : n < (k0_t1_loop i).trips := hn
    refine (st_k0_t1_succ 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 (harg5.unread x2) (harg6.unread x3) ((P 0).1, (P 0).2, (P 1).1, (P 1).2, (P 2).1, (P 2).2, (P 3).1, (P 3).2, (P 4).1, (P 4).2, (P 5).1, (P 5).2, (P 6).1, (P 6).2, (P 7).1, (P 7).2) ⟨n, h⟩).trans ?_
    rw [ih (Nat.le_of_lt h)]
    rw [trip_eq 𝒱 c bd i arg3 harg3 arg4 harg4 arg5 harg5 arg6 harg6 arg7 harg7 arg2 v5 hv5 v6 v7 v8 v9 v10 v11 v12 v13 v18 v23 v28 v33 v38 v43 v48 v53 v65 v67 v69 v72 v162 v188 v214 v240 v266 v292 v315 v318 v341 v344 v350 v356 v362 v368 v374 v379 (harg5.unread x2) (harg6.unread x3) ⟨n, h⟩ _]
    rw [rd_eq arg5 harg5 _ _ x2 (back (i 2) n) 0 (off_back0 i ⟨n, h⟩), rd_eq arg6 harg6 _ _ x3 (back (i 2) n) 0 (off_back0 i ⟨n, h⟩), rd_eq arg5 harg5 _ _ x2 (back (i 2) n) 1 (off_back1 i ⟨n, h⟩), rd_eq arg6 harg6 _ _ x3 (back (i 2) n) 1 (off_back1 i ⟨n, h⟩), rd_eq arg5 harg5 _ _ x2 (back (i 2) n) 2 (off_back2 i ⟨n, h⟩), rd_eq arg6 harg6 _ _ x3 (back (i 2) n) 2 (off_back2 i ⟨n, h⟩), rd_eq arg5 harg5 _ _ x2 (back (i 2) n) 3 (off_back3 i ⟨n, h⟩), rd_eq arg6 harg6 _ _ x3 (back (i 2) n) 3 (off_back3 i ⟨n, h⟩), rd_eq arg5 harg5 _ _ x2 (back (i 2) n) 4 (off_back4 i ⟨n, h⟩), rd_eq arg6 harg6 _ _ x3 (back (i 2) n) 4 (off_back4 i ⟨n, h⟩), rd_eq arg5 harg5 _ _ x2 (back (i 2) n) 5 (off_back5 i ⟨n, h⟩), rd_eq arg6 harg6 _ _ x3 (back (i 2) n) 5 (off_back5 i ⟨n, h⟩), rd_eq arg5 harg5 _ _ x2 (back (i 2) n) 6 (off_back6 i ⟨n, h⟩), rd_eq arg6 harg6 _ _ x3 (back (i 2) n) 6 (off_back6 i ⟨n, h⟩), rd_eq arg5 harg5 _ _ x2 (back (i 2) n) 7 (off_back7 i ⟨n, h⟩), rd_eq arg6 harg6 _ _ x3 (back (i 2) n) 7 (off_back7 i ⟨n, h⟩)]
    subst hq0 hq1 hq2 hq3 hq4 hq5 hq6 hq7 hb0 hb1 hb2 hb3 hb4 hb5 hb6 hb7
    rfl

end Cert.SbTile

end
-- ==== Proof.SbBody.lean ====
module

public import proofs.«01_k».proof.Proof.SbLoop

@[expose] public section

set_option maxRecDepth 16384

noncomputable section

namespace Cert.SbTile

open Cert.KernelIdeal Cert.KernelIdeal.Gen
open Idealize.ShloMosaic Idealize.ShloMosaic.TcCoe Idealize.SL.Sem

variable {F : FTy → Type} [FloatOps F] [Named F]

/-- A head's bias among the staged sixteen. -/
def bias (x : Vec F S16 .f32) (g : Fin 2) (s : Fin 8) : F .f32 := x (ix1 ⟨8 * g.val + s.val, by omega⟩)

/-- The diagonal tile's part of the mask: a key before its query. -/
def maskD : IVec S256x256 1 := k0_pay113 (iota Kind.tc S256x256 32 [0] iota_S256x256_d0_w32) (iota Kind.tc S256x256 32 [1] iota_S256x256_d1_w32)

/-- A head's pair after the diagonal tile. -/
def diagP (q : Vec F S256x128 .bf16) (b : F .f32) (k v : Vec F S256x128 .f32) : Pair F :=
  (k0_pay124 k0_pay97 (k0_pay122 maskD (k0_pay114 q b k)),
   k0_pay152 k0_pay98 (k0_pay123 k0_pay88 k0_pay97 maskD (k0_pay114 q b k) (k0_pay122 maskD (k0_pay114 q b k))) v)

/-- A head's pair after all the tiles of a query block. -/
def headP (g : Fin 2) (I : Fin 8) (x0 : Vec F S16 .f32) (x1 : Vec F S256x1024 .bf16) (x2 x3 : Vec F S2048x1024 .f32) (s : Fin 8) : Pair F :=
  loopP (cols x1 s) (k0_pay89 (bias x0 g s)) (fun n => tile x2 (back I n) s) (fun n => tile x3 (back I n) s)
    (diagP (cols x1 s) (k0_pay89 (bias x0 g s)) (tile x2 I s) (tile x3 I s)) I.val

theorem bias_off : ∀ (g : Fin 2) (s : Fin 8),
    (Scalar.indexCast (Scalar.addi (Scalar.muli (BitVec.ofNat 32 g.val) 8#32) (BitVec.ofNat 32 s.val)) : Index).toNat = 8 * g.val + s.val := by decide

theorem bias_eq (M : Memref sig .tc .smem S16 .f32) (hM : M.IsWhole) (i : grid0.Coords) (s : Fin 8) (h0 : 0 < S1.numel)
    (x : Vec F S16 .f32) :
    View.readAt (Elt F) M.view (Rect.unit (s := S16) (k0_off1 i (BitVec.ofNat 32 s.val)) S1.size (k0_off1_inb i s)).toLoadRect (hM.unread x) (Shape.Idx.first h0)
      = bias x (i 1) s := by
  rw [View.readAt_eq_ld, Memref.IsWhole.read_unread]
  refine View.ld_unit_apply_of _ _ _ _ _ _ fun a => ?_
  fin_cases a
  exact (bias_off (i 1) s).symm

set_option maxHeartbeats 4000000 in
/-- The body's final state: each head's pair after all its tiles. The second loop makes no trip. -/
theorem fin_eq (𝒱 : Variants) (c : Dev nD) (bd : Option 𝒱.V) (i : grid0.Coords) (arg3 : Memref sig .tc .smem S16 .f32) (harg3 : arg3.IsWhole) (arg4 : Memref sig .tc .vmem S256x1024 .bf16) (harg4 : arg4.IsWhole) (arg5 : Memref sig .tc .vmem S2048x1024 .f32) (harg5 : arg5.IsWhole) (arg6 : Memref sig .tc .vmem S2048x1024 .f32) (harg6 : arg6.IsWhole) (arg7 : Memref sig .tc .vmem S256x1024 .bf16) (harg7 : arg7.IsWhole) (arg2 : BitVec 32) (v5 : FVec F S256x256 .bf16) (v6 : Vec F S256x128 .bf16) (v7 : Vec F S256x128 .bf16) (v8 : Vec F S256x128 .bf16) (v9 : Vec F S256x128 .bf16) (v10 : Vec F S256x128 .bf16) (v11 : Vec F S256x128 .bf16) (v12 : Vec F S256x128 .bf16) (v13 : Vec F S256x128 .bf16) (v18 : F .f32) (v23 : F .f32) (v28 : F .f32) (v33 : F .f32) (v38 : F .f32) (v43 : F .f32) (v48 : F .f32) (v53 : F .f32) (v65 : FVec F S256x128 .f32) (v67 : FVec F S256x128 .f32) (v69 : FVec F S256x128 .f32) (v72 : BitVec 32) (v162 : FVec F S256x1 .f32) (v188 : FVec F S256x1 .f32) (v214 : FVec F S256x1 .f32) (v240 : FVec F S256x1 .f32) (v266 : FVec F S256x1 .f32) (v292 : FVec F S256x1 .f32) (v315 : FVec F S256x256 .f32) (v318 : FVec F S256x1 .f32) (v341 : FVec F S256x256 .f32) (v344 : FVec F S256x1 .f32) (v350 : FVec F S256x128 .f32) (v356 : FVec F S256x128 .f32) (v362 : FVec F S256x128 .f32) (v368 : FVec F S256x128 .f32) (v374 : FVec F S256x128 .f32) (v379 : FVec F S256x128 .f32) (v397 : BitVec 32) (hv5 : v5 = k0_pay88)
    (Q : Fin 8 → Vec F S256x128 .bf16) (B : Fin 8 → F .f32) (hq0 : v6 = Q 0) (hq1 : v7 = Q 1) (hq2 : v8 = Q 2) (hq3 : v9 = Q 3) (hq4 : v10 = Q 4) (hq5 : v11 = Q 5) (hq6 : v12 = Q 6) (hq7 : v13 = Q 7) (hb0 : v18 = B 0) (hb1 : v23 = B 1) (hb2 : v28 = B 2) (hb3 : v33 = B 3) (hb4 : v38 = B 4) (hb5 : v43 = B 5) (hb6 : v48 = B 6) (hb7 : v53 = B 7)
    (x2 x3 : Vec F S2048x1024 .f32) (P : Fin 8 → Pair F) (init : FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32) (hinit : init = ((P 0).1, (P 0).2, (P 1).1, (P 1).2, (P 2).1, (P 2).2, (P 3).1, (P 3).2, (P 4).1, (P 4).2, (P 5).1, (P 5).2, (P 6).1, (P 6).2, (P 7).1, (P 7).2)) :
    st_k0_t2 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 v397 (harg5.unread x2) (harg6.unread x3) ((st_k0_t1 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 (harg5.unread x2) (harg6.unread x3) init (k0_t1_loop i).trips).1,
        (st_k0_t1 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 (harg5.unread x2) (harg6.unread x3) init (k0_t1_loop i).trips).2.1,
        (st_k0_t1 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 (harg5.unread x2) (harg6.unread x3) init (k0_t1_loop i).trips).2.2.1,
        (st_k0_t1 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 (harg5.unread x2) (harg6.unread x3) init (k0_t1_loop i).trips).2.2.2.1,
        (st_k0_t1 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 (harg5.unread x2) (harg6.unread x3) init (k0_t1_loop i).trips).2.2.2.2.1,
        (st_k0_t1 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 (harg5.unread x2) (harg6.unread x3) init (k0_t1_loop i).trips).2.2.2.2.2.1,
        (st_k0_t1 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 (harg5.unread x2) (harg6.unread x3) init (k0_t1_loop i).trips).2.2.2.2.2.2.1,
        (st_k0_t1 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 (harg5.unread x2) (harg6.unread x3) init (k0_t1_loop i).trips).2.2.2.2.2.2.2.1,
        (st_k0_t1 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 (harg5.unread x2) (harg6.unread x3) init (k0_t1_loop i).trips).2.2.2.2.2.2.2.2.1,
        (st_k0_t1 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 (harg5.unread x2) (harg6.unread x3) init (k0_t1_loop i).trips).2.2.2.2.2.2.2.2.2.1,
        (st_k0_t1 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 (harg5.unread x2) (harg6.unread x3) init (k0_t1_loop i).trips).2.2.2.2.2.2.2.2.2.2.1,
        (st_k0_t1 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 (harg5.unread x2) (harg6.unread x3) init (k0_t1_loop i).trips).2.2.2.2.2.2.2.2.2.2.2.1,
        (st_k0_t1 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 (harg5.unread x2) (harg6.unread x3) init (k0_t1_loop i).trips).2.2.2.2.2.2.2.2.2.2.2.2.1,
        (st_k0_t1 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 (harg5.unread x2) (harg6.unread x3) init (k0_t1_loop i).trips).2.2.2.2.2.2.2.2.2.2.2.2.2.1,
        (st_k0_t1 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 (harg5.unread x2) (harg6.unread x3) init (k0_t1_loop i).trips).2.2.2.2.2.2.2.2.2.2.2.2.2.2.1,
        (st_k0_t1 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 (harg5.unread x2) (harg6.unread x3) init (k0_t1_loop i).trips).2.2.2.2.2.2.2.2.2.2.2.2.2.2.2) (k0_t2_loop i).trips
      = ((loopP (Q 0) (B 0) (fun n => tile x2 (back (i 2) n) 0) (fun n => tile x3 (back (i 2) n) 0) (P 0) (i 2).val).1, (loopP (Q 0) (B 0) (fun n => tile x2 (back (i 2) n) 0) (fun n => tile x3 (back (i 2) n) 0) (P 0) (i 2).val).2,
        (loopP (Q 1) (B 1) (fun n => tile x2 (back (i 2) n) 1) (fun n => tile x3 (back (i 2) n) 1) (P 1) (i 2).val).1, (loopP (Q 1) (B 1) (fun n => tile x2 (back (i 2) n) 1) (fun n => tile x3 (back (i 2) n) 1) (P 1) (i 2).val).2,
        (loopP (Q 2) (B 2) (fun n => tile x2 (back (i 2) n) 2) (fun n => tile x3 (back (i 2) n) 2) (P 2) (i 2).val).1, (loopP (Q 2) (B 2) (fun n => tile x2 (back (i 2) n) 2) (fun n => tile x3 (back (i 2) n) 2) (P 2) (i 2).val).2,
        (loopP (Q 3) (B 3) (fun n => tile x2 (back (i 2) n) 3) (fun n => tile x3 (back (i 2) n) 3) (P 3) (i 2).val).1, (loopP (Q 3) (B 3) (fun n => tile x2 (back (i 2) n) 3) (fun n => tile x3 (back (i 2) n) 3) (P 3) (i 2).val).2,
        (loopP (Q 4) (B 4) (fun n => tile x2 (back (i 2) n) 4) (fun n => tile x3 (back (i 2) n) 4) (P 4) (i 2).val).1, (loopP (Q 4) (B 4) (fun n => tile x2 (back (i 2) n) 4) (fun n => tile x3 (back (i 2) n) 4) (P 4) (i 2).val).2,
        (loopP (Q 5) (B 5) (fun n => tile x2 (back (i 2) n) 5) (fun n => tile x3 (back (i 2) n) 5) (P 5) (i 2).val).1, (loopP (Q 5) (B 5) (fun n => tile x2 (back (i 2) n) 5) (fun n => tile x3 (back (i 2) n) 5) (P 5) (i 2).val).2,
        (loopP (Q 6) (B 6) (fun n => tile x2 (back (i 2) n) 6) (fun n => tile x3 (back (i 2) n) 6) (P 6) (i 2).val).1, (loopP (Q 6) (B 6) (fun n => tile x2 (back (i 2) n) 6) (fun n => tile x3 (back (i 2) n) 6) (P 6) (i 2).val).2,
        (loopP (Q 7) (B 7) (fun n => tile x2 (back (i 2) n) 7) (fun n => tile x3 (back (i 2) n) 7) (P 7) (i 2).val).1, (loopP (Q 7) (B 7) (fun n => tile x2 (back (i 2) n) 7) (fun n => tile x3 (back (i 2) n) 7) (P 7) (i 2).val).2) := by
  subst hinit
  refine (congrArg (st_k0_t2 (F := F) 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 v397 (harg5.unread x2) (harg6.unread x3) _) (trips2 i)).trans ?_
  refine (st_k0_t2_zero 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 v397 (harg5.unread x2) (harg6.unread x3) _).trans ?_
  refine (st_eq 𝒱 c bd i arg3 harg3 arg4 harg4 arg5 harg5 arg6 harg6 arg7 harg7 arg2 v5 v6 v7 v8 v9 v10 v11 v12 v13 v18 v23 v28 v33 v38 v43 v48 v53 v65 v67 v69 v72 v162 v188 v214 v240 v266 v292 v315 v318 v341 v344 v350 v356 v362 v368 v374 v379 hv5 Q B hq0 hq1 hq2 hq3 hq4 hq5 hq6 hq7 hb0 hb1 hb2 hb3 hb4 hb5 hb6 hb7 x2 x3 P (k0_t1_loop i).trips (le_refl _)).trans ?_
  rw [trips1 i]

set_option maxHeartbeats 8000000 in
/-- The eight pieces one grid point stores: each head's weighted values, rounded. -/
theorem pieces_eq (c : Dev nD) (i : grid0.Coords) (arg3 : Memref sig .tc .smem S16 .f32) (harg3 : arg3.IsWhole) (arg4 : Memref sig .tc .vmem S256x1024 .bf16) (harg4 : arg4.IsWhole) (arg5 : Memref sig .tc .vmem S2048x1024 .f32) (harg5 : arg5.IsWhole) (arg6 : Memref sig .tc .vmem S2048x1024 .f32) (harg6 : arg6.IsWhole) (arg7 : Memref sig .tc .vmem S256x1024 .bf16) (harg7 : arg7.IsWhole)
    (x0 : Vec F S16 .f32) (x1 : Vec F S256x1024 .bf16) (x2 : Vec F S2048x1024 .f32) (x3 : Vec F S2048x1024 .f32) :
    (kernelRun0_A (F := F) c i arg3 harg3 arg4 harg4 arg5 harg5 arg6 harg6 arg7 harg7 x0 x1 x2 x3).1 = [
      ⟨Rect.unit ![0, 896] S256x128.size inb_S256x1024_S256x128_0_896, k0_pay1 (headP (i 1) (i 2) x0 x1 x2 x3 7).2⟩,
      ⟨Rect.unit ![0, 768] S256x128.size inb_S256x1024_S256x128_0_768, k0_pay173 (headP (i 1) (i 2) x0 x1 x2 x3 6).2⟩,
      ⟨Rect.unit ![0, 640] S256x128.size inb_S256x1024_S256x128_0_640, k0_pay172 (headP (i 1) (i 2) x0 x1 x2 x3 5).2⟩,
      ⟨Rect.unit ![0, 512] S256x128.size inb_S256x1024_S256x128_0_512, k0_pay171 (headP (i 1) (i 2) x0 x1 x2 x3 4).2⟩,
      ⟨Rect.unit ![0, 384] S256x128.size inb_S256x1024_S256x128_0_384, k0_pay170 (headP (i 1) (i 2) x0 x1 x2 x3 3).2⟩,
      ⟨Rect.unit ![0, 256] S256x128.size inb_S256x1024_S256x128_0_256, k0_pay169 (headP (i 1) (i 2) x0 x1 x2 x3 2).2⟩,
      ⟨Rect.unit ![0, 128] S256x128.size inb_S256x1024_S256x128_0_128, k0_pay168 (headP (i 1) (i 2) x0 x1 x2 x3 1).2⟩,
      ⟨Rect.unit ![0, 0] S256x128.size inb_S256x1024_S256x128_0_0, k0_pay167 (headP (i 1) (i 2) x0 x1 x2 x3 0).2⟩] := by
  have h1 : 0 < S1.numel := by rw [numel1_S1]; exact Nat.one_pos
  have hq0 : (View.readAt (Elt F) arg4.view (Rect.unit (s := S256x1024) ![0, 0] S256x128.size inb_S256x1024_S256x128_0_0).toLoadRect (harg4.unread x1)) = cols x1 0 := cols_eq arg4 harg4 _ _ x1 0 rfl
  have hb0 : (k0_pay89 (View.readAt (Elt F) arg3.view (Rect.unit (s := S16) (k0_off1 i 0#32) S1.size (k0_off1_inb i 0)).toLoadRect (harg3.unread x0) (Shape.Idx.first (s := S1) h1))) = k0_pay89 (bias x0 (i 1) 0) := congrArg k0_pay89 (bias_eq arg3 harg3 i 0 _ x0)
  have hk0 : (rd arg5 (k0_off2 i) (k0_off2_inb i) (harg5.unread x2)) = tile x2 (i 2) 0 := rd_eq arg5 harg5 _ _ x2 (i 2) 0 (off_diag0 i)
  have hw0 : (rd arg6 (k0_off2 i) (k0_off2_inb i) (harg6.unread x3)) = tile x3 (i 2) 0 := rd_eq arg6 harg6 _ _ x3 (i 2) 0 (off_diag0 i)
  have hd0 : (diagP (View.readAt (Elt F) arg4.view (Rect.unit (s := S256x1024) ![0, 0] S256x128.size inb_S256x1024_S256x128_0_0).toLoadRect (harg4.unread x1)) (k0_pay89 (View.readAt (Elt F) arg3.view (Rect.unit (s := S16) (k0_off1 i 0#32) S1.size (k0_off1_inb i 0)).toLoadRect (harg3.unread x0) (Shape.Idx.first (s := S1) h1))) (rd arg5 (k0_off2 i) (k0_off2_inb i) (harg5.unread x2)) (rd arg6 (k0_off2 i) (k0_off2_inb i) (harg6.unread x3))) = diagP (cols x1 0) (k0_pay89 (bias x0 (i 1) 0)) (tile x2 (i 2) 0) (tile x3 (i 2) 0) := by rw [hq0, hb0, hk0, hw0]
  have hq1 : (View.readAt (Elt F) arg4.view (Rect.unit (s := S256x1024) ![0, 128] S256x128.size inb_S256x1024_S256x128_0_128).toLoadRect (harg4.unread x1)) = cols x1 1 := cols_eq arg4 harg4 _ _ x1 1 rfl
  have hb1 : (k0_pay89 (View.readAt (Elt F) arg3.view (Rect.unit (s := S16) (k0_off1 i 1#32) S1.size (k0_off1_inb i 1)).toLoadRect (harg3.unread x0) (Shape.Idx.first (s := S1) h1))) = k0_pay89 (bias x0 (i 1) 1) := congrArg k0_pay89 (bias_eq arg3 harg3 i 1 _ x0)
  have hk1 : (rd arg5 (k0_off3 i) (k0_off3_inb i) (harg5.unread x2)) = tile x2 (i 2) 1 := rd_eq arg5 harg5 _ _ x2 (i 2) 1 (off_diag1 i)
  have hw1 : (rd arg6 (k0_off3 i) (k0_off3_inb i) (harg6.unread x3)) = tile x3 (i 2) 1 := rd_eq arg6 harg6 _ _ x3 (i 2) 1 (off_diag1 i)
  have hd1 : (diagP (View.readAt (Elt F) arg4.view (Rect.unit (s := S256x1024) ![0, 128] S256x128.size inb_S256x1024_S256x128_0_128).toLoadRect (harg4.unread x1)) (k0_pay89 (View.readAt (Elt F) arg3.view (Rect.unit (s := S16) (k0_off1 i 1#32) S1.size (k0_off1_inb i 1)).toLoadRect (harg3.unread x0) (Shape.Idx.first (s := S1) h1))) (rd arg5 (k0_off3 i) (k0_off3_inb i) (harg5.unread x2)) (rd arg6 (k0_off3 i) (k0_off3_inb i) (harg6.unread x3))) = diagP (cols x1 1) (k0_pay89 (bias x0 (i 1) 1)) (tile x2 (i 2) 1) (tile x3 (i 2) 1) := by rw [hq1, hb1, hk1, hw1]
  have hq2 : (View.readAt (Elt F) arg4.view (Rect.unit (s := S256x1024) ![0, 256] S256x128.size inb_S256x1024_S256x128_0_256).toLoadRect (harg4.unread x1)) = cols x1 2 := cols_eq arg4 harg4 _ _ x1 2 rfl
  have hb2 : (k0_pay89 (View.readAt (Elt F) arg3.view (Rect.unit (s := S16) (k0_off1 i 2#32) S1.size (k0_off1_inb i 2)).toLoadRect (harg3.unread x0) (Shape.Idx.first (s := S1) h1))) = k0_pay89 (bias x0 (i 1) 2) := congrArg k0_pay89 (bias_eq arg3 harg3 i 2 _ x0)
  have hk2 : (rd arg5 (k0_off4 i) (k0_off4_inb i) (harg5.unread x2)) = tile x2 (i 2) 2 := rd_eq arg5 harg5 _ _ x2 (i 2) 2 (off_diag2 i)
  have hw2 : (rd arg6 (k0_off4 i) (k0_off4_inb i) (harg6.unread x3)) = tile x3 (i 2) 2 := rd_eq arg6 harg6 _ _ x3 (i 2) 2 (off_diag2 i)
  have hd2 : (diagP (View.readAt (Elt F) arg4.view (Rect.unit (s := S256x1024) ![0, 256] S256x128.size inb_S256x1024_S256x128_0_256).toLoadRect (harg4.unread x1)) (k0_pay89 (View.readAt (Elt F) arg3.view (Rect.unit (s := S16) (k0_off1 i 2#32) S1.size (k0_off1_inb i 2)).toLoadRect (harg3.unread x0) (Shape.Idx.first (s := S1) h1))) (rd arg5 (k0_off4 i) (k0_off4_inb i) (harg5.unread x2)) (rd arg6 (k0_off4 i) (k0_off4_inb i) (harg6.unread x3))) = diagP (cols x1 2) (k0_pay89 (bias x0 (i 1) 2)) (tile x2 (i 2) 2) (tile x3 (i 2) 2) := by rw [hq2, hb2, hk2, hw2]
  have hq3 : (View.readAt (Elt F) arg4.view (Rect.unit (s := S256x1024) ![0, 384] S256x128.size inb_S256x1024_S256x128_0_384).toLoadRect (harg4.unread x1)) = cols x1 3 := cols_eq arg4 harg4 _ _ x1 3 rfl
  have hb3 : (k0_pay89 (View.readAt (Elt F) arg3.view (Rect.unit (s := S16) (k0_off1 i 3#32) S1.size (k0_off1_inb i 3)).toLoadRect (harg3.unread x0) (Shape.Idx.first (s := S1) h1))) = k0_pay89 (bias x0 (i 1) 3) := congrArg k0_pay89 (bias_eq arg3 harg3 i 3 _ x0)
  have hk3 : (rd arg5 (k0_off5 i) (k0_off5_inb i) (harg5.unread x2)) = tile x2 (i 2) 3 := rd_eq arg5 harg5 _ _ x2 (i 2) 3 (off_diag3 i)
  have hw3 : (rd arg6 (k0_off5 i) (k0_off5_inb i) (harg6.unread x3)) = tile x3 (i 2) 3 := rd_eq arg6 harg6 _ _ x3 (i 2) 3 (off_diag3 i)
  have hd3 : (diagP (View.readAt (Elt F) arg4.view (Rect.unit (s := S256x1024) ![0, 384] S256x128.size inb_S256x1024_S256x128_0_384).toLoadRect (harg4.unread x1)) (k0_pay89 (View.readAt (Elt F) arg3.view (Rect.unit (s := S16) (k0_off1 i 3#32) S1.size (k0_off1_inb i 3)).toLoadRect (harg3.unread x0) (Shape.Idx.first (s := S1) h1))) (rd arg5 (k0_off5 i) (k0_off5_inb i) (harg5.unread x2)) (rd arg6 (k0_off5 i) (k0_off5_inb i) (harg6.unread x3))) = diagP (cols x1 3) (k0_pay89 (bias x0 (i 1) 3)) (tile x2 (i 2) 3) (tile x3 (i 2) 3) := by rw [hq3, hb3, hk3, hw3]
  have hq4 : (View.readAt (Elt F) arg4.view (Rect.unit (s := S256x1024) ![0, 512] S256x128.size inb_S256x1024_S256x128_0_512).toLoadRect (harg4.unread x1)) = cols x1 4 := cols_eq arg4 harg4 _ _ x1 4 rfl
  have hb4 : (k0_pay89 (View.readAt (Elt F) arg3.view (Rect.unit (s := S16) (k0_off1 i 4#32) S1.size (k0_off1_inb i 4)).toLoadRect (harg3.unread x0) (Shape.Idx.first (s := S1) h1))) = k0_pay89 (bias x0 (i 1) 4) := congrArg k0_pay89 (bias_eq arg3 harg3 i 4 _ x0)
  have hk4 : (rd arg5 (k0_off6 i) (k0_off6_inb i) (harg5.unread x2)) = tile x2 (i 2) 4 := rd_eq arg5 harg5 _ _ x2 (i 2) 4 (off_diag4 i)
  have hw4 : (rd arg6 (k0_off6 i) (k0_off6_inb i) (harg6.unread x3)) = tile x3 (i 2) 4 := rd_eq arg6 harg6 _ _ x3 (i 2) 4 (off_diag4 i)
  have hd4 : (diagP (View.readAt (Elt F) arg4.view (Rect.unit (s := S256x1024) ![0, 512] S256x128.size inb_S256x1024_S256x128_0_512).toLoadRect (harg4.unread x1)) (k0_pay89 (View.readAt (Elt F) arg3.view (Rect.unit (s := S16) (k0_off1 i 4#32) S1.size (k0_off1_inb i 4)).toLoadRect (harg3.unread x0) (Shape.Idx.first (s := S1) h1))) (rd arg5 (k0_off6 i) (k0_off6_inb i) (harg5.unread x2)) (rd arg6 (k0_off6 i) (k0_off6_inb i) (harg6.unread x3))) = diagP (cols x1 4) (k0_pay89 (bias x0 (i 1) 4)) (tile x2 (i 2) 4) (tile x3 (i 2) 4) := by rw [hq4, hb4, hk4, hw4]
  have hq5 : (View.readAt (Elt F) arg4.view (Rect.unit (s := S256x1024) ![0, 640] S256x128.size inb_S256x1024_S256x128_0_640).toLoadRect (harg4.unread x1)) = cols x1 5 := cols_eq arg4 harg4 _ _ x1 5 rfl
  have hb5 : (k0_pay89 (View.readAt (Elt F) arg3.view (Rect.unit (s := S16) (k0_off1 i 5#32) S1.size (k0_off1_inb i 5)).toLoadRect (harg3.unread x0) (Shape.Idx.first (s := S1) h1))) = k0_pay89 (bias x0 (i 1) 5) := congrArg k0_pay89 (bias_eq arg3 harg3 i 5 _ x0)
  have hk5 : (rd arg5 (k0_off7 i) (k0_off7_inb i) (harg5.unread x2)) = tile x2 (i 2) 5 := rd_eq arg5 harg5 _ _ x2 (i 2) 5 (off_diag5 i)
  have hw5 : (rd arg6 (k0_off7 i) (k0_off7_inb i) (harg6.unread x3)) = tile x3 (i 2) 5 := rd_eq arg6 harg6 _ _ x3 (i 2) 5 (off_diag5 i)
  have hd5 : (diagP (View.readAt (Elt F) arg4.view (Rect.unit (s := S256x1024) ![0, 640] S256x128.size inb_S256x1024_S256x128_0_640).toLoadRect (harg4.unread x1)) (k0_pay89 (View.readAt (Elt F) arg3.view (Rect.unit (s := S16) (k0_off1 i 5#32) S1.size (k0_off1_inb i 5)).toLoadRect (harg3.unread x0) (Shape.Idx.first (s := S1) h1))) (rd arg5 (k0_off7 i) (k0_off7_inb i) (harg5.unread x2)) (rd arg6 (k0_off7 i) (k0_off7_inb i) (harg6.unread x3))) = diagP (cols x1 5) (k0_pay89 (bias x0 (i 1) 5)) (tile x2 (i 2) 5) (tile x3 (i 2) 5) := by rw [hq5, hb5, hk5, hw5]
  have hq6 : (View.readAt (Elt F) arg4.view (Rect.unit (s := S256x1024) ![0, 768] S256x128.size inb_S256x1024_S256x128_0_768).toLoadRect (harg4.unread x1)) = cols x1 6 := cols_eq arg4 harg4 _ _ x1 6 rfl
  have hb6 : (k0_pay89 (View.readAt (Elt F) arg3.view (Rect.unit (s := S16) (k0_off1 i 6#32) S1.size (k0_off1_inb i 6)).toLoadRect (harg3.unread x0) (Shape.Idx.first (s := S1) h1))) = k0_pay89 (bias x0 (i 1) 6) := congrArg k0_pay89 (bias_eq arg3 harg3 i 6 _ x0)
  have hk6 : (rd arg5 (k0_off8 i) (k0_off8_inb i) (harg5.unread x2)) = tile x2 (i 2) 6 := rd_eq arg5 harg5 _ _ x2 (i 2) 6 (off_diag6 i)
  have hw6 : (rd arg6 (k0_off8 i) (k0_off8_inb i) (harg6.unread x3)) = tile x3 (i 2) 6 := rd_eq arg6 harg6 _ _ x3 (i 2) 6 (off_diag6 i)
  have hd6 : (diagP (View.readAt (Elt F) arg4.view (Rect.unit (s := S256x1024) ![0, 768] S256x128.size inb_S256x1024_S256x128_0_768).toLoadRect (harg4.unread x1)) (k0_pay89 (View.readAt (Elt F) arg3.view (Rect.unit (s := S16) (k0_off1 i 6#32) S1.size (k0_off1_inb i 6)).toLoadRect (harg3.unread x0) (Shape.Idx.first (s := S1) h1))) (rd arg5 (k0_off8 i) (k0_off8_inb i) (harg5.unread x2)) (rd arg6 (k0_off8 i) (k0_off8_inb i) (harg6.unread x3))) = diagP (cols x1 6) (k0_pay89 (bias x0 (i 1) 6)) (tile x2 (i 2) 6) (tile x3 (i 2) 6) := by rw [hq6, hb6, hk6, hw6]
  have hq7 : (View.readAt (Elt F) arg4.view (Rect.unit (s := S256x1024) ![0, 896] S256x128.size inb_S256x1024_S256x128_0_896).toLoadRect (harg4.unread x1)) = cols x1 7 := cols_eq arg4 harg4 _ _ x1 7 rfl
  have hb7 : (k0_pay89 (View.readAt (Elt F) arg3.view (Rect.unit (s := S16) (k0_off1 i 7#32) S1.size (k0_off1_inb i 7)).toLoadRect (harg3.unread x0) (Shape.Idx.first (s := S1) h1))) = k0_pay89 (bias x0 (i 1) 7) := congrArg k0_pay89 (bias_eq arg3 harg3 i 7 _ x0)
  have hk7 : (rd arg5 (k0_off9 i) (k0_off9_inb i) (harg5.unread x2)) = tile x2 (i 2) 7 := rd_eq arg5 harg5 _ _ x2 (i 2) 7 (off_diag7 i)
  have hw7 : (rd arg6 (k0_off9 i) (k0_off9_inb i) (harg6.unread x3)) = tile x3 (i 2) 7 := rd_eq arg6 harg6 _ _ x3 (i 2) 7 (off_diag7 i)
  have hd7 : (diagP (View.readAt (Elt F) arg4.view (Rect.unit (s := S256x1024) ![0, 896] S256x128.size inb_S256x1024_S256x128_0_896).toLoadRect (harg4.unread x1)) (k0_pay89 (View.readAt (Elt F) arg3.view (Rect.unit (s := S16) (k0_off1 i 7#32) S1.size (k0_off1_inb i 7)).toLoadRect (harg3.unread x0) (Shape.Idx.first (s := S1) h1))) (rd arg5 (k0_off9 i) (k0_off9_inb i) (harg5.unread x2)) (rd arg6 (k0_off9 i) (k0_off9_inb i) (harg6.unread x3))) = diagP (cols x1 7) (k0_pay89 (bias x0 (i 1) 7)) (tile x2 (i 2) 7) (tile x3 (i 2) 7) := by rw [hq7, hb7, hk7, hw7]
  have H := fin_eq (F := F) Variants.none c none i arg3 harg3 arg4 harg4 arg5 harg5 arg6 harg6 arg7 harg7 (BitVec.ofNat 32 (i 2).val) k0_pay88
    _ _ _ _ _ _ _ _ _ _ _ _ _ _ _ _
    kernelRun0_A.sl.r_24 k0_pay110 k0_pay112 (kernelRun0_A.sl.v71 i) ((diagP (View.readAt (Elt F) arg4.view (Rect.unit (s := S256x1024) ![0, 0] S256x128.size inb_S256x1024_S256x128_0_0).toLoadRect (harg4.unread x1)) (k0_pay89 (View.readAt (Elt F) arg3.view (Rect.unit (s := S16) (k0_off1 i 0#32) S1.size (k0_off1_inb i 0)).toLoadRect (harg3.unread x0) (Shape.Idx.first (s := S1) h1))) (rd arg5 (k0_off2 i) (k0_off2_inb i) (harg5.unread x2)) (rd arg6 (k0_off2 i) (k0_off2_inb i) (harg6.unread x3))).1) ((diagP (View.readAt (Elt F) arg4.view (Rect.unit (s := S256x1024) ![0, 128] S256x128.size inb_S256x1024_S256x128_0_128).toLoadRect (harg4.unread x1)) (k0_pay89 (View.readAt (Elt F) arg3.view (Rect.unit (s := S16) (k0_off1 i 1#32) S1.size (k0_off1_inb i 1)).toLoadRect (harg3.unread x0) (Shape.Idx.first (s := S1) h1))) (rd arg5 (k0_off3 i) (k0_off3_inb i) (harg5.unread x2)) (rd arg6 (k0_off3 i) (k0_off3_inb i) (harg6.unread x3))).1) ((diagP (View.readAt (Elt F) arg4.view (Rect.unit (s := S256x1024) ![0, 256] S256x128.size inb_S256x1024_S256x128_0_256).toLoadRect (harg4.unread x1)) (k0_pay89 (View.readAt (Elt F) arg3.view (Rect.unit (s := S16) (k0_off1 i 2#32) S1.size (k0_off1_inb i 2)).toLoadRect (harg3.unread x0) (Shape.Idx.first (s := S1) h1))) (rd arg5 (k0_off4 i) (k0_off4_inb i) (harg5.unread x2)) (rd arg6 (k0_off4 i) (k0_off4_inb i) (harg6.unread x3))).1) ((diagP (View.readAt (Elt F) arg4.view (Rect.unit (s := S256x1024) ![0, 384] S256x128.size inb_S256x1024_S256x128_0_384).toLoadRect (harg4.unread x1)) (k0_pay89 (View.readAt (Elt F) arg3.view (Rect.unit (s := S16) (k0_off1 i 3#32) S1.size (k0_off1_inb i 3)).toLoadRect (harg3.unread x0) (Shape.Idx.first (s := S1) h1))) (rd arg5 (k0_off5 i) (k0_off5_inb i) (harg5.unread x2)) (rd arg6 (k0_off5 i) (k0_off5_inb i) (harg6.unread x3))).1) ((diagP (View.readAt (Elt F) arg4.view (Rect.unit (s := S256x1024) ![0, 512] S256x128.size inb_S256x1024_S256x128_0_512).toLoadRect (harg4.unread x1)) (k0_pay89 (View.readAt (Elt F) arg3.view (Rect.unit (s := S16) (k0_off1 i 4#32) S1.size (k0_off1_inb i 4)).toLoadRect (harg3.unread x0) (Shape.Idx.first (s := S1) h1))) (rd arg5 (k0_off6 i) (k0_off6_inb i) (harg5.unread x2)) (rd arg6 (k0_off6 i) (k0_off6_inb i) (harg6.unread x3))).1) ((diagP (View.readAt (Elt F) arg4.view (Rect.unit (s := S256x1024) ![0, 640] S256x128.size inb_S256x1024_S256x128_0_640).toLoadRect (harg4.unread x1)) (k0_pay89 (View.readAt (Elt F) arg3.view (Rect.unit (s := S16) (k0_off1 i 5#32) S1.size (k0_off1_inb i 5)).toLoadRect (harg3.unread x0) (Shape.Idx.first (s := S1) h1))) (rd arg5 (k0_off7 i) (k0_off7_inb i) (harg5.unread x2)) (rd arg6 (k0_off7 i) (k0_off7_inb i) (harg6.unread x3))).1) (k0_pay146 k0_pay88 k0_pay109 maskD (k0_pay120 (View.readAt (Elt F) arg4.view (Rect.unit (s := S256x1024) ![0, 768] S256x128.size inb_S256x1024_S256x128_0_768).toLoadRect (harg4.unread x1)) (k0_pay89 (View.readAt (Elt F) arg3.view (Rect.unit (s := S16) (k0_off1 i 6#32) S1.size (k0_off1_inb i 6)).toLoadRect (harg3.unread x0) (Shape.Idx.first (s := S1) h1))) (rd arg5 (k0_off8 i) (k0_off8_inb i) (harg5.unread x2)))) ((diagP (View.readAt (Elt F) arg4.view (Rect.unit (s := S256x1024) ![0, 768] S256x128.size inb_S256x1024_S256x128_0_768).toLoadRect (harg4.unread x1)) (k0_pay89 (View.readAt (Elt F) arg3.view (Rect.unit (s := S16) (k0_off1 i 6#32) S1.size (k0_off1_inb i 6)).toLoadRect (harg3.unread x0) (Shape.Idx.first (s := S1) h1))) (rd arg5 (k0_off8 i) (k0_off8_inb i) (harg5.unread x2)) (rd arg6 (k0_off8 i) (k0_off8_inb i) (harg6.unread x3))).1) (k0_pay150 k0_pay88 k0_pay111 maskD (k0_pay121 (View.readAt (Elt F) arg4.view (Rect.unit (s := S256x1024) ![0, 896] S256x128.size inb_S256x1024_S256x128_0_896).toLoadRect (harg4.unread x1)) (k0_pay89 (View.readAt (Elt F) arg3.view (Rect.unit (s := S16) (k0_off1 i 7#32) S1.size (k0_off1_inb i 7)).toLoadRect (harg3.unread x0) (Shape.Idx.first (s := S1) h1))) (rd arg5 (k0_off9 i) (k0_off9_inb i) (harg5.unread x2))) (k0_pay148 maskD (k0_pay121 (View.readAt (Elt F) arg4.view (Rect.unit (s := S256x1024) ![0, 896] S256x128.size inb_S256x1024_S256x128_0_896).toLoadRect (harg4.unread x1)) (k0_pay89 (View.readAt (Elt F) arg3.view (Rect.unit (s := S16) (k0_off1 i 7#32) S1.size (k0_off1_inb i 7)).toLoadRect (harg3.unread x0) (Shape.Idx.first (s := S1) h1))) (rd arg5 (k0_off9 i) (k0_off9_inb i) (harg5.unread x2)))) (k0_pay149 maskD (k0_pay121 (View.readAt (Elt F) arg4.view (Rect.unit (s := S256x1024) ![0, 896] S256x128.size inb_S256x1024_S256x128_0_896).toLoadRect (harg4.unread x1)) (k0_pay89 (View.readAt (Elt F) arg3.view (Rect.unit (s := S16) (k0_off1 i 7#32) S1.size (k0_off1_inb i 7)).toLoadRect (harg3.unread x0) (Shape.Idx.first (s := S1) h1))) (rd arg5 (k0_off9 i) (k0_off9_inb i) (harg5.unread x2)))) (constant S256x256 .f32 0#32)) ((diagP (View.readAt (Elt F) arg4.view (Rect.unit (s := S256x1024) ![0, 896] S256x128.size inb_S256x1024_S256x128_0_896).toLoadRect (harg4.unread x1)) (k0_pay89 (View.readAt (Elt F) arg3.view (Rect.unit (s := S16) (k0_off1 i 7#32) S1.size (k0_off1_inb i 7)).toLoadRect (harg3.unread x0) (Shape.Idx.first (s := S1) h1))) (rd arg5 (k0_off9 i) (k0_off9_inb i) (harg5.unread x2)) (rd arg6 (k0_off9 i) (k0_off9_inb i) (harg6.unread x3))).1) ((diagP (View.readAt (Elt F) arg4.view (Rect.unit (s := S256x1024) ![0, 0] S256x128.size inb_S256x1024_S256x128_0_0).toLoadRect (harg4.unread x1)) (k0_pay89 (View.readAt (Elt F) arg3.view (Rect.unit (s := S16) (k0_off1 i 0#32) S1.size (k0_off1_inb i 0)).toLoadRect (harg3.unread x0) (Shape.Idx.first (s := S1) h1))) (rd arg5 (k0_off2 i) (k0_off2_inb i) (harg5.unread x2)) (rd arg6 (k0_off2 i) (k0_off2_inb i) (harg6.unread x3))).2) ((diagP (View.readAt (Elt F) arg4.view (Rect.unit (s := S256x1024) ![0, 128] S256x128.size inb_S256x1024_S256x128_0_128).toLoadRect (harg4.unread x1)) (k0_pay89 (View.readAt (Elt F) arg3.view (Rect.unit (s := S16) (k0_off1 i 1#32) S1.size (k0_off1_inb i 1)).toLoadRect (harg3.unread x0) (Shape.Idx.first (s := S1) h1))) (rd arg5 (k0_off3 i) (k0_off3_inb i) (harg5.unread x2)) (rd arg6 (k0_off3 i) (k0_off3_inb i) (harg6.unread x3))).2) ((diagP (View.readAt (Elt F) arg4.view (Rect.unit (s := S256x1024) ![0, 256] S256x128.size inb_S256x1024_S256x128_0_256).toLoadRect (harg4.unread x1)) (k0_pay89 (View.readAt (Elt F) arg3.view (Rect.unit (s := S16) (k0_off1 i 2#32) S1.size (k0_off1_inb i 2)).toLoadRect (harg3.unread x0) (Shape.Idx.first (s := S1) h1))) (rd arg5 (k0_off4 i) (k0_off4_inb i) (harg5.unread x2)) (rd arg6 (k0_off4 i) (k0_off4_inb i) (harg6.unread x3))).2) ((diagP (View.readAt (Elt F) arg4.view (Rect.unit (s := S256x1024) ![0, 384] S256x128.size inb_S256x1024_S256x128_0_384).toLoadRect (harg4.unread x1)) (k0_pay89 (View.readAt (Elt F) arg3.view (Rect.unit (s := S16) (k0_off1 i 3#32) S1.size (k0_off1_inb i 3)).toLoadRect (harg3.unread x0) (Shape.Idx.first (s := S1) h1))) (rd arg5 (k0_off5 i) (k0_off5_inb i) (harg5.unread x2)) (rd arg6 (k0_off5 i) (k0_off5_inb i) (harg6.unread x3))).2) ((diagP (View.readAt (Elt F) arg4.view (Rect.unit (s := S256x1024) ![0, 512] S256x128.size inb_S256x1024_S256x128_0_512).toLoadRect (harg4.unread x1)) (k0_pay89 (View.readAt (Elt F) arg3.view (Rect.unit (s := S16) (k0_off1 i 4#32) S1.size (k0_off1_inb i 4)).toLoadRect (harg3.unread x0) (Shape.Idx.first (s := S1) h1))) (rd arg5 (k0_off6 i) (k0_off6_inb i) (harg5.unread x2)) (rd arg6 (k0_off6 i) (k0_off6_inb i) (harg6.unread x3))).2) (k0_pay157 (k0_pay143 maskD (k0_pay141 k0_pay88 k0_pay107 maskD (k0_pay119 (View.readAt (Elt F) arg4.view (Rect.unit (s := S256x1024) ![0, 640] S256x128.size inb_S256x1024_S256x128_0_640).toLoadRect (harg4.unread x1)) (k0_pay89 (View.readAt (Elt F) arg3.view (Rect.unit (s := S16) (k0_off1 i 5#32) S1.size (k0_off1_inb i 5)).toLoadRect (harg3.unread x0) (Shape.Idx.first (s := S1) h1))) (rd arg5 (k0_off7 i) (k0_off7_inb i) (harg5.unread x2)))) k0_pay142) (rd arg6 (k0_off7 i) (k0_off7_inb i) (harg6.unread x3)))
    (kernelRun0_A.sl.v397 i) rfl (cols x1) (fun s => k0_pay89 (bias x0 (i 1) s)) hq0 hq1 hq2 hq3 hq4 hq5 hq6 hq7 hb0 hb1 hb2 hb3 hb4 hb5 hb6 hb7 x2 x3
    (fun s => diagP (cols x1 s) (k0_pay89 (bias x0 (i 1) s)) (tile x2 (i 2) s) (tile x3 (i 2) s)) ((diagP (View.readAt (Elt F) arg4.view (Rect.unit (s := S256x1024) ![0, 0] S256x128.size inb_S256x1024_S256x128_0_0).toLoadRect (harg4.unread x1)) (k0_pay89 (View.readAt (Elt F) arg3.view (Rect.unit (s := S16) (k0_off1 i 0#32) S1.size (k0_off1_inb i 0)).toLoadRect (harg3.unread x0) (Shape.Idx.first (s := S1) h1))) (rd arg5 (k0_off2 i) (k0_off2_inb i) (harg5.unread x2)) (rd arg6 (k0_off2 i) (k0_off2_inb i) (harg6.unread x3))).1, (diagP (View.readAt (Elt F) arg4.view (Rect.unit (s := S256x1024) ![0, 0] S256x128.size inb_S256x1024_S256x128_0_0).toLoadRect (harg4.unread x1)) (k0_pay89 (View.readAt (Elt F) arg3.view (Rect.unit (s := S16) (k0_off1 i 0#32) S1.size (k0_off1_inb i 0)).toLoadRect (harg3.unread x0) (Shape.Idx.first (s := S1) h1))) (rd arg5 (k0_off2 i) (k0_off2_inb i) (harg5.unread x2)) (rd arg6 (k0_off2 i) (k0_off2_inb i) (harg6.unread x3))).2, (diagP (View.readAt (Elt F) arg4.view (Rect.unit (s := S256x1024) ![0, 128] S256x128.size inb_S256x1024_S256x128_0_128).toLoadRect (harg4.unread x1)) (k0_pay89 (View.readAt (Elt F) arg3.view (Rect.unit (s := S16) (k0_off1 i 1#32) S1.size (k0_off1_inb i 1)).toLoadRect (harg3.unread x0) (Shape.Idx.first (s := S1) h1))) (rd arg5 (k0_off3 i) (k0_off3_inb i) (harg5.unread x2)) (rd arg6 (k0_off3 i) (k0_off3_inb i) (harg6.unread x3))).1, (diagP (View.readAt (Elt F) arg4.view (Rect.unit (s := S256x1024) ![0, 128] S256x128.size inb_S256x1024_S256x128_0_128).toLoadRect (harg4.unread x1)) (k0_pay89 (View.readAt (Elt F) arg3.view (Rect.unit (s := S16) (k0_off1 i 1#32) S1.size (k0_off1_inb i 1)).toLoadRect (harg3.unread x0) (Shape.Idx.first (s := S1) h1))) (rd arg5 (k0_off3 i) (k0_off3_inb i) (harg5.unread x2)) (rd arg6 (k0_off3 i) (k0_off3_inb i) (harg6.unread x3))).2, (diagP (View.readAt (Elt F) arg4.view (Rect.unit (s := S256x1024) ![0, 256] S256x128.size inb_S256x1024_S256x128_0_256).toLoadRect (harg4.unread x1)) (k0_pay89 (View.readAt (Elt F) arg3.view (Rect.unit (s := S16) (k0_off1 i 2#32) S1.size (k0_off1_inb i 2)).toLoadRect (harg3.unread x0) (Shape.Idx.first (s := S1) h1))) (rd arg5 (k0_off4 i) (k0_off4_inb i) (harg5.unread x2)) (rd arg6 (k0_off4 i) (k0_off4_inb i) (harg6.unread x3))).1, (diagP (View.readAt (Elt F) arg4.view (Rect.unit (s := S256x1024) ![0, 256] S256x128.size inb_S256x1024_S256x128_0_256).toLoadRect (harg4.unread x1)) (k0_pay89 (View.readAt (Elt F) arg3.view (Rect.unit (s := S16) (k0_off1 i 2#32) S1.size (k0_off1_inb i 2)).toLoadRect (harg3.unread x0) (Shape.Idx.first (s := S1) h1))) (rd arg5 (k0_off4 i) (k0_off4_inb i) (harg5.unread x2)) (rd arg6 (k0_off4 i) (k0_off4_inb i) (harg6.unread x3))).2, (diagP (View.readAt (Elt F) arg4.view (Rect.unit (s := S256x1024) ![0, 384] S256x128.size inb_S256x1024_S256x128_0_384).toLoadRect (harg4.unread x1)) (k0_pay89 (View.readAt (Elt F) arg3.view (Rect.unit (s := S16) (k0_off1 i 3#32) S1.size (k0_off1_inb i 3)).toLoadRect (harg3.unread x0) (Shape.Idx.first (s := S1) h1))) (rd arg5 (k0_off5 i) (k0_off5_inb i) (harg5.unread x2)) (rd arg6 (k0_off5 i) (k0_off5_inb i) (harg6.unread x3))).1, (diagP (View.readAt (Elt F) arg4.view (Rect.unit (s := S256x1024) ![0, 384] S256x128.size inb_S256x1024_S256x128_0_384).toLoadRect (harg4.unread x1)) (k0_pay89 (View.readAt (Elt F) arg3.view (Rect.unit (s := S16) (k0_off1 i 3#32) S1.size (k0_off1_inb i 3)).toLoadRect (harg3.unread x0) (Shape.Idx.first (s := S1) h1))) (rd arg5 (k0_off5 i) (k0_off5_inb i) (harg5.unread x2)) (rd arg6 (k0_off5 i) (k0_off5_inb i) (harg6.unread x3))).2, (diagP (View.readAt (Elt F) arg4.view (Rect.unit (s := S256x1024) ![0, 512] S256x128.size inb_S256x1024_S256x128_0_512).toLoadRect (harg4.unread x1)) (k0_pay89 (View.readAt (Elt F) arg3.view (Rect.unit (s := S16) (k0_off1 i 4#32) S1.size (k0_off1_inb i 4)).toLoadRect (harg3.unread x0) (Shape.Idx.first (s := S1) h1))) (rd arg5 (k0_off6 i) (k0_off6_inb i) (harg5.unread x2)) (rd arg6 (k0_off6 i) (k0_off6_inb i) (harg6.unread x3))).1, (diagP (View.readAt (Elt F) arg4.view (Rect.unit (s := S256x1024) ![0, 512] S256x128.size inb_S256x1024_S256x128_0_512).toLoadRect (harg4.unread x1)) (k0_pay89 (View.readAt (Elt F) arg3.view (Rect.unit (s := S16) (k0_off1 i 4#32) S1.size (k0_off1_inb i 4)).toLoadRect (harg3.unread x0) (Shape.Idx.first (s := S1) h1))) (rd arg5 (k0_off6 i) (k0_off6_inb i) (harg5.unread x2)) (rd arg6 (k0_off6 i) (k0_off6_inb i) (harg6.unread x3))).2, (diagP (View.readAt (Elt F) arg4.view (Rect.unit (s := S256x1024) ![0, 640] S256x128.size inb_S256x1024_S256x128_0_640).toLoadRect (harg4.unread x1)) (k0_pay89 (View.readAt (Elt F) arg3.view (Rect.unit (s := S16) (k0_off1 i 5#32) S1.size (k0_off1_inb i 5)).toLoadRect (harg3.unread x0) (Shape.Idx.first (s := S1) h1))) (rd arg5 (k0_off7 i) (k0_off7_inb i) (harg5.unread x2)) (rd arg6 (k0_off7 i) (k0_off7_inb i) (harg6.unread x3))).1, (diagP (View.readAt (Elt F) arg4.view (Rect.unit (s := S256x1024) ![0, 640] S256x128.size inb_S256x1024_S256x128_0_640).toLoadRect (harg4.unread x1)) (k0_pay89 (View.readAt (Elt F) arg3.view (Rect.unit (s := S16) (k0_off1 i 5#32) S1.size (k0_off1_inb i 5)).toLoadRect (harg3.unread x0) (Shape.Idx.first (s := S1) h1))) (rd arg5 (k0_off7 i) (k0_off7_inb i) (harg5.unread x2)) (rd arg6 (k0_off7 i) (k0_off7_inb i) (harg6.unread x3))).2, (diagP (View.readAt (Elt F) arg4.view (Rect.unit (s := S256x1024) ![0, 768] S256x128.size inb_S256x1024_S256x128_0_768).toLoadRect (harg4.unread x1)) (k0_pay89 (View.readAt (Elt F) arg3.view (Rect.unit (s := S16) (k0_off1 i 6#32) S1.size (k0_off1_inb i 6)).toLoadRect (harg3.unread x0) (Shape.Idx.first (s := S1) h1))) (rd arg5 (k0_off8 i) (k0_off8_inb i) (harg5.unread x2)) (rd arg6 (k0_off8 i) (k0_off8_inb i) (harg6.unread x3))).1, (diagP (View.readAt (Elt F) arg4.view (Rect.unit (s := S256x1024) ![0, 768] S256x128.size inb_S256x1024_S256x128_0_768).toLoadRect (harg4.unread x1)) (k0_pay89 (View.readAt (Elt F) arg3.view (Rect.unit (s := S16) (k0_off1 i 6#32) S1.size (k0_off1_inb i 6)).toLoadRect (harg3.unread x0) (Shape.Idx.first (s := S1) h1))) (rd arg5 (k0_off8 i) (k0_off8_inb i) (harg5.unread x2)) (rd arg6 (k0_off8 i) (k0_off8_inb i) (harg6.unread x3))).2, (diagP (View.readAt (Elt F) arg4.view (Rect.unit (s := S256x1024) ![0, 896] S256x128.size inb_S256x1024_S256x128_0_896).toLoadRect (harg4.unread x1)) (k0_pay89 (View.readAt (Elt F) arg3.view (Rect.unit (s := S16) (k0_off1 i 7#32) S1.size (k0_off1_inb i 7)).toLoadRect (harg3.unread x0) (Shape.Idx.first (s := S1) h1))) (rd arg5 (k0_off9 i) (k0_off9_inb i) (harg5.unread x2)) (rd arg6 (k0_off9 i) (k0_off9_inb i) (harg6.unread x3))).1, (diagP (View.readAt (Elt F) arg4.view (Rect.unit (s := S256x1024) ![0, 896] S256x128.size inb_S256x1024_S256x128_0_896).toLoadRect (harg4.unread x1)) (k0_pay89 (View.readAt (Elt F) arg3.view (Rect.unit (s := S16) (k0_off1 i 7#32) S1.size (k0_off1_inb i 7)).toLoadRect (harg3.unread x0) (Shape.Idx.first (s := S1) h1))) (rd arg5 (k0_off9 i) (k0_off9_inb i) (harg5.unread x2)) (rd arg6 (k0_off9 i) (k0_off9_inb i) (harg6.unread x3))).2)
    (by rw [hd0, hd1, hd2, hd3, hd4, hd5, hd6, hd7])
  exact congrArg (fun t : FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 => ([
      ⟨Rect.unit ![0, 896] S256x128.size inb_S256x1024_S256x128_0_896, k0_pay1 t.2.2.2.2.2.2.2.2.2.2.2.2.2.2.2⟩,
      ⟨Rect.unit ![0, 768] S256x128.size inb_S256x1024_S256x128_0_768, k0_pay173 t.2.2.2.2.2.2.2.2.2.2.2.2.2.1⟩,
      ⟨Rect.unit ![0, 640] S256x128.size inb_S256x1024_S256x128_0_640, k0_pay172 t.2.2.2.2.2.2.2.2.2.2.2.1⟩,
      ⟨Rect.unit ![0, 512] S256x128.size inb_S256x1024_S256x128_0_512, k0_pay171 t.2.2.2.2.2.2.2.2.2.1⟩,
      ⟨Rect.unit ![0, 384] S256x128.size inb_S256x1024_S256x128_0_384, k0_pay170 t.2.2.2.2.2.2.2.1⟩,
      ⟨Rect.unit ![0, 256] S256x128.size inb_S256x1024_S256x128_0_256, k0_pay169 t.2.2.2.2.2.1⟩,
      ⟨Rect.unit ![0, 128] S256x128.size inb_S256x1024_S256x128_0_128, k0_pay168 t.2.2.2.1⟩,
      ⟨Rect.unit ![0, 0] S256x128.size inb_S256x1024_S256x128_0_0, k0_pay167 t.2.1⟩] : List (View.Piece (Elt F) S256x1024 .bf16))) H

end Cert.SbTile

end
-- ==== Proof.SbMath.lean ====
module

public import Idealize.ShloMosaic.Lib.Pipeline.ValueKit
public import Idealize.ShloMosaic.Lib.Pointwise

@[expose] public section

noncomputable section

namespace Cert.SbMath

open Idealize.ShloMosaic

/-- The logarithm of e in base two. -/
def L2 : ℝ := (Real.log 2)⁻¹

theorem log2_pos : 0 < Real.log 2 := Real.log_pos (by norm_num)
theorem L2_pos : 0 < L2 := inv_pos.mpr log2_pos
theorem L2_nonneg : (0 : EReal) ≤ (L2 : EReal) := EReal.coe_nonneg.mpr L2_pos.le

/-- Softplus: the logarithm of one plus the exponential. -/
def sp (z : EReal) : EReal := max z 0 + Ideal.log1p (Ideal.exp (-(max z (-z))))

/-- Softplus in base two. -/
def nl (z : EReal) : EReal := max z 0 + Ideal.log (1 + Ideal.exp2 (0 - max z (-z))) * (L2 : EReal)

theorem coe_max (x y : ℝ) : ((max x y : ℝ) : EReal) = max (x : EReal) (y : EReal) := EReal.coe_strictMono.monotone.map_max

theorem top_mul_L2 : (⊤ : EReal) * (L2 : EReal) = ⊤ := EReal.top_mul_coe_of_pos L2_pos
theorem bot_mul_L2 : (⊥ : EReal) * (L2 : EReal) = ⊥ := EReal.bot_mul_coe_of_pos L2_pos

theorem log_one : Ideal.log (1 : EReal) = 0 := by
  rw [← EReal.coe_one, Ideal.log_coe]; norm_num

theorem sp_top : sp ⊤ = ⊤ := by
  simp [sp, Ideal.log1p, log_one]
theorem sp_bot : sp ⊥ = 0 := by
  simp [sp, Ideal.log1p, log_one]
theorem sp_coe (x : ℝ) : sp x = ((max x 0 + Real.log (1 + Real.exp (-|x|)) : ℝ) : EReal) := by
  have h : (0 : ℝ) < 1 + Real.exp (-|x|) := by positivity
  have e : -(max (x : EReal) (-(x : EReal))) = ((-|x| : ℝ) : EReal) := by
    rw [← EReal.coe_neg, ← coe_max]; rfl
  unfold sp Ideal.log1p
  rw [e, Ideal.exp_coe, ← EReal.coe_one, ← EReal.coe_add, Ideal.log_coe, if_neg (not_le.mpr h), ← EReal.coe_zero, ← coe_max, ← EReal.coe_add]

theorem rpow_two (y : ℝ) : Real.rpow 2 (y * L2) = Real.exp y := by
  show (2 : ℝ) ^ (y * L2) = _
  rw [Real.rpow_def_of_pos (by norm_num)]
  congr 1
  unfold L2
  field_simp [log2_pos.ne']

/-- A power of two at a multiple of the logarithm is the exponential. -/
theorem exp2_mul (y : EReal) : Ideal.exp2 (y * (L2 : EReal)) = Ideal.exp y := by
  induction y with
  | bot => rw [bot_mul_L2]; rfl
  | top => rw [top_mul_L2]; rfl
  | coe y => rw [← EReal.coe_mul, Ideal.exp2_coe, Ideal.exp_coe, rpow_two]

theorem nl_eq (z : EReal) : nl (z * (L2 : EReal)) = sp z * (L2 : EReal) := by
  induction z with
  | bot => rw [bot_mul_L2, sp_bot, zero_mul]; simp [nl, log_one]
  | top => rw [top_mul_L2, sp_top, top_mul_L2]; simp [nl, log_one]
  | coe x =>
    have h : (0 : ℝ) < 1 + Real.exp (-|x|) := by positivity
    have e : (0 : EReal) - max ((x * L2 : ℝ) : EReal) (-((x * L2 : ℝ) : EReal)) = ((-|x| : ℝ) : EReal) * (L2 : EReal) := by
      rw [← EReal.coe_neg, ← coe_max, ← EReal.coe_zero, ← EReal.coe_sub, ← EReal.coe_mul]
      have : max (x * L2) (-(x * L2)) = |x| * L2 := by
        show |x * L2| = _
        rw [abs_mul, abs_of_pos L2_pos]
      rw [this]; congr 1; ring
    rw [sp_coe, ← EReal.coe_mul]
    unfold nl
    rw [e, exp2_mul, Ideal.exp_coe, ← EReal.coe_one, ← EReal.coe_add, Ideal.log_coe, if_neg (not_le.mpr h), ← EReal.coe_zero, ← coe_max,
      ← EReal.coe_mul, ← EReal.coe_add, ← EReal.coe_mul]
    congr 1
    rw [add_mul, max_mul_of_nonneg _ _ L2_pos.le, zero_mul]

theorem sp_nonneg (z : EReal) : 0 ≤ sp z := by
  induction z with
  | bot => rw [sp_bot]
  | top => rw [sp_top]; exact le_top
  | coe x =>
    rw [sp_coe]
    refine EReal.coe_nonneg.mpr (add_nonneg (le_max_right _ _) (Real.log_nonneg ?_))
    have := Real.exp_pos (-|x|); linarith

theorem sp_neg_coe (x : ℝ) : max (-x) 0 + Real.log (1 + Real.exp (-|(-x)|)) = max x 0 + Real.log (1 + Real.exp (-|x|)) - x := by
  rw [abs_neg]
  have : max (-x) 0 = max x 0 - x := by
    rcases le_total x 0 with h | h
    · rw [max_eq_left (by linarith), max_eq_right h]; ring
    · rw [max_eq_right (by linarith), max_eq_left h]; ring
  rw [this]; ring

/-- One weight: the kernel's power of two is the reference's exponential, whatever the score and the sum. -/
theorem weight (z M : EReal) (hM : 0 ≤ M) :
    Ideal.exp2 (z * (L2 : EReal) - sp z * (L2 : EReal) - M * (L2 : EReal)) = Ideal.exp (-sp (-z) + (-(sp z + M) - -sp z)) := by
  induction z with
  | bot => rw [bot_mul_L2, sp_bot, EReal.neg_bot, sp_top]; simp
  | top =>
    rw [top_mul_L2, sp_top, top_mul_L2, EReal.neg_top, sp_bot, EReal.top_add_of_ne_bot (ne_of_gt (lt_of_lt_of_le EReal.bot_lt_zero hM))]; simp
  | coe x =>
    induction M with
    | bot => simp at hM
    | top =>
      rw [top_mul_L2, sp_coe, ← EReal.coe_neg, sp_coe]
      simp
    | coe y =>
      rw [← EReal.coe_neg, sp_coe, sp_coe, sp_neg_coe]
      set s : ℝ := max x 0 + Real.log (1 + Real.exp (-|x|))
      have e1 : (x : EReal) * (L2 : EReal) - (s : EReal) * (L2 : EReal) - (y : EReal) * (L2 : EReal) = ((x - s - y : ℝ) : EReal) * (L2 : EReal) := by
        simp only [← EReal.coe_mul, ← EReal.coe_sub]; congr 1; ring
      rw [e1, exp2_mul]
      congr 1
      simp only [← EReal.coe_add, ← EReal.coe_neg, ← EReal.coe_sub]; congr 1; ring

theorem sum_mul_L2 {ι : Type} (S : Finset ι) (f : ι → EReal) (hf : ∀ i ∈ S, 0 ≤ f i) :
    (∑ i ∈ S, f i) * (L2 : EReal) = ∑ i ∈ S, f i * (L2 : EReal) := by
  classical
  induction S using Finset.induction_on with
  | empty => simp
  | insert a S ha ih =>
    rw [Finset.sum_insert ha, Finset.sum_insert ha, EReal.right_distrib_of_nonneg (hf a (Finset.mem_insert_self a S))
      (Finset.sum_nonneg fun i hi => hf i (Finset.mem_insert_of_mem hi)), ih fun i hi => hf i (Finset.mem_insert_of_mem hi)]

theorem sum_neg {ι : Type} (S : Finset ι) (f : ι → EReal) (hf : ∀ i ∈ S, 0 ≤ f i) :
    (∑ i ∈ S, -f i) = -∑ i ∈ S, f i := by
  classical
  induction S using Finset.induction_on with
  | empty => simp
  | insert a S ha ih =>
    have h1 := hf a (Finset.mem_insert_self a S)
    have h2 : 0 ≤ ∑ i ∈ S, f i := Finset.sum_nonneg fun i hi => hf i (Finset.mem_insert_of_mem hi)
    rw [Finset.sum_insert ha, Finset.sum_insert ha, ih fun i hi => hf i (Finset.mem_insert_of_mem hi),
      EReal.neg_add (.inl (ne_of_gt (lt_of_lt_of_le EReal.bot_lt_zero h1))) (.inr (ne_of_gt (lt_of_lt_of_le EReal.bot_lt_zero h2)))]
    rfl

/-- The scale of the scores. -/
theorem scale : Ideal.ofBits .f32 0x3DB504F3#32 = ((11863283 / 134217728 : ℝ) : EReal) := by
  simp [Ideal.ofBits, Ideal.ieee, -EReal.coe_mul]
  norm_num

theorem score (X b : EReal) : X * (((11863283 / 134217728) * L2 : ℝ) : EReal) + b * (L2 : EReal)
    = (X * Ideal.ofBits .f32 0x3DB504F3#32 + b) * (L2 : EReal) := by
  rw [scale, mul_comm (X * _ + b) (L2 : EReal), EReal.left_distrib_of_nonneg_of_ne_top L2_nonneg (EReal.coe_ne_top _), EReal.coe_mul, ← mul_assoc,
    mul_comm (L2 : EReal) (X * _), mul_comm (L2 : EReal) b]

end Cert.SbMath

end
-- ==== Proof.SbPay.lean ====
module

public import proofs.«01_k».proof.Proof.SbBody
public import proofs.«01_k».proof.Proof.SbMath

@[expose] public section

set_option maxRecDepth 16384

noncomputable section

namespace Cert.SbTile

open Cert.KernelIdeal Cert.KernelIdeal.Gen Cert.SbMath
open Idealize.ShloMosaic Idealize.ShloMosaic.TcCoe Idealize.SL.Sem

theorem named_L2 : (Named.named (F := Ideal) (φ := .f32) κ "log2e" 0x3FB8AA3B#32 : EReal) = (L2 : EReal) := by
  exact IdealRules.named_const.ideal_named_scalar κ "log2e" _ _ rfl
theorem named_scale : (Named.named (F := Ideal) (φ := .f32) κ "scale_log2e" 0x3E0293EE#32 : EReal) = (((11863283 / 134217728) * L2 : ℝ) : EReal) := by
  exact IdealRules.named_const.ideal_named_scalar κ "scale_log2e" _ _ rfl

theorem pay2_at (q : Vec Ideal S256x128 .bf16) (b : EReal) (k : Vec Ideal S256x128 .f32) (r j : Fin 256) :
    k0_pay2 (F := Ideal) q (k0_pay89 (F := Ideal) b) k (ix2 r j)
      = ((∑ x : Fin 128, q (ix2 r x) * k (ix2 j x)) * Ideal.ofBits .f32 0x3DB504F3#32 + b) * (L2 : EReal) := by
  rw [← score, ← named_scale, ← named_L2]
  pointwise [k0_pay2, k0_pay89]

theorem pay11_at (z : FVec Ideal S256x256 .f32) (r j : Fin 256) : k0_pay11 (F := Ideal) z (ix2 r j) = nl (z (ix2 r j)) := by
  unfold nl
  rw [← named_L2]
  pointwise [k0_pay11]
  rfl

theorem pay88_at (t j : Fin 256) : k0_pay88 (F := Ideal) (ix2 t j) = if j.val < t.val then (1 : EReal) else 0 := by
  pointwise [k0_pay88]
  have h : IntOp.cmpi CmpIPredicate.sgt (BitVec.ofNat 32 t.val) (BitVec.ofNat 32 j.val) = if j.val < t.val then 1#1 else 0#1 := by
    rw [WordCmp.cmpi_sgt_ofNat (by omega) (by omega)]
    by_cases h : j.val < t.val <;> simp [h]
  rw [h]
  split_ifs
  · show (((1#32 : BitVec 32).toInt : ℝ) : EReal) = 1
    norm_num
  · show (((0#32 : BitVec 32).toInt : ℝ) : EReal) = 0
    norm_num

theorem maskD_at (r j : Fin 256) : maskD (ix2 r j) = if j.val < r.val then 1#1 else 0#1 := by
  pointwise [maskD, k0_pay113]
  rw [WordCmp.cmpi_slt_ofNat (by omega) (by omega)]
  by_cases h : j.val < r.val <;> simp [h]

theorem pay12_at (u : FVec Ideal S256x256 .bf16) (c : FVec Ideal S256x1 .f32) (z : FVec Ideal S256x256 .f32) (r j : Fin 256) :
    k0_pay12 (F := Ideal) u c z (ix2 r j)
      = Ideal.exp2 (z (ix2 r j) - nl (z (ix2 r j)) - (∑ x : Fin 256, nl (z (ix2 r x)) * u (ix2 x j) + c (ix2 r 0))) := by
  simp only [← pay11_at]
  pointwise [k0_pay12]
  rfl

theorem pay13_at  (c : FVec Ideal S256x1 .f32) (z : FVec Ideal S256x256 .f32) (r : Fin 256) :
    k0_pay13 (F := Ideal) c z (ix2 r 0) = (c (ix2 r 0) : EReal) + ∑ x : Fin 256, z (ix2 r x) := by
  pointwise [k0_pay13]
theorem pay39_at  (a : FVec Ideal S256x128 .f32) (w : FVec Ideal S256x256 .f32) (v : Vec Ideal S256x128 .f32) (r : Fin 256) (d : Fin 128) :
    k0_pay39 (F := Ideal) a w v (ix2 r d) = (a (ix2 r d) : EReal) + ∑ x : Fin 256, w (ix2 r x) * v (ix2 x d) := by
  pointwise [k0_pay39]
theorem pay122_at (m : IVec S256x256 1) (z : FVec Ideal S256x256 .f32) (r j : Fin 256) :
    k0_pay122 (F := Ideal) m z (ix2 r j) = Scalar.select (m (ix2 r j)) (nl (z (ix2 r j))) 0 := by
  unfold nl
  rw [← named_L2]
  pointwise [k0_pay122]
  rfl
theorem pay123_at (u : FVec Ideal S256x256 .bf16) (c : FVec Ideal S256x1 .f32) (m : IVec S256x256 1) (z n : FVec Ideal S256x256 .f32) (r j : Fin 256) :
    k0_pay123 (F := Ideal) u c m z n (ix2 r j) = Scalar.select (m (ix2 r j))
      (Ideal.exp2 (z (ix2 r j) - n (ix2 r j) - (∑ x : Fin 256, n (ix2 r x) * u (ix2 x j) + c (ix2 r 0)))) 0 := by
  pointwise [k0_pay123]
  rfl
theorem pay97_at (r : Fin 256) : k0_pay97 (F := Ideal) (ix2 r 0) = (0 : EReal) := by
  pointwise [k0_pay97]
theorem pay98_at (r : Fin 256) (d : Fin 128) : k0_pay98 (F := Ideal) (ix2 r d) = (0 : EReal) := by
  pointwise [k0_pay98]

theorem pay114_eq (q b k) : k0_pay114 (F := Ideal) q b k = k0_pay2 (F := Ideal) q b k := rfl
theorem pay124_eq (a b) : k0_pay124 (F := Ideal) a b = k0_pay13 (F := Ideal) a b := rfl
theorem pay152_eq (a b c) : k0_pay152 (F := Ideal) a b c = k0_pay39 (F := Ideal) a b c := rfl
end Cert.SbTile

end
-- ==== Proof.SbVal.lean ====
module

public import proofs.«01_k».proof.Proof.SbPay

@[expose] public section

set_option maxRecDepth 16384

noncomputable section

namespace Cert.SbTile

open Cert.KernelIdeal Cert.KernelIdeal.Gen Cert.SbMath
open Idealize.ShloMosaic Idealize.ShloMosaic.TcCoe Idealize.SL.Sem

/-- What a key before the query at position `R` takes of the running sum. -/
def keep (R : ℕ) (z : ℕ → EReal) (t : ℕ) : EReal := if t < R then sp (z t) else 0

/-- The weight of a key for the query at position `R`, when the keys end at `E`. -/
def wt (E R : ℕ) (z : ℕ → EReal) (t : ℕ) : EReal :=
  if t < R then Ideal.exp2 (z t * (L2 : EReal) - sp (z t) * (L2 : EReal) - (∑ s ∈ Finset.Ico (t + 1) E, keep R z s) * (L2 : EReal)) else 0

theorem keep_nonneg (R : ℕ) (z : ℕ → EReal) (t : ℕ) : 0 ≤ keep R z t := by
  unfold keep; split_ifs
  · exact sp_nonneg _
  · exact le_refl _

theorem blk_full (g : ℕ → EReal) (B : ℕ) : ∑ x : Fin 256, g (B + x.val) = ∑ t ∈ Finset.Ico B (B + 256), g t := by
  rw [Fin.sum_univ_eq_sum_range (fun x => g (B + x)) 256, Finset.sum_Ico_eq_sum_range, Nat.add_sub_cancel_left]

theorem blk_tail (g : ℕ → EReal) (B j : ℕ) (hj : j < 256) :
    ∑ x : Fin 256, g (B + x.val) * (if j < x.val then (1 : EReal) else 0) = ∑ t ∈ Finset.Ico (B + j + 1) (B + 256), g t := by
  have e : ∀ x : ℕ, g (B + x) * (if j < x then (1 : EReal) else 0) = if B + j + 1 ≤ B + x then g (B + x) else 0 := fun x => by
    by_cases h : j < x
    · rw [if_pos h, if_pos (by omega), mul_one]
    · rw [if_neg h, if_neg (by omega), mul_zero]
  simp only [e]
  rw [blk_full (fun t => if B + j + 1 ≤ t then g t else 0) B, ← Finset.sum_filter]
  refine Finset.sum_congr (Finset.ext fun t => ?_) fun _ _ => rfl
  simp only [Finset.mem_filter, Finset.mem_Ico]
  omega

theorem add_mul_L2 (x y : EReal) (hx : 0 ≤ x) (hy : 0 ≤ y) : x * (L2 : EReal) + y * (L2 : EReal) = (x + y) * (L2 : EReal) :=
  (EReal.right_distrib_of_nonneg hx hy).symm

theorem keep_sum_nonneg (R : ℕ) (z : ℕ → EReal) (S : Finset ℕ) : 0 ≤ ∑ t ∈ S, keep R z t :=
  Finset.sum_nonneg fun _ _ => keep_nonneg R z _

/-- A tile's part of the running sum: the block from `B`, in base two. -/
theorem tile_sum (R : ℕ) (z : ℕ → EReal) (B : ℕ) :
    ∑ x : Fin 256, keep R z (B + x.val) * (L2 : EReal) = (∑ t ∈ Finset.Ico B (B + 256), keep R z t) * (L2 : EReal) := by
  rw [sum_mul_L2 _ _ fun i _ => keep_nonneg R z i, ← blk_full (fun t => keep R z t * (L2 : EReal))]

/-- The sum to the right of a key within a tile. -/
theorem tile_tail (R : ℕ) (z : ℕ → EReal) (B j : ℕ) (hj : j < 256) :
    ∑ x : Fin 256, keep R z (B + x.val) * (L2 : EReal) * (if j < x.val then (1 : EReal) else 0)
      = (∑ t ∈ Finset.Ico (B + j + 1) (B + 256), keep R z t) * (L2 : EReal) := by
  rw [sum_mul_L2 _ _ fun i _ => keep_nonneg R z i, ← blk_tail (fun t => keep R z t * (L2 : EReal)) B j hj]

section Row
variable (q : Vec Ideal S256x128 .bf16) (b : EReal) (r : Fin 256) (d : Fin 128) (I : Fin 8) (z v : ℕ → EReal)

theorem diag_C (k vv : Vec Ideal S256x128 .f32)
    (hk : ∀ j : Fin 256, k0_pay2 (F := Ideal) q (k0_pay89 (F := Ideal) b) k (ix2 r j) = z (256 * I.val + j.val) * (L2 : EReal)) :
    (diagP (F := Ideal) q (k0_pay89 (F := Ideal) b) k vv).1 (ix2 r 0)
      = (∑ t ∈ Finset.Ico (256 * I.val) (256 * I.val + 256), keep (256 * I.val + r.val) z t) * (L2 : EReal) := by
  show k0_pay124 (F := Ideal) _ _ (ix2 r 0) = _
  rw [pay124_eq, pay13_at, pay97_at, zero_add, ← tile_sum]
  refine Finset.sum_congr rfl fun x _ => ?_
  rw [pay122_at, maskD_at, pay114_eq, hk, nl_eq]
  unfold keep
  by_cases h : x.val < r.val
  · rw [if_pos h, if_pos (by omega)]; rfl
  · rw [if_neg h, if_neg (by omega), zero_mul]; rfl

theorem diag_A (k vv : Vec Ideal S256x128 .f32)
    (hk : ∀ j : Fin 256, k0_pay2 (F := Ideal) q (k0_pay89 (F := Ideal) b) k (ix2 r j) = z (256 * I.val + j.val) * (L2 : EReal))
    (hv : ∀ j : Fin 256, vv (ix2 j d) = v (256 * I.val + j.val)) :
    (diagP (F := Ideal) q (k0_pay89 (F := Ideal) b) k vv).2 (ix2 r d)
      = ∑ t ∈ Finset.Ico (256 * I.val) (256 * I.val + 256), wt (256 * I.val + 256) (256 * I.val + r.val) z t * v t := by
  show k0_pay152 (F := Ideal) _ _ _ (ix2 r d) = _
  rw [pay152_eq, pay39_at, pay98_at, zero_add, ← blk_full (fun t => wt (256 * I.val + 256) (256 * I.val + r.val) z t * v t)]
  refine Finset.sum_congr rfl fun j _ => ?_
  rw [hv]
  congr 1
  rw [pay123_at, maskD_at]
  unfold wt
  by_cases h : j.val < r.val
  · rw [if_pos h, if_pos (by omega)]
    have e : ∀ x : Fin 256, k0_pay122 (F := Ideal) maskD (k0_pay114 (F := Ideal) q (k0_pay89 (F := Ideal) b) k) (ix2 r x)
        = keep (256 * I.val + r.val) z (256 * I.val + x.val) * (L2 : EReal) := fun x => by
      rw [pay122_at, maskD_at, pay114_eq, hk, nl_eq]
      unfold keep
      by_cases h : x.val < r.val
      · rw [if_pos h, if_pos (by omega)]; rfl
      · rw [if_neg h, if_neg (by omega), zero_mul]; rfl
    have e' : (∑ x : Fin 256, k0_pay122 (F := Ideal) maskD (k0_pay114 (F := Ideal) q (k0_pay89 (F := Ideal) b) k) (ix2 r x) * k0_pay88 (F := Ideal) (ix2 x j))
        = (∑ t ∈ Finset.Ico (256 * I.val + j.val + 1) (256 * I.val + 256), keep (256 * I.val + r.val) z t) * (L2 : EReal) := by
      rw [← tile_tail _ _ _ _ j.isLt]
      exact Finset.sum_congr rfl fun x _ => by rw [e, pay88_at]
    rw [e', pay97_at, add_zero, e, pay114_eq, hk]
    have hs : keep (256 * I.val + r.val) z (256 * I.val + j.val) = sp (z (256 * I.val + j.val)) := if_pos (by omega)
    rw [hs]
    rfl
  · rw [if_neg h, if_neg (by omega)]; rfl

/-- A head's running sum and weighted values after `n` tiles, at one row and one column: the sums over the keys from the
    block reached to the end of the diagonal block. -/
theorem loop_at (K W : ℕ → Vec Ideal S256x128 .f32) (k0 v0 : Vec Ideal S256x128 .f32)
    (hk0 : ∀ j : Fin 256, k0_pay2 (F := Ideal) q (k0_pay89 (F := Ideal) b) k0 (ix2 r j) = z (256 * I.val + j.val) * (L2 : EReal))
    (hv0 : ∀ j : Fin 256, v0 (ix2 j d) = v (256 * I.val + j.val))
    (hK : ∀ n, n < I.val → ∀ j : Fin 256, k0_pay2 (F := Ideal) q (k0_pay89 (F := Ideal) b) (K n) (ix2 r j) = z (256 * (I.val - 1 - n) + j.val) * (L2 : EReal))
    (hW : ∀ n, n < I.val → ∀ j : Fin 256, W n (ix2 j d) = v (256 * (I.val - 1 - n) + j.val)) (n : ℕ) (hn : n ≤ I.val) :
    (loopP (F := Ideal) q (k0_pay89 (F := Ideal) b) K W (diagP (F := Ideal) q (k0_pay89 (F := Ideal) b) k0 v0) n).1 (ix2 r 0)
        = (∑ t ∈ Finset.Ico (256 * (I.val - n)) (256 * I.val + 256), keep (256 * I.val + r.val) z t) * (L2 : EReal)
    ∧ (loopP (F := Ideal) q (k0_pay89 (F := Ideal) b) K W (diagP (F := Ideal) q (k0_pay89 (F := Ideal) b) k0 v0) n).2 (ix2 r d)
        = ∑ t ∈ Finset.Ico (256 * (I.val - n)) (256 * I.val + 256), wt (256 * I.val + 256) (256 * I.val + r.val) z t * v t := by
  induction n with
  | zero => exact ⟨diag_C q b r I z k0 v0 hk0, diag_A q b r d I z v k0 v0 hk0 hv0⟩
  | succ n ih =>
    obtain ⟨ih1, ih2⟩ := ih (by omega)
    have hn' : n < I.val := by omega
    have eB : 256 * (I.val - (n + 1)) = 256 * (I.val - 1 - n) := by omega
    have eE : 256 * (I.val - n) = 256 * (I.val - 1 - n) + 256 := by omega
    rw [eE] at ih1 ih2
    rw [eB]
    have hle : 256 * (I.val - 1 - n) + 256 ≤ 256 * I.val := by omega
    have hK' := hK n hn'
    have hW' := hW n hn'
    generalize 256 * (I.val - 1 - n) = B at *
    have hs : ∀ x : Fin 256, nl (k0_pay2 (F := Ideal) q (k0_pay89 (F := Ideal) b) (K n) (ix2 r x))
        = keep (256 * I.val + r.val) z (B + x.val) * (L2 : EReal) := fun x => by
      rw [hK', nl_eq, keep, if_pos (by omega)]
    constructor
    · show k0_pay13 (F := Ideal) _ _ (ix2 r 0) = _
      rw [pay13_at, ih1]
      simp only [pay11_at, hs]
      rw [tile_sum, add_mul_L2 _ _ (keep_sum_nonneg _ _ _) (keep_sum_nonneg _ _ _), add_comm,
        Finset.sum_Ico_consecutive _ (by omega) (by omega)]
    · show k0_pay39 (F := Ideal) _ _ _ (ix2 r d) = _
      rw [pay39_at, ih2, ← Finset.sum_Ico_consecutive (fun t => wt (256 * I.val + 256) (256 * I.val + r.val) z t * v t)
        (show B ≤ B + 256 by omega) (show B + 256 ≤ 256 * I.val + 256 by omega), add_comm]
      congr 1
      rw [← blk_full (fun t => wt (256 * I.val + 256) (256 * I.val + r.val) z t * v t)]
      refine Finset.sum_congr rfl fun j _ => ?_
      rw [hW']
      congr 1
      rw [pay12_at, ih1]
      simp only [hs, pay88_at]
      rw [tile_tail _ _ _ _ j.isLt, add_mul_L2 _ _ (keep_sum_nonneg _ _ _) (keep_sum_nonneg _ _ _),
        Finset.sum_Ico_consecutive _ (by omega) (by omega), hK']
      unfold wt
      rw [if_pos (show B + j.val < 256 * I.val + r.val by omega), keep, if_pos (show B + j.val < 256 * I.val + r.val by omega)]

end Row

/-- The keys a query does not reach weigh nothing: the sum over a block's reach is the sum over all keys. -/
theorem reach (E R T : ℕ) (z v : ℕ → EReal) (hE : R ≤ E) (hT : E ≤ T) :
    ∑ t ∈ Finset.Ico 0 E, wt E R z t * v t = ∑ t ∈ Finset.range T, wt T R z t * v t := by
  rw [Finset.range_eq_Ico, ← Finset.sum_Ico_consecutive (fun t => wt T R z t * v t) (Nat.zero_le E) hT,
    Finset.sum_eq_zero (s := Finset.Ico E T), add_zero]
  · refine Finset.sum_congr rfl fun t _ => ?_
    congr 1
    unfold wt
    by_cases h : t < R
    · rw [if_pos h, if_pos h, ← Finset.sum_Ico_consecutive (keep R z) (show t + 1 ≤ E by omega) hT,
        Finset.sum_eq_zero (s := Finset.Ico E T), add_zero]
      intro s hs
      rw [Finset.mem_Ico] at hs
      exact if_neg (by omega)
    · rw [if_neg h, if_neg h]
  · intro t ht
    rw [Finset.mem_Ico] at ht
    rw [wt, if_neg (by omega), zero_mul]

end Cert.SbTile

end
-- ==== Proof.SbRef.lean ====
module

public import proofs.«01_k».proof.Proof.Gen.ReferenceIdeal
public import proofs.«01_k».proof.Proof.Gen.ReferenceIdeal.Run
public import proofs.«01_k».proof.Proof.SbVal
public import Idealize.ShloMosaic.Lib.Pipeline.ValueKit
public import Idealize.ShloMosaic.Lib.Pointwise

@[expose] public section

set_option maxRecDepth 16384

noncomputable section

namespace Cert.SbRef

open Cert.ReferenceIdeal Cert.ReferenceIdeal.Gen Cert.SbMath
open Idealize.ShloMosaic Idealize.ShloMosaic.TcCoe Idealize.SL.Sem

/-- The scores. -/
def ZZ (q : FVec Ideal S8192x2048 .bf16) (k : FVec Ideal S8192x2048 .f32) (b : FVec Ideal S16 .f32) : FVec Ideal S4x16x2048x2048 .f32 :=
  addf (mulf (Host.dotGeneral dot_S4x2048x16x128_S4x2048x16x128_S4x16x2048x2048_3_3_1_1_02_02 none (shapeCast _ (extf .f32 q bitsLt_bf16_f32) shapeCasts_S8192x2048_S4x2048x16x128) (shapeCast _ k shapeCasts_S8192x2048_S4x2048x16x128)) (broadcastInDim S4x16x2048x2048 ![] bcast_S_S4x16x2048x2048 (constant S_ .f32 0x3DB504F3#32))) (broadcastInDim S4x16x2048x2048 ![0, 1, 2, 3] bcast_S1x16x1x1_S4x16x2048x2048_0_1_2_3 (broadcastInDim S1x16x1x1 ![1] bcast_S16_S1x16x1x1_1 b))

/-- The mask: a key before its query. -/
def MASK : IVec S2048x2048 1 := cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))

/-- Softplus, as the reference spells it. -/
def SP (x : FVec Ideal S4x16x2048x2048 .f32) : FVec Ideal S4x16x2048x2048 .f32 := select (cmpf .une (subf x (broadcastInDim S4x16x2048x2048 ![] bcast_S_S4x16x2048x2048 (constant S_ .f32 0x00000000#32))) (subf x (broadcastInDim S4x16x2048x2048 ![] bcast_S_S4x16x2048x2048 (constant S_ .f32 0x00000000#32)))) (addf x (broadcastInDim S4x16x2048x2048 ![] bcast_S_S4x16x2048x2048 (constant S_ .f32 0x00000000#32))) (addf (maximumf x (broadcastInDim S4x16x2048x2048 ![] bcast_S_S4x16x2048x2048 (constant S_ .f32 0x00000000#32))) (Host.log1p (Host.exp (Host.negf (Host.absf (subf x (broadcastInDim S4x16x2048x2048 ![] bcast_S_S4x16x2048x2048 (constant S_ .f32 0x00000000#32))))))))

/-- The masked logarithms of the kept shares. -/
def LK (z : FVec Ideal S4x16x2048x2048 .f32) : FVec Ideal S4x16x2048x2048 .f32 := select (broadcastInDim S4x16x2048x2048 ![2, 3] bcast_S2048x2048_S4x16x2048x2048_2_3 MASK) (Host.negf (SP (Host.negf (Host.negf z)))) (broadcastInDim S4x16x2048x2048 ![] bcast_S_S4x16x2048x2048 (id (constant S_ .f32 0x00000000#32)))

/-- Sums from the right. -/
def WIN (x : FVec Ideal S4x16x2048x2048 .f32) : FVec Ideal S4x16x2048x2048 .f32 := Host.reduceWindowAdd ![1, 1, 1, 2048] ![1, 1, 1, 1] ![0, 0, 0, 0] ![0, 0, 0, 2047] x (broadcastInDim S_ ![] bcast_S_S_ (constant S_ .f32 0x00000000#32)) reduceWindows_S4x16x2048x2048_S4x16x2048x2048_w1s1p0_0_w1s1p0_0_w1s1p0_0_w2048s1p0_2047 h_S_

/-- The weights. -/
def WW (z : FVec Ideal S4x16x2048x2048 .f32) : FVec Ideal S4x16x2048x2048 .f32 := select (broadcastInDim S4x16x2048x2048 ![2, 3] bcast_S2048x2048_S4x16x2048x2048_2_3 MASK) (Host.exp (addf (Host.negf (SP (Host.negf z))) (subf (WIN (LK z)) (LK z)))) (broadcastInDim S4x16x2048x2048 ![] bcast_S_S4x16x2048x2048 (id (constant S_ .f32 0x00000000#32)))

/-- The weighted values. -/
def OUT (v : FVec Ideal S8192x2048 .f32) (w : FVec Ideal S4x16x2048x2048 .f32) : FVec Ideal S8192x2048 .bf16 := truncf .bf16 (shapeCast _ (transpose S4x2048x16x128 [0, 3, 1, 2] (Host.dotGeneral dot_S4x2048x16x128_S4x16x2048x2048_S4x16x128x2048_1_3_3_2_02_01 none (shapeCast _ v shapeCasts_S8192x2048_S4x2048x16x128) w) transposes_S4x16x128x2048_S4x2048x16x128_0_3_1_2) shapeCasts_S4x2048x16x128_S8192x2048) bitsLt_bf16_f32

/-- The reference's result is these steps in turn. -/
theorem res_eq (m : (ℓ : Loc nD τ sig) → Buf (Elt Ideal) ℓ) (c : Dev nD) :
    Cert.ReferenceIdeal.Value.res_main_v28 m c = OUT (m ((c.tc : Thread nD τ).loc main_arg2))
      (WW (ZZ (m ((c.tc : Thread nD τ).loc main_arg0)) (m ((c.tc : Thread nD τ).loc main_arg1)) (m ((c.tc : Thread nD τ).loc main_arg3)))) := rfl

theorem ZZ_at (q : FVec Ideal S8192x2048 .bf16) (k : FVec Ideal S8192x2048 .f32) (b : FVec Ideal S16 .f32) (a : Fin 4) (h : Fin 16) (r t : Fin 2048) :
    ZZ q k b (ix4 a h r t) = (∑ d : Fin 128, q (ix2 ⟨a.val * 2048 + r.val, by omega⟩ ⟨h.val * 128 + d.val, by omega⟩)
        * k (ix2 ⟨a.val * 2048 + t.val, by omega⟩ ⟨h.val * 128 + d.val, by omega⟩)) * Ideal.ofBits .f32 0x3DB504F3#32 + b (ix1 h) := by
  pointwise [ZZ]

theorem SP_at (x : FVec Ideal S4x16x2048x2048 .f32) (a : Fin 4) (h : Fin 16) (r t : Fin 2048) : SP x (ix4 a h r t) = sp (x (ix4 a h r t)) := by
  pointwise [SP]
  unfold sp
  simp
  rfl

theorem MASK_at (r t : Fin 2048) : MASK (ix2 r t) = if t.val < r.val then 1#1 else 0#1 := by
  pointwise [MASK]
  rw [WordCmp.cmpi_slt_ofNat (by omega) (by omega)]
  by_cases h : t.val < r.val <;> simp [h]

theorem OUT_at (v : FVec Ideal S8192x2048 .f32) (w : FVec Ideal S4x16x2048x2048 .f32) (a : Fin 4) (h : Fin 16) (r : Fin 2048) (d : Fin 128) :
    OUT v w (ix2 ⟨a.val * 2048 + r.val, by omega⟩ ⟨h.val * 128 + d.val, by omega⟩)
      = ∑ x : Fin 2048, v (ix2 ⟨a.val * 2048 + x.val, by omega⟩ ⟨h.val * 128 + d.val, by omega⟩) * w (ix4 a h r x) := by
  pointwise [OUT]

theorem LK_at (z : FVec Ideal S4x16x2048x2048 .f32) (a : Fin 4) (h : Fin 16) (r t : Fin 2048) :
    LK z (ix4 a h r t) = if t.val < r.val then -sp (z (ix4 a h r t)) else 0 := by
  have e : SP (Host.negf (Host.negf z)) (ix4 a h r t) = sp (z (ix4 a h r t)) := by
    rw [SP_at]
    congr 1
    exact neg_neg (z (ix4 a h r t))
  pointwise [LK]
  rw [MASK_at, e]
  by_cases h : t.val < r.val
  · rw [if_pos h, if_pos h]; rfl
  · rw [if_neg h, if_neg h]
    show constant (F := Ideal) S_ .f32 0#32 ix0 = (0 : EReal)
    pointwise []

theorem foldl_sum {ι : Type} (g : ι → EReal) (l : List ι) (v : EReal) : l.foldl (fun r n => r + g n) v = v + (l.map g).sum := by
  induction l generalizing v with
  | nil => simp
  | cons n l ih => rw [List.foldl_cons, ih, List.map_cons, List.sum_cons, add_assoc]

/-- A windowed sum is the initial value plus the sum over the window's positions. -/
theorem window_sum {s t : Shape} (window strides lo hi : Fin s.rank → Nat) (h : s.ReduceWindows window strides lo hi t)
    (x : s.Idx → EReal) (init : EReal) (j : t.Idx) :
    Ideal.hostReduceWindowAdd window strides lo hi h x init j
      = init + ∑ i : (⟨s.rank, window⟩ : Shape).Idx,
          (if hin : ∀ a, lo a ≤ (j (a.cast h.1.symm)).val * strides a + (i a).val ∧ (j (a.cast h.1.symm)).val * strides a + (i a).val - lo a < s.size a
            then x (fun a => ⟨(j (a.cast h.1.symm)).val * strides a + (i a).val - lo a, (hin a).2⟩) else init) := by
  unfold Ideal.hostReduceWindowAdd Host.reduceWindow
  dsimp only
  rw [foldl_sum, ← Fin.sum_univ_def]
  congr 1
  rw [← Equiv.sum_comp (⟨s.rank, window⟩ : Shape).rowMajor]
  simp only [Equiv.symm_apply_apply]

theorem reduceWindowAdd_ideal {s t : Shape} (window strides lo hi : Fin s.rank → Nat) (h : s.ReduceWindows window strides lo hi t)
    (k : HostSchedule) (x : s.Idx → EReal) (init : EReal) (j : t.Idx) :
    FloatOps.hostReduceWindowAdd (F := Ideal) (φ := .f32) window strides lo hi h k x init j = Ideal.hostReduceWindowAdd window strides lo hi h x init j := rfl

/-- The window's sum is the sum over the keys at or after the position. -/
theorem WIN_at (x : FVec Ideal S4x16x2048x2048 .f32) (a : Fin 4) (h : Fin 16) (r t : Fin 2048) :
    WIN x (ix4 a h r t) = ∑ n : Fin 2048, if hn : t.val + n.val < 2048 then x (ix4 a h r ⟨t.val + n.val, hn⟩) else 0 := by
  have hv : (broadcastInDim (α := EReal) S_ ![] bcast_S_S_ (constant (F := Ideal) S_ .f32 0x00000000#32)) (Shape.Idx.first h_S_) = 0 := by
    pointwise []
  have hw := window_sum _ _ _ _ reduceWindows_S4x16x2048x2048_S4x16x2048x2048_w1s1p0_0_w1s1p0_0_w1s1p0_0_w2048s1p0_2047 x
    ((broadcastInDim (α := EReal) S_ ![] bcast_S_S_ (constant (F := Ideal) S_ .f32 0x00000000#32)) (Shape.Idx.first h_S_)) (ix4 a h r t)
  rw [hv, zero_add] at hw
  have hx : WIN x (ix4 a h r t) = Ideal.hostReduceWindowAdd ![1, 1, 1, 2048] ![1, 1, 1, 1] ![0, 0, 0, 0] ![0, 0, 0, 2047]
      reduceWindows_S4x16x2048x2048_S4x16x2048x2048_w1s1p0_0_w1s1p0_0_w1s1p0_0_w2048s1p0_2047 x 0 (ix4 a h r t) := by
    rw [← hv]
    unfold WIN Host.reduceWindowAdd
    exact reduceWindowAdd_ideal _ _ _ _ _ _ _ _ _
  rw [hx, hw]
  refine (sum_idx4 (n0 := 1) (n1 := 1) (n2 := 1) (n3 := 2048) _).trans ?_
  simp only [Fin.sum_univ_one]
  refine Finset.sum_congr rfl fun n _ => ?_
  by_cases hn : t.val + n.val < 2048
  · rw [dif_pos hn, dif_pos]
    · refine congrArg x ?_
      funext i
      fin_cases i <;> refine Fin.ext ?_
      · show a.val * 1 + 0 - 0 = a.val; omega
      · show h.val * 1 + 0 - 0 = h.val; omega
      · show r.val * 1 + 0 - 0 = r.val; omega
      · show t.val * 1 + n.val - 0 = t.val + n.val; omega
    · intro i
      fin_cases i
      · show 0 ≤ a.val * 1 + 0 ∧ a.val * 1 + 0 - 0 < 4; omega
      · show 0 ≤ h.val * 1 + 0 ∧ h.val * 1 + 0 - 0 < 16; omega
      · show 0 ≤ r.val * 1 + 0 ∧ r.val * 1 + 0 - 0 < 2048; omega
      · show 0 ≤ t.val * 1 + n.val ∧ t.val * 1 + n.val - 0 < 2048; omega
  · rw [dif_neg hn, dif_neg]
    intro hin
    have h3 : 0 ≤ t.val * 1 + n.val ∧ t.val * 1 + n.val - 0 < 2048 := hin 3
    omega

/-- The scores of one query against the keys, as a sequence. -/
def seqZ (z : FVec Ideal S4x16x2048x2048 .f32) (a : Fin 4) (h : Fin 16) (r : Fin 2048) (t : ℕ) : EReal :=
  if ht : t < 2048 then z (ix4 a h r ⟨t, ht⟩) else 0

theorem seqZ_at (z : FVec Ideal S4x16x2048x2048 .f32) (a : Fin 4) (h : Fin 16) (r : Fin 2048) (t : Fin 2048) :
    seqZ z a h r t.val = z (ix4 a h r t) := dif_pos t.isLt

open Cert.SbTile in
/-- The windowed sum of the masked logarithms: minus what the keys at or after the position take. -/
theorem WIN_LK (z : FVec Ideal S4x16x2048x2048 .f32) (a : Fin 4) (h : Fin 16) (r t : Fin 2048) :
    WIN (LK z) (ix4 a h r t) = -∑ s ∈ Finset.Ico t.val 2048, keep r.val (seqZ z a h r) s := by
  rw [WIN_at]
  have e : ∀ n : Fin 2048, (if hn : t.val + n.val < 2048 then LK z (ix4 a h r ⟨t.val + n.val, hn⟩) else 0)
      = (fun n : ℕ => if t.val + n < 2048 then -keep r.val (seqZ z a h r) (t.val + n) else 0) n.val := fun n => by
    dsimp only
    by_cases hn : t.val + n.val < 2048
    · rw [dif_pos hn, if_pos hn, LK_at, keep]
      show (if t.val + n.val < r.val then _ else _) = _
      split_ifs with hr
      · rw [show seqZ z a h r (t.val + n.val) = _ from dif_pos hn]
      · rw [neg_zero]
    · rw [dif_neg hn, if_neg hn]
  rw [Finset.sum_congr rfl fun n _ => e n, Fin.sum_univ_eq_sum_range (fun n : ℕ => if t.val + n < 2048 then -keep r.val (seqZ z a h r) (t.val + n) else 0) 2048,
    ← sum_neg _ _ fun s _ => keep_nonneg _ _ _, Finset.sum_Ico_eq_sum_range, ← Finset.sum_filter]
  refine Finset.sum_congr (Finset.ext fun n => ?_) fun _ _ => rfl
  simp only [Finset.mem_filter, Finset.mem_range]
  omega

open Cert.SbTile in
/-- The reference's weight of a key is the weight the running sums give. -/
theorem WW_at (z : FVec Ideal S4x16x2048x2048 .f32) (a : Fin 4) (h : Fin 16) (r t : Fin 2048) :
    WW z (ix4 a h r t) = wt 2048 r.val (seqZ z a h r) t.val := by
  have e : SP (Host.negf z) (ix4 a h r t) = sp (-z (ix4 a h r t)) := by
    rw [SP_at]; rfl
  have main : WW z (ix4 a h r t) = Scalar.select (MASK (ix2 r t)) (Ideal.exp (-SP (Host.negf z) (ix4 a h r t) + (WIN (LK z) (ix4 a h r t) - LK z (ix4 a h r t)))) (0 : EReal) := by
    pointwise [WW]
    refine congrArg (Scalar.select _ _) ?_
    show constant (F := Ideal) S_ .f32 0#32 ix0 = (0 : EReal)
    pointwise []
  rw [main, MASK_at, e, WIN_LK, LK_at, wt, seqZ_at]
  by_cases ht : t.val < r.val
  · rw [if_pos ht, if_pos ht, if_pos ht, weight _ _ (keep_sum_nonneg _ _ _), Finset.sum_eq_sum_Ico_succ_bot t.isLt]
    rw [show keep r.val (seqZ z a h r) t.val = sp (z (ix4 a h r t)) from by rw [keep, if_pos ht, seqZ_at]]
    rfl
  · simp only [if_neg ht]; rfl

end Cert.SbRef

end
-- ==== Proof.SbHead.lean ====
module

public import proofs.«01_k».proof.Proof.SbRef

@[expose] public section

set_option maxRecDepth 16384

noncomputable section

namespace Cert.SbTile

open Cert.KernelIdeal Cert.KernelIdeal.Gen Cert.SbMath Cert.SbRef
open Idealize.ShloMosaic Idealize.ShloMosaic.TcCoe Idealize.SL.Sem

/-- The head a tile's columns belong to. -/
def hd (g : Fin 2) (s : Fin 8) : Fin 16 := ⟨8 * g.val + s.val, by omega⟩
/-- A query's position in its batch row. -/
def qpos (I : Fin 8) (r : Fin 256) : Fin 2048 := ⟨256 * I.val + r.val, by omega⟩
/-- A position's row of the arrays. -/
def row (a : Fin 4) (t : Fin 2048) : Fin 8192 := ⟨a.val * 2048 + t.val, by omega⟩
/-- A head's column of the arrays. -/
def col (h : Fin 16) (d : Fin 128) : Fin 2048 := ⟨h.val * 128 + d.val, by omega⟩
/-- A column of a block of eight heads. -/
def colB (g : Fin 2) (e : Fin 1024) : Fin 2048 := ⟨1024 * g.val + e.val, by omega⟩

section Head
variable (q : FVec Ideal S8192x2048 .bf16) (k v : FVec Ideal S8192x2048 .f32) (b : FVec Ideal S16 .f32)
variable (a : Fin 4) (g : Fin 2) (I s : Fin 8)
variable (x0 : Vec Ideal S16 .f32) (x1 : Vec Ideal S256x1024 .bf16) (x2 x3 : Vec Ideal S2048x1024 .f32)
variable (h0 : x0 = b)
variable (h1 : ∀ (r : Fin 256) (e : Fin 1024), x1 (ix2 r e) = q (ix2 (row a (qpos I r)) (colB g e)))
variable (h2 : ∀ (t : Fin 2048) (e : Fin 1024), x2 (ix2 t e) = k (ix2 (row a t) (colB g e)))
variable (h3 : ∀ (t : Fin 2048) (e : Fin 1024), x3 (ix2 t e) = v (ix2 (row a t) (colB g e)))

include h0 h1 h2 in
/-- A tile of scores, in base two. -/
theorem score_at (kb : Fin 8) (r j : Fin 256) :
    k0_pay2 (F := Ideal) (cols x1 s) (k0_pay89 (F := Ideal) (bias x0 g s)) (tile x2 kb s) (ix2 r j)
      = seqZ (ZZ q k b) a (hd g s) (qpos I r) (256 * kb.val + j.val) * (L2 : EReal) := by
  rw [pay2_at, seqZ, dif_pos (show 256 * kb.val + j.val < 2048 by omega), ZZ_at]
  congr 3
  · refine Finset.sum_congr rfl fun d _ => ?_
    congr 1
    · refine (h1 r ⟨128 * s.val + d.val, by omega⟩).trans ?_
      refine congrArg q (congrArg (ix2 _) (Fin.ext ?_))
      show 1024 * g.val + (128 * s.val + d.val) = (8 * g.val + s.val) * 128 + d.val
      omega
    · refine (h2 ⟨256 * kb.val + j.val, by omega⟩ ⟨128 * s.val + d.val, by omega⟩).trans ?_
      refine congrArg k (congrArg (ix2 _) (Fin.ext ?_))
      show 1024 * g.val + (128 * s.val + d.val) = (8 * g.val + s.val) * 128 + d.val
      omega

/-- One column of a head's values, as a sequence. -/
def seqV (h : Fin 16) (d : Fin 128) (t : ℕ) : EReal :=
  if ht : t < 2048 then v (ix2 (row a ⟨t, ht⟩) (col h d)) else 0

include h3 in
theorem value_at (kb : Fin 8) (j : Fin 256) (d : Fin 128) :
    tile (F := Ideal) x3 kb s (ix2 j d) = seqV v a (hd g s) d (256 * kb.val + j.val) := by
  rw [seqV, dif_pos (show 256 * kb.val + j.val < 2048 by omega)]
  refine (h3 ⟨256 * kb.val + j.val, by omega⟩ ⟨128 * s.val + d.val, by omega⟩).trans ?_
  refine congrArg v (congrArg (ix2 _) (Fin.ext ?_))
  show 1024 * g.val + (128 * s.val + d.val) = (8 * g.val + s.val) * 128 + d.val
  omega

include h0 h1 h2 h3 in
/-- A head's weighted values at a query block are the reference's. -/
theorem head_at (r : Fin 256) (d : Fin 128) :
    (headP (F := Ideal) g I x0 x1 x2 x3 s).2 (ix2 r d)
      = OUT v (WW (ZZ q k b)) (ix2 (row a (qpos I r)) (col (hd g s) d)) := by
  have hl := (loop_at (cols x1 s) (bias x0 g s) r d I (seqZ (ZZ q k b) a (hd g s) (qpos I r)) (seqV v a (hd g s) d)
    (fun n => tile x2 (back I n) s) (fun n => tile x3 (back I n) s) (tile x2 I s) (tile x3 I s)
    (fun j => score_at q k b a g I s x0 x1 x2 h0 h1 h2 I r j) (fun j => value_at v a g s x3 h3 I j d)
    (fun n _ j => score_at q k b a g I s x0 x1 x2 h0 h1 h2 (back I n) r j) (fun n _ j => value_at v a g s x3 h3 (back I n) j d)
    I.val (le_refl _)).2
  refine Eq.trans hl ?_
  refine Eq.trans ?_ (OUT_at v (WW (ZZ q k b)) a (hd g s) (qpos I r) d).symm
  rw [Nat.sub_self, Nat.mul_zero, reach _ _ 2048 _ _ (by omega) (by omega), ← Fin.sum_univ_eq_sum_range]
  refine Finset.sum_congr rfl fun t _ => ?_
  rw [mul_comm, WW_at, seqV, dif_pos t.isLt]
  rfl

end Head
end Cert.SbTile

end
-- ==== Proof.SbArr.lean ====
module

public import proofs.«01_k».proof.Proof.SbHead
public import proofs.«01_k».proof.Proof.Gen.KernelIdeal.Value

@[expose] public section

set_option maxRecDepth 16384

noncomputable section

namespace Cert.SbTile

open Cert.KernelIdeal Cert.KernelIdeal.Gen Cert.SbMath Cert.SbRef
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every window's block at a grid point. -/
theorem idx : ∀ t : Fin cfg0.N, win0_0.index t = ![0]
    ∧ win0_1.index t = ![8 * (grid0.coords t 0).val + (grid0.coords t 2).val, (grid0.coords t 1).val]
    ∧ win0_2.index t = ![(grid0.coords t 0).val, (grid0.coords t 1).val]
    ∧ win0_3.index t = ![(grid0.coords t 0).val, (grid0.coords t 1).val]
    ∧ win0_4.index t = ![8 * (grid0.coords t 0).val + (grid0.coords t 2).val, (grid0.coords t 1).val]
    ∧ (grid0.coords t 0).val < 4 ∧ (grid0.coords t 1).val < 2 ∧ (grid0.coords t 2).val < 8 :=
  (by decide +kernel : ∀ t : Fin grid0.N, _)

/-- The whole kernel's result: the reference's steps on the arguments. -/
abbrev RES (c : Dev nD) : FVec Ideal S8192x2048 .bf16 :=
  OUT (m ((c : Thread nD τ).loc main_arg2)) (WW (ZZ (m ((c : Thread nD τ).loc main_arg0)) (m ((c : Thread nD τ).loc main_arg1)) (m ((c : Thread nD τ).loc main_arg3))))

theorem blk0 (c : Dev nD) (t : Fin cfg0.N) : iblk m c 0 t = m ((c : Thread nD τ).loc main_arg3) := by
  blk_ext! [iblk, V, idx t]

theorem blk1 (c : Dev nD) (t : Fin cfg0.N) (a : Fin 4) (g : Fin 2) (I : Fin 8) (ha : (grid0.coords t 0).val = a.val) (hg : (grid0.coords t 1).val = g.val)
    (hI : (grid0.coords t 2).val = I.val) (r : Fin 256) (e : Fin 1024) :
    iblk m c 1 t (ix2 r e) = m ((c : Thread nD τ).loc main_arg0) (ix2 (row a (qpos I r)) (colB g e)) := by
  unfold qpos row colB
  blk_ext [iblk, V, idx t]

theorem blk2 (c : Dev nD) (t : Fin cfg0.N) (a : Fin 4) (g : Fin 2) (ha : (grid0.coords t 0).val = a.val) (hg : (grid0.coords t 1).val = g.val)
    (r : Fin 2048) (e : Fin 1024) :
    iblk m c 2 t (ix2 r e) = m ((c : Thread nD τ).loc main_arg1) (ix2 (row a r) (colB g e)) := by
  unfold row colB
  blk_ext [iblk, V, idx t]

theorem blk3 (c : Dev nD) (t : Fin cfg0.N) (a : Fin 4) (g : Fin 2) (ha : (grid0.coords t 0).val = a.val) (hg : (grid0.coords t 1).val = g.val)
    (r : Fin 2048) (e : Fin 1024) :
    iblk m c 3 t (ix2 r e) = m ((c : Thread nD τ).loc main_arg2) (ix2 (row a r) (colB g e)) := by
  unfold row colB
  blk_ext [iblk, V, idx t]

/-- One head's stored tile at a grid point is the reference's result there. -/
theorem tile_at (c : Dev nD) (t : Fin cfg0.N) (s : Fin 8) (x : S256x128.Idx) (j : S8192x2048.Idx)
    (h0 : (j 0).val = 2048 * (grid0.coords t 0).val + 256 * (grid0.coords t 2).val + (x 0).val)
    (h1 : (j 1).val = 1024 * (grid0.coords t 1).val + 128 * s.val + (x 1).val) :
    (headP (F := Ideal) (grid0.coords t 1) (grid0.coords t 2) (iblk m c 0 t) (iblk m c 1 t) (iblk m c 2 t) (iblk m c 3 t) s).2 x = RES m c j := by
  have hx : x = ix2 (n0 := 256) (n1 := 128) (x 0) (x 1) := eq_ix2 x
  have e0 : (x 0).val < 256 := (x 0).isLt
  have e1 : (x 1).val < 128 := (x 1).isLt
  have hh := head_at (m ((c : Thread nD τ).loc main_arg0)) (m ((c : Thread nD τ).loc main_arg1)) (m ((c : Thread nD τ).loc main_arg2))
    (m ((c : Thread nD τ).loc main_arg3)) (grid0.coords t 0) (grid0.coords t 1) (grid0.coords t 2) s (iblk m c 0 t) (iblk m c 1 t) (iblk m c 2 t) (iblk m c 3 t)
    (blk0 m c t) (blk1 m c t _ _ _ rfl rfl rfl) (blk2 m c t _ _ rfl rfl) (blk3 m c t _ _ rfl rfl) (x 0) (x 1)
  rw [hx]
  refine hh.trans (congrArg (RES m c) ?_)
  rw [eq_ix2 (n0 := 8192) (n1 := 2048) j]
  refine (ix2_inj _ _ _ _).mpr ⟨Fin.ext ?_, Fin.ext ?_⟩
  · refine Eq.trans ?_ h0.symm
    show (grid0.coords t 0).val * 2048 + (256 * (grid0.coords t 2).val + (x 0).val) = _
    omega
  · refine Eq.trans ?_ h1.symm
    show (8 * (grid0.coords t 1).val + s.val) * 128 + (x 1).val = _
    omega

/-- The output array after the run is the reference's result on the arguments. -/
theorem final (c : Dev nD) : (dats m 0 c).arrAt 4 cfg0.N = RES m c := by
  refine (dats m 0 c).arrAt_eq_of_covers 4 _ (by decide +kernel) fun t _ y => ?_
  blk_simp
  rw [after0_4]
  unfold outsAt0 out0_A_4
  rw [View.read_writes_junk_eq_canon, pieces_eq]
  have key := tile_at m c t
  generalize hj : ((((cfg0.win 4).blk t).view.emb y : S8192x2048.Idx)) = j
  have j0 : (j 0).val = 2048 * (grid0.coords t 0).val + 256 * (grid0.coords t 2).val + (y 0).val := by
    rw [← hj]; blk_simp [idx t]; omega
  have j1 : (j 1).val = 1024 * (grid0.coords t 1).val + (y 1).val := by
    rw [← hj]; blk_simp [idx t]; omega
  canon_tiles x h
  case piece0 => exact key 7 x j (by omega) (by show _ = _ + 128 * 7 + _; omega)
  case piece1 => exact key 6 x j (by omega) (by show _ = _ + 128 * 6 + _; omega)
  case piece2 => exact key 5 x j (by omega) (by show _ = _ + 128 * 5 + _; omega)
  case piece3 => exact key 4 x j (by omega) (by show _ = _ + 128 * 4 + _; omega)
  case piece4 => exact key 3 x j (by omega) (by show _ = _ + 128 * 3 + _; omega)
  case piece5 => exact key 2 x j (by omega) (by show _ = _ + 128 * 2 + _; omega)
  case piece6 => exact key 1 x j (by omega) (by show _ = _ + 128 * 1 + _; omega)
  case piece7 => exact key 0 x j (by omega) (by show _ = _ + 128 * 0 + _; omega)

end Cert.SbTile

end
-- ==== Proof.SbEq.lean ====
module

public import proofs.«01_k».proof.Proof.SbArr
public import proofs.«01_k».proof.Defs

@[expose] public section

set_option maxRecDepth 16384

noncomputable section

namespace Cert.SbTile

open Idealize.ShloMosaic Idealize.ShloMosaic.TcCoe Idealize.SL.Sem

/-- The kernel's result and the reference's are the same array at every input. -/
theorem algebraic_kernel : Cert.algebraic_KernelIdeal_ReferenceIdeal := by
  intro m ρ m' ρ' _ hag
  refine ⟨fun c => (Cert.KernelIdeal.Gen.dats m 0 c).arrAt 4 Cert.KernelIdeal.cfg0.N, Cert.KernelIdeal.Value.run_blocks m ρ,
    (θ_run _ _ _).mono (fun _ h c => ⟨(h c).1.trans ?_, (h c).2⟩) (Cert.ReferenceIdeal.Value.run m' ρ')⟩
  obtain ⟨h0, h1, h2, h3⟩ := hag c
  refine Eq.trans ?_ (final m c).symm
  rw [Cert.SbRef.res_eq, h0, h1, h2, h3]

end Cert.SbTile

end
-- ==== Proof.DownRun.lean ====
module

public import proofs.«01_k».proof.Proof.Gen.DownIdeal.Frame
public import Idealize.ShloMosaic.Lib.Pipeline.ValueKit

@[expose] public section

set_option maxRecDepth 16384

noncomputable section

namespace Cert.DownIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal Cert.DownIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every unscoped buffer ends at the contents the segments' fold gives it after the second region. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hb, -, HO, -, Hp, -⟩, -⟩
      imodintro
      isplitl [Hb]; · iexact Hb
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hb, -⟩, HSI⟩
      unfold StableHlo.held
      imodintro
      iapply (pointsTo_read_all (Pipeline.ucRefs τ sig) (fun b => (((c : Thread nD τ)).1, b)) (W4 m ρ c) s')
      isplitl [Hb] <;> iassumption)
    (hQ := fun s h _ => h)

/-- The result array ends at what the second region's write-backs leave, the arguments as launched. -/
theorem run_down : θ_run defs (onTc (τ := τ) (main (F := F))) ⟨m, fun _ => 0, ρ⟩ (fun r => ∀ c : Dev nD,
      r.2.mem ((c.tc : Thread nD τ).loc main_v5) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v5 (by decide))).trans (W4_arr m ρ c 7),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.DownIdeal.Val

end
-- ==== Proof.DownValue.lean ====
module

public import proofs.«01_k».proof.Proof.DownRun
public import proofs.«01_k».proof.Proof.Gen.DownRefIdeal
public import Idealize.ShloMosaic.Lib.Pipeline.ValueKit
public import Idealize.ShloMosaic.Lib.Pointwise

@[expose] public section

set_option maxRecDepth 16384

noncomputable section

namespace Cert.DownIdeal.Val

open Idealize.ShloMosaic Idealize.ShloMosaic.TcCoe Idealize.SL.Sem
open Idealize.ShloMosaic.Pipeline (Dat)
open Cert.DownIdeal Cert.DownIdeal.Gen

/-- The mean of a row. -/
def mean (y : FVec Ideal S8192x4096 .f32) (r : Fin 8192) : EReal :=
  Ideal.div (∑ k : Fin 4096, (y (ix2 r k) : EReal)) (Ideal.ofBits .f32 0x45800000#32)

/-- The reciprocal standard deviation of a row. -/
def rstd (y : FVec Ideal S8192x4096 .f32) (r : Fin 8192) : EReal :=
  Ideal.rsqrt (Ideal.div (∑ k : Fin 4096, ((y (ix2 r k) : EReal) - mean y r) * (y (ix2 r k) - mean y r)) (Ideal.ofBits .f32 0x45800000#32)
    + Ideal.ofBits .f32 0x3727C5AC#32)

/-- The row means as an array of one column. -/
def MU (y : FVec Ideal S8192x4096 .f32) : FVec Ideal S8192x1 .f32 := fun i => mean y (i 0)
/-- The reciprocal standard deviations as an array of one column. -/
def RS (y : FVec Ideal S8192x4096 .f32) : FVec Ideal S8192x1 .f32 := fun i => rstd y (i 0)

/-- The residual stream's update: the scaled normalized rows plus the product. -/
def DOWN (h : FVec Ideal S8192x11008 .bf16) (w : FVec Ideal S11008x4096 .bf16) (y : FVec Ideal S8192x4096 .f32)
    (mu rs : FVec Ideal S8192x1 .f32) (g b : FVec Ideal S1x4096 .f32) : FVec Ideal S8192x4096 .f32 := fun i =>
  Ideal.ofBits .f32 0x3FB504F3#32 *
        ((y i - mu (ix2 (i 0) 0)) * rs (ix2 (i 0) 0) * g (ix2 0 (i 1)) + b (ix2 0 (i 1))) +
      ∑ k : Fin 11008, h (ix2 (i 0) k) * w (ix2 k (i 1))

section Regions
variable (V : (c : Dev nD) → (b : Ref sig .tc) → Buf (Elt Ideal) ((c : Thread nD τ).loc b))

theorem idx0 : ∀ t : Fin cfg0.N, win0_0.index t = ![t.val, 0] ∧ win0_4.index t = ![t.val, 0] ∧ win0_5.index t = ![t.val, 0] :=
  (by decide +kernel : ∀ t : Fin grid0.N, _)

theorem idx1 : ∀ t : Fin cfg1.N, win1_0.index t = ![t.val / 8, 0] ∧ win1_1.index t = ![0, t.val % 8] ∧ win1_2.index t = ![t.val / 8, t.val % 8]
    ∧ win1_3.index t = ![t.val / 8, 0] ∧ win1_4.index t = ![t.val / 8, 0] ∧ win1_5.index t = ![0, t.val % 8] ∧ win1_6.index t = ![0, t.val % 8]
    ∧ win1_7.index t = ![t.val / 8, t.val % 8] :=
  (by decide +kernel : ∀ t : Fin grid1.N, _)

/-- The first region's second output is the array of the means. -/
theorem final_mu (c : Dev nD) : (dat0 V c).arrAt 4 cfg0.N = MU (V c main_arg2) := by
  refine (dat0 V c).arrAt_eq_of_covers 4 _ (by decide +kernel) fun t _ y => ?_
  blk_simp
  rw [after0_4]; unfold out0_4; frame_out
  pointwise [k0_pay1, MU, mean]
  blk_point [iblk0, idx0 t]

/-- The first region's third output is the array of the reciprocal standard deviations. -/
theorem final_rs (c : Dev nD) : (dat0 V c).arrAt 5 cfg0.N = RS (V c main_arg2) := by
  refine (dat0 V c).arrAt_eq_of_covers 5 _ (by decide +kernel) fun t _ y => ?_
  blk_simp
  rw [after0_5]; unfold out0_5; frame_out
  pointwise [k0_pay1, k0_pay2, k0_pay3, RS, rstd, mean]
  blk_point [iblk0, idx0 t]

/-- The second region's output is the update computed from the arrays it reads. -/
theorem final_down (c : Dev nD) : (dat1 V c).arrAt 7 cfg1.N
    = DOWN (V c main_arg0) (V c main_arg1) (V c main_arg2) (V c main_v2_1) (V c main_v2_2) (V c main_v3) (V c main_v4) := by
  refine (dat1 V c).arrAt_eq_of_covers 7 _ (by decide +kernel) fun t _ y => ?_
  blk_simp
  rw [after1_7]; unfold out1_7; frame_out
  pointwise [k1_pay1, DOWN]
  blk_point [iblk1, idx1 t]
end Regions

variable (m : (ℓ : Loc nD τ sig) → Buf (Elt Ideal) ℓ) (ρ : Dev nD → PrngReg)

theorem V1_y (c : Dev nD) : V1 m ρ c main_arg2 = m ((c : Thread nD τ).loc main_arg2) := W1_args m ρ c main_arg2 (by decide)
theorem V3_h (c : Dev nD) : V3 m ρ c main_arg0 = m ((c : Thread nD τ).loc main_arg0) := W3_args m ρ c main_arg0 (by decide)
theorem V3_w (c : Dev nD) : V3 m ρ c main_arg1 = m ((c : Thread nD τ).loc main_arg1) := W3_args m ρ c main_arg1 (by decide)
theorem V3_y (c : Dev nD) : V3 m ρ c main_arg2 = m ((c : Thread nD τ).loc main_arg2) := W3_args m ρ c main_arg2 (by decide)
theorem V3_mu (c : Dev nD) : V3 m ρ c main_v2_1 = MU (m ((c : Thread nD τ).loc main_arg2)) :=
  (W3_of m ρ c main_v2_1 (by decide)).trans ((W2_arr m ρ c 4).trans ((final_mu (V1 m ρ) c).trans (by rw [V1_y])))
theorem V3_rs (c : Dev nD) : V3 m ρ c main_v2_2 = RS (m ((c : Thread nD τ).loc main_arg2)) :=
  (W3_of m ρ c main_v2_2 (by decide)).trans ((W2_arr m ρ c 5).trans ((final_rs (V1 m ρ) c).trans (by rw [V1_y])))
theorem V3_g (c : Dev nD) : V3 m ρ c main_v3 = shapeCast S1x4096 (m ((c : Thread nD τ).loc main_arg3) : FVec Ideal S4096 .f32) shapeCasts_S4096_S1x4096 := by
  have e : W3 m ρ c (Proc.devRef .tc main_v3) = shapeCast S1x4096 (W2 m ρ c (Proc.devRef .tc main_arg3) : FVec Ideal S4096 .f32) shapeCasts_S4096_S1x4096 := by
    after_results; try rfl
  rw [W2_args m ρ c main_arg3 (by decide)] at e
  exact e
theorem V3_b (c : Dev nD) : V3 m ρ c main_v4 = shapeCast S1x4096 (m ((c : Thread nD τ).loc main_arg4) : FVec Ideal S4096 .f32) shapeCasts_S4096_S1x4096 := by
  have e : W3 m ρ c (Proc.devRef .tc main_v4) = shapeCast S1x4096 (W2 m ρ c (Proc.devRef .tc main_arg4) : FVec Ideal S4096 .f32) shapeCasts_S4096_S1x4096 := by
    after_results; try rfl
  rw [W2_args m ρ c main_arg4 (by decide)] at e
  exact e

/-- The result array as the update of the arguments. -/
theorem final (c : Dev nD) : (dat1 (V3 m ρ) c).arrAt 7 cfg1.N
    = DOWN (m ((c : Thread nD τ).loc main_arg0)) (m ((c : Thread nD τ).loc main_arg1)) (m ((c : Thread nD τ).loc main_arg2))
        (MU (m ((c : Thread nD τ).loc main_arg2))) (RS (m ((c : Thread nD τ).loc main_arg2)))
        (shapeCast S1x4096 (m ((c : Thread nD τ).loc main_arg3) : FVec Ideal S4096 .f32) shapeCasts_S4096_S1x4096)
        (shapeCast S1x4096 (m ((c : Thread nD τ).loc main_arg4) : FVec Ideal S4096 .f32) shapeCasts_S4096_S1x4096) := by
  rw [final_down, V3_h, V3_w, V3_y, V3_mu, V3_rs, V3_g, V3_b]

end Cert.DownIdeal.Val

end
-- ==== Proof.DownEq.lean ====
module

public import proofs.«01_k».proof.Proof.DownValue
public import proofs.«01_k».proof.Proof.Gen.DownRefIdeal.Run
public import proofs.«01_k».proof.Defs

@[expose] public section

set_option maxRecDepth 16384

noncomputable section

namespace Cert.DownRefIdeal.Val

open Idealize.ShloMosaic Idealize.ShloMosaic.TcCoe Idealize.SL.Sem
open Cert.DownRefIdeal Cert.DownRefIdeal.Gen

/-- The reference's result as a term of its arguments. -/
abbrev REF (X0 : FVec Ideal S8192x11008 .bf16) (X1 : FVec Ideal S11008x4096 .bf16) (X2 : FVec Ideal S8192x4096 .f32)
    (X3 X4 : FVec Ideal S4096 .f32) : FVec Ideal S8192x4096 .f32 :=
  addf (mulf (broadcastInDim S8192x4096 ![] bcast_S_S8192x4096 (constant S_ .f32 0x3FB504F3#32)) (addf (mulf (mulf (subf X2 (broadcastInDim S8192x4096 ![0, 1] bcast_S8192x1_S8192x4096_0_1 (Host.divf (broadcastInDim S8192x1 ![0] bcast_S8192_S8192x1_0 (Host.reduceAdd X2 (constant S_ .f32 0x00000000#32) reducesTo_S8192x4096_S8192_d1 h_S_)) (broadcastInDim S8192x1 ![] bcast_S_S8192x1 (constant S_ .f32 0x45800000#32))))) (broadcastInDim S8192x4096 ![0, 1] bcast_S8192x1_S8192x4096_0_1 (Host.rsqrt (addf (Host.divf (broadcastInDim S8192x1 ![0] bcast_S8192_S8192x1_0 (Host.reduceAdd (mulf (subf X2 (broadcastInDim S8192x4096 ![0, 1] bcast_S8192x1_S8192x4096_0_1 (Host.divf (broadcastInDim S8192x1 ![0] bcast_S8192_S8192x1_0 (Host.reduceAdd X2 (constant S_ .f32 0x00000000#32) reducesTo_S8192x4096_S8192_d1 h_S_)) (broadcastInDim S8192x1 ![] bcast_S_S8192x1 (constant S_ .f32 0x45800000#32))))) (subf X2 (broadcastInDim S8192x4096 ![0, 1] bcast_S8192x1_S8192x4096_0_1 (Host.divf (broadcastInDim S8192x1 ![0] bcast_S8192_S8192x1_0 (Host.reduceAdd X2 (constant S_ .f32 0x00000000#32) reducesTo_S8192x4096_S8192_d1 h_S_)) (broadcastInDim S8192x1 ![] bcast_S_S8192x1 (constant S_ .f32 0x45800000#32)))))) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x3727C5AC#32)))))) (broadcastInDim S8192x4096 ![0, 1] bcast_S1x4096_S8192x4096_0_1 (broadcastInDim S1x4096 ![1] bcast_S4096_S1x4096_1 X3))) (broadcastInDim S8192x4096 ![0, 1] bcast_S1x4096_S8192x4096_0_1 (broadcastInDim S1x4096 ![1] bcast_S4096_S1x4096_1 X4)))) (Host.dotGeneral dot_S8192x11008_S11008x4096_S8192x4096_1_0_0_1_n_n none (extf .f32 X0 bitsLt_bf16_f32) (extf .f32 X1 bitsLt_bf16_f32))

end Cert.DownRefIdeal.Val

namespace Cert.DownEq

open Idealize.ShloMosaic Idealize.ShloMosaic.TcCoe Idealize.SL.Sem

/-- The reference's term is the kernel's, element by element. -/
theorem ref_eq (X0 : FVec Ideal Cert.DownRefIdeal.S8192x11008 .bf16) (X1 : FVec Ideal Cert.DownRefIdeal.S11008x4096 .bf16)
    (X2 : FVec Ideal Cert.DownRefIdeal.S8192x4096 .f32) (X3 X4 : FVec Ideal Cert.DownRefIdeal.S4096 .f32) :
    Cert.DownRefIdeal.Val.REF X0 X1 X2 X3 X4 = Cert.DownIdeal.Val.DOWN X0 X1 X2 (Cert.DownIdeal.Val.MU X2) (Cert.DownIdeal.Val.RS X2)
        (shapeCast Cert.DownIdeal.S1x4096 X3 Cert.DownIdeal.Gen.shapeCasts_S4096_S1x4096)
        (shapeCast Cert.DownIdeal.S1x4096 X4 Cert.DownIdeal.Gen.shapeCasts_S4096_S1x4096) := by
  funext j
  idx_vars j
  pointwise [Cert.DownRefIdeal.Val.REF]
  pointwise [Cert.DownIdeal.Val.DOWN, Cert.DownIdeal.Val.MU, Cert.DownIdeal.Val.RS, Cert.DownIdeal.Val.mean, Cert.DownIdeal.Val.rstd]

/-- The kernel's result and the reference's are the same array at every input. -/
theorem algebraic_down : Cert.algebraic_DownIdeal_DownRefIdeal := by
  intro m ρ m' ρ' _ hag
  refine ⟨fun c => (Cert.DownIdeal.Gen.dat1 (Cert.DownIdeal.Gen.V3 m ρ) c).arrAt 7 Cert.DownIdeal.cfg1.N, Cert.DownIdeal.Val.run_down m ρ,
    (θ_run _ _ _).mono (fun _ h c => ⟨(h c).1.trans ?_, (h c).2⟩) (Cert.DownRefIdeal.Value.run m' ρ')⟩
  obtain ⟨h0, h1, h2, h3, h4⟩ := hag c
  refine Eq.trans ?_ (Cert.DownIdeal.Val.final m ρ c).symm
  rw [← h0, ← h1, ← h2, ← h3, ← h4]
  exact ref_eq _ _ _ _ _

/-- Every execution of the kernel's idealization terminates with its arguments unchanged. -/
theorem frame_down : Cert.quiescent_DownIdeal := fun m ρ _ => Cert.DownIdeal.Gen.frame m ρ

end Cert.DownEq

end
-- ==== Proof.GateMath.lean ====
module

public import Idealize.ShloMosaic.Lib.IdealHost
public import Idealize.ShloMosaic.Lib.Pointwise

@[expose] public section

noncomputable section

namespace Cert.GateMath

open Idealize.ShloMosaic

/-- The constant one half. -/
theorem half_f32 : Ideal.ofBits .f32 0x3F000000#32 = (((1 : ℝ) / 2 : ℝ) : EReal) := by
  simp [Ideal.ofBits, Ideal.ieee, -EReal.coe_mul]; norm_num

theorem real_sigmoid (r : ℝ) : 1 / 2 * Real.tanh (1 / 2 * r) + 1 / 2 = (1 + Real.exp (-r))⁻¹ := by
  have e : Real.exp (-r) = Real.exp (-(1 / 2 * r)) * Real.exp (-(1 / 2 * r)) := by rw [← Real.exp_add]; congr 1; ring
  have p : Real.exp (1 / 2 * r) * Real.exp (-(1 / 2 * r)) = 1 := by rw [← Real.exp_add]; simp
  rw [Real.tanh_eq_sinh_div_cosh, Real.sinh_eq, Real.cosh_eq, e]
  have ha := Real.exp_pos (1 / 2 * r)
  have hb := Real.exp_pos (-(1 / 2 * r))
  generalize Real.exp (1 / 2 * r) = a at *
  generalize Real.exp (-(1 / 2 * r)) = b at *
  have h1 : a + b ≠ 0 := by positivity
  have h2 : 1 + b * b ≠ 0 := by positivity
  field_simp
  nlinarith [p]

/-- The logistic function through the hyperbolic tangent, at every extended real. -/
theorem sigmoid (g : EReal) :
    Ideal.ofBits .f32 0x3F000000#32 * Ideal.tanh (Ideal.ofBits .f32 0x3F000000#32 * g) + Ideal.ofBits .f32 0x3F000000#32
      = Ideal.div 1 (1 + Ideal.exp (-g)) := by
  show _ = Ideal.logistic g
  rw [half_f32]
  induction g using EReal.rec with
  | bot =>
    rw [EReal.coe_mul_bot_of_pos (by norm_num), Ideal.tanh_bot, Ideal.logistic_bot]
    rw [show (-1 : EReal) = ((-1 : ℝ) : EReal) by rw [EReal.coe_neg, EReal.coe_one], ← EReal.coe_mul, ← EReal.coe_add]
    norm_num
  | top =>
    rw [EReal.coe_mul_top_of_pos (by norm_num), Ideal.tanh_top, Ideal.logistic_top]
    rw [mul_one, ← EReal.coe_add]
    norm_num
  | coe r =>
    rw [← EReal.coe_mul, Ideal.tanh_coe, ← EReal.coe_mul, ← EReal.coe_add, real_sigmoid, Ideal.logistic_coe]

end Cert.GateMath

end
-- ==== Proof.GateValue.lean ====
module

public import proofs.«01_k».proof.Proof.GateRun
public import proofs.«01_k».proof.Proof.GateMath
public import proofs.«01_k».proof.Proof.Gen.GateRefIdeal
public import Idealize.ShloMosaic.Lib.Pipeline.ValueKit
public import Idealize.ShloMosaic.Lib.Pointwise

@[expose] public section

set_option maxRecDepth 16384

noncomputable section

namespace Cert.GateIdeal.Val

open Idealize.ShloMosaic Idealize.ShloMosaic.TcCoe Idealize.SL.Sem
open Idealize.ShloMosaic.Pipeline (Dat)
open Cert.GateIdeal Cert.GateIdeal.Gen Cert.GateIdeal.Stream

/-- Column `j` of half `h` of the first layer's weights. -/
def col (h : Fin 2) (j : Fin 11008) : Fin 22016 := ⟨11008 * h.val + j.val, by omega⟩

/-- A row of `x` times column `j` of half `h` of the first layer's weights. -/
def proj {n : ℕ} (x : FVec Ideal ⟨2, ![n, 4096]⟩ .bf16) (w : FVec Ideal S2x4096x22016 .f32) (h : Fin 2) (r : Fin n) (j : Fin 11008) : EReal :=
  ∑ k : Fin 4096, (x (ix2 r k) : EReal) * w (ix3 0 k (col h j))

/-- The gated activation: `silu` of the first half's product times the second half's. -/
def gated {n : ℕ} (x : FVec Ideal ⟨2, ![n, 4096]⟩ .bf16) (w : FVec Ideal S2x4096x22016 .f32) (r : Fin n) (j : Fin 11008) : EReal :=
  proj x w 0 r j * Ideal.div 1 (1 + Ideal.exp (-proj x w 0 r j)) * proj x w 1 r j

/-- The gated activation of the prompt's rows. -/
def GATEP (x : FVec Ideal S8192x4096 .bf16) (w : FVec Ideal S2x4096x22016 .f32) : FVec Ideal S8192x11008 .bf16 := fun i => gated x w (i 0) (i 1)
/-- The gated activation of the samples' rows. -/
def GATES (x : FVec Ideal S32x4096 .bf16) (w : FVec Ideal S2x4096x22016 .f32) : FVec Ideal S32x11008 .bf16 := fun i => gated x w (i 0) (i 1)
/-- The first layer's down projection weights. -/
def WD (w : FVec Ideal S2x11008x4096 .f32) : FVec Ideal S11008x4096 .bf16 := fun i => w (ix3 0 (i 0) (i 1))

/-- Column `j` of tile `b`. -/
def tcol (b : Fin 43) (j : Fin 256) : Fin 11008 := ⟨256 * b.val + j.val, by omega⟩

/-- A block of the weights read with its unit axis dropped. -/
theorem src_read (c : Dev nD) (W : FVec Ideal S2x4096x22016 .f32) (b : Fin 43) (h : Fin 2) :
    (srcM b h).view.read (Elt Ideal) W
      = shapeCast S4096x256 (fun y : S1x4096x256.Idx => W ((Rect.unit (s := S2x4096x22016) ![0, 0, 256 * b.val + 11008 * h.val] S1x4096x256.size (inb_src b h)).emb y))
          (by decide) := by
  unfold srcM
  rfl

/-- An element of a half of a tile is an element of the weights. -/
theorem tile_apply (c : Dev nD) (W : FVec Ideal S2x4096x22016 .f32) (b : Fin 43) (h : Fin 2) (k : Fin 4096) (j : Fin 256) :
    (tile (F := Ideal) c W b h (ix2 k j) : EReal) = W (ix3 0 k (col h (tcol b j))) := by
  unfold tile
  rw [src_read c W b h]
  pointwise []
  refine congrArg W (funext fun a => ?_)
  fin_cases a <;> apply Fin.ext <;> simp [Rect.emb, ix3, col, tcol, Rect.unit]
  omega

theorem idx : ∀ t : Fin cfg0.N, win0_0.index t = ![t.val % 8, 0] ∧ win0_1.index t = ![0, 0] ∧ win0_2.index t = ![0, t.val, 0]
    ∧ win0_3.index t = ![t.val % 8, t.val / 8] ∧ win0_4.index t = ![0, t.val / 8] ∧ win0_5.index t = ![t.val, 0] :=
  (by decide +kernel : ∀ t : Fin grid0.N, _)

variable (m : (ℓ : Loc nD τ sig) → Buf (Elt Ideal) ℓ) (ρ : Dev nD → PrngReg)

theorem held_apply (c : Dev nD) (t : Fin cfg0.N) (h : Fin 2) (k : Fin 4096) (j : Fin 256) :
    (held (F := Ideal) m c t h (ix2 k j) : EReal) = (V m c main_arg2 : FVec Ideal S2x4096x22016 .f32) (ix3 0 k (col h (tcol (tl t) j))) :=
  tile_apply c _ (tl t) h k j

/-- The third result is the down projection's weights. -/
theorem final_wd (c : Dev nD) : (dats m 0 c).arrAt 5 cfg0.N = WD (V m c main_arg3) := by
  refine (dats m 0 c).arrAt_eq_of_covers 5 _ (by decide +kernel) fun t _ y => ?_
  blk_simp
  rw [after_5]
  pointwise [k0_pay1, WD]
  blk_point [iblk, idx t]

/-- A row of a block times a column of the held tile. -/
def bproj {n : ℕ} (x : FVec Ideal ⟨2, ![n, 4096]⟩ .bf16) (w : FVec Ideal S2x4096x22016 .f32) (h : Fin 2) (r : Fin n) (b : Fin 43) (j : Fin 256) : EReal :=
  ∑ k : Fin 4096, (x (ix2 r k) : EReal) * w (ix3 0 k (col h (tcol b j)))

/-- What a point computes of the prompt's rows. -/
theorem pay2_held (c : Dev nD) (t : Fin cfg0.N) (x : FVec Ideal S1024x4096 .bf16) (y : S1024x256.Idx) :
    (k0_pay2 x (held m c t 0) (held m c t 1) y : EReal)
      = bproj x (V m c main_arg2) 0 (y 0) (tl t) (y 1) * Ideal.div 1 (1 + Ideal.exp (-bproj x (V m c main_arg2) 0 (y 0) (tl t) (y 1)))
          * bproj x (V m c main_arg2) 1 (y 0) (tl t) (y 1) := by
  idx_vars y
  pointwise [k0_pay2, bproj]
  rw [GateMath.sigmoid]
  simp only [held_apply]

/-- What a point computes of the samples' rows. -/
theorem pay5_held (c : Dev nD) (t : Fin cfg0.N) (x : FVec Ideal S32x4096 .bf16) (y : S32x256.Idx) :
    (k0_pay5 x (held m c t 0) (held m c t 1) y : EReal)
      = bproj x (V m c main_arg2) 0 (y 0) (tl t) (y 1) * Ideal.div 1 (1 + Ideal.exp (-bproj x (V m c main_arg2) 0 (y 0) (tl t) (y 1)))
          * bproj x (V m c main_arg2) 1 (y 0) (tl t) (y 1) := by
  idx_vars y
  pointwise [k0_pay5, bproj]
  rw [GateMath.sigmoid]
  simp only [held_apply]

/-- A block's product is the array's, at the block's row and the tile's column. -/
theorem bproj_eq {n n' : ℕ} (x : FVec Ideal ⟨2, ![n, 4096]⟩ .bf16) (x' : FVec Ideal ⟨2, ![n', 4096]⟩ .bf16) (w : FVec Ideal S2x4096x22016 .f32)
    (r : Fin n) (r' : Fin n') (b : Fin 43) (j : Fin 256) (j' : Fin 11008) (hx : ∀ k : Fin 4096, x (ix2 r k) = x' (ix2 r' k)) (hj : tcol b j = j') (h : Fin 2) :
    bproj x w h r b j = proj x' w h r' j' := by
  subst hj
  exact Finset.sum_congr rfl fun k _ => by rw [hx k]

/-- The first result is the gated activation of the prompt. -/
theorem final_op (c : Dev nD) : (dats m 0 c).arrAt 3 cfg0.N = GATEP (V m c main_arg0) (V m c main_arg2) := by
  refine (dats m 0 c).arrAt_eq_of_covers 3 _ (by decide +kernel) fun t _ y => ?_
  blk_simp
  rw [after_3]
  refine (pay2_held m c t (iblk m c 0 t) y).trans ?_
  have key := bproj_eq (iblk m c 0 t) (V m c main_arg0) (V m c main_arg2) (y 0) ((((View.whole main_v0_0).slice (win0_3.rect t)).emb y) 0) (tl t) (y 1)
    ((((View.whole main_v0_0).slice (win0_3.rect t)).emb y) 1) (fun k => by blk_point [iblk, idx t]) (Fin.ext (by
      have hN : t.val < 344 := lt_of_lt_of_eq t.isLt (show cfg0.N = 344 from N_0)
      simp [tcol, tl, Ring.bk, idx t, Pipeline.WinKind.off]; omega))
  rw [key 0, key 1]
  rfl

/-- The second result is the gated activation of the samples. -/
theorem final_os (c : Dev nD) : (dats m 0 c).arrAt 4 cfg0.N = GATES (V m c main_arg1) (V m c main_arg2) := by
  refine (dats m 0 c).arrAt_eq_of_covers 4 _ (by decide +kernel) fun t _ y => ?_
  blk_simp
  rw [after_4]
  refine (pay5_held m c t (iblk m c 1 t) y).trans ?_
  have key := bproj_eq (iblk m c 1 t) (V m c main_arg1) (V m c main_arg2) (y 0) ((((View.whole main_v0_1).slice (win0_4.rect t)).emb y) 0) (tl t) (y 1)
    ((((View.whole main_v0_1).slice (win0_4.rect t)).emb y) 1) (fun k => by blk_point [iblk, idx t]) (Fin.ext (by
      have hN : t.val < 344 := lt_of_lt_of_eq t.isLt (show cfg0.N = 344 from N_0)
      simp [tcol, tl, Ring.bk, idx t, Pipeline.WinKind.off]; omega))
  rw [key 0, key 1]
  rfl

end Cert.GateIdeal.Val

end
-- ==== Proof.GateEq.lean ====
module

public import proofs.«01_k».proof.Proof.GateValue
public import proofs.«01_k».proof.Proof.Gen.GateRefIdeal.Run
public import proofs.«01_k».proof.Defs

@[expose] public section

set_option maxRecDepth 16384

noncomputable section

namespace Cert.GateRefIdeal.Val

open Idealize.ShloMosaic Idealize.ShloMosaic.TcCoe Idealize.SL.Sem
open Cert.GateRefIdeal Cert.GateRefIdeal.Gen

/-- The first layer of the stacked weights. -/
abbrev W0 (X2 : FVec Ideal S2x4096x22016 .f32) : FVec Ideal S4096x22016 .f32 :=
  shapeCast _ (extractStridedSlice S1x4096x22016 ![0, 0, 0] X2 slices_S2x4096x22016_S1x4096x22016_0_0_0) shapeCasts_S1x4096x22016_S4096x22016
/-- The prompt's product with the weights. -/
abbrev PP (X0 : FVec Ideal S8192x4096 .bf16) (X2 : FVec Ideal S2x4096x22016 .f32) : FVec Ideal S8192x22016 .f32 :=
  Host.dotGeneral dot_S8192x4096_S4096x22016_S8192x22016_1_0_0_1_n_n none (extf .f32 X0 bitsLt_bf16_f32) (W0 X2)
/-- The samples' product with the weights. -/
abbrev PS (X1 : FVec Ideal S32x4096 .bf16) (X2 : FVec Ideal S2x4096x22016 .f32) : FVec Ideal S32x22016 .f32 :=
  Host.dotGeneral dot_S32x4096_S4096x22016_S32x22016_1_0_0_1_n_n none (extf .f32 X1 bitsLt_bf16_f32) (W0 X2)
/-- The reference's first result as a term of its arguments. -/
abbrev REFP (X0 : FVec Ideal S8192x4096 .bf16) (X2 : FVec Ideal S2x4096x22016 .f32) : FVec Ideal S8192x11008 .bf16 :=
  truncf .bf16 (mulf (mulf (extractStridedSlice S8192x11008 ![0, 0] (PP X0 X2) slices_S8192x22016_S8192x11008_0_0)
      (Host.divf (broadcastInDim S8192x11008 ![] bcast_S_S8192x11008 (constant S_ .f32 0x3F800000#32))
        (addf (broadcastInDim S8192x11008 ![] bcast_S_S8192x11008 (constant S_ .f32 0x3F800000#32))
          (Host.exp (Host.negf (extractStridedSlice S8192x11008 ![0, 0] (PP X0 X2) slices_S8192x22016_S8192x11008_0_0))))))
    (extractStridedSlice S8192x11008 ![0, 11008] (PP X0 X2) slices_S8192x22016_S8192x11008_0_11008)) bitsLt_bf16_f32
/-- The reference's second result as a term of its arguments. -/
abbrev REFS (X1 : FVec Ideal S32x4096 .bf16) (X2 : FVec Ideal S2x4096x22016 .f32) : FVec Ideal S32x11008 .bf16 :=
  truncf .bf16 (mulf (mulf (extractStridedSlice S32x11008 ![0, 0] (PS X1 X2) slices_S32x22016_S32x11008_0_0)
      (Host.divf (broadcastInDim S32x11008 ![] bcast_S_S32x11008 (constant S_ .f32 0x3F800000#32))
        (addf (broadcastInDim S32x11008 ![] bcast_S_S32x11008 (constant S_ .f32 0x3F800000#32))
          (Host.exp (Host.negf (extractStridedSlice S32x11008 ![0, 0] (PS X1 X2) slices_S32x22016_S32x11008_0_0))))))
    (extractStridedSlice S32x11008 ![0, 11008] (PS X1 X2) slices_S32x22016_S32x11008_0_11008)) bitsLt_bf16_f32
/-- The reference's third result as a term of its arguments. -/
abbrev REFW (X3 : FVec Ideal S2x11008x4096 .f32) : FVec Ideal S11008x4096 .bf16 :=
  truncf .bf16 (shapeCast _ (extractStridedSlice S1x11008x4096 ![0, 0, 0] X3 slices_S2x11008x4096_S1x11008x4096_0_0_0) shapeCasts_S1x11008x4096_S11008x4096) bitsLt_bf16_f32

end Cert.GateRefIdeal.Val

namespace Cert.GateEq

open Idealize.ShloMosaic Idealize.ShloMosaic.TcCoe Idealize.SL.Sem
open Cert.GateIdeal.Val

/-- The gate's columns come first, -/
theorem col_gate (j : Fin 11008) (h : j.val < 22016) : (⟨j.val, h⟩ : Fin 22016) = col 0 j := Fin.ext (by simp [col])
/-- the up projection's after them. -/
theorem col_up (j : Fin 11008) (h : 11008 + j.val < 22016) : (⟨11008 + j.val, h⟩ : Fin 22016) = col 1 j := Fin.ext (by simp [col])

/-- The reference's third result is the weights. -/
theorem refw_eq (X3 : FVec Ideal Cert.GateRefIdeal.S2x11008x4096 .f32) : Cert.GateRefIdeal.Val.REFW X3 = WD X3 := by
  funext j
  idx_vars j
  pointwise [Cert.GateRefIdeal.Val.REFW, WD]

/-- The reference's first result is the gated activation of the prompt. -/
theorem refp_eq (X0 : FVec Ideal Cert.GateRefIdeal.S8192x4096 .bf16) (X2 : FVec Ideal Cert.GateRefIdeal.S2x4096x22016 .f32) :
    Cert.GateRefIdeal.Val.REFP X0 X2 = GATEP X0 X2 := by
  funext j
  idx_vars j
  pointwise [Cert.GateRefIdeal.Val.REFP]
  simp only [col_gate, col_up]
  rfl

/-- The reference's second result is the gated activation of the samples. -/
theorem refs_eq (X1 : FVec Ideal Cert.GateRefIdeal.S32x4096 .bf16) (X2 : FVec Ideal Cert.GateRefIdeal.S2x4096x22016 .f32) :
    Cert.GateRefIdeal.Val.REFS X1 X2 = GATES X1 X2 := by
  funext j
  idx_vars j
  pointwise [Cert.GateRefIdeal.Val.REFS]
  simp only [col_gate, col_up]
  rfl

open Cert.GateIdeal.Stream in
/-- The kernel's run at its three values. -/
theorem run_gate (m : (ℓ : Loc Cert.GateIdeal.nD Cert.GateIdeal.τ Cert.GateIdeal.sig) → Buf (Elt Ideal) ℓ) (ρ : Dev Cert.GateIdeal.nD → PrngReg) :
    θ_run (Cert.GateIdeal.defs (F := Ideal)) (onTc (τ := Cert.GateIdeal.τ) (Cert.GateIdeal.main (F := Ideal))) ⟨m, fun _ => 0, ρ⟩ (fun r => ∀ c : Dev Cert.GateIdeal.nD,
      r.2.mem ((c.tc : Thread Cert.GateIdeal.nD Cert.GateIdeal.τ).loc Cert.GateIdeal.main_v0_0) = (dats m 0 c).arrAt 3 Cert.GateIdeal.cfg0.N
      ∧ r.2.mem ((c.tc : Thread Cert.GateIdeal.nD Cert.GateIdeal.τ).loc Cert.GateIdeal.main_v0_1) = (dats m 0 c).arrAt 4 Cert.GateIdeal.cfg0.N
      ∧ r.2.mem ((c.tc : Thread Cert.GateIdeal.nD Cert.GateIdeal.τ).loc Cert.GateIdeal.main_v0_2) = (dats m 0 c).arrAt 5 Cert.GateIdeal.cfg0.N
      ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)) :=
  (θ_run Cert.GateIdeal.defs _ _).mono (fun _ h c => ⟨(h.1 c).1 3, (h.1 c).1 4, (h.1 c).1 5,
      ((h.1 c).1 0).trans (((dats m 0 c).arrAt_in 0 rfl _).trans (A_eq m c 0)),
      ((h.1 c).1 1).trans (((dats m 0 c).arrAt_in 1 rfl _).trans (A_eq m c 1)),
      (h.1 c).2 Cert.GateIdeal.main_arg2 (Pipeline.mem_restRefs_of Cert.GateIdeal.main_arg2 (by decide) (by decide)),
      ((h.1 c).1 2).trans (((dats m 0 c).arrAt_in 2 rfl _).trans (A_eq m c 2))⟩) (run m ρ)

/-- The kernel's three results and the reference's are the same arrays at every input. -/
theorem algebraic_gate : Cert.algebraic_GateIdeal_GateRefIdeal := by
  intro m ρ m' ρ' _ hag
  refine ⟨fun c => (Cert.GateIdeal.Stream.dats m 0 c).arrAt 3 Cert.GateIdeal.cfg0.N, fun c => (Cert.GateIdeal.Stream.dats m 0 c).arrAt 4 Cert.GateIdeal.cfg0.N,
    fun c => (Cert.GateIdeal.Stream.dats m 0 c).arrAt 5 Cert.GateIdeal.cfg0.N, run_gate m ρ,
    (θ_run _ _ _).mono (fun _ h c => ⟨(h c).1.trans ?_, (h c).2.1.trans ?_, (h c).2.2.1.trans ?_, (h c).2.2.2⟩) (Cert.GateRefIdeal.Value.run m' ρ')⟩
  · obtain ⟨h0, h1, h2, h3⟩ := hag c
    refine Eq.trans ?_ (final_op m c).symm
    rw [h0, h2]
    exact refp_eq _ _
  · obtain ⟨h0, h1, h2, h3⟩ := hag c
    refine Eq.trans ?_ (final_os m c).symm
    rw [h1, h2]
    exact refs_eq _ _
  · obtain ⟨h0, h1, h2, h3⟩ := hag c
    refine Eq.trans ?_ (final_wd m c).symm
    rw [h3]
    exact refw_eq _

end Cert.GateEq

end
-- ==== Proof.KeysValue.lean ====
module

public import proofs.«01_k».proof.Proof.KeysRun
public import proofs.«01_k».proof.Proof.Gen.KeysRefIdeal
public import Idealize.ShloMosaic.Lib.Pipeline.ValueKit
public import Idealize.ShloMosaic.Lib.Pointwise

@[expose] public section

set_option maxRecDepth 16384

noncomputable section

namespace Cert.KeysIdeal.Val

open Idealize.ShloMosaic Idealize.ShloMosaic.TcCoe Idealize.SL.Sem
open Idealize.ShloMosaic.Pipeline (Dat)
open Cert.KeysIdeal Cert.KeysIdeal.Gen Cert.KeysIdeal.Stream

/-- Column `j` of the segment among all the columns of the projection. -/
def col (j : Fin 2048) : Fin 12320 := ⟨2048 + j.val, by omega⟩

/-- A row of `x` times column `j` of the segment (the weights transposed). -/
def proj {n : ℕ} (x : FVec Ideal ⟨2, ![n, 4096]⟩ .bf16) (w : FVec Ideal S12320x4096 .f32) (r : Fin n) (j : Fin 2048) : EReal :=
  ∑ k : Fin 4096, (x (ix2 r k) : EReal) * w (ix2 (col j) k)

/-- The segment of the prompt's rows. -/
def PROJP (x : FVec Ideal S8192x4096 .bf16) (w : FVec Ideal S12320x4096 .f32) : FVec Ideal S8192x2048 .f32 := fun i => proj x w (i 0) (i 1)
/-- The segment of the samples' rows. -/
def PROJS (x : FVec Ideal S32x4096 .bf16) (w : FVec Ideal S12320x4096 .f32) : FVec Ideal S32x2048 .f32 := fun i => proj x w (i 0) (i 1)

/-- Column `j` of tile `b`. -/
def tcol (b : Fin 4) (j : Fin 512) : Fin 2048 := ⟨512 * b.val + j.val, by omega⟩

/-- A tile read off the transposed weights. -/
theorem src_read (c : Dev nD) (W : FVec Ideal S12320x4096 .f32) (b : Fin 4) :
    (srcM b).view.read (Elt Ideal) W
      = (fun y : S512x4096.Idx => W ((Rect.unit (s := S12320x4096) ![2048 + 512 * b.val, 0] S512x4096.size (inb_src b)).emb y)) := by
  unfold srcM
  rfl

/-- An element of a tile is an element of the weights. -/
theorem tile_apply (c : Dev nD) (W : FVec Ideal S12320x4096 .f32) (b : Fin 4) (j : Fin 512) (k : Fin 4096) :
    (tile (F := Ideal) c W b (ix2 j k) : EReal) = W (ix2 (col (tcol b j)) k) := by
  unfold tile
  rw [src_read c W b]
  pointwise []
  refine congrArg W (funext fun a => ?_)
  fin_cases a <;> apply Fin.ext <;> simp [Rect.emb, ix2, col, tcol, Rect.unit]
  omega

theorem idx : ∀ t : Fin cfg0.N, win0_0.index t = ![t.val % 8, 0] ∧ win0_1.index t = ![0, 0]
    ∧ win0_2.index t = ![t.val % 8, t.val / 8] ∧ win0_3.index t = ![0, t.val / 8] :=
  (by decide +kernel : ∀ t : Fin grid0.N, _)

variable (m : (ℓ : Loc nD τ sig) → Buf (Elt Ideal) ℓ) (ρ : Dev nD → PrngReg)

theorem held_apply (c : Dev nD) (t : Fin cfg0.N) (j : Fin 512) (k : Fin 4096) :
    (held (F := Ideal) m c t (ix2 j k) : EReal) = (V m c main_v4 : FVec Ideal S12320x4096 .f32) (ix2 (col (tcol (tl t) j)) k) :=
  tile_apply c _ (tl t) j k

/-- A row of a block times a column of the held tile. -/
def bproj {n : ℕ} (x : FVec Ideal ⟨2, ![n, 4096]⟩ .bf16) (w : FVec Ideal S12320x4096 .f32) (r : Fin n) (b : Fin 4) (j : Fin 512) : EReal :=
  ∑ k : Fin 4096, (x (ix2 r k) : EReal) * w (ix2 (col (tcol b j)) k)

/-- What a point computes of the prompt's rows. -/
theorem pay2_held (c : Dev nD) (t : Fin cfg0.N) (x : FVec Ideal S1024x4096 .bf16) (y : S1024x512.Idx) :
    (k0_pay2 x (held m c t) y : EReal) = bproj x (V m c main_v4) (y 0) (tl t) (y 1) := by
  idx_vars y
  pointwise [k0_pay2, bproj]
  simp only [held_apply]

/-- What a point computes of the samples' rows. -/
theorem pay1_held (c : Dev nD) (t : Fin cfg0.N) (x : FVec Ideal S32x4096 .bf16) (y : S32x512.Idx) :
    (k0_pay1 (k0_pay4 x) (held m c t) y : EReal) = bproj x (V m c main_v4) (y 0) (tl t) (y 1) := by
  idx_vars y
  pointwise [k0_pay1, k0_pay4, bproj]
  simp only [held_apply]

/-- A block's product is the array's, at the block's row and the tile's column. -/
theorem bproj_eq {n n' : ℕ} (x : FVec Ideal ⟨2, ![n, 4096]⟩ .bf16) (x' : FVec Ideal ⟨2, ![n', 4096]⟩ .bf16) (w : FVec Ideal S12320x4096 .f32)
    (r : Fin n) (r' : Fin n') (b : Fin 4) (j : Fin 512) (j' : Fin 2048) (hx : ∀ k : Fin 4096, x (ix2 r k) = x' (ix2 r' k)) (hj : tcol b j = j') :
    bproj x w r b j = proj x' w r' j' := by
  subst hj
  exact Finset.sum_congr rfl fun k _ => by rw [hx k]

/-- The first result is the segment of the prompt. -/
theorem final_op (c : Dev nD) : (dats m 0 c).arrAt 2 cfg0.N = PROJP (V m c main_v1) (V m c main_v4) := by
  refine (dats m 0 c).arrAt_eq_of_covers 2 _ (by decide +kernel) fun t _ y => ?_
  blk_simp
  rw [after_2]
  refine (pay2_held m c t (iblk m c 0 t) y).trans ?_
  have key := bproj_eq (iblk m c 0 t) (V m c main_v1) (V m c main_v4) (y 0) ((((View.whole main_v5_0).slice (win0_2.rect t)).emb y) 0) (tl t) (y 1)
    ((((View.whole main_v5_0).slice (win0_2.rect t)).emb y) 1) (fun k => by blk_point [iblk, idx t]) (Fin.ext (by
      have hN : t.val < 32 := lt_of_lt_of_eq t.isLt (show cfg0.N = 32 from N_0)
      simp [tcol, tl, Ring.bk, idx t, Pipeline.WinKind.off]; omega))
  rw [key]
  rfl

/-- The second result is the segment of the samples. -/
theorem final_os (c : Dev nD) : (dats m 0 c).arrAt 3 cfg0.N = PROJS (V m c main_v3) (V m c main_v4) := by
  refine (dats m 0 c).arrAt_eq_of_covers 3 _ (by decide +kernel) fun t _ y => ?_
  blk_simp
  rw [after_3]
  refine (pay1_held m c t (iblk m c 1 t) y).trans ?_
  have key := bproj_eq (iblk m c 1 t) (V m c main_v3) (V m c main_v4) (y 0) ((((View.whole main_v5_1).slice (win0_3.rect t)).emb y) 0) (tl t) (y 1)
    ((((View.whole main_v5_1).slice (win0_3.rect t)).emb y) 1) (fun k => by blk_point [iblk, idx t]) (Fin.ext (by
      have hN : t.val < 32 := lt_of_lt_of_eq t.isLt (show cfg0.N = 32 from N_0)
      simp [tcol, tl, Ring.bk, idx t, Pipeline.WinKind.off]; omega))
  rw [key]
  rfl

/-! ## What the host prepares -/

theorem V_x (c : Dev nD) : (V m c main_v1 : FVec Ideal S8192x4096 .bf16) = truncf (F := Ideal) .bf16 (shapeCast S8192x4096 (m ((c : Thread nD τ).loc main_arg0) : FVec Ideal S4x2048x4096 .f32) shapeCasts_S4x2048x4096_S8192x4096) bitsLt_bf16_f32 := by
  show StableHlo.after hostOps0 (fun b => m (c, b)) (Proc.devRef .tc main_v1) = _
  after_results; try rfl
theorem V_xs (c : Dev nD) : (V m c main_v3 : FVec Ideal S32x4096 .bf16) = truncf (F := Ideal) .bf16 (shapeCast S32x4096 (m ((c : Thread nD τ).loc main_arg1) : FVec Ideal S8x4x4096 .f32) shapeCasts_S8x4x4096_S32x4096) bitsLt_bf16_f32 := by
  show StableHlo.after hostOps0 (fun b => m (c, b)) (Proc.devRef .tc main_v3) = _
  after_results; try rfl
theorem V_w (c : Dev nD) : (V m c main_v4 : FVec Ideal S12320x4096 .f32) = transpose S12320x4096 [1, 0] (m ((c : Thread nD τ).loc main_arg2) : FVec Ideal S4096x12320 .f32) transposes_S4096x12320_S12320x4096_1_0 := by
  show StableHlo.after hostOps0 (fun b => m (c, b)) (Proc.devRef .tc main_v4) = _
  after_results; try rfl

end Cert.KeysIdeal.Val

end
-- ==== Proof.KeysEq.lean ====
module

public import proofs.«01_k».proof.Proof.KeysValue
public import proofs.«01_k».proof.Proof.Gen.KeysRefIdeal.Run
public import proofs.«01_k».proof.Defs

@[expose] public section

set_option maxRecDepth 16384

noncomputable section

namespace Cert.KeysRefIdeal.Val

open Idealize.ShloMosaic Idealize.ShloMosaic.TcCoe Idealize.SL.Sem
open Cert.KeysRefIdeal Cert.KeysRefIdeal.Gen

/-- The reference's first result as a term of its arguments. -/
abbrev REFP (X0 : FVec Ideal S4x2048x4096 .f32) (X2 : FVec Ideal S4096x12320 .f32) : FVec Ideal S8192x2048 .f32 :=
  shapeCast _ (extractStridedSlice S4x2048x2048 ![0, 0, 2048] (Host.dotGeneral dot_S4x2048x4096_S4096x12320_S4x2048x12320_2_0_01_1_n_n none X0 X2) slices_S4x2048x12320_S4x2048x2048_0_0_2048) shapeCasts_S4x2048x2048_S8192x2048
/-- The reference's second result as a term of its arguments. -/
abbrev REFS (X1 : FVec Ideal S8x4x4096 .f32) (X2 : FVec Ideal S4096x12320 .f32) : FVec Ideal S32x2048 .f32 :=
  shapeCast _ (extractStridedSlice S8x4x2048 ![0, 0, 2048] (Host.dotGeneral dot_S8x4x4096_S4096x12320_S8x4x12320_2_0_01_1_n_n none X1 X2) slices_S8x4x12320_S8x4x2048_0_0_2048) shapeCasts_S8x4x2048_S32x2048

end Cert.KeysRefIdeal.Val

namespace Cert.KeysEq

open Idealize.ShloMosaic Idealize.ShloMosaic.TcCoe Idealize.SL.Sem
open Cert.KeysIdeal.Val

/-- The segment's columns by number. -/
theorem col_at (j : Fin 2048) (h : 2048 + j.val < 12320) : (⟨2048 + j.val, h⟩ : Fin 12320) = col j := rfl

/-- The reference's first result is the segment of the prompt. -/
theorem refp_eq (X0 : FVec Ideal Cert.KeysIdeal.S4x2048x4096 .f32) (X2 : FVec Ideal Cert.KeysIdeal.S4096x12320 .f32) :
    Cert.KeysRefIdeal.Val.REFP X0 X2 = PROJP (truncf .bf16 (shapeCast Cert.KeysIdeal.S8192x4096 X0 Cert.KeysIdeal.Gen.shapeCasts_S4x2048x4096_S8192x4096) Cert.KeysIdeal.Gen.bitsLt_bf16_f32)
      (transpose Cert.KeysIdeal.S12320x4096 [1, 0] X2 Cert.KeysIdeal.Gen.transposes_S4096x12320_S12320x4096_1_0) := by
  funext j
  idx_vars j
  pointwise [Cert.KeysRefIdeal.Val.REFP]
  pointwise [PROJP, proj]
  rfl

/-- The reference's second result is the segment of the samples. -/
theorem refs_eq (X1 : FVec Ideal Cert.KeysIdeal.S8x4x4096 .f32) (X2 : FVec Ideal Cert.KeysIdeal.S4096x12320 .f32) :
    Cert.KeysRefIdeal.Val.REFS X1 X2 = PROJS (truncf .bf16 (shapeCast Cert.KeysIdeal.S32x4096 X1 Cert.KeysIdeal.Gen.shapeCasts_S8x4x4096_S32x4096) Cert.KeysIdeal.Gen.bitsLt_bf16_f32)
      (transpose Cert.KeysIdeal.S12320x4096 [1, 0] X2 Cert.KeysIdeal.Gen.transposes_S4096x12320_S12320x4096_1_0) := by
  funext j
  idx_vars j
  pointwise [Cert.KeysRefIdeal.Val.REFS]
  pointwise [PROJS, proj]
  rfl

section Run
open Cert.KeysIdeal Cert.KeysIdeal.Gen Cert.KeysIdeal.Stream

/-- The kernel's run at its two values. -/
theorem run_proj (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5_0) = (dats m 0 c).arrAt 2 cfg0.N
      ∧ r.2.mem ((c.tc : Thread nD τ).loc main_v5_1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 2, (h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run m ρ)

end Run

/-- The kernel's two results and the reference's are the same arrays at every input. -/
theorem algebraic : Cert.algebraic_KeysIdeal_KeysRefIdeal := by
  intro m ρ m' ρ' _ hag
  refine ⟨fun c => (Cert.KeysIdeal.Stream.dats m 0 c).arrAt 2 Cert.KeysIdeal.cfg0.N, fun c => (Cert.KeysIdeal.Stream.dats m 0 c).arrAt 3 Cert.KeysIdeal.cfg0.N,
    run_proj m ρ,
    (θ_run _ _ _).mono (fun _ h c => ⟨(h c).1.trans ?_, (h c).2.1.trans ?_, (h c).2.2⟩) (Cert.KeysRefIdeal.Value.run m' ρ')⟩
  · obtain ⟨h0, h1, h2⟩ := hag c
    refine Eq.trans ?_ (final_op m c).symm
    rw [V_x, V_w, h0, h2]
    exact refp_eq _ _
  · obtain ⟨h0, h1, h2⟩ := hag c
    refine Eq.trans ?_ (final_os m c).symm
    rw [V_xs, V_w, h1, h2]
    exact refs_eq _ _

end Cert.KeysEq

end
-- ==== Proof.ValsValue.lean ====
module

public import proofs.«01_k».proof.Proof.ValsRun
public import proofs.«01_k».proof.Proof.Gen.ValsRefIdeal
public import Idealize.ShloMosaic.Lib.Pipeline.ValueKit
public import Idealize.ShloMosaic.Lib.Pointwise

@[expose] public section

set_option maxRecDepth 16384

noncomputable section

namespace Cert.ValsIdeal.Val

open Idealize.ShloMosaic Idealize.ShloMosaic.TcCoe Idealize.SL.Sem
open Idealize.ShloMosaic.Pipeline (Dat)
open Cert.ValsIdeal Cert.ValsIdeal.Gen Cert.ValsIdeal.Stream

/-- Column `j` of the segment among all the columns of the projection. -/
def col (j : Fin 2048) : Fin 12320 := ⟨4096 + j.val, by omega⟩

/-- A row of `x` times column `j` of the segment (the weights transposed). -/
def proj {n : ℕ} (x : FVec Ideal ⟨2, ![n, 4096]⟩ .bf16) (w : FVec Ideal S12320x4096 .f32) (r : Fin n) (j : Fin 2048) : EReal :=
  ∑ k : Fin 4096, (x (ix2 r k) : EReal) * w (ix2 (col j) k)

/-- The segment of the prompt's rows. -/
def PROJP (x : FVec Ideal S8192x4096 .bf16) (w : FVec Ideal S12320x4096 .f32) : FVec Ideal S8192x2048 .f32 := fun i => proj x w (i 0) (i 1)
/-- The segment of the samples' rows. -/
def PROJS (x : FVec Ideal S32x4096 .bf16) (w : FVec Ideal S12320x4096 .f32) : FVec Ideal S32x2048 .f32 := fun i => proj x w (i 0) (i 1)

/-- Column `j` of tile `b`. -/
def tcol (b : Fin 4) (j : Fin 512) : Fin 2048 := ⟨512 * b.val + j.val, by omega⟩

/-- A tile read off the transposed weights. -/
theorem src_read (c : Dev nD) (W : FVec Ideal S12320x4096 .f32) (b : Fin 4) :
    (srcM b).view.read (Elt Ideal) W
      = (fun y : S512x4096.Idx => W ((Rect.unit (s := S12320x4096) ![4096 + 512 * b.val, 0] S512x4096.size (inb_src b)).emb y)) := by
  unfold srcM
  rfl

/-- An element of a tile is an element of the weights. -/
theorem tile_apply (c : Dev nD) (W : FVec Ideal S12320x4096 .f32) (b : Fin 4) (j : Fin 512) (k : Fin 4096) :
    (tile (F := Ideal) c W b (ix2 j k) : EReal) = W (ix2 (col (tcol b j)) k) := by
  unfold tile
  rw [src_read c W b]
  pointwise []
  refine congrArg W (funext fun a => ?_)
  fin_cases a <;> apply Fin.ext <;> simp [Rect.emb, ix2, col, tcol, Rect.unit]
  omega

theorem idx : ∀ t : Fin cfg0.N, win0_0.index t = ![t.val % 8, 0] ∧ win0_1.index t = ![0, 0]
    ∧ win0_2.index t = ![t.val % 8, t.val / 8] ∧ win0_3.index t = ![0, t.val / 8] :=
  (by decide +kernel : ∀ t : Fin grid0.N, _)

variable (m : (ℓ : Loc nD τ sig) → Buf (Elt Ideal) ℓ) (ρ : Dev nD → PrngReg)

theorem held_apply (c : Dev nD) (t : Fin cfg0.N) (j : Fin 512) (k : Fin 4096) :
    (held (F := Ideal) m c t (ix2 j k) : EReal) = (V m c main_v4 : FVec Ideal S12320x4096 .f32) (ix2 (col (tcol (tl t) j)) k) :=
  tile_apply c _ (tl t) j k

/-- A row of a block times a column of the held tile. -/
def bproj {n : ℕ} (x : FVec Ideal ⟨2, ![n, 4096]⟩ .bf16) (w : FVec Ideal S12320x4096 .f32) (r : Fin n) (b : Fin 4) (j : Fin 512) : EReal :=
  ∑ k : Fin 4096, (x (ix2 r k) : EReal) * w (ix2 (col (tcol b j)) k)

/-- What a point computes of the prompt's rows. -/
theorem pay2_held (c : Dev nD) (t : Fin cfg0.N) (x : FVec Ideal S1024x4096 .bf16) (y : S1024x512.Idx) :
    (k0_pay2 x (held m c t) y : EReal) = bproj x (V m c main_v4) (y 0) (tl t) (y 1) := by
  idx_vars y
  pointwise [k0_pay2, bproj]
  simp only [held_apply]

/-- What a point computes of the samples' rows. -/
theorem pay1_held (c : Dev nD) (t : Fin cfg0.N) (x : FVec Ideal S32x4096 .bf16) (y : S32x512.Idx) :
    (k0_pay1 (k0_pay4 x) (held m c t) y : EReal) = bproj x (V m c main_v4) (y 0) (tl t) (y 1) := by
  idx_vars y
  pointwise [k0_pay1, k0_pay4, bproj]
  simp only [held_apply]

/-- A block's product is the array's, at the block's row and the tile's column. -/
theorem bproj_eq {n n' : ℕ} (x : FVec Ideal ⟨2, ![n, 4096]⟩ .bf16) (x' : FVec Ideal ⟨2, ![n', 4096]⟩ .bf16) (w : FVec Ideal S12320x4096 .f32)
    (r : Fin n) (r' : Fin n') (b : Fin 4) (j : Fin 512) (j' : Fin 2048) (hx : ∀ k : Fin 4096, x (ix2 r k) = x' (ix2 r' k)) (hj : tcol b j = j') :
    bproj x w r b j = proj x' w r' j' := by
  subst hj
  exact Finset.sum_congr rfl fun k _ => by rw [hx k]

/-- The first result is the segment of the prompt. -/
theorem final_op (c : Dev nD) : (dats m 0 c).arrAt 2 cfg0.N = PROJP (V m c main_v1) (V m c main_v4) := by
  refine (dats m 0 c).arrAt_eq_of_covers 2 _ (by decide +kernel) fun t _ y => ?_
  blk_simp
  rw [after_2]
  refine (pay2_held m c t (iblk m c 0 t) y).trans ?_
  have key := bproj_eq (iblk m c 0 t) (V m c main_v1) (V m c main_v4) (y 0) ((((View.whole main_v5_0).slice (win0_2.rect t)).emb y) 0) (tl t) (y 1)
    ((((View.whole main_v5_0).slice (win0_2.rect t)).emb y) 1) (fun k => by blk_point [iblk, idx t]) (Fin.ext (by
      have hN : t.val < 32 := lt_of_lt_of_eq t.isLt (show cfg0.N = 32 from N_0)
      simp [tcol, tl, Ring.bk, idx t, Pipeline.WinKind.off]; omega))
  rw [key]
  rfl

/-- The second result is the segment of the samples. -/
theorem final_os (c : Dev nD) : (dats m 0 c).arrAt 3 cfg0.N = PROJS (V m c main_v3) (V m c main_v4) := by
  refine (dats m 0 c).arrAt_eq_of_covers 3 _ (by decide +kernel) fun t _ y => ?_
  blk_simp
  rw [after_3]
  refine (pay1_held m c t (iblk m c 1 t) y).trans ?_
  have key := bproj_eq (iblk m c 1 t) (V m c main_v3) (V m c main_v4) (y 0) ((((View.whole main_v5_1).slice (win0_3.rect t)).emb y) 0) (tl t) (y 1)
    ((((View.whole main_v5_1).slice (win0_3.rect t)).emb y) 1) (fun k => by blk_point [iblk, idx t]) (Fin.ext (by
      have hN : t.val < 32 := lt_of_lt_of_eq t.isLt (show cfg0.N = 32 from N_0)
      simp [tcol, tl, Ring.bk, idx t, Pipeline.WinKind.off]; omega))
  rw [key]
  rfl

/-! ## What the host prepares -/

theorem V_x (c : Dev nD) : (V m c main_v1 : FVec Ideal S8192x4096 .bf16) = truncf (F := Ideal) .bf16 (shapeCast S8192x4096 (m ((c : Thread nD τ).loc main_arg0) : FVec Ideal S4x2048x4096 .f32) shapeCasts_S4x2048x4096_S8192x4096) bitsLt_bf16_f32 := by
  show StableHlo.after hostOps0 (fun b => m (c, b)) (Proc.devRef .tc main_v1) = _
  after_results; try rfl
theorem V_xs (c : Dev nD) : (V m c main_v3 : FVec Ideal S32x4096 .bf16) = truncf (F := Ideal) .bf16 (shapeCast S32x4096 (m ((c : Thread nD τ).loc main_arg1) : FVec Ideal S8x4x4096 .f32) shapeCasts_S8x4x4096_S32x4096) bitsLt_bf16_f32 := by
  show StableHlo.after hostOps0 (fun b => m (c, b)) (Proc.devRef .tc main_v3) = _
  after_results; try rfl
theorem V_w (c : Dev nD) : (V m c main_v4 : FVec Ideal S12320x4096 .f32) = transpose S12320x4096 [1, 0] (m ((c : Thread nD τ).loc main_arg2) : FVec Ideal S4096x12320 .f32) transposes_S4096x12320_S12320x4096_1_0 := by
  show StableHlo.after hostOps0 (fun b => m (c, b)) (Proc.devRef .tc main_v4) = _
  after_results; try rfl

end Cert.ValsIdeal.Val

end
-- ==== Proof.ValsEq.lean ====
module

public import proofs.«01_k».proof.Proof.ValsValue
public import proofs.«01_k».proof.Proof.Gen.ValsRefIdeal.Run
public import proofs.«01_k».proof.Defs

@[expose] public section

set_option maxRecDepth 16384

noncomputable section

namespace Cert.ValsRefIdeal.Val

open Idealize.ShloMosaic Idealize.ShloMosaic.TcCoe Idealize.SL.Sem
open Cert.ValsRefIdeal Cert.ValsRefIdeal.Gen

/-- The reference's first result as a term of its arguments. -/
abbrev REFP (X0 : FVec Ideal S4x2048x4096 .f32) (X2 : FVec Ideal S4096x12320 .f32) : FVec Ideal S8192x2048 .f32 :=
  shapeCast _ (extractStridedSlice S4x2048x2048 ![0, 0, 4096] (Host.dotGeneral dot_S4x2048x4096_S4096x12320_S4x2048x12320_2_0_01_1_n_n none X0 X2) slices_S4x2048x12320_S4x2048x2048_0_0_4096) shapeCasts_S4x2048x2048_S8192x2048
/-- The reference's second result as a term of its arguments. -/
abbrev REFS (X1 : FVec Ideal S8x4x4096 .f32) (X2 : FVec Ideal S4096x12320 .f32) : FVec Ideal S32x2048 .f32 :=
  shapeCast _ (extractStridedSlice S8x4x2048 ![0, 0, 4096] (Host.dotGeneral dot_S8x4x4096_S4096x12320_S8x4x12320_2_0_01_1_n_n none X1 X2) slices_S8x4x12320_S8x4x2048_0_0_4096) shapeCasts_S8x4x2048_S32x2048

end Cert.ValsRefIdeal.Val

namespace Cert.ValsEq

open Idealize.ShloMosaic Idealize.ShloMosaic.TcCoe Idealize.SL.Sem
open Cert.ValsIdeal.Val

/-- The segment's columns by number. -/
theorem col_at (j : Fin 2048) (h : 4096 + j.val < 12320) : (⟨4096 + j.val, h⟩ : Fin 12320) = col j := rfl

/-- The reference's first result is the segment of the prompt. -/
theorem refp_eq (X0 : FVec Ideal Cert.ValsIdeal.S4x2048x4096 .f32) (X2 : FVec Ideal Cert.ValsIdeal.S4096x12320 .f32) :
    Cert.ValsRefIdeal.Val.REFP X0 X2 = PROJP (truncf .bf16 (shapeCast Cert.ValsIdeal.S8192x4096 X0 Cert.ValsIdeal.Gen.shapeCasts_S4x2048x4096_S8192x4096) Cert.ValsIdeal.Gen.bitsLt_bf16_f32)
      (transpose Cert.ValsIdeal.S12320x4096 [1, 0] X2 Cert.ValsIdeal.Gen.transposes_S4096x12320_S12320x4096_1_0) := by
  funext j
  idx_vars j
  pointwise [Cert.ValsRefIdeal.Val.REFP]
  pointwise [PROJP, proj]
  rfl

/-- The reference's second result is the segment of the samples. -/
theorem refs_eq (X1 : FVec Ideal Cert.ValsIdeal.S8x4x4096 .f32) (X2 : FVec Ideal Cert.ValsIdeal.S4096x12320 .f32) :
    Cert.ValsRefIdeal.Val.REFS X1 X2 = PROJS (truncf .bf16 (shapeCast Cert.ValsIdeal.S32x4096 X1 Cert.ValsIdeal.Gen.shapeCasts_S8x4x4096_S32x4096) Cert.ValsIdeal.Gen.bitsLt_bf16_f32)
      (transpose Cert.ValsIdeal.S12320x4096 [1, 0] X2 Cert.ValsIdeal.Gen.transposes_S4096x12320_S12320x4096_1_0) := by
  funext j
  idx_vars j
  pointwise [Cert.ValsRefIdeal.Val.REFS]
  pointwise [PROJS, proj]
  rfl

section Run
open Cert.ValsIdeal Cert.ValsIdeal.Gen Cert.ValsIdeal.Stream

/-- The kernel's run at its two values. -/
theorem run_proj (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5_0) = (dats m 0 c).arrAt 2 cfg0.N
      ∧ r.2.mem ((c.tc : Thread nD τ).loc main_v5_1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 2, (h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run m ρ)

end Run

/-- The kernel's two results and the reference's are the same arrays at every input. -/
theorem algebraic : Cert.algebraic_ValsIdeal_ValsRefIdeal := by
  intro m ρ m' ρ' _ hag
  refine ⟨fun c => (Cert.ValsIdeal.Stream.dats m 0 c).arrAt 2 Cert.ValsIdeal.cfg0.N, fun c => (Cert.ValsIdeal.Stream.dats m 0 c).arrAt 3 Cert.ValsIdeal.cfg0.N,
    run_proj m ρ,
    (θ_run _ _ _).mono (fun _ h c => ⟨(h c).1.trans ?_, (h c).2.1.trans ?_, (h c).2.2⟩) (Cert.ValsRefIdeal.Value.run m' ρ')⟩
  · obtain ⟨h0, h1, h2⟩ := hag c
    refine Eq.trans ?_ (final_op m c).symm
    rw [V_x, V_w, h0, h2]
    exact refp_eq _ _
  · obtain ⟨h0, h1, h2⟩ := hag c
    refine Eq.trans ?_ (final_os m c).symm
    rw [V_xs, V_w, h1, h2]
    exact refs_eq _ _

end Cert.ValsEq

end
-- ==== Proof.ConvValue.lean ====
module

public import proofs.«01_k».proof.Proof.ConvRun
public import proofs.«01_k».proof.Proof.Gen.ConvRefIdeal
public import Idealize.ShloMosaic.Lib.Pipeline.ValueKit
public import Idealize.ShloMosaic.Lib.Pointwise

@[expose] public section

set_option maxRecDepth 16384

noncomputable section

namespace Cert.ConvIdeal.Val

open Idealize.ShloMosaic Idealize.ShloMosaic.TcCoe Idealize.SL.Sem
open Idealize.ShloMosaic.Pipeline (Dat)
open Cert.ConvIdeal Cert.ConvIdeal.Gen Cert.ConvIdeal.Stream

/-- Column `j` of the segment among all the columns of the projection. -/
def col (j : Fin 4096) : Fin 12320 := ⟨8192 + j.val, by omega⟩

/-- A row of `x` times column `j` of the segment (the weights transposed). -/
def proj {n : ℕ} (x : FVec Ideal ⟨2, ![n, 4096]⟩ .bf16) (w : FVec Ideal S12320x4096 .f32) (r : Fin n) (j : Fin 4096) : EReal :=
  ∑ k : Fin 4096, (x (ix2 r k) : EReal) * w (ix2 (col j) k)

/-- The segment of the prompt's rows. -/
def PROJP (x : FVec Ideal S8192x4096 .bf16) (w : FVec Ideal S12320x4096 .f32) : FVec Ideal S8192x4096 .f32 := fun i => proj x w (i 0) (i 1)
/-- The segment of the samples' rows. -/
def PROJS (x : FVec Ideal S32x4096 .bf16) (w : FVec Ideal S12320x4096 .f32) : FVec Ideal S32x4096 .f32 := fun i => proj x w (i 0) (i 1)

/-- Column `j` of tile `b`. -/
def tcol (b : Fin 8) (j : Fin 512) : Fin 4096 := ⟨512 * b.val + j.val, by omega⟩

/-- A tile read off the transposed weights. -/
theorem src_read (c : Dev nD) (W : FVec Ideal S12320x4096 .f32) (b : Fin 8) :
    (srcM b).view.read (Elt Ideal) W
      = (fun y : S512x4096.Idx => W ((Rect.unit (s := S12320x4096) ![8192 + 512 * b.val, 0] S512x4096.size (inb_src b)).emb y)) := by
  unfold srcM
  rfl

/-- An element of a tile is an element of the weights. -/
theorem tile_apply (c : Dev nD) (W : FVec Ideal S12320x4096 .f32) (b : Fin 8) (j : Fin 512) (k : Fin 4096) :
    (tile (F := Ideal) c W b (ix2 j k) : EReal) = W (ix2 (col (tcol b j)) k) := by
  unfold tile
  rw [src_read c W b]
  pointwise []
  refine congrArg W (funext fun a => ?_)
  fin_cases a <;> apply Fin.ext <;> simp [Rect.emb, ix2, col, tcol, Rect.unit]
  omega

theorem idx : ∀ t : Fin cfg0.N, win0_0.index t = ![t.val % 8, 0] ∧ win0_1.index t = ![0, 0]
    ∧ win0_2.index t = ![t.val % 8, t.val / 8] ∧ win0_3.index t = ![0, t.val / 8] :=
  (by decide +kernel : ∀ t : Fin grid0.N, _)

variable (m : (ℓ : Loc nD τ sig) → Buf (Elt Ideal) ℓ) (ρ : Dev nD → PrngReg)

theorem held_apply (c : Dev nD) (t : Fin cfg0.N) (j : Fin 512) (k : Fin 4096) :
    (held (F := Ideal) m c t (ix2 j k) : EReal) = (V m c main_v4 : FVec Ideal S12320x4096 .f32) (ix2 (col (tcol (tl t) j)) k) :=
  tile_apply c _ (tl t) j k

/-- A row of a block times a column of the held tile. -/
def bproj {n : ℕ} (x : FVec Ideal ⟨2, ![n, 4096]⟩ .bf16) (w : FVec Ideal S12320x4096 .f32) (r : Fin n) (b : Fin 8) (j : Fin 512) : EReal :=
  ∑ k : Fin 4096, (x (ix2 r k) : EReal) * w (ix2 (col (tcol b j)) k)

/-- What a point computes of the prompt's rows. -/
theorem pay2_held (c : Dev nD) (t : Fin cfg0.N) (x : FVec Ideal S1024x4096 .bf16) (y : S1024x512.Idx) :
    (k0_pay2 x (held m c t) y : EReal) = bproj x (V m c main_v4) (y 0) (tl t) (y 1) := by
  idx_vars y
  pointwise [k0_pay2, bproj]
  simp only [held_apply]

/-- What a point computes of the samples' rows. -/
theorem pay1_held (c : Dev nD) (t : Fin cfg0.N) (x : FVec Ideal S32x4096 .bf16) (y : S32x512.Idx) :
    (k0_pay1 (k0_pay4 x) (held m c t) y : EReal) = bproj x (V m c main_v4) (y 0) (tl t) (y 1) := by
  idx_vars y
  pointwise [k0_pay1, k0_pay4, bproj]
  simp only [held_apply]

/-- A block's product is the array's, at the block's row and the tile's column. -/
theorem bproj_eq {n n' : ℕ} (x : FVec Ideal ⟨2, ![n, 4096]⟩ .bf16) (x' : FVec Ideal ⟨2, ![n', 4096]⟩ .bf16) (w : FVec Ideal S12320x4096 .f32)
    (r : Fin n) (r' : Fin n') (b : Fin 8) (j : Fin 512) (j' : Fin 4096) (hx : ∀ k : Fin 4096, x (ix2 r k) = x' (ix2 r' k)) (hj : tcol b j = j') :
    bproj x w r b j = proj x' w r' j' := by
  subst hj
  exact Finset.sum_congr rfl fun k _ => by rw [hx k]

/-- The first result is the segment of the prompt. -/
theorem final_op (c : Dev nD) : (dats m 0 c).arrAt 2 cfg0.N = PROJP (V m c main_v1) (V m c main_v4) := by
  refine (dats m 0 c).arrAt_eq_of_covers 2 _ (by decide +kernel) fun t _ y => ?_
  blk_simp
  rw [after_2]
  refine (pay2_held m c t (iblk m c 0 t) y).trans ?_
  have key := bproj_eq (iblk m c 0 t) (V m c main_v1) (V m c main_v4) (y 0) ((((View.whole main_v5_0).slice (win0_2.rect t)).emb y) 0) (tl t) (y 1)
    ((((View.whole main_v5_0).slice (win0_2.rect t)).emb y) 1) (fun k => by blk_point [iblk, idx t]) (Fin.ext (by
      have hN : t.val < 64 := lt_of_lt_of_eq t.isLt (show cfg0.N = 64 from N_0)
      simp [tcol, tl, Ring.bk, idx t, Pipeline.WinKind.off]; omega))
  rw [key]
  rfl

/-- The second result is the segment of the samples. -/
theorem final_os (c : Dev nD) : (dats m 0 c).arrAt 3 cfg0.N = PROJS (V m c main_v3) (V m c main_v4) := by
  refine (dats m 0 c).arrAt_eq_of_covers 3 _ (by decide +kernel) fun t _ y => ?_
  blk_simp
  rw [after_3]
  refine (pay1_held m c t (iblk m c 1 t) y).trans ?_
  have key := bproj_eq (iblk m c 1 t) (V m c main_v3) (V m c main_v4) (y 0) ((((View.whole main_v5_1).slice (win0_3.rect t)).emb y) 0) (tl t) (y 1)
    ((((View.whole main_v5_1).slice (win0_3.rect t)).emb y) 1) (fun k => by blk_point [iblk, idx t]) (Fin.ext (by
      have hN : t.val < 64 := lt_of_lt_of_eq t.isLt (show cfg0.N = 64 from N_0)
      simp [tcol, tl, Ring.bk, idx t, Pipeline.WinKind.off]; omega))
  rw [key]
  rfl

/-! ## What the host prepares -/

theorem V_x (c : Dev nD) : (V m c main_v1 : FVec Ideal S8192x4096 .bf16) = truncf (F := Ideal) .bf16 (shapeCast S8192x4096 (m ((c : Thread nD τ).loc main_arg0) : FVec Ideal S4x2048x4096 .f32) shapeCasts_S4x2048x4096_S8192x4096) bitsLt_bf16_f32 := by
  show StableHlo.after hostOps0 (fun b => m (c, b)) (Proc.devRef .tc main_v1) = _
  after_results; try rfl
theorem V_xs (c : Dev nD) : (V m c main_v3 : FVec Ideal S32x4096 .bf16) = truncf (F := Ideal) .bf16 (shapeCast S32x4096 (m ((c : Thread nD τ).loc main_arg1) : FVec Ideal S8x4x4096 .f32) shapeCasts_S8x4x4096_S32x4096) bitsLt_bf16_f32 := by
  show StableHlo.after hostOps0 (fun b => m (c, b)) (Proc.devRef .tc main_v3) = _
  after_results; try rfl
theorem V_w (c : Dev nD) : (V m c main_v4 : FVec Ideal S12320x4096 .f32) = transpose S12320x4096 [1, 0] (m ((c : Thread nD τ).loc main_arg2) : FVec Ideal S4096x12320 .f32) transposes_S4096x12320_S12320x4096_1_0 := by
  show StableHlo.after hostOps0 (fun b => m (c, b)) (Proc.devRef .tc main_v4) = _
  after_results; try rfl

end Cert.ConvIdeal.Val

end
-- ==== Proof.ConvEq.lean ====
module

public import proofs.«01_k».proof.Proof.ConvValue
public import proofs.«01_k».proof.Proof.Gen.ConvRefIdeal.Run
public import proofs.«01_k».proof.Defs

@[expose] public section

set_option maxRecDepth 16384

noncomputable section

namespace Cert.ConvRefIdeal.Val

open Idealize.ShloMosaic Idealize.ShloMosaic.TcCoe Idealize.SL.Sem
open Cert.ConvRefIdeal Cert.ConvRefIdeal.Gen

/-- The reference's first result as a term of its arguments. -/
abbrev REFP (X0 : FVec Ideal S4x2048x4096 .f32) (X2 : FVec Ideal S4096x12320 .f32) : FVec Ideal S4x3x4096 .f32 :=
  extractStridedSlice S4x3x4096 ![0, 2048, 0] (concatenate S4x2051x4096 1 [⟨S4x3x4096, (broadcastInDim S4x3x4096 ![] bcast_S_S4x3x4096 (constant S_ .f32 0x00000000#32))⟩, ⟨S4x2048x4096, (extractStridedSlice S4x2048x4096 ![0, 0, 8192] (Host.dotGeneral dot_S4x2048x4096_S4096x12320_S4x2048x12320_2_0_01_1_n_n none X0 X2) slices_S4x2048x12320_S4x2048x4096_0_0_8192)⟩] concatenates_S4x3x4096_S4x2048x4096_S4x2051x4096_d1) slices_S4x2051x4096_S4x3x4096_0_2048_0
/-- The reference's second result as a term of its arguments. -/
abbrev REFS (X1 : FVec Ideal S8x4x4096 .f32) (X2 : FVec Ideal S4096x12320 .f32) (X3 : FVec Ideal S8x3x4096 .f32) : FVec Ideal S8x3x4096 .f32 :=
  extractStridedSlice S8x3x4096 ![0, 4, 0] (concatenate S8x7x4096 1 [⟨S8x3x4096, X3⟩, ⟨S8x4x4096, (extractStridedSlice S8x4x4096 ![0, 0, 8192] (Host.dotGeneral dot_S8x4x4096_S4096x12320_S8x4x12320_2_0_01_1_n_n none X1 X2) slices_S8x4x12320_S8x4x4096_0_0_8192)⟩] concatenates_S8x3x4096_S8x4x4096_S8x7x4096_d1) slices_S8x7x4096_S8x3x4096_0_4_0

end Cert.ConvRefIdeal.Val

namespace Cert.ConvIdeal.Val

open Idealize.ShloMosaic Idealize.ShloMosaic.TcCoe Idealize.SL.Sem
open Cert.ConvIdeal Cert.ConvIdeal.Gen Cert.ConvIdeal.Stream

/-- The last three rows of each sequence of the prompt's segment. -/
abbrev LASTP (P : FVec Ideal S8192x4096 .f32) : FVec Ideal S4x3x4096 .f32 :=
  extractStridedSlice S4x3x4096 ![0, 2045, 0] (shapeCast S4x2048x4096 P shapeCasts_S8192x4096_S4x2048x4096) slices_S4x2048x4096_S4x3x4096_0_2045_0
/-- The last three rows of each sample, the carried rows before the new ones. -/
abbrev LASTS (P : FVec Ideal S32x4096 .f32) (X3 : FVec Ideal S8x3x4096 .f32) : FVec Ideal S8x3x4096 .f32 :=
  extractStridedSlice S8x3x4096 ![0, 4, 0] (concatenate S8x7x4096 1 [⟨S8x3x4096, X3⟩, ⟨S8x4x4096, shapeCast S8x4x4096 P shapeCasts_S32x4096_S8x4x4096⟩] concatenates_S8x3x4096_S8x4x4096_S8x7x4096_d1) slices_S8x7x4096_S8x3x4096_0_4_0

variable (m : (ℓ : Loc nD τ sig) → Buf (Elt Ideal) ℓ)

/-- The first result as the last rows of the launch's first array. -/
theorem fin_p (c : Dev nD) : (fin m c main_v7 : FVec Ideal S4x3x4096 .f32) = LASTP ((dats m 0 c).arrAt 2 cfg0.N) := by
  have e : (fin m c main_v7 : FVec Ideal S4x3x4096 .f32) = LASTP (Pipeline.withArrays (cfgs 0).spec c (V0 m c) (fun w => (dats m 0 c).arrAt w (cfgs 0).N) (Proc.devRef .tc main_v5_0)) := by
    unfold fin Pipeline.afterTail₀
    rw [List.flatten_cons, List.flatten_nil, List.append_nil]
    generalize Pipeline.withArrays (cfgs 0).spec c (V0 m c) (fun w => (dats m 0 c).arrAt w (cfgs 0).N) = W
    after_results; try rfl
  refine e.trans (congrArg LASTP ?_)
  exact Pipeline.withArrays_arr (cfgs 0).spec launch0.win.arr_inj c (V0 m c) (fun w => (dats m 0 c).arrAt w (cfgs 0).N) 2

/-- The second result as the last rows of the launch's second array and the carried rows. -/
theorem fin_s (c : Dev nD) : (fin m c main_v10 : FVec Ideal S8x3x4096 .f32) = LASTS ((dats m 0 c).arrAt 3 cfg0.N) (m ((c : Thread nD τ).loc main_arg3)) := by
  have e : (fin m c main_v10 : FVec Ideal S8x3x4096 .f32) = LASTS (Pipeline.withArrays (cfgs 0).spec c (V0 m c) (fun w => (dats m 0 c).arrAt w (cfgs 0).N) (Proc.devRef .tc main_v5_1))
      (Pipeline.withArrays (cfgs 0).spec c (V0 m c) (fun w => (dats m 0 c).arrAt w (cfgs 0).N) (Proc.devRef .tc main_arg3)) := by
    unfold fin Pipeline.afterTail₀
    rw [List.flatten_cons, List.flatten_nil, List.append_nil]
    generalize Pipeline.withArrays (cfgs 0).spec c (V0 m c) (fun w => (dats m 0 c).arrAt w (cfgs 0).N) = W
    after_results; try rfl
  refine e.trans (congrArg₂ LASTS ?_ ?_)
  · exact Pipeline.withArrays_arr (cfgs 0).spec launch0.win.arr_inj c (V0 m c) (fun w => (dats m 0 c).arrAt w (cfgs 0).N) 3
  · exact (Pipeline.withArrays_of_ne (cfgs 0).spec c (V0 m c) _ main_arg3 (by exact (by decide : ∀ w, Pipeline.arrRef spec0 w ≠ main_arg3))).trans (V_main_arg3 m c)

end Cert.ConvIdeal.Val

namespace Cert.ConvEq

open Idealize.ShloMosaic Idealize.ShloMosaic.TcCoe Idealize.SL.Sem
open Cert.ConvIdeal.Val

/-- The reference's first result is the last rows of the prompt's segment. -/
theorem refp_eq (X0 : FVec Ideal Cert.ConvIdeal.S4x2048x4096 .f32) (X2 : FVec Ideal Cert.ConvIdeal.S4096x12320 .f32) :
    Cert.ConvRefIdeal.Val.REFP X0 X2 = LASTP (PROJP (truncf .bf16 (shapeCast Cert.ConvIdeal.S8192x4096 X0 Cert.ConvIdeal.Gen.shapeCasts_S4x2048x4096_S8192x4096) Cert.ConvIdeal.Gen.bitsLt_bf16_f32)
      (transpose Cert.ConvIdeal.S12320x4096 [1, 0] X2 Cert.ConvIdeal.Gen.transposes_S4096x12320_S12320x4096_1_0)) := by
  funext j
  idx_vars j
  pointwise [Cert.ConvRefIdeal.Val.REFP]
  pointwise [LASTP, PROJP, proj]
  rw [dif_neg (by omega)]
  refine Finset.sum_congr rfl fun x _ => ?_
  have e : ∀ h h', (⟨2048 + j1.val - 3, h⟩ : Fin 2048) = ⟨(j0.val * 2048 + (2045 + j1.val)) % 2048, h'⟩ := fun _ _ => Fin.ext (by
    show 2048 + j1.val - 3 = (j0.val * 2048 + (2045 + j1.val)) % 2048
    have := j1.isLt; omega)
  rw [e]
  rfl

/-- The reference's second result is the last rows of the samples' segment. -/
theorem refs_eq (X1 : FVec Ideal Cert.ConvIdeal.S8x4x4096 .f32) (X2 : FVec Ideal Cert.ConvIdeal.S4096x12320 .f32) (X3 : FVec Ideal Cert.ConvIdeal.S8x3x4096 .f32) :
    Cert.ConvRefIdeal.Val.REFS X1 X2 X3 = LASTS (PROJS (truncf .bf16 (shapeCast Cert.ConvIdeal.S32x4096 X1 Cert.ConvIdeal.Gen.shapeCasts_S8x4x4096_S32x4096) Cert.ConvIdeal.Gen.bitsLt_bf16_f32)
      (transpose Cert.ConvIdeal.S12320x4096 [1, 0] X2 Cert.ConvIdeal.Gen.transposes_S4096x12320_S12320x4096_1_0)) X3 := by
  unfold Cert.ConvRefIdeal.Val.REFS LASTS
  congr 1
  refine congrArg (fun z => concatenate Cert.ConvIdeal.S8x7x4096 1 [⟨Cert.ConvIdeal.S8x3x4096, X3⟩, ⟨Cert.ConvIdeal.S8x4x4096, z⟩] Cert.ConvIdeal.Gen.concatenates_S8x3x4096_S8x4x4096_S8x7x4096_d1) ?_
  funext j
  idx_vars j
  pointwise []
  pointwise [PROJS, proj]
  rfl

/-- The kernel's two results and the reference's are the same arrays at every input. -/
theorem algebraic : Cert.algebraic_ConvIdeal_ConvRefIdeal := by
  intro m ρ m' ρ' _ hag
  refine ⟨fun c => Cert.ConvIdeal.Stream.fin m c Cert.ConvIdeal.main_v7, fun c => Cert.ConvIdeal.Stream.fin m c Cert.ConvIdeal.main_v10,
    (θ_run _ _ _).mono (fun _ h c => ⟨(h.1 c).1.1, (h.1 c).1.2, (h.1 c).2⟩) (Cert.ConvIdeal.Stream.run_all m ρ),
    (θ_run _ _ _).mono (fun _ h c => ⟨(h c).1.trans ?_, (h c).2.1.trans ?_, (h c).2.2⟩) (Cert.ConvRefIdeal.Value.run m' ρ')⟩
  · obtain ⟨h0, h1, h2, h3⟩ := hag c
    refine Eq.trans ?_ (fin_p m c).symm
    rw [final_op, V_x, V_w, h0, h2]
    exact refp_eq _ _
  · obtain ⟨h0, h1, h2, h3⟩ := hag c
    refine Eq.trans ?_ (fin_s m c).symm
    rw [final_os, V_xs, V_w, h1, h2, h3]
    exact refs_eq _ _ _

end Cert.ConvEq

end
-- ==== Proof.PoolValue.lean ====
module

public import proofs.«01_k».proof.Proof.PoolRun
public import proofs.«01_k».proof.Proof.Gen.PoolRefIdeal
public import Idealize.ShloMosaic.Lib.Pipeline.ValueKit
public import Idealize.ShloMosaic.Lib.Pointwise

@[expose] public section

set_option maxRecDepth 16384

noncomputable section

namespace Cert.PoolIdeal.Val

open Idealize.ShloMosaic Idealize.ShloMosaic.TcCoe Idealize.SL.Sem
open Idealize.ShloMosaic.Pipeline (Dat)
open Cert.PoolIdeal Cert.PoolIdeal.Gen Cert.PoolIdeal.Stream

/-- Column `j` of the segment among all the columns of the projection. -/
def col (j : Fin 2048) : Fin 8208 := ⟨j.val, by omega⟩

/-- A row of `x` times column `j` of the segment (the weights transposed). -/
def proj {n : ℕ} (x : FVec Ideal ⟨2, ![n, 4096]⟩ .bf16) (w : FVec Ideal S8208x4096 .f32) (r : Fin n) (j : Fin 2048) : EReal :=
  ∑ k : Fin 4096, (x (ix2 r k) : EReal) * w (ix2 (col j) k)

/-- The segment of the prompt's rows. -/
def PROJP (x : FVec Ideal S8192x4096 .bf16) (w : FVec Ideal S8208x4096 .f32) : FVec Ideal S8192x2048 .f32 := fun i => proj x w (i 0) (i 1)
/-- The segment of the samples' rows. -/
def PROJS (x : FVec Ideal S32x4096 .bf16) (w : FVec Ideal S8208x4096 .f32) : FVec Ideal S32x2048 .f32 := fun i => proj x w (i 0) (i 1)

/-- Column `j` of tile `b`. -/
def tcol (b : Fin 4) (j : Fin 512) : Fin 2048 := ⟨512 * b.val + j.val, by omega⟩

/-- A tile read off the transposed weights. -/
theorem src_read (c : Dev nD) (W : FVec Ideal S8208x4096 .f32) (b : Fin 4) :
    (srcM b).view.read (Elt Ideal) W
      = (fun y : S512x4096.Idx => W ((Rect.unit (s := S8208x4096) ![0 + 512 * b.val, 0] S512x4096.size (inb_src b)).emb y)) := by
  unfold srcM
  rfl

/-- An element of a tile is an element of the weights. -/
theorem tile_apply (c : Dev nD) (W : FVec Ideal S8208x4096 .f32) (b : Fin 4) (j : Fin 512) (k : Fin 4096) :
    (tile (F := Ideal) c W b (ix2 j k) : EReal) = W (ix2 (col (tcol b j)) k) := by
  unfold tile
  rw [src_read c W b]
  pointwise []
  refine congrArg W (funext fun a => ?_)
  fin_cases a <;> apply Fin.ext <;> simp [Rect.emb, ix2, col, tcol, Rect.unit]

theorem idx : ∀ t : Fin cfg0.N, win0_0.index t = ![t.val % 8, 0] ∧ win0_1.index t = ![0, 0]
    ∧ win0_2.index t = ![t.val % 8, t.val / 8] ∧ win0_3.index t = ![0, t.val / 8] :=
  (by decide +kernel : ∀ t : Fin grid0.N, _)

variable (m : (ℓ : Loc nD τ sig) → Buf (Elt Ideal) ℓ) (ρ : Dev nD → PrngReg)

theorem held_apply (c : Dev nD) (t : Fin cfg0.N) (j : Fin 512) (k : Fin 4096) :
    (held (F := Ideal) m c t (ix2 j k) : EReal) = (V m c main_v0 : FVec Ideal S8208x4096 .f32) (ix2 (col (tcol (tl t) j)) k) :=
  tile_apply c _ (tl t) j k

/-- A row of a block times a column of the held tile. -/
def bproj {n : ℕ} (x : FVec Ideal ⟨2, ![n, 4096]⟩ .bf16) (w : FVec Ideal S8208x4096 .f32) (r : Fin n) (b : Fin 4) (j : Fin 512) : EReal :=
  ∑ k : Fin 4096, (x (ix2 r k) : EReal) * w (ix2 (col (tcol b j)) k)

/-- What a point computes of the prompt's rows. -/
theorem pay2_held (c : Dev nD) (t : Fin cfg0.N) (x : FVec Ideal S1024x4096 .bf16) (y : S1024x512.Idx) :
    (k0_pay2 x (held m c t) y : EReal) = bproj x (V m c main_v0) (y 0) (tl t) (y 1) := by
  idx_vars y
  pointwise [k0_pay2, bproj]
  simp only [held_apply]

/-- What a point computes of the samples' rows. -/
theorem pay1_held (c : Dev nD) (t : Fin cfg0.N) (x : FVec Ideal S32x4096 .bf16) (y : S32x512.Idx) :
    (k0_pay1 x (held m c t) y : EReal) = bproj x (V m c main_v0) (y 0) (tl t) (y 1) := by
  idx_vars y
  pointwise [k0_pay1, bproj]
  simp only [held_apply]

/-- A block's product is the array's, at the block's row and the tile's column. -/
theorem bproj_eq {n n' : ℕ} (x : FVec Ideal ⟨2, ![n, 4096]⟩ .bf16) (x' : FVec Ideal ⟨2, ![n', 4096]⟩ .bf16) (w : FVec Ideal S8208x4096 .f32)
    (r : Fin n) (r' : Fin n') (b : Fin 4) (j : Fin 512) (j' : Fin 2048) (hx : ∀ k : Fin 4096, x (ix2 r k) = x' (ix2 r' k)) (hj : tcol b j = j') :
    bproj x w r b j = proj x' w r' j' := by
  subst hj
  exact Finset.sum_congr rfl fun k _ => by rw [hx k]

/-- The first result is the segment of the prompt. -/
theorem final_op (c : Dev nD) : (dats m 0 c).arrAt 2 cfg0.N = PROJP (V m c main_arg0) (V m c main_v0) := by
  refine (dats m 0 c).arrAt_eq_of_covers 2 _ (by decide +kernel) fun t _ y => ?_
  blk_simp
  rw [after_2]
  refine (pay2_held m c t (iblk m c 0 t) y).trans ?_
  have key := bproj_eq (iblk m c 0 t) (V m c main_arg0) (V m c main_v0) (y 0) ((((View.whole main_v1_0).slice (win0_2.rect t)).emb y) 0) (tl t) (y 1)
    ((((View.whole main_v1_0).slice (win0_2.rect t)).emb y) 1) (fun k => by blk_point [iblk, idx t]) (Fin.ext (by
      have hN : t.val < 32 := lt_of_lt_of_eq t.isLt (show cfg0.N = 32 from N_0)
      simp [tcol, tl, Ring.bk, idx t, Pipeline.WinKind.off]; omega))
  rw [key]
  rfl

/-- The second result is the segment of the samples. -/
theorem final_os (c : Dev nD) : (dats m 0 c).arrAt 3 cfg0.N = PROJS (V m c main_arg1) (V m c main_v0) := by
  refine (dats m 0 c).arrAt_eq_of_covers 3 _ (by decide +kernel) fun t _ y => ?_
  blk_simp
  rw [after_3]
  refine (pay1_held m c t (iblk m c 1 t) y).trans ?_
  have key := bproj_eq (iblk m c 1 t) (V m c main_arg1) (V m c main_v0) (y 0) ((((View.whole main_v1_1).slice (win0_3.rect t)).emb y) 0) (tl t) (y 1)
    ((((View.whole main_v1_1).slice (win0_3.rect t)).emb y) 1) (fun k => by blk_point [iblk, idx t]) (Fin.ext (by
      have hN : t.val < 32 := lt_of_lt_of_eq t.isLt (show cfg0.N = 32 from N_0)
      simp [tcol, tl, Ring.bk, idx t, Pipeline.WinKind.off]; omega))
  rw [key]
  rfl

/-! ## What the host prepares -/

theorem V_w (c : Dev nD) : (V m c main_v0 : FVec Ideal S8208x4096 .f32) = transpose S8208x4096 [1, 0] (m ((c : Thread nD τ).loc main_arg2) : FVec Ideal S4096x8208 .f32) transposes_S4096x8208_S8208x4096_1_0 := by
  show StableHlo.after hostOps0 (fun b => m (c, b)) (Proc.devRef .tc main_v0) = _
  after_results; try rfl

end Cert.PoolIdeal.Val

end
-- ==== Proof.PoolEq.lean ====
module

public import proofs.«01_k».proof.Proof.PoolValue
public import proofs.«01_k».proof.Proof.Gen.PoolRefIdeal.Run
public import proofs.«01_k».proof.Defs

@[expose] public section

set_option maxRecDepth 16384

noncomputable section

namespace Cert.PoolRefIdeal.Val

open Idealize.ShloMosaic Idealize.ShloMosaic.TcCoe Idealize.SL.Sem
open Cert.PoolRefIdeal Cert.PoolRefIdeal.Gen

/-- The reference's first result as a term of its arguments. -/
abbrev REFP (X0 : FVec Ideal S8192x4096 .bf16) (X2 : FVec Ideal S4096x8208 .f32) : FVec Ideal S4x15x2048 .f32 :=
  extractStridedSlice S4x15x2048 ![0, 2048, 0] (concatenate S4x2063x2048 1 [⟨S4x15x2048, (broadcastInDim S4x15x2048 ![] bcast_S_S4x15x2048 (constant S_ .f32 0x00000000#32))⟩, ⟨S4x2048x2048, (extractStridedSlice S4x2048x2048 ![0, 0, 0] (Host.dotGeneral dot_S4x2048x4096_S4096x8208_S4x2048x8208_2_0_01_1_n_n none (shapeCast _ (extf .f32 X0 bitsLt_bf16_f32) shapeCasts_S8192x4096_S4x2048x4096) X2) slices_S4x2048x8208_S4x2048x2048_0_0_0)⟩] concatenates_S4x15x2048_S4x2048x2048_S4x2063x2048_d1) slices_S4x2063x2048_S4x15x2048_0_2048_0
/-- The reference's second result as a term of its arguments. -/
abbrev REFS (X1 : FVec Ideal S32x4096 .bf16) (X2 : FVec Ideal S4096x8208 .f32) (X3 : FVec Ideal S8x15x2048 .f32) : FVec Ideal S8x15x2048 .f32 :=
  extractStridedSlice S8x15x2048 ![0, 4, 0] (concatenate S8x19x2048 1 [⟨S8x15x2048, X3⟩, ⟨S8x4x2048, (extractStridedSlice S8x4x2048 ![0, 0, 0] (Host.dotGeneral dot_S8x4x4096_S4096x8208_S8x4x8208_2_0_01_1_n_n none (shapeCast _ (extf .f32 X1 bitsLt_bf16_f32) shapeCasts_S32x4096_S8x4x4096) X2) slices_S8x4x8208_S8x4x2048_0_0_0)⟩] concatenates_S8x15x2048_S8x4x2048_S8x19x2048_d1) slices_S8x19x2048_S8x15x2048_0_4_0

end Cert.PoolRefIdeal.Val

namespace Cert.PoolIdeal.Val

open Idealize.ShloMosaic Idealize.ShloMosaic.TcCoe Idealize.SL.Sem
open Cert.PoolIdeal Cert.PoolIdeal.Gen Cert.PoolIdeal.Stream

/-- The last fifteen rows of each sequence of the prompt's segment. -/
abbrev LASTP (P : FVec Ideal S8192x2048 .f32) : FVec Ideal S4x15x2048 .f32 :=
  extractStridedSlice S4x15x2048 ![0, 2033, 0] (shapeCast S4x2048x2048 P shapeCasts_S8192x2048_S4x2048x2048) slices_S4x2048x2048_S4x15x2048_0_2033_0
/-- The last fifteen rows of each sample, the carried rows before the new ones. -/
abbrev LASTS (P : FVec Ideal S32x2048 .f32) (X3 : FVec Ideal S8x15x2048 .f32) : FVec Ideal S8x15x2048 .f32 :=
  extractStridedSlice S8x15x2048 ![0, 4, 0] (concatenate S8x19x2048 1 [⟨S8x15x2048, X3⟩, ⟨S8x4x2048, shapeCast S8x4x2048 P shapeCasts_S32x2048_S8x4x2048⟩] concatenates_S8x15x2048_S8x4x2048_S8x19x2048_d1) slices_S8x19x2048_S8x15x2048_0_4_0

variable (m : (ℓ : Loc nD τ sig) → Buf (Elt Ideal) ℓ)

/-- The first result as the last rows of the launch's first array. -/
theorem fin_p (c : Dev nD) : (fin m c main_v3 : FVec Ideal S4x15x2048 .f32) = LASTP ((dats m 0 c).arrAt 2 cfg0.N) := by
  have e : (fin m c main_v3 : FVec Ideal S4x15x2048 .f32) = LASTP (Pipeline.withArrays (cfgs 0).spec c (V0 m c) (fun w => (dats m 0 c).arrAt w (cfgs 0).N) (Proc.devRef .tc main_v1_0)) := by
    unfold fin Pipeline.afterTail₀
    rw [List.flatten_cons, List.flatten_nil, List.append_nil]
    generalize Pipeline.withArrays (cfgs 0).spec c (V0 m c) (fun w => (dats m 0 c).arrAt w (cfgs 0).N) = W
    after_results; try rfl
  refine e.trans (congrArg LASTP ?_)
  exact Pipeline.withArrays_arr (cfgs 0).spec launch0.win.arr_inj c (V0 m c) (fun w => (dats m 0 c).arrAt w (cfgs 0).N) 2

/-- The second result as the last rows of the launch's second array and the carried rows. -/
theorem fin_s (c : Dev nD) : (fin m c main_v6 : FVec Ideal S8x15x2048 .f32) = LASTS ((dats m 0 c).arrAt 3 cfg0.N) (m ((c : Thread nD τ).loc main_arg3)) := by
  have e : (fin m c main_v6 : FVec Ideal S8x15x2048 .f32) = LASTS (Pipeline.withArrays (cfgs 0).spec c (V0 m c) (fun w => (dats m 0 c).arrAt w (cfgs 0).N) (Proc.devRef .tc main_v1_1))
      (Pipeline.withArrays (cfgs 0).spec c (V0 m c) (fun w => (dats m 0 c).arrAt w (cfgs 0).N) (Proc.devRef .tc main_arg3)) := by
    unfold fin Pipeline.afterTail₀
    rw [List.flatten_cons, List.flatten_nil, List.append_nil]
    generalize Pipeline.withArrays (cfgs 0).spec c (V0 m c) (fun w => (dats m 0 c).arrAt w (cfgs 0).N) = W
    after_results; try rfl
  refine e.trans (congrArg₂ LASTS ?_ ?_)
  · exact Pipeline.withArrays_arr (cfgs 0).spec launch0.win.arr_inj c (V0 m c) (fun w => (dats m 0 c).arrAt w (cfgs 0).N) 3
  · exact (Pipeline.withArrays_of_ne (cfgs 0).spec c (V0 m c) _ main_arg3 (by exact (by decide : ∀ w, Pipeline.arrRef spec0 w ≠ main_arg3))).trans (V_main_arg3 m c)

end Cert.PoolIdeal.Val

namespace Cert.PoolEq

open Idealize.ShloMosaic Idealize.ShloMosaic.TcCoe Idealize.SL.Sem
open Cert.PoolIdeal.Val

/-- The reference's first result is the last rows of the prompt's segment. -/
theorem refp_eq (X0 : FVec Ideal Cert.PoolIdeal.S8192x4096 .bf16) (X2 : FVec Ideal Cert.PoolIdeal.S4096x8208 .f32) :
    Cert.PoolRefIdeal.Val.REFP X0 X2 = LASTP (PROJP X0
      (transpose Cert.PoolIdeal.S8208x4096 [1, 0] X2 Cert.PoolIdeal.Gen.transposes_S4096x8208_S8208x4096_1_0)) := by
  funext j
  idx_vars j
  pointwise [Cert.PoolRefIdeal.Val.REFP]
  pointwise [LASTP, PROJP, proj]
  rw [dif_neg (by omega)]
  refine Finset.sum_congr rfl fun x _ => ?_
  have e : ∀ h h', (⟨j0.val * 2048 + (2048 + j1.val - 15), h⟩ : Fin 8192) = ⟨j0.val * 2048 + (2033 + j1.val), h'⟩ := fun _ _ => Fin.ext (by
    show j0.val * 2048 + (2048 + j1.val - 15) = j0.val * 2048 + (2033 + j1.val)
    omega)
  exact congrArg (fun r => (X0 (ix2 r x) : EReal) * X2 (ix2 x (col j2))) (e _ _)

/-- The reference's second result is the last rows of the samples' segment. -/
theorem refs_eq (X1 : FVec Ideal Cert.PoolIdeal.S32x4096 .bf16) (X2 : FVec Ideal Cert.PoolIdeal.S4096x8208 .f32) (X3 : FVec Ideal Cert.PoolIdeal.S8x15x2048 .f32) :
    Cert.PoolRefIdeal.Val.REFS X1 X2 X3 = LASTS (PROJS X1
      (transpose Cert.PoolIdeal.S8208x4096 [1, 0] X2 Cert.PoolIdeal.Gen.transposes_S4096x8208_S8208x4096_1_0)) X3 := by
  unfold Cert.PoolRefIdeal.Val.REFS LASTS
  congr 1
  refine congrArg (fun z => concatenate Cert.PoolIdeal.S8x19x2048 1 [⟨Cert.PoolIdeal.S8x15x2048, X3⟩, ⟨Cert.PoolIdeal.S8x4x2048, z⟩] Cert.PoolIdeal.Gen.concatenates_S8x15x2048_S8x4x2048_S8x19x2048_d1) ?_
  funext j
  idx_vars j
  pointwise []
  pointwise [PROJS, proj]
  rfl

/-- The kernel's two results and the reference's are the same arrays at every input. -/
theorem algebraic : Cert.algebraic_PoolIdeal_PoolRefIdeal := by
  intro m ρ m' ρ' _ hag
  refine ⟨fun c => Cert.PoolIdeal.Stream.fin m c Cert.PoolIdeal.main_v3, fun c => Cert.PoolIdeal.Stream.fin m c Cert.PoolIdeal.main_v6,
    (θ_run _ _ _).mono (fun _ h c => ⟨(h.1 c).1.1, (h.1 c).1.2, (h.1 c).2⟩) (Cert.PoolIdeal.Stream.run_all m ρ),
    (θ_run _ _ _).mono (fun _ h c => ⟨(h c).1.trans ?_, (h c).2.1.trans ?_, (h c).2.2⟩) (Cert.PoolRefIdeal.Value.run m' ρ')⟩
  · obtain ⟨h0, h1, h2, h3⟩ := hag c
    refine Eq.trans ?_ (fin_p m c).symm
    rw [final_op, Cert.PoolIdeal.Gen.V_main_arg0, V_w, h0, h2]
    exact refp_eq _ _
  · obtain ⟨h0, h1, h2, h3⟩ := hag c
    refine Eq.trans ?_ (fin_s m c).symm
    rw [final_os, Cert.PoolIdeal.Gen.V_main_arg1, V_w, h1, h2, h3]
    exact refs_eq _ _ _

end Cert.PoolEq

end
-- ==== Proof.GlaHead.lean ====
module
public import proofs.«01_k».proof.Proof.Gen.GlaIdeal.Value
public import Idealize.ShloMosaic.Lib.Pipeline.ValueKit
public import Idealize.ShloMosaic.Lib.Pointwise
@[expose] public section
set_option maxRecDepth 16384
noncomputable section
namespace Cert.GlaIdeal.Val
open Idealize.ShloMosaic Idealize.ShloMosaic.TcCoe Idealize.SL.Sem
open Idealize.ShloMosaic.Pipeline (Dat)
open Cert.GlaIdeal Cert.GlaIdeal.Gen

/-- Which rows are in the right half of their pair of blocks of `2 ^ j` rows. -/
abbrev RT (j : BitVec 32) : IVec S128x128 1 :=
  broadcastTo S128x128 (shapeCast S128x1 (cmpi .eq (andi (shrui (iota .tc S128x1 32 [0] iota_S128x1_d0_w32) (broadcast S128x1 j)) (broadcast S128x1 1#32)) (broadcast S128x1 1#32)) shapeCasts_S128x1_S128x1) broadcasts_S128x1_S128x128
/-- One level of the blocks' totals. -/
def TT (a b j : BitVec 32) (x : FVec Ideal S128x128 .f32) : FVec Ideal S128x128 .f32 :=
  addf x (select (RT j) (dynamicRotate 0 a none x rotates_S128x128_d0) (dynamicRotate 0 b none x rotates_S128x128_d0))
/-- One level of the sums of the later rows. -/
def SS (b j : BitVec 32) (s x : FVec Ideal S128x128 .f32) : FVec Ideal S128x128 .f32 :=
  addf s (select (RT j) (broadcast S128x128 (Scalar.ofBits .f32 0x00000000#32)) (dynamicRotate 0 b none x rotates_S128x128_d0))
def T1 (x : FVec Ideal S128x128 .f32) := TT 1#32 127#32 0#32 x
def T2 (x : FVec Ideal S128x128 .f32) := TT 2#32 126#32 1#32 (T1 x)
def T3 (x : FVec Ideal S128x128 .f32) := TT 4#32 124#32 2#32 (T2 x)
def T4 (x : FVec Ideal S128x128 .f32) := TT 8#32 120#32 3#32 (T3 x)
def T5 (x : FVec Ideal S128x128 .f32) := TT 16#32 112#32 4#32 (T4 x)
def T6 (x : FVec Ideal S128x128 .f32) := TT 32#32 96#32 5#32 (T5 x)
def T7 (x : FVec Ideal S128x128 .f32) := TT 64#32 64#32 6#32 (T6 x)
def S1 (x : FVec Ideal S128x128 .f32) := SS 127#32 0#32 (broadcast S128x128 (Scalar.ofBits .f32 0x00000000#32)) x
def S2 (x : FVec Ideal S128x128 .f32) := SS 126#32 1#32 (S1 x) (T1 x)
def S3 (x : FVec Ideal S128x128 .f32) := SS 124#32 2#32 (S2 x) (T2 x)
def S4 (x : FVec Ideal S128x128 .f32) := SS 120#32 3#32 (S3 x) (T3 x)
def S5 (x : FVec Ideal S128x128 .f32) := SS 112#32 4#32 (S4 x) (T4 x)
def S6 (x : FVec Ideal S128x128 .f32) := SS 96#32 5#32 (S5 x) (T5 x)
def S7 (x : FVec Ideal S128x128 .f32) := SS 64#32 6#32 (S6 x) (T6 x)

/-- The state of one head after the rows: its decay and what the rows add. -/
def STEP (s : FVec Ideal S128x256 .f32) (lg k : FVec Ideal S128x128 .f32) (v : FVec Ideal S128x256 .bf16) : FVec Ideal S128x256 .f32 :=
  addf (mulf s (concatenate S128x256 1 [⟨S128x128, exp (transpose S128x128 [1, 0] (T7 lg) transposes_S128x128_p1_0_S128x128)⟩, ⟨S128x128, exp (transpose S128x128 [1, 0] (T7 lg) transposes_S128x128_p1_0_S128x128)⟩] concatenates_S128x128_S128x128_S128x256_d1))
    (matmul dot_S128x128_S128x256_S128x256_1_0_0_1_n_n none (truncf .bf16 (transpose S128x128 [1, 0] (mulf k (exp (S7 lg))) transposes_S128x128_p1_0_S128x128) bitsLt_bf16_f32) v (constant S128x256 .f32 0x00000000#32))

theorem sel_one {α : Type} (a b : α) : Scalar.select 1#1 a b = a := rfl
theorem sel_zero {α : Type} (a b : α) : Scalar.select 0#1 a b = b := rfl

theorem bit0 : ∀ r : Fin 128, IntOp.cmpi CmpIPredicate.eq (IntOp.andi (IntOp.shrui ArithUnit.vector (BitVec.ofNat 32 r.val) 0#32) 1#32) 1#32
    = if r.val % 2 = 1 then 1#1 else 0#1 := by decide +kernel
theorem tt0 (y : FVec Ideal S128x128 .f32) (r d : Fin 128) : TT 1#32 127#32 0#32 y (ix2 r d)
    = y (ix2 r d) + if r.val % 2 = 1 then y (ix2 ⟨(r.val + 128 - 1) % 128, by omega⟩ d) else y (ix2 ⟨(r.val + 128 - 127) % 128, by omega⟩ d) := by
  pointwise [TT]
  rw [bit0]
  split_ifs <;> rfl
theorem ss0 (z y : FVec Ideal S128x128 .f32) (r d : Fin 128) : SS 127#32 0#32 z y (ix2 r d)
    = z (ix2 r d) + if r.val % 2 = 1 then 0 else y (ix2 ⟨(r.val + 128 - 127) % 128, by omega⟩ d) := by
  pointwise [SS]
  rw [bit0]
  split_ifs <;> rfl
theorem bit1 : ∀ r : Fin 128, IntOp.cmpi CmpIPredicate.eq (IntOp.andi (IntOp.shrui ArithUnit.vector (BitVec.ofNat 32 r.val) 1#32) 1#32) 1#32
    = if r.val / 2 % 2 = 1 then 1#1 else 0#1 := by decide +kernel
theorem tt1 (y : FVec Ideal S128x128 .f32) (r d : Fin 128) : TT 2#32 126#32 1#32 y (ix2 r d)
    = y (ix2 r d) + if r.val / 2 % 2 = 1 then y (ix2 ⟨(r.val + 128 - 2) % 128, by omega⟩ d) else y (ix2 ⟨(r.val + 128 - 126) % 128, by omega⟩ d) := by
  pointwise [TT]
  rw [bit1]
  split_ifs <;> rfl
theorem ss1 (z y : FVec Ideal S128x128 .f32) (r d : Fin 128) : SS 126#32 1#32 z y (ix2 r d)
    = z (ix2 r d) + if r.val / 2 % 2 = 1 then 0 else y (ix2 ⟨(r.val + 128 - 126) % 128, by omega⟩ d) := by
  pointwise [SS]
  rw [bit1]
  split_ifs <;> rfl
theorem bit2 : ∀ r : Fin 128, IntOp.cmpi CmpIPredicate.eq (IntOp.andi (IntOp.shrui ArithUnit.vector (BitVec.ofNat 32 r.val) 2#32) 1#32) 1#32
    = if r.val / 4 % 2 = 1 then 1#1 else 0#1 := by decide +kernel
theorem tt2 (y : FVec Ideal S128x128 .f32) (r d : Fin 128) : TT 4#32 124#32 2#32 y (ix2 r d)
    = y (ix2 r d) + if r.val / 4 % 2 = 1 then y (ix2 ⟨(r.val + 128 - 4) % 128, by omega⟩ d) else y (ix2 ⟨(r.val + 128 - 124) % 128, by omega⟩ d) := by
  pointwise [TT]
  rw [bit2]
  split_ifs <;> rfl
theorem ss2 (z y : FVec Ideal S128x128 .f32) (r d : Fin 128) : SS 124#32 2#32 z y (ix2 r d)
    = z (ix2 r d) + if r.val / 4 % 2 = 1 then 0 else y (ix2 ⟨(r.val + 128 - 124) % 128, by omega⟩ d) := by
  pointwise [SS]
  rw [bit2]
  split_ifs <;> rfl
theorem bit3 : ∀ r : Fin 128, IntOp.cmpi CmpIPredicate.eq (IntOp.andi (IntOp.shrui ArithUnit.vector (BitVec.ofNat 32 r.val) 3#32) 1#32) 1#32
    = if r.val / 8 % 2 = 1 then 1#1 else 0#1 := by decide +kernel
theorem tt3 (y : FVec Ideal S128x128 .f32) (r d : Fin 128) : TT 8#32 120#32 3#32 y (ix2 r d)
    = y (ix2 r d) + if r.val / 8 % 2 = 1 then y (ix2 ⟨(r.val + 128 - 8) % 128, by omega⟩ d) else y (ix2 ⟨(r.val + 128 - 120) % 128, by omega⟩ d) := by
  pointwise [TT]
  rw [bit3]
  split_ifs <;> rfl
theorem ss3 (z y : FVec Ideal S128x128 .f32) (r d : Fin 128) : SS 120#32 3#32 z y (ix2 r d)
    = z (ix2 r d) + if r.val / 8 % 2 = 1 then 0 else y (ix2 ⟨(r.val + 128 - 120) % 128, by omega⟩ d) := by
  pointwise [SS]
  rw [bit3]
  split_ifs <;> rfl
theorem bit4 : ∀ r : Fin 128, IntOp.cmpi CmpIPredicate.eq (IntOp.andi (IntOp.shrui ArithUnit.vector (BitVec.ofNat 32 r.val) 4#32) 1#32) 1#32
    = if r.val / 16 % 2 = 1 then 1#1 else 0#1 := by decide +kernel
theorem tt4 (y : FVec Ideal S128x128 .f32) (r d : Fin 128) : TT 16#32 112#32 4#32 y (ix2 r d)
    = y (ix2 r d) + if r.val / 16 % 2 = 1 then y (ix2 ⟨(r.val + 128 - 16) % 128, by omega⟩ d) else y (ix2 ⟨(r.val + 128 - 112) % 128, by omega⟩ d) := by
  pointwise [TT]
  rw [bit4]
  split_ifs <;> rfl
theorem ss4 (z y : FVec Ideal S128x128 .f32) (r d : Fin 128) : SS 112#32 4#32 z y (ix2 r d)
    = z (ix2 r d) + if r.val / 16 % 2 = 1 then 0 else y (ix2 ⟨(r.val + 128 - 112) % 128, by omega⟩ d) := by
  pointwise [SS]
  rw [bit4]
  split_ifs <;> rfl
theorem bit5 : ∀ r : Fin 128, IntOp.cmpi CmpIPredicate.eq (IntOp.andi (IntOp.shrui ArithUnit.vector (BitVec.ofNat 32 r.val) 5#32) 1#32) 1#32
    = if r.val / 32 % 2 = 1 then 1#1 else 0#1 := by decide +kernel
theorem tt5 (y : FVec Ideal S128x128 .f32) (r d : Fin 128) : TT 32#32 96#32 5#32 y (ix2 r d)
    = y (ix2 r d) + if r.val / 32 % 2 = 1 then y (ix2 ⟨(r.val + 128 - 32) % 128, by omega⟩ d) else y (ix2 ⟨(r.val + 128 - 96) % 128, by omega⟩ d) := by
  pointwise [TT]
  rw [bit5]
  split_ifs <;> rfl
theorem ss5 (z y : FVec Ideal S128x128 .f32) (r d : Fin 128) : SS 96#32 5#32 z y (ix2 r d)
    = z (ix2 r d) + if r.val / 32 % 2 = 1 then 0 else y (ix2 ⟨(r.val + 128 - 96) % 128, by omega⟩ d) := by
  pointwise [SS]
  rw [bit5]
  split_ifs <;> rfl
theorem bit6 : ∀ r : Fin 128, IntOp.cmpi CmpIPredicate.eq (IntOp.andi (IntOp.shrui ArithUnit.vector (BitVec.ofNat 32 r.val) 6#32) 1#32) 1#32
    = if r.val / 64 % 2 = 1 then 1#1 else 0#1 := by decide +kernel
theorem tt6 (y : FVec Ideal S128x128 .f32) (r d : Fin 128) : TT 64#32 64#32 6#32 y (ix2 r d)
    = y (ix2 r d) + if r.val / 64 % 2 = 1 then y (ix2 ⟨(r.val + 128 - 64) % 128, by omega⟩ d) else y (ix2 ⟨(r.val + 128 - 64) % 128, by omega⟩ d) := by
  pointwise [TT]
  split_ifs <;> rfl
theorem ss6 (z y : FVec Ideal S128x128 .f32) (r d : Fin 128) : SS 64#32 6#32 z y (ix2 r d)
    = z (ix2 r d) + if r.val / 64 % 2 = 1 then 0 else y (ix2 ⟨(r.val + 128 - 64) % 128, by omega⟩ d) := by
  pointwise [SS]
  rw [bit6]
  split_ifs <;> rfl

/-- The entries of a column whose rows from the fourth on are zero. -/
def col4 (a0 a1 a2 a3 : EReal) (r : ℕ) : EReal := if r = 0 then a0 else if r = 1 then a1 else if r = 2 then a2 else if r = 3 then a3 else 0

variable {x : FVec Ideal S128x128 .f32} {d : Fin 128} {a0 a1 a2 a3 : EReal}

theorem t1_at (h : ∀ r : Fin 128, x (ix2 r d) = col4 a0 a1 a2 a3 r.val) (r : Fin 128) :
    T1 x (ix2 r d) = col4 (a0 + a1) (a0 + a1) (a2 + a3) (a2 + a3) r.val := by
  unfold T1
  rw [tt0]
  simp only [h, col4]
  split_ifs <;> first | (exfalso; omega) | rfl | exact add_comm _ _ | exact add_zero _
theorem t2_at (h : ∀ r : Fin 128, x (ix2 r d) = col4 a0 a1 a2 a3 r.val) (r : Fin 128) :
    T2 x (ix2 r d) = if r.val < 4 then a0 + a1 + (a2 + a3) else 0 := by
  unfold T2
  rw [tt1]
  simp only [t1_at h, col4]
  split_ifs <;> first | (exfalso; omega) | rfl | exact add_comm _ _ | exact add_zero _
theorem t3_at (h : ∀ r : Fin 128, x (ix2 r d) = col4 a0 a1 a2 a3 r.val) (r : Fin 128) :
    T3 x (ix2 r d) = if r.val < 8 then a0 + a1 + (a2 + a3) else 0 := by
  unfold T3
  rw [tt2]
  simp only [t2_at h]
  split_ifs <;> first | (exfalso; omega) | exact add_zero _ | exact zero_add _
theorem t4_at (h : ∀ r : Fin 128, x (ix2 r d) = col4 a0 a1 a2 a3 r.val) (r : Fin 128) :
    T4 x (ix2 r d) = if r.val < 16 then a0 + a1 + (a2 + a3) else 0 := by
  unfold T4
  rw [tt3]
  simp only [t3_at h]
  split_ifs <;> first | (exfalso; omega) | exact add_zero _ | exact zero_add _
theorem t5_at (h : ∀ r : Fin 128, x (ix2 r d) = col4 a0 a1 a2 a3 r.val) (r : Fin 128) :
    T5 x (ix2 r d) = if r.val < 32 then a0 + a1 + (a2 + a3) else 0 := by
  unfold T5
  rw [tt4]
  simp only [t4_at h]
  split_ifs <;> first | (exfalso; omega) | exact add_zero _ | exact zero_add _
theorem t6_at (h : ∀ r : Fin 128, x (ix2 r d) = col4 a0 a1 a2 a3 r.val) (r : Fin 128) :
    T6 x (ix2 r d) = if r.val < 64 then a0 + a1 + (a2 + a3) else 0 := by
  unfold T6
  rw [tt5]
  simp only [t5_at h]
  split_ifs <;> first | (exfalso; omega) | exact add_zero _ | exact zero_add _
theorem t7_at (h : ∀ r : Fin 128, x (ix2 r d) = col4 a0 a1 a2 a3 r.val) (r : Fin 128) :
    T7 x (ix2 r d) = if r.val < 128 then a0 + a1 + (a2 + a3) else 0 := by
  unfold T7
  rw [tt6]
  simp only [t6_at h]
  split_ifs <;> first | (exfalso; omega) | exact add_zero _ | exact zero_add _
theorem s1_at (h : ∀ r : Fin 128, x (ix2 r d) = col4 a0 a1 a2 a3 r.val) (r : Fin 128) (hr : r.val < 4) :
    S1 x (ix2 r d) = col4 a1 0 a3 0 r.val := by
  unfold S1
  rw [ss0]
  have z : (broadcast S128x128 (Scalar.ofBits (F := Ideal) .f32 0x00000000#32) : FVec Ideal S128x128 .f32) (ix2 r d) = 0 := by pointwise []
  rw [z, zero_add]
  simp only [h, col4]
  split_ifs <;> first | (exfalso; omega) | rfl
theorem s2_at (h : ∀ r : Fin 128, x (ix2 r d) = col4 a0 a1 a2 a3 r.val) (r : Fin 128) (hr : r.val < 4) :
    S2 x (ix2 r d) = col4 (a1 + (a2 + a3)) (a2 + a3) a3 0 r.val := by
  unfold S2
  rw [ss1, s1_at h r hr]
  simp only [t1_at h, col4]
  split_ifs <;> first | (exfalso; omega) | rfl | exact add_zero _ | exact zero_add _
theorem s3_at (h : ∀ r : Fin 128, x (ix2 r d) = col4 a0 a1 a2 a3 r.val) (r : Fin 128) (hr : r.val < 4) :
    S3 x (ix2 r d) = col4 (a1 + (a2 + a3)) (a2 + a3) a3 0 r.val := by
  unfold S3
  rw [ss2, s2_at h r hr]
  simp only [t2_at h]
  split_ifs <;> first | (exfalso; omega) | exact add_zero _
theorem s4_at (h : ∀ r : Fin 128, x (ix2 r d) = col4 a0 a1 a2 a3 r.val) (r : Fin 128) (hr : r.val < 4) :
    S4 x (ix2 r d) = col4 (a1 + (a2 + a3)) (a2 + a3) a3 0 r.val := by
  unfold S4
  rw [ss3, s3_at h r hr]
  simp only [t3_at h]
  split_ifs <;> first | (exfalso; omega) | exact add_zero _
theorem s5_at (h : ∀ r : Fin 128, x (ix2 r d) = col4 a0 a1 a2 a3 r.val) (r : Fin 128) (hr : r.val < 4) :
    S5 x (ix2 r d) = col4 (a1 + (a2 + a3)) (a2 + a3) a3 0 r.val := by
  unfold S5
  rw [ss4, s4_at h r hr]
  simp only [t4_at h]
  split_ifs <;> first | (exfalso; omega) | exact add_zero _
theorem s6_at (h : ∀ r : Fin 128, x (ix2 r d) = col4 a0 a1 a2 a3 r.val) (r : Fin 128) (hr : r.val < 4) :
    S6 x (ix2 r d) = col4 (a1 + (a2 + a3)) (a2 + a3) a3 0 r.val := by
  unfold S6
  rw [ss5, s5_at h r hr]
  simp only [t5_at h]
  split_ifs <;> first | (exfalso; omega) | exact add_zero _
theorem s7_at (h : ∀ r : Fin 128, x (ix2 r d) = col4 a0 a1 a2 a3 r.val) (r : Fin 128) (hr : r.val < 4) :
    S7 x (ix2 r d) = col4 (a1 + (a2 + a3)) (a2 + a3) a3 0 r.val := by
  unfold S7
  rw [ss6, s6_at h r hr]
  simp only [t6_at h]
  split_ifs <;> first | (exfalso; omega) | exact add_zero _

/-- A sum whose terms from the fourth on are zero. -/
theorem sum_four (f : Fin 128 → EReal) (h : ∀ r : Fin 128, 4 ≤ r.val → f r = 0) : ∑ r, f r = f 0 + f 1 + f 2 + f 3 := by
  refine (Fin.sum_univ_add (a := 4) (b := 124) f).trans ?_
  rw [Finset.sum_eq_zero (s := Finset.univ) (f := fun i : Fin 124 => f (Fin.natAdd 4 i)) fun i _ => h _ (Nat.le_add_right 4 i.val), add_zero, Fin.sum_univ_four]
  rfl

/-- One head's state after the rows, element by element. -/
theorem step_at (s : FVec Ideal S128x256 .f32) (k : FVec Ideal S128x128 .f32) (v : FVec Ideal S128x256 .bf16)
    (h : ∀ r : Fin 128, x (ix2 r d) = col4 a0 a1 a2 a3 r.val) (hk : ∀ r : Fin 128, 4 ≤ r.val → k (ix2 r d) = (0 : EReal)) (e : Fin 256) :
    STEP s x k v (ix2 d e) = s (ix2 d e) * Ideal.exp (a0 + a1 + (a2 + a3))
      + (k (ix2 0 d) * Ideal.exp (a1 + (a2 + a3)) * v (ix2 0 e) + k (ix2 1 d) * Ideal.exp (a2 + a3) * v (ix2 1 e)
        + k (ix2 2 d) * Ideal.exp a3 * v (ix2 2 e) + k (ix2 3 d) * Ideal.exp 0 * v (ix2 3 e)) := by
  have t : ∀ r : Fin 128, T7 x (ix2 r d) = a0 + a1 + (a2 + a3) := fun r => (t7_at h r).trans (if_pos r.isLt)
  have u := s7_at h
  revert t u
  unfold STEP
  generalize T7 x = y
  generalize S7 x = z
  intro t u
  pointwise []
  rw [sum_four _ fun r hr => by rw [hk r hr, zero_mul, zero_mul]]
  rw [u 0 (by decide), u 1 (by decide), u 2 (by decide), u 3 (by decide)]
  refine congrArg₂ (· + ·) (congrArg (s (ix2 d e) * ·) ?_) rfl
  split_ifs <;> exact congrArg Ideal.exp (t _)

end Cert.GlaIdeal.Val
end
-- ==== Proof.GlaRows.lean ====
module
public import proofs.«01_k».proof.Proof.GlaHead
public import Idealize.ShloMosaic.Lib.Pipeline.ReadBack
@[expose] public section
set_option maxRecDepth 16384
noncomputable section
namespace Cert.GlaIdeal.Val
open Idealize.ShloMosaic Idealize.ShloMosaic.TcCoe Idealize.SL.Sem
open Idealize.ShloMosaic.Pipeline (Dat)
open Cert.GlaIdeal Cert.GlaIdeal.Gen

/-- Key column `d` of head `h` among all the key columns. -/
def hd (h : Fin 8) (d : Fin 128) : Fin 1024 := ⟨h.val * 128 + d.val, by omega⟩
/-- Value column `e` of head `h` among all the value columns. -/
def he (h : Fin 8) (e : Fin 256) : Fin 2048 := ⟨h.val * 256 + e.val, by omega⟩

/-- The argument of a gate. -/
def PRE {n : ℕ} (g : FVec Ideal ⟨2, ![n, 128]⟩ .bf16) (w : FVec Ideal S128x1024 .bf16) (b : FVec Ideal S1x1024 .f32) (r : Fin n) (j : Fin 1024) : EReal :=
  ∑ x : Fin 128, (g (ix2 r x) : EReal) * w (ix2 x j) + b (ix2 0 j)

/-- The logarithm of the sigmoid over the temperature. -/
def LSG (z : EReal) : EReal :=
  Ideal.div (min z 0 - Ideal.log1p (Ideal.exp (0 - FloatOps.absf (F := Ideal) (φ := .f32) z))) (Ideal.ofBits .f32 0x41800000#32)

/-- A state's entry after four rows. -/
def ROWS (s : EReal) (a k v : Fin 4 → EReal) : EReal :=
  s * Ideal.exp (a 0 + a 1 + (a 2 + a 3)) + (k 0 * Ideal.exp (a 1 + (a 2 + a 3)) * v 0 + k 1 * Ideal.exp (a 2 + a 3) * v 1
    + k 2 * Ideal.exp (a 3) * v 2 + k 3 * Ideal.exp 0 * v 3)

/-- Row `r` of a block. -/
def rw4 (r : Fin 4) : Fin 128 := ⟨r.val, by omega⟩

/-- The state of a sample after its rows, from the sample's blocks. -/
def VAL (x1 : FVec Ideal S128x1024 .f32) (x2 : FVec Ideal S128x2048 .f32) (x4 : FVec Ideal S128x128 .bf16) (x5 : FVec Ideal S128x1024 .bf16)
    (x6 : FVec Ideal S1x1024 .f32) (x8 : FVec Ideal S1x8x128x256 .f32) : FVec Ideal S8x128x256 .f32 := fun y =>
  ROWS (x8 (ix4 0 (y 0) (y 1) (y 2))) (fun r => LSG (PRE x4 x5 x6 (rw4 r) (hd (y 0) (y 1)))) (fun r => x1 (ix2 (rw4 r) (hd (y 0) (y 1))))
    (fun r => x2 (ix2 (rw4 r) (he (y 0) (y 2))))

theorem msk_at (i : grid0.Coords) (r : Fin 128) : k0_pay4 i (ix2 r 0) = if r.val < 4 then 1#1 else 0#1 := by
  have e : ∀ r : Fin 128, IntOp.cmpi CmpIPredicate.slt (IntOp.addi (Scalar.muli 0#32 128#32) (BitVec.ofNat 32 r.val)) 4#32 = if r.val < 4 then 1#1 else 0#1 := by
    decide +kernel
  pointwise [k0_pay4]
  exact e r

theorem lg_at (i : grid0.Coords) (x4 : Vec Ideal S128x128 .bf16) (x5 : Vec Ideal S128x1024 .bf16) (x6 : Vec Ideal S1x1024 .f32) (r : Fin 128) (j : Fin 1024) :
    k0_pay5 i x4 x5 x6 (ix2 r j) = (if r.val < 4 then LSG (PRE x4 x5 x6 r j) else 0 : EReal) := by
  pointwise [k0_pay5]
  rw [msk_at]
  split_ifs <;> rfl
theorem km_at (i : grid0.Coords) (x1 : Vec Ideal S128x1024 .f32) (r : Fin 128) (j : Fin 1024) :
    k0_pay7 (k0_pay4 i) x1 (ix2 r j) = (if r.val < 4 then x1 (ix2 r j) else 0 : EReal) := by
  generalize hm : k0_pay4 i = m
  pointwise [k0_pay7]
  rw [← hm, msk_at]
  split_ifs <;> rfl

theorem head_at (h : Fin 8) {S : FVec Ideal S128x256 .f32} {L K : FVec Ideal S128x128 .f32} {W : FVec Ideal S128x256 .bf16}
    {x1 : FVec Ideal S128x1024 .f32} {x2 : FVec Ideal S128x2048 .f32} {x4 : FVec Ideal S128x128 .bf16} {x5 : FVec Ideal S128x1024 .bf16}
    {x6 : FVec Ideal S1x1024 .f32} {x8 : FVec Ideal S1x8x128x256 .f32}
    (hS : ∀ d e, S (ix2 d e) = (x8 (ix4 0 h d e) : EReal)) (hL : ∀ r d, L (ix2 r d) = (if r.val < 4 then LSG (PRE x4 x5 x6 r (hd h d)) else 0 : EReal))
    (hK : ∀ r d, K (ix2 r d) = (if r.val < 4 then x1 (ix2 r (hd h d)) else 0 : EReal)) (hW : ∀ r e, W (ix2 r e) = (x2 (ix2 r (he h e)) : EReal))
    (y : S1x128x256.Idx) : shapeCast S1x128x256 (STEP S L K W) shapeCasts_S128x256_S1x128x256 y = VAL x1 x2 x4 x5 x6 x8 (ix3 h (y 1) (y 2)) := by
  idx_vars y
  have e : shapeCast S1x128x256 (STEP S L K W) shapeCasts_S128x256_S1x128x256 (ix3 y0 y1 y2) = STEP S L K W (ix2 y1 y2) := by
    generalize STEP S L K W = Y
    pointwise []
  refine e.trans ((step_at (a0 := LSG (PRE x4 x5 x6 0 (hd h y1))) (a1 := LSG (PRE x4 x5 x6 1 (hd h y1))) (a2 := LSG (PRE x4 x5 x6 2 (hd h y1)))
    (a3 := LSG (PRE x4 x5 x6 3 (hd h y1))) S K W (fun r => ?_) (fun r hr => ?_) y2).trans ?_)
  · rw [hL, col4]
    split_ifs with q q0 q1 q2 q3 <;> first | (exfalso; omega) | rfl | skip
    · rw [show r = 0 from Fin.ext q0]
    · rw [show r = 1 from Fin.ext q1]
    · rw [show r = 2 from Fin.ext q2]
    · rw [show r = 3 from Fin.ext q3]
  · rw [hK, if_neg (by omega)]
  · rw [hS, hK, hK, hK, hK, hW, hW, hW, hW]
    rfl

theorem emb_row (h : ℕ) (hh : h < 8) (inb : ∀ a, (![h, 0, 0] : Fin 3 → ℕ) a + S1x128x256.size a ≤ S8x128x256.size a) (x : S1x128x256.Idx) :
    (ix3 ⟨h, hh⟩ (x 1) (x 2) : S8x128x256.Idx) = (Rect.unit (s := S8x128x256) ![h, 0, 0] S1x128x256.size inb).emb x := by
  funext a
  have h0 : (x 0).val = 0 := by have := (x 0).isLt; change _ < 1 at this; omega
  fin_cases a <;> refine Fin.ext ?_
  · show h = h + 1 * (x 0).val; omega
  · show (x 1).val = 0 + 1 * (x 1).val; omega
  · show (x 2).val = 0 + 1 * (x 2).val; omega

theorem s_at7 (x8 : Vec Ideal S1x8x128x256 .f32) (d : Fin 128) (e : Fin 256) :
    k0_pay454 (F := Ideal) ((View.whole cc0_scratch0).readCov [⟨Rect.unit ![0, 0, 0] S8x128x256.size inb_S8x128x256_S8x128x256_0_0_0, k0_pay3 x8⟩] (Rect.unit (s := S8x128x256) ![7, 0, 0] S1x128x256.size inb_S8x128x256_S1x128x256_7_0_0).toLoadRect) (ix2 d e) = (x8 (ix4 0 7 d e) : EReal) := by
  refine (congrArg (fun z => k0_pay454 (F := Ideal) z (ix2 d e)) (View.readCov_fill (View.whole cc0_scratch0) _ _ [] _ (by decide))).trans ?_
  pointwise [k0_pay454, k0_pay3]
theorem l_at7 (y : FVec Ideal S128x1024 .f32) (r d : Fin 128) : k0_pay15 y (ix2 r d) = y (ix2 r (hd 7 d)) := by
  pointwise [k0_pay15]
  exact congrArg (fun j => y (ix2 r j)) (Fin.ext (by show 896 + d.val = 7 * 128 + d.val; omega))
theorem k_at7 (i : grid0.Coords) (x1 : Vec Ideal S128x1024 .f32) (r d : Fin 128) :
    k0_pay31 (k0_pay4 i) x1 (ix2 r d) = (if r.val < 4 then x1 (ix2 r (hd 7 d)) else 0 : EReal) := by
  have e : k0_pay31 (k0_pay4 i) x1 (ix2 r d) = k0_pay7 (k0_pay4 i) x1 (ix2 r (hd 7 d)) := by
    unfold k0_pay31
    generalize k0_pay7 (k0_pay4 i) x1 = y
    pointwise []
    exact congrArg (fun j => y (ix2 r j)) (Fin.ext (by show 896 + d.val = 7 * 128 + d.val; omega))
  exact e.trans (km_at i x1 r _)
theorem v_at7 (x2 : Vec Ideal S128x2048 .f32) (r : Fin 128) (e : Fin 256) : k0_pay40 (View.ld x2 (Rect.unit (s := S128x2048) ![0, 1792] S128x256.size inb_S128x2048_S128x256_0_1792)) (ix2 r e) = (x2 (ix2 r (he 7 e)) : EReal) := by
  pointwise [k0_pay40]
  exact congrArg (fun j => x2 (ix2 r j)) (Fin.ext (by show 1792 + e.val = 7 * 256 + e.val; omega))
theorem s_at6 (x8 : Vec Ideal S1x8x128x256 .f32) (d : Fin 128) (e : Fin 256) :
    k0_pay453 (F := Ideal) ((View.whole cc0_scratch0).readCov [⟨Rect.unit ![0, 0, 0] S8x128x256.size inb_S8x128x256_S8x128x256_0_0_0, k0_pay3 x8⟩] (Rect.unit (s := S8x128x256) ![6, 0, 0] S1x128x256.size inb_S8x128x256_S1x128x256_6_0_0).toLoadRect) (ix2 d e) = (x8 (ix4 0 6 d e) : EReal) := by
  refine (congrArg (fun z => k0_pay453 (F := Ideal) z (ix2 d e)) (View.readCov_fill (View.whole cc0_scratch0) _ _ [] _ (by decide))).trans ?_
  pointwise [k0_pay453, k0_pay3]
theorem l_at6 (y : FVec Ideal S128x1024 .f32) (r d : Fin 128) : k0_pay14 y (ix2 r d) = y (ix2 r (hd 6 d)) := by
  pointwise [k0_pay14]
  exact congrArg (fun j => y (ix2 r j)) (Fin.ext (by show 768 + d.val = 6 * 128 + d.val; omega))
theorem k_at6 (i : grid0.Coords) (x1 : Vec Ideal S128x1024 .f32) (r d : Fin 128) :
    k0_pay30 (k0_pay4 i) x1 (ix2 r d) = (if r.val < 4 then x1 (ix2 r (hd 6 d)) else 0 : EReal) := by
  have e : k0_pay30 (k0_pay4 i) x1 (ix2 r d) = k0_pay7 (k0_pay4 i) x1 (ix2 r (hd 6 d)) := by
    unfold k0_pay30
    generalize k0_pay7 (k0_pay4 i) x1 = y
    pointwise []
    exact congrArg (fun j => y (ix2 r j)) (Fin.ext (by show 768 + d.val = 6 * 128 + d.val; omega))
  exact e.trans (km_at i x1 r _)
theorem v_at6 (x2 : Vec Ideal S128x2048 .f32) (r : Fin 128) (e : Fin 256) : k0_pay39 (View.ld x2 (Rect.unit (s := S128x2048) ![0, 1536] S128x256.size inb_S128x2048_S128x256_0_1536)) (ix2 r e) = (x2 (ix2 r (he 6 e)) : EReal) := by
  pointwise [k0_pay39]
  exact congrArg (fun j => x2 (ix2 r j)) (Fin.ext (by show 1536 + e.val = 6 * 256 + e.val; omega))
theorem s_at5 (x8 : Vec Ideal S1x8x128x256 .f32) (d : Fin 128) (e : Fin 256) :
    k0_pay452 (F := Ideal) ((View.whole cc0_scratch0).readCov [⟨Rect.unit ![0, 0, 0] S8x128x256.size inb_S8x128x256_S8x128x256_0_0_0, k0_pay3 x8⟩] (Rect.unit (s := S8x128x256) ![5, 0, 0] S1x128x256.size inb_S8x128x256_S1x128x256_5_0_0).toLoadRect) (ix2 d e) = (x8 (ix4 0 5 d e) : EReal) := by
  refine (congrArg (fun z => k0_pay452 (F := Ideal) z (ix2 d e)) (View.readCov_fill (View.whole cc0_scratch0) _ _ [] _ (by decide))).trans ?_
  pointwise [k0_pay452, k0_pay3]
theorem l_at5 (y : FVec Ideal S128x1024 .f32) (r d : Fin 128) : k0_pay13 y (ix2 r d) = y (ix2 r (hd 5 d)) := by
  pointwise [k0_pay13]
  exact congrArg (fun j => y (ix2 r j)) (Fin.ext (by show 640 + d.val = 5 * 128 + d.val; omega))
theorem k_at5 (i : grid0.Coords) (x1 : Vec Ideal S128x1024 .f32) (r d : Fin 128) :
    k0_pay29 (k0_pay4 i) x1 (ix2 r d) = (if r.val < 4 then x1 (ix2 r (hd 5 d)) else 0 : EReal) := by
  have e : k0_pay29 (k0_pay4 i) x1 (ix2 r d) = k0_pay7 (k0_pay4 i) x1 (ix2 r (hd 5 d)) := by
    unfold k0_pay29
    generalize k0_pay7 (k0_pay4 i) x1 = y
    pointwise []
    exact congrArg (fun j => y (ix2 r j)) (Fin.ext (by show 640 + d.val = 5 * 128 + d.val; omega))
  exact e.trans (km_at i x1 r _)
theorem v_at5 (x2 : Vec Ideal S128x2048 .f32) (r : Fin 128) (e : Fin 256) : k0_pay38 (k0_pay37 (View.ld x2 (Rect.unit (s := S128x2048) ![0, 1280] S128x256.size inb_S128x2048_S128x256_0_1280))) (ix2 r e) = (x2 (ix2 r (he 5 e)) : EReal) := by
  pointwise [k0_pay38, k0_pay37]
  exact congrArg (fun j => x2 (ix2 r j)) (Fin.ext (by show 1280 + e.val = 5 * 256 + e.val; omega))
theorem s_at4 (x8 : Vec Ideal S1x8x128x256 .f32) (d : Fin 128) (e : Fin 256) :
    k0_pay451 (F := Ideal) ((View.whole cc0_scratch0).readCov [⟨Rect.unit ![0, 0, 0] S8x128x256.size inb_S8x128x256_S8x128x256_0_0_0, k0_pay3 x8⟩] (Rect.unit (s := S8x128x256) ![4, 0, 0] S1x128x256.size inb_S8x128x256_S1x128x256_4_0_0).toLoadRect) (ix2 d e) = (x8 (ix4 0 4 d e) : EReal) := by
  refine (congrArg (fun z => k0_pay451 (F := Ideal) z (ix2 d e)) (View.readCov_fill (View.whole cc0_scratch0) _ _ [] _ (by decide))).trans ?_
  pointwise [k0_pay451, k0_pay3]
theorem l_at4 (y : FVec Ideal S128x1024 .f32) (r d : Fin 128) : k0_pay12 y (ix2 r d) = y (ix2 r (hd 4 d)) := by
  pointwise [k0_pay12]
  exact congrArg (fun j => y (ix2 r j)) (Fin.ext (by show 512 + d.val = 4 * 128 + d.val; omega))
theorem k_at4 (i : grid0.Coords) (x1 : Vec Ideal S128x1024 .f32) (r d : Fin 128) :
    k0_pay28 (k0_pay4 i) x1 (ix2 r d) = (if r.val < 4 then x1 (ix2 r (hd 4 d)) else 0 : EReal) := by
  have e : k0_pay28 (k0_pay4 i) x1 (ix2 r d) = k0_pay7 (k0_pay4 i) x1 (ix2 r (hd 4 d)) := by
    unfold k0_pay28
    generalize k0_pay7 (k0_pay4 i) x1 = y
    pointwise []
    exact congrArg (fun j => y (ix2 r j)) (Fin.ext (by show 512 + d.val = 4 * 128 + d.val; omega))
  exact e.trans (km_at i x1 r _)
theorem v_at4 (x2 : Vec Ideal S128x2048 .f32) (r : Fin 128) (e : Fin 256) : k0_pay36 (View.ld x2 (Rect.unit (s := S128x2048) ![0, 1024] S128x256.size inb_S128x2048_S128x256_0_1024)) (ix2 r e) = (x2 (ix2 r (he 4 e)) : EReal) := by
  pointwise [k0_pay36]
  exact congrArg (fun j => x2 (ix2 r j)) (Fin.ext (by show 1024 + e.val = 4 * 256 + e.val; omega))
theorem s_at3 (x8 : Vec Ideal S1x8x128x256 .f32) (d : Fin 128) (e : Fin 256) :
    k0_pay450 (F := Ideal) ((View.whole cc0_scratch0).readCov [⟨Rect.unit ![0, 0, 0] S8x128x256.size inb_S8x128x256_S8x128x256_0_0_0, k0_pay3 x8⟩] (Rect.unit (s := S8x128x256) ![3, 0, 0] S1x128x256.size inb_S8x128x256_S1x128x256_3_0_0).toLoadRect) (ix2 d e) = (x8 (ix4 0 3 d e) : EReal) := by
  refine (congrArg (fun z => k0_pay450 (F := Ideal) z (ix2 d e)) (View.readCov_fill (View.whole cc0_scratch0) _ _ [] _ (by decide))).trans ?_
  pointwise [k0_pay450, k0_pay3]
theorem l_at3 (y : FVec Ideal S128x1024 .f32) (r d : Fin 128) : k0_pay11 y (ix2 r d) = y (ix2 r (hd 3 d)) := by
  pointwise [k0_pay11]
  exact congrArg (fun j => y (ix2 r j)) (Fin.ext (by show 384 + d.val = 3 * 128 + d.val; omega))
theorem k_at3 (i : grid0.Coords) (x1 : Vec Ideal S128x1024 .f32) (r d : Fin 128) :
    k0_pay27 (k0_pay4 i) x1 (ix2 r d) = (if r.val < 4 then x1 (ix2 r (hd 3 d)) else 0 : EReal) := by
  have e : k0_pay27 (k0_pay4 i) x1 (ix2 r d) = k0_pay7 (k0_pay4 i) x1 (ix2 r (hd 3 d)) := by
    unfold k0_pay27
    generalize k0_pay7 (k0_pay4 i) x1 = y
    pointwise []
    exact congrArg (fun j => y (ix2 r j)) (Fin.ext (by show 384 + d.val = 3 * 128 + d.val; omega))
  exact e.trans (km_at i x1 r _)
theorem v_at3 (x2 : Vec Ideal S128x2048 .f32) (r : Fin 128) (e : Fin 256) : k0_pay35 (View.ld x2 (Rect.unit (s := S128x2048) ![0, 768] S128x256.size inb_S128x2048_S128x256_0_768)) (ix2 r e) = (x2 (ix2 r (he 3 e)) : EReal) := by
  pointwise [k0_pay35]
  exact congrArg (fun j => x2 (ix2 r j)) (Fin.ext (by show 768 + e.val = 3 * 256 + e.val; omega))
theorem s_at2 (x8 : Vec Ideal S1x8x128x256 .f32) (d : Fin 128) (e : Fin 256) :
    k0_pay449 (F := Ideal) ((View.whole cc0_scratch0).readCov [⟨Rect.unit ![0, 0, 0] S8x128x256.size inb_S8x128x256_S8x128x256_0_0_0, k0_pay3 x8⟩] (Rect.unit (s := S8x128x256) ![2, 0, 0] S1x128x256.size inb_S8x128x256_S1x128x256_2_0_0).toLoadRect) (ix2 d e) = (x8 (ix4 0 2 d e) : EReal) := by
  refine (congrArg (fun z => k0_pay449 (F := Ideal) z (ix2 d e)) (View.readCov_fill (View.whole cc0_scratch0) _ _ [] _ (by decide))).trans ?_
  pointwise [k0_pay449, k0_pay3]
theorem l_at2 (y : FVec Ideal S128x1024 .f32) (r d : Fin 128) : k0_pay10 y (ix2 r d) = y (ix2 r (hd 2 d)) := by
  pointwise [k0_pay10]
  exact congrArg (fun j => y (ix2 r j)) (Fin.ext (by show 256 + d.val = 2 * 128 + d.val; omega))
theorem k_at2 (i : grid0.Coords) (x1 : Vec Ideal S128x1024 .f32) (r d : Fin 128) :
    k0_pay26 (k0_pay4 i) x1 (ix2 r d) = (if r.val < 4 then x1 (ix2 r (hd 2 d)) else 0 : EReal) := by
  have e : k0_pay26 (k0_pay4 i) x1 (ix2 r d) = k0_pay7 (k0_pay4 i) x1 (ix2 r (hd 2 d)) := by
    unfold k0_pay26
    generalize k0_pay7 (k0_pay4 i) x1 = y
    pointwise []
    exact congrArg (fun j => y (ix2 r j)) (Fin.ext (by show 256 + d.val = 2 * 128 + d.val; omega))
  exact e.trans (km_at i x1 r _)
theorem v_at2 (x2 : Vec Ideal S128x2048 .f32) (r : Fin 128) (e : Fin 256) : k0_pay34 (View.ld x2 (Rect.unit (s := S128x2048) ![0, 512] S128x256.size inb_S128x2048_S128x256_0_512)) (ix2 r e) = (x2 (ix2 r (he 2 e)) : EReal) := by
  pointwise [k0_pay34]
  exact congrArg (fun j => x2 (ix2 r j)) (Fin.ext (by show 512 + e.val = 2 * 256 + e.val; omega))
theorem s_at1 (x8 : Vec Ideal S1x8x128x256 .f32) (d : Fin 128) (e : Fin 256) :
    k0_pay448 (F := Ideal) ((View.whole cc0_scratch0).readCov [⟨Rect.unit ![0, 0, 0] S8x128x256.size inb_S8x128x256_S8x128x256_0_0_0, k0_pay3 x8⟩] (Rect.unit (s := S8x128x256) ![1, 0, 0] S1x128x256.size inb_S8x128x256_S1x128x256_1_0_0).toLoadRect) (ix2 d e) = (x8 (ix4 0 1 d e) : EReal) := by
  refine (congrArg (fun z => k0_pay448 (F := Ideal) z (ix2 d e)) (View.readCov_fill (View.whole cc0_scratch0) _ _ [] _ (by decide))).trans ?_
  pointwise [k0_pay448, k0_pay3]
theorem l_at1 (y : FVec Ideal S128x1024 .f32) (r d : Fin 128) : k0_pay9 y (ix2 r d) = y (ix2 r (hd 1 d)) := by
  pointwise [k0_pay9]
  exact congrArg (fun j => y (ix2 r j)) (Fin.ext (by show 128 + d.val = 1 * 128 + d.val; omega))
theorem k_at1 (i : grid0.Coords) (x1 : Vec Ideal S128x1024 .f32) (r d : Fin 128) :
    k0_pay25 (k0_pay4 i) x1 (ix2 r d) = (if r.val < 4 then x1 (ix2 r (hd 1 d)) else 0 : EReal) := by
  have e : k0_pay25 (k0_pay4 i) x1 (ix2 r d) = k0_pay7 (k0_pay4 i) x1 (ix2 r (hd 1 d)) := by
    unfold k0_pay25
    generalize k0_pay7 (k0_pay4 i) x1 = y
    pointwise []
    exact congrArg (fun j => y (ix2 r j)) (Fin.ext (by show 128 + d.val = 1 * 128 + d.val; omega))
  exact e.trans (km_at i x1 r _)
theorem v_at1 (x2 : Vec Ideal S128x2048 .f32) (r : Fin 128) (e : Fin 256) : k0_pay33 (View.ld x2 (Rect.unit (s := S128x2048) ![0, 256] S128x256.size inb_S128x2048_S128x256_0_256)) (ix2 r e) = (x2 (ix2 r (he 1 e)) : EReal) := by
  pointwise [k0_pay33]
  exact congrArg (fun j => x2 (ix2 r j)) (Fin.ext (by show 256 + e.val = 1 * 256 + e.val; omega))
theorem s_at0 (x8 : Vec Ideal S1x8x128x256 .f32) (d : Fin 128) (e : Fin 256) :
    k0_pay447 (F := Ideal) ((View.whole cc0_scratch0).readCov [⟨Rect.unit ![0, 0, 0] S8x128x256.size inb_S8x128x256_S8x128x256_0_0_0, k0_pay3 x8⟩] (Rect.unit (s := S8x128x256) ![0, 0, 0] S1x128x256.size inb_S8x128x256_S1x128x256_0_0_0).toLoadRect) (ix2 d e) = (x8 (ix4 0 0 d e) : EReal) := by
  refine (congrArg (fun z => k0_pay447 (F := Ideal) z (ix2 d e)) (View.readCov_fill (View.whole cc0_scratch0) _ _ [] _ (by decide))).trans ?_
  pointwise [k0_pay447, k0_pay3]
theorem l_at0 (y : FVec Ideal S128x1024 .f32) (r d : Fin 128) : k0_pay8 y (ix2 r d) = y (ix2 r (hd 0 d)) := by
  pointwise [k0_pay8]
  exact congrArg (fun j => y (ix2 r j)) (Fin.ext (by show d.val = 0 * 128 + d.val; omega))
theorem k_at0 (i : grid0.Coords) (x1 : Vec Ideal S128x1024 .f32) (r d : Fin 128) :
    k0_pay24 (k0_pay4 i) x1 (ix2 r d) = (if r.val < 4 then x1 (ix2 r (hd 0 d)) else 0 : EReal) := by
  have e : k0_pay24 (k0_pay4 i) x1 (ix2 r d) = k0_pay7 (k0_pay4 i) x1 (ix2 r (hd 0 d)) := by
    unfold k0_pay24
    generalize k0_pay7 (k0_pay4 i) x1 = y
    pointwise []
    exact congrArg (fun j => y (ix2 r j)) (Fin.ext (by show d.val = 0 * 128 + d.val; omega))
  exact e.trans (km_at i x1 r _)
theorem v_at0 (x2 : Vec Ideal S128x2048 .f32) (r : Fin 128) (e : Fin 256) : k0_pay32 (View.ld x2 (Rect.unit (s := S128x2048) ![0, 0] S128x256.size inb_S128x2048_S128x256_0_0)) (ix2 r e) = (x2 (ix2 r (he 0 e)) : EReal) := by
  pointwise [k0_pay32]
  exact congrArg (fun j => x2 (ix2 r j)) (Fin.ext (by show e.val = 0 * 256 + e.val; omega))

end Cert.GlaIdeal.Val
end
-- ==== Proof.GlaBlk.lean ====
module
public import proofs.«01_k».proof.Proof.GlaRows
public import Idealize.ShloMosaic.Lib.Pipeline.ReadBack
@[expose] public section
set_option maxRecDepth 16384
noncomputable section
namespace Cert.GlaIdeal.Val
open Idealize.ShloMosaic Idealize.ShloMosaic.TcCoe Idealize.SL.Sem
open Idealize.ShloMosaic.Pipeline (Dat)
open Cert.GlaIdeal Cert.GlaIdeal.Gen

variable (m : (ℓ : Loc nD τ sig) → Buf (Elt Ideal) ℓ)

/-- Row `r` of sample `b` among the padded rows. -/
def row (b : Fin 8) (r : Fin 4) : Fin 1024 := ⟨b.val * 128 + r.val, by omega⟩

/-- The states of the samples after their rows, from the padded arrays. -/
def OUT (x1 : FVec Ideal S1024x1024 .f32) (x2 : FVec Ideal S1024x2048 .f32) (x4 : FVec Ideal S1024x128 .bf16) (x5 : FVec Ideal S128x1024 .bf16)
    (x6 : FVec Ideal S1x1024 .f32) (x8 : FVec Ideal S8x8x128x256 .f32) : FVec Ideal S8x8x128x256 .f32 := fun y =>
  ROWS (x8 (ix4 (y 0) (y 1) (y 2) (y 3))) (fun r => LSG (PRE x4 x5 x6 (row (y 0) r) (hd (y 1) (y 2)))) (fun r => x1 (ix2 (row (y 0) r) (hd (y 1) (y 2))))
    (fun r => x2 (ix2 (row (y 0) r) (he (y 1) (y 3))))

theorem idxs : ∀ t : Fin cfg0.N, win0_1.index t = ![t.val, 0] ∧ win0_2.index t = ![t.val, 0] ∧ win0_4.index t = ![t.val, 0] ∧ win0_5.index t = ![0, 0] ∧ win0_6.index t = ![0, 0]
    ∧ win0_8.index t = ![t.val, 0, 0, 0] ∧ win0_10.index t = ![t.val, 0, 0, 0] := by decide +kernel

/-- The sample of a point. -/
abbrev row0 (t : Fin cfg0.N) : Fin 8 := ⟨t.val, t.isLt⟩

theorem blk1 (c : Dev nD) (t : Fin cfg0.N) (r : Fin 4) (j : Fin 1024) : iblk m c 1 t (ix2 (rw4 r) j) = V m c main_v7 (ix2 (row (row0 t) r) j) := by
  unfold rw4 row; blk_point [iblk, idxs t]
theorem blk2 (c : Dev nD) (t : Fin cfg0.N) (r : Fin 4) (j : Fin 2048) : iblk m c 2 t (ix2 (rw4 r) j) = V m c main_v10 (ix2 (row (row0 t) r) j) := by
  unfold rw4 row; blk_point [iblk, idxs t]
theorem blk4 (c : Dev nD) (t : Fin cfg0.N) (r : Fin 4) (j : Fin 128) : iblk m c 4 t (ix2 (rw4 r) j) = V m c main_v17 (ix2 (row (row0 t) r) j) := by
  unfold rw4 row; blk_point [iblk, idxs t]
theorem blk5 (c : Dev nD) (t : Fin cfg0.N) (x : Fin 128) (j : Fin 1024) : iblk m c 5 t (ix2 x j) = V m c main_v1 (ix2 x j) := by
  blk_point [iblk, idxs t]
theorem blk6 (c : Dev nD) (t : Fin cfg0.N) (j : Fin 1024) : iblk m c 6 t (ix2 0 j) = V m c main_v18 (ix2 0 j) := by
  blk_point [iblk, idxs t]
theorem blk8 (c : Dev nD) (t : Fin cfg0.N) (h : Fin 8) (d : Fin 128) (e : Fin 256) : iblk m c 8 t (ix4 0 h d e) = V m c main_arg8 (ix4 (row0 t) h d e) := by
  blk_point [iblk, idxs t]

theorem val_eq {x1 : FVec Ideal S128x1024 .f32} {x2 : FVec Ideal S128x2048 .f32} {x4 : FVec Ideal S128x128 .bf16} {x5 : FVec Ideal S128x1024 .bf16}
    {x6 : FVec Ideal S1x1024 .f32} {x8 : FVec Ideal S1x8x128x256 .f32} {X1 : FVec Ideal S1024x1024 .f32} {X2 : FVec Ideal S1024x2048 .f32} {X4 : FVec Ideal S1024x128 .bf16}
    {X5 : FVec Ideal S128x1024 .bf16} {X6 : FVec Ideal S1x1024 .f32} {X8 : FVec Ideal S8x8x128x256 .f32} (b : Fin 8)
    (h1 : ∀ r j, x1 (ix2 (rw4 r) j) = X1 (ix2 (row b r) j)) (h2 : ∀ r j, x2 (ix2 (rw4 r) j) = X2 (ix2 (row b r) j)) (h4 : ∀ r j, x4 (ix2 (rw4 r) j) = X4 (ix2 (row b r) j))
    (h5 : ∀ x j, x5 (ix2 x j) = X5 (ix2 x j)) (h6 : ∀ j, x6 (ix2 0 j) = X6 (ix2 0 j)) (h8 : ∀ h d e, x8 (ix4 0 h d e) = X8 (ix4 b h d e)) (h : Fin 8) (d : Fin 128) (e : Fin 256) :
    VAL x1 x2 x4 x5 x6 x8 (ix3 h d e) = OUT X1 X2 X4 X5 X6 X8 (ix4 b h d e) := by
  show ROWS (x8 (ix4 0 h d e)) (fun r => LSG (∑ x : Fin 128, (x4 (ix2 (rw4 r) x) : EReal) * x5 (ix2 x (hd h d)) + x6 (ix2 0 (hd h d))))
    (fun r => x1 (ix2 (rw4 r) (hd h d))) (fun r => x2 (ix2 (rw4 r) (he h e))) = _
  simp only [h1, h2, h4, h5, h6, h8]
  rfl

end Cert.GlaIdeal.Val
end
-- ==== Proof.GlaValue.lean ====
module
public import proofs.«01_k».proof.Proof.GlaBlk
public import Idealize.ShloMosaic.Lib.Pipeline.ReadBack
@[expose] public section
set_option maxRecDepth 16384
noncomputable section
namespace Cert.GlaIdeal.Val
open Idealize.ShloMosaic Idealize.ShloMosaic.TcCoe Idealize.SL.Sem
open Idealize.ShloMosaic.Pipeline (Dat)
open Cert.GlaIdeal Cert.GlaIdeal.Gen

variable (m : (ℓ : Loc nD τ sig) → Buf (Elt Ideal) ℓ)

theorem zero_bits : (0 : Ideal .f32) = Scalar.ofBits .f32 0x00000000#32 := by
  have e : (broadcast S128x1 (Scalar.ofBits .f32 0x00000000#32) : FVec Ideal S128x1 .f32) (ix2 0 0) = (0 : EReal) := by pointwise []
  exact e.symm

set_option maxHeartbeats 4000000 in
/-- The states the launch leaves. -/
theorem final_region (c : Dev nD) : (dats m 0 c).arrAt 10 cfg0.N = OUT (V m c main_v7) (V m c main_v10) (V m c main_v17) (V m c main_v1) (V m c main_v18) (V m c main_arg8) := by
  refine (dats m 0 c).arrAt_eq_of_covers 10 _ (by decide +kernel) fun t _ y => ?_
  blk_simp
  rw [after0_10]; unfold outsAt0 out0_A_10
  frame_out
  rw [View.readCov_eq_canon']
  idx_vars y
  pointwise [k0_pay2]
  refine (View.canon_append_of_piecesOf (VAL (iblk m c 1 t) (iblk m c 2 t) (iblk m c 4 t) (iblk m c 5 t) (iblk m c 6 t) (iblk m c 8 t)) [_] [_, _, _, _, _, _, _, _] ⟨?_, ?_, ?_, ?_, ?_, ?_, ?_, ?_, trivial⟩ (ix3 y1 y2 y3) ?_).trans ?_
  · intro x
    show shapeCast S1x128x256 (STEP (k0_pay454 ((View.whole cc0_scratch0).readCov [⟨Rect.unit ![0, 0, 0] S8x128x256.size inb_S8x128x256_S8x128x256_0_0_0, k0_pay3 (iblk m c 8 t)⟩] (Rect.unit (s := S8x128x256) ![7, 0, 0] S1x128x256.size inb_S8x128x256_S1x128x256_7_0_0).toLoadRect))
      (k0_pay15 (k0_pay5 (grid0.coords t) (iblk m c 4 t) (iblk m c 5 t) (iblk m c 6 t))) (k0_pay31 (k0_pay4 (grid0.coords t)) (iblk m c 1 t)) (k0_pay40 (View.ld (iblk m c 2 t) (Rect.unit (s := S128x2048) ![0, 1792] S128x256.size inb_S128x2048_S128x256_0_1792)))) shapeCasts_S128x256_S1x128x256 x = _
    refine (head_at 7 (s_at7 _) (fun r d => (l_at7 _ r d).trans (lg_at _ _ _ _ r _)) (k_at7 _ _) (v_at7 _) x).trans (congrArg (VAL _ _ _ _ _ _) (emb_row 7 (by decide) inb_S8x128x256_S1x128x256_7_0_0 x))
  · intro x
    show shapeCast S1x128x256 (STEP (k0_pay453 ((View.whole cc0_scratch0).readCov [⟨Rect.unit ![0, 0, 0] S8x128x256.size inb_S8x128x256_S8x128x256_0_0_0, k0_pay3 (iblk m c 8 t)⟩] (Rect.unit (s := S8x128x256) ![6, 0, 0] S1x128x256.size inb_S8x128x256_S1x128x256_6_0_0).toLoadRect))
      (k0_pay14 (k0_pay5 (grid0.coords t) (iblk m c 4 t) (iblk m c 5 t) (iblk m c 6 t))) (k0_pay30 (k0_pay4 (grid0.coords t)) (iblk m c 1 t)) (k0_pay39 (View.ld (iblk m c 2 t) (Rect.unit (s := S128x2048) ![0, 1536] S128x256.size inb_S128x2048_S128x256_0_1536)))) shapeCasts_S128x256_S1x128x256 x = _
    refine (head_at 6 (s_at6 _) (fun r d => (l_at6 _ r d).trans (lg_at _ _ _ _ r _)) (k_at6 _ _) (v_at6 _) x).trans (congrArg (VAL _ _ _ _ _ _) (emb_row 6 (by decide) inb_S8x128x256_S1x128x256_6_0_0 x))
  · intro x
    show shapeCast S1x128x256 (STEP (k0_pay452 ((View.whole cc0_scratch0).readCov [⟨Rect.unit ![0, 0, 0] S8x128x256.size inb_S8x128x256_S8x128x256_0_0_0, k0_pay3 (iblk m c 8 t)⟩] (Rect.unit (s := S8x128x256) ![5, 0, 0] S1x128x256.size inb_S8x128x256_S1x128x256_5_0_0).toLoadRect))
      (k0_pay13 (k0_pay5 (grid0.coords t) (iblk m c 4 t) (iblk m c 5 t) (iblk m c 6 t))) (k0_pay29 (k0_pay4 (grid0.coords t)) (iblk m c 1 t)) (k0_pay38 (k0_pay37 (View.ld (iblk m c 2 t) (Rect.unit (s := S128x2048) ![0, 1280] S128x256.size inb_S128x2048_S128x256_0_1280))))) shapeCasts_S128x256_S1x128x256 x = _
    refine (head_at 5 (s_at5 _) (fun r d => (l_at5 _ r d).trans (lg_at _ _ _ _ r _)) (k_at5 _ _) (v_at5 _) x).trans (congrArg (VAL _ _ _ _ _ _) (emb_row 5 (by decide) inb_S8x128x256_S1x128x256_5_0_0 x))
  · intro x
    dsimp only
    rw [show ∀ s y i, k0_pay323 (F := Ideal) s y 0 i = k0_pay323 s y (Scalar.ofBits .f32 0x00000000#32) i from fun s y i => congrArg (fun q => k0_pay323 s y q i) zero_bits]
    show shapeCast S1x128x256 (STEP (k0_pay451 ((View.whole cc0_scratch0).readCov [⟨Rect.unit ![0, 0, 0] S8x128x256.size inb_S8x128x256_S8x128x256_0_0_0, k0_pay3 (iblk m c 8 t)⟩] (Rect.unit (s := S8x128x256) ![4, 0, 0] S1x128x256.size inb_S8x128x256_S1x128x256_4_0_0).toLoadRect))
      (k0_pay12 (k0_pay5 (grid0.coords t) (iblk m c 4 t) (iblk m c 5 t) (iblk m c 6 t))) (k0_pay28 (k0_pay4 (grid0.coords t)) (iblk m c 1 t)) (k0_pay36 (View.ld (iblk m c 2 t) (Rect.unit (s := S128x2048) ![0, 1024] S128x256.size inb_S128x2048_S128x256_0_1024)))) shapeCasts_S128x256_S1x128x256 x = _
    refine (head_at 4 (s_at4 _) (fun r d => (l_at4 _ r d).trans (lg_at _ _ _ _ r _)) (k_at4 _ _) (v_at4 _) x).trans (congrArg (VAL _ _ _ _ _ _) (emb_row 4 (by decide) inb_S8x128x256_S1x128x256_4_0_0 x))
  · intro x
    show shapeCast S1x128x256 (STEP (k0_pay450 ((View.whole cc0_scratch0).readCov [⟨Rect.unit ![0, 0, 0] S8x128x256.size inb_S8x128x256_S8x128x256_0_0_0, k0_pay3 (iblk m c 8 t)⟩] (Rect.unit (s := S8x128x256) ![3, 0, 0] S1x128x256.size inb_S8x128x256_S1x128x256_3_0_0).toLoadRect))
      (k0_pay11 (k0_pay5 (grid0.coords t) (iblk m c 4 t) (iblk m c 5 t) (iblk m c 6 t))) (k0_pay27 (k0_pay4 (grid0.coords t)) (iblk m c 1 t)) (k0_pay35 (View.ld (iblk m c 2 t) (Rect.unit (s := S128x2048) ![0, 768] S128x256.size inb_S128x2048_S128x256_0_768)))) shapeCasts_S128x256_S1x128x256 x = _
    refine (head_at 3 (s_at3 _) (fun r d => (l_at3 _ r d).trans (lg_at _ _ _ _ r _)) (k_at3 _ _) (v_at3 _) x).trans (congrArg (VAL _ _ _ _ _ _) (emb_row 3 (by decide) inb_S8x128x256_S1x128x256_3_0_0 x))
  · intro x
    show shapeCast S1x128x256 (STEP (k0_pay449 ((View.whole cc0_scratch0).readCov [⟨Rect.unit ![0, 0, 0] S8x128x256.size inb_S8x128x256_S8x128x256_0_0_0, k0_pay3 (iblk m c 8 t)⟩] (Rect.unit (s := S8x128x256) ![2, 0, 0] S1x128x256.size inb_S8x128x256_S1x128x256_2_0_0).toLoadRect))
      (k0_pay10 (k0_pay5 (grid0.coords t) (iblk m c 4 t) (iblk m c 5 t) (iblk m c 6 t))) (k0_pay26 (k0_pay4 (grid0.coords t)) (iblk m c 1 t)) (k0_pay34 (View.ld (iblk m c 2 t) (Rect.unit (s := S128x2048) ![0, 512] S128x256.size inb_S128x2048_S128x256_0_512)))) shapeCasts_S128x256_S1x128x256 x = _
    refine (head_at 2 (s_at2 _) (fun r d => (l_at2 _ r d).trans (lg_at _ _ _ _ r _)) (k_at2 _ _) (v_at2 _) x).trans (congrArg (VAL _ _ _ _ _ _) (emb_row 2 (by decide) inb_S8x128x256_S1x128x256_2_0_0 x))
  · intro x
    show shapeCast S1x128x256 (STEP (k0_pay448 ((View.whole cc0_scratch0).readCov [⟨Rect.unit ![0, 0, 0] S8x128x256.size inb_S8x128x256_S8x128x256_0_0_0, k0_pay3 (iblk m c 8 t)⟩] (Rect.unit (s := S8x128x256) ![1, 0, 0] S1x128x256.size inb_S8x128x256_S1x128x256_1_0_0).toLoadRect))
      (k0_pay9 (k0_pay5 (grid0.coords t) (iblk m c 4 t) (iblk m c 5 t) (iblk m c 6 t))) (k0_pay25 (k0_pay4 (grid0.coords t)) (iblk m c 1 t)) (k0_pay33 (View.ld (iblk m c 2 t) (Rect.unit (s := S128x2048) ![0, 256] S128x256.size inb_S128x2048_S128x256_0_256)))) shapeCasts_S128x256_S1x128x256 x = _
    refine (head_at 1 (s_at1 _) (fun r d => (l_at1 _ r d).trans (lg_at _ _ _ _ r _)) (k_at1 _ _) (v_at1 _) x).trans (congrArg (VAL _ _ _ _ _ _) (emb_row 1 (by decide) inb_S8x128x256_S1x128x256_1_0_0 x))
  · intro x
    dsimp only
    rw [show ∀ s y i, k0_pay152 (F := Ideal) s y 0 i = k0_pay152 s y (Scalar.ofBits .f32 0x00000000#32) i from fun s y i => congrArg (fun q => k0_pay152 s y q i) zero_bits]
    show shapeCast S1x128x256 (STEP (k0_pay447 ((View.whole cc0_scratch0).readCov [⟨Rect.unit ![0, 0, 0] S8x128x256.size inb_S8x128x256_S8x128x256_0_0_0, k0_pay3 (iblk m c 8 t)⟩] (Rect.unit (s := S8x128x256) ![0, 0, 0] S1x128x256.size inb_S8x128x256_S1x128x256_0_0_0).toLoadRect))
      (k0_pay8 (k0_pay5 (grid0.coords t) (iblk m c 4 t) (iblk m c 5 t) (iblk m c 6 t))) (k0_pay24 (k0_pay4 (grid0.coords t)) (iblk m c 1 t)) (k0_pay32 (View.ld (iblk m c 2 t) (Rect.unit (s := S128x2048) ![0, 0] S128x256.size inb_S128x2048_S128x256_0_0)))) shapeCasts_S128x256_S1x128x256 x = _
    refine (head_at 0 (s_at0 _) (fun r d => (l_at0 _ r d).trans (lg_at _ _ _ _ r _)) (k_at0 _ _) (v_at0 _) x).trans (congrArg (VAL _ _ _ _ _ _) (emb_row 0 (by decide) inb_S8x128x256_S1x128x256_0_0_0 x))
  · exact View.cover_of_tiledL (s := S8x128x256) _ ![1, 128, 256] (by sl_kernel_rfl) _
  · refine (val_eq (row0 t) (blk1 m c t) (blk2 m c t) (blk4 m c t) (blk5 m c t) (blk6 m c t) (blk8 m c t) y1 y2 y3).trans (congrArg (OUT _ _ _ _ _ _) ?_)
    have e := (idxs t).2.2.2.2.2.2
    funext a
    fin_cases a <;> refine Fin.ext ?_
    · show t.val = win0_10.index t 0 * 1 + 1 * y0.val
      rw [e]; show t.val = t.val * 1 + 1 * y0.val; omega
    · show y1.val = win0_10.index t 1 * 8 + 1 * y1.val
      rw [e]; show y1.val = 0 * 8 + 1 * y1.val; omega
    · show y2.val = win0_10.index t 2 * 128 + 1 * y2.val
      rw [e]; show y2.val = 0 * 128 + 1 * y2.val; omega
    · show y3.val = win0_10.index t 3 * 256 + 1 * y3.val
      rw [e]; show y3.val = 0 * 256 + 1 * y3.val; omega
end Cert.GlaIdeal.Val
end
-- ==== Proof.GlaArr.lean ====
module

public import proofs.«01_k».proof.Proof.GlaValue
public import Idealize.ShloMosaic.Lib.Pointwise

@[expose] public section

set_option maxRecDepth 16384

noncomputable section

namespace Cert.GlaIdeal.Val

open Idealize.ShloMosaic Idealize.ShloMosaic.TcCoe Idealize.SL.Sem
open Cert.GlaIdeal Cert.GlaIdeal.Gen

/-- The value of the padding. -/
abbrev ZERO : FVec Ideal S_ .f32 := sitofp .f32 (constantI S_ 32 0#32)

/-- Rows padded to blocks of 128. -/
def PK (y : FVec Ideal S32x1024 .f32) : FVec Ideal S1024x1024 .f32 := shapeCast S1024x1024 (pad S8x128x1024 ![0, 0, 0] ![0, 124, 0] ![0, 0, 0] (shapeCast S8x4x1024 y shapeCasts_S32x1024_S8x4x1024) ZERO pads_S8x4x1024_S8x128x1024_000_01240_000 h_S_) shapeCasts_S8x128x1024_S1024x1024
theorem PK_at (y : FVec Ideal S32x1024 .f32) (b : Fin 8) (r : Fin 4) (j : Fin 1024) : PK y (ix2 (row b r) j) = (y (ix2 ⟨b.val * 4 + r.val, by omega⟩ j) : EReal) := by
  have e : (b.val * 128 + r.val) % 128 = r.val := by omega
  unfold row
  pointwise [PK]
  rw [dif_pos (by omega)]
  exact congrArg (fun q => y (ix2 q j)) (Fin.ext (by show b.val * 4 + (b.val * 128 + r.val) % 128 = b.val * 4 + r.val; omega))
/-- Rows padded to blocks of 128. -/
def PV (y : FVec Ideal S32x2048 .f32) : FVec Ideal S1024x2048 .f32 := shapeCast S1024x2048 (pad S8x128x2048 ![0, 0, 0] ![0, 124, 0] ![0, 0, 0] (shapeCast S8x4x2048 y shapeCasts_S32x2048_S8x4x2048) ZERO pads_S8x4x2048_S8x128x2048_000_01240_000 h_S_) shapeCasts_S8x128x2048_S1024x2048
theorem PV_at (y : FVec Ideal S32x2048 .f32) (b : Fin 8) (r : Fin 4) (j : Fin 2048) : PV y (ix2 (row b r) j) = (y (ix2 ⟨b.val * 4 + r.val, by omega⟩ j) : EReal) := by
  have e : (b.val * 128 + r.val) % 128 = r.val := by omega
  unfold row
  pointwise [PV]
  rw [dif_pos (by omega)]
  exact congrArg (fun q => y (ix2 q j)) (Fin.ext (by show b.val * 4 + (b.val * 128 + r.val) % 128 = b.val * 4 + r.val; omega))
/-- Rows padded to blocks of 128. -/
def PG (y : FVec Ideal S32x128 .f32) : FVec Ideal S1024x128 .bf16 := truncf .bf16 (shapeCast S1024x128 (pad S8x128x128 ![0, 0, 0] ![0, 124, 0] ![0, 0, 0] (shapeCast S8x4x128 y shapeCasts_S32x128_S8x4x128) ZERO pads_S8x4x128_S8x128x128_000_01240_000 h_S_) shapeCasts_S8x128x128_S1024x128) bitsLt_bf16_f32
theorem PG_at (y : FVec Ideal S32x128 .f32) (b : Fin 8) (r : Fin 4) (j : Fin 128) : PG y (ix2 (row b r) j) = (y (ix2 ⟨b.val * 4 + r.val, by omega⟩ j) : EReal) := by
  have e : (b.val * 128 + r.val) % 128 = r.val := by omega
  unfold row
  pointwise [PG]
  rw [dif_pos (by omega)]
  exact congrArg (fun q => y (ix2 q j)) (Fin.ext (by show b.val * 4 + (b.val * 128 + r.val) % 128 = b.val * 4 + r.val; omega))
/-- The weights of the gates, padded to 128 rows. -/
def PW (y : FVec Ideal S16x1024 .f32) : FVec Ideal S128x1024 .bf16 := truncf .bf16 (pad S128x1024 ![0, 0] ![112, 0] ![0, 0] y ZERO pads_S16x1024_S128x1024_01120_000 h_S_) bitsLt_bf16_f32
theorem PW_at (y : FVec Ideal S16x1024 .f32) (x : Fin 128) (j : Fin 1024) : PW y (ix2 x j) = (if h : x.val < 16 then y (ix2 ⟨x.val, h⟩ j) else 0 : EReal) := by
  have z : FloatOps.sitofp (F := Ideal) .f32 (0#32) = (0 : EReal) := by
    show (((0#32 : BitVec 32).toInt : ℝ) : EReal) = 0
    simp
  pointwise [PW]
  exact dite_congr rfl (fun _ => rfl) (fun _ => z)
/-- The bias of the gates. -/
def PB (y : FVec Ideal S1024 .f32) : FVec Ideal S1x1024 .f32 := shapeCast S1x1024 y shapeCasts_S1024_S1x1024
theorem PB_at (y : FVec Ideal S1024 .f32) (j : Fin 1024) : PB y (ix2 0 j) = (y (ix1 j) : EReal) := by
  pointwise [PB]
theorem sum16 (f : Fin 128 → EReal) (h : ∀ x : Fin 128, 16 ≤ x.val → f x = 0) : ∑ x : Fin 128, f x = ∑ x : Fin 16, f ⟨x.val, by omega⟩ := by
  rw [show ∑ x : Fin 128, f x = ∑ x : Fin (16 + 112), f x from rfl, Fin.sum_univ_add]
  rw [show ∑ i : Fin 112, f (Fin.natAdd 16 i) = 0 from Finset.sum_eq_zero fun i _ => h _ (by show 16 ≤ 16 + i.val; omega), add_zero]
  rfl

theorem PRE_pad (g : FVec Ideal S32x128 .f32) (w : FVec Ideal S16x1024 .f32) (b : FVec Ideal S1024 .f32) (a : Fin 8) (r : Fin 4) (j : Fin 1024) :
    PRE (PG g) (PW w) (PB b) (row a r) j = ∑ x : Fin 16, (g (ix2 ⟨a.val * 4 + r.val, by omega⟩ ⟨x.val, by omega⟩) : EReal) * w (ix2 x j) + b (ix1 j) := by
  refine congrArg₂ (· + ·) ((sum16 _ fun x hx => ?_).trans (Finset.sum_congr rfl fun x _ => ?_)) (PB_at b j)
  · exact (congrArg (fun q : EReal => PG g (ix2 (row a r) x) * q) ((PW_at w x j).trans (dif_neg (by omega)))).trans (mul_zero _)
  · exact congrArg₂ (fun p q : EReal => p * q) (PG_at g a r _) ((PW_at w _ j).trans (dif_pos x.isLt))

/-- The states from the arguments. -/
theorem OUT_pad (k : FVec Ideal S32x1024 .f32) (v : FVec Ideal S32x2048 .f32) (g : FVec Ideal S32x128 .f32) (w : FVec Ideal S16x1024 .f32) (b : FVec Ideal S1024 .f32)
    (s : FVec Ideal S8x8x128x256 .f32) (a h : Fin 8) (d : Fin 128) (e : Fin 256) : OUT (PK k) (PV v) (PG g) (PW w) (PB b) s (ix4 a h d e)
    = ROWS (s (ix4 a h d e))
      (fun r => LSG (∑ x : Fin 16, (g (ix2 ⟨a.val * 4 + r.val, by omega⟩ ⟨x.val, by omega⟩) : EReal) * w (ix2 x (hd h d)) + b (ix1 (hd h d))))
      (fun r => k (ix2 ⟨a.val * 4 + r.val, by omega⟩ (hd h d))) (fun r => v (ix2 ⟨a.val * 4 + r.val, by omega⟩ (he h e))) := by
  show ROWS (s (ix4 a h d e)) (fun r => LSG (PRE (PG g) (PW w) (PB b) (row a r) (hd h d)))
    (fun r => PK k (ix2 (row a r) (hd h d))) (fun r => PV v (ix2 (row a r) (he h e))) = _
  simp only [PRE_pad, PK_at, PV_at]

variable (m : (ℓ : Loc nD τ sig) → Buf (Elt Ideal) ℓ)

theorem V_k (c : Dev nD) : V m c main_v7 = PK (m ((c : Thread nD τ).loc main_arg1)) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v7) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.binary, StableHlo.TRef.unary, StableHlo.TRef.toBuf, StableHlo.TRef.ofBuf, cast_eq]
  after_results; try rfl
theorem V_v (c : Dev nD) : V m c main_v10 = PV (m ((c : Thread nD τ).loc main_arg2)) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v10) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.binary, StableHlo.TRef.unary, StableHlo.TRef.toBuf, StableHlo.TRef.ofBuf, cast_eq]
  after_results; try rfl
theorem V_g (c : Dev nD) : V m c main_v17 = PG (m ((c : Thread nD τ).loc main_arg4)) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v17) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.binary, StableHlo.TRef.unary, StableHlo.TRef.toBuf, StableHlo.TRef.ofBuf, cast_eq]
  after_results; try rfl
theorem V_w (c : Dev nD) : V m c main_v1 = PW (m ((c : Thread nD τ).loc main_arg5)) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v1) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.binary, StableHlo.TRef.unary, StableHlo.TRef.toBuf, StableHlo.TRef.ofBuf, cast_eq]
  after_results; try rfl
theorem V_b (c : Dev nD) : V m c main_v18 = PB (m ((c : Thread nD τ).loc main_arg6)) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v18) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.binary, StableHlo.TRef.unary, StableHlo.TRef.toBuf, StableHlo.TRef.ofBuf, cast_eq]
  after_results; try rfl
/-- The states the launch leaves, from the arguments. -/
theorem final (c : Dev nD) : (dats m 0 c).arrAt 10 cfg0.N = OUT (PK (m ((c : Thread nD τ).loc main_arg1))) (PV (m ((c : Thread nD τ).loc main_arg2)))
    (PG (m ((c : Thread nD τ).loc main_arg4))) (PW (m ((c : Thread nD τ).loc main_arg5))) (PB (m ((c : Thread nD τ).loc main_arg6))) (m ((c : Thread nD τ).loc main_arg8)) := by
  rw [final_region, V_k, V_v, V_g, V_w, V_b, V_main_arg8]

end Cert.GlaIdeal.Val

end
-- ==== Proof.GlaRef.lean ====
module

public import proofs.«01_k».proof.Proof.Gen.GlaRefIdeal
public import proofs.«01_k».proof.Proof.Gen.GlaRefIdeal.Run
public import proofs.«01_k».proof.Proof.SbRef

@[expose] public section

set_option maxRecDepth 16384

noncomputable section

namespace Cert.GlaRefIdeal.Val

open Idealize.ShloMosaic Idealize.ShloMosaic.TcCoe Idealize.SL.Sem
open Cert.GlaRefIdeal Cert.GlaRefIdeal.Gen Cert.SbMath Cert.SbRef

/-- The arguments of the gates. -/
def ZR (g : FVec Ideal S32x128 .f32) (w : FVec Ideal S16x1024 .f32) (b : FVec Ideal S1024 .f32) : FVec Ideal S8x4x1024 .f32 :=
  addf (Host.dotGeneral dot_S8x4x16_S16x1024_S8x4x1024_2_0_01_1_n_n none (shapeCast _ (extractStridedSlice S32x16 ![0, 0] g slices_S32x128_S32x16_0_0) shapeCasts_S32x16_S8x4x16) w) (broadcastInDim S8x4x1024 ![0, 1, 2] bcast_S1x1x1024_S8x4x1024_0_1_2 (broadcastInDim S1x1x1024 ![2] bcast_S1024_S1x1x1024_2 b))

/-- Softplus, as the reference spells it. -/
def SPR (x : FVec Ideal S8x4x1024 .f32) : FVec Ideal S8x4x1024 .f32 := select (cmpf .une (subf x (broadcastInDim S8x4x1024 ![] bcast_S_S8x4x1024 (constant S_ .f32 0x00000000#32))) (subf x (broadcastInDim S8x4x1024 ![] bcast_S_S8x4x1024 (constant S_ .f32 0x00000000#32)))) (addf x (broadcastInDim S8x4x1024 ![] bcast_S_S8x4x1024 (constant S_ .f32 0x00000000#32))) (addf (maximumf x (broadcastInDim S8x4x1024 ![] bcast_S_S8x4x1024 (constant S_ .f32 0x00000000#32))) (Host.log1p (Host.exp (Host.negf (Host.absf (subf x (broadcastInDim S8x4x1024 ![] bcast_S_S8x4x1024 (constant S_ .f32 0x00000000#32))))))))

/-- The logarithms of the gates. -/
def LGR (z : FVec Ideal S8x4x1024 .f32) : FVec Ideal S8x4x8x128 .f32 :=
  shapeCast _ (Host.divf (Host.negf (SPR (Host.negf z))) (broadcastInDim S8x4x1024 ![] bcast_S_S8x4x1024 (constant S_ .f32 0x41800000#32))) shapeCasts_S8x4x1024_S8x4x8x128

/-- Their sums over the rows so far. -/
def CUM (x : FVec Ideal S8x4x8x128 .f32) : FVec Ideal S8x4x8x128 .f32 :=
  Host.reduceWindowAdd ![1, 4, 1, 1] ![1, 1, 1, 1] ![0, 3, 0, 0] ![0, 0, 0, 0] x (broadcastInDim S_ ![] bcast_S_S_ (constant S_ .f32 0x00000000#32)) reduceWindows_S8x4x8x128_S8x4x8x128_w1s1p0_0_w4s1p3_0_w1s1p0_0_w1s1p0_0 h_S_

/-- The states after the rows. -/
def STR (k : FVec Ideal S32x1024 .f32) (v : FVec Ideal S32x2048 .f32) (s : FVec Ideal S8x8x128x256 .f32) (b : FVec Ideal S8x4x8x128 .f32) : FVec Ideal S8x8x128x256 .f32 :=
  addf (mulf s (broadcastInDim S8x8x128x256 ![0, 1, 2, 3] bcast_S8x8x128x1_S8x8x128x256_0_1_2_3 (broadcastInDim S8x8x128x1 ![0, 1, 2] bcast_S8x8x128_S8x8x128x1_0_1_2 (Host.exp (shapeCast _ (extractStridedSlice S8x1x8x128 ![0, 3, 0, 0] b slices_S8x4x8x128_S8x1x8x128_0_3_0_0) shapeCasts_S8x1x8x128_S8x8x128))))) (Host.dotGeneral dot_S8x4x8x128_S8x4x8x256_S8x8x128x256_1_1_3_3_02_02 none (mulf (shapeCast _ k shapeCasts_S32x1024_S8x4x8x128) (Host.exp (subf (broadcastInDim S8x4x8x128 ![0, 1, 2, 3] bcast_S8x1x8x128_S8x4x8x128_0_1_2_3 (extractStridedSlice S8x1x8x128 ![0, 3, 0, 0] b slices_S8x4x8x128_S8x1x8x128_0_3_0_0)) b))) (shapeCast _ v shapeCasts_S32x2048_S8x4x8x256))

/-- The reference's result is these steps in turn. -/
theorem res_eq (m : (ℓ : Loc nD τ sig) → Buf (Elt Ideal) ℓ) (c : Dev nD) :
    Cert.GlaRefIdeal.Value.res_main_v25 m c = STR (m ((c.tc : Thread nD τ).loc main_arg1)) (m ((c.tc : Thread nD τ).loc main_arg2)) (m ((c.tc : Thread nD τ).loc main_arg8))
      (CUM (LGR (ZR (m ((c.tc : Thread nD τ).loc main_arg4)) (m ((c.tc : Thread nD τ).loc main_arg5)) (m ((c.tc : Thread nD τ).loc main_arg6))))) := rfl

/-- The argument of a gate. -/
def ZZG (g : FVec Ideal S32x128 .f32) (w : FVec Ideal S16x1024 .f32) (b : FVec Ideal S1024 .f32) (a : Fin 8) (r : Fin 4) (j : Fin 1024) : EReal :=
  ∑ x : Fin 16, (g (ix2 ⟨a.val * 4 + r.val, by omega⟩ ⟨x.val, by omega⟩) : EReal) * w (ix2 x j) + b (ix1 j)

theorem ZR_at (g : FVec Ideal S32x128 .f32) (w : FVec Ideal S16x1024 .f32) (b : FVec Ideal S1024 .f32) (a : Fin 8) (r : Fin 4) (j : Fin 1024) :
    ZR g w b (ix3 a r j) = ZZG g w b a r j := by
  pointwise [ZR]
  rfl

theorem SPR_at (x : FVec Ideal S8x4x1024 .f32) (a : Fin 8) (r : Fin 4) (j : Fin 1024) : SPR x (ix3 a r j) = sp (x (ix3 a r j)) := by
  pointwise [SPR]
  unfold sp
  simp
  rfl

theorem LGR_at (z : FVec Ideal S8x4x1024 .f32) (a : Fin 8) (r : Fin 4) (h : Fin 8) (d : Fin 128) :
    LGR z (ix4 a r h d) = Ideal.div (-(sp (-(z (ix3 a r ⟨h.val * 128 + d.val, by omega⟩) : EReal)))) (Ideal.ofBits .f32 0x41800000#32) := by
  pointwise [LGR]
  rw [SPR_at]
  rfl

theorem CUM_at (x : FVec Ideal S8x4x8x128 .f32) (a : Fin 8) (r : Fin 4) (h : Fin 8) (d : Fin 128) :
    CUM x (ix4 a r h d) = ∑ n : Fin 4, if hn : 3 ≤ r.val + n.val then x (ix4 a ⟨r.val + n.val - 3, by omega⟩ h d) else 0 := by
  have hv : (broadcastInDim (α := EReal) S_ ![] bcast_S_S_ (constant (F := Ideal) S_ .f32 0x00000000#32)) (Shape.Idx.first h_S_) = 0 := by
    pointwise []
  have hw := window_sum _ _ _ _ reduceWindows_S8x4x8x128_S8x4x8x128_w1s1p0_0_w4s1p3_0_w1s1p0_0_w1s1p0_0 x
    ((broadcastInDim (α := EReal) S_ ![] bcast_S_S_ (constant (F := Ideal) S_ .f32 0x00000000#32)) (Shape.Idx.first h_S_)) (ix4 a r h d)
  rw [hv, zero_add] at hw
  have hx : CUM x (ix4 a r h d) = Ideal.hostReduceWindowAdd ![1, 4, 1, 1] ![1, 1, 1, 1] ![0, 3, 0, 0] ![0, 0, 0, 0]
      reduceWindows_S8x4x8x128_S8x4x8x128_w1s1p0_0_w4s1p3_0_w1s1p0_0_w1s1p0_0 x 0 (ix4 a r h d) := by
    rw [← hv]
    unfold CUM Host.reduceWindowAdd
    exact reduceWindowAdd_ideal _ _ _ _ _ _ _ _ _
  rw [hx, hw]
  refine (sum_idx4 (n0 := 1) (n1 := 4) (n2 := 1) (n3 := 1) _).trans ?_
  simp only [Fin.sum_univ_one]
  refine Finset.sum_congr rfl fun n _ => ?_
  by_cases hn : 3 ≤ r.val + n.val
  · rw [dif_pos hn, dif_pos]
    · refine congrArg x ?_
      funext i
      fin_cases i <;> refine Fin.ext ?_
      · show a.val * 1 + 0 - 0 = a.val; omega
      · show r.val * 1 + n.val - 3 = r.val + n.val - 3; omega
      · show h.val * 1 + 0 - 0 = h.val; omega
      · show d.val * 1 + 0 - 0 = d.val; omega
    · intro i
      fin_cases i
      · show 0 ≤ a.val * 1 + 0 ∧ a.val * 1 + 0 - 0 < 8; omega
      · show 3 ≤ r.val * 1 + n.val ∧ r.val * 1 + n.val - 3 < 4; omega
      · show 0 ≤ h.val * 1 + 0 ∧ h.val * 1 + 0 - 0 < 8; omega
      · show 0 ≤ d.val * 1 + 0 ∧ d.val * 1 + 0 - 0 < 128; omega
  · rw [dif_neg hn, dif_neg]
    intro hh
    have := (hh 1).1
    change 3 ≤ r.val * 1 + n.val at this
    omega

theorem STR_at (k : FVec Ideal S32x1024 .f32) (v : FVec Ideal S32x2048 .f32) (s : FVec Ideal S8x8x128x256 .f32) (b : FVec Ideal S8x4x8x128 .f32) (a h : Fin 8) (d : Fin 128) (e : Fin 256) :
    STR k v s b (ix4 a h d e) = s (ix4 a h d e) * Ideal.exp (b (ix4 a 3 h d))
      + ∑ r : Fin 4, (k (ix2 ⟨a.val * 4 + r.val, by omega⟩ ⟨h.val * 128 + d.val, by omega⟩) * Ideal.exp (b (ix4 a 3 h d) - b (ix4 a r h d))
        * v (ix2 ⟨a.val * 4 + r.val, by omega⟩ ⟨h.val * 256 + e.val, by omega⟩) : EReal) := by
  pointwise [STR]

end Cert.GlaRefIdeal.Val

end
-- ==== Proof.GlaMath.lean ====
module

public import proofs.«01_k».proof.Proof.GlaRows
public import proofs.«01_k».proof.Proof.SbMath

@[expose] public section

noncomputable section

namespace Cert.GlaMath

open Idealize.ShloMosaic Idealize.ShloMosaic.TcCoe Cert.SbMath
open Cert.GlaIdeal.Val (LSG ROWS)

/-- The temperature of the gates. -/
theorem temp : Ideal.ofBits .f32 0x41800000#32 = ((16 : ℝ) : EReal) := by
  simp [Ideal.ofBits, Ideal.ieee, -EReal.coe_mul]
  norm_num

theorem div16 (x : ℝ) : Ideal.div (x : EReal) ((16 : ℝ) : EReal) = ((x * (16 : ℝ)⁻¹ : ℝ) : EReal) := by
  unfold Ideal.div
  rw [if_neg (by exact_mod_cast (by norm_num : (16 : ℝ) ≠ 0)), ← EReal.coe_inv, ← EReal.coe_mul]

/-- The logarithm of a sigmoid as the kernel takes it. -/
theorem ls_coe (x : ℝ) : min (x : EReal) 0 - Ideal.log1p (Ideal.exp (0 - FloatOps.absf (F := Ideal) (φ := .f32) (x : EReal))) = -sp (-(x : EReal)) := by
  rw [← EReal.coe_neg, sp_coe]
  have e : max (x : EReal) (-(x : EReal)) = ((|x| : ℝ) : EReal) := by
    rw [← EReal.coe_neg, ← coe_max]; rfl
  have h : FloatOps.absf (F := Ideal) (φ := .f32) (x : EReal) = ((|x| : ℝ) : EReal) := e
  have hp : ¬ (1 + Real.exp (-|x|) ≤ 0) := by have := Real.exp_pos (-|x|); linarith
  have hl : Ideal.log1p (Ideal.exp (0 - FloatOps.absf (F := Ideal) (φ := .f32) (x : EReal))) = ((Real.log (1 + Real.exp (-|x|)) : ℝ) : EReal) := by
    rw [h, zero_sub, ← EReal.coe_neg]
    show Ideal.log ((1 : EReal) + ((Real.exp (-|x|) : ℝ) : EReal)) = _
    rw [← EReal.coe_one, ← EReal.coe_add]
    show (if 1 + Real.exp (-|x|) ≤ 0 then (⊥ : EReal) else _) = _
    rw [if_neg hp]
  have hm : min (x : EReal) 0 = ((min x 0 : ℝ) : EReal) := (EReal.coe_strictMono.monotone.map_min).symm
  rw [hl, hm, ← EReal.coe_sub, ← EReal.coe_neg, abs_neg]
  congr 1
  have : min x 0 = -max (-x) 0 := by
    rcases le_total x 0 with q | q
    · rw [min_eq_left q, max_eq_left (by linarith)]; ring
    · rw [min_eq_right q, max_eq_right (by linarith)]; ring
  rw [this]; ring

/-- The reference's gate is the kernel's, and a real number where its argument is above minus infinity. -/
theorem gate (z : EReal) (hz : z ≠ ⊥) : ∃ x : ℝ, LSG z = x ∧ Ideal.div (-sp (-z)) (Ideal.ofBits .f32 0x41800000#32) = x := by
  unfold LSG
  rw [temp]
  induction z using EReal.rec with
  | bot => exact absurd rfl hz
  | top =>
    refine ⟨0, ?_, ?_⟩
    · have h : FloatOps.absf (F := Ideal) (φ := .f32) (⊤ : EReal) = ⊤ := by
        show max (⊤ : EReal) (-⊤) = ⊤
        simp
      rw [h]
      have : min (⊤ : EReal) 0 - Ideal.log1p (Ideal.exp (0 - ⊤)) = ((0 : ℝ) : EReal) := by
        rw [show (0 : EReal) - ⊤ = ⊥ from rfl, show Ideal.exp ⊥ = 0 from rfl]
        simp [Ideal.log1p, log_one]
      rw [this, div16]; simp
    · rw [EReal.neg_top, sp_bot, neg_zero, ← EReal.coe_zero, div16]; simp
  | coe x =>
    rw [ls_coe, ← EReal.coe_neg, sp_coe, ← EReal.coe_neg, div16]
    exact ⟨_, rfl, rfl⟩

/-- A state's entry after four rows, from the sums of the gates so far. -/
theorem rows (s : EReal) (x : Fin 4 → ℝ) (k v B : Fin 4 → EReal) (h0 : B 0 = (x 0 : EReal)) (h1 : B 1 = (x 0 : EReal) + x 1) (h2 : B 2 = (x 0 : EReal) + x 1 + x 2)
    (h3 : B 3 = (x 0 : EReal) + x 1 + x 2 + x 3) :
    s * Ideal.exp (B 3) + ∑ r : Fin 4, k r * Ideal.exp (B 3 - B r) * v r = ROWS s (fun r => (x r : EReal)) k v := by
  rw [Fin.sum_univ_four, h0, h1, h2, h3]
  unfold ROWS
  simp only [← EReal.coe_add, ← EReal.coe_sub, ← EReal.coe_zero]
  rw [show x 0 + x 1 + x 2 + x 3 = x 0 + x 1 + (x 2 + x 3) by ring, show x 0 + x 1 + (x 2 + x 3) - x 0 = x 1 + (x 2 + x 3) by ring,
    show x 0 + x 1 + (x 2 + x 3) - (x 0 + x 1) = x 2 + x 3 by ring, show x 0 + x 1 + (x 2 + x 3) - (x 0 + x 1 + x 2) = x 3 by ring, sub_self]

end Cert.GlaMath

end
-- ==== Proof.GlaEq.lean ====
module

public import proofs.«01_k».proof.Proof.GlaArr
public import proofs.«01_k».proof.Proof.GlaRef
public import proofs.«01_k».proof.Proof.GlaMath
public import proofs.«01_k».proof.Defs

@[expose] public section

set_option maxRecDepth 16384

noncomputable section

namespace Cert.GlaEq

open Idealize.ShloMosaic Idealize.ShloMosaic.TcCoe Idealize.SL.Sem
open Cert.GlaRefIdeal.Val (ZR LGR CUM STR ZZG ZR_at LGR_at CUM_at STR_at)
open Cert.GlaIdeal.Val (OUT PK PV PG PW PB OUT_pad ROWS LSG)
open Cert.SbMath

/-- The side conditions of the precondition. -/
theorem pre_facts : Cert.Pre_gates_open.Facts where
  slices_S32x128_S32x16_0_0 := Cert.GlaRefIdeal.Gen.facts.slices_S32x128_S32x16_0_0
  shapeCasts_S32x16_S8x4x16 := Cert.GlaRefIdeal.Gen.facts.shapeCasts_S32x16_S8x4x16
  bcast_S1024_S1x1x1024_2 := Cert.GlaRefIdeal.Gen.facts.bcast_S1024_S1x1x1024_2
  bcast_S1x1x1024_S8x4x1024_0_1_2 := Cert.GlaRefIdeal.Gen.facts.bcast_S1x1x1024_S8x4x1024_0_1_2
  bcast_S_S8x4x1024 := Cert.GlaRefIdeal.Gen.facts.bcast_S_S8x4x1024
  dot_S8x4x16_S16x1024_S8x4x1024_2_0_01_1_n_n_wf := Cert.GlaRefIdeal.Gen.facts.dot_S8x4x16_S16x1024_S8x4x1024_2_0_01_1_n_n_wf

theorem gt_of {a : EReal} (h : FloatOps.cmpf (F := Ideal) (φ := .f32) .ogt a (Ideal.ofBits .f32 0xFF800000#32) = 1#1) : a ≠ ⊥ := by
  intro e
  have hb : Ideal.ofBits .f32 0xFF800000#32 = ⊥ := by
    simp [Ideal.ofBits, Ideal.ieee]
  rw [e, hb] at h
  simp [FloatOps.cmpf, Ideal.cmp] at h

/-- The precondition: each gate's argument is above minus infinity. -/
theorem open_at (m : (ℓ : Loc Cert.GlaIdeal.nD Cert.GlaIdeal.τ Cert.GlaIdeal.sig) → Buf (Elt Ideal) ℓ) (h : @Cert.Pre_GlaIdeal_gates_open pre_facts m) (c : Dev Cert.GlaIdeal.nD)
    (a : Fin 8) (r : Fin 4) (j : Fin 1024) : ZZG (m ((c : Thread Cert.GlaIdeal.nD Cert.GlaIdeal.τ).loc Cert.GlaIdeal.main_arg4)) (m ((c : Thread Cert.GlaIdeal.nD Cert.GlaIdeal.τ).loc Cert.GlaIdeal.main_arg5))
      (m ((c : Thread Cert.GlaIdeal.nD Cert.GlaIdeal.τ).loc Cert.GlaIdeal.main_arg6)) a r j ≠ ⊥ := by
  have e := congrFun (h c) (ix3 a r j)
  rw [← ZR_at]
  refine gt_of ?_
  refine Eq.trans ?_ e
  show FloatOps.cmpf (F := Ideal) (φ := .f32) .ogt (ZR _ _ _ (ix3 a r j)) _ = FloatOps.cmpf (F := Ideal) (φ := .f32) .ogt _ _
  rfl

/-- The reference's states are the kernel's where the gates are open. -/
theorem ref_eq (k : FVec Ideal Cert.GlaIdeal.S32x1024 .f32) (v : FVec Ideal Cert.GlaIdeal.S32x2048 .f32) (g : FVec Ideal Cert.GlaIdeal.S32x128 .f32)
    (w : FVec Ideal Cert.GlaIdeal.S16x1024 .f32) (b : FVec Ideal Cert.GlaIdeal.S1024 .f32) (s : FVec Ideal Cert.GlaIdeal.S8x8x128x256 .f32)
    (hz : ∀ a r j, ZZG g w b a r j ≠ ⊥) : STR k v s (CUM (LGR (ZR g w b))) = OUT (PK k) (PV v) (PG g) (PW w) (PB b) s := by
  funext y
  idx_vars y
  rw [STR_at]
  refine Eq.trans ?_ (OUT_pad k v g w b s y0 y1 y2 y3).symm
  choose X hX hY using fun r : Fin 4 => Cert.GlaMath.gate _ (hz y0 r (Cert.GlaIdeal.Val.hd y1 y2))
  have hL : ∀ r : Fin 4, LGR (ZR g w b) (ix4 y0 r y1 y2) = (X r : EReal) := by
    intro r
    rw [LGR_at, ZR_at]
    exact hY r
  have hC : ∀ r : Fin 4, CUM (LGR (ZR g w b)) (ix4 y0 r y1 y2) = ∑ n : Fin 4, if hn : 3 ≤ r.val + n.val then (X ⟨r.val + n.val - 3, by omega⟩ : EReal) else 0 := by
    intro r
    rw [CUM_at]
    refine Finset.sum_congr rfl fun n _ => dite_congr rfl (fun hn => hL _) fun _ => rfl
  refine (Cert.GlaMath.rows _ X _ _ (fun r => CUM (LGR (ZR g w b)) (ix4 y0 r y1 y2)) ?_ ?_ ?_ ?_).trans ?_
  · show CUM (LGR (ZR g w b)) (ix4 y0 0 y1 y2) = _
    rw [hC, Fin.sum_univ_four]; simp
  · show CUM (LGR (ZR g w b)) (ix4 y0 1 y1 y2) = _
    rw [hC, Fin.sum_univ_four]; simp
  · show CUM (LGR (ZR g w b)) (ix4 y0 2 y1 y2) = _
    rw [hC, Fin.sum_univ_four]; simp
  · show CUM (LGR (ZR g w b)) (ix4 y0 3 y1 y2) = _
    rw [hC, Fin.sum_univ_four]; simp
  · rw [show (fun r => (X r : EReal)) = _ from funext fun r => (hX r).symm]
    rfl

/-- The kernel's states and the reference's are the same array where the gates are open. -/
theorem algebraic : @Cert.algebraic_GlaIdeal_GlaRefIdeal_pre_gates_open Cert.GlaIdeal.Gen.facts Cert.GlaRefIdeal.Gen.facts pre_facts := by
  intro m ρ m' ρ' hp hag
  refine ⟨fun c => (Cert.GlaIdeal.Gen.dats m 0 c).arrAt 10 Cert.GlaIdeal.cfg0.N,
    (θ_run _ _ _).mono (fun _ h c => ⟨(h c).2.1, (h c).2.2⟩) (Cert.GlaIdeal.Value.run_blocks m ρ),
    (θ_run _ _ _).mono (fun _ h c => ⟨(h c).1.trans ?_, (h c).2⟩) (Cert.GlaRefIdeal.Value.run m' ρ')⟩
  obtain ⟨h0, h1, h2, h3, h4, h5, h6, h7, h8⟩ := hag c
  refine Eq.trans ?_ (Cert.GlaIdeal.Val.final m c).symm
  rw [Cert.GlaRefIdeal.Val.res_eq, h1, h2, h4, h5, h6, h8]
  exact ref_eq _ _ _ _ _ _ (open_at m hp c)

end Cert.GlaEq

end
-- ==== Proof.FinalEq.lean ====
module

public import proofs.«01_k».proof.Proof.Gen.FinalIdeal.Value
public import proofs.«01_k».proof.Proof.Gen.FinalRefIdeal.Run
public import proofs.«01_k».proof.Proof.Gen.FinalSIdeal.Value
public import proofs.«01_k».proof.Proof.Gen.FinalSRefIdeal.Run
public import proofs.«01_k».proof.Defs
public import Idealize.ShloMosaic.Lib.Pipeline.ValueKit
public import Idealize.ShloMosaic.Lib.Pointwise

@[expose] public section

set_option maxRecDepth 16384

noncomputable section

namespace Cert.FinalRefIdeal.Val

open Idealize.ShloMosaic Idealize.ShloMosaic.TcCoe Idealize.SL.Sem
open Cert.FinalRefIdeal Cert.FinalRefIdeal.Gen

/-- The reference's result for the prompt as a term of its arguments. -/
abbrev REF (X0 : FVec Ideal S8192x4096 .f32) (X1 X2 : FVec Ideal S4096 .f32) : FVec Ideal S8192x4096 .f32 :=
  addf (mulf (mulf (subf X0 (broadcastInDim S8192x4096 ![0, 1] bcast_S8192x1_S8192x4096_0_1 (Host.divf (broadcastInDim S8192x1 ![0] bcast_S8192_S8192x1_0 (Host.reduceAdd X0 (constant S_ .f32 0x00000000#32) reducesTo_S8192x4096_S8192_d1 h_S_)) (broadcastInDim S8192x1 ![] bcast_S_S8192x1 (constant S_ .f32 0x45800000#32))))) (broadcastInDim S8192x4096 ![0, 1] bcast_S8192x1_S8192x4096_0_1 (Host.rsqrt (addf (Host.divf (broadcastInDim S8192x1 ![0] bcast_S8192_S8192x1_0 (Host.reduceAdd (mulf (subf X0 (broadcastInDim S8192x4096 ![0, 1] bcast_S8192x1_S8192x4096_0_1 (Host.divf (broadcastInDim S8192x1 ![0] bcast_S8192_S8192x1_0 (Host.reduceAdd X0 (constant S_ .f32 0x00000000#32) reducesTo_S8192x4096_S8192_d1 h_S_)) (broadcastInDim S8192x1 ![] bcast_S_S8192x1 (constant S_ .f32 0x45800000#32))))) (subf X0 (broadcastInDim S8192x4096 ![0, 1] bcast_S8192x1_S8192x4096_0_1 (Host.divf (broadcastInDim S8192x1 ![0] bcast_S8192_S8192x1_0 (Host.reduceAdd X0 (constant S_ .f32 0x00000000#32) reducesTo_S8192x4096_S8192_d1 h_S_)) (broadcastInDim S8192x1 ![] bcast_S_S8192x1 (constant S_ .f32 0x45800000#32)))))) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x3727C5AC#32)))))) (broadcastInDim S8192x4096 ![0, 1] bcast_S1x4096_S8192x4096_0_1 (broadcastInDim S1x4096 ![1] bcast_S4096_S1x4096_1 X1))) (broadcastInDim S8192x4096 ![0, 1] bcast_S1x4096_S8192x4096_0_1 (broadcastInDim S1x4096 ![1] bcast_S4096_S1x4096_1 X2))

end Cert.FinalRefIdeal.Val

namespace Cert.FinalIdeal.Val

open Idealize.ShloMosaic Idealize.ShloMosaic.TcCoe Idealize.SL.Sem
open Idealize.ShloMosaic.Pipeline (Dat)
open Cert.FinalIdeal Cert.FinalIdeal.Gen

/-- The mean of a row. -/
def mean (y : FVec Ideal S8192x4096 .f32) (r : Fin 8192) : EReal :=
  Ideal.div (∑ k : Fin 4096, (y (ix2 r k) : EReal)) (Ideal.ofBits .f32 0x45800000#32)

/-- The reciprocal standard deviation of a row. -/
def rstd (y : FVec Ideal S8192x4096 .f32) (r : Fin 8192) : EReal :=
  Ideal.rsqrt (Ideal.div (∑ k : Fin 4096, ((y (ix2 r k) : EReal) - mean y r) * (y (ix2 r k) - mean y r)) (Ideal.ofBits .f32 0x45800000#32)
    + Ideal.ofBits .f32 0x3727C5AC#32)

/-- The rows centred, divided by their standard deviation, scaled and shifted. -/
def NORM (y : FVec Ideal S8192x4096 .f32) (g b : FVec Ideal S1x4096 .f32) : FVec Ideal S8192x4096 .f32 := fun i =>
  (y i - mean y (i 0)) * rstd y (i 0) * g (ix2 0 (i 1)) + b (ix2 0 (i 1))

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

variable (m : (ℓ : Loc nD τ sig) → Buf (Elt Ideal) ℓ)

/-- The result is the normalized array of the arrays the launch reads. -/
theorem final_region (c : Dev nD) : (dats m 0 c).arrAt 3 cfg0.N = NORM (V m c main_arg0) (V m c main_v0) (V m c main_v1) := by
  refine (dats m 0 c).arrAt_eq_of_covers 3 _ (by decide +kernel) fun t _ y => ?_
  blk_simp
  rw [after0_3]; unfold out0_3; frame_out
  pointwise [k0_pay1, NORM, mean, rstd]
  blk_point [iblk, idx t]

theorem V_g (c : Dev nD) : (V m c main_v0 : FVec Ideal S1x4096 .f32) = shapeCast S1x4096 (m ((c : Thread nD τ).loc main_arg1) : FVec Ideal S4096 .f32) shapeCasts_S4096_S1x4096 := by
  show StableHlo.after hostOps0 (fun b => m (c, b)) (Proc.devRef .tc main_v0) = _
  after_results; try rfl
theorem V_b (c : Dev nD) : (V m c main_v1 : FVec Ideal S1x4096 .f32) = shapeCast S1x4096 (m ((c : Thread nD τ).loc main_arg2) : FVec Ideal S4096 .f32) shapeCasts_S4096_S1x4096 := by
  show StableHlo.after hostOps0 (fun b => m (c, b)) (Proc.devRef .tc main_v1) = _
  after_results; try rfl

/-- The result array as the normalization of the arguments. -/
theorem final (c : Dev nD) : (dats m 0 c).arrAt 3 cfg0.N = NORM (m ((c : Thread nD τ).loc main_arg0))
      (shapeCast S1x4096 (m ((c : Thread nD τ).loc main_arg1) : FVec Ideal S4096 .f32) shapeCasts_S4096_S1x4096)
      (shapeCast S1x4096 (m ((c : Thread nD τ).loc main_arg2) : FVec Ideal S4096 .f32) shapeCasts_S4096_S1x4096) := by
  rw [final_region, V_main_arg0, V_g, V_b]

end Cert.FinalIdeal.Val

namespace Cert.FinalSRefIdeal.Val

open Idealize.ShloMosaic Idealize.ShloMosaic.TcCoe Idealize.SL.Sem
open Cert.FinalSRefIdeal Cert.FinalSRefIdeal.Gen

/-- The reference's result for the samples as a term of its arguments. -/
abbrev REF (X0 : FVec Ideal S32x4096 .f32) (X1 X2 : FVec Ideal S4096 .f32) : FVec Ideal S32x4096 .f32 :=
  addf (mulf (mulf (subf X0 (broadcastInDim S32x4096 ![0, 1] bcast_S32x1_S32x4096_0_1 (Host.divf (broadcastInDim S32x1 ![0] bcast_S32_S32x1_0 (Host.reduceAdd X0 (constant S_ .f32 0x00000000#32) reducesTo_S32x4096_S32_d1 h_S_)) (broadcastInDim S32x1 ![] bcast_S_S32x1 (constant S_ .f32 0x45800000#32))))) (broadcastInDim S32x4096 ![0, 1] bcast_S32x1_S32x4096_0_1 (Host.rsqrt (addf (Host.divf (broadcastInDim S32x1 ![0] bcast_S32_S32x1_0 (Host.reduceAdd (mulf (subf X0 (broadcastInDim S32x4096 ![0, 1] bcast_S32x1_S32x4096_0_1 (Host.divf (broadcastInDim S32x1 ![0] bcast_S32_S32x1_0 (Host.reduceAdd X0 (constant S_ .f32 0x00000000#32) reducesTo_S32x4096_S32_d1 h_S_)) (broadcastInDim S32x1 ![] bcast_S_S32x1 (constant S_ .f32 0x45800000#32))))) (subf X0 (broadcastInDim S32x4096 ![0, 1] bcast_S32x1_S32x4096_0_1 (Host.divf (broadcastInDim S32x1 ![0] bcast_S32_S32x1_0 (Host.reduceAdd X0 (constant S_ .f32 0x00000000#32) reducesTo_S32x4096_S32_d1 h_S_)) (broadcastInDim S32x1 ![] bcast_S_S32x1 (constant S_ .f32 0x45800000#32)))))) (constant S_ .f32 0x00000000#32) reducesTo_S32x4096_S32_d1 h_S_)) (broadcastInDim S32x1 ![] bcast_S_S32x1 (constant S_ .f32 0x45800000#32))) (broadcastInDim S32x1 ![] bcast_S_S32x1 (constant S_ .f32 0x3727C5AC#32)))))) (broadcastInDim S32x4096 ![0, 1] bcast_S1x4096_S32x4096_0_1 (broadcastInDim S1x4096 ![1] bcast_S4096_S1x4096_1 X1))) (broadcastInDim S32x4096 ![0, 1] bcast_S1x4096_S32x4096_0_1 (broadcastInDim S1x4096 ![1] bcast_S4096_S1x4096_1 X2))

end Cert.FinalSRefIdeal.Val

namespace Cert.FinalSIdeal.Val

open Idealize.ShloMosaic Idealize.ShloMosaic.TcCoe Idealize.SL.Sem
open Idealize.ShloMosaic.Pipeline (Dat)
open Cert.FinalSIdeal Cert.FinalSIdeal.Gen

/-- The mean of a row. -/
def mean (y : FVec Ideal S32x4096 .f32) (r : Fin 32) : EReal :=
  Ideal.div (∑ k : Fin 4096, (y (ix2 r k) : EReal)) (Ideal.ofBits .f32 0x45800000#32)

/-- The reciprocal standard deviation of a row. -/
def rstd (y : FVec Ideal S32x4096 .f32) (r : Fin 32) : EReal :=
  Ideal.rsqrt (Ideal.div (∑ k : Fin 4096, ((y (ix2 r k) : EReal) - mean y r) * (y (ix2 r k) - mean y r)) (Ideal.ofBits .f32 0x45800000#32)
    + Ideal.ofBits .f32 0x3727C5AC#32)

/-- The rows centred, divided by their standard deviation, scaled and shifted. -/
def NORM (y : FVec Ideal S32x4096 .f32) (g b : FVec Ideal S1x4096 .f32) : FVec Ideal S32x4096 .f32 := fun i =>
  (y i - mean y (i 0)) * rstd y (i 0) * g (ix2 0 (i 1)) + b (ix2 0 (i 1))

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

variable (m : (ℓ : Loc nD τ sig) → Buf (Elt Ideal) ℓ)

/-- The result is the normalized array of the arrays the launch reads. -/
theorem final_region (c : Dev nD) : (dats m 0 c).arrAt 3 cfg0.N = NORM (V m c main_arg0) (V m c main_v0) (V m c main_v1) := by
  refine (dats m 0 c).arrAt_eq_of_covers 3 _ (by decide +kernel) fun t _ y => ?_
  blk_simp
  rw [after0_3]; unfold out0_3; frame_out
  pointwise [k0_pay1, NORM, mean, rstd]
  blk_point [iblk, idx t]

theorem V_g (c : Dev nD) : (V m c main_v0 : FVec Ideal S1x4096 .f32) = shapeCast S1x4096 (m ((c : Thread nD τ).loc main_arg1) : FVec Ideal S4096 .f32) shapeCasts_S4096_S1x4096 := by
  show StableHlo.after hostOps0 (fun b => m (c, b)) (Proc.devRef .tc main_v0) = _
  after_results; try rfl
theorem V_b (c : Dev nD) : (V m c main_v1 : FVec Ideal S1x4096 .f32) = shapeCast S1x4096 (m ((c : Thread nD τ).loc main_arg2) : FVec Ideal S4096 .f32) shapeCasts_S4096_S1x4096 := by
  show StableHlo.after hostOps0 (fun b => m (c, b)) (Proc.devRef .tc main_v1) = _
  after_results; try rfl

/-- The result array as the normalization of the arguments. -/
theorem final (c : Dev nD) : (dats m 0 c).arrAt 3 cfg0.N = NORM (m ((c : Thread nD τ).loc main_arg0))
      (shapeCast S1x4096 (m ((c : Thread nD τ).loc main_arg1) : FVec Ideal S4096 .f32) shapeCasts_S4096_S1x4096)
      (shapeCast S1x4096 (m ((c : Thread nD τ).loc main_arg2) : FVec Ideal S4096 .f32) shapeCasts_S4096_S1x4096) := by
  rw [final_region, V_main_arg0, V_g, V_b]

end Cert.FinalSIdeal.Val

namespace Cert.FinalEq

open Idealize.ShloMosaic Idealize.ShloMosaic.TcCoe Idealize.SL.Sem

/-- The reference's term for the prompt is the kernel's, element by element. -/
theorem ref_eq (X0 : FVec Ideal Cert.FinalRefIdeal.S8192x4096 .f32) (X1 X2 : FVec Ideal Cert.FinalRefIdeal.S4096 .f32) :
    Cert.FinalRefIdeal.Val.REF X0 X1 X2 = Cert.FinalIdeal.Val.NORM X0
        (shapeCast Cert.FinalIdeal.S1x4096 X1 Cert.FinalIdeal.Gen.shapeCasts_S4096_S1x4096)
        (shapeCast Cert.FinalIdeal.S1x4096 X2 Cert.FinalIdeal.Gen.shapeCasts_S4096_S1x4096) := by
  funext j
  idx_vars j
  pointwise [Cert.FinalRefIdeal.Val.REF]
  pointwise [Cert.FinalIdeal.Val.NORM, Cert.FinalIdeal.Val.mean, Cert.FinalIdeal.Val.rstd]

/-- The kernel's normalized prompt and the reference's are the same array at every input. -/
theorem algebraic : Cert.algebraic_FinalIdeal_FinalRefIdeal := by
  intro m ρ m' ρ' _ hag
  refine ⟨fun c => (Cert.FinalIdeal.Gen.dats m 0 c).arrAt 3 Cert.FinalIdeal.cfg0.N, Cert.FinalIdeal.Value.run_blocks m ρ,
    (θ_run _ _ _).mono (fun _ h c => ⟨(h c).1.trans ?_, (h c).2⟩) (Cert.FinalRefIdeal.Value.run m' ρ')⟩
  obtain ⟨h0, h1, h2⟩ := hag c
  refine Eq.trans ?_ (Cert.FinalIdeal.Val.final m c).symm
  rw [← h0, ← h1, ← h2]
  exact ref_eq _ _ _

/-- The reference's term for the samples is the kernel's, element by element. -/
theorem ref_eq_samples (X0 : FVec Ideal Cert.FinalSRefIdeal.S32x4096 .f32) (X1 X2 : FVec Ideal Cert.FinalSRefIdeal.S4096 .f32) :
    Cert.FinalSRefIdeal.Val.REF X0 X1 X2 = Cert.FinalSIdeal.Val.NORM X0
        (shapeCast Cert.FinalSIdeal.S1x4096 X1 Cert.FinalSIdeal.Gen.shapeCasts_S4096_S1x4096)
        (shapeCast Cert.FinalSIdeal.S1x4096 X2 Cert.FinalSIdeal.Gen.shapeCasts_S4096_S1x4096) := by
  funext j
  idx_vars j
  pointwise [Cert.FinalSRefIdeal.Val.REF]
  pointwise [Cert.FinalSIdeal.Val.NORM, Cert.FinalSIdeal.Val.mean, Cert.FinalSIdeal.Val.rstd]

/-- The kernel's normalized samples and the reference's are the same array at every input. -/
theorem algebraic_samples : Cert.algebraic_FinalSIdeal_FinalSRefIdeal := by
  intro m ρ m' ρ' _ hag
  refine ⟨fun c => (Cert.FinalSIdeal.Gen.dats m 0 c).arrAt 3 Cert.FinalSIdeal.cfg0.N, Cert.FinalSIdeal.Value.run_blocks m ρ,
    (θ_run _ _ _).mono (fun _ h c => ⟨(h c).1.trans ?_, (h c).2⟩) (Cert.FinalSRefIdeal.Value.run m' ρ')⟩
  obtain ⟨h0, h1, h2⟩ := hag c
  refine Eq.trans ?_ (Cert.FinalSIdeal.Val.final m c).symm
  rw [← h0, ← h1, ← h2]
  exact ref_eq_samples _ _ _

end Cert.FinalEq

end
-- ==== Proof.lean ====
module

public import proofs.«01_k».proof.Defs
public import proofs.«01_k».proof.Proof.Frames
public import proofs.«01_k».proof.Proof.SbEq
public import proofs.«01_k».proof.Proof.DownEq
public import proofs.«01_k».proof.Proof.GateEq
public import proofs.«01_k».proof.Proof.KeysEq
public import proofs.«01_k».proof.Proof.ValsEq
public import proofs.«01_k».proof.Proof.ConvEq
public import proofs.«01_k».proof.Proof.PoolEq
public import proofs.«01_k».proof.Proof.GlaEq
public import proofs.«01_k».proof.Proof.FinalEq
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.Down.Gen.facts, Cert.DownIdeal.Gen.facts, Cert.DownRefIdeal.Gen.facts,
  Cert.Gate.Gen.facts, Cert.GateIdeal.Gen.facts, Cert.GateRefIdeal.Gen.facts,
  Cert.Keys.Gen.facts, Cert.KeysIdeal.Gen.facts, Cert.KeysRefIdeal.Gen.facts, Cert.Vals.Gen.facts, Cert.ValsIdeal.Gen.facts, Cert.ValsRefIdeal.Gen.facts,
  Cert.Conv.Gen.facts, Cert.ConvIdeal.Gen.facts, Cert.ConvRefIdeal.Gen.facts, Cert.Final.Gen.facts, Cert.FinalIdeal.Gen.facts, Cert.FinalRefIdeal.Gen.facts, Cert.FinalS.Gen.facts, Cert.FinalSIdeal.Gen.facts, Cert.FinalSRefIdeal.Gen.facts, Cert.Pool.Gen.facts, Cert.PoolIdeal.Gen.facts, Cert.PoolRefIdeal.Gen.facts,
  Cert.Gla.Gen.facts, Cert.GlaIdeal.Gen.facts, Cert.GlaRefIdeal.Gen.facts, Cert.GlaEq.pre_facts,
  Cert.Frames.kernel, Cert.Frames.kernelIdeal, Cert.Frames.reference, Cert.Frames.down, Cert.Frames.downIdeal, Cert.Frames.downRef,
  Cert.Frames.gate, Cert.Frames.gateIdeal, Cert.Frames.gateRef,
  Cert.Frames.keys, Cert.Frames.keysIdeal, Cert.Frames.keysRef, Cert.Frames.vals, Cert.Frames.valsIdeal, Cert.Frames.valsRef,
  Cert.Frames.conv, Cert.Frames.convIdeal, Cert.Frames.convRef, Cert.Frames.final, Cert.Frames.finalIdeal, Cert.Frames.finalRef, Cert.Frames.finalS, Cert.Frames.finalSIdeal, Cert.Frames.finalSRef, Cert.Frames.pool, Cert.Frames.poolIdeal, Cert.Frames.poolRef,
  Cert.Frames.gla, Cert.Frames.glaIdeal, @Cert.Frames.glaIdeal_open Cert.GlaEq.pre_facts, Cert.Frames.glaRef, @Cert.Frames.glaRef_open Cert.GlaEq.pre_facts,
  Cert.Frames.preserves_kernel, Cert.SbTile.algebraic_kernel, trivial, Cert.DownEq.algebraic_down,
  trivial, Cert.GateEq.algebraic_gate, trivial, Cert.KeysEq.algebraic, trivial, Cert.ValsEq.algebraic,
  trivial, Cert.ConvEq.algebraic, trivial, Cert.FinalEq.algebraic, trivial, Cert.FinalEq.algebraic_samples,
  trivial, Cert.PoolEq.algebraic, trivial, Cert.GlaEq.algebraic⟩

end Cert.Proof

end
